-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_pooling_finite [hPre_pooling_finite : Cert.Pre_pooling_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_pooling_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_pooling_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_pooling_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_pooling_finite [hPre_pooling_finite : Cert.Pre_pooling_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_pooling_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_pooling_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_pooling_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_attention_finite [hPre_attention_finite : Cert.Pre_attention_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_attention_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_attention_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_attention_finite [hPre_attention_finite : Cert.Pre_attention_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_attention_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_attention_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_silu_finite [hPre_silu_finite : Cert.Pre_silu_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_silu_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_silu_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.1 = (fun _ => 1#1)
    ∧ (Cert.Pre_silu_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_silu_finite [hPre_silu_finite : Cert.Pre_silu_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_silu_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_silu_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.1 = (fun _ => 1#1)
    ∧ (Cert.Pre_silu_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_windows_finite [hPre_windows_finite : Cert.Pre_windows_finite.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_windows_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_windows_finite [hPre_windows_finite : Cert.Pre_windows_finite.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_windows_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Reference15 (m : (ℓ : Loc Cert.Reference15.nD Cert.Reference15.τ Cert.Reference15.sig) → Buf (Elt Bits) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_pooling_finite [hKernel2Ideal : Cert.Kernel2Ideal.Facts] [hPre_pooling_finite : Cert.Pre_pooling_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_pooling_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_pooling_finite [hReference2Ideal : Cert.Reference2Ideal.Facts] [hPre_pooling_finite : Cert.Pre_pooling_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_pooling_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_attention_finite [hKernel3Ideal : Cert.Kernel3Ideal.Facts] [hPre_attention_finite : Cert.Pre_attention_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_attention_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_attention_finite [hReference3Ideal : Cert.Reference3Ideal.Facts] [hPre_attention_finite : Cert.Pre_attention_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_attention_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_silu_finite [hKernel5Ideal : Cert.Kernel5Ideal.Facts] [hPre_silu_finite : Cert.Pre_silu_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_silu_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_silu_finite [hReference5Ideal : Cert.Reference5Ideal.Facts] [hPre_silu_finite : Cert.Pre_silu_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_silu_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Kernel10Ideal_pre_windows_finite [hKernel10Ideal : Cert.Kernel10Ideal.Facts] [hPre_windows_finite : Cert.Pre_windows_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_windows_finite m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Reference10Ideal_pre_windows_finite [hReference10Ideal : Cert.Reference10Ideal.Facts] [hPre_windows_finite : Cert.Pre_windows_finite.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_windows_finite m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Reference15 [hReference15 : Cert.Reference15.Facts] : Prop :=
  ∀ (m : (ℓ : Loc Cert.Reference15.nD Cert.Reference15.τ Cert.Reference15.sig) → Buf (Elt Bits) ℓ) (g : Dev Cert.Reference15.nD → PrngReg), Pre_Reference15 m →
    θ_run (Cert.Reference15.defs (F := Bits)) (onTc (τ := Cert.Reference15.τ) (Cert.Reference15.main (F := Bits))) ⟨m, fun _ => 0, g⟩ (fun r => (∀ c : Dev Cert.Reference15.nD,
      r.2.mem ((c.tc : Thread Cert.Reference15.nD Cert.Reference15.τ).loc Cert.Reference15.main_arg0) = m ((c.tc : Thread Cert.Reference15.nD Cert.Reference15.τ).loc Cert.Reference15.main_arg0)
      ∧ r.2.mem ((c.tc : Thread Cert.Reference15.nD Cert.Reference15.τ).loc Cert.Reference15.main_arg1) = m ((c.tc : Thread Cert.Reference15.nD Cert.Reference15.τ).loc Cert.Reference15.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_pooling_finite [hKernel2Ideal : Cert.Kernel2Ideal.Facts] [hReference2Ideal : Cert.Reference2Ideal.Facts] [hPre_pooling_finite : Cert.Pre_pooling_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_pooling_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v97_0)) (v1 : (c : Dev Cert.Kernel2Ideal.nD) → Buf (Elt Ideal) ((c.tc : Thread Cert.Kernel2Ideal.nD Cert.Kernel2Ideal.τ).loc Cert.Kernel2Ideal.main_v97_1)) (v2 : (c : Dev Cert.Kernel2Ideal.nD) → Buf (Elt Ideal) ((c.tc : Thread Cert.Kernel2Ideal.nD Cert.Kernel2Ideal.τ).loc Cert.Kernel2Ideal.main_v97_2)) (v3 : (c : Dev Cert.Kernel2Ideal.nD) → Buf (Elt Ideal) ((c.tc : Thread Cert.Kernel2Ideal.nD Cert.Kernel2Ideal.τ).loc Cert.Kernel2Ideal.main_v97_3)) (v4 : (c : Dev Cert.Kernel2Ideal.nD) → Buf (Elt Ideal) ((c.tc : Thread Cert.Kernel2Ideal.nD Cert.Kernel2Ideal.τ).loc Cert.Kernel2Ideal.main_v97_4)) (v5 : (c : Dev Cert.Kernel2Ideal.nD) → Buf (Elt Ideal) ((c.tc : Thread Cert.Kernel2Ideal.nD Cert.Kernel2Ideal.τ).loc Cert.Kernel2Ideal.main_v97_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v97_0) = v0 c
          ∧ r.2.mem ((c.tc : Thread Cert.Kernel2Ideal.nD Cert.Kernel2Ideal.τ).loc Cert.Kernel2Ideal.main_v97_1) = v1 c
          ∧ r.2.mem ((c.tc : Thread Cert.Kernel2Ideal.nD Cert.Kernel2Ideal.τ).loc Cert.Kernel2Ideal.main_v97_2) = v2 c
          ∧ r.2.mem ((c.tc : Thread Cert.Kernel2Ideal.nD Cert.Kernel2Ideal.τ).loc Cert.Kernel2Ideal.main_v97_3) = v3 c
          ∧ r.2.mem ((c.tc : Thread Cert.Kernel2Ideal.nD Cert.Kernel2Ideal.τ).loc Cert.Kernel2Ideal.main_v97_4) = v4 c
          ∧ r.2.mem ((c.tc : Thread Cert.Kernel2Ideal.nD Cert.Kernel2Ideal.τ).loc Cert.Kernel2Ideal.main_v97_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v232) = v0 c
          ∧ r.2.mem ((c.tc : Thread Cert.Reference2Ideal.nD Cert.Reference2Ideal.τ).loc Cert.Reference2Ideal.main_v233) = v1 c
          ∧ r.2.mem ((c.tc : Thread Cert.Reference2Ideal.nD Cert.Reference2Ideal.τ).loc Cert.Reference2Ideal.main_v227) = v2 c
          ∧ r.2.mem ((c.tc : Thread Cert.Reference2Ideal.nD Cert.Reference2Ideal.τ).loc Cert.Reference2Ideal.main_v157) = v3 c
          ∧ r.2.mem ((c.tc : Thread Cert.Reference2Ideal.nD Cert.Reference2Ideal.τ).loc Cert.Reference2Ideal.main_v234) = v4 c
          ∧ r.2.mem ((c.tc : Thread Cert.Reference2Ideal.nD Cert.Reference2Ideal.τ).loc Cert.Reference2Ideal.main_v237) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_attention_finite [hKernel3Ideal : Cert.Kernel3Ideal.Facts] [hReference3Ideal : Cert.Reference3Ideal.Facts] [hPre_attention_finite : Cert.Pre_attention_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_attention_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v67) = v0 c
          ∧ r.2.mem ((c.tc : Thread Cert.Reference3Ideal.nD Cert.Reference3Ideal.τ).loc Cert.Reference3Ideal.main_v65) = v1 c
          ∧ r.2.mem ((c.tc : Thread Cert.Reference3Ideal.nD Cert.Reference3Ideal.τ).loc Cert.Reference3Ideal.main_v64) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)) (v3 : (c : Dev Cert.Kernel4Ideal.nD) → Buf (Elt Ideal) ((c.tc : Thread Cert.Kernel4Ideal.nD Cert.Kernel4Ideal.τ).loc Cert.Kernel4Ideal.main_v3_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_v3_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v54) = v0 c
          ∧ r.2.mem ((c.tc : Thread Cert.Reference4Ideal.nD Cert.Reference4Ideal.τ).loc Cert.Reference4Ideal.main_v55) = v1 c
          ∧ r.2.mem ((c.tc : Thread Cert.Reference4Ideal.nD Cert.Reference4Ideal.τ).loc Cert.Reference4Ideal.main_v56) = v2 c
          ∧ r.2.mem ((c.tc : Thread Cert.Reference4Ideal.nD Cert.Reference4Ideal.τ).loc Cert.Reference4Ideal.main_v57) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_silu_finite [hKernel5Ideal : Cert.Kernel5Ideal.Facts] [hReference5Ideal : Cert.Reference5Ideal.Facts] [hPre_silu_finite : Cert.Pre_silu_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_silu_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_v12) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_v39) = v1 c
          ∧ r.2.mem ((c.tc : Thread Cert.Reference6Ideal.nD Cert.Reference6Ideal.τ).loc Cert.Reference6Ideal.main_v38) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v41) = v0 c
          ∧ r.2.mem ((c.tc : Thread Cert.Reference7Ideal.nD Cert.Reference7Ideal.τ).loc Cert.Reference7Ideal.main_v43) = v1 c
          ∧ r.2.mem ((c.tc : Thread Cert.Reference7Ideal.nD Cert.Reference7Ideal.τ).loc Cert.Reference7Ideal.main_v42) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v42) = v0 c
          ∧ r.2.mem ((c.tc : Thread Cert.Reference8Ideal.nD Cert.Reference8Ideal.τ).loc Cert.Reference8Ideal.main_v43) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal_pre_windows_finite [hKernel10Ideal : Cert.Kernel10Ideal.Facts] [hReference10Ideal : Cert.Reference10Ideal.Facts] [hPre_windows_finite : Cert.Pre_windows_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_windows_finite m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v18_0)) (v1 : (c : Dev Cert.Kernel10Ideal.nD) → Buf (Elt Ideal) ((c.tc : Thread Cert.Kernel10Ideal.nD Cert.Kernel10Ideal.τ).loc Cert.Kernel10Ideal.main_v18_1)) (v2 : (c : Dev Cert.Kernel10Ideal.nD) → Buf (Elt Ideal) ((c.tc : Thread Cert.Kernel10Ideal.nD Cert.Kernel10Ideal.τ).loc Cert.Kernel10Ideal.main_v18_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v18_0) = v0 c
          ∧ r.2.mem ((c.tc : Thread Cert.Kernel10Ideal.nD Cert.Kernel10Ideal.τ).loc Cert.Kernel10Ideal.main_v18_1) = v1 c
          ∧ r.2.mem ((c.tc : Thread Cert.Kernel10Ideal.nD Cert.Kernel10Ideal.τ).loc Cert.Kernel10Ideal.main_v18_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v185) = v0 c
          ∧ r.2.mem ((c.tc : Thread Cert.Reference10Ideal.nD Cert.Reference10Ideal.τ).loc Cert.Reference10Ideal.main_v186) = v1 c
          ∧ r.2.mem ((c.tc : Thread Cert.Reference10Ideal.nD Cert.Reference10Ideal.τ).loc Cert.Reference10Ideal.main_v187) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_v6) = v1 c
          ∧ r.2.mem ((c.tc : Thread Cert.Reference11Ideal.nD Cert.Reference11Ideal.τ).loc Cert.Reference11Ideal.main_v7) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_v19) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v15) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v6)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v6) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def bitexact_Kernel15_Reference15 [hKernel15 : Cert.Kernel15.Facts] [hReference15 : Cert.Reference15.Facts] : Prop :=
  ∀ (m : (ℓ : Loc Cert.Kernel15.nD Cert.Kernel15.τ Cert.Kernel15.sig) → Buf (Elt Bits) ℓ) (g : Dev Cert.Kernel15.nD → PrngReg)
    (m' : (ℓ : Loc Cert.Reference15.nD Cert.Reference15.τ Cert.Reference15.sig) → Buf (Elt Bits) ℓ) (g' : Dev Cert.Reference15.nD → PrngReg), Pre_Kernel15 m →
    (∀ c : Dev Cert.Kernel15.nD,
      m' ((c.tc : Thread Cert.Reference15.nD Cert.Reference15.τ).loc Cert.Reference15.main_arg0) = m ((c.tc : Thread Cert.Kernel15.nD Cert.Kernel15.τ).loc Cert.Kernel15.main_arg0)
      ∧ m' ((c.tc : Thread Cert.Reference15.nD Cert.Reference15.τ).loc Cert.Reference15.main_arg1) = m ((c.tc : Thread Cert.Kernel15.nD Cert.Kernel15.τ).loc Cert.Kernel15.main_arg1)) →
    ∃ (v0 : (c : Dev Cert.Kernel15.nD) → Buf (Elt Bits) ((c.tc : Thread Cert.Kernel15.nD Cert.Kernel15.τ).loc Cert.Kernel15.main_v1)),
      θ_run (Cert.Kernel15.defs (F := Bits)) (onTc (τ := Cert.Kernel15.τ) (Cert.Kernel15.main (F := Bits))) ⟨m, fun _ => 0, g⟩ (fun r => ∀ c : Dev Cert.Kernel15.nD,
          r.2.mem ((c.tc : Thread Cert.Kernel15.nD Cert.Kernel15.τ).loc Cert.Kernel15.main_v1) = v0 c
          ∧ r.2.mem ((c.tc : Thread Cert.Kernel15.nD Cert.Kernel15.τ).loc Cert.Kernel15.main_arg0) = m ((c.tc : Thread Cert.Kernel15.nD Cert.Kernel15.τ).loc Cert.Kernel15.main_arg0)
          ∧ r.2.mem ((c.tc : Thread Cert.Kernel15.nD Cert.Kernel15.τ).loc Cert.Kernel15.main_arg1) = m ((c.tc : Thread Cert.Kernel15.nD Cert.Kernel15.τ).loc Cert.Kernel15.main_arg1))
      ∧ θ_run (Cert.Reference15.defs (F := Bits)) (onTc (τ := Cert.Reference15.τ) (Cert.Reference15.main (F := Bits))) ⟨m', fun _ => 0, g'⟩ (fun r => ∀ c : Dev Cert.Reference15.nD,
          r.2.mem ((c.tc : Thread Cert.Reference15.nD Cert.Reference15.τ).loc Cert.Reference15.main_v5) = v0 c
          ∧ r.2.mem ((c.tc : Thread Cert.Reference15.nD Cert.Reference15.τ).loc Cert.Reference15.main_arg0) = m' ((c.tc : Thread Cert.Reference15.nD Cert.Reference15.τ).loc Cert.Reference15.main_arg0)
          ∧ r.2.mem ((c.tc : Thread Cert.Reference15.nD Cert.Reference15.τ).loc Cert.Reference15.main_arg1) = m' ((c.tc : Thread Cert.Reference15.nD Cert.Reference15.τ).loc Cert.Reference15.main_arg1))

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v15) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v4_0)) (v1 : (c : Dev Cert.Kernel20Ideal.nD) → Buf (Elt Ideal) ((c.tc : Thread Cert.Kernel20Ideal.nD Cert.Kernel20Ideal.τ).loc Cert.Kernel20Ideal.main_v4_1)) (v2 : (c : Dev Cert.Kernel20Ideal.nD) → Buf (Elt Ideal) ((c.tc : Thread Cert.Kernel20Ideal.nD Cert.Kernel20Ideal.τ).loc Cert.Kernel20Ideal.main_v4_2)) (v3 : (c : Dev Cert.Kernel20Ideal.nD) → Buf (Elt Ideal) ((c.tc : Thread Cert.Kernel20Ideal.nD Cert.Kernel20Ideal.τ).loc Cert.Kernel20Ideal.main_v4_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4_0) = v0 c
          ∧ r.2.mem ((c.tc : Thread Cert.Kernel20Ideal.nD Cert.Kernel20Ideal.τ).loc Cert.Kernel20Ideal.main_v4_1) = v1 c
          ∧ r.2.mem ((c.tc : Thread Cert.Kernel20Ideal.nD Cert.Kernel20Ideal.τ).loc Cert.Kernel20Ideal.main_v4_2) = v2 c
          ∧ r.2.mem ((c.tc : Thread Cert.Kernel20Ideal.nD Cert.Kernel20Ideal.τ).loc Cert.Kernel20Ideal.main_v4_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_v33) = v1 c
          ∧ r.2.mem ((c.tc : Thread Cert.Reference20Ideal.nD Cert.Reference20Ideal.τ).loc Cert.Reference20Ideal.main_v14) = v2 c
          ∧ r.2.mem ((c.tc : Thread Cert.Reference20Ideal.nD Cert.Reference20Ideal.τ).loc Cert.Reference20Ideal.main_v20) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hReference15 : Cert.Reference15.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_pooling_finite : Cert.Pre_pooling_finite.Facts) (hPre_attention_finite : Cert.Pre_attention_finite.Facts) (hPre_silu_finite : Cert.Pre_silu_finite.Facts) (hPre_windows_finite : Cert.Pre_windows_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_pooling_finite (hKernel2Ideal := hKernel2Ideal) (hPre_pooling_finite := hPre_pooling_finite)
    ∧ quiescent_Reference2Ideal (hReference2Ideal := hReference2Ideal)
    ∧ quiescent_Reference2Ideal_pre_pooling_finite (hReference2Ideal := hReference2Ideal) (hPre_pooling_finite := hPre_pooling_finite)
    ∧ quiescent_Kernel3 (hKernel3 := hKernel3)
    ∧ quiescent_Kernel3Ideal (hKernel3Ideal := hKernel3Ideal)
    ∧ quiescent_Kernel3Ideal_pre_attention_finite (hKernel3Ideal := hKernel3Ideal) (hPre_attention_finite := hPre_attention_finite)
    ∧ quiescent_Reference3Ideal (hReference3Ideal := hReference3Ideal)
    ∧ quiescent_Reference3Ideal_pre_attention_finite (hReference3Ideal := hReference3Ideal) (hPre_attention_finite := hPre_attention_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_silu_finite (hKernel5Ideal := hKernel5Ideal) (hPre_silu_finite := hPre_silu_finite)
    ∧ quiescent_Reference5Ideal (hReference5Ideal := hReference5Ideal)
    ∧ quiescent_Reference5Ideal_pre_silu_finite (hReference5Ideal := hReference5Ideal) (hPre_silu_finite := hPre_silu_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_windows_finite (hKernel10Ideal := hKernel10Ideal) (hPre_windows_finite := hPre_windows_finite)
    ∧ quiescent_Reference10Ideal (hReference10Ideal := hReference10Ideal)
    ∧ quiescent_Reference10Ideal_pre_windows_finite (hReference10Ideal := hReference10Ideal) (hPre_windows_finite := hPre_windows_finite)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Reference15 (hReference15 := hReference15)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_pooling_finite (hKernel2Ideal := hKernel2Ideal) (hReference2Ideal := hReference2Ideal) (hPre_pooling_finite := hPre_pooling_finite)
    ∧ preserves_Kernel3_Kernel3Ideal
    ∧ algebraic_Kernel3Ideal_Reference3Ideal_pre_attention_finite (hKernel3Ideal := hKernel3Ideal) (hReference3Ideal := hReference3Ideal) (hPre_attention_finite := hPre_attention_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_silu_finite (hKernel5Ideal := hKernel5Ideal) (hReference5Ideal := hReference5Ideal) (hPre_silu_finite := hPre_silu_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_windows_finite (hKernel10Ideal := hKernel10Ideal) (hReference10Ideal := hReference10Ideal) (hPre_windows_finite := hPre_windows_finite)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ bitexact_Kernel15_Reference15 (hKernel15 := hKernel15) (hReference15 := hReference15)
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_attention_finite.lean ====
abbrev S4096x2048 : Shape := ⟨2, ![4096, 2048]⟩
abbrev S256x2048 : Shape := ⟨2, ![256, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S256x2048 : S_.BroadcastsInDim S256x2048 (![] : Fin 0 → Fin S256x2048.rank)

variable [Facts]

def fn {F : FTy → Type} [FloatOps F] (main_arg0 : FVec F S4096x2048 .bf16) (main_arg1 : FVec F S256x2048 .bf16) (main_arg2 : FVec F S256x2048 .bf16) (main_arg3 : FVec F S4096x2048 .bf16) : IVec S4096x2048 1 × IVec S256x2048 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S256x2048 .f32 := (extf .f32 · bitsLt_bf16_f32) main_arg1
  let main_v5 : FVec F S256x2048 .f32 := Host.absf main_v4
  let main_cst_0 : FVec F S_ .f32 := constant S_ .f32 0x7F800000#32
  let main_v6 : FVec F S256x2048 .f32 := broadcastInDim S256x2048 ![] bcast_S_S256x2048 main_cst_0
  let main_v7 : IVec S256x2048 1 := cmpf .olt main_v5 main_v6
  (main_v3, main_v7)
-- ==== Pre_pooling_finite.lean ====
abbrev S4096x2048 : Shape := ⟨2, ![4096, 2048]⟩
abbrev S4096x3072 : Shape := ⟨2, ![4096, 3072]⟩
abbrev S1x4x256x256 : Shape := ⟨4, ![1, 4, 256, 256]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩

class Facts : Prop where
  bcast_S_S4096x2048 : S_.BroadcastsInDim S4096x2048 (![] : Fin 0 → Fin S4096x2048.rank)
  bcast_S_S1x4x256x256 : S_.BroadcastsInDim S1x4x256x256 (![] : Fin 0 → Fin S1x4x256x256.rank)
  bcast_S_S1x1024 : S_.BroadcastsInDim S1x1024 (![] : Fin 0 → Fin S1x1024.rank)

variable [Facts]

def fn {F : FTy → Type} [FloatOps F] (main_arg0 : FVec F S4096x2048 .f32) (main_arg1 : FVec F S4096x3072 .f32) (main_arg2 : FVec F S1x4x256x256 .f32) (main_arg3 : FVec F S1x1024 .f32) (main_arg4 : FVec F S1x1024 .f32) (main_arg5 : FVec F S1x8x128x128 .f32) (main_arg6 : FVec F S1x8x128 .f32) : IVec S4096x2048 1 × IVec S1x4x256x256 1 × IVec S1x1024 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S1x4x256x256 .f32 := Host.absf main_arg2
  let main_cst_0 : FVec F S_ .f32 := constant S_ .f32 0x7F800000#32
  let main_v4 : FVec F S1x4x256x256 .f32 := broadcastInDim S1x4x256x256 ![] bcast_S_S1x4x256x256 main_cst_0
  let main_v5 : IVec S1x4x256x256 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  (main_v2, main_v5, main_v8)
-- ==== Pre_silu_finite.lean ====
abbrev S4096x2048 : Shape := ⟨2, ![4096, 2048]⟩
abbrev S1x5632x2048 : Shape := ⟨3, ![1, 5632, 2048]⟩
abbrev S4096x5632 : Shape := ⟨2, ![4096, 5632]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S1x5632x2048 : S_.BroadcastsInDim S1x5632x2048 (![] : Fin 0 → Fin S1x5632x2048.rank)
  bcast_S_S4096x5632 : S_.BroadcastsInDim S4096x5632 (![] : Fin 0 → Fin S4096x5632.rank)

variable [Facts]

def fn {F : FTy → Type} [FloatOps F] (main_arg0 : FVec F S4096x2048 .bf16) (main_arg1 : FVec F S1x5632x2048 .f32) (main_arg2 : FVec F S4096x5632 .bf16) (main_arg3 : FVec F S4096x5632 .bf16) : IVec S4096x2048 1 × IVec S1x5632x2048 1 × IVec S4096x5632 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S1x5632x2048 .f32 := Host.absf main_arg1
  let main_cst_0 : FVec F S_ .f32 := constant S_ .f32 0x7F800000#32
  let main_v5 : FVec F S1x5632x2048 .f32 := broadcastInDim S1x5632x2048 ![] bcast_S_S1x5632x2048 main_cst_0
  let main_v6 : IVec S1x5632x2048 1 := cmpf .olt main_v4 main_v5
  let main_v7 : FVec F S4096x5632 .f32 := (extf .f32 · bitsLt_bf16_f32) main_arg3
  let main_v8 : FVec F S4096x5632 .f32 := Host.absf main_v7
  let main_cst_1 : FVec F S_ .f32 := constant S_ .f32 0x7F800000#32
  let main_v9 : FVec F S4096x5632 .f32 := broadcastInDim S4096x5632 ![] bcast_S_S4096x5632 main_cst_1
  let main_v10 : IVec S4096x5632 1 := cmpf .olt main_v8 main_v9
  (main_v3, main_v6, main_v10)
-- ==== Pre_windows_finite.lean ====
abbrev S4096x3072 : Shape := ⟨2, ![4096, 3072]⟩
abbrev S1x4x256x256 : Shape := ⟨4, ![1, 4, 256, 256]⟩
abbrev S1x1024 : Shape := ⟨2, ![1, 1024]⟩
abbrev S1x8x128x128 : Shape := ⟨4, ![1, 8, 128, 128]⟩
abbrev S1x8x128 : Shape := ⟨3, ![1, 8, 128]⟩
abbrev S4096x1024 : Shape := ⟨2, ![4096, 1024]⟩
abbrev S_ : Shape := ⟨0, ![]⟩

class Facts : Prop where
  slices_S4096x3072_S4096x1024_0_0 : S4096x3072.Slices ![0, 0] S4096x1024
  bcast_S_S4096x1024 : S_.BroadcastsInDim S4096x1024 (![] : Fin 0 → Fin S4096x1024.rank)

variable [Facts]

def fn {F : FTy → Type} [FloatOps F] (main_arg0 : FVec F S4096x3072 .f32) (main_arg1 : FVec F S1x4x256x256 .f32) (main_arg2 : FVec F S1x1024 .f32) (main_arg3 : FVec F S1x1024 .f32) (main_arg4 : FVec F S1x8x128x128 .f32) (main_arg5 : FVec F S1x8x128 .f32) : IVec S4096x1024 1 :=
  let main_v0 : FVec F S4096x1024 .f32 := (extractStridedSlice S4096x1024 ![0, 0] · slices_S4096x3072_S4096x1024_0_0) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  main_v3
-- ==== Kernel.lean ====
abbrev S256x2048 : Shape := ⟨2, ![256, 2048]⟩
abbrev S1x256x2048 : Shape := ⟨3, ![1, 256, 2048]⟩
abbrev S1x2048 : Shape := ⟨2, ![1, 2048]⟩
abbrev S8x2048 : Shape := ⟨2, ![8, 2048]⟩
abbrev S256 : Shape := ⟨1, ![256]⟩
abbrev S256x1 : Shape := ⟨2, ![256, 1]⟩
abbrev S32x8x2048 : Shape := ⟨3, ![32, 8, 2048]⟩
abbrev S2048 : Shape := ⟨1, ![2048]⟩

abbrev nBuf : Space → Nat
  | .hbm => 5
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S1x256x2048, .f32⟩
  | .hbm, ⟨2, _⟩ => ⟨S1x2048, .f32⟩
  | .hbm, ⟨3, _⟩ => ⟨S256x2048, .f32⟩
  | .hbm, ⟨4, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S8x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def k0_cond3 (i : grid0.Coords) : BitVec 1 :=
  let arg0 : BitVec 32 := BitVec.ofNat 32 (i 0).val
  let c0_i32_9 : BitVec 32 := 0#32
  let v22 : BitVec 1 := Scalar.cmpi .eq arg0 c0_i32_9
  let v23 : BitVec 32 := Scalar.extui v22
  let c0_i32_10 : BitVec 32 := 0#32
  let v24 : BitVec 1 := Scalar.cmpi .ne v23 c0_i32_10
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S256x2048 : Shape := ⟨2, ![256, 2048]⟩
abbrev S1x256x2048 : Shape := ⟨3, ![1, 256, 2048]⟩
abbrev S1x2048 : Shape := ⟨2, ![1, 2048]⟩
abbrev S2048 : Shape := ⟨1, ![2048]⟩
abbrev S_ : Shape := ⟨0, ![]⟩
abbrev S256 : Shape := ⟨1, ![256]⟩
abbrev S256x1 : Shape := ⟨2, ![256, 1]⟩

abbrev nBuf : Space → Nat
  | .hbm => 28
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x256x2048, .f32⟩
  | .hbm, ⟨2, _⟩ => ⟨S1x2048, .f32⟩
  | .hbm, ⟨3, _⟩ => ⟨S256x2048, .f32⟩
  | .hbm, ⟨4, _⟩ => ⟨S2048, .f32⟩
  | .hbm, ⟨5, _⟩ => ⟨S256x2048, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x2048, .f32⟩
  | .hbm, ⟨17, _⟩ => ⟨S256x2048, .f32⟩
  | .hbm, ⟨18, _⟩ => ⟨S1x2048, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S2048, .f32⟩
  | .hbm, ⟨24, _⟩ => ⟨S1x2048, .f32⟩
  | .hbm, ⟨25, _⟩ => ⟨S_, .f32⟩
  | .hbm, ⟨26, _⟩ => ⟨S2048, .f32⟩
  | .hbm, ⟨27, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel2.lean ====
abbrev S4096x2048 : Shape := ⟨2, ![4096, 2048]⟩
abbrev S4096x3072 : Shape := ⟨2, ![4096, 3072]⟩
abbrev S1x4x256x256 : Shape := ⟨4, ![1, 4, 256, 256]⟩
abbrev S1x1024 : Shape := ⟨2, ![1, 1024]⟩
abbrev S1x8x128x128 : Shape := ⟨4, ![1, 8, 128, 128]⟩
abbrev S1x8x128 : Shape := ⟨3, ![1, 8, 128]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S1x128x128 : Shape := ⟨3, ![1, 128, 128]⟩
abbrev S8x128x128 : Shape := ⟨3, ![8, 128, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S4096x1024 : Shape := ⟨2, ![4096, 1024]⟩
abbrev S1x4096x1024 : Shape := ⟨3, ![1, 4096, 1024]⟩
abbrev S4096 : Shape := ⟨1, ![4096]⟩
abbrev S1x4096x1 : Shape := ⟨3, ![1, 4096, 1]⟩
abbrev S1x4096x256 : Shape := ⟨3, ![1, 4096, 256]⟩
abbrev S1x2x256 : Shape := ⟨3, ![1, 2, 256]⟩
abbrev S1x4094x256 : Shape := ⟨3, ![1, 4094, 256]⟩
abbrev S1x4x256 : Shape := ⟨3, ![1, 4, 256]⟩
abbrev S1x4092x256 : Shape := ⟨3, ![1, 4092, 256]⟩
abbrev S1x8x256 : Shape := ⟨3, ![1, 8, 256]⟩
abbrev S1x4088x256 : Shape := ⟨3, ![1, 4088, 256]⟩
abbrev S1x16x256 : Shape := ⟨3, ![1, 16, 256]⟩
abbrev S1x4080x256 : Shape := ⟨3, ![1, 4080, 256]⟩
abbrev S1x4096x1x256 : Shape := ⟨4, ![1, 4096, 1, 256]⟩
abbrev S1x4096x4x256 : Shape := ⟨4, ![1, 4096, 4, 256]⟩
abbrev S4096x4x256 : Shape := ⟨3, ![4096, 4, 256]⟩
abbrev S1024 : Shape := ⟨1, ![1024]⟩
abbrev S4096x1 : Shape := ⟨2, ![4096, 1]⟩
abbrev S4x256x256 : Shape := ⟨3, ![4, 256, 256]⟩
abbrev S512x2048 : Shape := ⟨2, ![512, 2048]⟩
abbrev S16x1024 : Shape := ⟨2, ![16, 1024]⟩
abbrev S512x1024 : Shape := ⟨2, ![512, 1024]⟩
abbrev S512x3072 : Shape := ⟨2, ![512, 3072]⟩
abbrev S528x1024 : Shape := ⟨2, ![528, 1024]⟩
abbrev S8x1024 : Shape := ⟨2, ![8, 1024]⟩
abbrev S512x1 : Shape := ⟨2, ![512, 1]⟩
abbrev S16x1 : Shape := ⟨2, ![16, 1]⟩
abbrev S512x256 : Shape := ⟨2, ![512, 256]⟩
abbrev S1x256x256 : Shape := ⟨3, ![1, 256, 256]⟩
abbrev S256x256 : Shape := ⟨2, ![256, 256]⟩
abbrev S8x256 : Shape := ⟨2, ![8, 256]⟩
abbrev S64x8x256 : Shape := ⟨3, ![64, 8, 256]⟩
abbrev S1x256 : Shape := ⟨2, ![1, 256]⟩
abbrev S16x256 : Shape := ⟨2, ![16, 256]⟩
abbrev S512 : Shape := ⟨1, ![512]⟩
abbrev S64x8x1024 : Shape := ⟨3, ![64, 8, 1024]⟩

abbrev nBuf : Space → Nat
  | .hbm => 162
  | .vmem => 29
  | .smem => 0
  | _ => 0

abbrev hbmTy0_0 (i : Nat) : BufTy := match i % 128 with
  | 0 => ⟨S4096x2048, .f32⟩
  | 1 => ⟨S4096x3072, .f32⟩
  | 2 => ⟨S1x4x256x256, .f32⟩
  | 3 => ⟨S1x1024, .f32⟩
  | 4 => ⟨S1x1024, .f32⟩
  | 5 => ⟨S1x8x128x128, .f32⟩
  | 6 => ⟨S1x8x128, .f32⟩
  | 7 => ⟨S128, .i32⟩
  | 8 => ⟨S1x128, .i32⟩
  | 9 => ⟨S_, .i32⟩
  | 10 => ⟨S_, .i32⟩
  | 11 => ⟨S1x128, .i32⟩
  | 12 => ⟨S1x128, .i32⟩
  | 13 => ⟨S1x128, .i32⟩
  | 14 => ⟨S_, .i32⟩
  | 15 => ⟨S1x128, .i32⟩
  | 16 => ⟨S1x128, .i1⟩
  | 17 => ⟨S1x128, .i32⟩
  | 18 => ⟨S1x128, .i32⟩
  | 19 => ⟨S_, .i32⟩
  | 20 => ⟨S1x128, .i32⟩
  | 21 => ⟨S1x128, .i1⟩
  | 22 => ⟨S1x128, .i1⟩
  | 23 => ⟨S_, .i32⟩
  | 24 => ⟨S1x128, .i32⟩
  | 25 => ⟨S1x128, .i32⟩
  | 26 => ⟨S1x128, .i32⟩
  | 27 => ⟨S128x1, .i32⟩
  | 28 => ⟨S_, .i32⟩
  | 29 => ⟨S_, .i32⟩
  | 30 => ⟨S128x1, .i32⟩
  | 31 => ⟨S128x1, .i32⟩
  | 32 => ⟨S128x1, .i32⟩
  | 33 => ⟨S_, .i32⟩
  | 34 => ⟨S128x1, .i32⟩
  | 35 => ⟨S128x1, .i1⟩
  | 36 => ⟨S128x1, .i32⟩
  | 37 => ⟨S128x1, .i32⟩
  | 38 => ⟨S_, .i32⟩
  | 39 => ⟨S128x1, .i32⟩
  | 40 => ⟨S128x1, .i1⟩
  | 41 => ⟨S128x1, .i1⟩
  | 42 => ⟨S_, .i32⟩
  | 43 => ⟨S128x1, .i32⟩
  | 44 => ⟨S128x1, .i32⟩
  | 45 => ⟨S128x1, .i32⟩
  | 46 => ⟨S128x128, .i32⟩
  | 47 => ⟨S128x128, .i32⟩
  | 48 => ⟨S128x128, .i1⟩
  | 49 => ⟨S1x128x128, .i1⟩
  | 50 => ⟨S8x128x128, .f32⟩
  | 51 => ⟨S_, .f32⟩
  | 52 => ⟨S_, .f32⟩
  | 53 => ⟨S8x128x128, .i1⟩
  | 54 => ⟨S8x128x128, .f32⟩
  | 55 => ⟨S8x128x128, .f32⟩
  | 56 => ⟨S8x128x128, .bf16⟩
  | 57 => ⟨S8x128, .f32⟩
  | 58 => ⟨S128x8, .f32⟩
  | 59 => ⟨S128x8x128, .f32⟩
  | 60 => ⟨S128x1024, .f32⟩
  | 61 => ⟨S4096x1024, .f32⟩
  | 62 => ⟨S1x4096x1024, .f32⟩
  | 63 => ⟨S_, .f32⟩
  | 64 => ⟨S_, .f32⟩
  | 65 => ⟨S1x4096x1024, .f32⟩
  | 66 => ⟨S4096, .f32⟩
  | 67 => ⟨S_, .f32⟩
  | 68 => ⟨S4096, .f32⟩
  | 69 => ⟨S4096, .f32⟩
  | 70 => ⟨S1x4096x1, .f32⟩
  | 71 => ⟨S1x4096x256, .f32⟩
  | 72 => ⟨S1x2x256, .f32⟩
  | 73 => ⟨S_, .f32⟩
  | 74 => ⟨S1x2x256, .f32⟩
  | 75 => ⟨S1x4094x256, .f32⟩
  | 76 => ⟨S1x4096x256, .f32⟩
  | 77 => ⟨S1x4096x256, .f32⟩
  | 78 => ⟨S_, .f32⟩
  | 79 => ⟨S1x4096x1, .f32⟩
  | 80 => ⟨S1x4096x1, .f32⟩
  | 81 => ⟨S1x4096x256, .f32⟩
  | 82 => ⟨S1x4096x256, .f32⟩
  | 83 => ⟨S1x4096x256, .f32⟩
  | 84 => ⟨S1x4096x256, .f32⟩
  | 85 => ⟨S1x4096x256, .f32⟩
  | 86 => ⟨S1x4x256, .f32⟩
  | 87 => ⟨S_, .f32⟩
  | 88 => ⟨S1x4x256, .f32⟩
  | 89 => ⟨S1x4092x256, .f32⟩
  | 90 => ⟨S1x4096x256, .f32⟩
  | 91 => ⟨S1x4096x256, .f32⟩
  | 92 => ⟨S_, .f32⟩
  | 93 => ⟨S1x4096x1, .f32⟩
  | 94 => ⟨S1x4096x1, .f32⟩
  | 95 => ⟨S1x4096x256, .f32⟩
  | 96 => ⟨S1x4096x256, .f32⟩
  | 97 => ⟨S1x4096x256, .f32⟩
  | 98 => ⟨S1x4096x256, .f32⟩
  | 99 => ⟨S1x4096x256, .f32⟩
  | 100 => ⟨S1x8x256, .f32⟩
  | 101 => ⟨S_, .f32⟩
  | 102 => ⟨S1x8x256, .f32⟩
  | 103 => ⟨S1x4088x256, .f32⟩
  | 104 => ⟨S1x4096x256, .f32⟩
  | 105 => ⟨S1x4096x256, .f32⟩
  | 106 => ⟨S_, .f32⟩
  | 107 => ⟨S1x4096x1, .f32⟩
  | 108 => ⟨S1x4096x1, .f32⟩
  | 109 => ⟨S1x4096x256, .f32⟩
  | 110 => ⟨S1x4096x256, .f32⟩
  | 111 => ⟨S1x4096x256, .f32⟩
  | 112 => ⟨S1x4096x256, .f32⟩
  | 113 => ⟨S1x4096x256, .f32⟩
  | 114 => ⟨S1x16x256, .f32⟩
  | 115 => ⟨S_, .f32⟩
  | 116 => ⟨S1x16x256, .f32⟩
  | 117 => ⟨S1x4080x256, .f32⟩
  | 118 => ⟨S1x4096x256, .f32⟩
  | 119 => ⟨S1x4096x256, .f32⟩
  | 120 => ⟨S_, .f32⟩
  | 121 => ⟨S1x4096x1, .f32⟩
  | 122 => ⟨S1x4096x1, .f32⟩
  | 123 => ⟨S1x4096x256, .f32⟩
  | 124 => ⟨S1x4096x256, .f32⟩
  | 125 => ⟨S1x4096x256, .f32⟩
  | 126 => ⟨S1x4096x256, .f32⟩
  | 127 => ⟨S1x4096x1x256, .f32⟩
  | _ => ⟨S4096x2048, .f32⟩

abbrev hbmTy0_1 (i : Nat) : BufTy := match i % 128 with
  | 0 => ⟨S1x4096x1x256, .f32⟩
  | 1 => ⟨S1x4096x1x256, .f32⟩
  | 2 => ⟨S1x4096x1x256, .f32⟩
  | 3 => ⟨S1x4096x4x256, .f32⟩
  | 4 => ⟨S4096x4x256, .f32⟩
  | 5 => ⟨S4096x1024, .f32⟩
  | 6 => ⟨S4096x1024, .bf16⟩
  | 7 => ⟨S4096x1024, .f32⟩
  | 8 => ⟨S1024, .f32⟩
  | 9 => ⟨S4096x1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1, .f32⟩
  | 20 => ⟨S4096x1024, .f32⟩
  | 21 => ⟨S4096x1024, .f32⟩
  | 22 => ⟨S1x1024, .f32⟩
  | 23 => ⟨S4096x1024, .f32⟩
  | 24 => ⟨S4096x1024, .f32⟩
  | 25 => ⟨S4096x1024, .bf16⟩
  | 26 => ⟨S4x256x256, .f32⟩
  | 27 => ⟨S4x256x256, .bf16⟩
  | 28 => ⟨S4096x3072, .bf16⟩
  | 29 => ⟨S4x256x256, .f32⟩
  | 30 => ⟨S1x1024, .f32⟩
  | 31 => ⟨S1x1024, .f32⟩
  | 32 => ⟨S8x128x128, .f32⟩
  | 33 => ⟨S8x128x128, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | .local _ .vmem, ⟨0, _⟩ => ⟨S512x2048, .f32⟩
  | .local _ .vmem, ⟨1, _⟩ => ⟨S512x2048, .f32⟩
  | .local _ .vmem, ⟨2, _⟩ => ⟨S16x1024, .f32⟩
  | .local _ .vmem, ⟨3, _⟩ => ⟨S16x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S4x256x256, .bf16⟩
  | .local _ .vmem, ⟨13, _⟩ => ⟨S1x1024, .f32⟩
  | .local _ .vmem, ⟨14, _⟩ => ⟨S1x1024, .f32⟩
  | .local _ .vmem, ⟨15, _⟩ => ⟨S8x128x128, .bf16⟩
  | .local _ .vmem, ⟨16, _⟩ => ⟨S128x1024, .f32⟩
  | .local _ .vmem, ⟨17, _⟩ => ⟨S512x3072, .bf16⟩
  | .local _ .vmem, ⟨18, _⟩ => ⟨S512x3072, .bf16⟩
  | .local _ .vmem, ⟨19, _⟩ => ⟨S4x256x256, .f32⟩
  | .local _ .vmem, ⟨20, _⟩ => ⟨S1x1024, .f32⟩
  | .local _ .vmem, ⟨21, _⟩ => ⟨S1x1024, .f32⟩
  | .local _ .vmem, ⟨22, _⟩ => ⟨S8x128x128, .f32⟩
  | .local _ .vmem, ⟨23, _⟩ => ⟨S8x128x128, .f32⟩
  | .local _ .vmem, ⟨24, _⟩ => ⟨S528x1024, .f32⟩
  | .local _ .vmem, ⟨25, _⟩ => ⟨S512x1024, .f32⟩
  | .local _ .vmem, ⟨26, _⟩ => ⟨S8x1024, .f32⟩
  | .local _ .vmem, ⟨27, _⟩ => ⟨S8x1024, .f32⟩
  | .local _ .vmem, ⟨28, _⟩ => ⟨S128x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_v3 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_cst : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_call3_call0_cst : Ref sig .tc := ⟨.hbm, 63, rfl⟩
abbrev main_call3_call0_v0 : Ref sig .tc := ⟨.hbm, 64, rfl⟩
abbrev main_v18 : Ref sig .tc := ⟨.hbm, 65, rfl⟩
abbrev main_v19 : Ref sig .tc := ⟨.hbm, 66, rfl⟩
abbrev main_cst_1 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_cst_2 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_cst_3 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_cst_4 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_cst_5 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_cst_6 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_cst_7 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_cst_8 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_cst_9 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_cst_10 : Ref sig .tc := ⟨.hbm, 138, rfl⟩
abbrev main_v82 : Ref sig .tc := ⟨.hbm, 139, rfl⟩
abbrev main_v83 : Ref sig .tc := ⟨.hbm, 140, rfl⟩
abbrev main_cst_11 : Ref sig .tc := ⟨.hbm, 141, rfl⟩
abbrev main_v84 : Ref sig .tc := ⟨.hbm, 142, rfl⟩
abbrev main_v85 : Ref sig .tc := ⟨.hbm, 143, rfl⟩
abbrev main_cst_12 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97_0 : Ref sig .tc := ⟨.hbm, 156, rfl⟩
abbrev main_v97_1 : Ref sig .tc := ⟨.hbm, 157, rfl⟩
abbrev main_v97_2 : Ref sig .tc := ⟨.hbm, 158, rfl⟩
abbrev main_v97_3 : Ref sig .tc := ⟨.hbm, 159, rfl⟩
abbrev main_v97_4 : Ref sig .tc := ⟨.hbm, 160, rfl⟩
abbrev main_v97_5 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_1096 : BitVec 32 := 7#32
  let v1309 : BitVec 1 := Scalar.cmpi .eq arg0 c7_i32_1096
  let v1310 : BitVec 32 := Scalar.extui v1309
  let c0_i32_1097 : BitVec 32 := 0#32
  let v1311 : BitVec 1 := Scalar.cmpi .ne v1310 c0_i32_1097
  v1311

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S4x256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference2Ideal.lean ====
abbrev S4096x2048 : Shape := ⟨2, ![4096, 2048]⟩
abbrev S4096x3072 : Shape := ⟨2, ![4096, 3072]⟩
abbrev S1x4x256x256 : Shape := ⟨4, ![1, 4, 256, 256]⟩
abbrev S1x1024 : Shape := ⟨2, ![1, 1024]⟩
abbrev S1x8x128x128 : Shape := ⟨4, ![1, 8, 128, 128]⟩
abbrev S1x8x128 : Shape := ⟨3, ![1, 8, 128]⟩
abbrev S1x4096x3072 : Shape := ⟨3, ![1, 4096, 3072]⟩
abbrev S1x4096x1024 : Shape := ⟨3, ![1, 4096, 1024]⟩
abbrev S4x256x256 : Shape := ⟨3, ![4, 256, 256]⟩
abbrev S1024 : Shape := ⟨1, ![1024]⟩
abbrev S_ : Shape := ⟨0, ![]⟩
abbrev S4096 : Shape := ⟨1, ![4096]⟩
abbrev S1x4096x1 : Shape := ⟨3, ![1, 4096, 1]⟩
abbrev S1x4096x256 : Shape := ⟨3, ![1, 4096, 256]⟩
abbrev S1x2x256 : Shape := ⟨3, ![1, 2, 256]⟩
abbrev S1x4094x256 : Shape := ⟨3, ![1, 4094, 256]⟩
abbrev S1x4x256 : Shape := ⟨3, ![1, 4, 256]⟩
abbrev S1x4092x256 : Shape := ⟨3, ![1, 4092, 256]⟩
abbrev S1x8x256 : Shape := ⟨3, ![1, 8, 256]⟩
abbrev S1x4088x256 : Shape := ⟨3, ![1, 4088, 256]⟩
abbrev S1x16x256 : Shape := ⟨3, ![1, 16, 256]⟩
abbrev S1x4080x256 : Shape := ⟨3, ![1, 4080, 256]⟩
abbrev S1x4096x1x256 : Shape := ⟨4, ![1, 4096, 1, 256]⟩
abbrev S1x4096x4x256 : Shape := ⟨4, ![1, 4096, 4, 256]⟩
abbrev S4x256x1x4096 : Shape := ⟨4, ![4, 256, 1, 4096]⟩
abbrev S1x1x1024 : Shape := ⟨3, ![1, 1, 1024]⟩
abbrev S1x4096x2048 : Shape := ⟨3, ![1, 4096, 2048]⟩
abbrev S8x128x128 : Shape := ⟨3, ![8, 128, 128]⟩
abbrev S8x128 : Shape := ⟨2, ![8, 128]⟩
abbrev S1x4096 : Shape := ⟨2, ![1, 4096]⟩
abbrev S1x32x128x8x128 : Shape := ⟨5, ![1, 32, 128, 8, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S4x1x4096x256 : Shape := ⟨4, ![4, 1, 4096, 256]⟩
abbrev S8x128x1 : Shape := ⟨3, ![8, 128, 1]⟩

abbrev nBuf : Space → Nat
  | .hbm => 334
  | .vmem => 0
  | .smem => 0
  | _ => 0

abbrev hbmTy0_0 (i : Nat) : BufTy := match i % 128 with
  | 0 => ⟨S4096x2048, .f32⟩
  | 1 => ⟨S4096x3072, .f32⟩
  | 2 => ⟨S1x4x256x256, .f32⟩
  | 3 => ⟨S1x1024, .f32⟩
  | 4 => ⟨S1x1024, .f32⟩
  | 5 => ⟨S1x8x128x128, .f32⟩
  | 6 => ⟨S1x8x128, .f32⟩
  | 7 => ⟨S1x4096x3072, .f32⟩
  | 8 => ⟨S1x4096x1024, .f32⟩
  | 9 => ⟨S4x256x256, .f32⟩
  | 10 => ⟨S1024, .f32⟩
  | 11 => ⟨S_, .f32⟩
  | 12 => ⟨S_, .f32⟩
  | 13 => ⟨S1x4096x1024, .f32⟩
  | 14 => ⟨S4096, .f32⟩
  | 15 => ⟨S_, .f32⟩
  | 16 => ⟨S4096, .f32⟩
  | 17 => ⟨S4096, .f32⟩
  | 18 => ⟨S1x4096x1, .f32⟩
  | 19 => ⟨S1x4096x256, .f32⟩
  | 20 => ⟨S1x2x256, .f32⟩
  | 21 => ⟨S_, .f32⟩
  | 22 => ⟨S1x2x256, .f32⟩
  | 23 => ⟨S1x4094x256, .f32⟩
  | 24 => ⟨S1x4096x256, .f32⟩
  | 25 => ⟨S_, .f32⟩
  | 26 => ⟨S1x2x256, .f32⟩
  | 27 => ⟨S1x4096x256, .f32⟩
  | 28 => ⟨S_, .f32⟩
  | 29 => ⟨S1x4096x1, .f32⟩
  | 30 => ⟨S1x4096x1, .f32⟩
  | 31 => ⟨S1x4096x256, .f32⟩
  | 32 => ⟨S1x4096x256, .f32⟩
  | 33 => ⟨S1x4096x256, .f32⟩
  | 34 => ⟨S1x4096x256, .f32⟩
  | 35 => ⟨S1x4096x256, .f32⟩
  | 36 => ⟨S1x4x256, .f32⟩
  | 37 => ⟨S_, .f32⟩
  | 38 => ⟨S1x4x256, .f32⟩
  | 39 => ⟨S1x4092x256, .f32⟩
  | 40 => ⟨S1x4096x256, .f32⟩
  | 41 => ⟨S_, .f32⟩
  | 42 => ⟨S1x4x256, .f32⟩
  | 43 => ⟨S1x4096x256, .f32⟩
  | 44 => ⟨S_, .f32⟩
  | 45 => ⟨S1x4096x1, .f32⟩
  | 46 => ⟨S1x4096x1, .f32⟩
  | 47 => ⟨S1x4096x256, .f32⟩
  | 48 => ⟨S1x4096x256, .f32⟩
  | 49 => ⟨S1x4096x256, .f32⟩
  | 50 => ⟨S1x4096x256, .f32⟩
  | 51 => ⟨S1x4096x256, .f32⟩
  | 52 => ⟨S1x8x256, .f32⟩
  | 53 => ⟨S_, .f32⟩
  | 54 => ⟨S1x8x256, .f32⟩
  | 55 => ⟨S1x4088x256, .f32⟩
  | 56 => ⟨S1x4096x256, .f32⟩
  | 57 => ⟨S_, .f32⟩
  | 58 => ⟨S1x8x256, .f32⟩
  | 59 => ⟨S1x4096x256, .f32⟩
  | 60 => ⟨S_, .f32⟩
  | 61 => ⟨S1x4096x1, .f32⟩
  | 62 => ⟨S1x4096x1, .f32⟩
  | 63 => ⟨S1x4096x256, .f32⟩
  | 64 => ⟨S1x4096x256, .f32⟩
  | 65 => ⟨S1x4096x256, .f32⟩
  | 66 => ⟨S1x4096x256, .f32⟩
  | 67 => ⟨S1x4096x256, .f32⟩
  | 68 => ⟨S1x16x256, .f32⟩
  | 69 => ⟨S_, .f32⟩
  | 70 => ⟨S1x16x256, .f32⟩
  | 71 => ⟨S1x4080x256, .f32⟩
  | 72 => ⟨S1x4096x256, .f32⟩
  | 73 => ⟨S_, .f32⟩
  | 74 => ⟨S1x16x256, .f32⟩
  | 75 => ⟨S1x4096x256, .f32⟩
  | 76 => ⟨S_, .f32⟩
  | 77 => ⟨S1x4096x1, .f32⟩
  | 78 => ⟨S1x4096x1, .f32⟩
  | 79 => ⟨S1x4096x256, .f32⟩
  | 80 => ⟨S1x4096x256, .f32⟩
  | 81 => ⟨S1x4096x256, .f32⟩
  | 82 => ⟨S1x4096x256, .f32⟩
  | 83 => ⟨S1x4096x1x256, .f32⟩
  | 84 => ⟨S1x4096x1x256, .f32⟩
  | 85 => ⟨S1x4096x1x256, .f32⟩
  | 86 => ⟨S1x4096x1x256, .f32⟩
  | 87 => ⟨S1x4096x4x256, .f32⟩
  | 88 => ⟨S4x256x1x4096, .f32⟩
  | 89 => ⟨S1x4096x4x256, .f32⟩
  | 90 => ⟨S1x4096x1024, .f32⟩
  | 91 => ⟨S1x1x1024, .f32⟩
  | 92 => ⟨S1x4096x1024, .f32⟩
  | 93 => ⟨S1x4096x1024, .f32⟩
  | 94 => ⟨S1x4096x2048, .f32⟩
  | 95 => ⟨S1024, .f32⟩
  | 96 => ⟨S8x128x128, .f32⟩
  | 97 => ⟨S8x128, .f32⟩
  | 98 => ⟨S1x4096x1024, .f32⟩
  | 99 => ⟨S1x4096x1024, .f32⟩
  | 100 => ⟨S1x4096x1024, .f32⟩
  | 101 => ⟨S_, .f32⟩
  | 102 => ⟨S1x4096, .f32⟩
  | 103 => ⟨S1x4096x1, .f32⟩
  | 104 => ⟨S_, .f32⟩
  | 105 => ⟨S1x4096x1, .f32⟩
  | 106 => ⟨S1x4096x1, .f32⟩
  | 107 => ⟨S_, .f32⟩
  | 108 => ⟨S1x4096x1, .f32⟩
  | 109 => ⟨S1x4096x1, .f32⟩
  | 110 => ⟨S1x4096x1, .f32⟩
  | 111 => ⟨S1x4096x1, .f32⟩
  | 112 => ⟨S_, .f32⟩
  | 113 => ⟨S1x4096x1, .f32⟩
  | 114 => ⟨S1x4096x1, .f32⟩
  | 115 => ⟨S1x4096x1024, .f32⟩
  | 116 => ⟨S1x4096x1024, .f32⟩
  | 117 => ⟨S1x1x1024, .f32⟩
  | 118 => ⟨S1x4096x1024, .f32⟩
  | 119 => ⟨S1x4096x1024, .f32⟩
  | 120 => ⟨S1x32x128x8x128, .f32⟩
  | 121 => ⟨S128, .i32⟩
  | 122 => ⟨S1x128, .i32⟩
  | 123 => ⟨S_, .i32⟩
  | 124 => ⟨S_, .i32⟩
  | 125 => ⟨S1x128, .i32⟩
  | 126 => ⟨S1x128, .i32⟩
  | 127 => ⟨S1x128, .i32⟩
  | _ => ⟨S4096x2048, .f32⟩

abbrev hbmTy0_1 (i : Nat) : BufTy := match i % 128 with
  | 0 => ⟨S_, .i32⟩
  | 1 => ⟨S1x128, .i32⟩
  | 2 => ⟨S1x128, .i1⟩
  | 3 => ⟨S1x128, .i32⟩
  | 4 => ⟨S1x128, .i32⟩
  | 5 => ⟨S_, .i32⟩
  | 6 => ⟨S1x128, .i32⟩
  | 7 => ⟨S1x128, .i1⟩
  | 8 => ⟨S1x128, .i1⟩
  | 9 => ⟨S_, .i32⟩
  | 10 => ⟨S1x128, .i32⟩
  | 11 => ⟨S1x128, .i32⟩
  | 12 => ⟨S1x128, .i32⟩
  | 13 => ⟨S128x1, .i32⟩
  | 14 => ⟨S_, .i32⟩
  | 15 => ⟨S_, .i32⟩
  | 16 => ⟨S128x1, .i32⟩
  | 17 => ⟨S128x1, .i32⟩
  | 18 => ⟨S128x1, .i32⟩
  | 19 => ⟨S_, .i32⟩
  | 20 => ⟨S128x1, .i32⟩
  | 21 => ⟨S128x1, .i1⟩
  | 22 => ⟨S128x1, .i32⟩
  | 23 => ⟨S128x1, .i32⟩
  | 24 => ⟨S_, .i32⟩
  | 25 => ⟨S128x1, .i32⟩
  | 26 => ⟨S128x1, .i1⟩
  | 27 => ⟨S128x1, .i1⟩
  | 28 => ⟨S_, .i32⟩
  | 29 => ⟨S128x1, .i32⟩
  | 30 => ⟨S128x1, .i32⟩
  | 31 => ⟨S128x1, .i32⟩
  | 32 => ⟨S128x128, .i32⟩
  | 33 => ⟨S128x128, .i32⟩
  | 34 => ⟨S128x128, .i1⟩
  | 35 => ⟨S1x128x128, .i1⟩
  | 36 => ⟨S_, .f32⟩
  | 37 => ⟨S_, .f32⟩
  | 38 => ⟨S8x128x128, .i1⟩
  | 39 => ⟨S8x128x128, .f32⟩
  | 40 => ⟨S8x128x128, .f32⟩
  | 41 => ⟨S_, .f32⟩
  | 42 => ⟨S8x128x128, .f32⟩
  | 43 => ⟨S8x1x32x128x128, .f32⟩
  | 44 => ⟨S1x32x128x8x128, .f32⟩
  | 45 => ⟨S128x8, .f32⟩
  | 46 => ⟨S1x1x128x8x1, .f32⟩
  | 47 => ⟨S1x32x128x8x128, .f32⟩
  | 48 => ⟨S1x32x128x8x128, .f32⟩
  | 49 => ⟨S1x4096x1024, .f32⟩
  | 50 => ⟨S1x4096x1024, .f32⟩
  | 51 => ⟨S1x4096x2048, .f32⟩
  | 52 => ⟨S4096x2048, .f32⟩
  | 53 => ⟨S1x4096x2048, .f32⟩
  | 54 => ⟨S1x4096x1024, .f32⟩
  | 55 => ⟨S1x4096x1024, .f32⟩
  | 56 => ⟨S1x4096x1024, .f32⟩
  | 57 => ⟨S1x4096x1024, .f32⟩
  | 58 => ⟨S1x32x128x8x128, .f32⟩
  | 59 => ⟨S_, .f32⟩
  | 60 => ⟨S1x128x8, .f32⟩
  | 61 => ⟨S1x1x128x8x1, .f32⟩
  | 62 => ⟨S_, .f32⟩
  | 63 => ⟨S128x8, .f32⟩
  | 64 => ⟨S8x128, .f32⟩
  | 65 => ⟨S8x1x32x128x128, .f32⟩
  | 66 => ⟨S8x128x128, .f32⟩
  | 67 => ⟨S8x1x32x128x128, .f32⟩
  | 68 => ⟨S1x32x128x8x128, .f32⟩
  | 69 => ⟨S_, .f32⟩
  | 70 => ⟨S8x128x128, .f32⟩
  | 71 => ⟨S8x128x128, .f32⟩
  | 72 => ⟨S1x4096x1024, .f32⟩
  | 73 => ⟨S1x4096x1024, .f32⟩
  | 74 => ⟨S_, .f32⟩
  | 75 => ⟨S1x1024, .f32⟩
  | 76 => ⟨S1x1x1024, .f32⟩
  | 77 => ⟨S1x4096x1024, .f32⟩
  | 78 => ⟨S1x4096x1024, .f32⟩
  | 79 => ⟨S_, .f32⟩
  | 80 => ⟨S1024, .f32⟩
  | 81 => ⟨S1x4096x1024, .f32⟩
  | 82 => ⟨S_, .f32⟩
  | 83 => ⟨S1x4096, .f32⟩
  | 84 => ⟨S1x4096x1, .f32⟩
  | 85 => ⟨S1x4096x1024, .f32⟩
  | 86 => ⟨S1x4096x1024, .f32⟩
  | 87 => ⟨S1x4096x1, .f32⟩
  | 88 => ⟨S_, .f32⟩
  | 89 => ⟨S1x4096x1, .f32⟩
  | 90 => ⟨S1x4096x1, .f32⟩
  | 91 => ⟨S_, .f32⟩
  | 92 => ⟨S4096, .f32⟩
  | 93 => ⟨S1x4096, .f32⟩
  | 94 => ⟨S1x4096x1024, .f32⟩
  | 95 => ⟨S1x4096x1024, .f32⟩
  | 96 => ⟨S1x4096x1024, .f32⟩
  | 97 => ⟨S1x4096x1024, .f32⟩
  | 98 => ⟨S1x4096x1024, .f32⟩
  | 99 => ⟨S_, .f32⟩
  | 100 => ⟨S1x4096x2048, .f32⟩
  | 101 => ⟨S_, .f32⟩
  | 102 => ⟨S1x4096x2048, .f32⟩
  | 103 => ⟨S1x4096x2048, .f32⟩
  | 104 => ⟨S1x8x128, .f32⟩
  | 105 => ⟨S1x8x128x128, .f32⟩
  | 106 => ⟨S1x1024, .f32⟩
  | 107 => ⟨S_, .f32⟩
  | 108 => ⟨S1x4096x3072, .f32⟩
  | 109 => ⟨S1x4096x1024, .f32⟩
  | 110 => ⟨S_, .f32⟩
  | 111 => ⟨S1x1024, .f32⟩
  | 112 => ⟨S1x1x1024, .f32⟩
  | 113 => ⟨S1x4096x1024, .f32⟩
  | 114 => ⟨S1x4096x1024, .f32⟩
  | 115 => ⟨S_, .f32⟩
  | 116 => ⟨S1024, .f32⟩
  | 117 => ⟨S1x4096x4x256, .f32⟩
  | 118 => ⟨S4x256x1x4096, .f32⟩
  | 119 => ⟨S4x1x4096x256, .f32⟩
  | 120 => ⟨S1x4096x4x256, .f32⟩
  | 121 => ⟨S4x256x256, .f32⟩
  | 122 => ⟨S4x256x256, .f32⟩
  | 123 => ⟨S1x4096x1x256, .f32⟩
  | 124 => ⟨S1x4096x256, .f32⟩
  | 125 => ⟨S1x4096x1x256, .f32⟩
  | 126 => ⟨S1x4096x256, .f32⟩
  | 127 => ⟨S1x4096x1x256, .f32⟩
  | _ => ⟨S4096x2048, .f32⟩

abbrev hbmTy0_2 (i : Nat) : BufTy := match i % 128 with
  | 0 => ⟨S1x4096x256, .f32⟩
  | 1 => ⟨S1x4096x1x256, .f32⟩
  | 2 => ⟨S1x4096x256, .f32⟩
  | 3 => ⟨S1x4096x256, .f32⟩
  | 4 => ⟨S_, .f32⟩
  | 5 => ⟨S1x4096x1024, .f32⟩
  | 6 => ⟨S1x4096x256, .f32⟩
  | 7 => ⟨S1x4096x256, .f32⟩
  | 8 => ⟨S1x4096x256, .f32⟩
  | 9 => ⟨S1x16x256, .f32⟩
  | 10 => ⟨S1x4080x256, .f32⟩
  | 11 => ⟨S_, .f32⟩
  | 12 => ⟨S1x4096x256, .f32⟩
  | 13 => ⟨S1x4096x256, .f32⟩
  | 14 => ⟨S_, .f32⟩
  | 15 => ⟨S1x4096x1024, .f32⟩
  | 16 => ⟨S1x4096x256, .f32⟩
  | 17 => ⟨S_, .f32⟩
  | 18 => ⟨S1x4096x1024, .f32⟩
  | 19 => ⟨S1x4096x1024, .f32⟩
  | 20 => ⟨S1x4096x256, .f32⟩
  | 21 => ⟨S1x4096x256, .f32⟩
  | 22 => ⟨S1x4096x256, .f32⟩
  | 23 => ⟨S1x8x256, .f32⟩
  | 24 => ⟨S1x4088x256, .f32⟩
  | 25 => ⟨S_, .f32⟩
  | 26 => ⟨S1x4096x256, .f32⟩
  | 27 => ⟨S1x4096x256, .f32⟩
  | 28 => ⟨S_, .f32⟩
  | 29 => ⟨S1x4096x1024, .f32⟩
  | 30 => ⟨S1x4096x1024, .f32⟩
  | 31 => ⟨S1x4096x256, .f32⟩
  | 32 => ⟨S_, .f32⟩
  | 33 => ⟨S1x4096x1024, .f32⟩
  | 34 => ⟨S1x4096x1024, .f32⟩
  | 35 => ⟨S1x4096x256, .f32⟩
  | 36 => ⟨S1x4096x256, .f32⟩
  | 37 => ⟨S1x4096x256, .f32⟩
  | 38 => ⟨S1x4x256, .f32⟩
  | 39 => ⟨S1x4092x256, .f32⟩
  | 40 => ⟨S_, .f32⟩
  | 41 => ⟨S1x4096x256, .f32⟩
  | 42 => ⟨S1x4096x256, .f32⟩
  | 43 => ⟨S_, .f32⟩
  | 44 => ⟨S1x4096x1024, .f32⟩
  | 45 => ⟨S1x4096x1024, .f32⟩
  | 46 => ⟨S1x4096x256, .f32⟩
  | 47 => ⟨S_, .f32⟩
  | 48 => ⟨S1x4096x1024, .f32⟩
  | 49 => ⟨S1x4096x1024, .f32⟩
  | 50 => ⟨S1x4096x256, .f32⟩
  | 51 => ⟨S1x4096x256, .f32⟩
  | 52 => ⟨S1x4096x256, .f32⟩
  | 53 => ⟨S1x2x256, .f32⟩
  | 54 => ⟨S1x4094x256, .f32⟩
  | 55 => ⟨S_, .f32⟩
  | 56 => ⟨S1x4096x256, .f32⟩
  | 57 => ⟨S1x4096x256, .f32⟩
  | 58 => ⟨S_, .f32⟩
  | 59 => ⟨S1x4096x1024, .f32⟩
  | 60 => ⟨S1x4096x1024, .f32⟩
  | 61 => ⟨S_, .f32⟩
  | 62 => ⟨S_, .f32⟩
  | 63 => ⟨S1x4096x1024, .f32⟩
  | 64 => ⟨S1x4096x1024, .f32⟩
  | 65 => ⟨S1x1024, .f32⟩
  | 66 => ⟨S1x4x256x256, .f32⟩
  | 67 => ⟨S_, .f32⟩
  | 68 => ⟨S1x4096x3072, .f32⟩
  | 69 => ⟨S1x4096x3072, .f32⟩
  | 70 => ⟨S_, .f32⟩
  | 71 => ⟨S4096x3072, .f32⟩
  | 72 => ⟨S4096x3072, .bf16⟩
  | 73 => ⟨S4x256x256, .f32⟩
  | 74 => ⟨S8x128x128, .f32⟩
  | 75 => ⟨S8x128, .f32⟩
  | 76 => ⟨S8x128x1, .f32⟩
  | 77 => ⟨S8x128x128, .f32⟩
  | _ => ⟨S4096x2048, .f32⟩

abbrev hbmTy (i : Nat) : BufTy := match i / 128 with
  | 0 => hbmTy0_0 i
  | 1 => hbmTy0_1 i
  | 2 => hbmTy0_2 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_call0_cst : Ref sig .tc := ⟨.hbm, 11, rfl⟩
abbrev main_call0_call0_v0 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_12 : Ref sig .tc := ⟨.hbm, 101, rfl⟩
abbrev main_v79 : Ref sig .tc := ⟨.hbm, 102, rfl⟩
abbrev main_v80 : Ref sig .tc := ⟨.hbm, 103, rfl⟩
abbrev main_cst_13 : Ref sig .tc := ⟨.hbm, 104, rfl⟩
abbrev main_v81 : Ref sig .tc := ⟨.hbm, 105, rfl⟩
abbrev main_v82 : Ref sig .tc := ⟨.hbm, 106, rfl⟩
abbrev main_cst_14 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_15 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_c : Ref sig .tc := ⟨.hbm, 123, rfl⟩
abbrev main_call1_v0 : Ref sig .tc := ⟨.hbm, 124, rfl⟩
abbrev main_call1_v1 : Ref sig .tc := ⟨.hbm, 125, rfl⟩
abbrev main_call1_v2 : Ref sig .tc := ⟨.hbm, 126, rfl⟩
abbrev main_call1_v3 : Ref sig .tc := ⟨.hbm, 127, rfl⟩
abbrev main_call1_v4 : Ref sig .tc := ⟨.hbm, 128, rfl⟩
abbrev main_call1_v5 : Ref sig .tc := ⟨.hbm, 129, rfl⟩
abbrev main_call1_v6 : Ref sig .tc := ⟨.hbm, 130, rfl⟩
abbrev main_call1_v7 : Ref sig .tc := ⟨.hbm, 131, rfl⟩
abbrev main_call1_v8 : Ref sig .tc := ⟨.hbm, 132, rfl⟩
abbrev main_call1_c : Ref sig .tc := ⟨.hbm, 133, rfl⟩
abbrev main_call1_v9 : Ref sig .tc := ⟨.hbm, 134, rfl⟩
abbrev main_call1_v10 : Ref sig .tc := ⟨.hbm, 135, rfl⟩
abbrev main_call1_v11 : Ref sig .tc := ⟨.hbm, 136, rfl⟩
abbrev main_call1_c_0 : Ref sig .tc := ⟨.hbm, 137, rfl⟩
abbrev main_call1_v12 : Ref sig .tc := ⟨.hbm, 138, rfl⟩
abbrev main_call1_v13 : Ref sig .tc := ⟨.hbm, 139, rfl⟩
abbrev main_v97 : Ref sig .tc := ⟨.hbm, 140, rfl⟩
abbrev main_v98 : Ref sig .tc := ⟨.hbm, 141, rfl⟩
abbrev main_c_16 : Ref sig .tc := ⟨.hbm, 142, rfl⟩
abbrev main_call2_v0 : Ref sig .tc := ⟨.hbm, 143, rfl⟩
abbrev main_call2_v1 : Ref sig .tc := ⟨.hbm, 144, rfl⟩
abbrev main_call2_v2 : Ref sig .tc := ⟨.hbm, 145, rfl⟩
abbrev main_call2_v3 : Ref sig .tc := ⟨.hbm, 146, rfl⟩
abbrev main_call2_v4 : Ref sig .tc := ⟨.hbm, 147, rfl⟩
abbrev main_call2_v5 : Ref sig .tc := ⟨.hbm, 148, rfl⟩
abbrev main_call2_v6 : Ref sig .tc := ⟨.hbm, 149, rfl⟩
abbrev main_call2_v7 : Ref sig .tc := ⟨.hbm, 150, rfl⟩
abbrev main_call2_v8 : Ref sig .tc := ⟨.hbm, 151, rfl⟩
abbrev main_call2_c : Ref sig .tc := ⟨.hbm, 152, rfl⟩
abbrev main_call2_v9 : Ref sig .tc := ⟨.hbm, 153, rfl⟩
abbrev main_call2_v10 : Ref sig .tc := ⟨.hbm, 154, rfl⟩
abbrev main_call2_v11 : Ref sig .tc := ⟨.hbm, 155, rfl⟩
abbrev main_call2_c_0 : Ref sig .tc := ⟨.hbm, 156, rfl⟩
abbrev main_call2_v12 : Ref sig .tc := ⟨.hbm, 157, rfl⟩
abbrev main_call2_v13 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_cst_17 : Ref sig .tc := ⟨.hbm, 164, rfl⟩
abbrev main_call3_v0 : Ref sig .tc := ⟨.hbm, 165, rfl⟩
abbrev main_v104_1 : Ref sig .tc := ⟨.hbm, 166, rfl⟩
abbrev main_call3_v2 : Ref sig .tc := ⟨.hbm, 167, rfl⟩
abbrev main_v104_0 : Ref sig .tc := ⟨.hbm, 168, rfl⟩
abbrev main_call3_cst : Ref sig .tc := ⟨.hbm, 169, rfl⟩
abbrev main_v104_2 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_cst_18 : Ref sig .tc := ⟨.hbm, 187, rfl⟩
abbrev main_v121 : Ref sig .tc := ⟨.hbm, 188, rfl⟩
abbrev main_v122 : Ref sig .tc := ⟨.hbm, 189, rfl⟩
abbrev main_cst_19 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_call4_cst : Ref sig .tc := ⟨.hbm, 197, rfl⟩
abbrev main_call4_v0 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_cst_20 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_cst_21 : Ref sig .tc := ⟨.hbm, 207, rfl⟩
abbrev main_v136 : Ref sig .tc := ⟨.hbm, 208, rfl⟩
abbrev main_v137 : Ref sig .tc := ⟨.hbm, 209, rfl⟩
abbrev main_cst_22 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_cst_23 : Ref sig .tc := ⟨.hbm, 216, rfl⟩
abbrev main_v143 : Ref sig .tc := ⟨.hbm, 217, rfl⟩
abbrev main_v144 : Ref sig .tc := ⟨.hbm, 218, rfl⟩
abbrev main_cst_24 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_cst_25 : Ref sig .tc := ⟨.hbm, 227, rfl⟩
abbrev main_v152 : Ref sig .tc := ⟨.hbm, 228, rfl⟩
abbrev main_cst_26 : Ref sig .tc := ⟨.hbm, 229, rfl⟩
abbrev main_v153 : Ref sig .tc := ⟨.hbm, 230, rfl⟩
abbrev main_v154 : Ref sig .tc := ⟨.hbm, 231, rfl⟩
abbrev main_v155 : Ref sig .tc := ⟨.hbm, 232, rfl⟩
abbrev main_v156 : Ref sig .tc := ⟨.hbm, 233, rfl⟩
abbrev main_v157 : Ref sig .tc := ⟨.hbm, 234, rfl⟩
abbrev main_cst_27 : Ref sig .tc := ⟨.hbm, 235, rfl⟩
abbrev main_v158 : Ref sig .tc := ⟨.hbm, 236, rfl⟩
abbrev main_v159 : Ref sig .tc := ⟨.hbm, 237, rfl⟩
abbrev main_cst_28 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_cst_29 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_cst_30 : Ref sig .tc := ⟨.hbm, 260, rfl⟩
abbrev main_v180 : Ref sig .tc := ⟨.hbm, 261, rfl⟩
abbrev main_v181 : Ref sig .tc := ⟨.hbm, 262, rfl⟩
abbrev main_v182 : Ref sig .tc := ⟨.hbm, 263, rfl⟩
abbrev main_v183 : Ref sig .tc := ⟨.hbm, 264, rfl⟩
abbrev main_v184 : Ref sig .tc := ⟨.hbm, 265, rfl⟩
abbrev main_v185 : Ref sig .tc := ⟨.hbm, 266, rfl⟩
abbrev main_cst_31 : Ref sig .tc := ⟨.hbm, 267, rfl⟩
abbrev main_v186 : Ref sig .tc := ⟨.hbm, 268, rfl⟩
abbrev main_v187 : Ref sig .tc := ⟨.hbm, 269, rfl⟩
abbrev main_cst_32 : Ref sig .tc := ⟨.hbm, 270, rfl⟩
abbrev main_v188 : Ref sig .tc := ⟨.hbm, 271, rfl⟩
abbrev main_v189 : Ref sig .tc := ⟨.hbm, 272, rfl⟩
abbrev main_cst_33 : Ref sig .tc := ⟨.hbm, 273, rfl⟩
abbrev main_v190 : Ref sig .tc := ⟨.hbm, 274, rfl⟩
abbrev main_v191 : Ref sig .tc := ⟨.hbm, 275, rfl⟩
abbrev main_v192 : Ref sig .tc := ⟨.hbm, 276, rfl⟩
abbrev main_v193 : Ref sig .tc := ⟨.hbm, 277, rfl⟩
abbrev main_v194 : Ref sig .tc := ⟨.hbm, 278, rfl⟩
abbrev main_v195 : Ref sig .tc := ⟨.hbm, 279, rfl⟩
abbrev main_v196 : Ref sig .tc := ⟨.hbm, 280, rfl⟩
abbrev main_cst_34 : Ref sig .tc := ⟨.hbm, 281, rfl⟩
abbrev main_v197 : Ref sig .tc := ⟨.hbm, 282, rfl⟩
abbrev main_v198 : Ref sig .tc := ⟨.hbm, 283, rfl⟩
abbrev main_cst_35 : Ref sig .tc := ⟨.hbm, 284, rfl⟩
abbrev main_v199 : Ref sig .tc := ⟨.hbm, 285, rfl⟩
abbrev main_v200 : Ref sig .tc := ⟨.hbm, 286, rfl⟩
abbrev main_v201 : Ref sig .tc := ⟨.hbm, 287, rfl⟩
abbrev main_cst_36 : Ref sig .tc := ⟨.hbm, 288, rfl⟩
abbrev main_v202 : Ref sig .tc := ⟨.hbm, 289, rfl⟩
abbrev main_v203 : Ref sig .tc := ⟨.hbm, 290, rfl⟩
abbrev main_v204 : Ref sig .tc := ⟨.hbm, 291, rfl⟩
abbrev main_v205 : Ref sig .tc := ⟨.hbm, 292, rfl⟩
abbrev main_v206 : Ref sig .tc := ⟨.hbm, 293, rfl⟩
abbrev main_v207 : Ref sig .tc := ⟨.hbm, 294, rfl⟩
abbrev main_v208 : Ref sig .tc := ⟨.hbm, 295, rfl⟩
abbrev main_cst_37 : Ref sig .tc := ⟨.hbm, 296, rfl⟩
abbrev main_v209 : Ref sig .tc := ⟨.hbm, 297, rfl⟩
abbrev main_v210 : Ref sig .tc := ⟨.hbm, 298, rfl⟩
abbrev main_cst_38 : Ref sig .tc := ⟨.hbm, 299, rfl⟩
abbrev main_v211 : Ref sig .tc := ⟨.hbm, 300, rfl⟩
abbrev main_v212 : Ref sig .tc := ⟨.hbm, 301, rfl⟩
abbrev main_v213 : Ref sig .tc := ⟨.hbm, 302, rfl⟩
abbrev main_cst_39 : Ref sig .tc := ⟨.hbm, 303, rfl⟩
abbrev main_v214 : Ref sig .tc := ⟨.hbm, 304, rfl⟩
abbrev main_v215 : Ref sig .tc := ⟨.hbm, 305, rfl⟩
abbrev main_v216 : Ref sig .tc := ⟨.hbm, 306, rfl⟩
abbrev main_v217 : Ref sig .tc := ⟨.hbm, 307, rfl⟩
abbrev main_v218 : Ref sig .tc := ⟨.hbm, 308, rfl⟩
abbrev main_v219 : Ref sig .tc := ⟨.hbm, 309, rfl⟩
abbrev main_v220 : Ref sig .tc := ⟨.hbm, 310, rfl⟩
abbrev main_cst_40 : Ref sig .tc := ⟨.hbm, 311, rfl⟩
abbrev main_v221 : Ref sig .tc := ⟨.hbm, 312, rfl⟩
abbrev main_v222 : Ref sig .tc := ⟨.hbm, 313, rfl⟩
abbrev main_cst_41 : Ref sig .tc := ⟨.hbm, 314, rfl⟩
abbrev main_v223 : Ref sig .tc := ⟨.hbm, 315, rfl⟩
abbrev main_v224 : Ref sig .tc := ⟨.hbm, 316, rfl⟩
abbrev main_call5_call0_cst : Ref sig .tc := ⟨.hbm, 317, rfl⟩
abbrev main_call5_call0_v0 : Ref sig .tc := ⟨.hbm, 318, rfl⟩
abbrev main_v225 : Ref sig .tc := ⟨.hbm, 319, rfl⟩
abbrev main_v226 : Ref sig .tc := ⟨.hbm, 320, rfl⟩
abbrev main_v227 : Ref sig .tc := ⟨.hbm, 321, rfl⟩
abbrev main_v228 : Ref sig .tc := ⟨.hbm, 322, rfl⟩
abbrev main_cst_42 : Ref sig .tc := ⟨.hbm, 323, rfl⟩
abbrev main_v229 : Ref sig .tc := ⟨.hbm, 324, rfl⟩
abbrev main_v230 : Ref sig .tc := ⟨.hbm, 325, rfl⟩
abbrev main_cst_43 : Ref sig .tc := ⟨.hbm, 326, rfl⟩
abbrev main_v231 : Ref sig .tc := ⟨.hbm, 327, rfl⟩
abbrev main_v232 : Ref sig .tc := ⟨.hbm, 328, rfl⟩
abbrev main_v233 : Ref sig .tc := ⟨.hbm, 329, rfl⟩
abbrev main_v234 : Ref sig .tc := ⟨.hbm, 330, rfl⟩
abbrev main_v235 : Ref sig .tc := ⟨.hbm, 331, rfl⟩
abbrev main_v236 : Ref sig .tc := ⟨.hbm, 332, rfl⟩
abbrev main_v237 : Ref sig .tc := ⟨.hbm, 333, rfl⟩

abbrev nD : Nat := 1
abbrev τ : Topo := Topo.v7x

variable {F : FTy → Type} [FloatOps F]
-- ==== Kernel3.lean ====
abbrev S4096x2048 : Shape := ⟨2, ![4096, 2048]⟩
abbrev S256x2048 : Shape := ⟨2, ![256, 2048]⟩
abbrev S1024x2048 : Shape := ⟨2, ![1024, 2048]⟩
abbrev S1024x512 : Shape := ⟨2, ![1024, 512]⟩
abbrev S256x512 : Shape := ⟨2, ![256, 512]⟩
abbrev S1024x256 : Shape := ⟨2, ![1024, 256]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S256x2048, .bf16⟩
  | .hbm, ⟨3, _⟩ => ⟨S4096x2048, .bf16⟩
  | .hbm, ⟨4, _⟩ => ⟨S4096x2048, .bf16⟩
  | .hbm, ⟨5, _⟩ => ⟨S256x2048, .f32⟩
  | .hbm, ⟨6, _⟩ => ⟨S256x2048, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S256x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S256x2048, .f32⟩
  | .local _ .vmem, ⟨9, _⟩ => ⟨S256x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S4096x2048 : Shape := ⟨2, ![4096, 2048]⟩
abbrev S256x2048 : Shape := ⟨2, ![256, 2048]⟩
abbrev S4096x4x512 : Shape := ⟨3, ![4096, 4, 512]⟩
abbrev S256x4x512 : Shape := ⟨3, ![256, 4, 512]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x512x4096 : Shape := ⟨3, ![4, 512, 4096]⟩
abbrev S4x512x256 : Shape := ⟨3, ![4, 512, 256]⟩
abbrev S4x256x512 : Shape := ⟨3, ![4, 256, 512]⟩
abbrev S4x4096x512 : Shape := ⟨3, ![4, 4096, 512]⟩

abbrev nBuf : Space → Nat
  | .hbm => 86
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S256x2048, .bf16⟩
  | .hbm, ⟨3, _⟩ => ⟨S4096x2048, .bf16⟩
  | .hbm, ⟨4, _⟩ => ⟨S4096x2048, .f32⟩
  | .hbm, ⟨5, _⟩ => ⟨S256x2048, .f32⟩
  | .hbm, ⟨6, _⟩ => ⟨S256x2048, .f32⟩
  | .hbm, ⟨7, _⟩ => ⟨S4096x2048, .f32⟩
  | .hbm, ⟨8, _⟩ => ⟨S4096x4x512, .f32⟩
  | .hbm, ⟨9, _⟩ => ⟨S256x4x512, .f32⟩
  | .hbm, ⟨10, _⟩ => ⟨S256x4x512, .f32⟩
  | .hbm, ⟨11, _⟩ => ⟨S4x4096x256, .f32⟩
  | .hbm, ⟨12, _⟩ => ⟨S_, .f32⟩
  | .hbm, ⟨13, _⟩ => ⟨S4x4096x256, .f32⟩
  | .hbm, ⟨14, _⟩ => ⟨S4x4096x256, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S4x4096x256, .f32⟩
  | .hbm, ⟨19, _⟩ => ⟨S4x4096x256, .i1⟩
  | .hbm, ⟨20, _⟩ => ⟨S4x4096x256, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .f32⟩
  | .hbm, ⟨26, _⟩ => ⟨S_, .f32⟩
  | .hbm, ⟨27, _⟩ => ⟨S4x4096, .f32⟩
  | .hbm, ⟨28, _⟩ => ⟨S4x4096, .i1⟩
  | .hbm, ⟨29, _⟩ => ⟨S_, .f32⟩
  | .hbm, ⟨30, _⟩ => ⟨S4x4096, .f32⟩
  | .hbm, ⟨31, _⟩ => ⟨S4x4096, .i1⟩
  | .hbm, ⟨32, _⟩ => ⟨S_, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S_, .f32⟩
  | .hbm, ⟨37, _⟩ => ⟨S4x4096, .f32⟩
  | .hbm, ⟨38, _⟩ => ⟨S4x4096, .f32⟩
  | .hbm, ⟨39, _⟩ => ⟨S4x4096, .f32⟩
  | .hbm, ⟨40, _⟩ => ⟨S4x4096x1, .f32⟩
  | .hbm, ⟨41, _⟩ => ⟨S4x4096x256, .f32⟩
  | .hbm, ⟨42, _⟩ => ⟨S4x4096x256, .f32⟩
  | .hbm, ⟨43, _⟩ => ⟨S4x4096x256, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S4x4096x256, .f32⟩
  | .hbm, ⟨48, _⟩ => ⟨S4x4096x256, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x512x4096, .f32⟩
  | .hbm, ⟨54, _⟩ => ⟨S4096x4x512, .f32⟩
  | .hbm, ⟨55, _⟩ => ⟨S4096x2048, .f32⟩
  | .hbm, ⟨56, _⟩ => ⟨S4096x4x512, .f32⟩
  | .hbm, ⟨57, _⟩ => ⟨S4x512x4096, .f32⟩
  | .hbm, ⟨58, _⟩ => ⟨S4x4096x256, .f32⟩
  | .hbm, ⟨59, _⟩ => ⟨S4x512x256, .f32⟩
  | .hbm, ⟨60, _⟩ => ⟨S256x4x512, .f32⟩
  | .hbm, ⟨61, _⟩ => ⟨S4x4096x256, .f32⟩
  | .hbm, ⟨62, _⟩ => ⟨S4x4096x256, .f32⟩
  | .hbm, ⟨63, _⟩ => ⟨S4x4096x256, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S4x4096x1, .f32⟩
  | .hbm, ⟨68, _⟩ => ⟨S4x4096x256, .f32⟩
  | .hbm, ⟨69, _⟩ => ⟨S4x4096x256, .f32⟩
  | .hbm, ⟨70, _⟩ => ⟨S_, .f32⟩
  | .hbm, ⟨71, _⟩ => ⟨S4x4096, .f32⟩
  | .hbm, ⟨72, _⟩ => ⟨S4x4096x256, .f32⟩
  | .hbm, ⟨73, _⟩ => ⟨S4x4096x256, .f32⟩
  | .hbm, ⟨74, _⟩ => ⟨S4x4096x256, .f32⟩
  | .hbm, ⟨75, _⟩ => ⟨S_, .f32⟩
  | .hbm, ⟨76, _⟩ => ⟨S4x4096x256, .f32⟩
  | .hbm, ⟨77, _⟩ => ⟨S4x4096x256, .f32⟩
  | .hbm, ⟨78, _⟩ => ⟨S4x256x512, .f32⟩
  | .hbm, ⟨79, _⟩ => ⟨S256x4x512, .f32⟩
  | .hbm, ⟨80, _⟩ => ⟨S4x4096x512, .f32⟩
  | .hbm, ⟨81, _⟩ => ⟨S4096x4x512, .f32⟩
  | .hbm, ⟨82, _⟩ => ⟨S256x2048, .f32⟩
  | .hbm, ⟨83, _⟩ => ⟨S256x2048, .f32⟩
  | .hbm, ⟨84, _⟩ => ⟨S4096x2048, .f32⟩
  | .hbm, ⟨85, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== Kernel4.lean ====
abbrev S4096x5632 : Shape := ⟨2, ![4096, 5632]⟩
abbrev S1x5632x2048 : Shape := ⟨3, ![1, 5632, 2048]⟩
abbrev S4096x2048 : Shape := ⟨2, ![4096, 2048]⟩
abbrev S2048 : Shape := ⟨1, ![2048]⟩
abbrev S5632x2048 : Shape := ⟨2, ![5632, 2048]⟩
abbrev S1x2048 : Shape := ⟨2, ![1, 2048]⟩
abbrev S1x1 : Shape := ⟨2, ![1, 1]⟩
abbrev S256x5632 : Shape := ⟨2, ![256, 5632]⟩
abbrev S256x2048 : Shape := ⟨2, ![256, 2048]⟩
abbrev S8x2048 : Shape := ⟨2, ![8, 2048]⟩
abbrev S128x2048 : Shape := ⟨2, ![128, 2048]⟩
abbrev S128 : Shape := ⟨1, ![128]⟩
abbrev S128x1 : Shape := ⟨2, ![128, 1]⟩
abbrev S16x8x2048 : Shape := ⟨3, ![16, 8, 2048]⟩
abbrev S1 : Shape := ⟨1, ![1]⟩

abbrev nBuf : Space → Nat
  | .hbm => 12
  | .vmem => 16
  | .smem => 0
  | _ => 0

abbrev bufTy : (tb : Table) → Fin (tcTables nBuf tb) → BufTy
  | .hbm, ⟨0, _⟩ => ⟨S4096x5632, .bf16⟩
  | .hbm, ⟨1, _⟩ => ⟨S1x5632x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S5632x2048, .f32⟩
  | .hbm, ⟨6, _⟩ => ⟨S5632x2048, .bf16⟩
  | .hbm, ⟨7, _⟩ => ⟨S1x2048, .f32⟩
  | .hbm, ⟨8, _⟩ => ⟨S4096x2048, .f32⟩
  | .hbm, ⟨9, _⟩ => ⟨S4096x2048, .bf16⟩
  | .hbm, ⟨10, _⟩ => ⟨S1x2048, .f32⟩
  | .hbm, ⟨11, _⟩ => ⟨S1x1, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S1x1, .f32⟩
  | .local _ .vmem, ⟨14, _⟩ => ⟨S8x2048, .f32⟩
  | .local _ .vmem, ⟨15, _⟩ => ⟨S8x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![16, 1], ![false, false]⟩

def k0_cond3 (i : grid0.Coords) : BitVec 1 :=
  let arg0 : BitVec 32 := BitVec.ofNat 32 (i 0).val
  let c15_i32 : BitVec 32 := 15#32
  let v98 : BitVec 1 := Scalar.cmpi .eq arg0 c15_i32
  let v99 : BitVec 32 := Scalar.extui v98
  let c0_i32_41 : BitVec 32 := 0#32
  let v100 : BitVec 1 := Scalar.cmpi .ne v99 c0_i32_41
  v100

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference4Ideal.lean ====
abbrev S4096x5632 : Shape := ⟨2, ![4096, 5632]⟩
abbrev S1x5632x2048 : Shape := ⟨3, ![1, 5632, 2048]⟩
abbrev S4096x2048 : Shape := ⟨2, ![4096, 2048]⟩
abbrev S2048 : Shape := ⟨1, ![2048]⟩
abbrev S5632x2048 : Shape := ⟨2, ![5632, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x1 : Shape := ⟨2, ![1, 1]⟩

abbrev nBuf : Space → Nat
  | .hbm => 80
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1x5632x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x5632, .f32⟩
  | .hbm, ⟨6, _⟩ => ⟨S5632x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S2048, .f32⟩
  | .hbm, ⟨60, _⟩ => ⟨S4096x2048, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x2048, .f32⟩
  | .hbm, ⟨65, _⟩ => ⟨S4096x2048, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S4096x2048, .bf16⟩
  | .hbm, ⟨78, _⟩ => ⟨S1x2048, .f32⟩
  | .hbm, ⟨79, _⟩ => ⟨S1x1, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Kernel5.lean ====
abbrev S4096x2048 : Shape := ⟨2, ![4096, 2048]⟩
abbrev S1x5632x2048 : Shape := ⟨3, ![1, 5632, 2048]⟩
abbrev S4096x5632 : Shape := ⟨2, ![4096, 5632]⟩
abbrev S5632x2048 : Shape := ⟨2, ![5632, 2048]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S1x5632x2048, .f32⟩
  | .hbm, ⟨2, _⟩ => ⟨S4096x5632, .bf16⟩
  | .hbm, ⟨3, _⟩ => ⟨S4096x5632, .bf16⟩
  | .hbm, ⟨4, _⟩ => ⟨S5632x2048, .f32⟩
  | .hbm, ⟨5, _⟩ => ⟨S5632x2048, .bf16⟩
  | .hbm, ⟨6, _⟩ => ⟨S4096x5632, .bf16⟩
  | .hbm, ⟨7, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference5Ideal.lean ====
abbrev S4096x2048 : Shape := ⟨2, ![4096, 2048]⟩
abbrev S1x5632x2048 : Shape := ⟨3, ![1, 5632, 2048]⟩
abbrev S4096x5632 : Shape := ⟨2, ![4096, 5632]⟩
abbrev S_ : Shape := ⟨0, ![]⟩
abbrev S5632x2048 : Shape := ⟨2, ![5632, 2048]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x5632x2048, .f32⟩
  | .hbm, ⟨2, _⟩ => ⟨S4096x5632, .bf16⟩
  | .hbm, ⟨3, _⟩ => ⟨S4096x5632, .bf16⟩
  | .hbm, ⟨4, _⟩ => ⟨S4096x5632, .f32⟩
  | .hbm, ⟨5, _⟩ => ⟨S4096x5632, .f32⟩
  | .hbm, ⟨6, _⟩ => ⟨S4096x2048, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S5632x2048, .f32⟩
  | .hbm, ⟨22, _⟩ => ⟨S4096x2048, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .bf16⟩
  | .hbm, ⟨31, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel6.lean ====
abbrev S4096x2048 : Shape := ⟨2, ![4096, 2048]⟩
abbrev S1x2048 : Shape := ⟨2, ![1, 2048]⟩
abbrev S512x2048 : Shape := ⟨2, ![512, 2048]⟩
abbrev S8x2048 : Shape := ⟨2, ![8, 2048]⟩
abbrev S512 : Shape := ⟨1, ![512]⟩
abbrev S512x1 : Shape := ⟨2, ![512, 1]⟩
abbrev S64x8x2048 : Shape := ⟨3, ![64, 8, 2048]⟩
abbrev S2048 : Shape := ⟨1, ![2048]⟩

abbrev nBuf : Space → Nat
  | .hbm => 7
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v21 : BitVec 1 := Scalar.cmpi .eq arg0 c7_i32
  let v22 : BitVec 32 := Scalar.extui v21
  let c0_i32_9 : BitVec 32 := 0#32
  let v23 : BitVec 1 := Scalar.cmpi .ne v22 c0_i32_9
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference6Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S1x2048, .f32⟩
  | .hbm, ⟨52, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel7.lean ====
abbrev S4096x2048 : Shape := ⟨2, ![4096, 2048]⟩
abbrev S1x2048x2048 : Shape := ⟨3, ![1, 2048, 2048]⟩
abbrev S1x2048 : Shape := ⟨2, ![1, 2048]⟩
abbrev S2048x2048 : Shape := ⟨2, ![2048, 2048]⟩
abbrev S512x2048 : Shape := ⟨2, ![512, 2048]⟩
abbrev S8x2048 : Shape := ⟨2, ![8, 2048]⟩
abbrev S128x2048 : Shape := ⟨2, ![128, 2048]⟩
abbrev S128 : Shape := ⟨1, ![128]⟩
abbrev S128x1 : Shape := ⟨2, ![128, 1]⟩
abbrev S16x8x2048 : Shape := ⟨3, ![16, 8, 2048]⟩
abbrev S2048 : Shape := ⟨1, ![2048]⟩

abbrev nBuf : Space → Nat
  | .hbm => 10
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S4096x2048, .f32⟩
  | .hbm, ⟨8, _⟩ => ⟨S4096x2048, .bf16⟩
  | .hbm, ⟨9, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | .local _ .vmem, ⟨13, _⟩ => ⟨S8x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 1], ![false, false]⟩

def k0_cond3 (i : grid0.Coords) : BitVec 1 :=
  let arg0 : BitVec 32 := BitVec.ofNat 32 (i 0).val
  let c7_i32 : BitVec 32 := 7#32
  let v142 : BitVec 1 := Scalar.cmpi .eq arg0 c7_i32
  let v143 : BitVec 32 := Scalar.extui v142
  let c0_i32_61 : BitVec 32 := 0#32
  let v144 : BitVec 1 := Scalar.cmpi .ne v143 c0_i32_61
  v144

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference7Ideal.lean ====
abbrev S4096x2048 : Shape := ⟨2, ![4096, 2048]⟩
abbrev S1x2048x2048 : Shape := ⟨3, ![1, 2048, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S2048x2048 : Shape := ⟨2, ![2048, 2048]⟩

abbrev nBuf : Space → Nat
  | .hbm => 58
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S2048x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S2048, .f32⟩
  | .hbm, ⟨38, _⟩ => ⟨S4096x2048, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S1x2048, .f32⟩
  | .hbm, ⟨57, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel8.lean ====
abbrev S4096x3072 : Shape := ⟨2, ![4096, 3072]⟩
abbrev S1x2048x3072 : Shape := ⟨3, ![1, 2048, 3072]⟩
abbrev S1x4096x2048 : Shape := ⟨3, ![1, 4096, 2048]⟩
abbrev S4096x2048 : Shape := ⟨2, ![4096, 2048]⟩
abbrev S1x2048 : Shape := ⟨2, ![1, 2048]⟩
abbrev S2048x3072 : Shape := ⟨2, ![2048, 3072]⟩
abbrev S3072x2048 : Shape := ⟨2, ![3072, 2048]⟩
abbrev S256x3072 : Shape := ⟨2, ![256, 3072]⟩
abbrev S256x2048 : Shape := ⟨2, ![256, 2048]⟩
abbrev S8x2048 : Shape := ⟨2, ![8, 2048]⟩
abbrev S128x2048 : Shape := ⟨2, ![128, 2048]⟩
abbrev S128 : Shape := ⟨1, ![128]⟩
abbrev S128x1 : Shape := ⟨2, ![128, 1]⟩
abbrev S16x8x2048 : Shape := ⟨3, ![16, 8, 2048]⟩
abbrev S2048 : Shape := ⟨1, ![2048]⟩

abbrev nBuf : Space → Nat
  | .hbm => 11
  | .vmem => 12
  | .smem => 0
  | _ => 0

abbrev bufTy : (tb : Table) → Fin (tcTables nBuf tb) → BufTy
  | .hbm, ⟨0, _⟩ => ⟨S4096x3072, .bf16⟩
  | .hbm, ⟨1, _⟩ => ⟨S1x2048x3072, .f32⟩
  | .hbm, ⟨2, _⟩ => ⟨S1x4096x2048, .f32⟩
  | .hbm, ⟨3, _⟩ => ⟨S4096x2048, .f32⟩
  | .hbm, ⟨4, _⟩ => ⟨S1x2048, .f32⟩
  | .hbm, ⟨5, _⟩ => ⟨S2048x3072, .f32⟩
  | .hbm, ⟨6, _⟩ => ⟨S3072x2048, .f32⟩
  | .hbm, ⟨7, _⟩ => ⟨S3072x2048, .bf16⟩
  | .hbm, ⟨8, _⟩ => ⟨S4096x2048, .f32⟩
  | .hbm, ⟨9, _⟩ => ⟨S4096x2048, .f32⟩
  | .hbm, ⟨10, _⟩ => ⟨S1x2048, .f32⟩
  | .local _ .vmem, ⟨0, _⟩ => ⟨S256x3072, .bf16⟩
  | .local _ .vmem, ⟨1, _⟩ => ⟨S256x3072, .bf16⟩
  | .local _ .vmem, ⟨2, _⟩ => ⟨S3072x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S8x2048, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![16, 1], ![false, false]⟩

def k0_cond3 (i : grid0.Coords) : BitVec 1 :=
  let arg0 : BitVec 32 := BitVec.ofNat 32 (i 0).val
  let c15_i32 : BitVec 32 := 15#32
  let v74 : BitVec 1 := Scalar.cmpi .eq arg0 c15_i32
  let v75 : BitVec 32 := Scalar.extui v74
  let c0_i32_31 : BitVec 32 := 0#32
  let v76 : BitVec 1 := Scalar.cmpi .ne v75 c0_i32_31
  v76

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3072x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference8Ideal.lean ====
abbrev S4096x3072 : Shape := ⟨2, ![4096, 3072]⟩
abbrev S1x2048x3072 : Shape := ⟨3, ![1, 2048, 3072]⟩
abbrev S1x4096x2048 : Shape := ⟨3, ![1, 4096, 2048]⟩
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S2048x3072 : Shape := ⟨2, ![2048, 3072]⟩

abbrev nBuf : Space → Nat
  | .hbm => 58
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1x2048x3072, .f32⟩
  | .hbm, ⟨2, _⟩ => ⟨S1x4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S2048x3072, .f32⟩
  | .hbm, ⟨28, _⟩ => ⟨S4096x3072, .f32⟩
  | .hbm, ⟨29, _⟩ => ⟨S4096x3072, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S2048, .f32⟩
  | .hbm, ⟨39, _⟩ => ⟨S4096x2048, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S1x2048, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel9.lean ====
abbrev S4096x2048 : Shape := ⟨2, ![4096, 2048]⟩
abbrev S256x2048 : Shape := ⟨2, ![256, 2048]⟩
abbrev S1024x2048 : Shape := ⟨2, ![1024, 2048]⟩
abbrev S1024x512 : Shape := ⟨2, ![1024, 512]⟩
abbrev S256x512 : Shape := ⟨2, ![256, 512]⟩
abbrev S1024x256 : Shape := ⟨2, ![1024, 256]⟩
abbrev S1024 : Shape := ⟨1, ![1024]⟩
abbrev S1024x1 : Shape := ⟨2, ![1024, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S256x2048, .bf16⟩
  | .hbm, ⟨3, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S256x2048, .bf16⟩
  | .local _ .vmem, ⟨4, _⟩ => ⟨S1024x2048, .bf16⟩
  | .local _ .vmem, ⟨5, _⟩ => ⟨S1024x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S4096x2048 : Shape := ⟨2, ![4096, 2048]⟩
abbrev S256x2048 : Shape := ⟨2, ![256, 2048]⟩
abbrev S4096x4x512 : Shape := ⟨3, ![4096, 4, 512]⟩
abbrev S256x4x512 : Shape := ⟨3, ![256, 4, 512]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x512x4096 : Shape := ⟨3, ![4, 512, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S256x2048, .bf16⟩
  | .hbm, ⟨3, _⟩ => ⟨S4096x2048, .f32⟩
  | .hbm, ⟨4, _⟩ => ⟨S256x2048, .f32⟩
  | .hbm, ⟨5, _⟩ => ⟨S256x2048, .f32⟩
  | .hbm, ⟨6, _⟩ => ⟨S4096x4x512, .f32⟩
  | .hbm, ⟨7, _⟩ => ⟨S256x4x512, .f32⟩
  | .hbm, ⟨8, _⟩ => ⟨S256x4x512, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x256, .f32⟩
  | .hbm, ⟨20, _⟩ => ⟨S4x4096x256, .f32⟩
  | .hbm, ⟨21, _⟩ => ⟨S4x4096x256, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x256, .f32⟩
  | .hbm, ⟨26, _⟩ => ⟨S4x4096x256, .f32⟩
  | .hbm, ⟨27, _⟩ => ⟨S4x512x4096, .f32⟩
  | .hbm, ⟨28, _⟩ => ⟨S4096x4x512, .f32⟩
  | .hbm, ⟨29, _⟩ => ⟨S4096x2048, .f32⟩
  | .hbm, ⟨30, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel10.lean ====
abbrev S4096x3072 : Shape := ⟨2, ![4096, 3072]⟩
abbrev S1x4x256x256 : Shape := ⟨4, ![1, 4, 256, 256]⟩
abbrev S1x1024 : Shape := ⟨2, ![1, 1024]⟩
abbrev S1x8x128x128 : Shape := ⟨4, ![1, 8, 128, 128]⟩
abbrev S1x8x128 : Shape := ⟨3, ![1, 8, 128]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S1x128x128 : Shape := ⟨3, ![1, 128, 128]⟩
abbrev S8x128x128 : Shape := ⟨3, ![8, 128, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S4x256x256 : Shape := ⟨3, ![4, 256, 256]⟩
abbrev S4096x2048 : Shape := ⟨2, ![4096, 2048]⟩
abbrev S4096x1024 : Shape := ⟨2, ![4096, 1024]⟩
abbrev S512x3072 : Shape := ⟨2, ![512, 3072]⟩
abbrev S16x1024 : Shape := ⟨2, ![16, 1024]⟩
abbrev S512x2048 : Shape := ⟨2, ![512, 2048]⟩
abbrev S512x1024 : Shape := ⟨2, ![512, 1024]⟩
abbrev S528x1024 : Shape := ⟨2, ![528, 1024]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩
abbrev S512 : Shape := ⟨1, ![512]⟩

abbrev nBuf : Space → Nat
  | .hbm => 65
  | .vmem => 16
  | .smem => 0
  | _ => 0

abbrev bufTy : (tb : Table) → Fin (tcTables nBuf tb) → BufTy
  | .hbm, ⟨0, _⟩ => ⟨S4096x3072, .f32⟩
  | .hbm, ⟨1, _⟩ => ⟨S1x4x256x256, .f32⟩
  | .hbm, ⟨2, _⟩ => ⟨S1x1024, .f32⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S128, .i32⟩
  | .hbm, ⟨7, _⟩ => ⟨S1x128, .i32⟩
  | .hbm, ⟨8, _⟩ => ⟨S_, .i32⟩
  | .hbm, ⟨9, _⟩ => ⟨S_, .i32⟩
  | .hbm, ⟨10, _⟩ => ⟨S1x128, .i32⟩
  | .hbm, ⟨11, _⟩ => ⟨S1x128, .i32⟩
  | .hbm, ⟨12, _⟩ => ⟨S1x128, .i32⟩
  | .hbm, ⟨13, _⟩ => ⟨S_, .i32⟩
  | .hbm, ⟨14, _⟩ => ⟨S1x128, .i32⟩
  | .hbm, ⟨15, _⟩ => ⟨S1x128, .i1⟩
  | .hbm, ⟨16, _⟩ => ⟨S1x128, .i32⟩
  | .hbm, ⟨17, _⟩ => ⟨S1x128, .i32⟩
  | .hbm, ⟨18, _⟩ => ⟨S_, .i32⟩
  | .hbm, ⟨19, _⟩ => ⟨S1x128, .i32⟩
  | .hbm, ⟨20, _⟩ => ⟨S1x128, .i1⟩
  | .hbm, ⟨21, _⟩ => ⟨S1x128, .i1⟩
  | .hbm, ⟨22, _⟩ => ⟨S_, .i32⟩
  | .hbm, ⟨23, _⟩ => ⟨S1x128, .i32⟩
  | .hbm, ⟨24, _⟩ => ⟨S1x128, .i32⟩
  | .hbm, ⟨25, _⟩ => ⟨S1x128, .i32⟩
  | .hbm, ⟨26, _⟩ => ⟨S128x1, .i32⟩
  | .hbm, ⟨27, _⟩ => ⟨S_, .i32⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S128x1, .i32⟩
  | .hbm, ⟨32, _⟩ => ⟨S_, .i32⟩
  | .hbm, ⟨33, _⟩ => ⟨S128x1, .i32⟩
  | .hbm, ⟨34, _⟩ => ⟨S128x1, .i1⟩
  | .hbm, ⟨35, _⟩ => ⟨S128x1, .i32⟩
  | .hbm, ⟨36, _⟩ => ⟨S128x1, .i32⟩
  | .hbm, ⟨37, _⟩ => ⟨S_, .i32⟩
  | .hbm, ⟨38, _⟩ => ⟨S128x1, .i32⟩
  | .hbm, ⟨39, _⟩ => ⟨S128x1, .i1⟩
  | .hbm, ⟨40, _⟩ => ⟨S128x1, .i1⟩
  | .hbm, ⟨41, _⟩ => ⟨S_, .i32⟩
  | .hbm, ⟨42, _⟩ => ⟨S128x1, .i32⟩
  | .hbm, ⟨43, _⟩ => ⟨S128x1, .i32⟩
  | .hbm, ⟨44, _⟩ => ⟨S128x1, .i32⟩
  | .hbm, ⟨45, _⟩ => ⟨S128x128, .i32⟩
  | .hbm, ⟨46, _⟩ => ⟨S128x128, .i32⟩
  | .hbm, ⟨47, _⟩ => ⟨S128x128, .i1⟩
  | .hbm, ⟨48, _⟩ => ⟨S1x128x128, .i1⟩
  | .hbm, ⟨49, _⟩ => ⟨S8x128x128, .f32⟩
  | .hbm, ⟨50, _⟩ => ⟨S_, .f32⟩
  | .hbm, ⟨51, _⟩ => ⟨S_, .f32⟩
  | .hbm, ⟨52, _⟩ => ⟨S8x128x128, .i1⟩
  | .hbm, ⟨53, _⟩ => ⟨S8x128x128, .f32⟩
  | .hbm, ⟨54, _⟩ => ⟨S8x128x128, .f32⟩
  | .hbm, ⟨55, _⟩ => ⟨S8x128x128, .bf16⟩
  | .hbm, ⟨56, _⟩ => ⟨S8x128, .f32⟩
  | .hbm, ⟨57, _⟩ => ⟨S128x8, .f32⟩
  | .hbm, ⟨58, _⟩ => ⟨S128x8x128, .f32⟩
  | .hbm, ⟨59, _⟩ => ⟨S128x1024, .f32⟩
  | .hbm, ⟨60, _⟩ => ⟨S4x256x256, .f32⟩
  | .hbm, ⟨61, _⟩ => ⟨S4x256x256, .bf16⟩
  | .hbm, ⟨62, _⟩ => ⟨S4096x2048, .bf16⟩
  | .hbm, ⟨63, _⟩ => ⟨S4096x1024, .bf16⟩
  | .hbm, ⟨64, _⟩ => ⟨S4096x1024, .bf16⟩
  | .local _ .vmem, ⟨0, _⟩ => ⟨S512x3072, .f32⟩
  | .local _ .vmem, ⟨1, _⟩ => ⟨S512x3072, .f32⟩
  | .local _ .vmem, ⟨2, _⟩ => ⟨S16x1024, .f32⟩
  | .local _ .vmem, ⟨3, _⟩ => ⟨S16x1024, .f32⟩
  | .local _ .vmem, ⟨4, _⟩ => ⟨S4x256x256, .bf16⟩
  | .local _ .vmem, ⟨5, _⟩ => ⟨S1x1024, .f32⟩
  | .local _ .vmem, ⟨6, _⟩ => ⟨S1x1024, .f32⟩
  | .local _ .vmem, ⟨7, _⟩ => ⟨S8x128x128, .bf16⟩
  | .local _ .vmem, ⟨8, _⟩ => ⟨S128x1024, .f32⟩
  | .local _ .vmem, ⟨9, _⟩ => ⟨S512x2048, .bf16⟩
  | .local _ .vmem, ⟨10, _⟩ => ⟨S512x2048, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S528x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_v3 : Ref sig .tc := ⟨.hbm, 26, rfl⟩
abbrev main_c_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_cst : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18_0 : Ref sig .tc := ⟨.hbm, 62, rfl⟩
abbrev main_v18_1 : Ref sig .tc := ⟨.hbm, 63, rfl⟩
abbrev main_v18_2 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference10Ideal.lean ====
abbrev S4096x3072 : Shape := ⟨2, ![4096, 3072]⟩
abbrev S1x4x256x256 : Shape := ⟨4, ![1, 4, 256, 256]⟩
abbrev S1x1024 : Shape := ⟨2, ![1, 1024]⟩
abbrev S1x8x128x128 : Shape := ⟨4, ![1, 8, 128, 128]⟩
abbrev S1x8x128 : Shape := ⟨3, ![1, 8, 128]⟩
abbrev S1x4096x3072 : Shape := ⟨3, ![1, 4096, 3072]⟩
abbrev S1x4096x1024 : Shape := ⟨3, ![1, 4096, 1024]⟩
abbrev S4x256x256 : Shape := ⟨3, ![4, 256, 256]⟩
abbrev S1024 : Shape := ⟨1, ![1024]⟩
abbrev S_ : Shape := ⟨0, ![]⟩
abbrev S4096 : Shape := ⟨1, ![4096]⟩
abbrev S1x4096x1 : Shape := ⟨3, ![1, 4096, 1]⟩
abbrev S1x4096x256 : Shape := ⟨3, ![1, 4096, 256]⟩
abbrev S1x2x256 : Shape := ⟨3, ![1, 2, 256]⟩
abbrev S1x4094x256 : Shape := ⟨3, ![1, 4094, 256]⟩
abbrev S1x4x256 : Shape := ⟨3, ![1, 4, 256]⟩
abbrev S1x4092x256 : Shape := ⟨3, ![1, 4092, 256]⟩
abbrev S1x8x256 : Shape := ⟨3, ![1, 8, 256]⟩
abbrev S1x4088x256 : Shape := ⟨3, ![1, 4088, 256]⟩
abbrev S1x16x256 : Shape := ⟨3, ![1, 16, 256]⟩
abbrev S1x4080x256 : Shape := ⟨3, ![1, 4080, 256]⟩
abbrev S1x4096x1x256 : Shape := ⟨4, ![1, 4096, 1, 256]⟩
abbrev S1x4096x4x256 : Shape := ⟨4, ![1, 4096, 4, 256]⟩
abbrev S4x256x1x4096 : Shape := ⟨4, ![4, 256, 1, 4096]⟩
abbrev S1x1x1024 : Shape := ⟨3, ![1, 1, 1024]⟩
abbrev S1x4096x2048 : Shape := ⟨3, ![1, 4096, 2048]⟩
abbrev S8x128x128 : Shape := ⟨3, ![8, 128, 128]⟩
abbrev S8x128 : Shape := ⟨2, ![8, 128]⟩
abbrev S1x4096 : Shape := ⟨2, ![1, 4096]⟩
abbrev S1x32x128x8x128 : Shape := ⟨5, ![1, 32, 128, 8, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩
abbrev S4096x2048 : Shape := ⟨2, ![4096, 2048]⟩
abbrev S4096x1024 : Shape := ⟨2, ![4096, 1024]⟩
abbrev S4096x4x256 : Shape := ⟨3, ![4096, 4, 256]⟩
abbrev S4096x1 : Shape := ⟨2, ![4096, 1]⟩

abbrev nBuf : Space → Nat
  | .hbm => 260
  | .vmem => 0
  | .smem => 0
  | _ => 0

abbrev hbmTy0_0 (i : Nat) : BufTy := match i % 128 with
  | 0 => ⟨S4096x3072, .f32⟩
  | 1 => ⟨S1x4x256x256, .f32⟩
  | 2 => ⟨S1x1024, .f32⟩
  | 3 => ⟨S1x1024, .f32⟩
  | 4 => ⟨S1x8x128x128, .f32⟩
  | 5 => ⟨S1x8x128, .f32⟩
  | 6 => ⟨S1x4096x3072, .f32⟩
  | 7 => ⟨S1x4096x1024, .f32⟩
  | 8 => ⟨S4x256x256, .f32⟩
  | 9 => ⟨S1024, .f32⟩
  | 10 => ⟨S_, .f32⟩
  | 11 => ⟨S_, .f32⟩
  | 12 => ⟨S1x4096x1024, .f32⟩
  | 13 => ⟨S4096, .f32⟩
  | 14 => ⟨S_, .f32⟩
  | 15 => ⟨S4096, .f32⟩
  | 16 => ⟨S4096, .f32⟩
  | 17 => ⟨S1x4096x1, .f32⟩
  | 18 => ⟨S1x4096x256, .f32⟩
  | 19 => ⟨S1x2x256, .f32⟩
  | 20 => ⟨S_, .f32⟩
  | 21 => ⟨S1x2x256, .f32⟩
  | 22 => ⟨S1x4094x256, .f32⟩
  | 23 => ⟨S1x4096x256, .f32⟩
  | 24 => ⟨S1x4096x256, .f32⟩
  | 25 => ⟨S_, .f32⟩
  | 26 => ⟨S1x4096x1, .f32⟩
  | 27 => ⟨S1x4096x1, .f32⟩
  | 28 => ⟨S1x4096x256, .f32⟩
  | 29 => ⟨S1x4096x256, .f32⟩
  | 30 => ⟨S1x4096x256, .f32⟩
  | 31 => ⟨S1x4096x256, .f32⟩
  | 32 => ⟨S1x4096x256, .f32⟩
  | 33 => ⟨S1x4x256, .f32⟩
  | 34 => ⟨S_, .f32⟩
  | 35 => ⟨S1x4x256, .f32⟩
  | 36 => ⟨S1x4092x256, .f32⟩
  | 37 => ⟨S1x4096x256, .f32⟩
  | 38 => ⟨S1x4096x256, .f32⟩
  | 39 => ⟨S_, .f32⟩
  | 40 => ⟨S1x4096x1, .f32⟩
  | 41 => ⟨S1x4096x1, .f32⟩
  | 42 => ⟨S1x4096x256, .f32⟩
  | 43 => ⟨S1x4096x256, .f32⟩
  | 44 => ⟨S1x4096x256, .f32⟩
  | 45 => ⟨S1x4096x256, .f32⟩
  | 46 => ⟨S1x4096x256, .f32⟩
  | 47 => ⟨S1x8x256, .f32⟩
  | 48 => ⟨S_, .f32⟩
  | 49 => ⟨S1x8x256, .f32⟩
  | 50 => ⟨S1x4088x256, .f32⟩
  | 51 => ⟨S1x4096x256, .f32⟩
  | 52 => ⟨S1x4096x256, .f32⟩
  | 53 => ⟨S_, .f32⟩
  | 54 => ⟨S1x4096x1, .f32⟩
  | 55 => ⟨S1x4096x1, .f32⟩
  | 56 => ⟨S1x4096x256, .f32⟩
  | 57 => ⟨S1x4096x256, .f32⟩
  | 58 => ⟨S1x4096x256, .f32⟩
  | 59 => ⟨S1x4096x256, .f32⟩
  | 60 => ⟨S1x4096x256, .f32⟩
  | 61 => ⟨S1x16x256, .f32⟩
  | 62 => ⟨S_, .f32⟩
  | 63 => ⟨S1x16x256, .f32⟩
  | 64 => ⟨S1x4080x256, .f32⟩
  | 65 => ⟨S1x4096x256, .f32⟩
  | 66 => ⟨S1x4096x256, .f32⟩
  | 67 => ⟨S_, .f32⟩
  | 68 => ⟨S1x4096x1, .f32⟩
  | 69 => ⟨S1x4096x1, .f32⟩
  | 70 => ⟨S1x4096x256, .f32⟩
  | 71 => ⟨S1x4096x256, .f32⟩
  | 72 => ⟨S1x4096x256, .f32⟩
  | 73 => ⟨S1x4096x256, .f32⟩
  | 74 => ⟨S1x4096x1x256, .f32⟩
  | 75 => ⟨S1x4096x1x256, .f32⟩
  | 76 => ⟨S1x4096x1x256, .f32⟩
  | 77 => ⟨S1x4096x1x256, .f32⟩
  | 78 => ⟨S1x4096x4x256, .f32⟩
  | 79 => ⟨S4x256x1x4096, .f32⟩
  | 80 => ⟨S1x4096x4x256, .f32⟩
  | 81 => ⟨S1x4096x1024, .f32⟩
  | 82 => ⟨S1x1x1024, .f32⟩
  | 83 => ⟨S1x4096x1024, .f32⟩
  | 84 => ⟨S1x4096x1024, .f32⟩
  | 85 => ⟨S1x4096x2048, .f32⟩
  | 86 => ⟨S1024, .f32⟩
  | 87 => ⟨S8x128x128, .f32⟩
  | 88 => ⟨S8x128, .f32⟩
  | 89 => ⟨S1x4096x1024, .f32⟩
  | 90 => ⟨S1x4096x1024, .f32⟩
  | 91 => ⟨S1x4096x1024, .f32⟩
  | 92 => ⟨S_, .f32⟩
  | 93 => ⟨S1x4096, .f32⟩
  | 94 => ⟨S1x4096x1, .f32⟩
  | 95 => ⟨S_, .f32⟩
  | 96 => ⟨S1x4096x1, .f32⟩
  | 97 => ⟨S1x4096x1, .f32⟩
  | 98 => ⟨S_, .f32⟩
  | 99 => ⟨S1x4096x1, .f32⟩
  | 100 => ⟨S1x4096x1, .f32⟩
  | 101 => ⟨S1x4096x1, .f32⟩
  | 102 => ⟨S1x4096x1024, .f32⟩
  | 103 => ⟨S1x4096x1024, .f32⟩
  | 104 => ⟨S1x1x1024, .f32⟩
  | 105 => ⟨S1x4096x1024, .f32⟩
  | 106 => ⟨S1x4096x1024, .f32⟩
  | 107 => ⟨S1x32x128x8x128, .f32⟩
  | 108 => ⟨S128, .i32⟩
  | 109 => ⟨S1x128, .i32⟩
  | 110 => ⟨S_, .i32⟩
  | 111 => ⟨S_, .i32⟩
  | 112 => ⟨S1x128, .i32⟩
  | 113 => ⟨S1x128, .i32⟩
  | 114 => ⟨S1x128, .i32⟩
  | 115 => ⟨S_, .i32⟩
  | 116 => ⟨S1x128, .i32⟩
  | 117 => ⟨S1x128, .i1⟩
  | 118 => ⟨S1x128, .i32⟩
  | 119 => ⟨S1x128, .i32⟩
  | 120 => ⟨S_, .i32⟩
  | 121 => ⟨S1x128, .i32⟩
  | 122 => ⟨S1x128, .i1⟩
  | 123 => ⟨S1x128, .i1⟩
  | 124 => ⟨S_, .i32⟩
  | 125 => ⟨S1x128, .i32⟩
  | 126 => ⟨S1x128, .i32⟩
  | 127 => ⟨S1x128, .i32⟩
  | _ => ⟨S4096x3072, .f32⟩

abbrev hbmTy0_1 (i : Nat) : BufTy := match i % 128 with
  | 0 => ⟨S128x1, .i32⟩
  | 1 => ⟨S_, .i32⟩
  | 2 => ⟨S_, .i32⟩
  | 3 => ⟨S128x1, .i32⟩
  | 4 => ⟨S128x1, .i32⟩
  | 5 => ⟨S128x1, .i32⟩
  | 6 => ⟨S_, .i32⟩
  | 7 => ⟨S128x1, .i32⟩
  | 8 => ⟨S128x1, .i1⟩
  | 9 => ⟨S128x1, .i32⟩
  | 10 => ⟨S128x1, .i32⟩
  | 11 => ⟨S_, .i32⟩
  | 12 => ⟨S128x1, .i32⟩
  | 13 => ⟨S128x1, .i1⟩
  | 14 => ⟨S128x1, .i1⟩
  | 15 => ⟨S_, .i32⟩
  | 16 => ⟨S128x1, .i32⟩
  | 17 => ⟨S128x1, .i32⟩
  | 18 => ⟨S128x1, .i32⟩
  | 19 => ⟨S128x128, .i32⟩
  | 20 => ⟨S128x128, .i32⟩
  | 21 => ⟨S128x128, .i1⟩
  | 22 => ⟨S1x128x128, .i1⟩
  | 23 => ⟨S_, .f32⟩
  | 24 => ⟨S_, .f32⟩
  | 25 => ⟨S8x128x128, .i1⟩
  | 26 => ⟨S8x128x128, .f32⟩
  | 27 => ⟨S8x128x128, .f32⟩
  | 28 => ⟨S8x1x32x128x128, .f32⟩
  | 29 => ⟨S1x32x128x8x128, .f32⟩
  | 30 => ⟨S128x8, .f32⟩
  | 31 => ⟨S1x1x128x8x1, .f32⟩
  | 32 => ⟨S1x32x128x8x128, .f32⟩
  | 33 => ⟨S1x32x128x8x128, .f32⟩
  | 34 => ⟨S1x4096x1024, .f32⟩
  | 35 => ⟨S1x4096x1024, .f32⟩
  | 36 => ⟨S1x4096x2048, .f32⟩
  | 37 => ⟨S4096x2048, .f32⟩
  | 38 => ⟨S4096x1024, .f32⟩
  | 39 => ⟨S1x4096x1024, .f32⟩
  | 40 => ⟨S_, .f32⟩
  | 41 => ⟨S_, .f32⟩
  | 42 => ⟨S1x4096x1024, .f32⟩
  | 43 => ⟨S4096, .f32⟩
  | 44 => ⟨S_, .f32⟩
  | 45 => ⟨S4096, .f32⟩
  | 46 => ⟨S4096, .f32⟩
  | 47 => ⟨S1x4096x1, .f32⟩
  | 48 => ⟨S1x4096x256, .f32⟩
  | 49 => ⟨S1x2x256, .f32⟩
  | 50 => ⟨S_, .f32⟩
  | 51 => ⟨S1x2x256, .f32⟩
  | 52 => ⟨S1x4094x256, .f32⟩
  | 53 => ⟨S1x4096x256, .f32⟩
  | 54 => ⟨S1x4096x256, .f32⟩
  | 55 => ⟨S_, .f32⟩
  | 56 => ⟨S1x4096x1, .f32⟩
  | 57 => ⟨S1x4096x1, .f32⟩
  | 58 => ⟨S1x4096x256, .f32⟩
  | 59 => ⟨S1x4096x256, .f32⟩
  | 60 => ⟨S1x4096x256, .f32⟩
  | 61 => ⟨S1x4096x256, .f32⟩
  | 62 => ⟨S1x4096x256, .f32⟩
  | 63 => ⟨S1x4x256, .f32⟩
  | 64 => ⟨S_, .f32⟩
  | 65 => ⟨S1x4x256, .f32⟩
  | 66 => ⟨S1x4092x256, .f32⟩
  | 67 => ⟨S1x4096x256, .f32⟩
  | 68 => ⟨S1x4096x256, .f32⟩
  | 69 => ⟨S_, .f32⟩
  | 70 => ⟨S1x4096x1, .f32⟩
  | 71 => ⟨S1x4096x1, .f32⟩
  | 72 => ⟨S1x4096x256, .f32⟩
  | 73 => ⟨S1x4096x256, .f32⟩
  | 74 => ⟨S1x4096x256, .f32⟩
  | 75 => ⟨S1x4096x256, .f32⟩
  | 76 => ⟨S1x4096x256, .f32⟩
  | 77 => ⟨S1x8x256, .f32⟩
  | 78 => ⟨S_, .f32⟩
  | 79 => ⟨S1x8x256, .f32⟩
  | 80 => ⟨S1x4088x256, .f32⟩
  | 81 => ⟨S1x4096x256, .f32⟩
  | 82 => ⟨S1x4096x256, .f32⟩
  | 83 => ⟨S_, .f32⟩
  | 84 => ⟨S1x4096x1, .f32⟩
  | 85 => ⟨S1x4096x1, .f32⟩
  | 86 => ⟨S1x4096x256, .f32⟩
  | 87 => ⟨S1x4096x256, .f32⟩
  | 88 => ⟨S1x4096x256, .f32⟩
  | 89 => ⟨S1x4096x256, .f32⟩
  | 90 => ⟨S1x4096x256, .f32⟩
  | 91 => ⟨S1x16x256, .f32⟩
  | 92 => ⟨S_, .f32⟩
  | 93 => ⟨S1x16x256, .f32⟩
  | 94 => ⟨S1x4080x256, .f32⟩
  | 95 => ⟨S1x4096x256, .f32⟩
  | 96 => ⟨S1x4096x256, .f32⟩
  | 97 => ⟨S_, .f32⟩
  | 98 => ⟨S1x4096x1, .f32⟩
  | 99 => ⟨S1x4096x1, .f32⟩
  | 100 => ⟨S1x4096x256, .f32⟩
  | 101 => ⟨S1x4096x256, .f32⟩
  | 102 => ⟨S1x4096x256, .f32⟩
  | 103 => ⟨S1x4096x256, .f32⟩
  | 104 => ⟨S1x4096x1x256, .f32⟩
  | 105 => ⟨S1x4096x1x256, .f32⟩
  | 106 => ⟨S1x4096x1x256, .f32⟩
  | 107 => ⟨S1x4096x1x256, .f32⟩
  | 108 => ⟨S1x4096x4x256, .f32⟩
  | 109 => ⟨S4096x4x256, .f32⟩
  | 110 => ⟨S4096x1024, .f32⟩
  | 111 => ⟨S4096x1024, .f32⟩
  | 112 => ⟨S1024, .f32⟩
  | 113 => ⟨S4096x1024, .f32⟩
  | 114 => ⟨S_, .f32⟩
  | 115 => ⟨S4096, .f32⟩
  | 116 => ⟨S4096x1, .f32⟩
  | 117 => ⟨S_, .f32⟩
  | 118 => ⟨S4096x1, .f32⟩
  | 119 => ⟨S4096x1, .f32⟩
  | 120 => ⟨S_, .f32⟩
  | 121 => ⟨S4096x1, .f32⟩
  | 122 => ⟨S4096x1, .f32⟩
  | 123 => ⟨S4096x1, .f32⟩
  | 124 => ⟨S4096x1024, .f32⟩
  | 125 => ⟨S4096x1024, .f32⟩
  | 126 => ⟨S1x1024, .f32⟩
  | 127 => ⟨S4096x1024, .f32⟩
  | _ => ⟨S4096x3072, .f32⟩

abbrev hbmTy0_2 (i : Nat) : BufTy := match i % 128 with
  | 0 => ⟨S4096x1024, .f32⟩
  | 1 => ⟨S4096x2048, .bf16⟩
  | 2 => ⟨S4096x1024, .bf16⟩
  | 3 => ⟨S4096x1024, .bf16⟩
  | _ => ⟨S4096x3072, .f32⟩

abbrev hbmTy (i : Nat) : BufTy := match i / 128 with
  | 0 => hbmTy0_0 i
  | 1 => hbmTy0_1 i
  | 2 => hbmTy0_2 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_call0_cst : Ref sig .tc := ⟨.hbm, 10, rfl⟩
abbrev main_call0_call0_v0 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_8 : Ref sig .tc := ⟨.hbm, 92, rfl⟩
abbrev main_v75 : Ref sig .tc := ⟨.hbm, 93, rfl⟩
abbrev main_v76 : Ref sig .tc := ⟨.hbm, 94, rfl⟩
abbrev main_cst_9 : Ref sig .tc := ⟨.hbm, 95, rfl⟩
abbrev main_v77 : Ref sig .tc := ⟨.hbm, 96, rfl⟩
abbrev main_v78 : Ref sig .tc := ⟨.hbm, 97, rfl⟩
abbrev main_cst_10 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_c : Ref sig .tc := ⟨.hbm, 110, rfl⟩
abbrev main_call1_v0 : Ref sig .tc := ⟨.hbm, 111, rfl⟩
abbrev main_call1_v1 : Ref sig .tc := ⟨.hbm, 112, rfl⟩
abbrev main_call1_v2 : Ref sig .tc := ⟨.hbm, 113, rfl⟩
abbrev main_call1_v3 : Ref sig .tc := ⟨.hbm, 114, rfl⟩
abbrev main_call1_v4 : Ref sig .tc := ⟨.hbm, 115, rfl⟩
abbrev main_call1_v5 : Ref sig .tc := ⟨.hbm, 116, rfl⟩
abbrev main_call1_v6 : Ref sig .tc := ⟨.hbm, 117, rfl⟩
abbrev main_call1_v7 : Ref sig .tc := ⟨.hbm, 118, rfl⟩
abbrev main_call1_v8 : Ref sig .tc := ⟨.hbm, 119, rfl⟩
abbrev main_call1_c : Ref sig .tc := ⟨.hbm, 120, rfl⟩
abbrev main_call1_v9 : Ref sig .tc := ⟨.hbm, 121, rfl⟩
abbrev main_call1_v10 : Ref sig .tc := ⟨.hbm, 122, rfl⟩
abbrev main_call1_v11 : Ref sig .tc := ⟨.hbm, 123, rfl⟩
abbrev main_call1_c_0 : Ref sig .tc := ⟨.hbm, 124, rfl⟩
abbrev main_call1_v12 : Ref sig .tc := ⟨.hbm, 125, rfl⟩
abbrev main_call1_v13 : Ref sig .tc := ⟨.hbm, 126, rfl⟩
abbrev main_v90 : Ref sig .tc := ⟨.hbm, 127, rfl⟩
abbrev main_v91 : Ref sig .tc := ⟨.hbm, 128, rfl⟩
abbrev main_c_11 : Ref sig .tc := ⟨.hbm, 129, rfl⟩
abbrev main_call2_v0 : Ref sig .tc := ⟨.hbm, 130, rfl⟩
abbrev main_call2_v1 : Ref sig .tc := ⟨.hbm, 131, rfl⟩
abbrev main_call2_v2 : Ref sig .tc := ⟨.hbm, 132, rfl⟩
abbrev main_call2_v3 : Ref sig .tc := ⟨.hbm, 133, rfl⟩
abbrev main_call2_v4 : Ref sig .tc := ⟨.hbm, 134, rfl⟩
abbrev main_call2_v5 : Ref sig .tc := ⟨.hbm, 135, rfl⟩
abbrev main_call2_v6 : Ref sig .tc := ⟨.hbm, 136, rfl⟩
abbrev main_call2_v7 : Ref sig .tc := ⟨.hbm, 137, rfl⟩
abbrev main_call2_v8 : Ref sig .tc := ⟨.hbm, 138, rfl⟩
abbrev main_call2_c : Ref sig .tc := ⟨.hbm, 139, rfl⟩
abbrev main_call2_v9 : Ref sig .tc := ⟨.hbm, 140, rfl⟩
abbrev main_call2_v10 : Ref sig .tc := ⟨.hbm, 141, rfl⟩
abbrev main_call2_v11 : Ref sig .tc := ⟨.hbm, 142, rfl⟩
abbrev main_call2_c_0 : Ref sig .tc := ⟨.hbm, 143, rfl⟩
abbrev main_call2_v12 : Ref sig .tc := ⟨.hbm, 144, rfl⟩
abbrev main_call2_v13 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_cst_12 : Ref sig .tc := ⟨.hbm, 151, rfl⟩
abbrev main_call3_v0 : Ref sig .tc := ⟨.hbm, 152, rfl⟩
abbrev main_call3_v1 : Ref sig .tc := ⟨.hbm, 153, rfl⟩
abbrev main_call3_v2 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_call4_call0_cst : Ref sig .tc := ⟨.hbm, 168, rfl⟩
abbrev main_call4_call0_v0 : Ref sig .tc := ⟨.hbm, 169, rfl⟩
abbrev main_v110 : Ref sig .tc := ⟨.hbm, 170, rfl⟩
abbrev main_v111 : Ref sig .tc := ⟨.hbm, 171, rfl⟩
abbrev main_cst_13 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_cst_14 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_cst_15 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_cst_16 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_cst_17 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_cst_18 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_cst_19 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_cst_20 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_cst_21 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_cst_22 : Ref sig .tc := ⟨.hbm, 242, rfl⟩
abbrev main_v173 : Ref sig .tc := ⟨.hbm, 243, rfl⟩
abbrev main_v174 : Ref sig .tc := ⟨.hbm, 244, rfl⟩
abbrev main_cst_23 : Ref sig .tc := ⟨.hbm, 245, rfl⟩
abbrev main_v175 : Ref sig .tc := ⟨.hbm, 246, rfl⟩
abbrev main_v176 : Ref sig .tc := ⟨.hbm, 247, rfl⟩
abbrev main_cst_24 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩

abbrev nD : Nat := 1
abbrev τ : Topo := Topo.v7x

variable {F : FTy → Type} [FloatOps F]
-- ==== Kernel11.lean ====
abbrev S4096x2048 : Shape := ⟨2, ![4096, 2048]⟩
abbrev S1x2048x5632 : Shape := ⟨3, ![1, 2048, 5632]⟩
abbrev S4096x5632 : Shape := ⟨2, ![4096, 5632]⟩
abbrev S2048x5632 : Shape := ⟨2, ![2048, 5632]⟩
abbrev S5632x2048 : Shape := ⟨2, ![5632, 2048]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 9
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S1x2048x5632, .f32⟩
  | .hbm, ⟨2, _⟩ => ⟨S4096x5632, .f32⟩
  | .hbm, ⟨3, _⟩ => ⟨S2048x5632, .f32⟩
  | .hbm, ⟨4, _⟩ => ⟨S5632x2048, .f32⟩
  | .hbm, ⟨5, _⟩ => ⟨S5632x2048, .bf16⟩
  | .hbm, ⟨6, _⟩ => ⟨S4096x5632, .bf16⟩
  | .hbm, ⟨7, _⟩ => ⟨S4096x5632, .bf16⟩
  | .hbm, ⟨8, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference11Ideal.lean ====
abbrev S4096x2048 : Shape := ⟨2, ![4096, 2048]⟩
abbrev S1x2048x5632 : Shape := ⟨3, ![1, 2048, 5632]⟩
abbrev S4096x5632 : Shape := ⟨2, ![4096, 5632]⟩
abbrev S2048x5632 : Shape := ⟨2, ![2048, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x5632, .f32⟩
  | .hbm, ⟨2, _⟩ => ⟨S4096x5632, .f32⟩
  | .hbm, ⟨3, _⟩ => ⟨S4096x2048, .f32⟩
  | .hbm, ⟨4, _⟩ => ⟨S2048x5632, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .bf16⟩
  | .hbm, ⟨17, _⟩ => ⟨S4096x5632, .bf16⟩
  | .hbm, ⟨18, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel12.lean ====
abbrev S4096x2048 : Shape := ⟨2, ![4096, 2048]⟩
abbrev S1x2048x2048 : Shape := ⟨3, ![1, 2048, 2048]⟩
abbrev S1x4096x2048 : Shape := ⟨3, ![1, 4096, 2048]⟩
abbrev S1x2048 : Shape := ⟨2, ![1, 2048]⟩
abbrev S2048x2048 : Shape := ⟨2, ![2048, 2048]⟩
abbrev S512x2048 : Shape := ⟨2, ![512, 2048]⟩
abbrev S128x2048 : Shape := ⟨2, ![128, 2048]⟩
abbrev S128 : Shape := ⟨1, ![128]⟩
abbrev S128x1 : Shape := ⟨2, ![128, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .f32⟩
  | .hbm, ⟨2, _⟩ => ⟨S1x4096x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S4096x2048, .f32⟩
  | .hbm, ⟨7, _⟩ => ⟨S4096x2048, .f32⟩
  | .hbm, ⟨8, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference12Ideal.lean ====
abbrev S4096x2048 : Shape := ⟨2, ![4096, 2048]⟩
abbrev S1x2048x2048 : Shape := ⟨3, ![1, 2048, 2048]⟩
abbrev S1x4096x2048 : Shape := ⟨3, ![1, 4096, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .f32⟩
  | .hbm, ⟨2, _⟩ => ⟨S1x4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S2048x2048, .f32⟩
  | .hbm, ⟨7, _⟩ => ⟨S4096x2048, .f32⟩
  | .hbm, ⟨8, _⟩ => ⟨S4096x2048, .f32⟩
  | .hbm, ⟨9, _⟩ => ⟨S2048, .f32⟩
  | .hbm, ⟨10, _⟩ => ⟨S4096x2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel13.lean ====
abbrev S1x4096x2048 : Shape := ⟨3, ![1, 4096, 2048]⟩
abbrev S1x2048 : Shape := ⟨2, ![1, 2048]⟩
abbrev S4096x2048 : Shape := ⟨2, ![4096, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S1x4096x2048, .f32⟩
  | .hbm, ⟨1, _⟩ => ⟨S1x2048, .f32⟩
  | .hbm, ⟨2, _⟩ => ⟨S4096x2048, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S1x4096x2048 : Shape := ⟨3, ![1, 4096, 2048]⟩
abbrev S1x2048 : Shape := ⟨2, ![1, 2048]⟩
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 21
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S1x2048, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S4096x2048, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel14.lean ====
abbrev S4096x5632 : Shape := ⟨2, ![4096, 5632]⟩
abbrev S1x2048x5632 : Shape := ⟨3, ![1, 2048, 5632]⟩
abbrev S2048x5632 : Shape := ⟨2, ![2048, 5632]⟩
abbrev S5632x2048 : Shape := ⟨2, ![5632, 2048]⟩
abbrev S4096x2048 : Shape := ⟨2, ![4096, 2048]⟩
abbrev S512x5632 : Shape := ⟨2, ![512, 5632]⟩
abbrev S5632x512 : Shape := ⟨2, ![5632, 512]⟩
abbrev S512x512 : Shape := ⟨2, ![512, 512]⟩

abbrev nBuf : Space → Nat
  | .hbm => 11
  | .vmem => 10
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S1x2048x5632, .f32⟩
  | .hbm, ⟨3, _⟩ => ⟨S1x2048x5632, .f32⟩
  | .hbm, ⟨4, _⟩ => ⟨S2048x5632, .f32⟩
  | .hbm, ⟨5, _⟩ => ⟨S5632x2048, .f32⟩
  | .hbm, ⟨6, _⟩ => ⟨S5632x2048, .bf16⟩
  | .hbm, ⟨7, _⟩ => ⟨S2048x5632, .f32⟩
  | .hbm, ⟨8, _⟩ => ⟨S5632x2048, .f32⟩
  | .hbm, ⟨9, _⟩ => ⟨S5632x2048, .bf16⟩
  | .hbm, ⟨10, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S512x5632, .bf16⟩
  | .local _ .vmem, ⟨3, _⟩ => ⟨S512x5632, .bf16⟩
  | .local _ .vmem, ⟨4, _⟩ => ⟨S5632x512, .bf16⟩
  | .local _ .vmem, ⟨5, _⟩ => ⟨S5632x512, .bf16⟩
  | .local _ .vmem, ⟨6, _⟩ => ⟨S5632x512, .bf16⟩
  | .local _ .vmem, ⟨7, _⟩ => ⟨S5632x512, .bf16⟩
  | .local _ .vmem, ⟨8, _⟩ => ⟨S512x512, .f32⟩
  | .local _ .vmem, ⟨9, _⟩ => ⟨S512x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S5632x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S5632x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference14Ideal.lean ====
abbrev S4096x5632 : Shape := ⟨2, ![4096, 5632]⟩
abbrev S1x2048x5632 : Shape := ⟨3, ![1, 2048, 5632]⟩
abbrev S2048x5632 : Shape := ⟨2, ![2048, 5632]⟩
abbrev S5632x2048 : Shape := ⟨2, ![5632, 2048]⟩
abbrev S4096x2048 : Shape := ⟨2, ![4096, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S1x2048x5632, .f32⟩
  | .hbm, ⟨3, _⟩ => ⟨S1x2048x5632, .f32⟩
  | .hbm, ⟨4, _⟩ => ⟨S4096x5632, .f32⟩
  | .hbm, ⟨5, _⟩ => ⟨S2048x5632, .f32⟩
  | .hbm, ⟨6, _⟩ => ⟨S5632x2048, .f32⟩
  | .hbm, ⟨7, _⟩ => ⟨S4096x2048, .f32⟩
  | .hbm, ⟨8, _⟩ => ⟨S4096x5632, .f32⟩
  | .hbm, ⟨9, _⟩ => ⟨S2048x5632, .f32⟩
  | .hbm, ⟨10, _⟩ => ⟨S5632x2048, .f32⟩
  | .hbm, ⟨11, _⟩ => ⟨S4096x2048, .f32⟩
  | .hbm, ⟨12, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel15.lean ====
abbrev S4x2x704x2048 : Shape := ⟨4, ![4, 2, 704, 2048]⟩
abbrev S4x704x2048 : Shape := ⟨3, ![4, 704, 2048]⟩
abbrev S_ : Shape := ⟨0, ![]⟩
abbrev S2 : Shape := ⟨1, ![2]⟩
abbrev S1x1x704x2048 : Shape := ⟨4, ![1, 1, 704, 2048]⟩
abbrev S1 : Shape := ⟨1, ![1]⟩
abbrev S1x704x2048 : Shape := ⟨3, ![1, 704, 2048]⟩
abbrev S704x2048 : Shape := ⟨2, ![704, 2048]⟩

abbrev nBuf : Space → Nat
  | .hbm => 4
  | .vmem => 6
  | .smem => 1
  | _ => 0

abbrev bufTy : (tb : Table) → Fin (tcTables nBuf tb) → BufTy
  | .hbm, ⟨0, _⟩ => ⟨S4x2x704x2048, .bf16⟩
  | .hbm, ⟨1, _⟩ => ⟨S4x704x2048, .bf16⟩
  | .hbm, ⟨2, _⟩ => ⟨S_, .i32⟩
  | .hbm, ⟨3, _⟩ => ⟨S4x704x2048, .bf16⟩
  | .local _ .vmem, ⟨0, _⟩ => ⟨S1x1x704x2048, .bf16⟩
  | .local _ .vmem, ⟨1, _⟩ => ⟨S1x1x704x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x704x2048, .bf16⟩
  | .local _ .vmem, ⟨5, _⟩ => ⟨S1x704x2048, .bf16⟩
  | .local _ .smem, ⟨0, _⟩ => ⟨S2, .i32⟩
  | _, _ => ⟨S4x2x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15.lean ====
abbrev S4x2x704x2048 : Shape := ⟨4, ![4, 2, 704, 2048]⟩
abbrev S4x704x2048 : Shape := ⟨3, ![4, 704, 2048]⟩
abbrev S4x1x704x2048 : Shape := ⟨4, ![4, 1, 704, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4x2x704x2048, .bf16⟩
  | .hbm, ⟨1, _⟩ => ⟨S4x704x2048, .bf16⟩
  | .hbm, ⟨2, _⟩ => ⟨S4x1x704x2048, .bf16⟩
  | .hbm, ⟨3, _⟩ => ⟨S4x704x2048, .bf16⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .bf16⟩
  | _, _ => ⟨S4x2x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel16.lean ====
abbrev S8x1536x128 : Shape := ⟨3, ![8, 1536, 128]⟩
abbrev S1536x128 : Shape := ⟨2, ![1536, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x1536x128, .f32⟩
  | .hbm, ⟨1, _⟩ => ⟨S1536x128, .f32⟩
  | .local _ .vmem, ⟨0, _⟩ => ⟨S8x512x128, .f32⟩
  | .local _ .vmem, ⟨1, _⟩ => ⟨S8x512x128, .f32⟩
  | .local _ .vmem, ⟨2, _⟩ => ⟨S512x128, .f32⟩
  | .local _ .vmem, ⟨3, _⟩ => ⟨S512x128, .f32⟩
  | _, _ => ⟨S8x1536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference16Ideal.lean ====
abbrev S8x1536x128 : Shape := ⟨3, ![8, 1536, 128]⟩
abbrev S_ : Shape := ⟨0, ![]⟩
abbrev S1536x128 : Shape := ⟨2, ![1536, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1536x128, .f32⟩
  | .hbm, ⟨1, _⟩ => ⟨S_, .f32⟩
  | .hbm, ⟨2, _⟩ => ⟨S1536x128, .f32⟩
  | _, _ => ⟨S8x1536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel17.lean ====
abbrev S1536x128 : Shape := ⟨2, ![1536, 128]⟩
abbrev S512x128 : Shape := ⟨2, ![512, 128]⟩

abbrev nBuf : Space → Nat
  | .hbm => 7
  | .vmem => 14
  | .smem => 0
  | _ => 0

abbrev bufTy : (tb : Table) → Fin (tcTables nBuf tb) → BufTy
  | .hbm, ⟨0, _⟩ => ⟨S1536x128, .f32⟩
  | .hbm, ⟨1, _⟩ => ⟨S1536x128, .f32⟩
  | .hbm, ⟨2, _⟩ => ⟨S1536x128, .f32⟩
  | .hbm, ⟨3, _⟩ => ⟨S1536x128, .f32⟩
  | .hbm, ⟨4, _⟩ => ⟨S1536x128, .f32⟩
  | .hbm, ⟨5, _⟩ => ⟨S1536x128, .f32⟩
  | .hbm, ⟨6, _⟩ => ⟨S1536x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S1536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S1536x128 : Shape := ⟨2, ![1536, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1536x128, .f32⟩
  | .hbm, ⟨1, _⟩ => ⟨S1536x128, .f32⟩
  | .hbm, ⟨2, _⟩ => ⟨S1536x128, .f32⟩
  | .hbm, ⟨3, _⟩ => ⟨S1536x128, .f32⟩
  | .hbm, ⟨4, _⟩ => ⟨S_, .f32⟩
  | .hbm, ⟨5, _⟩ => ⟨S1536x128, .f32⟩
  | .hbm, ⟨6, _⟩ => ⟨S1536x128, .f32⟩
  | .hbm, ⟨7, _⟩ => ⟨S_, .f32⟩
  | .hbm, ⟨8, _⟩ => ⟨S1536x128, .f32⟩
  | .hbm, ⟨9, _⟩ => ⟨S1536x128, .f32⟩
  | .hbm, ⟨10, _⟩ => ⟨S1536x128, .f32⟩
  | .hbm, ⟨11, _⟩ => ⟨S_, .f32⟩
  | .hbm, ⟨12, _⟩ => ⟨S1536x128, .f32⟩
  | .hbm, ⟨13, _⟩ => ⟨S1536x128, .f32⟩
  | .hbm, ⟨14, _⟩ => ⟨S1536x128, .f32⟩
  | .hbm, ⟨15, _⟩ => ⟨S_, .f32⟩
  | .hbm, ⟨16, _⟩ => ⟨S1536x128, .f32⟩
  | .hbm, ⟨17, _⟩ => ⟨S1536x128, .f32⟩
  | .hbm, ⟨18, _⟩ => ⟨S1536x128, .f32⟩
  | .hbm, ⟨19, _⟩ => ⟨S_, .f32⟩
  | .hbm, ⟨20, _⟩ => ⟨S1536x128, .f32⟩
  | .hbm, ⟨21, _⟩ => ⟨S1536x128, .f32⟩
  | .hbm, ⟨22, _⟩ => ⟨S_, .f32⟩
  | .hbm, ⟨23, _⟩ => ⟨S1536x128, .f32⟩
  | .hbm, ⟨24, _⟩ => ⟨S1536x128, .f32⟩
  | .hbm, ⟨25, _⟩ => ⟨S1536x128, .f32⟩
  | .hbm, ⟨26, _⟩ => ⟨S_, .f32⟩
  | .hbm, ⟨27, _⟩ => ⟨S1536x128, .f32⟩
  | .hbm, ⟨28, _⟩ => ⟨S1536x128, .f32⟩
  | .hbm, ⟨29, _⟩ => ⟨S1536x128, .f32⟩
  | .hbm, ⟨30, _⟩ => ⟨S_, .f32⟩
  | .hbm, ⟨31, _⟩ => ⟨S1536x128, .f32⟩
  | .hbm, ⟨32, _⟩ => ⟨S1536x128, .f32⟩
  | .hbm, ⟨33, _⟩ => ⟨S1536x128, .f32⟩
  | .hbm, ⟨34, _⟩ => ⟨S_, .f32⟩
  | .hbm, ⟨35, _⟩ => ⟨S1536x128, .f32⟩
  | .hbm, ⟨36, _⟩ => ⟨S1536x128, .f32⟩
  | _, _ => ⟨S1536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S4096x5632 : Shape := ⟨2, ![4096, 5632]⟩
abbrev S4096x2048 : Shape := ⟨2, ![4096, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x5632 : Shape := ⟨2, ![4096, 5632]⟩
abbrev S4096x2048 : Shape := ⟨2, ![4096, 2048]⟩
abbrev S5632x4096 : Shape := ⟨2, ![5632, 4096]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x5632, .f32⟩
  | .hbm, ⟨3, _⟩ => ⟨S5632x4096, .f32⟩
  | .hbm, ⟨4, _⟩ => ⟨S4096x2048, .f32⟩
  | .hbm, ⟨5, _⟩ => ⟨S5632x2048, .f32⟩
  | .hbm, ⟨6, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel19.lean ====
abbrev S1x256x2048 : Shape := ⟨3, ![1, 256, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S1x256x2048, .f32⟩
  | .hbm, ⟨1, _⟩ => ⟨S1x2048, .f32⟩
  | .hbm, ⟨2, _⟩ => ⟨S256x2048, .f32⟩
  | .hbm, ⟨3, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference19Ideal.lean ====
abbrev S1x256x2048 : Shape := ⟨3, ![1, 256, 2048]⟩
abbrev S1x2048 : Shape := ⟨2, ![1, 2048]⟩
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩

abbrev nBuf : Space → Nat
  | .hbm => 21
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S1x2048, .f32⟩
  | .hbm, ⟨2, _⟩ => ⟨S256x2048, .f32⟩
  | .hbm, ⟨3, _⟩ => ⟨S2048, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x2048, .f32⟩
  | .hbm, ⟨16, _⟩ => ⟨S256x2048, .f32⟩
  | .hbm, ⟨17, _⟩ => ⟨S1x2048, .f32⟩
  | .hbm, ⟨18, _⟩ => ⟨S256x2048, .f32⟩
  | .hbm, ⟨19, _⟩ => ⟨S256x2048, .f32⟩
  | .hbm, ⟨20, _⟩ => ⟨S256x2048, .bf16⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel20.lean ====
abbrev S4x128x256 : Shape := ⟨3, ![4, 128, 256]⟩
abbrev S4x32x256 : Shape := ⟨3, ![4, 32, 256]⟩
abbrev S_ : Shape := ⟨0, ![]⟩
abbrev S2 : Shape := ⟨1, ![2]⟩
abbrev S128x256 : Shape := ⟨2, ![128, 256]⟩
abbrev S1x128x256 : Shape := ⟨3, ![1, 128, 256]⟩
abbrev S1 : Shape := ⟨1, ![1]⟩

abbrev nBuf : Space → Nat
  | .hbm => 13
  | .vmem => 11
  | .smem => 1
  | _ => 0

abbrev bufTy : (tb : Table) → Fin (tcTables nBuf tb) → BufTy
  | .hbm, ⟨0, _⟩ => ⟨S4x128x256, .bf16⟩
  | .hbm, ⟨1, _⟩ => ⟨S4x128x256, .bf16⟩
  | .hbm, ⟨2, _⟩ => ⟨S4x32x256, .f32⟩
  | .hbm, ⟨3, _⟩ => ⟨S4x32x256, .f32⟩
  | .hbm, ⟨4, _⟩ => ⟨S4x32x256, .f32⟩
  | .hbm, ⟨5, _⟩ => ⟨S_, .i32⟩
  | .hbm, ⟨6, _⟩ => ⟨S128x256, .f32⟩
  | .hbm, ⟨7, _⟩ => ⟨S128x256, .f32⟩
  | .hbm, ⟨8, _⟩ => ⟨S128x256, .f32⟩
  | .hbm, ⟨9, _⟩ => ⟨S128x256, .f32⟩
  | .hbm, ⟨10, _⟩ => ⟨S128x256, .f32⟩
  | .hbm, ⟨11, _⟩ => ⟨S128x256, .f32⟩
  | .hbm, ⟨12, _⟩ => ⟨S128x256, .f32⟩
  | .local _ .vmem, ⟨0, _⟩ => ⟨S1x128x256, .bf16⟩
  | .local _ .vmem, ⟨1, _⟩ => ⟨S1x128x256, .bf16⟩
  | .local _ .vmem, ⟨2, _⟩ => ⟨S1x128x256, .bf16⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .smem, ⟨0, _⟩ => ⟨S2, .i32⟩
  | _, _ => ⟨S4x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let v1 : BitVec 1 := Scalar.cmpi .eq arg1 v0
  let c1_i32 : BitVec 32 := 1#32
  let v2 : BitVec 32 := Scalar.addi arg1 c1_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let v13 : BitVec 32 := Scalar.select v1 v12 arg1
  let c0_i32_4 : BitVec 32 := 0#32
  let c0_i32_5 : BitVec 32 := 0#32
  ![v13.toNat, arg0.toNat, c0_i32_4.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== Reference20Ideal.lean ====
abbrev S4x128x256 : Shape := ⟨3, ![4, 128, 256]⟩
abbrev S4x32x256 : Shape := ⟨3, ![4, 32, 256]⟩
abbrev S1x128x256 : Shape := ⟨3, ![1, 128, 256]⟩
abbrev S128x256 : Shape := ⟨2, ![128, 256]⟩
abbrev S3x128x256 : Shape := ⟨3, ![3, 128, 256]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4x128x256, .bf16⟩
  | .hbm, ⟨1, _⟩ => ⟨S4x128x256, .bf16⟩
  | .hbm, ⟨2, _⟩ => ⟨S4x32x256, .f32⟩
  | .hbm, ⟨3, _⟩ => ⟨S4x32x256, .f32⟩
  | .hbm, ⟨4, _⟩ => ⟨S4x32x256, .f32⟩
  | .hbm, ⟨5, _⟩ => ⟨S1x128x256, .bf16⟩
  | .hbm, ⟨6, _⟩ => ⟨S128x256, .bf16⟩
  | .hbm, ⟨7, _⟩ => ⟨S128x256, .f32⟩
  | .hbm, ⟨8, _⟩ => ⟨S3x128x256, .bf16⟩
  | .hbm, ⟨9, _⟩ => ⟨S3x128x256, .f32⟩
  | .hbm, ⟨10, _⟩ => ⟨S_, .f32⟩
  | .hbm, ⟨11, _⟩ => ⟨S128x256, .f32⟩
  | .hbm, ⟨12, _⟩ => ⟨S128x256, .f32⟩
  | .hbm, ⟨13, _⟩ => ⟨S128x256, .f32⟩
  | .hbm, ⟨14, _⟩ => ⟨S128x256, .f32⟩
  | .hbm, ⟨15, _⟩ => ⟨S128x256, .f32⟩
  | .hbm, ⟨16, _⟩ => ⟨S_, .f32⟩
  | .hbm, ⟨17, _⟩ => ⟨S128x256, .f32⟩
  | .hbm, ⟨18, _⟩ => ⟨S128x256, .f32⟩
  | .hbm, ⟨19, _⟩ => ⟨S_, .f32⟩
  | .hbm, ⟨20, _⟩ => ⟨S128x256, .f32⟩
  | .hbm, ⟨21, _⟩ => ⟨S128x256, .f32⟩
  | .hbm, ⟨22, _⟩ => ⟨S128x256, .f32⟩
  | .hbm, ⟨23, _⟩ => ⟨S_, .f32⟩
  | .hbm, ⟨24, _⟩ => ⟨S128x256, .f32⟩
  | .hbm, ⟨25, _⟩ => ⟨S128x256, .f32⟩
  | .hbm, ⟨26, _⟩ => ⟨S128x256, .f32⟩
  | .hbm, ⟨27, _⟩ => ⟨S_, .f32⟩
  | .hbm, ⟨28, _⟩ => ⟨S128x256, .f32⟩
  | .hbm, ⟨29, _⟩ => ⟨S128x256, .f32⟩
  | .hbm, ⟨30, _⟩ => ⟨S128x256, .f32⟩
  | .hbm, ⟨31, _⟩ => ⟨S_, .f32⟩
  | .hbm, ⟨32, _⟩ => ⟨S128x256, .f32⟩
  | .hbm, ⟨33, _⟩ => ⟨S128x256, .f32⟩
  | .hbm, ⟨34, _⟩ => ⟨S_, .f32⟩
  | .hbm, ⟨35, _⟩ => ⟨S128x256, .f32⟩
  | .hbm, ⟨36, _⟩ => ⟨S128x256, .f32⟩
  | .hbm, ⟨37, _⟩ => ⟨S128x256, .f32⟩
  | .hbm, ⟨38, _⟩ => ⟨S_, .f32⟩
  | .hbm, ⟨39, _⟩ => ⟨S128x256, .f32⟩
  | .hbm, ⟨40, _⟩ => ⟨S128x256, .f32⟩
  | .hbm, ⟨41, _⟩ => ⟨S128x256, .f32⟩
  | .hbm, ⟨42, _⟩ => ⟨S_, .f32⟩
  | .hbm, ⟨43, _⟩ => ⟨S128x256, .f32⟩
  | .hbm, ⟨44, _⟩ => ⟨S128x256, .f32⟩
  | .hbm, ⟨45, _⟩ => ⟨S128x256, .f32⟩
  | .hbm, ⟨46, _⟩ => ⟨S_, .f32⟩
  | .hbm, ⟨47, _⟩ => ⟨S128x256, .f32⟩
  | .hbm, ⟨48, _⟩ => ⟨S128x256, .f32⟩
  | _, _ => ⟨S4x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Proof.NormMem.lean ====
module

public import proofs.«01_k».proof.Defs
public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import Idealize.ShloMosaic.Lib.Claim

/-! The gain's gradient of the norm over the memory tokens: one grid point, all 256 rows summed. -/

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] :=
  (by decide +kernel : ∀ t : Fin grid0.N, _)

/-- The gain's gradient: each row normalised, times its cotangent, summed over the rows. -/
def gainGrad (D X : FVec Ideal S256x2048 .f32) : FVec Ideal S1x2048 .f32 := fun j =>
  ∑ a : Fin 256, X (ix2 a (j 1)) * Ideal.rsqrt (Ideal.div (∑ l : Fin 2048, X (ix2 a l) * X (ix2 a l))
      (Ideal.ofBits .f32 0x45000000#32) + Ideal.ofBits .f32 0x358637BD#32) * D (ix2 a (j 1))

/-- What the body stores last: rows summed in eights, then the eight sums added. -/
theorem pay_eq (X D : FVec Ideal S256x2048 .f32) (r : Fin 1) (l : Fin 2048) :
    k0_pay4 (F := Ideal) (k0_pay2 (F := Ideal) X D) (ix2 r l) = gainGrad D X (ix2 r l) := by
  pointwise [k0_pay4, k0_pay2, k0_pay1, gainGrad]
  rw [Finset.sum_comm]
  exact Fin.sum_mul_add_congr fun s k hl => mul_comm _ _

theorem block0 (c : Dev nD) (t : Fin cfg0.N) : iblk m c 0 t = m ((c : Thread nD τ).loc main_arg0) := by
  blk_ext! [iblk, V, idx t]

theorem block1 (c : Dev nD) (t : Fin cfg0.N) : iblk m c 1 t
    = shapeCast S256x2048 (m ((c : Thread nD τ).loc main_arg1)) shapeCasts_S1x256x2048_S256x2048 := by
  have h : iblk m c 1 t = V m c main_v0 := by blk_ext! [iblk, idx t]
  rw [h]
  entry_read
  rfl

/-- The result is the body's last store, over the argument arrays. -/
theorem final (c : Dev nD) : (dats m 0 c).arrAt 3 (cfgs 0).N
    = gainGrad (m ((c : Thread nD τ).loc main_arg0))
        (shapeCast S256x2048 (m ((c : Thread nD τ).loc main_arg1)) shapeCasts_S1x256x2048_S256x2048) := by
  refine (dats m 0 c).arrAt_eq_of_after_last 3 t0_0 (by decide +kernel) _ fun j => ?_
  blk_simp
  rw [after0_3]
  unfold outsAt0
  frame_out
  rw [block0, block1]
  exact (congrArg _ (eq_ix2 j)).trans ((pay_eq _ _ (j 0) (j 1)).trans (congrArg _ (eq_ix2 j).symm))

end Cert.KernelIdeal.Hand

namespace Cert.ReferenceIdeal.Hand

open Cert.ReferenceIdeal Cert.ReferenceIdeal.Gen

/-- The reference's result as one term of its arguments. -/
def result (D : FVec Ideal S256x2048 .f32) (X : FVec Ideal S1x256x2048 .f32) : FVec Ideal S1x2048 .f32 :=
  broadcastInDim S1x2048 ![1] bcast_S2048_S1x2048_1 (Host.reduceAdd (shapeCast _ (Host.reduceAdd (mulf (mulf (shapeCast _ X shapeCasts_S1x256x2048_S256x2048) (broadcastInDim S256x2048 ![0, 1] bcast_S256x1_S256x2048_0_1 (Host.rsqrt (addf (Host.divf (broadcastInDim S256x1 ![0] bcast_S256_S256x1_0 (Host.reduceAdd (mulf (shapeCast _ X shapeCasts_S1x256x2048_S256x2048) (shapeCast _ X shapeCasts_S1x256x2048_S256x2048)) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32)))))) D) (constant S_ .f32 0x00000000#32) reducesTo_S256x2048_S2048_d0 h_S_) shapeCasts_S2048_S1x2048) (constant S_ .f32 0x00000000#32) reducesTo_S1x2048_S2048_d0 h_S_)

theorem result_eq (D : FVec Ideal S256x2048 .f32) (X : FVec Ideal S1x256x2048 .f32) :
    result D X = Cert.KernelIdeal.Hand.gainGrad D
      (shapeCast Cert.KernelIdeal.S256x2048 X Cert.KernelIdeal.Gen.shapeCasts_S1x256x2048_S256x2048) := by
  funext j
  idx_vars j
  pointwise [result, Cert.KernelIdeal.Hand.gainGrad]
  exact Fin.sum_univ_one _

end Cert.ReferenceIdeal.Hand

namespace Cert.Proof

theorem algebraic1 : Cert.algebraic_KernelIdeal_ReferenceIdeal := by
  pair_intro
  · run_from Cert.KernelIdeal.Gen.run_main m g
  · run_from Cert.ReferenceIdeal.Value.run m' g'
    rw [Cert.KernelIdeal.Hand.final m c]
    exact Cert.ReferenceIdeal.Hand.result_eq _ _

end Cert.Proof
-- ==== Proof.Tiles.lean ====
module

public import Idealize.ShloMosaic.Lib.Pipeline.ValueKit
public import Idealize.ShloMosaic.Lib.Pipeline.ReadBack
public import Idealize.ShloMosaic.Lib.Pointwise
public import Idealize.ShloMosaic.Lib.Claim

/-! Buffers written tile by tile, read back. -/

@[expose] public section

noncomputable section

open Idealize.ShloMosaic Idealize.ShloMosaic.TcCoe Idealize.SL.Sem

namespace Cert.Tiles

/-- A scratch read back whole after stores that make it `f`. -/
theorem read_whole {S : Shape} {e : EltTy} {sig : RefSig} {κ : Kind} {sp : Space} (v : View sig κ sp S e)
    (L : List (View.Piece (Elt Ideal) S e)) {off : Fin S.rank → Nat} (inb : ∀ a, off a + S.size a ≤ S.size a)
    (f : S.Idx → Elt Ideal e) (ho : ∀ a, off a = 0) (h : ∀ y, View.canon L y = f y) :
    v.readCov L (Rect.unit off S.size inb).toLoadRect = f := by
  rw [View.readCov_eq_canon']
  refine funext fun j => (h _).trans (congrArg f (funext fun a => Fin.ext ?_))
  exact (Rect.idx_unit_val off S.size inb j a).trans (by rw [ho a]; exact Nat.zero_add _)

/-- The last `n` stores alone, when they are tiles that fill the shape. -/
theorem canon_take {S : Shape} {e : EltTy} (n : Nat) (sz : Fin S.rank → Nat) : ∀ (L : List (View.Piece (Elt Ideal) S e)),
    View.Piece.tiled (L.take n) sz = true → ∀ y, View.canon L y = View.canon (L.take n) y := by
  intro L h y
  have hc := View.cover_of_tiled _ sz h y
  clear h
  induction L generalizing n with
  | nil => rw [List.take_nil]
  | cons p L ih =>
    cases n with
    | zero => obtain ⟨q, hq, _⟩ := hc; exact absurd hq (by simp)
    | succ n =>
      rw [List.take_succ_cons] at hc ⊢
      by_cases hm : y ∈ p.1.set
      · obtain ⟨x, rfl⟩ := p.1.exists_idx_of_mem hm
        rw [show p.1.idx x = p.1.emb x from rfl, View.canon_cons_emb, View.canon_cons_emb]
      · rw [View.canon_cons_of_not_mem _ _ hm, View.canon_cons_of_not_mem _ _ hm]
        obtain ⟨q, hq, hy⟩ := hc
        rcases List.mem_cons.mp hq with rfl | hq'
        · exact absurd hy hm
        · exact ih n ⟨q, hq', hy⟩

end Cert.Tiles
-- ==== Proof.MixerStep.lean ====
module

public import proofs.«01_k».proof.Proof.Gen.Kernel2Ideal.Frame
public import proofs.«01_k».proof.Proof.Tiles
public import Idealize.ShloMosaic.Lib.Pipeline.ValueKit
public import Idealize.ShloMosaic.Lib.Pipeline.ReadBack
public import Idealize.ShloMosaic.Lib.Pointwise
public import Idealize.ShloMosaic.Lib.Claim

/-! What one grid point of the mixer's backward call adds to each of its running sums. -/

@[expose] public section

set_option maxRecDepth 16384

noncomputable section

open Idealize.ShloMosaic Idealize.ShloMosaic.TcCoe Idealize.SL.Sem
open Idealize.ShloMosaic.Pipeline (Dat)

namespace Cert.Kernel2Ideal.Hand

open Cert.Kernel2Ideal Cert.Kernel2Ideal.Gen Cert.Tiles

variable (m : (ℓ : Loc nD τ sig) → Buf (Elt Ideal) ℓ)

theorem lane_lt {h l : Nat} (hh : h < 8) (hl : l < 128) : h * 128 + l < 1024 := by omega

/-- The half of its block a token of the block lies in, as the body computes it. -/
def chunk (x : Fin 128) : BitVec 32 :=
  Scalar.select
    (IntOp.andi
      (IntOp.cmpi CmpIPredicate.ne
        (IntOp.subi (BitVec.setWidth 32 (IntOp.cmpi CmpIPredicate.sgt (BitVec.ofNat 32 x.val) 0#32))
          (BitVec.setWidth 32 (IntOp.cmpi CmpIPredicate.slt (BitVec.ofNat 32 x.val) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 x.val) 64#32) 0#32))
    (IntOp.subi (IntOp.divsi ArithUnit.vector (BitVec.ofNat 32 x.val) 64#32) 1#32)
    (IntOp.divsi ArithUnit.vector (BitVec.ofNat 32 x.val) 64#32)

theorem add_five (a b c d e : EReal) : a + b + c + d + e = a + (b + c + d + e) := by simp only [add_assoc]

/-- The pooling scale's sums: the cotangent times the mapped pooled rows, a row class modulo eight at a time. -/
def scaleAt (X0 : FVec Ideal S512x2048 .f32) (X4 : FVec Ideal S512x1024 .bf16) (X6 : FVec Ideal S4x256x256 .bf16)
    (r : Fin 8) (k : Fin 1024) : EReal :=
  have hr := r.isLt
  have hk := k.isLt
  ∑ q : Fin 64, X0 (ix2 (⟨q.val * 8 + r.val, by have := q.isLt; omega⟩ : Fin 512) (⟨k.val, by omega⟩ : Fin 2048))
    * ∑ d : Fin 256, X4 (ix2 (⟨q.val * 8 + r.val, by have := q.isLt; omega⟩ : Fin 512)
        (⟨k.val / 256 * 256 + d.val, by have := d.isLt; omega⟩ : Fin 1024))
      * X6 (ix3 (⟨k.val / 256, by omega⟩ : Fin 4) d (⟨k.val % 256, by omega⟩ : Fin 256))

def stepScale (X0 : FVec Ideal S512x2048 .f32) (X4 : FVec Ideal S512x1024 .bf16) (X6 : FVec Ideal S4x256x256 .bf16)
    (A : FVec Ideal S8x1024 .f32) : FVec Ideal S8x1024 .f32 := fun j => A j + scaleAt X0 X4 X6 (j 0) (j 1)

/-- The pooling map's sums. -/
def mapAt (X0 : FVec Ideal S512x2048 .f32) (X4 : FVec Ideal S512x1024 .bf16) (X7 : FVec Ideal S1x1024 .f32)
    (g : Fin 4) (i d : Fin 256) : EReal :=
  have hg := g.isLt
  have hi := i.isLt
  have hd := d.isLt
  ∑ a : Fin 512, X4 (ix2 a (⟨g.val * 256 + i.val, by omega⟩ : Fin 1024))
    * (X0 (ix2 a (⟨g.val * 256 + d.val, by omega⟩ : Fin 2048)) * X7 (ix2 (0 : Fin 1) (⟨g.val * 256 + d.val, by omega⟩ : Fin 1024)))

def stepMap (X0 : FVec Ideal S512x2048 .f32) (X4 : FVec Ideal S512x1024 .bf16) (X7 : FVec Ideal S1x1024 .f32)
    (A : FVec Ideal S4x256x256 .f32) : FVec Ideal S4x256x256 .f32 := fun j => A j + mapAt X0 X4 X7 (j 0) (j 1) (j 2)

/-- The gating unit's cotangent after the product with `u`, in the block of tokens `n`. -/
def gateAt (X0 : FVec Ideal S512x2048 .f32) (X2 : FVec Ideal S512x1024 .f32) (n : Fin 4) (a : Fin 128) (l : Fin 1024) : EReal :=
  have hn := n.isLt
  have ha := a.isLt
  have hl := l.isLt
  X0 (ix2 (⟨n.val * 128 + a.val, by omega⟩ : Fin 512) (⟨1024 + l.val, by omega⟩ : Fin 2048))
    * X2 (ix2 (⟨n.val * 128 + a.val, by omega⟩ : Fin 512) l)

def stepBias (X0 : FVec Ideal S512x2048 .f32) (X2 : FVec Ideal S512x1024 .f32) (A : FVec Ideal S128x1024 .f32) :
    FVec Ideal S128x1024 .f32 := fun j => A j + (gateAt X0 X2 0 (j 0) (j 1) + gateAt X0 X2 1 (j 0) (j 1)
      + gateAt X0 X2 2 (j 0) (j 1) + gateAt X0 X2 3 (j 0) (j 1))

/-- The token-mixing weights' sums over the lanes of one head, in the block of tokens `n`. -/
def spaceAt (X0 : FVec Ideal S512x2048 .f32) (X2 : FVec Ideal S512x1024 .f32) (X5 : FVec Ideal S512x1024 .bf16)
    (n : Fin 4) (h : Fin 8) (a b : Fin 128) : EReal :=
  have hn := n.isLt
  have hh := h.isLt
  have hb := b.isLt
  ∑ l : Fin 128, gateAt X0 X2 n a (⟨h.val * 128 + l.val, by have := l.isLt; omega⟩ : Fin 1024)
    * X5 (ix2 (⟨n.val * 128 + b.val, by omega⟩ : Fin 512) (⟨h.val * 128 + l.val, by have := l.isLt; omega⟩ : Fin 1024))

def stepSpace (X0 : FVec Ideal S512x2048 .f32) (X2 : FVec Ideal S512x1024 .f32) (X5 : FVec Ideal S512x1024 .bf16)
    (A : FVec Ideal S8x128x128 .f32) : FVec Ideal S8x128x128 .f32 := fun j => A j + (spaceAt X0 X2 X5 0 (j 0) (j 1) (j 2)
      + spaceAt X0 X2 X5 1 (j 0) (j 1) (j 2) + spaceAt X0 X2 X5 2 (j 0) (j 1) (j 2) + spaceAt X0 X2 X5 3 (j 0) (j 1) (j 2))

/-- The cotangent of the normalised gate: the token-mixing weights' transpose applied to the product with `u`. -/
def normCot (X0 : FVec Ideal S512x2048 .f32) (X2 : FVec Ideal S512x1024 .f32) (X9 : FVec Ideal S8x128x128 .bf16) :
    FVec Ideal S512x1024 .f32 := fun j =>
  have a := (j 0).isLt
  have l := (j 1).isLt
  ∑ s : Fin 128, X9 (ix3 (⟨(j 1).val / 128, Nat.div_lt_of_lt_mul l⟩ : Fin 8) s (⟨(j 0).val % 128, Nat.mod_lt _ (by decide)⟩ : Fin 128))
    * (X0 (ix2 (⟨(j 0).val / 128 * 128 + s.val, by have := s.isLt; change (j 0).val < 512 at a; omega⟩ : Fin 512)
        (⟨1024 + (j 1).val, Nat.add_lt_add_left l 1024⟩ : Fin 2048))
      * X2 (ix2 (⟨(j 0).val / 128 * 128 + s.val, by have := s.isLt; change (j 0).val < 512 at a; omega⟩ : Fin 512) (j 1)))

set_option maxHeartbeats 2000000 in
/-- The pooling scale's running sums after a grid point. -/
theorem step_scale (c : Dev nD) (t : Fin cfg0.N) (A : FVec Ideal S8x1024 .f32) (hz : t.val % 8 = 0 → A = fun _ => 0)
    (hp : ¬t.val % 8 = 0 → A = (outsAt0 m c (t.val - 1) (Nat.lt_of_le_of_lt (Nat.sub_le ..) t.isLt)).2.2.2.2.2.2.1) :
    (outsAt0 m c t.val t.isLt).2.2.2.2.2.2.1 = stepScale (iblk m c 0 t) (iblk m c 4 t) (iblk m c 6 t) A := by
  by_cases h0 : t.val % 8 = 0 <;> by_cases h1 : t.val % 8 = 7
  on_goal 1 => omega
  on_goal 1 => rw [hz h0, outsAt0_A m c t h0 h1]
  on_goal 2 => rw [hp h0, outsAt0_C m c t h0 h1]
  on_goal 3 => rw [hp h0, outsAt0_B m c t h0 h1]
  all_goals
    frame_open
    simp (disch := decide) only [↓ View.readCov_skip, ↓ View.readCov_cons_toLoadRect, ↓ View.readCov_fill]
    frame_out
    try simp only [read_unread_whole]
    clear hz hp h0 h1
    generalize iblk m c 0 t = X0
    generalize iblk m c 4 t = X4
    generalize iblk m c 6 t = X6
    try generalize (outsAt0 m c (t.val - 1) _).2.2.2.2.2.2.1 = P
    funext y
    refine (canon_take 4 ![8, 256] _ (by rfl) y).trans ?_
    simp only [List.take_succ_cons, List.take_zero]
    canon_tiles x h
    all_goals
      open_payloads
      pointwise [stepScale, scaleAt]
      blk_point

set_option maxHeartbeats 2000000 in
/-- The pooling map's. -/
theorem step_map (c : Dev nD) (t : Fin cfg0.N) (A : FVec Ideal S4x256x256 .f32) (hz : t.val % 8 = 0 → A = fun _ => 0)
    (hp : ¬t.val % 8 = 0 → A = (outsAt0 m c (t.val - 1) (Nat.lt_of_le_of_lt (Nat.sub_le ..) t.isLt)).2.1) :
    (outsAt0 m c t.val t.isLt).2.1 = stepMap (iblk m c 0 t) (iblk m c 4 t) (iblk m c 7 t) A := by
  by_cases h0 : t.val % 8 = 0 <;> by_cases h1 : t.val % 8 = 7
  on_goal 1 => omega
  on_goal 1 => rw [hz h0, outsAt0_A m c t h0 h1]
  on_goal 2 => rw [hp h0, outsAt0_C m c t h0 h1]
  on_goal 3 => rw [hp h0, outsAt0_B m c t h0 h1]
  all_goals
    frame_open
    simp (disch := decide) only [↓ View.readCov_skip, ↓ View.readCov_cons_toLoadRect, ↓ View.readCov_fill]
    frame_out
    try simp only [read_unread_whole]
    clear hz hp h0 h1
    generalize iblk m c 0 t = X0
    generalize iblk m c 4 t = X4
    generalize iblk m c 7 t = X7
    try generalize (outsAt0 m c (t.val - 1) _).2.1 = P
    funext y
    refine (canon_take 4 ![1, 256, 256] _ (by rfl) y).trans ?_
    simp only [List.take_succ_cons, List.take_zero]
    canon_tiles x h
    all_goals
      open_payloads
      pointwise [stepMap, mapAt]
      blk_point

set_option maxHeartbeats 2000000 in
/-- The gating bias's. -/
theorem step_bias (c : Dev nD) (t : Fin cfg0.N) (A : FVec Ideal S128x1024 .f32) (hz : t.val % 8 = 0 → A = fun _ => 0)
    (hp : ¬t.val % 8 = 0 → A = (outsAt0 m c (t.val - 1) (Nat.lt_of_le_of_lt (Nat.sub_le ..) t.isLt)).2.2.2.2.2.2.2.2) :
    (outsAt0 m c t.val t.isLt).2.2.2.2.2.2.2.2 = stepBias (iblk m c 0 t) (iblk m c 2 t) A := by
  by_cases h0 : t.val % 8 = 0 <;> by_cases h1 : t.val % 8 = 7
  on_goal 1 => omega
  on_goal 1 => rw [hz h0, outsAt0_A m c t h0 h1]
  on_goal 2 => rw [hp h0, outsAt0_C m c t h0 h1]
  on_goal 3 => rw [hp h0, outsAt0_B m c t h0 h1]
  all_goals
    frame_open
    simp (disch := decide) only [↓ View.readCov_skip, ↓ View.readCov_cons_toLoadRect, ↓ View.readCov_fill]
    frame_out
    try simp only [read_unread_whole]
    clear hz hp h0 h1
    generalize iblk m c 0 t = X0
    generalize iblk m c 2 t = X2
    try generalize (outsAt0 m c (t.val - 1) _).2.2.2.2.2.2.2.2 = P
    funext y
    refine (canon_take 8 ![128, 128] _ (by rfl) y).trans ?_
    simp only [List.take_succ_cons, List.take_zero]
    canon_tiles x h
    all_goals
      open_payloads
      pointwise [stepBias, gateAt]
      simp only [add_assoc]
      blk_point

set_option maxHeartbeats 2000000 in
/-- The token-mixing weights'. -/
theorem step_space (c : Dev nD) (t : Fin cfg0.N) (h1 : ¬t.val % 8 = 7) (A : FVec Ideal S8x128x128 .f32) (hz : t.val % 8 = 0 → A = fun _ => 0)
    (hp : ¬t.val % 8 = 0 → A = (outsAt0 m c (t.val - 1) (Nat.lt_of_le_of_lt (Nat.sub_le ..) t.isLt)).2.2.2.2.1) :
    (outsAt0 m c t.val t.isLt).2.2.2.2.1 = stepSpace (iblk m c 0 t) (iblk m c 2 t) (iblk m c 5 t) A := by
  by_cases h0 : t.val % 8 = 0
  on_goal 1 => rw [hz h0, outsAt0_A m c t h0 h1]
  on_goal 2 => rw [hp h0, outsAt0_B m c t h0 h1]
  all_goals
    frame_open
    simp (disch := decide) only [↓ View.readCov_skip, ↓ View.readCov_cons_toLoadRect, ↓ View.readCov_fill]
    frame_out
    try simp only [read_unread_whole]
    clear hz hp h0 h1
    generalize iblk m c 0 t = X0
    generalize iblk m c 2 t = X2
    generalize iblk m c 5 t = X5
    try generalize (outsAt0 m c (t.val - 1) _).2.2.2.2.1 = P
    funext y
    refine (canon_take 8 ![1, 128, 128] _ (by rfl) y).trans ?_
    simp only [List.take_succ_cons, List.take_zero]
    canon_tiles x h
    all_goals
      open_payloads
      pointwise [stepSpace, spaceAt, gateAt]
      simp only [add_assoc]
      blk_point

set_option maxHeartbeats 2000000 in
/-- The pooling scale's result at the last grid point. -/
theorem out_scale (c : Dev nD) (t : Fin cfg0.N) (h1 : t.val % 8 = 7) (A : FVec Ideal S8x1024 .f32)
    (hp : (outsAt0 m c (t.val - 1) (Nat.lt_of_le_of_lt (Nat.sub_le ..) t.isLt)).2.2.2.2.2.2.1 = A) :
    (outsAt0 m c t.val t.isLt).2.2.1 = k0_pay3 (F := Ideal) (stepScale (iblk m c 0 t) (iblk m c 4 t) (iblk m c 6 t) A) := by
  · rw [outsAt0_C m c t (by omega) h1]
    frame_open
    simp (disch := decide) only [↓ View.readCov_skip, ↓ View.readCov_cons_toLoadRect, ↓ View.readCov_fill]
    frame_out
    try simp only [read_unread_whole]
    rw [hp]
    clear hp h1
    generalize iblk m c 0 t = X0
    generalize iblk m c 4 t = X4
    generalize iblk m c 6 t = X6
    refine congrArg (k0_pay3 (F := Ideal)) (read_whole (S := S8x1024) _ _ _ _ (by decide) fun y => ?_)
    refine (canon_take 4 ![8, 256] _ (by rfl) y).trans ?_
    simp only [List.take_succ_cons, List.take_zero]
    canon_tiles x h
    all_goals
      open_payloads
      pointwise [stepScale, scaleAt]
      blk_point

set_option maxHeartbeats 2000000 in
/-- The gating bias's: summed over the lanes of each head. -/
theorem out_bias (c : Dev nD) (t : Fin cfg0.N) (h1 : t.val % 8 = 7) (A : FVec Ideal S128x1024 .f32)
    (hp : (outsAt0 m c (t.val - 1) (Nat.lt_of_le_of_lt (Nat.sub_le ..) t.isLt)).2.2.2.2.2.2.2.2 = A) :
    (outsAt0 m c t.val t.isLt).2.2.2.2.2.1 = fun j => ∑ l : Fin 128, stepBias (iblk m c 0 t) (iblk m c 2 t) A (ix2 (j 1) (⟨(j 0).val * 128 + l.val, lane_lt (j 0).isLt l.isLt⟩ : Fin 1024)) := by
  · rw [outsAt0_C m c t (by omega) h1]
    frame_open
    simp (disch := decide) only [↓ View.readCov_skip, ↓ View.readCov_cons_toLoadRect, ↓ View.readCov_fill]
    frame_out
    try simp only [read_unread_whole]
    rw [hp]
    clear hp h1
    generalize iblk m c 0 t = X0
    generalize iblk m c 2 t = X2
    funext y
    refine (canon_take 8 ![1, 128, 128] _ (by rfl) y).trans ?_
    simp only [List.take_succ_cons, List.take_zero]
    canon_tiles x h
    all_goals
      open_payloads
      pointwise [stepBias, gateAt]
      simp only [add_assoc]
      blk_point

set_option maxHeartbeats 2000000 in
/-- The token-mixing weights': kept where the mask keeps them. -/
theorem out_space (c : Dev nD) (t : Fin cfg0.N) (h1 : t.val % 8 = 7) (A : FVec Ideal S8x128x128 .f32)
    (hp : (outsAt0 m c (t.val - 1) (Nat.lt_of_le_of_lt (Nat.sub_le ..) t.isLt)).2.2.2.2.1 = A) :
    (outsAt0 m c t.val t.isLt).2.2.2.2.1 = fun j => Scalar.select (IntOp.cmpi .sle (chunk (j 2)) (chunk (j 1))) (stepSpace (iblk m c 0 t) (iblk m c 2 t) (iblk m c 5 t) A j) (0 : EReal) := by
  · rw [outsAt0_C m c t (by omega) h1]
    frame_open
    simp (disch := decide) only [↓ View.readCov_skip, ↓ View.readCov_cons_toLoadRect, ↓ View.readCov_fill]
    frame_out
    try simp only [read_unread_whole]
    rw [hp]
    clear hp h1
    generalize iblk m c 0 t = X0
    generalize iblk m c 2 t = X2
    generalize iblk m c 5 t = X5
    funext y
    refine (canon_take 8 ![1, 128, 128] _ (by rfl) y).trans ?_
    simp only [List.take_succ_cons, List.take_zero]
    canon_tiles x h
    all_goals
      open_payloads
      pointwise [stepSpace, spaceAt, gateAt, chunk]
      simp only [add_assoc]
      blk_point <;> omega

set_option maxHeartbeats 2000000 in
/-- The gate norm's weights' running sums. -/
theorem step_gain (c : Dev nD) (t : Fin cfg0.N) (A : FVec Ideal S8x1024 .f32) (hz : t.val % 8 = 0 → A = fun _ => 0)
    (hp : ¬t.val % 8 = 0 → A = (outsAt0 m c (t.val - 1) (Nat.lt_of_le_of_lt (Nat.sub_le ..) t.isLt)).2.2.2.2.2.2.2.1) :
    (outsAt0 m c t.val t.isLt).2.2.2.2.2.2.2.1 = k0_pay350 (F := Ideal) (iblk m c 3 t) (normCot (iblk m c 0 t) (iblk m c 2 t) (iblk m c 9 t)) A := by
  by_cases h0 : t.val % 8 = 0 <;> by_cases h1 : t.val % 8 = 7
  on_goal 1 => omega
  on_goal 1 => rw [hz h0, outsAt0_A m c t h0 h1]
  on_goal 2 => rw [hp h0, outsAt0_C m c t h0 h1]
  on_goal 3 => rw [hp h0, outsAt0_B m c t h0 h1]
  all_goals
    frame_open
    simp (disch := decide) only [↓ View.readCov_skip, ↓ View.readCov_cons_toLoadRect, ↓ View.readCov_fill]
    frame_out
    try simp only [read_unread_whole]
    clear hz hp h0 h1
    generalize iblk m c 0 t = X0
    generalize iblk m c 2 t = X2
    generalize iblk m c 9 t = X9
    try generalize (outsAt0 m c (t.val - 1) _).2.2.2.2.2.2.2.1 = P
    congr 1
    all_goals first
      | refine read_whole (S := S512x1024) _ _ _ _ (by decide) fun y => ?_
        canon_tiles x h
        all_goals
          open_payloads
          pointwise [normCot]
          blk_point
      | rfl
      | funext y
        pointwise [k0_pay30]

set_option maxHeartbeats 2000000 in
/-- The gate norm's weights' result at the last grid point. -/
theorem out_gain (c : Dev nD) (t : Fin cfg0.N) (h1 : t.val % 8 = 7) (A : FVec Ideal S8x1024 .f32)
    (hp : (outsAt0 m c (t.val - 1) (Nat.lt_of_le_of_lt (Nat.sub_le ..) t.isLt)).2.2.2.2.2.2.2.1 = A) :
    (outsAt0 m c t.val t.isLt).2.2.2.1 = k0_pay4 (F := Ideal) (k0_pay350 (F := Ideal) (iblk m c 3 t) (normCot (iblk m c 0 t) (iblk m c 2 t) (iblk m c 9 t)) A) := by
  · rw [outsAt0_C m c t (by omega) h1]
    frame_open
    simp (disch := decide) only [↓ View.readCov_skip, ↓ View.readCov_cons_toLoadRect, ↓ View.readCov_fill]
    frame_out
    try simp only [read_unread_whole]
    rw [hp]
    clear hp h1
    generalize iblk m c 0 t = X0
    generalize iblk m c 2 t = X2
    generalize iblk m c 9 t = X9
    refine congrArg (k0_pay4 (F := Ideal)) ?_
    congr 1
    all_goals first
      | refine read_whole (S := S512x1024) _ _ _ _ (by decide) fun y => ?_
        canon_tiles x h
        all_goals
          open_payloads
          pointwise [normCot]
          blk_point
      | rfl
      | funext y
        pointwise [k0_pay30]

end Cert.Kernel2Ideal.Hand
-- ==== Proof.MixerProj.lean ====
module

public import proofs.«01_k».proof.Proof.MixerStep
public import Idealize.ShloMosaic.Lib.Pipeline.ValueKit
public import Idealize.ShloMosaic.Lib.Pipeline.ReadBack
public import Idealize.ShloMosaic.Lib.Pointwise
public import Idealize.ShloMosaic.Lib.Claim

/-! What one grid point of the mixer's backward call leaves in its block of the projected activations' gradient. -/

@[expose] public section

set_option maxRecDepth 16384

noncomputable section

open Idealize.ShloMosaic Idealize.ShloMosaic.TcCoe Idealize.SL.Sem
open Idealize.ShloMosaic.Pipeline (Dat)

namespace Cert.Kernel2Ideal.Hand

open Cert.Kernel2Ideal Cert.Kernel2Ideal.Gen Cert.Tiles

variable (m : (ℓ : Loc nD τ sig) → Buf (Elt Ideal) ℓ)

/-! ## The pooling groups: the cotangent of the trailing means, summed forward over each window -/

/-- A token's place in the sequence, counted from one. -/
def place (s : Nat) : EReal := (((s + 1 : Nat) : ℝ) : EReal)

theorem place_eq (s : Nat) (hs : s < 1000000) (b : BitVec 32) (hb : b = BitVec.ofNat 32 (s + 1)) :
    FloatOps.sitofp (F := Ideal) FTy.f32 b = place s := by
  subst hb
  show (((BitVec.ofNat 32 (s + 1)).toInt : ℝ) : EReal) = _
  rw [place, BitVec.toInt_ofNat', Int.bmod_eq_of_le (by omega) (by omega)]
  norm_cast

/-- A pooling group's cotangent after the map, at one token. -/
def mapped {n N : Nat} (D : (⟨2, ![n, N]⟩ : Shape).Idx → EReal) (hN : 1024 ≤ N) (X6 : FVec Ideal S4x256x256 .bf16) (X7 : FVec Ideal S1x1024 .f32)
    (g : Fin 4) (a : Fin n) (k : Fin 256) : EReal :=
  ∑ x : Fin 256, D (ix2 a (⟨g.val * 256 + x.val, by have := g.isLt; have := x.isLt; omega⟩ : Fin N))
    * X7 (ix2 (0 : Fin 1) (⟨g.val * 256 + x.val, by have := g.isLt; have := x.isLt; omega⟩ : Fin 1024)) * X6 (ix3 g k x)

/-- The mapped cotangent over the number of tokens in the mean: the block's own rows, then the rows after it. -/
def spread (i : Nat) (X0 : FVec Ideal S512x2048 .f32) (X1 : FVec Ideal S16x1024 .f32) (X6 : FVec Ideal S4x256x256 .bf16)
    (X7 : FVec Ideal S1x1024 .f32) (g : Fin 4) (w : BitVec 32) (a : Nat) (k : Fin 256) : EReal :=
  if h : a < 512 then Ideal.div (mapped X0 (by decide) X6 X7 g ⟨a, h⟩ k) (min (place (i * 512 + a)) (Ideal.ofBits .f32 w))
  else if h' : a < 528 then
    if i < 7 then Ideal.div (mapped X1 (by decide) X6 X7 g ⟨a - 512, by omega⟩ k) (min (place (i * 512 + a)) (Ideal.ofBits .f32 w))
    else 0
  else 0

/-- The pooled group's gradient: the spread cotangent over the window, less the mapped cotangent itself. -/
def poolAt (i : Nat) (X0 : FVec Ideal S512x2048 .f32) (X1 : FVec Ideal S16x1024 .f32) (X6 : FVec Ideal S4x256x256 .bf16)
    (X7 : FVec Ideal S1x1024 .f32) (g : Fin 4) (n : Nat) (w : BitVec 32) (a : Fin 512) (k : Fin 256) : EReal :=
  (∑ j ∈ Finset.range n, spread i X0 X1 X6 X7 g w (a.val + j) k) - mapped X0 (by decide) X6 X7 g a k

theorem emb_unit_eq {S : Shape} (off size : Fin S.rank → Nat) (inb) (x : (Rect.unit off size inb).shape.Idx) (i : S.Idx)
    (h : ∀ a, (i a : Nat) = off a + x a) : i = (Rect.unit off size inb).emb x :=
  funext fun a => Fin.ext ((h a).trans (Rect.idx_unit_val off size inb x a).symm)

theorem spread_load {sig : RefSig} {κ : Kind} {sp : Space} (v : View sig κ sp S528x1024 .f32) (c j : Nat)
    (P1 : FVec Ideal S16x256 .f32) (P0 : FVec Ideal S512x256 .f32) (L : List (View.Piece (Elt Ideal) S528x1024 .f32))
    (inb1 : ∀ a, (![512, c] : Fin 2 → Nat) a + (![16, 256] : Fin 2 → Nat) a ≤ S528x1024.size a)
    (inb0 : ∀ a, (![0, c] : Fin 2 → Nat) a + (![512, 256] : Fin 2 → Nat) a ≤ S528x1024.size a)
    (inbj : ∀ a, (![j, c] : Fin 2 → Nat) a + (![512, 256] : Fin 2 → Nat) a ≤ S528x1024.size a)
    (f : Nat → Fin 256 → EReal) (h0 : ∀ a k, P0 (ix2 a k) = f a.val k) (h1 : ∀ (a : Fin 16) k, P1 (ix2 a k) = f (512 + a.val) k)
    (x : S512x256.Idx) :
    v.readCov (⟨Rect.unit (s := S528x1024) ![512, c] ![16, 256] inb1, P1⟩
      :: ⟨Rect.unit (s := S528x1024) ![0, c] ![512, 256] inb0, P0⟩ :: L)
      (Rect.unit (s := S528x1024) ![j, c] ![512, 256] inbj).toLoadRect x = f ((x 0).val + j) (x 1) := by
  rw [View.readCov_eq_canon']
  show View.canon _ ((Rect.unit (s := S528x1024) ![j, c] ![512, 256] inbj).idx x) = _
  have hj : j + 512 ≤ 528 := inbj 0
  have hx : (x 0).val < 512 := (x 0).isLt
  have e := Rect.idx_unit_val (s := S528x1024) ![j, c] ![512, 256] inbj x
  have e0 : ((Rect.unit (s := S528x1024) ![j, c] ![512, 256] inbj).idx x 0 : Nat) = j + (x 0).val := e 0
  have e1 : ((Rect.unit (s := S528x1024) ![j, c] ![512, 256] inbj).idx x 1 : Nat) = c + (x 1).val := e 1
  generalize (Rect.unit (s := S528x1024) ![j, c] ![512, 256] inbj).idx x = i at e0 e1 ⊢
  clear e
  by_cases hlt : (x 0).val + j < 512
  · rw [View.canon_cons_of_not_mem]
    · rw [emb_unit_eq (S := S528x1024) ![0, c] ![512, 256] inb0 (ix2 (⟨(x 0).val + j, hlt⟩ : Fin 512) (x 1 : Fin 256)) i
        (Fin.forall_fin_two.mpr ⟨show (i 0).val = 0 + ((x 0).val + j) by omega, e1⟩), View.canon_cons_emb]
      exact h0 _ _
    · intro hm
      obtain ⟨y, rfl⟩ := (Rect.unit (s := S528x1024) ![512, c] ![16, 256] inb1).exists_idx_of_mem hm
      have h' := Rect.idx_unit_val (s := S528x1024) ![512, c] ![16, 256] inb1 y 0
      have h'' : ((Rect.unit (s := S528x1024) ![512, c] ![16, 256] inb1).idx y 0 : Nat) = 512 + (y 0).val := h'
      omega
  · rw [emb_unit_eq (S := S528x1024) ![512, c] ![16, 256] inb1 (ix2 (⟨(x 0).val + j - 512, by omega⟩ : Fin 16) (x 1 : Fin 256)) i
        (Fin.forall_fin_two.mpr ⟨show (i 0).val = 512 + ((x 0).val + j - 512) by omega, e1⟩), View.canon_cons_emb]
    refine (h1 _ _).trans (congrArg (fun n => f n _) ?_)
    show 512 + ((x 0).val + j - 512) = _
    omega

variable (x : S512x256.Idx) (f : Nat → Fin 256 → EReal) (D : FVec Ideal S512x256 .f32) (d : EReal) (hd : D x = d)

theorem pool_two (L0 L1 : FVec Ideal S512x256 .f32) (hd : D x = d) (h0 : L0 x = f ((x 0).val + 0) (x 1)) (h1 : L1 x = f ((x 0).val + 1) (x 1)) :
    k0_pay43 (F := Ideal) D L0 L1 x = (∑ j ∈ Finset.range 2, f ((x 0).val + j) (x 1)) - d := by
  rw [← hd]
  simp only [Finset.sum_range_succ, Finset.sum_range_zero, zero_add, ← h0, ← h1]
  rfl

theorem pool_four (L0 L1 L2 L3 : FVec Ideal S512x256 .f32) (hd : D x = d) (h0 : L0 x = f ((x 0).val + 0) (x 1))
    (h1 : L1 x = f ((x 0).val + 1) (x 1)) (h2 : L2 x = f ((x 0).val + 2) (x 1)) (h3 : L3 x = f ((x 0).val + 3) (x 1)) :
    k0_pay52 (F := Ideal) D L0 L1 L2 L3 x = (∑ j ∈ Finset.range 4, f ((x 0).val + j) (x 1)) - d := by
  rw [← hd]
  simp only [Finset.sum_range_succ, Finset.sum_range_zero, zero_add, ← h0, ← h1, ← h2, ← h3]
  rfl

theorem pool_eight (L0 L1 L2 L3 L4 L5 L6 L7 : FVec Ideal S512x256 .f32) (hd : D x = d) (h0 : L0 x = f ((x 0).val + 0) (x 1))
    (h1 : L1 x = f ((x 0).val + 1) (x 1)) (h2 : L2 x = f ((x 0).val + 2) (x 1)) (h3 : L3 x = f ((x 0).val + 3) (x 1))
    (h4 : L4 x = f ((x 0).val + 4) (x 1)) (h5 : L5 x = f ((x 0).val + 5) (x 1)) (h6 : L6 x = f ((x 0).val + 6) (x 1))
    (h7 : L7 x = f ((x 0).val + 7) (x 1)) :
    k0_pay63 (F := Ideal) (k0_pay62 (F := Ideal) D L0 L1 L2 L3 L4 L5 L6 L7) x
      = (∑ j ∈ Finset.range 8, f ((x 0).val + j) (x 1)) - d := by
  rw [← hd]
  simp only [Finset.sum_range_succ, Finset.sum_range_zero, zero_add, ← h0, ← h1, ← h2, ← h3, ← h4, ← h5, ← h6, ← h7]
  rfl

theorem pool_sixteen (L0 L1 L2 L3 L4 L5 L6 L7 L8 L9 L10 L11 L12 L13 L14 L15 : FVec Ideal S512x256 .f32) (hd : D x = d)
    (h0 : L0 x = f ((x 0).val + 0) (x 1)) (h1 : L1 x = f ((x 0).val + 1) (x 1)) (h2 : L2 x = f ((x 0).val + 2) (x 1))
    (h3 : L3 x = f ((x 0).val + 3) (x 1)) (h4 : L4 x = f ((x 0).val + 4) (x 1)) (h5 : L5 x = f ((x 0).val + 5) (x 1))
    (h6 : L6 x = f ((x 0).val + 6) (x 1)) (h7 : L7 x = f ((x 0).val + 7) (x 1)) (h8 : L8 x = f ((x 0).val + 8) (x 1))
    (h9 : L9 x = f ((x 0).val + 9) (x 1)) (h10 : L10 x = f ((x 0).val + 10) (x 1)) (h11 : L11 x = f ((x 0).val + 11) (x 1))
    (h12 : L12 x = f ((x 0).val + 12) (x 1)) (h13 : L13 x = f ((x 0).val + 13) (x 1)) (h14 : L14 x = f ((x 0).val + 14) (x 1))
    (h15 : L15 x = f ((x 0).val + 15) (x 1)) :
    k0_pay73 (F := Ideal) D (k0_pay72 (F := Ideal) L0 L1 L2 L3 L4 L5) L6 L7 L8 L9 L10 L11 L12 L13 L14 L15 x
      = (∑ j ∈ Finset.range 16, f ((x 0).val + j) (x 1)) - d := by
  rw [← hd]
  simp only [Finset.sum_range_succ, Finset.sum_range_zero, zero_add, ← h0, ← h1, ← h2, ← h3, ← h4, ← h5, ← h6, ← h7, ← h8, ← h9,
    ← h10, ← h11, ← h12, ← h13, ← h14, ← h15]
  rfl

/-- The cotangent of `u`: times the normalised gate after the token mixing. -/
def leftAt (X0 : FVec Ideal S512x2048 .f32) (X5 : FVec Ideal S512x1024 .bf16) (X9 : FVec Ideal S8x128x128 .bf16)
    (X10 : FVec Ideal S128x1024 .f32) (a : Fin 512) (l : Fin 1024) : EReal :=
  have ha := a.isLt
  have hl := l.isLt
  X0 (ix2 a (⟨1024 + l.val, by omega⟩ : Fin 2048))
    * ((∑ s : Fin 128, X9 (ix3 (⟨l.val / 128, by omega⟩ : Fin 8) (⟨a.val % 128, by omega⟩ : Fin 128) s)
        * X5 (ix2 (⟨a.val / 128 * 128 + s.val, by have := s.isLt; omega⟩ : Fin 512) l))
      + X10 (ix2 (⟨a.val % 128, by omega⟩ : Fin 128) l))

/-- The cotangent of the gate: the norm's gradient. -/
def gateGrad (X3 : FVec Ideal S512x1024 .f32) (D : FVec Ideal S512x1024 .f32) (X8 : FVec Ideal S1x1024 .f32) :
    FVec Ideal S512x1024 .bf16 :=
  k0_pay353 (F := Ideal) (k0_pay348 (F := Ideal) X3) (k0_pay349 (F := Ideal) X3) (k0_pay351 (F := Ideal) D X8)
    (k0_pay352 (F := Ideal) X3 D X8)

/-- The gradient of the projected activations, at one place of the block. -/
def projAt (i : Nat) (X0 : FVec Ideal S512x2048 .f32) (X1 : FVec Ideal S16x1024 .f32) (X2 X3 : FVec Ideal S512x1024 .f32)
    (X5 : FVec Ideal S512x1024 .bf16) (X6 : FVec Ideal S4x256x256 .bf16) (X7 X8 : FVec Ideal S1x1024 .f32)
    (X9 : FVec Ideal S8x128x128 .bf16) (X10 : FVec Ideal S128x1024 .f32) (y : S512x3072.Idx) : EReal :=
  have hy : (y 1).val < 3072 := (y 1).isLt
  if h : (y 1).val < 1024 then
    if h0 : (y 1).val < 256 then poolAt i X0 X1 X6 X7 0 2 0x40000000#32 (y 0) ⟨(y 1).val, by omega⟩
    else if h1 : (y 1).val < 512 then poolAt i X0 X1 X6 X7 1 4 0x40800000#32 (y 0) ⟨(y 1).val - 256, by omega⟩
    else if h2 : (y 1).val < 768 then poolAt i X0 X1 X6 X7 2 8 0x41000000#32 (y 0) ⟨(y 1).val - 512, by omega⟩
    else poolAt i X0 X1 X6 X7 3 16 0x41800000#32 (y 0) ⟨(y 1).val - 768, by omega⟩
  else if h' : (y 1).val < 2048 then leftAt X0 X5 X9 X10 (y 0) ⟨(y 1).val - 1024, by omega⟩
  else gateGrad X3 (normCot X0 X2 X9) X8 (ix2 (y 0 : Fin 512) (⟨(y 1).val - 2048, by omega⟩ : Fin 1024))

section select
variable {i : Nat} {X0 : FVec Ideal S512x2048 .f32} {X1 : FVec Ideal S16x1024 .f32} {X2 X3 : FVec Ideal S512x1024 .f32}
    {X5 : FVec Ideal S512x1024 .bf16} {X6 : FVec Ideal S4x256x256 .bf16} {X7 X8 : FVec Ideal S1x1024 .f32}
    {X9 : FVec Ideal S8x128x128 .bf16} {X10 : FVec Ideal S128x1024 .f32} {y : S512x3072.Idx}

theorem proj_pool (g : Fin 4) (n : Nat) (w : BitVec 32) (a : Fin 512) (k : Fin 256) (h0 : (y 0).val = a.val)
    (h1 : (y 1).val = g.val * 256 + k.val) (hn : (n, w) = ([(2, 0x40000000#32), (4, 0x40800000#32), (8, 0x41000000#32), (16, 0x41800000#32)] : List (Nat × BitVec 32)).get g)
    {f : Fin 4 → BitVec 32 → Nat → Fin 256 → EReal} (hf : spread i X0 X1 X6 X7 = f) :
    (∑ j ∈ Finset.range n, f g w (a.val + j) k) - mapped X0 (by decide) X6 X7 g a k = projAt i X0 X1 X2 X3 X5 X6 X7 X8 X9 X10 y := by
  subst hf
  change poolAt i X0 X1 X6 X7 g n w a k = _
  obtain rfl : y 0 = a := Fin.ext h0
  have hk := k.isLt
  have e : ∀ (q : Nat) (hq : q < 256), q = k.val → (⟨q, hq⟩ : Fin 256) = k := fun q hq h => Fin.ext h
  match g with
  | 0 => cases hn; simp only [Fin.val_zero] at h1; rw [projAt, dif_pos (by omega), dif_pos (by omega), e _ _ (by omega)]
  | 1 => cases hn; simp only [Fin.val_one] at h1; rw [projAt, dif_pos (by omega), dif_neg (by omega), dif_pos (by omega), e _ _ (by omega)]
  | 2 => cases hn; simp only [Fin.val_two] at h1; rw [projAt, dif_pos (by omega), dif_neg (by omega), dif_neg (by omega), dif_pos (by omega), e _ _ (by omega)]
  | 3 =>
    cases hn
    have h1 : (y 1).val = 3 * 256 + k.val := h1
    rw [projAt, dif_pos (by omega), dif_neg (by omega), dif_neg (by omega), dif_neg (by omega), e _ _ (by omega)]

theorem proj_left (a : Fin 512) (l : Nat) (hl : l < 1024) (h0 : (y 0).val = a.val) (h1 : (y 1).val = 1024 + l) :
    leftAt X0 X5 X9 X10 a ⟨l, hl⟩ = projAt i X0 X1 X2 X3 X5 X6 X7 X8 X9 X10 y := by
  obtain rfl : y 0 = a := Fin.ext h0
  rw [projAt, dif_neg (by omega), dif_pos (by omega)]
  exact congrArg _ (Fin.ext (show l = (y 1).val - 1024 by omega))

theorem proj_gate (x : S512x1024.Idx) (h0 : (y 0).val = (x 0).val) (h1 : (y 1).val = 2048 + (x 1).val) :
    gateGrad X3 (normCot X0 X2 X9) X8 x = projAt i X0 X1 X2 X3 X5 X6 X7 X8 X9 X10 y := by
  rw [projAt, dif_neg (by omega), dif_neg (by omega)]
  refine congrArg (gateGrad X3 (normCot X0 X2 X9) X8) (funext fun a => ?_)
  match a with
  | ⟨0, _⟩ => exact Fin.ext h0.symm
  | ⟨1, _⟩ => exact Fin.ext (show (x 1).val = (y 1).val - 2048 by omega)

end select

theorem select_first {i : Nat} (hi : i < 8) {A B : EReal} (h : A = B) :
    Scalar.select (Scalar.cmpi .slt (BitVec.ofNat 32 i) 7#32) A (0 : EReal) = if i < 7 then B else 0 := by
  subst h
  interval_cases i <;> rfl

theorem own_place {i a : Nat} (hi : i < 8) (ha : a < 512) :
    IntOp.addi (IntOp.addi (Scalar.muli (BitVec.ofNat 32 i) 512#32) (BitVec.ofNat 32 a)) 1#32 = BitVec.ofNat 32 (i * 512 + a + 1) := by
  refine BitVec.eq_of_toNat_eq ?_
  simp [IntOp.addi, Scalar.muli, IntOp.muli, BitVec.toNat_add, BitVec.toNat_mul, BitVec.toNat_ofNat]

theorem next_place {i a : Nat} (hi : i < 8) (ha : a < 16) :
    IntOp.addi (IntOp.addi (Scalar.muli (Scalar.addi (BitVec.ofNat 32 i) 1#32) 512#32) (BitVec.ofNat 32 a)) 1#32
      = BitVec.ofNat 32 (i * 512 + (512 + a) + 1) := by
  refine BitVec.eq_of_toNat_eq ?_
  simp [IntOp.addi, Scalar.addi, Scalar.muli, IntOp.muli, BitVec.toNat_add, BitVec.toNat_mul, BitVec.toNat_ofNat]
  omega

theorem gate_congr (X3 D D' : FVec Ideal S512x1024 .f32) (X8 : FVec Ideal S1x1024 .f32) (h : D = D') (x : S512x1024.Idx) :
    k0_pay353 (F := Ideal) (k0_pay348 (F := Ideal) X3) (k0_pay349 (F := Ideal) X3) (k0_pay351 (F := Ideal) D X8)
      (k0_pay352 (F := Ideal) X3 D X8) x = gateGrad X3 D' X8 x := by
  subst h
  rfl

set_option maxHeartbeats 8000000 in
/-- What one grid point leaves in its block of the projected activations' gradient. -/
theorem proj_tile (c : Dev nD) (t : Fin cfg0.N) (y : S512x3072.Idx) :
    (outsAt0 m c t.val t.isLt).1 y
      = projAt (grid0.coords t 0).val (iblk m c 0 t) (iblk m c 1 t) (iblk m c 2 t) (iblk m c 3 t) (iblk m c 5 t) (iblk m c 6 t)
        (iblk m c 7 t) (iblk m c 8 t) (iblk m c 9 t) (iblk m c 10 t) y := by
  by_cases h0 : t.val % 8 = 0 <;> by_cases h1 : t.val % 8 = 7
  on_goal 1 => omega
  on_goal 1 => rw [outsAt0_A m c t h0 h1]
  on_goal 2 => rw [outsAt0_C m c t h0 h1]
  on_goal 3 => rw [outsAt0_B m c t h0 h1]
  all_goals
    frame_out
    try simp only [read_unread_whole]
    clear h0 h1
    generalize iblk m c 0 t = X0
    generalize iblk m c 1 t = X1
    generalize iblk m c 2 t = X2
    generalize iblk m c 3 t = X3
    generalize iblk m c 5 t = X5
    generalize iblk m c 6 t = X6
    generalize iblk m c 7 t = X7
    generalize iblk m c 8 t = X8
    generalize iblk m c 9 t = X9
    generalize iblk m c 10 t = X10
    have hi : (grid0.coords t 0).val < 8 := (grid0.coords t 0).isLt
    generalize hf : spread (grid0.coords t 0).val X0 X1 X6 X7 = f
    canon_tiles x h using View.cover_of_tiledBy _ ![128, 128] (by sl_kernel_rfl) y
    on_goal 37 =>
      refine (pool_two x (f 0 0x40000000#32) _ (mapped X0 (by decide) X6 X7 0 (x 0) (x 1)) _ _ ?_ ?_ ?_).trans
        (proj_pool 0 2 0x40000000#32 (x 0) (x 1) h0 (by change _ = 0 * 256 + (x 1).val; omega) rfl hf)
    on_goal 36 =>
      refine (pool_four x (f 1 0x40800000#32) _ (mapped X0 (by decide) X6 X7 1 (x 0) (x 1)) _ _ _ _ ?_ ?_ ?_ ?_ ?_).trans
        (proj_pool 1 4 0x40800000#32 (x 0) (x 1) h0 (by change _ = 1 * 256 + (x 1).val; omega) rfl hf)
    on_goal 35 =>
      refine (pool_eight x (f 2 0x41000000#32) _ (mapped X0 (by decide) X6 X7 2 (x 0) (x 1)) _ _ _ _ _ _ _ _
        ?_ ?_ ?_ ?_ ?_ ?_ ?_ ?_ ?_).trans
        (proj_pool 2 8 0x41000000#32 (x 0) (x 1) h0 (by change _ = 2 * 256 + (x 1).val; omega) rfl hf)
    on_goal 34 =>
      refine (pool_sixteen x (f 3 0x41800000#32) _ (mapped X0 (by decide) X6 X7 3 (x 0) (x 1)) _ _ _ _ _ _ _ _ _ _ _ _ _ _ _ _
        ?_ ?_ ?_ ?_ ?_ ?_ ?_ ?_ ?_ ?_ ?_ ?_ ?_ ?_ ?_ ?_ ?_).trans
        (proj_pool 3 16 0x41800000#32 (x 0) (x 1) h0 (by change _ = 3 * 256 + (x 1).val; omega) rfl hf)
    case piece0 =>
      refine (gate_congr X3 _ (normCot X0 X2 X9) X8 ?_ x).trans (proj_gate x h0 h1)
      refine read_whole (S := S512x1024) _ _ _ _ (by decide) fun y => ?_
      canon_tiles x h
      all_goals
        open_payloads
        pointwise [normCot]
        blk_point
    iterate 32
      on_goal 1 =>
        refine Eq.trans ?_ (proj_left (y 0) ((y 1).val - 1024) (by omega) rfl (by omega))
        open_payloads
        pointwise [leftAt]
        blk_point
    all_goals first
      | refine spread_load _ _ _ _ _ _ _ _ _ _ (fun a k => ?_) (fun a k => ?_) x
        · rw [← hf, spread, dif_pos a.isLt]
          open_payloads
          pointwise [mapped]
          refine congrArg₂ Ideal.div ?_ (congrArg (fun q => min q _) (place_eq _ (by omega) _ (own_place hi a.isLt)))
          try blk_point
        · rw [← hf, spread, dif_neg (by omega), dif_pos (by omega)]
          open_payloads
          pointwise [mapped]
          refine select_first hi (congrArg₂ Ideal.div ?_ (congrArg (fun q => min q _) (place_eq _ (by omega) _ (next_place hi a.isLt))))
          try blk_point
      | open_payloads
        pointwise [mapped]
        try blk_point

end Cert.Kernel2Ideal.Hand
-- ==== Proof.MixerRows.lean ====
module

public import proofs.«01_k».proof.Proof.MixerProj

/-! The blocks of the mixer's backward call as rows of their arrays, and its running sums over all points. -/

@[expose] public section

set_option maxRecDepth 16384

noncomputable section

open Idealize.ShloMosaic Idealize.ShloMosaic.TcCoe Idealize.SL.Sem
open Idealize.ShloMosaic.Pipeline (Dat)

namespace Cert.Kernel2Ideal.Hand

open Cert.Kernel2Ideal Cert.Kernel2Ideal.Gen

variable (m : (ℓ : Loc nD τ sig) → Buf (Elt Ideal) ℓ)

theorem idx : ∀ t : Fin cfg0.N, win0_0.index t = ![t.val, 0] ∧ win0_1.index t = ![min (t.val * 32 + 32) 255, 0]
    ∧ win0_2.index t = ![t.val, 1] ∧ win0_3.index t = ![t.val, 2] ∧ win0_4.index t = ![t.val, 0] ∧ win0_5.index t = ![t.val, 0]
    ∧ win0_6.index t = ![0, 0, 0] ∧ win0_7.index t = ![0, 0] ∧ win0_8.index t = ![0, 0] ∧ win0_9.index t = ![0, 0, 0]
    ∧ win0_10.index t = ![0, 0] ∧ win0_11.index t = ![t.val, 0] ∧ (grid0.coords t 0).val = t.val :=
  (by decide +kernel : ∀ t : Fin grid0.N, _)

/-- Rows `512 t …` and columns `c …` of an array. -/
def rows {N n : Nat} {e : EltTy} (t : Fin 8) (c : Nat) (hc : c + n ≤ N) (X : (⟨2, ![4096, N]⟩ : Shape).Idx → Elt Ideal e) :
    (⟨2, ![512, n]⟩ : Shape).Idx → Elt Ideal e := fun j =>
  X (ix2 (⟨t.val * 512 + (j 0).val, by have h : (j 0).val < 512 := (j 0).isLt; omega⟩ : Fin 4096)
    (⟨c + (j 1).val, by have h : (j 1).val < n := (j 1).isLt; omega⟩ : Fin N))

theorem block0 (c : Dev nD) (t : Fin cfg0.N) :
    iblk m c 0 t = rows (N := 2048) (n := 2048) t 0 (by decide) (m ((c : Thread nD τ).loc main_arg0)) := by
  funext j
  rw [eq_ix2 j]
  show _ = m ((c : Thread nD τ).loc main_arg0) _
  blk_ext! [iblk, V, idx t]

theorem block1 (c : Dev nD) (t : Fin cfg0.N) (ht : t.val < 7) (a : Fin 16) (k : Fin 1024) : iblk m c 1 t (ix2 a k)
    = m ((c : Thread nD τ).loc main_arg0) (ix2 (⟨t.val * 512 + (512 + a.val), by have := a.isLt; omega⟩ : Fin 4096) (⟨k.val, by have := k.isLt; omega⟩ : Fin 2048)) := by
  blk_ext! [iblk, V, idx t]

theorem block2 (c : Dev nD) (t : Fin cfg0.N) :
    iblk m c 2 t = rows (N := 3072) (n := 1024) t 1024 (by decide) (m ((c : Thread nD τ).loc main_arg1)) := by
  funext j
  rw [eq_ix2 j]
  show _ = m ((c : Thread nD τ).loc main_arg1) _
  blk_ext! [iblk, V, idx t]

theorem block3 (c : Dev nD) (t : Fin cfg0.N) :
    iblk m c 3 t = rows (N := 3072) (n := 1024) t 2048 (by decide) (m ((c : Thread nD τ).loc main_arg1)) := by
  funext j
  rw [eq_ix2 j]
  show _ = m ((c : Thread nD τ).loc main_arg1) _
  blk_ext! [iblk, V, idx t]

theorem block4 (c : Dev nD) (t : Fin cfg0.N) :
    iblk m c 4 t = rows (N := 1024) (n := 1024) t 0 (by decide) (V m c main_v78) := by
  funext j
  rw [eq_ix2 j]
  show _ = V m c main_v78 _
  blk_ext! [iblk, idx t]

theorem block6 (c : Dev nD) (t : Fin cfg0.N) : iblk m c 6 t = V m c main_v96 := by
  blk_ext! [iblk, idx t]

theorem block7 (c : Dev nD) (t : Fin cfg0.N) : iblk m c 7 t = m ((c : Thread nD τ).loc main_arg3) := by
  blk_ext! [iblk, V, idx t]

theorem block5 (c : Dev nD) (t : Fin cfg0.N) :
    iblk m c 5 t = rows (N := 1024) (n := 1024) t 0 (by decide) (V m c main_v94) := by
  funext j
  rw [eq_ix2 j]
  show _ = V m c main_v94 _
  blk_ext! [iblk, idx t]

theorem block8 (c : Dev nD) (t : Fin cfg0.N) : iblk m c 8 t = m ((c : Thread nD τ).loc main_arg4) := by
  blk_ext! [iblk, V, idx t]

theorem block9 (c : Dev nD) (t : Fin cfg0.N) : iblk m c 9 t = V m c main_v11 := by
  blk_ext! [iblk, idx t]

theorem block10 (c : Dev nD) (t : Fin cfg0.N) : iblk m c 10 t = V m c main_v15 := by
  blk_ext! [iblk, idx t]

/-- A running sum over the points: what it holds after point `n`. -/
theorem run_sum {S : Shape} (M : Nat) (hM : M ≤ 8) (F : (n : Nat) → n < M → S.Idx → EReal) (g : (n : Nat) → n < M → S.Idx → EReal)
    (h : ∀ (n : Nat) (hn : n < M) (A : S.Idx → EReal), (n % 8 = 0 → A = fun _ => 0)
      → (¬n % 8 = 0 → A = F (n - 1) (Nat.lt_of_le_of_lt (Nat.sub_le ..) hn)) → F n hn = fun j => A j + g n hn j) :
    ∀ (n : Nat) (hn : n < M) (j : S.Idx), F n hn j = ∑ s : Fin (n + 1), g s.val (by have := s.isLt; omega) j := by
  intro n
  induction n with
  | zero =>
    intro hn j
    rw [h 0 hn (fun _ => 0) (fun _ => rfl) (fun h => absurd rfl h)]
    simp
  | succ n ih =>
    intro hn j
    rw [h (n + 1) hn (F n (by omega)) (fun h => absurd h (by omega)) (fun _ => rfl), Fin.sum_univ_castSucc]
    simp only [ih]
    rfl

theorem sum_eights (f : Fin 4096 → EReal) (h : Fin 8 → Fin 8 → EReal)
    (hh : ∀ r t : Fin 8, h r t = ∑ q : Fin 64, f ⟨t.val * 512 + (q.val * 8 + r.val), by have := r.isLt; have := t.isLt; have := q.isLt; omega⟩) :
    ∑ r : Fin 8, ∑ t : Fin 8, h r t = ∑ s : Fin 4096, f s := by
  rw [Finset.sum_comm]
  have e : ∀ t : Fin 8, ∑ r : Fin 8, h r t = ∑ a : Fin 512, f ⟨t.val * 512 + a.val, by have := a.isLt; have := t.isLt; omega⟩ := fun t => by
    simp only [hh]
    rw [Finset.sum_comm]
    exact Fin.sum_mul_add_congr fun s k hl => rfl
  simp only [e]
  exact Fin.sum_mul_add_congr fun s k hl => rfl

variable (D : FVec Ideal S4096x2048 .f32) (Pj : FVec Ideal S4096x3072 .f32) (P VN : FVec Ideal S4096x1024 .bf16)
  (W : FVec Ideal S4x256x256 .bf16) (SC G : FVec Ideal S1x1024 .f32) (WM : FVec Ideal S8x128x128 .bf16) (BF : FVec Ideal S128x1024 .f32)

/-- The pooling scale's gradient. -/
def scaleG (k : Fin 1024) : EReal :=
  ∑ s : Fin 4096, D (ix2 s (⟨k.val, by have := k.isLt; omega⟩ : Fin 2048))
    * ∑ d : Fin 256, P (ix2 s (⟨k.val / 256 * 256 + d.val, by have := d.isLt; have := k.isLt; omega⟩ : Fin 1024))
      * W (ix3 (⟨k.val / 256, by have := k.isLt; omega⟩ : Fin 4) d (⟨k.val % 256, by omega⟩ : Fin 256))

/-- The pooling map's gradient. -/
def mapG (g : Fin 4) (i d : Fin 256) : EReal :=
  ∑ s : Fin 4096, P (ix2 s (⟨g.val * 256 + i.val, by have := g.isLt; have := i.isLt; omega⟩ : Fin 1024))
    * (D (ix2 s (⟨g.val * 256 + d.val, by have := g.isLt; have := d.isLt; omega⟩ : Fin 2048))
      * SC (ix2 (0 : Fin 1) (⟨g.val * 256 + d.val, by have := g.isLt; have := d.isLt; omega⟩ : Fin 1024)))

/-- The gating unit's cotangent times `u`. -/
def gateG (s : Fin 4096) (l : Fin 1024) : EReal :=
  D (ix2 s (⟨1024 + l.val, by have := l.isLt; omega⟩ : Fin 2048)) * Pj (ix2 s (⟨1024 + l.val, by have := l.isLt; omega⟩ : Fin 3072))

def tok (b : Nat) (hb : b < 32) (a : Fin 128) : Fin 4096 := ⟨b * 128 + a.val, by have := a.isLt; omega⟩
def lane (h : Fin 8) (l : Fin 128) : Fin 1024 := ⟨h.val * 128 + l.val, by have := l.isLt; have := h.isLt; omega⟩

def biasG (h : Fin 8) (a : Fin 128) : EReal :=
  ∑ b : Fin 32, ∑ l : Fin 128, gateG D Pj (tok b.val b.isLt a) (lane h l)

def spaceG (h : Fin 8) (a a' : Fin 128) : EReal :=
  ∑ b : Fin 32, ∑ l : Fin 128, gateG D Pj (tok b.val b.isLt a) (lane h l) * VN (ix2 (tok b.val b.isLt a') (lane h l))

/-- The normalised gate's cotangent. -/
def cotG (s : Fin 4096) (l : Fin 1024) : EReal :=
  ∑ a : Fin 128, WM (ix3 (⟨l.val / 128, by have := l.isLt; omega⟩ : Fin 8) a (⟨s.val % 128, by omega⟩ : Fin 128))
    * gateG D Pj (tok (s.val / 128) (by have := s.isLt; omega) a) l

def vG (s : Fin 4096) (l : Fin 1024) : EReal := Pj (ix2 s (⟨2048 + l.val, by have := l.isLt; omega⟩ : Fin 3072))

def meanG (s : Fin 4096) : EReal :=
  Ideal.div (∑ x : Fin 1024, vG Pj s x * vG Pj s x) (Ideal.ofBits .f32 0x44800000#32) + Ideal.ofBits .f32 0x358637BD#32

def gainG (l : Fin 1024) : EReal :=
  ∑ s : Fin 4096, cotG D Pj WM s l * (vG Pj s l * Ideal.rsqrt (meanG Pj s))

/-- The gate's gradient through its norm. -/
def normG (s : Fin 4096) (l : Fin 1024) : EReal :=
  Ideal.rsqrt (meanG Pj s) * (cotG D Pj WM s l * G (ix2 (0 : Fin 1) l) - vG Pj s l * Ideal.rsqrt (meanG Pj s)
    * Ideal.div (∑ x : Fin 1024, cotG D Pj WM s x * G (ix2 (0 : Fin 1) x) * (vG Pj s x * Ideal.rsqrt (meanG Pj s)))
      (Ideal.ofBits .f32 0x44800000#32))

def leftG (s : Fin 4096) (l : Fin 1024) : EReal :=
  D (ix2 s (⟨1024 + l.val, by have := l.isLt; omega⟩ : Fin 2048))
    * ((∑ a : Fin 128, WM (ix3 (⟨l.val / 128, by have := l.isLt; omega⟩ : Fin 8) (⟨s.val % 128, by omega⟩ : Fin 128) a)
        * VN (ix2 (tok (s.val / 128) (by have := s.isLt; omega) a) l))
      + BF (ix2 (⟨s.val % 128, by omega⟩ : Fin 128) l))

def spreadG (g : Fin 4) (w : BitVec 32) (s : Nat) (k : Fin 256) : EReal :=
  if h : s < 4096 then Ideal.div (mapped D (by decide) W SC g ⟨s, h⟩ k) (min (place s) (Ideal.ofBits .f32 w)) else 0

def poolG (g : Fin 4) (n : Nat) (w : BitVec 32) (s : Fin 4096) (k : Fin 256) : EReal :=
  (∑ j ∈ Finset.range n, spreadG D W SC g w (s.val + j) k) - mapped D (by decide) W SC g s k

theorem mapped_rows (t : Fin 8) (g : Fin 4) (a : Fin 512) (k : Fin 256) :
    mapped (rows (N := 2048) (n := 2048) (e := .f32) t 0 (by decide) D) (by decide) W SC g a k
      = mapped D (by decide) W SC g ⟨t.val * 512 + a.val, by have := a.isLt; have := t.isLt; omega⟩ k := by
  unfold mapped rows
  refine Fin.sum_fin_congr fun x => ?_
  blk_point

theorem gateAt_rows (t : Fin 8) (n : Fin 4) (a : Fin 128) (l : Fin 1024) :
    gateAt (rows (N := 2048) (n := 2048) (e := .f32) t 0 (by decide) D) (rows (N := 3072) (n := 1024) (e := .f32) t 1024 (by decide) Pj) n a l
      = gateG D Pj (tok (t.val * 4 + n.val) (by have := n.isLt; have := t.isLt; omega) a) l := by
  unfold gateAt rows gateG tok
  show D _ * Pj _ = D _ * Pj _
  blk_point <;> omega

theorem normCot_rows (t : Fin 8) (j : S512x1024.Idx) :
    normCot (rows (N := 2048) (n := 2048) (e := .f32) t 0 (by decide) D) (rows (N := 3072) (n := 1024) (e := .f32) t 1024 (by decide) Pj) WM j
      = cotG D Pj WM ⟨t.val * 512 + (j 0).val, by have h : (j 0).val < 512 := (j 0).isLt; have := t.isLt; omega⟩ (j 1) := by
  unfold normCot rows cotG gateG tok
  have h : (j 0).val < 512 := (j 0).isLt
  refine Fin.sum_fin_congr fun x => ?_
  blk_point <;> omega

/-- The block of rows after block `t`, where there is one. -/
def Halo (t : Fin 8) (X1 : FVec Ideal S16x1024 .f32) : Prop :=
  ∀ (h : t.val < 7) (a : Fin 16) (k : Fin 1024), X1 (ix2 a k)
    = D (ix2 (⟨t.val * 512 + (512 + a.val), by have := a.isLt; omega⟩ : Fin 4096) (⟨k.val, by have := k.isLt; omega⟩ : Fin 2048))

theorem spread_rows (t : Fin 8) (X1 : FVec Ideal S16x1024 .f32)
    (hX1 : Halo D t X1)
    (g : Fin 4) (w : BitVec 32) (b : Nat) (hb : b < 528) (k : Fin 256) :
    spread t.val (rows (N := 2048) (n := 2048) (e := .f32) t 0 (by decide) D) X1 W SC g w b k = spreadG D W SC g w (t.val * 512 + b) k := by
  have ht := t.isLt
  unfold spread spreadG
  by_cases h : b < 512
  · rw [dif_pos h, dif_pos (by omega)]
    exact congrArg (Ideal.div · _) (mapped_rows D W SC t g ⟨b, h⟩ k)
  · rw [dif_neg h, dif_pos hb]
    by_cases h7 : t.val < 7
    · rw [if_pos h7, dif_pos (by omega)]
      refine congrArg (Ideal.div · _) (Fin.sum_fin_congr fun x => ?_)
      rw [hX1 h7]
      refine congrArg (fun r => r * _ * _) (congrArg (fun a => D (ix2 a _)) (Fin.ext ?_))
      show t.val * 512 + (512 + (b - 512)) = t.val * 512 + b
      omega
    · rw [if_neg h7, dif_neg (by omega)]

theorem pool_rows (t : Fin 8) (X1 : FVec Ideal S16x1024 .f32)
    (hX1 : Halo D t X1)
    (g : Fin 4) (n : Nat) (hn : n ≤ 16) (w : BitVec 32) (a : Fin 512) (k : Fin 256) :
    poolAt t.val (rows (N := 2048) (n := 2048) (e := .f32) t 0 (by decide) D) X1 W SC g n w a k
      = poolG D W SC g n w ⟨t.val * 512 + a.val, by have := a.isLt; have := t.isLt; omega⟩ k := by
  unfold poolAt poolG
  rw [mapped_rows]
  refine congrArg (· - _) (Finset.sum_congr rfl fun j hj => ?_)
  have hj' := Finset.mem_range.mp hj
  rw [spread_rows D W SC t X1 hX1 g w (a.val + j) (by have := a.isLt; omega) k]
  exact congrArg (fun s => spreadG D W SC g w s k) (Nat.add_assoc ..).symm

theorem left_rows (t : Fin 8) (a : Fin 512) (l : Fin 1024) :
    leftAt (rows (N := 2048) (n := 2048) (e := .f32) t 0 (by decide) D) (rows (N := 1024) (n := 1024) (e := .bf16) t 0 (by decide) VN) WM BF a l
      = leftG D VN WM BF ⟨t.val * 512 + a.val, by have := a.isLt; have := t.isLt; omega⟩ l := by
  have ha := a.isLt
  have ht := t.isLt
  unfold leftAt rows leftG tok
  show D _ * ((∑ s : Fin 128, WM _ * VN _) + BF _) = _
  blk_point <;> omega

theorem gate_rows (t : Fin 8) (a : Fin 512) (l : Fin 1024) :
    gateGrad (rows (N := 3072) (n := 1024) (e := .f32) t 2048 (by decide) Pj)
      (normCot (rows (N := 2048) (n := 2048) (e := .f32) t 0 (by decide) D) (rows (N := 3072) (n := 1024) (e := .f32) t 1024 (by decide) Pj) WM) G (ix2 a l)
      = normG D Pj G WM ⟨t.val * 512 + a.val, by have := a.isLt; have := t.isLt; omega⟩ l := by
  have hc : normCot (rows (N := 2048) (n := 2048) (e := .f32) t 0 (by decide) D) (rows (N := 3072) (n := 1024) (e := .f32) t 1024 (by decide) Pj) WM
      = fun j => cotG D Pj WM ⟨t.val * 512 + (j 0).val, by have h : (j 0).val < 512 := (j 0).isLt; have := t.isLt; omega⟩ (j 1) :=
    funext fun j => normCot_rows D Pj WM t j
  rw [hc]
  unfold normG meanG vG
  generalize hC : cotG D Pj WM = C
  unfold gateGrad
  pointwise [k0_pay353, k0_pay348, k0_pay349, k0_pay351, k0_pay352, rows]

/-- The gradient of the projected activations. -/
def projG (j : S4096x3072.Idx) : EReal :=
  have hy : (j 1).val < 3072 := (j 1).isLt
  if h : (j 1).val < 1024 then
    if h0 : (j 1).val < 256 then poolG D W SC 0 2 0x40000000#32 (j 0) ⟨(j 1).val, by omega⟩
    else if h1 : (j 1).val < 512 then poolG D W SC 1 4 0x40800000#32 (j 0) ⟨(j 1).val - 256, by omega⟩
    else if h2 : (j 1).val < 768 then poolG D W SC 2 8 0x41000000#32 (j 0) ⟨(j 1).val - 512, by omega⟩
    else poolG D W SC 3 16 0x41800000#32 (j 0) ⟨(j 1).val - 768, by omega⟩
  else if h' : (j 1).val < 2048 then leftG D VN WM BF (j 0) ⟨(j 1).val - 1024, by omega⟩
  else normG D Pj G WM (j 0) ⟨(j 1).val - 2048, by omega⟩

theorem proj_rows (t : Fin 8) (X1 : FVec Ideal S16x1024 .f32)
    (hX1 : Halo D t X1)
    (a : Fin 512) (l : Fin 3072) :
    projAt t.val (rows (N := 2048) (n := 2048) (e := .f32) t 0 (by decide) D) X1 (rows (N := 3072) (n := 1024) (e := .f32) t 1024 (by decide) Pj)
      (rows (N := 3072) (n := 1024) (e := .f32) t 2048 (by decide) Pj) (rows (N := 1024) (n := 1024) (e := .bf16) t 0 (by decide) VN) W SC G WM BF (ix2 a l)
      = projG D Pj VN W SC G WM BF (ix2 (⟨t.val * 512 + a.val, by have := a.isLt; have := t.isLt; omega⟩ : Fin 4096) l) := by
  unfold projAt projG
  show (if h : l.val < 1024 then _ else _) = if h : l.val < 1024 then _ else _
  by_cases h : l.val < 1024
  · rw [dif_pos h, dif_pos h]
    show (if h : l.val < 256 then _ else _) = if h : l.val < 256 then _ else _
    by_cases h0 : l.val < 256
    · rw [dif_pos h0, dif_pos h0]; exact pool_rows D W SC t X1 hX1 0 2 (by decide) _ a _
    · rw [dif_neg h0, dif_neg h0]
      show (if h : l.val < 512 then _ else _) = if h : l.val < 512 then _ else _
      by_cases h1 : l.val < 512
      · rw [dif_pos h1, dif_pos h1]; exact pool_rows D W SC t X1 hX1 1 4 (by decide) _ a _
      · rw [dif_neg h1, dif_neg h1]
        show (if h : l.val < 768 then _ else _) = if h : l.val < 768 then _ else _
        by_cases h2 : l.val < 768
        · rw [dif_pos h2, dif_pos h2]; exact pool_rows D W SC t X1 hX1 2 8 (by decide) _ a _
        · rw [dif_neg h2, dif_neg h2]; exact pool_rows D W SC t X1 hX1 3 16 (by decide) _ a _
  · rw [dif_neg h, dif_neg h]
    show (if h : l.val < 2048 then _ else _) = if h : l.val < 2048 then _ else _
    by_cases h' : l.val < 2048
    · rw [dif_pos h', dif_pos h']; exact left_rows D VN WM BF t a _
    · rw [dif_neg h', dif_neg h']; exact gate_rows D Pj G WM t a _
-- ==== Proof.MixerFinal.lean ====
module

public import proofs.«01_k».proof.Proof.MixerRows

/-! What the result arrays of the mixer's backward call hold after its last grid point. -/

@[expose] public section

set_option maxRecDepth 16384

noncomputable section

open Idealize.ShloMosaic Idealize.ShloMosaic.TcCoe Idealize.SL.Sem
open Idealize.ShloMosaic.Pipeline (Dat)

namespace Cert.Kernel2Ideal.Hand

open Cert.Kernel2Ideal Cert.Kernel2Ideal.Gen

variable (m : (ℓ : Loc nD τ sig) → Buf (Elt Ideal) ℓ)

theorem final_proj (c : Dev nD) : (dats m 0 c).arrAt 11 (cfgs 0).N
    = projG (m ((c : Thread nD τ).loc main_arg0)) (m ((c : Thread nD τ).loc main_arg1)) (V m c main_v94) (V m c main_v96)
      (m ((c : Thread nD τ).loc main_arg3)) (m ((c : Thread nD τ).loc main_arg4)) (V m c main_v11) (V m c main_v15) := by
  refine (dats m 0 c).arrAt_eq_of_covers 11 _ (by decide +kernel) fun t hf y => ?_
  blk_simp
  rw [after0_11, proj_tile, block0, block2, block3, block5, block6, block7, block8, block9, block10]
  have hi := (idx t).2.2.2.2.2.2.2.2.2.2.2.2
  rw [hi]
  rw [eq_ix2 y]
  refine (proj_rows _ _ _ _ _ _ _ _ t (iblk m c 1 t) (fun h a k => block1 m c t h a k) _ _).trans ?_
  generalize projG (m ((c : Thread nD τ).loc main_arg0)) (m ((c : Thread nD τ).loc main_arg1)) (V m c main_v94) (V m c main_v96)
      (m ((c : Thread nD τ).loc main_arg3)) (m ((c : Thread nD τ).loc main_arg4)) (V m c main_v11) (V m c main_v15) = X
  have hi := (idx t).2.2.2.2.2.2.2.2.2.2.2.1
  refine congrArg X (funext fun a => Fin.ext ?_)
  match a with
  | ⟨0, _⟩ => show _ = win0_11.index t 0 * 512 + 1 * (y 0).val; rw [hi]; show t.val * 512 + _ = t.val * 512 + 1 * _; rw [one_mul]
  | ⟨1, _⟩ => show _ = win0_11.index t 1 * 3072 + 1 * (y 1).val; rw [hi]; show (y 1).val = 0 * 3072 + 1 * (y 1).val; rw [Nat.zero_mul, Nat.zero_add, Nat.one_mul]

/-- The scale's, the map's, the bias's, the token weights' and the gain's share of one point. -/
def partScale (c : Dev nD) (n : Nat) (hn : n < 8) (j : S8x1024.Idx) : EReal :=
  scaleAt (rows (N := 2048) (n := 2048) (e := .f32) ⟨n, hn⟩ 0 (by decide) (m ((c : Thread nD τ).loc main_arg0)))
    (rows (N := 1024) (n := 1024) (e := .bf16) ⟨n, hn⟩ 0 (by decide) (V m c main_v78)) (V m c main_v96) (j 0) (j 1)

def partMap (c : Dev nD) (n : Nat) (hn : n < 8) (j : S4x256x256.Idx) : EReal :=
  mapAt (rows (N := 2048) (n := 2048) (e := .f32) ⟨n, hn⟩ 0 (by decide) (m ((c : Thread nD τ).loc main_arg0)))
    (rows (N := 1024) (n := 1024) (e := .bf16) ⟨n, hn⟩ 0 (by decide) (V m c main_v78)) (m ((c : Thread nD τ).loc main_arg3)) (j 0) (j 1) (j 2)

def partGate (c : Dev nD) (n : Nat) (hn : n < 8) (b : Fin 4) (a : Fin 128) (l : Fin 1024) : EReal :=
  gateG (m ((c : Thread nD τ).loc main_arg0)) (m ((c : Thread nD τ).loc main_arg1)) (tok (n * 4 + b.val) (by have := b.isLt; omega) a) l

theorem gate_eq (c : Dev nD) (t : Fin cfg0.N) (b : Fin 4) (a : Fin 128) (l : Fin 1024) :
    gateAt (iblk m c 0 t) (iblk m c 2 t) b a l = partGate m c t.val t.isLt b a l := by
  rw [block0, block2]
  exact gateAt_rows _ _ t b a l

theorem add_four {a b c d : EReal} (f : Fin 4 → EReal) (ha : a = f 0) (hb : b = f 1) (hc : c = f 2) (hd : d = f 3) :
    a + b + c + d = ∑ i, f i := by rw [ha, hb, hc, hd, Fin.sum_univ_four]

def partBias (c : Dev nD) (n : Nat) (hn : n < 8) (j : S128x1024.Idx) : EReal := ∑ b : Fin 4, partGate m c n hn b (j 0) (j 1)

def partSpace (c : Dev nD) (n : Nat) (hn : n < 8) (j : S8x128x128.Idx) : EReal :=
  ∑ b : Fin 4, ∑ l : Fin 128, partGate m c n hn b (j 1) (lane (j 0) l)
    * V m c main_v94 (ix2 (tok (n * 4 + b.val) (by have := b.isLt; omega) (j 2)) (lane (j 0) l))

def partGain (c : Dev nD) (n : Nat) (hn : n < 8) (j : S8x1024.Idx) : EReal :=
  have h0 : (j 0).val < 8 := (j 0).isLt
  ∑ q : Fin 64, cotG (m ((c : Thread nD τ).loc main_arg0)) (m ((c : Thread nD τ).loc main_arg1)) (V m c main_v11)
      ⟨n * 512 + (q.val * 8 + (j 0).val), by have := q.isLt; omega⟩ (j 1)
    * (vG (m ((c : Thread nD τ).loc main_arg1)) ⟨n * 512 + (q.val * 8 + (j 0).val), by have := q.isLt; omega⟩ (j 1)
      * Ideal.rsqrt (meanG (m ((c : Thread nD τ).loc main_arg1)) ⟨n * 512 + (q.val * 8 + (j 0).val), by have := q.isLt; omega⟩))

theorem total_scale (c : Dev nD) (j : S8x1024.Idx) :
    (outsAt0 m c 7 (by decide)).2.2.2.2.2.2.1 j = ∑ s : Fin 8, partScale m c s.val s.isLt j := by
  refine run_sum 8 le_rfl (fun n hn => (outsAt0 m c n hn).2.2.2.2.2.2.1) (partScale m c) (fun n hn A hz hp => ?_) 7 (by decide) j
  refine (step_scale m c ⟨n, hn⟩ A hz hp).trans ?_
  rw [block0, block4, block6]
  rfl

theorem total_map (c : Dev nD) (j : S4x256x256.Idx) :
    (outsAt0 m c 7 (by decide)).2.1 j = ∑ s : Fin 8, partMap m c s.val s.isLt j := by
  refine run_sum 8 le_rfl (fun n hn => (outsAt0 m c n hn).2.1) (partMap m c) (fun n hn A hz hp => ?_) 7 (by decide) j
  refine (step_map m c ⟨n, hn⟩ A hz hp).trans ?_
  rw [block0, block4, block7]
  rfl

theorem total_bias (c : Dev nD) (j : S128x1024.Idx) :
    (outsAt0 m c 7 (by decide)).2.2.2.2.2.2.2.2 j = ∑ s : Fin 8, partBias m c s.val s.isLt j := by
  refine run_sum 8 le_rfl (fun n hn => (outsAt0 m c n hn).2.2.2.2.2.2.2.2) (partBias m c) (fun n hn A hz hp => ?_) 7 (by decide) j
  refine (step_bias m c ⟨n, hn⟩ A hz hp).trans (funext fun i => ?_)
  have e := fun b => gate_eq m c ⟨n, hn⟩ b (i 0) (i 1)
  exact congrArg (A i + ·) (add_four (fun b => partGate m c n hn b (i 0) (i 1)) (e 0) (e 1) (e 2) (e 3))

theorem spaceAt_eq (c : Dev nD) (t : Fin cfg0.N) (b : Fin 4) (h : Fin 8) (a a' : Fin 128) :
    spaceAt (iblk m c 0 t) (iblk m c 2 t) (iblk m c 5 t) b h a a' = ∑ l : Fin 128, partGate m c t.val t.isLt b a (lane h l)
      * V m c main_v94 (ix2 (tok (t.val * 4 + b.val) (by have := b.isLt; have h : t.val < 8 := t.isLt; omega) a') (lane h l)) := by
  unfold spaceAt
  simp only [gate_eq]
  rw [block5]
  generalize V m c main_v94 = VN
  unfold rows tok lane
  refine Fin.sum_fin_congr fun l => congrArg (HMul.hMul _) ?_
  have := t.isLt
  blk_point <;> omega

theorem step_space' (c : Dev nD) (t : Fin cfg0.N) (A : FVec Ideal S8x128x128 .f32) :
    stepSpace (iblk m c 0 t) (iblk m c 2 t) (iblk m c 5 t) A = fun j => A j + partSpace m c t.val t.isLt j := by
  funext i
  have e := fun b => spaceAt_eq m c t b (i 0) (i 1) (i 2)
  exact congrArg (A i + ·) (add_four (fun b => ∑ l : Fin 128, partGate m c t.val t.isLt b (i 1) (lane (i 0) l)
    * V m c main_v94 (ix2 (tok (t.val * 4 + b.val) (by have := b.isLt; have h : t.val < 8 := t.isLt; omega) (i 2)) (lane (i 0) l))) (e 0) (e 1) (e 2) (e 3))

theorem total_space (c : Dev nD) (j : S8x128x128.Idx) :
    (outsAt0 m c 6 (by decide)).2.2.2.2.1 j = ∑ s : Fin 7, partSpace m c s.val (by have := s.isLt; omega) j := by
  refine run_sum 7 (by decide) (fun n hn => (outsAt0 m c n (by change n < 8; omega)).2.2.2.2.1) (fun n hn => partSpace m c n (by omega)) (fun n hn A hz hp => ?_) 6 (by decide) j
  refine (step_space m c ⟨n, by change n < 8; omega⟩ (by show ¬n % 8 = 7; omega) A hz hp).trans ?_
  exact step_space' m c _ A

theorem gain_eq (X3 D : FVec Ideal S512x1024 .f32) (A : FVec Ideal S8x1024 .f32) (r : Fin 8) (l : Fin 1024) :
    k0_pay350 (F := Ideal) X3 D A (ix2 r l) = A (ix2 r l) + ∑ q : Fin 64,
      D (ix2 (⟨q.val * 8 + r.val, by have := q.isLt; have := r.isLt; omega⟩ : Fin 512) l)
        * (X3 (ix2 (⟨q.val * 8 + r.val, by have := q.isLt; have := r.isLt; omega⟩ : Fin 512) l)
        * Ideal.rsqrt (Ideal.div (∑ x : Fin 1024, X3 (ix2 (⟨q.val * 8 + r.val, by have := q.isLt; have := r.isLt; omega⟩ : Fin 512) x)
          * X3 (ix2 (⟨q.val * 8 + r.val, by have := q.isLt; have := r.isLt; omega⟩ : Fin 512) x)) (Ideal.ofBits .f32 0x44800000#32) + Ideal.ofBits .f32 0x358637BD#32)) := by
  pointwise [k0_pay350, k0_pay349, k0_pay348]

theorem total_gain (c : Dev nD) (j : S8x1024.Idx) :
    (outsAt0 m c 7 (by decide)).2.2.2.2.2.2.2.1 j = ∑ s : Fin 8, partGain m c s.val s.isLt j := by
  refine run_sum 8 le_rfl (fun n hn => (outsAt0 m c n hn).2.2.2.2.2.2.2.1) (partGain m c) (fun n hn A hz hp => ?_) 7 (by decide) j
  refine (step_gain m c ⟨n, hn⟩ A hz hp).trans (funext fun i => ?_)
  rw [block0, block2, block3, block9, eq_ix2 i]
  refine (gain_eq _ _ A (i 0) (i 1)).trans (congrArg (_ + ·) (Fin.sum_fin_congr fun q => ?_))
  exact congrArg (· * _) (normCot_rows _ _ _ _ _)

theorem final_scale (c : Dev nD) : (dats m 0 c).arrAt 13 (cfgs 0).N
    = fun j => scaleG (m ((c : Thread nD τ).loc main_arg0)) (V m c main_v78) (V m c main_v96) (j 1) := by
  refine (dats m 0 c).arrAt_eq_of_after_last 13 t0_7 (by decide +kernel) _ fun j => ?_
  blk_simp
  rw [after0_13, out_scale m c t0_7 rfl _ rfl, ← step_scale m c t0_7 _ (fun h => absurd h (by decide)) (fun _ => rfl)]
  have e : (outsAt0 m c 7 (by decide)).2.2.2.2.2.2.1 = fun j => ∑ s : Fin 8, partScale m c s.val s.isLt j := funext (total_scale m c)
  refine (congrArg (fun A => k0_pay3 (F := Ideal) A j) e).trans ?_
  rw [eq_ix2 j]
  pointwise [k0_pay3]
  refine sum_eights _ _ fun r t => ?_
  unfold partScale scaleAt rows
  refine Fin.sum_fin_congr fun q => ?_
  blk_point <;> omega

theorem final_gain (c : Dev nD) : (dats m 0 c).arrAt 14 (cfgs 0).N
    = fun j => gainG (m ((c : Thread nD τ).loc main_arg0)) (m ((c : Thread nD τ).loc main_arg1)) (V m c main_v11) (j 1) := by
  refine (dats m 0 c).arrAt_eq_of_after_last 14 t0_7 (by decide +kernel) _ fun j => ?_
  blk_simp
  rw [after0_14, out_gain m c t0_7 rfl _ rfl, ← step_gain m c t0_7 _ (fun h => absurd h (by decide)) (fun _ => rfl)]
  have e : (outsAt0 m c 7 (by decide)).2.2.2.2.2.2.2.1 = fun j => ∑ s : Fin 8, partGain m c s.val s.isLt j := funext (total_gain m c)
  refine (congrArg (fun A => k0_pay4 (F := Ideal) A j) e).trans ?_
  rw [eq_ix2 j]
  pointwise [k0_pay4]
  refine sum_eights _ _ fun r t => ?_
  rfl

theorem final_map (c : Dev nD) : (dats m 0 c).arrAt 12 (cfgs 0).N
    = fun j => mapG (m ((c : Thread nD τ).loc main_arg0)) (V m c main_v78) (m ((c : Thread nD τ).loc main_arg3)) (j 0) (j 1) (j 2) := by
  refine (dats m 0 c).arrAt_eq_of_after_last 12 t0_7 (by decide +kernel) _ fun j => ?_
  blk_simp
  rw [after0_12]
  refine (total_map m c _).trans ?_
  unfold partMap mapAt mapG rows
  refine Fin.sum_mul_add_congr fun s a hl => ?_
  blk_point

theorem final_bias (c : Dev nD) : (dats m 0 c).arrAt 16 (cfgs 0).N
    = fun j => biasG (m ((c : Thread nD τ).loc main_arg0)) (m ((c : Thread nD τ).loc main_arg1)) (j 0) (j 1) := by
  refine (dats m 0 c).arrAt_eq_of_after_last 16 t0_7 (by decide +kernel) _ fun j => ?_
  blk_simp
  rw [after0_16, out_bias m c t0_7 rfl _ rfl, ← step_bias m c t0_7 _ (fun h => absurd h (by decide)) (fun _ => rfl)]
  refine (Fin.sum_fin_congr fun l => total_bias m c _).trans ?_
  rw [Finset.sum_comm]
  unfold partBias biasG
  refine Eq.trans (Fin.sum_fin_congr fun s => Finset.sum_comm) ?_
  exact Fin.sum_mul_add_congr fun s b hl => rfl

theorem final_space (c : Dev nD) : (dats m 0 c).arrAt 15 (cfgs 0).N
    = fun j => Scalar.select (IntOp.cmpi .sle (chunk (j 2)) (chunk (j 1)))
      (spaceG (m ((c : Thread nD τ).loc main_arg0)) (m ((c : Thread nD τ).loc main_arg1)) (V m c main_v94) (j 0) (j 1) (j 2)) (0 : EReal) := by
  refine (dats m 0 c).arrAt_eq_of_after_last 15 t0_7 (by decide +kernel) _ fun j => ?_
  blk_simp
  rw [after0_15, out_space m c t0_7 rfl _ rfl, step_space' m c t0_7]
  refine congrArg (fun A => Scalar.select (IntOp.cmpi .sle (chunk (j 2)) (chunk (j 1))) A (0 : EReal)) ?_
  refine (congrArg (· + _) (total_space m c j)).trans ?_
  refine (Fin.sum_univ_castSucc (n := 7) (fun s : Fin 8 => partSpace m c s.val s.isLt j)).symm.trans ?_
  unfold partSpace spaceG
  exact Fin.sum_mul_add_congr fun s b hl => rfl
-- ==== Proof.Suffix.lean ====
module

public import Idealize.ShloMosaic.Lib.Pointwise
public import Idealize.ShloMosaic.Lib.Claim

/-! A sum over the rows from a given one on: the reverse running sum, and what it gives for windowed differences. -/

@[expose] public section

noncomputable section

open Idealize.ShloMosaic

namespace Cert.Suffix

theorem foldl_add {ι : Type} (l : List ι) (g : ι → EReal) (z : EReal) : l.foldl (fun r n => r + g n) z = z + (l.map g).sum := by
  induction l generalizing z with
  | nil => simp
  | cons a l ih => rw [List.foldl_cons, ih, List.map_cons, List.sum_cons, add_assoc]

/-- A windowed sum over `S` rows, `lo` rows padded before the first: the rows that lie inside the array. -/
theorem reduceWindowAdd_pad {S K : Nat} {u : Shape} (lo hi : Nat) (x : FVec Ideal ⟨3, ![1, S, K]⟩ .f32) (z : u.Idx → Ideal .f32)
    (h : (⟨3, ![1, S, K]⟩ : Shape).ReduceWindows ![1, S, 1] ![1, 1, 1] ![0, lo, 0] ![0, hi, 0] ⟨3, ![1, S, K]⟩)
    (hu : 0 < u.numel) (hz : z (Shape.Idx.first hu) = 0) (s : Fin S) (k : Fin K) :
    Host.reduceWindowAdd (F := Ideal) ![1, S, 1] ![1, 1, 1] ![0, lo, 0] ![0, hi, 0] x z h hu (ix3 (0 : Fin 1) s k)
      = ∑ i : Fin S, if hs : lo ≤ s.val + i.val ∧ s.val + i.val - lo < S then x (ix3 (0 : Fin 1) (⟨s.val + i.val - lo, hs.2⟩ : Fin S) k) else 0 := by
  show List.foldl _ (z (Shape.Idx.first hu)) (List.finRange _) = _
  rw [hz]
  refine (foldl_add _ _ _).trans ?_
  rw [zero_add, ← List.ofFn_eq_map, List.sum_ofFn]
  refine (Fintype.sum_bijective (fun i : Fin S => Shape.rowMajor ⟨3, ![1, S, 1]⟩ (ix3 (0 : Fin 1) i (0 : Fin 1))) ⟨?_, ?_⟩ _ _ fun i => ?_).symm
  · intro i i' e; exact congrFun ((Shape.rowMajor _).injective e) 1
  · intro n
    obtain ⟨w, rfl⟩ := (Shape.rowMajor ⟨3, ![1, S, 1]⟩).surjective n
    refine ⟨w 1, congrArg _ (funext fun a => ?_)⟩
    match a with
    | ⟨0, _⟩ => exact Subsingleton.elim (α := Fin 1) _ _
    | ⟨1, _⟩ => rfl
    | ⟨2, _⟩ => exact Subsingleton.elim (α := Fin 1) _ _
  · have e : (Shape.rowMajor ⟨3, ![1, S, 1]⟩).symm (Shape.rowMajor ⟨3, ![1, S, 1]⟩ (ix3 (0 : Fin 1) i (0 : Fin 1))) = ix3 (0 : Fin 1) i (0 : Fin 1) :=
      Equiv.symm_apply_apply _ _
    have e0 := congrArg (fun w : (⟨3, ![1, S, 1]⟩ : Shape).Idx => (w 0).val) e
    have e1 := congrArg (fun w : (⟨3, ![1, S, 1]⟩ : Shape).Idx => (w 1).val) e
    have e2 := congrArg (fun w : (⟨3, ![1, S, 1]⟩ : Shape).Idx => (w 2).val) e
    by_cases hs : lo ≤ s.val + i.val ∧ s.val + i.val - lo < S
    · rw [dif_pos hs, dif_pos]
      · refine congrArg x (funext fun a => Fin.ext ?_)
        match a with
        | ⟨0, _⟩ => exact (congrArg (fun n => (0 : Fin 1).val * 1 + n - 0) e0).symm
        | ⟨1, _⟩ => exact (show s.val + i.val - lo = s.val * 1 + i.val - lo by omega).trans (congrArg (fun n => s.val * 1 + n - lo) e1).symm
        | ⟨2, _⟩ => exact (show k.val = k.val * 1 + 0 - 0 by omega).trans (congrArg (fun n => k.val * 1 + n - 0) e2).symm
      · intro a
        match a with
        | ⟨0, _⟩ => exact ⟨Nat.zero_le _, (congrArg (fun n => (0 : Fin 1).val * 1 + n - 0) e0).trans_lt Nat.zero_lt_one⟩
        | ⟨1, _⟩ => exact ⟨(show lo ≤ s.val * 1 + i.val by omega).trans (congrArg (fun n => s.val * 1 + n) e1).ge, (congrArg (fun n => s.val * 1 + n - lo) e1).trans_lt (show s.val * 1 + i.val - lo < S by omega)⟩
        | ⟨2, _⟩ => exact ⟨Nat.zero_le _, (congrArg (fun n => k.val * 1 + n - 0) e2).trans_lt (show k.val * 1 + 0 - 0 < K by have := k.isLt; omega)⟩
    · rw [dif_neg hs, dif_neg]
      intro hin
      have h1 : s.val * 1 + i.val - lo < S := (congrArg (fun n => s.val * 1 + n - lo) e1).symm.trans_lt (hin 1).2
      have h2 : lo ≤ s.val * 1 + i.val := (show lo ≤ _ from (hin 1).1).trans (congrArg (fun n => s.val * 1 + n) e1).le
      omega

theorem reduceWindowAdd_rows {S K : Nat} {u : Shape} (hi : Nat) (x : FVec Ideal ⟨3, ![1, S, K]⟩ .f32) (z : u.Idx → Ideal .f32)
    (h : (⟨3, ![1, S, K]⟩ : Shape).ReduceWindows ![1, S, 1] ![1, 1, 1] ![0, 0, 0] ![0, hi, 0] ⟨3, ![1, S, K]⟩)
    (hu : 0 < u.numel) (hz : z (Shape.Idx.first hu) = 0) (s : Fin S) (k : Fin K) :
    Host.reduceWindowAdd (F := Ideal) ![1, S, 1] ![1, 1, 1] ![0, 0, 0] ![0, hi, 0] x z h hu (ix3 (0 : Fin 1) s k)
      = ∑ i : Fin S, if hs : s.val + i.val < S then x (ix3 (0 : Fin 1) (⟨s.val + i.val, hs⟩ : Fin S) k) else 0 := by
  refine (reduceWindowAdd_pad 0 hi x z h hu hz s k).trans (Finset.sum_congr rfl fun i _ => ?_)
  by_cases hs : s.val + i.val < S
  · rw [dif_pos hs, dif_pos ⟨Nat.zero_le _, hs⟩]; rfl
  · rw [dif_neg hs, dif_neg fun h => hs h.2]

/-- With one row less than all padded before the first, the windowed sum is the running sum. -/
theorem prefix_sum {S : Nat} (x : Fin S → EReal) (s : Fin S) :
    (∑ i : Fin S, if hs : S - 1 ≤ s.val + i.val ∧ s.val + i.val - (S - 1) < S then x ⟨s.val + i.val - (S - 1), hs.2⟩ else 0)
      = ∑ n ∈ Finset.range (s.val + 1), if h : n < S then x ⟨n, h⟩ else 0 := by
  have hs := s.isLt
  obtain ⟨H, hH⟩ : ∃ H : Nat → EReal, H = fun n => if h : n < S then x ⟨n, h⟩ else 0 := ⟨_, rfl⟩
  have e1 : ∀ i : Fin S, (if hs : S - 1 ≤ s.val + i.val ∧ s.val + i.val - (S - 1) < S then x ⟨s.val + i.val - (S - 1), hs.2⟩ else 0)
      = if S - 1 ≤ s.val + i.val then H (s.val + i.val - (S - 1)) else 0 := fun i => by
    have hi := i.isLt
    have hn : s.val + i.val - (S - 1) < S := by omega
    rw [hH]
    by_cases h : S - 1 ≤ s.val + i.val
    · rw [dif_pos ⟨h, hn⟩, if_pos h]; beta_reduce; rw [dif_pos hn]
    · rw [dif_neg fun h' => h h'.1, if_neg h]
  rw [← hH]
  simp only [e1]
  rw [Fin.sum_univ_eq_sum_range (fun i => if S - 1 ≤ s.val + i then H (s.val + i - (S - 1)) else 0) S]
  have e2 : S = (S - 1 - s.val) + (s.val + 1) := by omega
  conv_lhs => arg 1; rw [e2]
  rw [Finset.sum_range_add, Finset.sum_eq_zero fun i hi => if_neg (by have := Finset.mem_range.mp hi; omega), zero_add]
  refine Finset.sum_congr rfl fun i hi => ?_
  have := Finset.mem_range.mp hi
  rw [if_pos (by omega)]
  exact congrArg H (by omega)

/-- The running sum of finite values less the one `w` places before, where there is one: the last `w` of them are left. -/
theorem prefix_window (w : Nat) (hw : 0 < w) (H : Nat → EReal) (hf : ∀ n, ∃ v : ℝ, H n = (v : EReal)) (s : Nat) :
    (∑ n ∈ Finset.range (s + 1), H n) - (if w ≤ s then ∑ n ∈ Finset.range (s - w + 1), H n else 0)
      = ∑ j ∈ Finset.range w, if j ≤ s then H (s - j) else 0 := by
  by_cases h : w ≤ s
  · rw [if_pos h, show s + 1 = (s - w + 1) + w by omega, Finset.sum_range_add]
    obtain ⟨v, hv⟩ : ∃ v : ℝ, ∑ n ∈ Finset.range (s - w + 1), H n = (v : EReal) := by
      generalize s - w + 1 = N
      induction N with
      | zero => exact ⟨0, by simp⟩
      | succ N ih =>
        obtain ⟨a, ha⟩ := ih
        obtain ⟨b, hb⟩ := hf N
        exact ⟨a + b, by rw [Finset.sum_range_succ, ha, hb]; norm_cast⟩
    rw [hv]
    have e : ∀ B : EReal, (v : EReal) + B - v = B := fun B => by
      rw [add_comm, EReal.add_sub_cancel_right]
    rw [e, ← Finset.sum_range_reflect]
    refine Finset.sum_congr rfl fun j hj => ?_
    have := Finset.mem_range.mp hj
    rw [if_pos (by omega)]
    exact congrArg H (by omega)
  · have e : w = (s + 1) + (w - (s + 1)) := by omega
    rw [if_neg h, sub_zero]
    conv_rhs => rw [e, Finset.sum_range_add]
    rw [Finset.sum_eq_zero (s := Finset.range (w - (s + 1))) fun i _ => if_neg (by omega), add_zero, ← Finset.sum_range_reflect]
    refine Finset.sum_congr rfl fun j hj => ?_
    have := Finset.mem_range.mp hj
    rw [if_pos (by omega)]
    exact congrArg H (by omega)

/-- Finite values, each with its place `w` further on taken off where there is one, summed from `s` to the end: the
    first `w` of them are left. -/
theorem suffix_window {S : Nat} (w : Nat) (h : Nat → EReal) (hf : ∀ n, n < S → ∃ v : ℝ, h n = (v : EReal)) (s : Nat) (hs : s < S) :
    (∑ i : Fin S, if s + i.val < S then h (s + i.val) + (if s + i.val + w < S then -h (s + i.val + w) else 0) else 0)
      = ∑ j ∈ Finset.range w, if s + j < S then h (s + j) else 0 := by
  obtain ⟨v, hv⟩ : ∃ v : Nat → ℝ, ∀ n, n < S → h n = (v n : EReal) :=
    ⟨fun n => (h n).toReal, fun n hn => by obtain ⟨r, hr⟩ := hf n hn; simp only [hr, EReal.toReal_coe]⟩
  obtain ⟨g, hg⟩ : ∃ g : Nat → ℝ, g = fun n => if n < S then v n else 0 := ⟨_, rfl⟩
  have e1 : ∀ n, (if n < S then h n else 0) = (g n : EReal) := fun n => by
    rw [hg]; by_cases hn : n < S
    · simp only [if_pos hn, hv n hn]
    · simp only [if_neg hn]; rfl
  have e2 : ∀ n, (if n < S then h n + (if n + w < S then -h (n + w) else 0) else 0) = ((g n - g (n + w) : ℝ) : EReal) := fun n => by
    rw [hg]
    by_cases hn : n < S
    · by_cases hm : n + w < S
      · simp only [if_pos hn, if_pos hm, hv n hn, hv _ hm]; norm_cast
      · simp only [if_pos hn, if_neg hm, hv n hn]; simp
    · have hm : ¬n + w < S := by omega
      simp only [if_neg hn, if_neg hm]; simp
  simp only [e1, e2]
  rw [Fin.sum_univ_eq_sum_range (fun i => ((g (s + i) - g (s + i + w) : ℝ) : EReal)) S]
  have hc : ∀ (t : Finset Nat) (f : Nat → ℝ), ∑ i ∈ t, ((f i : ℝ) : EReal) = ((∑ i ∈ t, f i : ℝ) : EReal) := fun t f => by
    classical
    induction t using Finset.induction_on with
    | empty => simp
    | insert a t ha ih => rw [Finset.sum_insert ha, Finset.sum_insert ha, ih]; norm_cast
  rw [hc, hc]
  congr 1
  rw [Finset.sum_sub_distrib]
  have hz : ∀ n, S ≤ n → g n = 0 := fun n hn => by rw [hg]; exact if_neg (by omega)
  have e3 : ∑ i ∈ Finset.range S, g (s + i) = ∑ i ∈ Finset.range (w + S), g (s + i) := by
    rw [Nat.add_comm w S, Finset.sum_range_add]
    rw [Finset.sum_eq_zero (s := Finset.range w) fun i _ => hz _ (by omega), add_zero]
  rw [e3, Finset.sum_range_add]
  have e4 : ∑ i ∈ Finset.range S, g (s + (w + i)) = ∑ i ∈ Finset.range S, g (s + i + w) :=
    Finset.sum_congr rfl fun i _ => congrArg g (by omega)
  rw [e4]
  ring

end Cert.Suffix
-- ==== Proof.NormGrad.lean ====
module

public import Idealize.ShloMosaic.Lib.Pointwise
public import Idealize.ShloMosaic.Lib.Claim

/-! The gradient of a root-mean-square norm: the body's closed form against the derivative of its lines. -/

@[expose] public section

noncomputable section

open Idealize.ShloMosaic

namespace Cert.Norm

theorem ofBits_1024 : Ideal.ofBits .f32 0x44800000#32 = ((1024 : ℝ) : EReal) := by
  simp [Ideal.ofBits, Ideal.ieee, -EReal.coe_mul]; norm_num

theorem ofBits_2048 : Ideal.ofBits .f32 0x45000000#32 = ((2048 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

theorem ofBits_eps : Ideal.ofBits .f32 0x358637BD#32 = (((8796093 : ℝ) * 2 ^ (-43 : ℤ) : ℝ) : EReal) := by
  simp [Ideal.ofBits, Ideal.ieee, -EReal.coe_mul]

theorem div_coe (x : EReal) {y : ℝ} (hy : 0 < y) : Ideal.div x (y : EReal) = x * ((y⁻¹ : ℝ) : EReal) := by
  rw [Ideal.div, if_neg (by exact_mod_cast hy.ne'), EReal.coe_inv]

theorem mul_self_nonneg (x : EReal) : 0 ≤ x * x := by
  induction x with
  | bot => simp
  | top => simp
  | coe r => exact_mod_cast _root_.mul_self_nonneg r

/-- A nonnegative real factor goes through a sum of extended reals. -/
theorem sum_mul_coe {ι : Type} (s : Finset ι) (f : ι → EReal) {r : ℝ} (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

theorem finite_of_sum_sq {n : Nat} (x : Fin n → EReal) {s : ℝ} (h : ∑ k, x k * x k = (s : EReal)) (l : Fin n) :
    ∃ v : ℝ, x l = (v : EReal) := by
  have hle : x l * x l ≤ (s : EReal) := h ▸ Finset.single_le_sum (f := fun k => x k * x k) (fun k _ => mul_self_nonneg (x k)) (Finset.mem_univ l)
  generalize x l = y at hle ⊢
  induction y with
  | bot => simp at hle
  | top => simp at hle
  | coe r => exact ⟨r, rfl⟩

/-- A real slope: `t` once more than it, halved each time, is the whole. -/
theorem half_twice (v : ℝ) {a b : ℝ} (ha : 0 ≤ a) (hab : a = 2 * b) (T : EReal) :
    -((v : EReal) * (T * (a : EReal))) = (v : EReal) * (T * ((-b : ℝ) : EReal)) + T * ((-b : ℝ) : EReal) * (v : EReal) := by
  subst hab
  have hb : 0 ≤ b := by linarith
  induction T with
  | coe t => norm_cast; ring
  | top =>
    rcases hb.eq_or_lt with rfl | hb
    · simp
    · have e1 : (⊤ : EReal) * ((2 * b : ℝ) : EReal) = ⊤ := EReal.top_mul_coe_of_pos (by linarith)
      have e2 : (⊤ : EReal) * ((-b : ℝ) : EReal) = ⊥ := EReal.top_mul_coe_of_neg (by linarith)
      rw [e1, e2]
      rcases lt_trichotomy v 0 with h | rfl | h
      · simp [EReal.coe_mul_top_of_neg h, EReal.coe_mul_bot_of_neg h, EReal.bot_mul_coe_of_neg h]
      · simp
      · simp [EReal.coe_mul_top_of_pos h, EReal.coe_mul_bot_of_pos h, EReal.bot_mul_coe_of_pos h]
  | bot =>
    rcases hb.eq_or_lt with rfl | hb
    · simp
    · have e1 : (⊥ : EReal) * ((2 * b : ℝ) : EReal) = ⊥ := EReal.bot_mul_coe_of_pos (by linarith)
      have e2 : (⊥ : EReal) * ((-b : ℝ) : EReal) = ⊤ := EReal.bot_mul_coe_of_neg (by linarith)
      rw [e1, e2]
      rcases lt_trichotomy v 0 with h | rfl | h
      · simp [EReal.coe_mul_bot_of_neg h, EReal.coe_mul_top_of_neg h, EReal.top_mul_coe_of_neg h]
      · simp
      · simp [EReal.coe_mul_bot_of_pos h, EReal.coe_mul_top_of_pos h, EReal.top_mul_coe_of_pos h]

/-- The derivative of `x / sqrt (mean x² + e)` against `d`, written out and as the chain rule leaves it: no entry
    need be finite. -/
theorem grad_eq {n : Nat} (x d : Fin n → EReal) {N e : ℝ} (hN : 0 < N) (he : 0 < e) (q r : EReal)
    (hq : q = Ideal.div (∑ k, x k * x k) (N : EReal) + (e : EReal)) (hr : r = Ideal.rsqrt q) (l : Fin n) :
    r * (d l - x l * r * Ideal.div (∑ k, d k * (x k * r)) (N : EReal))
      = d l * r + x l * Ideal.div ((∑ k, x k * d k) * (((-(1 / 2) : ℝ) : EReal) * Ideal.div r q)) (N : EReal)
        + Ideal.div ((∑ k, x k * d k) * (((-(1 / 2) : ℝ) : EReal) * Ideal.div r q)) (N : EReal) * x l := by
  have h0 : 0 ≤ ∑ k, x k * x k := Finset.sum_nonneg fun k _ => mul_self_nonneg (x k)
  rw [div_coe _ hN] at hq ⊢
  rw [div_coe _ hN]
  generalize hs : ∑ k, x k * x k = s at h0 hq
  induction s with
  | bot => simp at h0
  | top =>
    have hq' : q = ⊤ := by
      rw [hq, EReal.top_mul_coe_of_pos (inv_pos.mpr hN)]; exact EReal.top_add_coe e
    have hr' : r = 0 := by rw [hr, hq']; rfl
    rw [hr', hq']
    simp [Ideal.div]
  | coe s =>
    obtain ⟨v, hv⟩ := finite_of_sum_sq x hs l
    have hs0 : 0 ≤ s := by exact_mod_cast h0
    have hp : 0 < s * N⁻¹ + e := by positivity
    obtain ⟨p, rfl⟩ : ∃ p : ℝ, p = s * N⁻¹ + e := ⟨_, rfl⟩
    have hq' : q = ((s * N⁻¹ + e : ℝ) : EReal) := by rw [hq]; norm_cast
    have hr' : r = (((Real.sqrt (s * N⁻¹ + e))⁻¹ : ℝ) : EReal) := by
      rw [hr, hq']
      exact (if_neg (by linarith)).trans (if_neg hp.ne')
    generalize s * N⁻¹ + e = p at hp hq' hr'
    have hw : 0 < (Real.sqrt p)⁻¹ := inv_pos.mpr (Real.sqrt_pos.mpr hp)
    have hsq : (Real.sqrt p)⁻¹ * (Real.sqrt p)⁻¹ = p⁻¹ := by rw [← mul_inv, Real.mul_self_sqrt hp.le]
    generalize (Real.sqrt p)⁻¹ = w at hw hr' hsq
    rw [hv, hq', hr', div_coe _ hp]
    have hT : ∑ k, d k * (x k * (w : EReal)) = (∑ k, x k * d k) * (w : EReal) := by
      rw [sum_mul_coe _ _ hw.le]
      exact Finset.sum_congr rfl fun k _ => by rw [← mul_assoc, mul_comm (d k)]
    rw [hT]
    generalize ∑ k, x k * d k = T
    rw [sub_eq_add_neg, EReal.left_distrib_of_nonneg_of_ne_top (by exact_mod_cast hw.le) (EReal.coe_ne_top w), add_assoc, mul_comm (w : EReal) (d l)]
    congr 1
    have hL : (w : EReal) * -((v : EReal) * (w : EReal) * (T * (w : EReal) * ((N⁻¹ : ℝ) : EReal)))
        = -((v : EReal) * (T * ((w * w * w * N⁻¹ : ℝ) : EReal))) := by
      rw [mul_neg]; push_cast; congr 1; ac_rfl
    have hR : T * (((-(1 / 2) : ℝ) : EReal) * ((w : EReal) * ((p⁻¹ : ℝ) : EReal))) * ((N⁻¹ : ℝ) : EReal)
        = T * ((-(w * w * w * N⁻¹ / 2) : ℝ) : EReal) := by
      rw [mul_assoc]
      congr 1
      rw [← hsq]
      norm_cast
      ring
    rw [hL, hR]
    exact half_twice v (by positivity) (by ring) T

end Cert.Norm
-- ==== Proof.MixerRef.lean ====
module

public import proofs.«01_k».proof.Proof.MixerRows
public import proofs.«01_k».proof.Proof.Suffix
public import proofs.«01_k».proof.Proof.NormGrad
public import proofs.«01_k».proof.Proof.Gen.Reference2Ideal.Run

/-! The mixer's reference gradients, read at an index. -/

@[expose] public section

set_option maxRecDepth 16384

noncomputable section

open Idealize.ShloMosaic Idealize.ShloMosaic.TcCoe Idealize.SL.Sem

namespace Cert.Reference2Ideal.Hand

open Cert.Reference2Ideal Cert.Reference2Ideal.Value Cert.Reference2Ideal.Gen
open Cert.Kernel2Ideal.Hand (mapped place gateG tok lane cotG vG meanG gainG normG leftG spreadG poolG scaleG mapG biasG spaceG)

variable (V0 : Valuation τ sig (Elt Ideal))

/-- The seven arguments. -/
def aD : FVec Ideal S4096x2048 .f32 := V0 (Proc.devRef .tc main_arg0)
def aP : FVec Ideal S4096x3072 .f32 := V0 (Proc.devRef .tc main_arg1)
def aW : FVec Ideal S1x4x256x256 .f32 := V0 (Proc.devRef .tc main_arg2)
def aSC : FVec Ideal S1x1024 .f32 := V0 (Proc.devRef .tc main_arg3)
def aG : FVec Ideal S1x1024 .f32 := V0 (Proc.devRef .tc main_arg4)

theorem u_at (s : Fin 4096) (l : Fin 1024) : res_main_v76 V0 (ix3 (0 : Fin 1) s l)
    = aP V0 (ix2 s (⟨1024 + l.val, by have := l.isLt; omega⟩ : Fin 3072)) := by
  pointwise [res_main_v76, res_main_v72, res_main_v0, aP]

theorem v_at (s : Fin 4096) (l : Fin 1024) : res_main_v77 V0 (ix3 (0 : Fin 1) s l) = vG (aP V0) s l := by
  pointwise [res_main_v77, res_main_v72, res_main_v0, aP, vG]
  exact congrArg (fun k => V0 (Proc.devRef .tc main_arg1) (ix2 s k)) (Fin.ext (show 1024 + (1024 + l.val) = 2048 + l.val by omega))

theorem mean_at (s : Fin 4096) : res_main_v84 V0 (ix3 (0 : Fin 1) s (0 : Fin 1)) = meanG (aP V0) s := by
  pointwise [res_main_v84, meanG, v_at]

theorem dy_at (s : Fin 4096) (l : Fin 1024) : res_main_v116 V0 (ix3 (0 : Fin 1) s l)
    = aD V0 (ix2 s (⟨l.val, by have := l.isLt; omega⟩ : Fin 2048)) := by
  pointwise [res_main_v116, res_main_v115, aD]

theorem dys_at (s : Fin 4096) (l : Fin 1024) : res_main_v117 V0 (ix3 (0 : Fin 1) s l)
    = aD V0 (ix2 s (⟨1024 + l.val, by have := l.isLt; omega⟩ : Fin 2048)) := by
  pointwise [res_main_v117, res_main_v115, aD]

theorem norm_at (s : Fin 4096) (l : Fin 1024) : res_main_v90 V0 (ix3 (0 : Fin 1) s l)
    = vG (aP V0) s l * Ideal.rsqrt (meanG (aP V0) s) := by
  pointwise [res_main_v90, res_main_v85, v_at, mean_at]

theorem gate_at (b : Fin 32) (a : Fin 128) (h : Fin 8) (l : Fin 128) : res_main_v120 V0 (ix5 (0 : Fin 1) b a h l)
    = gateG (aD V0) (aP V0) (tok b.val b.isLt a) (lane h l) := by
  pointwise [res_main_v120]
  rw [u_at, dys_at, mul_comm]
  rfl

/-- The normalised gate over all tokens, and the pooled tokens, as plain arrays. -/
def aVN : FVec Ideal ⟨2, ![4096, 1024]⟩ .bf16 := fun j =>
  vG (aP V0) (j 0) (j 1) * Ideal.rsqrt (meanG (aP V0) (j 0)) * aG V0 (ix2 (0 : Fin 1) (j 1))
def aPool : FVec Ideal ⟨2, ![4096, 1024]⟩ .bf16 := fun j =>
  res_main_v65 V0 (ix4 (0 : Fin 1) (j 0) (⟨(j 1).val / 256, by have h : (j 1).val < 1024 := (j 1).isLt; omega⟩ : Fin 4) (⟨(j 1).val % 256, by omega⟩ : Fin 256))
def aBF : FVec Ideal ⟨2, ![128, 1024]⟩ .f32 := fun j =>
  (V0 (Proc.devRef .tc main_arg6) : FVec Ideal S1x8x128 .f32) (ix3 (0 : Fin 1) (⟨(j 1).val / 128, by have h : (j 1).val < 1024 := (j 1).isLt; omega⟩ : Fin 8) (j 0))
def aWM : FVec Ideal S8x128x128 .bf16 := res_main_v104_0 V0
def aMap : FVec Ideal S4x256x256 .bf16 := res_main_v2 V0

theorem vn_at (b : Fin 32) (a : Fin 128) (h : Fin 8) (l : Fin 128) : res_main_v94 V0 (ix5 (0 : Fin 1) b a h l)
    = aVN V0 (ix2 (tok b.val b.isLt a) (lane h l)) := by
  pointwise [res_main_v94, res_main_v91, norm_at, aVN, aG, tok, lane]

theorem lane_eq (l : Fin 1024) (h : l.val / 128 < 8) (h' : l.val % 128 < 128) : lane ⟨l.val / 128, h⟩ ⟨l.val % 128, h'⟩ = l :=
  Fin.ext (show l.val / 128 * 128 + l.val % 128 = l.val by omega)

theorem vn_lane (s : Fin 4096) (a : Fin 128) (l : Fin 1024) :
    res_main_v94 V0 (ix5 (0 : Fin 1) (⟨s.val / 128, by have := s.isLt; omega⟩ : Fin 32) a (⟨l.val / 128, by have := l.isLt; omega⟩ : Fin 8) (⟨l.val % 128, by omega⟩ : Fin 128))
      = aVN V0 (ix2 (tok (s.val / 128) (by have := s.isLt; omega) a) l) := by
  refine (vn_at V0 ⟨s.val / 128, by have := s.isLt; omega⟩ a ⟨l.val / 128, by have := l.isLt; omega⟩ ⟨l.val % 128, by omega⟩).trans ?_
  rw [lane_eq]

theorem mixed_at (s : Fin 4096) (l : Fin 1024) : aD V0 (ix2 s (⟨1024 + l.val, by have := l.isLt; omega⟩ : Fin 2048)) * res_main_v111 V0 (ix3 (0 : Fin 1) s l)
    = leftG (aD V0) (aVN V0) (aWM V0) (aBF V0) s l := by
  pointwise [res_main_v111, leftG, aBF]
  refine congrArg (fun S => _ * (S + _)) (Fin.sum_fin_congr fun x => ?_)
  rw [mul_comm]
  exact congrArg (HMul.hMul _) (vn_lane V0 s x l)

theorem cot_at (s : Fin 4096) (l : Fin 1024) : res_main_v130 V0 (ix3 (0 : Fin 1) s l) = cotG (aD V0) (aP V0) (aWM V0) s l := by
  pointwise [res_main_v130, res_main_v125, cotG]
  refine Fin.sum_fin_congr fun x => ?_
  rw [mul_comm]
  refine congrArg (HMul.hMul _) ((gate_at V0 ⟨s.val / 128, by have := s.isLt; omega⟩ x ⟨l.val / 128, by have := l.isLt; omega⟩ ⟨l.val % 128, by omega⟩).trans ?_)
  rw [lane_eq]

theorem scaled_at (s : Fin 4096) (g : Fin 4) (x : Fin 256) : res_main_v166 V0 (ix4 g x (0 : Fin 1) s)
    = aD V0 (ix2 s (⟨g.val * 256 + x.val, by have := g.isLt; have := x.isLt; omega⟩ : Fin 2048))
      * aSC V0 (ix2 (0 : Fin 1) (⟨g.val * 256 + x.val, by have := g.isLt; have := x.isLt; omega⟩ : Fin 1024)) := by
  pointwise [res_main_v166, res_main_v69, dy_at, aSC]

theorem mapped_at (s : Fin 4096) (g : Fin 4) (k : Fin 256) : res_main_v168 V0 (ix4 (0 : Fin 1) s g k)
    = mapped (aD V0) (by decide) (aMap V0) (aSC V0) g s k := by
  pointwise [res_main_v168, mapped]
  refine Fin.sum_fin_congr fun x => ?_
  rw [scaled_at]
  rfl

theorem reduce_one {s : Shape} {axes : List (Fin s.rank)} {t : Shape} (h : s.ReducesTo axes t) (x : s.Idx → EReal) (j : t.Idx) (i0 : s.Idx)
    (h0 : h.drop i0 = j) (hi : ∀ i, h.drop i = j → i = i0) : Ideal.hostReduceAdd h x 0 j = x i0 := by
  unfold Ideal.hostReduceAdd
  rw [zero_add]
  refine Finset.sum_eq_single_of_mem i0 (Finset.mem_filter.mpr ⟨Finset.mem_univ _, h0⟩) fun i hm hn => absurd (hi i (Finset.mem_filter.mp hm).2) hn

theorem unit_rows (x : FVec Ideal S1x4096x1 .f32) (s : Fin 4096) :
    Ideal.hostReduceAdd reducesTo_S1x4096x1_S4096_d0_2 x 0 (ix1 s) = x (ix3 (0 : Fin 1) s (0 : Fin 1)) := by
  refine reduce_one _ _ _ _ (funext fun a => by fin_cases a; rfl) fun i h => ?_
  rw [eq_ix3 i]
  have h1 : i 1 = s := congrFun h 0
  rw [h1]
  exact congrArg₂ (fun a b => ix3 a s b) (Subsingleton.elim (α := Fin 1) _ _) (Subsingleton.elim (α := Fin 1) _ _)

theorem unit_lanes (x : FVec Ideal S1x1x1024 .f32) (k : Fin 1024) :
    Ideal.hostReduceAdd reducesTo_S1x1x1024_S1024_d0_1 x 0 (ix1 k) = x (ix3 (0 : Fin 1) (0 : Fin 1) k) := by
  refine reduce_one _ _ _ _ (funext fun a => by fin_cases a; rfl) fun i h => ?_
  rw [eq_ix3 i]
  have h1 : i 2 = k := congrFun h 0
  rw [h1]
  exact congrArg₂ (fun a b => ix3 a b k) (Subsingleton.elim (α := Fin 1) _ _) (Subsingleton.elim (α := Fin 1) _ _)

theorem unit_heads (x : FVec Ideal S1x1x128x8x1 .f32) (a : Fin 128) (h : Fin 8) :
    Ideal.hostReduceAdd reducesTo_S1x1x128x8x1_S128x8_d0_1_4 x 0 (ix2 a h) = x (ix5 (0 : Fin 1) (0 : Fin 1) a h (0 : Fin 1)) := by
  refine reduce_one _ _ _ _ (funext fun a => by fin_cases a <;> rfl) fun i e => ?_
  have h1 : i 2 = a := congrFun e 0
  have h2 : i 3 = h := congrFun e 1
  funext b
  match b with
  | ⟨0, _⟩ => exact Subsingleton.elim (α := Fin 1) _ _
  | ⟨1, _⟩ => exact Subsingleton.elim (α := Fin 1) _ _
  | ⟨2, _⟩ => exact h1
  | ⟨3, _⟩ => exact h2
  | ⟨4, _⟩ => exact Subsingleton.elim (α := Fin 1) _ _

theorem block_lanes (x : FVec Ideal S1x32x128x8x128 .f32) (a : Fin 128) (h : Fin 8) :
    Ideal.hostReduceAdd reducesTo_S1x32x128x8x128_S1x128x8_d1_4 x 0 (ix3 (0 : Fin 1) a h)
      = ∑ b : Fin 32, ∑ l : Fin 128, x (ix5 (0 : Fin 1) b a h l) := by
  unfold Ideal.hostReduceAdd
  rw [zero_add, ← Fintype.sum_prod_type' (f := fun b l => x (ix5 (0 : Fin 1) b a h l))]
  refine (Finset.sum_bij (fun (p : Fin 32 × Fin 128) _ => (ix5 (0 : Fin 1) p.1 a h p.2 : S1x32x128x8x128.Idx)) (fun p _ => ?_) (fun p _ q _ e => ?_) (fun i hi => ?_) (fun p _ => rfl)).symm
  · exact Finset.mem_filter.mpr ⟨Finset.mem_univ _, funext fun b => by fin_cases b <;> rfl⟩
  · exact Prod.ext (congrFun e 1) (congrFun e 4)
  · have e := (Finset.mem_filter.mp hi).2
    refine ⟨(i 1, i 4), Finset.mem_univ _, funext fun b => ?_⟩
    match b with
    | ⟨0, _⟩ => exact Subsingleton.elim (α := Fin 1) _ _
    | ⟨1, _⟩ => rfl
    | ⟨2, _⟩ => exact (congrFun e 1).symm
    | ⟨3, _⟩ => exact (congrFun e 2).symm
    | ⟨4, _⟩ => rfl

theorem block_lanes_dot (x : FVec Ideal S8x1x32x128x128 .f32) (y : FVec Ideal S1x32x128x8x128 .f32) (h : Fin 8) (a a' : Fin 128) :
    Ideal.matmul dot_S8x1x32x128x128_S1x32x128x8x128_S8x128x128_123_014_4_2_0_3 x y (fun _ => 0) (ix3 h a a')
      = ∑ b : Fin 32, ∑ l : Fin 128, x (ix5 h (0 : Fin 1) b l a) * y (ix5 (0 : Fin 1) b a' h l) := by
  unfold Ideal.matmul
  rw [zero_add, ← Fintype.sum_prod_type' (f := fun b l => x (ix5 h (0 : Fin 1) b l a) * y (ix5 (0 : Fin 1) b a' h l))]
  have hsz : ∀ i : Fin 3, (⟨3, ![1, 32, 128]⟩ : Shape).size i = dot_S8x1x32x128x128_S1x32x128x8x128_S8x128x128_123_014_4_2_0_3.contr.size i := fun i => by fin_cases i <;> rfl
  let e : Fin 32 × Fin 128 → dot_S8x1x32x128x128_S1x32x128x8x128_S8x128x128_123_014_4_2_0_3.contr.Idx := fun p i => Fin.cast (hsz i) (ix3 (0 : Fin 1) p.1 p.2 i)
  refine (Fintype.sum_bijective e ⟨?_, ?_⟩ _ _ fun p => ?_).symm
  · intro p q e
    exact Prod.ext (Fin.ext (congrArg Fin.val (congrFun e (1 : Fin 3)))) (Fin.ext (congrArg Fin.val (congrFun e (2 : Fin 3))))
  · intro k
    refine ⟨(Fin.cast (hsz 1).symm (k (1 : Fin 3)), Fin.cast (hsz 2).symm (k (2 : Fin 3))), funext fun b => ?_⟩
    match b with
    | ⟨0, _⟩ => exact Subsingleton.elim (α := Fin 1) _ _
    | ⟨1, _⟩ => rfl
    | ⟨2, _⟩ => rfl
  · refine congrArg₂ (fun i i' => x i * y i') (funext fun b => ?_) (funext fun b => ?_) <;> fin_cases b <;> rfl

/-! The five results summed over tokens. -/

theorem scale_at (r : Fin 1) (k : Fin 1024) : broadcastInDim S1x1024 ![1] bcast_S1024_S1x1024_1 (Host.reduceAdd (shapeCast _ (Host.reduceAdd (mulf (res_main_v68 V0) (res_main_v116 V0)) (constant S_ .f32 0x00000000#32) reducesTo_S1x4096x1024_S1x1024_d1 h_S_) shapeCasts_S1x1024_S1x1x1024) (constant S_ .f32 0x00000000#32) reducesTo_S1x1x1024_S1024_d0_1 h_S_) (ix2 r k)
    = scaleG (aD V0) (aPool V0) (aMap V0) k := by
  pointwise [res_main_v68, scaleG, dy_at, unit_lanes]
  refine Fin.sum_fin_congr fun s => ?_
  rw [mul_comm]
  refine congrArg (HMul.hMul _) (Fin.sum_fin_congr fun d => ?_)
  rw [mul_comm]
  refine congrArg (· * _) ?_
  have hk := k.isLt
  have hd := d.isLt
  unfold aPool
  refine congrArg₂ (fun a b => res_main_v65 V0 (ix4 (0 : Fin 1) s a b)) (Fin.ext ?_) (Fin.ext ?_)
  · show k.val / 256 = (k.val / 256 * 256 + d.val) / 256
    omega
  · show d.val = (k.val / 256 * 256 + d.val) % 256
    omega

theorem gain_at (r : Fin 1) (k : Fin 1024) : broadcastInDim S1x1024 ![1] bcast_S1024_S1x1024_1 (Host.reduceAdd (shapeCast _ (Host.reduceAdd (mulf (res_main_v90 V0) (res_main_v130 V0)) (constant S_ .f32 0x00000000#32) reducesTo_S1x4096x1024_S1x1024_d1 h_S_) shapeCasts_S1x1024_S1x1x1024) (constant S_ .f32 0x00000000#32) reducesTo_S1x1x1024_S1024_d0_1 h_S_) (ix2 r k)
    = gainG (aD V0) (aP V0) (aWM V0) k := by
  pointwise [gainG, norm_at, cot_at, unit_lanes]
  exact Fin.sum_fin_congr fun s => mul_comm _ _

theorem map_at (g : Fin 4) (i d : Fin 256) : shapeCast _ (broadcastInDim S1x4x256x256 ![1, 2, 3] bcast_S4x256x256_S1x4x256x256_1_2_3 (transpose S4x256x256 [0, 2, 1] (Host.dotGeneral (F := Ideal) (φ₁ := .f32) (φ₂ := .f32) dot_S4x256x1x4096_S1x4096x4x256_S4x256x256_23_01_1_3_0_2 none (res_main_v166 V0) (res_main_v65 V0)) transposes_S4x256x256_S4x256x256_0_2_1)) shapeCasts_S1x4x256x256_S4x256x256 (ix3 g i d)
    = mapG (aD V0) (aPool V0) (aSC V0) g i d := by
  pointwise [mapG, aPool]
  refine (Fintype.sum_unique _).trans (Fin.sum_fin_congr fun s => ?_)
  refine (mul_comm _ _).trans (congrArg₂ HMul.hMul ?_ (scaled_at V0 s g d))
  have hi := i.isLt
  refine congrArg₂ (fun a b => res_main_v65 V0 (ix4 (0 : Fin 1) s a b)) (Fin.ext ?_) (Fin.ext ?_)
  · show g.val = (g.val * 256 + i.val) / 256
    omega
  · show i.val = (g.val * 256 + i.val) % 256
    omega

theorem space_at (h : Fin 8) (a a' : Fin 128) : Host.dotGeneral (F := Ideal) (φ₁ := .f32) (φ₂ := .f32) dot_S8x1x32x128x128_S1x32x128x8x128_S8x128x128_123_014_4_2_0_3 none (res_main_v125 V0) (res_main_v94 V0) (ix3 h a a')
    = spaceG (aD V0) (aP V0) (aVN V0) h a a' := by
  refine (block_lanes_dot _ _ h a a').trans ?_
  pointwise [spaceG, res_main_v125, gate_at, vn_at]

theorem bias_at (h : Fin 8) (a a' : Fin 128) : broadcastInDim S8x128x128 ![0, 1, 2] bcast_S8x128x1_S8x128x128_0_1_2 (broadcastInDim S8x128x1 ![0, 1] bcast_S8x128_S8x128x1_0_1 (shapeCast _ (broadcastInDim S1x8x128 ![1, 2] bcast_S8x128_S1x8x128_1_2 (transpose S8x128 [1, 0] (Host.reduceAdd (shapeCast _ (Host.reduceAdd (F := Ideal) (res_main_v120 V0) (constant S_ .f32 0x00000000#32) reducesTo_S1x32x128x8x128_S1x128x8_d1_4 h_S_) shapeCasts_S1x128x8_S1x1x128x8x1) (constant S_ .f32 0x00000000#32) reducesTo_S1x1x128x8x1_S128x8_d0_1_4 h_S_) transposes_S128x8_S8x128_1_0)) shapeCasts_S1x8x128_S8x128)) (ix3 h a a')
    = biasG (aD V0) (aP V0) h a := by
  pointwise [biasG, unit_heads, block_lanes, gate_at]
-- ==== Proof.MixerRefProj.lean ====
module

public import proofs.«01_k».proof.Proof.MixerRef

/-! The mixer's reference gradient of the projected activations, read at an index. -/

@[expose] public section

set_option maxRecDepth 16384

noncomputable section

open Idealize.ShloMosaic Idealize.ShloMosaic.TcCoe Idealize.SL.Sem

namespace Cert.Reference2Ideal.Hand

open Cert.Reference2Ideal Cert.Reference2Ideal.Value Cert.Reference2Ideal.Gen
open Cert.Kernel2Ideal.Hand (mapped place gateG tok lane cotG vG meanG gainG normG leftG spreadG poolG scaleG mapG biasG spaceG projG)

/-- A padded array at an index: the array's own entry inside, the padding outside. -/
theorem pad_rows {S K S' K' : Nat} {u : Shape} (a b a' b' : Nat) (x : FVec Ideal ⟨3, ![1, S, K]⟩ .f32) (v : FVec Ideal u .f32)
    (h : (⟨3, ![1, S, K]⟩ : Shape).Pads ![0, a, b] ![0, a', b'] ![0, 0, 0] ⟨3, ![1, S', K']⟩) (hu : 0 < u.numel) (s : Fin S') (l : Fin K') :
    pad ⟨3, ![1, S', K']⟩ ![0, a, b] ![0, a', b'] ![0, 0, 0] x v h hu (ix3 (0 : Fin 1) s l)
      = if hh : (a ≤ s.val ∧ s.val - a < S) ∧ (b ≤ l.val ∧ l.val - b < K)
        then x (ix3 (0 : Fin 1) (⟨s.val - a, hh.1.2⟩ : Fin S) (⟨l.val - b, hh.2.2⟩ : Fin K)) else v (Shape.Idx.first hu) := by
  unfold pad
  split
  · rename_i hin
    have h1 := hin (1 : Fin 3)
    have h2 := hin (2 : Fin 3)
    have h1' : a ≤ s.val ∧ (s.val - a) % 1 = 0 ∧ (s.val - a) / 1 < S := h1
    have h2' : b ≤ l.val ∧ (l.val - b) % 1 = 0 ∧ (l.val - b) / 1 < K := h2
    rw [dif_pos ⟨⟨h1'.1, by omega⟩, ⟨h2'.1, by omega⟩⟩]
    refine congrArg x (funext fun q => ?_)
    match q with
    | ⟨0, _⟩ => exact Subsingleton.elim (α := Fin 1) _ _
    | ⟨1, _⟩ => exact Fin.ext (show (s.val - a) / 1 = s.val - a by omega)
    | ⟨2, _⟩ => exact Fin.ext (show (l.val - b) / 1 = l.val - b by omega)
  · rename_i hin
    rw [dif_neg]
    refine fun hh => hin fun q => ?_
    match q with
    | ⟨0, _⟩ => exact (show 0 ≤ 0 ∧ (0 - 0) % 1 = 0 ∧ (0 - 0) / 1 < 1 from ⟨Nat.le_refl 0, rfl, Nat.one_pos⟩)
    | ⟨1, _⟩ => exact (show a ≤ s.val ∧ (s.val - a) % 1 = 0 ∧ (s.val - a) / 1 < S from ⟨hh.1.1, by omega, by omega⟩)
    | ⟨2, _⟩ => exact (show b ≤ l.val ∧ (l.val - b) % 1 = 0 ∧ (l.val - b) / 1 < K from ⟨hh.2.1, by omega, by omega⟩)

/-- Four groups of lanes side by side, each padded out to all lanes and added up. -/
theorem groups_rows {u : Shape} (x0 x1 x2 x3 : FVec Ideal ⟨3, ![1, 4096, 256]⟩ .f32) (v : FVec Ideal u .f32) (hu : 0 < u.numel) (hv : v (Shape.Idx.first hu) = 0)
    (h0) (h1) (h2) (h3) (s : Fin 4096) (l : Fin 1024) :
    addf (F := Ideal) (φ := .f32) (addf (addf (pad ⟨3, ![1, 4096, 1024]⟩ ![0, 0, 768] ![0, 0, 0] ![0, 0, 0] x3 v h3 hu) (pad ⟨3, ![1, 4096, 1024]⟩ ![0, 0, 512] ![0, 0, 256] ![0, 0, 0] x2 v h2 hu))
      (pad ⟨3, ![1, 4096, 1024]⟩ ![0, 0, 256] ![0, 0, 512] ![0, 0, 0] x1 v h1 hu)) (pad ⟨3, ![1, 4096, 1024]⟩ ![0, 0, 0] ![0, 0, 768] ![0, 0, 0] x0 v h0 hu) (ix3 (0 : Fin 1) s l)
      = if c0 : l.val < 256 then x0 (ix3 (0 : Fin 1) s (⟨l.val, c0⟩ : Fin 256))
        else if c1 : l.val < 512 then x1 (ix3 (0 : Fin 1) s (⟨l.val - 256, by omega⟩ : Fin 256))
        else if c2 : l.val < 768 then x2 (ix3 (0 : Fin 1) s (⟨l.val - 512, by omega⟩ : Fin 256))
        else x3 (ix3 (0 : Fin 1) s (⟨l.val - 768, by have := l.isLt; omega⟩ : Fin 256)) := by
  show (pad _ _ _ _ x3 v h3 hu (ix3 (0 : Fin 1) s l) + pad _ _ _ _ x2 v h2 hu (ix3 (0 : Fin 1) s l) + pad _ _ _ _ x1 v h1 hu (ix3 (0 : Fin 1) s l) + pad _ _ _ _ x0 v h0 hu (ix3 (0 : Fin 1) s l) : EReal) = _
  rw [pad_rows, pad_rows, pad_rows, pad_rows, hv]
  have hs := s.isLt
  have hl := l.isLt
  by_cases c0 : l.val < 256
  · rw [dif_neg (by omega), dif_neg (by omega), dif_neg (by omega), dif_pos ⟨⟨by omega, by omega⟩, ⟨by omega, by omega⟩⟩, dif_pos c0, zero_add, zero_add, zero_add]
    rfl
  by_cases c1 : l.val < 512
  · rw [dif_neg (by omega), dif_neg (by omega), dif_pos ⟨⟨by omega, by omega⟩, ⟨by omega, by omega⟩⟩, dif_neg (by omega), dif_neg c0, dif_pos c1, zero_add, zero_add, add_zero]
    rfl
  by_cases c2 : l.val < 768
  · rw [dif_neg (by omega), dif_pos ⟨⟨by omega, by omega⟩, ⟨by omega, by omega⟩⟩, dif_neg (by omega), dif_neg (by omega), dif_neg c0, dif_neg c1, dif_pos c2, zero_add, add_zero, add_zero]
    rfl
  · rw [dif_pos ⟨⟨by omega, by omega⟩, ⟨by omega, by omega⟩⟩, dif_neg (by omega), dif_neg (by omega), dif_neg (by omega), dif_neg c0, dif_neg c1, dif_neg c2, add_zero, add_zero, add_zero]
    rfl

variable (V0 : Valuation τ sig (Elt Ideal))

/-- The number of tokens in a mean, at one token. -/
theorem count_at (s : Fin 4096) : res_main_v8 V0 (ix3 (0 : Fin 1) s (0 : Fin 1)) = place s.val := by
  pointwise [res_main_v8]
  show (1 : EReal) + (((BitVec.ofNat 32 s.val).toInt : ℝ) : EReal) = (((s.val + 1 : Nat) : ℝ) : EReal)
  have hs := s.isLt
  rw [BitVec.toInt_ofNat', Int.bmod_eq_of_le (by omega) (by omega), add_comm]
  norm_cast

/-! Each group's mapped cotangent over the number of tokens in the mean. -/

theorem spread_of (g : Fin 4) (w : BitVec 32) (s : Fin 4096) (k : Fin 256) (x c : EReal) (hx : x = mapped (aD V0) (by decide) (aMap V0) (aSC V0) g s k)
    (hc : c = place s.val) : Ideal.div x (min c (Ideal.ofBits .f32 w)) = spreadG (aD V0) (aMap V0) (aSC V0) g w s.val k := by
  rw [hx, hc, spreadG, dif_pos s.isLt]

theorem spread0_at (s : Fin 4096) (k : Fin 256) : res_main_v217 V0 (ix3 (0 : Fin 1) s k) = spreadG (aD V0) (aMap V0) (aSC V0) 0 0x40000000#32 s.val k := by
  pointwise [res_main_v217, res_main_v172, res_main_v17]
  exact spread_of V0 0 _ s k _ _ (mapped_at V0 s 0 k) (count_at V0 s)

theorem spread1_at (s : Fin 4096) (k : Fin 256) : res_main_v205 V0 (ix3 (0 : Fin 1) s k) = spreadG (aD V0) (aMap V0) (aSC V0) 1 0x40800000#32 s.val k := by
  pointwise [res_main_v205, res_main_v174, res_main_v30]
  exact spread_of V0 1 _ s k _ _ (mapped_at V0 s 1 k) (count_at V0 s)

theorem spread2_at (s : Fin 4096) (k : Fin 256) : res_main_v193 V0 (ix3 (0 : Fin 1) s k) = spreadG (aD V0) (aMap V0) (aSC V0) 2 0x41000000#32 s.val k := by
  pointwise [res_main_v193, res_main_v176, res_main_v43]
  exact spread_of V0 2 _ s k _ _ (mapped_at V0 s 2 k) (count_at V0 s)

theorem spread3_at (s : Fin 4096) (k : Fin 256) : res_main_v182 V0 (ix3 (0 : Fin 1) s k) = spreadG (aD V0) (aMap V0) (aSC V0) 3 0x41800000#32 s.val k := by
  pointwise [res_main_v182, res_main_v178, res_main_v56]
  exact spread_of V0 3 _ s k _ _ (mapped_at V0 s 3 k) (count_at V0 s)

/-! The same, less its value a window further on. -/

def diff0 := addf (F := Ideal) (φ := .f32) (res_main_v217 V0) (pad S1x4096x256 ![0, 0, 0] ![0, 2, 0] ![0, 0, 0] (extractStridedSlice S1x4094x256 ![0, 2, 0] (res_main_v218 V0) slices_S1x4096x256_S1x4094x256_0_2_0) (constant S_ .f32 0x00000000#32) pads_S1x4094x256_S1x4096x256_000_020_000 h_S_)

def diff1 := addf (F := Ideal) (φ := .f32) (res_main_v205 V0) (pad S1x4096x256 ![0, 0, 0] ![0, 4, 0] ![0, 0, 0] (extractStridedSlice S1x4092x256 ![0, 4, 0] (res_main_v206 V0) slices_S1x4096x256_S1x4092x256_0_4_0) (constant S_ .f32 0x00000000#32) pads_S1x4092x256_S1x4096x256_000_040_000 h_S_)

def diff2 := addf (F := Ideal) (φ := .f32) (res_main_v193 V0) (pad S1x4096x256 ![0, 0, 0] ![0, 8, 0] ![0, 0, 0] (extractStridedSlice S1x4088x256 ![0, 8, 0] (res_main_v194 V0) slices_S1x4096x256_S1x4088x256_0_8_0) (constant S_ .f32 0x00000000#32) pads_S1x4088x256_S1x4096x256_000_080_000 h_S_)

def diff3 := addf (F := Ideal) (φ := .f32) (res_main_v182 V0) (pad S1x4096x256 ![0, 0, 0] ![0, 16, 0] ![0, 0, 0] (extractStridedSlice S1x4080x256 ![0, 16, 0] (res_main_v183 V0) slices_S1x4096x256_S1x4080x256_0_16_0) (constant S_ .f32 0x00000000#32) pads_S1x4080x256_S1x4096x256_000_0160_000 h_S_)

theorem diff_of (n m : Nat) (hnm : n + m = 4096) (s : Fin 4096) (f : Fin 4096 → EReal) (h : Nat → EReal) (hf : ∀ s : Fin 4096, f s = h s.val) :
    (f s + if hs : s.val < m then -f ⟨n + s.val, by omega⟩ else 0) = h s.val + (if s.val + n < 4096 then -h (s.val + n) else 0) := by
  rw [hf s]
  refine congrArg (HAdd.hAdd _) ?_
  by_cases hs : s.val < m
  · rw [dif_pos hs, if_pos (by omega), hf]
    exact congrArg (fun i => -h i) (Nat.add_comm n s.val)
  · rw [dif_neg hs, if_neg (by omega)]

theorem diff0_at (s : Fin 4096) (k : Fin 256) : diff0 V0 (ix3 (0 : Fin 1) s k)
   = spreadG (aD V0) (aMap V0) (aSC V0) 0 0x40000000#32 s.val k + (if s.val + 2 < 4096 then -spreadG (aD V0) (aMap V0) (aSC V0) 0 0x40000000#32 (s.val + 2) k else 0) := by
  pointwise [diff0, res_main_v218]
  exact diff_of 2 4094 rfl s (fun s => res_main_v217 V0 (ix3 (0 : Fin 1) s k)) (fun n => spreadG (aD V0) (aMap V0) (aSC V0) 0 0x40000000#32 n k) fun s => spread0_at V0 s k

theorem diff1_at (s : Fin 4096) (k : Fin 256) : diff1 V0 (ix3 (0 : Fin 1) s k)
   = spreadG (aD V0) (aMap V0) (aSC V0) 1 0x40800000#32 s.val k + (if s.val + 4 < 4096 then -spreadG (aD V0) (aMap V0) (aSC V0) 1 0x40800000#32 (s.val + 4) k else 0) := by
  pointwise [diff1, res_main_v206]
  exact diff_of 4 4092 rfl s (fun s => res_main_v205 V0 (ix3 (0 : Fin 1) s k)) (fun n => spreadG (aD V0) (aMap V0) (aSC V0) 1 0x40800000#32 n k) fun s => spread1_at V0 s k

theorem diff2_at (s : Fin 4096) (k : Fin 256) : diff2 V0 (ix3 (0 : Fin 1) s k)
   = spreadG (aD V0) (aMap V0) (aSC V0) 2 0x41000000#32 s.val k + (if s.val + 8 < 4096 then -spreadG (aD V0) (aMap V0) (aSC V0) 2 0x41000000#32 (s.val + 8) k else 0) := by
  pointwise [diff2, res_main_v194]
  exact diff_of 8 4088 rfl s (fun s => res_main_v193 V0 (ix3 (0 : Fin 1) s k)) (fun n => spreadG (aD V0) (aMap V0) (aSC V0) 2 0x41000000#32 n k) fun s => spread2_at V0 s k

theorem diff3_at (s : Fin 4096) (k : Fin 256) : diff3 V0 (ix3 (0 : Fin 1) s k)
   = spreadG (aD V0) (aMap V0) (aSC V0) 3 0x41800000#32 s.val k + (if s.val + 16 < 4096 then -spreadG (aD V0) (aMap V0) (aSC V0) 3 0x41800000#32 (s.val + 16) k else 0) := by
  pointwise [diff3, res_main_v183]
  exact diff_of 16 4080 rfl s (fun s => res_main_v182 V0 (ix3 (0 : Fin 1) s k)) (fun n => spreadG (aD V0) (aMap V0) (aSC V0) 3 0x41800000#32 n k) fun s => spread3_at V0 s k

/-! The gate's norm. -/

theorem norm_grad_at (s : Fin 4096) (l : Fin 1024) : addf (F := Ideal) (φ := .f32) (addf (mulf (res_main_v135 V0) (broadcastInDim S1x4096x1024 ![0, 1, 2] bcast_S1x4096x1_S1x4096x1024_0_1_2 (res_main_v85 V0))) (mulf (res_main_v77 V0) (res_main_v147 V0))) (mulf (res_main_v147 V0) (res_main_v77 V0)) (ix3 (0 : Fin 1) s l)
   = normG (aD V0) (aP V0) (aG V0) (aWM V0) s l := by
  have hq : meanG (aP V0) s = Ideal.div (∑ x : Fin 1024, vG (aP V0) s x * vG (aP V0) s x) ((1024 : ℝ) : EReal) + (((8796093 : ℝ) * 2 ^ (-43 : ℤ) : ℝ) : EReal) := by
    rw [meanG, Cert.Norm.ofBits_1024, Cert.Norm.ofBits_eps]
  have hg := Cert.Norm.grad_eq (n := 1024) (fun x => vG (aP V0) s x) (fun x => cotG (aD V0) (aP V0) (aWM V0) s x * aG V0 (ix2 (0 : Fin 1) x))
    (N := 1024) (by norm_num) (by positivity) (meanG (aP V0) s) (Ideal.rsqrt (meanG (aP V0) s)) hq rfl l
  rw [normG, Cert.Norm.ofBits_1024]
  refine Eq.trans ?_ hg.symm
  pointwise [res_main_v135, res_main_v85, res_main_v147, cot_at, v_at, mean_at, unit_rows, res_main_v91, aG]
  rw [Cert.Norm.ofBits_1024, Cert.Norm.ofBits_neg_half]

/-! The pooling groups: every needed number is finite. -/

def Fin_ {ι : Type} (x : ι → EReal) : Prop := ∀ j, ∃ v : ℝ, x j = (v : EReal)

theorem real_sum {n : Nat} (f : Fin n → EReal) (h : ∀ i, ∃ v : ℝ, f i = (v : EReal)) : ∃ v : ℝ, ∑ i, f i = (v : EReal) := by
  obtain ⟨d, hd⟩ : ∃ d : Fin n → ℝ, ∀ i, f i = (d i : EReal) := ⟨fun i => (h i).choose, fun i => (h i).choose_spec⟩
  refine ⟨∑ i, d i, ?_⟩
  rw [Finset.sum_congr rfl fun i _ => hd i]
  exact (map_sum (⟨⟨((↑) : ℝ → EReal), rfl⟩, EReal.coe_add⟩ : ℝ →+ EReal) d Finset.univ).symm

theorem real_mul {x y : EReal} (hx : ∃ v : ℝ, x = (v : EReal)) (hy : ∃ v : ℝ, y = (v : EReal)) : ∃ v : ℝ, x * y = (v : EReal) := by
  obtain ⟨a, rfl⟩ := hx
  obtain ⟨b, rfl⟩ := hy
  exact ⟨a * b, (EReal.coe_mul a b).symm⟩

theorem mapped_real (hD : Fin_ (aD V0)) (hM : Fin_ (aMap V0)) (hS : Fin_ (aSC V0)) (g : Fin 4) (s : Fin 4096) (k : Fin 256) :
    ∃ v : ℝ, mapped (aD V0) (by decide) (aMap V0) (aSC V0) g s k = (v : EReal) :=
  real_sum _ fun x => real_mul (real_mul (hD _) (hS _)) (hM _)

theorem spread_real (hD : Fin_ (aD V0)) (hM : Fin_ (aMap V0)) (hS : Fin_ (aSC V0)) (g : Fin 4) (w : BitVec 32) (W : ℝ) (hW : 0 < W)
    (hw : Ideal.ofBits .f32 w = (W : EReal)) (n : Nat) (hn : n < 4096) (k : Fin 256) :
    ∃ v : ℝ, spreadG (aD V0) (aMap V0) (aSC V0) g w n k = (v : EReal) := by
  obtain ⟨v, hv⟩ := mapped_real V0 hD hM hS g ⟨n, hn⟩ k
  rw [spreadG, dif_pos hn, hv, hw, place, ← EReal.coe_strictMono.monotone.map_min, Cert.Norm.div_coe _ (lt_min (by positivity) hW), ← EReal.coe_mul]
  exact ⟨_, rfl⟩

theorem pool_of (hD : Fin_ (aD V0)) (hM : Fin_ (aMap V0)) (hS : Fin_ (aSC V0)) (g : Fin 4) (w : BitVec 32) (W : ℝ) (hW : 0 < W)
    (hw : Ideal.ofBits .f32 w = (W : EReal)) (n : Nat) (s : Fin 4096) (k : Fin 256) (f : Fin 4096 → EReal)
    (hf : ∀ s : Fin 4096, f s = spreadG (aD V0) (aMap V0) (aSC V0) g w s.val k
      + (if s.val + n < 4096 then -spreadG (aD V0) (aMap V0) (aSC V0) g w (s.val + n) k else 0)) :
    -mapped (aD V0) (by decide) (aMap V0) (aSC V0) g s k + (∑ i : Fin 4096, if hs : s.val + i.val < 4096 then f ⟨s.val + i.val, hs⟩ else 0)
      = poolG (aD V0) (aMap V0) (aSC V0) g n w s k := by
  have h := Cert.Suffix.suffix_window (S := 4096) n (fun m => spreadG (aD V0) (aMap V0) (aSC V0) g w m k)
    (fun m hm => spread_real V0 hD hM hS g w W hW hw m hm k) s.val s.isLt
  rw [poolG, sub_eq_add_neg, add_comm]
  refine congrArg (· + _) ((Finset.sum_congr rfl fun i _ => ?_).trans (h.trans (Finset.sum_congr rfl fun j _ => ?_)))
  · by_cases c : s.val + i.val < 4096
    · rw [dif_pos c, if_pos c, hf]
    · rw [dif_neg c, if_neg c]
  · by_cases c : s.val + j < 4096
    · rw [if_pos c]
    · rw [if_neg c, spreadG, dif_neg c]

theorem ofBits_2 : Ideal.ofBits .f32 0x40000000#32 = ((2 : ℝ) : EReal) := by
  simp [Ideal.ofBits, Ideal.ieee, -EReal.coe_mul]; norm_num
theorem ofBits_4 : Ideal.ofBits .f32 0x40800000#32 = ((4 : ℝ) : EReal) := by
  simp [Ideal.ofBits, Ideal.ieee, -EReal.coe_mul]; norm_num
theorem ofBits_8 : Ideal.ofBits .f32 0x41000000#32 = ((8 : ℝ) : EReal) := by
  simp [Ideal.ofBits, Ideal.ieee, -EReal.coe_mul]; norm_num
theorem ofBits_16 : Ideal.ofBits .f32 0x41800000#32 = ((16 : ℝ) : EReal) := by
  simp [Ideal.ofBits, Ideal.ieee, -EReal.coe_mul]; norm_num

/-! What is added up into the gradient of the projected activations. -/

def negs := addf (F := Ideal) (φ := .f32) (addf (addf (pad S1x4096x1024 ![0, 0, 768] ![0, 0, 0] ![0, 0, 0] (Host.negf (res_main_v178 V0)) (constant (F := Ideal) S_ .f32 0x00000000#32) pads_S1x4096x256_S1x4096x1024_000_000_76800 h_S_) (pad S1x4096x1024 ![0, 0, 512] ![0, 0, 256] ![0, 0, 0] (Host.negf (res_main_v176 V0)) (constant S_ .f32 0x00000000#32) pads_S1x4096x256_S1x4096x1024_000_000_5122560 h_S_)) (pad S1x4096x1024 ![0, 0, 256] ![0, 0, 512] ![0, 0, 0] (Host.negf (res_main_v174 V0)) (constant S_ .f32 0x00000000#32) pads_S1x4096x256_S1x4096x1024_000_000_2565120 h_S_)) (pad S1x4096x1024 ![0, 0, 0] ![0, 0, 768] ![0, 0, 0] (Host.negf (res_main_v172 V0)) (constant S_ .f32 0x00000000#32) pads_S1x4096x256_S1x4096x1024_000_000_07680 h_S_)

def runs := addf (F := Ideal) (φ := .f32) (addf (addf (pad S1x4096x1024 ![0, 0, 768] ![0, 0, 0] ![0, 0, 0] (diff3 V0) (constant (F := Ideal) S_ .f32 0x00000000#32) pads_S1x4096x256_S1x4096x1024_000_000_76800 h_S_) (pad S1x4096x1024 ![0, 0, 512] ![0, 0, 256] ![0, 0, 0] (diff2 V0) (constant S_ .f32 0x00000000#32) pads_S1x4096x256_S1x4096x1024_000_000_5122560 h_S_)) (pad S1x4096x1024 ![0, 0, 256] ![0, 0, 512] ![0, 0, 0] (diff1 V0) (constant S_ .f32 0x00000000#32) pads_S1x4096x256_S1x4096x1024_000_000_2565120 h_S_)) (pad S1x4096x1024 ![0, 0, 0] ![0, 0, 768] ![0, 0, 0] (diff0 V0) (constant S_ .f32 0x00000000#32) pads_S1x4096x256_S1x4096x1024_000_000_07680 h_S_)

def pools := addf (F := Ideal) (φ := .f32) (negs V0) (Host.reduceWindowAdd (F := Ideal) ![1, 4096, 1] ![1, 1, 1] ![0, 0, 0] ![0, 4095, 0] (runs V0) (broadcastInDim S_ ![] bcast_S_S_ (constant S_ .f32 0x00000000#32)) reduceWindows_S1x4096x1024_S1x4096x1024_w1s1p0_0_w4096s1p0_4095_w1s1p0_0 h_S_)

def gates := addf (F := Ideal) (φ := .f32) (addf (mulf (res_main_v135 V0) (broadcastInDim S1x4096x1024 ![0, 1, 2] bcast_S1x4096x1_S1x4096x1024_0_1_2 (res_main_v85 V0))) (mulf (res_main_v77 V0) (res_main_v147 V0))) (mulf (res_main_v147 V0) (res_main_v77 V0))

theorem pools_at (hD : Fin_ (aD V0)) (hM : Fin_ (aMap V0)) (hS : Fin_ (aSC V0)) (s : Fin 4096) (l : Fin 1024) :
    pools V0 (ix3 (0 : Fin 1) s l) =
      if c0 : l.val < 256 then poolG (aD V0) (aMap V0) (aSC V0) 0 2 0x40000000#32 s ⟨l.val, c0⟩
      else if c1 : l.val < 512 then poolG (aD V0) (aMap V0) (aSC V0) 1 4 0x40800000#32 s ⟨l.val - 256, by omega⟩
      else if c2 : l.val < 768 then poolG (aD V0) (aMap V0) (aSC V0) 2 8 0x41000000#32 s ⟨l.val - 512, by omega⟩
      else poolG (aD V0) (aMap V0) (aSC V0) 3 16 0x41800000#32 s ⟨l.val - 768, by have := l.isLt; omega⟩ := by
  have hz : (constant (F := Ideal) S_ .f32 0x00000000#32) (Shape.Idx.first h_S_) = 0 := show Ideal.ofBits .f32 0#32 = 0 from Ideal.ofBits_zero .f32
  have hn := groups_rows (Host.negf (F := Ideal) (φ := .f32) (res_main_v172 V0)) (Host.negf (F := Ideal) (φ := .f32) (res_main_v174 V0)) (Host.negf (F := Ideal) (φ := .f32) (res_main_v176 V0)) (Host.negf (F := Ideal) (φ := .f32) (res_main_v178 V0))
    (constant (F := Ideal) S_ .f32 0x00000000#32) h_S_ hz pads_S1x4096x256_S1x4096x1024_000_000_07680 pads_S1x4096x256_S1x4096x1024_000_000_2565120
    pads_S1x4096x256_S1x4096x1024_000_000_5122560 pads_S1x4096x256_S1x4096x1024_000_000_76800 s l
  have hr := fun s' => groups_rows (diff0 V0) (diff1 V0) (diff2 V0) (diff3 V0) (constant (F := Ideal) S_ .f32 0x00000000#32) h_S_ hz pads_S1x4096x256_S1x4096x1024_000_000_07680 pads_S1x4096x256_S1x4096x1024_000_000_2565120
    pads_S1x4096x256_S1x4096x1024_000_000_5122560 pads_S1x4096x256_S1x4096x1024_000_000_76800 s' l
  refine (congrArg₂ (HAdd.hAdd (α := EReal)) hn (Cert.Suffix.reduceWindowAdd_rows 4095 (runs V0) _ _ h_S_ hz s l)).trans ?_
  by_cases c0 : l.val < 256
  · rw [dif_pos c0, dif_pos c0]
    refine Eq.trans ?_ (pool_of V0 hD hM hS 0 _ 2 (by norm_num) ofBits_2 2 s ⟨l.val, c0⟩ (fun s' => runs V0 (ix3 (0 : Fin 1) s' l)) fun s' => ?_)
    · refine congrArg (· + _) ?_
      refine Eq.trans ?_ (congrArg Neg.neg (mapped_at V0 s 0 ⟨l.val, c0⟩))
      pointwise [res_main_v172]
    · refine (hr s').trans ?_
      rw [dif_pos c0]
      exact diff0_at V0 s' _
  by_cases c1 : l.val < 512
  · rw [dif_neg c0, dif_pos c1, dif_neg c0, dif_pos c1]
    refine Eq.trans ?_ (pool_of V0 hD hM hS 1 _ 4 (by norm_num) ofBits_4 4 s ⟨l.val - 256, by omega⟩ (fun s' => runs V0 (ix3 (0 : Fin 1) s' l)) fun s' => ?_)
    · refine congrArg (· + _) ?_
      refine Eq.trans ?_ (congrArg Neg.neg (mapped_at V0 s 1 ⟨l.val - 256, by omega⟩))
      pointwise [res_main_v174]
    · refine (hr s').trans ?_
      rw [dif_neg c0, dif_pos c1]
      exact diff1_at V0 s' _
  by_cases c2 : l.val < 768
  · rw [dif_neg c0, dif_neg c1, dif_pos c2, dif_neg c0, dif_neg c1, dif_pos c2]
    refine Eq.trans ?_ (pool_of V0 hD hM hS 2 _ 8 (by norm_num) ofBits_8 8 s ⟨l.val - 512, by omega⟩ (fun s' => runs V0 (ix3 (0 : Fin 1) s' l)) fun s' => ?_)
    · refine congrArg (· + _) ?_
      refine Eq.trans ?_ (congrArg Neg.neg (mapped_at V0 s 2 ⟨l.val - 512, by omega⟩))
      pointwise [res_main_v176]
    · refine (hr s').trans ?_
      rw [dif_neg c0, dif_neg c1, dif_pos c2]
      exact diff2_at V0 s' _
  · rw [dif_neg c0, dif_neg c1, dif_neg c2, dif_neg c0, dif_neg c1, dif_neg c2]
    refine Eq.trans ?_ (pool_of V0 hD hM hS 3 _ 16 (by norm_num) ofBits_16 16 s ⟨l.val - 768, by have := l.isLt; omega⟩ (fun s' => runs V0 (ix3 (0 : Fin 1) s' l)) fun s' => ?_)
    · refine congrArg (· + _) ?_
      refine Eq.trans ?_ (congrArg Neg.neg (mapped_at V0 s 3 ⟨l.val - 768, by have := l.isLt; omega⟩))
      pointwise [res_main_v178]
    · refine (hr s').trans ?_
      rw [dif_neg c0, dif_neg c1, dif_neg c2]
      exact diff3_at V0 s' _

def both := addf (F := Ideal) (φ := .f32) (pad S1x4096x2048 ![0, 0, 1024] ![0, 0, 0] ![0, 0, 0] (gates V0) (constant (F := Ideal) S_ .f32 0x00000000#32) pads_S1x4096x1024_S1x4096x2048_000_000_102400 h_S_) (pad S1x4096x2048 ![0, 0, 0] ![0, 0, 1024] ![0, 0, 0] (mulf (res_main_v117 V0) (res_main_v111 V0)) (constant S_ .f32 0x00000000#32) pads_S1x4096x1024_S1x4096x2048_000_000_010240 h_S_)

def total := addf (F := Ideal) (φ := .f32) (pad S1x4096x3072 ![0, 0, 1024] ![0, 0, 0] ![0, 0, 0] (both V0) (constant (F := Ideal) S_ .f32 0x00000000#32) pads_S1x4096x2048_S1x4096x3072_000_000_102400 h_S_) (pad S1x4096x3072 ![0, 0, 0] ![0, 0, 2048] ![0, 0, 0] (pools V0) (constant S_ .f32 0x00000000#32) pads_S1x4096x1024_S1x4096x3072_000_000_020480 h_S_)

theorem zero_first : (constant (F := Ideal) S_ .f32 0x00000000#32) (Shape.Idx.first h_S_) = 0 :=
  show Ideal.ofBits .f32 0#32 = 0 from Ideal.ofBits_zero .f32

theorem both_at (s : Fin 4096) (l : Fin 2048) : both V0 (ix3 (0 : Fin 1) s l)
    = if h : l.val < 1024 then leftG (aD V0) (aVN V0) (aWM V0) (aBF V0) s ⟨l.val, h⟩
      else normG (aD V0) (aP V0) (aG V0) (aWM V0) s ⟨l.val - 1024, by have := l.isLt; omega⟩ := by
  have hs := s.isLt
  have hl := l.isLt
  refine (congrArg₂ (HAdd.hAdd (α := EReal)) (pad_rows 0 1024 0 0 (gates V0) _ _ _ s l) (pad_rows 0 0 0 1024 (mulf (F := Ideal) (φ := .f32) (res_main_v117 V0) (res_main_v111 V0)) _ _ _ s l)).trans ?_
  by_cases h : l.val < 1024
  · rw [dif_neg (by omega), dif_pos ⟨⟨by omega, by omega⟩, ⟨by omega, by omega⟩⟩, dif_pos h, zero_first, zero_add]
    refine Eq.trans ?_ (mixed_at V0 s ⟨l.val, h⟩)
    exact congrArg (fun x : EReal => x * _) (dys_at V0 s ⟨l.val, h⟩)
  · rw [dif_pos ⟨⟨by omega, by omega⟩, ⟨by omega, by omega⟩⟩, dif_neg (by omega), dif_neg h, zero_first, add_zero]
    exact norm_grad_at V0 s ⟨l.val - 1024, by omega⟩

theorem total_at (hD : Fin_ (aD V0)) (hM : Fin_ (aMap V0)) (hS : Fin_ (aSC V0)) (s : Fin 4096) (l : Fin 3072) : total V0 (ix3 (0 : Fin 1) s l)
    = projG (aD V0) (aP V0) (aVN V0) (aMap V0) (aSC V0) (aG V0) (aWM V0) (aBF V0) (ix2 s l) := by
  have hs := s.isLt
  have hl := l.isLt
  refine (congrArg₂ (HAdd.hAdd (α := EReal)) (pad_rows 0 1024 0 0 (both V0) _ _ _ s l) (pad_rows 0 0 0 2048 (pools V0) _ _ _ s l)).trans ?_
  unfold projG
  show _ = if h : l.val < 1024 then _ else _
  by_cases h : l.val < 1024
  · rw [dif_neg (by omega), dif_pos ⟨⟨by omega, by omega⟩, ⟨by omega, by omega⟩⟩, dif_pos h, zero_first, zero_add]
    exact pools_at V0 hD hM hS s ⟨l.val, h⟩
  · rw [dif_pos ⟨⟨by omega, by omega⟩, ⟨by omega, by omega⟩⟩, dif_neg (by omega), dif_neg h, zero_first, add_zero]
    refine (both_at V0 s ⟨l.val - 1024, by omega⟩).trans ?_
    show (if h : l.val - 1024 < 1024 then _ else _) = if h : l.val < 2048 then _ else _
    by_cases h' : l.val < 2048
    · rw [dif_pos (by omega), dif_pos h']
      rfl
    · rw [dif_neg (by omega), dif_neg h']
      exact congrArg (normG (aD V0) (aP V0) (aG V0) (aWM V0) s) (Fin.ext (show l.val - 1024 - 1024 = l.val - 2048 by omega))

/-- The gradient of the projected activations, as the reference composes it. -/
theorem proj_at (hD : Fin_ (aD V0)) (hM : Fin_ (aMap V0)) (hS : Fin_ (aSC V0)) (j : S4096x3072.Idx) :
    truncf (F := Ideal) .bf16 (Host.reduceAdd (F := Ideal) (φ := .f32) (total V0) (constant S_ .f32 0x00000000#32) reducesTo_S1x4096x3072_S4096x3072_d0 h_S_) bitsLt_bf16_f32 j
      = projG (aD V0) (aP V0) (aVN V0) (aMap V0) (aSC V0) (aG V0) (aWM V0) (aBF V0) j := by
  rw [eq_ix2 j]
  generalize j 0 = s
  generalize j 1 = l
  pointwise [total_at V0 hD hM hS]
  exact (Fintype.sum_unique _).trans (total_at V0 hD hM hS s l)
-- ==== Proof.MixerHost.lean ====
module

public import proofs.«01_k».proof.Proof.MixerFinal
public import proofs.«01_k».proof.Proof.MixerRefProj

/-! The mixer's arguments prepared on the host, against the reference's own. -/

@[expose] public section

set_option maxRecDepth 16384

noncomputable section

open Idealize.ShloMosaic Idealize.ShloMosaic.TcCoe Idealize.SL.Sem

namespace Cert.Kernel2Ideal.Hand

open Cert.Kernel2Ideal Cert.Kernel2Ideal.Gen

variable (m : (ℓ : Loc nD τ sig) → Buf (Elt Ideal) ℓ) (c : Dev nD)
variable (V0 : Valuation Cert.Reference2Ideal.τ Cert.Reference2Ideal.sig (Elt Ideal))

theorem host_weights (h : (V0 (Proc.devRef .tc Cert.Reference2Ideal.main_arg5) : FVec Ideal S1x8x128x128 .f32) = m ((c : Thread nD τ).loc main_arg5)) :
    (V m c main_v11 : FVec Ideal S8x128x128 .bf16) = Cert.Reference2Ideal.Hand.aWM V0 := by
  unfold V
  simp only [List.flatten_cons, List.flatten_nil, StableHlo.after_append, List.append_nil]
  simp only [hostOps0, hostOps0_1, hostOps0_2, hostOps0_3, hostOps0_4, hostOps0_5, hostOps0_6, hostOps0_7, hostOps0_8]
  after_results
  unfold Cert.Reference2Ideal.Hand.aWM Cert.Reference2Ideal.Value.res_main_v104_0
  rw [h]
  rfl

theorem host_map (h : (V0 (Proc.devRef .tc Cert.Reference2Ideal.main_arg2) : FVec Ideal S1x4x256x256 .f32) = m ((c : Thread nD τ).loc main_arg2)) :
    (V m c main_v96 : FVec Ideal S4x256x256 .bf16) = Cert.Reference2Ideal.Hand.aMap V0 := by
  unfold V
  simp only [List.flatten_cons, List.flatten_nil, StableHlo.after_append, List.append_nil]
  simp only [hostOps0, hostOps0_1, hostOps0_2, hostOps0_3, hostOps0_4, hostOps0_5, hostOps0_6, hostOps0_7, hostOps0_8]
  after_results
  unfold Cert.Reference2Ideal.Hand.aMap Cert.Reference2Ideal.Value.res_main_v2
  rw [h]
  rfl

theorem host_bias (h : (V0 (Proc.devRef .tc Cert.Reference2Ideal.main_arg6) : FVec Ideal S1x8x128 .f32) = m ((c : Thread nD τ).loc main_arg6)) :
    (V m c main_v15 : FVec Ideal S128x1024 .f32) = Cert.Reference2Ideal.Hand.aBF V0 := by
  unfold V
  simp only [List.flatten_cons, List.flatten_nil, StableHlo.after_append, List.append_nil]
  simp only [hostOps0, hostOps0_1, hostOps0_2, hostOps0_3, hostOps0_4, hostOps0_5, hostOps0_6, hostOps0_7, hostOps0_8]
  after_results
  funext j
  rw [eq_ix2 j]
  generalize j 0 = s
  generalize j 1 = l
  unfold Cert.Reference2Ideal.Hand.aBF
  rw [h]
  pointwise []

theorem host_gate (h : (V0 (Proc.devRef .tc Cert.Reference2Ideal.main_arg1) : FVec Ideal S4096x3072 .f32) = m ((c : Thread nD τ).loc main_arg1))
    (h4 : (V0 (Proc.devRef .tc Cert.Reference2Ideal.main_arg4) : FVec Ideal S1x1024 .f32) = m ((c : Thread nD τ).loc main_arg4)) :
    (V m c main_v94 : FVec Ideal S4096x1024 .bf16) = Cert.Reference2Ideal.Hand.aVN V0 := by
  unfold V
  simp only [List.flatten_cons, List.flatten_nil, StableHlo.after_append, List.append_nil]
  simp only [hostOps0, hostOps0_1, hostOps0_2, hostOps0_3, hostOps0_4, hostOps0_5, hostOps0_6, hostOps0_7, hostOps0_8]
  after_results
  funext j
  rw [eq_ix2 j]
  generalize j 0 = s
  generalize j 1 = l
  unfold Cert.Reference2Ideal.Hand.aVN Cert.Reference2Ideal.Hand.aG Cert.Reference2Ideal.Hand.aP
  rw [h, h4]
  pointwise [vG, meanG]

theorem host_pool (h : (V0 (Proc.devRef .tc Cert.Reference2Ideal.main_arg1) : FVec Ideal S4096x3072 .f32) = m ((c : Thread nD τ).loc main_arg1)) :
    (V m c main_v78 : FVec Ideal S4096x1024 .bf16) = Cert.Reference2Ideal.Hand.aPool V0 := by
  unfold V
  simp only [List.flatten_cons, List.flatten_nil, StableHlo.after_append, List.append_nil]
  simp only [hostOps0, hostOps0_1, hostOps0_2, hostOps0_3, hostOps0_4, hostOps0_5, hostOps0_6, hostOps0_7, hostOps0_8]
  after_results
  dsimp only [Matrix.cons_val]
  simp only [↓ StableHlo.readResult, ↓ StableHlo.readPieces, -eq_self]
  have hv : broadcastInDim S1x4096x1024 ![1, 2] bcast_S4096x1024_S1x4096x1024_1_2 (extractStridedSlice S4096x1024 ![0, 0] (m (c, Proc.tc.devRef main_arg1)) slices_S4096x3072_S4096x1024_0_0)
      = Cert.Reference2Ideal.Value.res_main_v1 V0 := by
    funext i
    rw [eq_ix3 i]
    generalize i 0 = a
    generalize i 1 = s
    generalize i 2 = l
    unfold Cert.Reference2Ideal.Value.res_main_v1 Cert.Reference2Ideal.Value.res_main_v0
    rw [h]
    pointwise []
  simp -implicitDefEqProofs only [StableHlo.TRef.toBuf, StableHlo.TRef.ofBuf, cast_cast, cast_eq]
  have hX : Cert.Reference2Ideal.Value.res_main_v65 V0 = Cert.Reference2Ideal.Value.res_main_v65 V0 := rfl
  conv_rhs at hX => unfold Cert.Reference2Ideal.Value.res_main_v65 Cert.Reference2Ideal.Value.res_main_v9 Cert.Reference2Ideal.Value.res_main_v22 Cert.Reference2Ideal.Value.res_main_v35 Cert.Reference2Ideal.Value.res_main_v48 Cert.Reference2Ideal.Value.res_main_v17 Cert.Reference2Ideal.Value.res_main_v30 Cert.Reference2Ideal.Value.res_main_v43 Cert.Reference2Ideal.Value.res_main_v56 Cert.Reference2Ideal.Value.res_main_v8 Cert.Reference2Ideal.Value.res_main_v4
  rw [← hv] at hX
  refine Eq.trans (b := shapeCast S4096x1024 (shapeCast S4096x4x256 (Cert.Reference2Ideal.Value.res_main_v65 V0) shapeCasts_S1x4096x4x256_S4096x4x256) shapeCasts_S4096x4x256_S4096x1024) ?_ ?_
  · rw [hX]
    rfl
  funext j
  rw [eq_ix2 j]
  generalize j 0 = s
  generalize j 1 = l
  unfold Cert.Reference2Ideal.Hand.aPool
  pointwise []
-- ==== Proof.Finite.lean ====
module

public import proofs.«01_k».proof.Proof.NormGrad

/-! What a test for finiteness says of a number. -/

@[expose] public section

noncomputable section

open Idealize.ShloMosaic

namespace Cert.Finite

/-- What the preconditions test of one number. -/
theorem real_of_test (x : EReal) (h : FloatOps.cmpf (F := Ideal) (φ := .f32) .olt (FloatOps.hostAbsf (F := Ideal) (φ := .f32) x) (FloatOps.ofBits (F := Ideal) .f32 0x7F800000#32) = 1#1) : ∃ v : ℝ, x = (v : EReal) := by
  have hb : Ideal.ofBits .f32 0x7F800000#32 = ⊤ := by simp [Ideal.ofBits, Ideal.ieee, -EReal.coe_mul]
  have hl : max x (-x) < (⊤ : EReal) := by
    by_contra hn
    have h' : Ideal.cmp .olt (max x (-x)) (Ideal.ofBits .f32 0x7F800000#32) = 1#1 := h
    rw [hb] at h'
    simp [Ideal.cmp, hn] at h'
  induction x with
  | bot => simp at hl
  | top => simp at hl
  | coe v => exact ⟨v, rfl⟩

end Cert.Finite

end
-- ==== Proof.Mixer.lean ====
module

public import proofs.«01_k».proof.Proof.MixerHost
public import proofs.«01_k».proof.Proof.Finite
public import proofs.«01_k».proof.Defs

/-! The mixer's backward call: its results are the reference's gradients. -/

@[expose] public section

set_option maxRecDepth 16384

noncomputable section

open Idealize.ShloMosaic Idealize.ShloMosaic.TcCoe Idealize.SL.Sem

namespace Cert.Reference2Ideal.Hand

open Idealize.ShloMosaic.StableHlo Cert.Reference2Ideal Cert.Reference2Ideal.Value Cert.Reference2Ideal.Gen
open Cert.Kernel2Ideal.Hand (scaleG mapG biasG gainG spaceG projG chunk)

variable (V0 : Valuation τ sig (Elt Ideal))

theorem proj_all (hD : Fin_ (aD V0)) (hM : Fin_ (aMap V0)) (hS : Fin_ (aSC V0)) :
    truncf (F := Ideal) .bf16 (Host.reduceAdd (F := Ideal) (φ := .f32) (total V0) (constant S_ .f32 0x00000000#32) reducesTo_S1x4096x3072_S4096x3072_d0 h_S_) bitsLt_bf16_f32
      = projG (aD V0) (aP V0) (aVN V0) (aMap V0) (aSC V0) (aG V0) (aWM V0) (aBF V0) :=
  funext (proj_at V0 hD hM hS)

theorem map_all : shapeCast _ (broadcastInDim S1x4x256x256 ![1, 2, 3] bcast_S4x256x256_S1x4x256x256_1_2_3 (transpose S4x256x256 [0, 2, 1] (Host.dotGeneral (F := Ideal) (φ₁ := .f32) (φ₂ := .f32) dot_S4x256x1x4096_S1x4096x4x256_S4x256x256_23_01_1_3_0_2 none (res_main_v166 V0) (res_main_v65 V0)) transposes_S4x256x256_S4x256x256_0_2_1)) shapeCasts_S1x4x256x256_S4x256x256
    = fun j => mapG (aD V0) (aPool V0) (aSC V0) (j 0) (j 1) (j 2) := by
  funext j
  rw [eq_ix3 j]
  exact map_at V0 _ _ _

theorem scale_all : broadcastInDim S1x1024 ![1] bcast_S1024_S1x1024_1 (Host.reduceAdd (shapeCast _ (Host.reduceAdd (mulf (res_main_v68 V0) (res_main_v116 V0)) (constant S_ .f32 0x00000000#32) reducesTo_S1x4096x1024_S1x1024_d1 h_S_) shapeCasts_S1x1024_S1x1x1024) (constant S_ .f32 0x00000000#32) reducesTo_S1x1x1024_S1024_d0_1 h_S_)
    = fun j => scaleG (aD V0) (aPool V0) (aMap V0) (j 1) := by
  funext j
  rw [eq_ix2 j]
  exact scale_at V0 _ _

theorem gain_all : broadcastInDim S1x1024 ![1] bcast_S1024_S1x1024_1 (Host.reduceAdd (shapeCast _ (Host.reduceAdd (mulf (res_main_v90 V0) (res_main_v130 V0)) (constant S_ .f32 0x00000000#32) reducesTo_S1x4096x1024_S1x1024_d1 h_S_) shapeCasts_S1x1024_S1x1x1024) (constant S_ .f32 0x00000000#32) reducesTo_S1x1x1024_S1024_d0_1 h_S_)
    = fun j => gainG (aD V0) (aP V0) (aWM V0) (j 1) := by
  funext j
  rw [eq_ix2 j]
  exact gain_at V0 _ _

theorem bias_all : broadcastInDim S8x128x128 ![0, 1, 2] bcast_S8x128x1_S8x128x128_0_1_2 (broadcastInDim S8x128x1 ![0, 1] bcast_S8x128_S8x128x1_0_1 (shapeCast _ (broadcastInDim S1x8x128 ![1, 2] bcast_S8x128_S1x8x128_1_2 (transpose S8x128 [1, 0] (Host.reduceAdd (shapeCast _ (Host.reduceAdd (F := Ideal) (res_main_v120 V0) (constant S_ .f32 0x00000000#32) reducesTo_S1x32x128x8x128_S1x128x8_d1_4 h_S_) shapeCasts_S1x128x8_S1x1x128x8x1) (constant S_ .f32 0x00000000#32) reducesTo_S1x1x128x8x1_S128x8_d0_1_4 h_S_) transposes_S128x8_S8x128_1_0)) shapeCasts_S1x8x128_S8x128))
    = fun j => biasG (aD V0) (aP V0) (j 0) (j 1) := by
  funext j
  rw [eq_ix3 j]
  exact bias_at V0 _ _ _

/-- A place's 64-row half as the host's lines compute it. -/
def hostChunk (x : Fin 128) : BitVec 32 :=
  Scalar.select
    (IntOp.andi
      (IntOp.cmpi .ne (if BitVec.ofNat 32 x.val = 0 then 0 else if BitVec.msb (BitVec.ofNat 32 x.val) = true then (-1 : BitVec 32) else 1)
        (if (64#32) = 0 then 0 else if BitVec.msb (64#32) = true then (-1 : BitVec 32) else 1))
      (IntOp.cmpi .ne (IntOp.remsi .host (BitVec.ofNat 32 x.val) 64#32) 0#32))
    (IntOp.subi (IntOp.divsi .host (BitVec.ofNat 32 x.val) 64#32) 1#32)
    (IntOp.divsi .host (BitVec.ofNat 32 x.val) 64#32)

theorem hostChunk_eq : ∀ x : Fin 128, hostChunk x = chunk x := by decide +kernel

theorem mask_at (h : Fin 8) (a a' : Fin 128) : res_main_v104_1 V0 (ix3 h a a')
    = IntOp.cmpi .sle (chunk a') (chunk a) := by
  pointwise [res_main_v104_1, res_main_v96, res_main_v98, res_main_call1_v0, res_main_call2_v0, res_main_call1_v2, res_main_call2_v2]
  exact congrArg₂ (IntOp.cmpi .sle) (hostChunk_eq a') (hostChunk_eq a)

theorem space_all : shapeCast _ (broadcastInDim S1x8x128x128 ![1, 2, 3] bcast_S8x128x128_S1x8x128x128_1_2_3 (select (res_main_v104_1 V0) (Host.dotGeneral (F := Ideal) (φ₁ := .f32) (φ₂ := .f32) dot_S8x1x32x128x128_S1x32x128x8x128_S8x128x128_123_014_4_2_0_3 none (res_main_v125 V0) (res_main_v94 V0)) (broadcastInDim S8x128x128 ![] bcast_S_S8x128x128 (constant S_ .f32 0x00000000#32)))) shapeCasts_S1x8x128x128_S8x128x128
    = fun j => Scalar.select (IntOp.cmpi .sle (chunk (j 2)) (chunk (j 1)))
      (spaceG (aD V0) (aP V0) (aVN V0) (j 0) (j 1) (j 2)) (0 : EReal) := by
  funext j
  rw [eq_ix3 j]
  generalize j 0 = h
  generalize j 1 = a
  generalize j 2 = a'
  have hm := mask_at V0 h a a'
  have hs := space_at V0 h a a'
  generalize Host.dotGeneral (F := Ideal) (φ₁ := .f32) (φ₂ := .f32) dot_S8x1x32x128x128_S1x32x128x8x128_S8x128x128_123_014_4_2_0_3 none (res_main_v125 V0) (res_main_v94 V0) = X at hs ⊢
  pointwise [hm, hs]
  trace_state

theorem finite_map (h : ∀ j : S1x4x256x256.Idx, ∃ v : ℝ, (V0 (Proc.devRef .tc main_arg2) : FVec Ideal S1x4x256x256 .f32) j = (v : EReal)) : Fin_ (aMap V0) :=
  fun j => h _

/-- What the reference leaves in its results. -/
theorem run_final (m : (ℓ : Loc nD τ sig) → Buf (Elt Ideal) ℓ) (ρ : Dev nD → PrngReg)
    (hD : ∀ c, Fin_ (aD (launchContents m c))) (hM : ∀ c, Fin_ (aMap (launchContents m c))) (hS : ∀ c, Fin_ (aSC (launchContents m c))) :
    θ_run defs (onTc (τ := τ) (main (F := Ideal))) ⟨m, fun _ => 0, ρ⟩ fun r => ∀ c : Dev nD,
      (r.2.mem ((c.tc : Thread nD τ).loc main_v232) : FVec Ideal S4096x3072 .bf16) = projG (aD (launchContents m c)) (aP (launchContents m c)) (aVN (launchContents m c)) (aMap (launchContents m c)) (aSC (launchContents m c)) (aG (launchContents m c)) (aWM (launchContents m c)) (aBF (launchContents m c))
      ∧ (r.2.mem ((c.tc : Thread nD τ).loc main_v233) : FVec Ideal S4x256x256 .f32) = (fun j => mapG (aD (launchContents m c)) (aPool (launchContents m c)) (aSC (launchContents m c)) (j 0) (j 1) (j 2))
      ∧ (r.2.mem ((c.tc : Thread nD τ).loc main_v227) : FVec Ideal S1x1024 .f32) = (fun j => scaleG (aD (launchContents m c)) (aPool (launchContents m c)) (aMap (launchContents m c)) (j 1))
      ∧ (r.2.mem ((c.tc : Thread nD τ).loc main_v157) : FVec Ideal S1x1024 .f32) = (fun j => gainG (aD (launchContents m c)) (aP (launchContents m c)) (aWM (launchContents m c)) (j 1))
      ∧ (r.2.mem ((c.tc : Thread nD τ).loc main_v234) : FVec Ideal S8x128x128 .f32) = (fun j => Scalar.select (IntOp.cmpi .sle (chunk (j 2)) (chunk (j 1)))
          (spaceG (aD (launchContents m c)) (aP (launchContents m c)) (aVN (launchContents m c)) (j 0) (j 1) (j 2)) (0 : EReal))
      ∧ (r.2.mem ((c.tc : Thread nD τ).loc main_v237) : FVec Ideal S8x128x128 .f32) = (fun j => biasG (aD (launchContents m c)) (aP (launchContents m c)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run _ _ _).mono (fun r h c => ?_) (Cert.Reference2Ideal.Value.run m ρ)
  obtain ⟨h0, h1, h2, h3, h4, h5, hk⟩ := h c
  exact ⟨h0.trans (proj_all _ (hD c) (hM c) (hS c)), h1.trans (map_all _), h2.trans (scale_all _), h3.trans (gain_all _), h4.trans (space_all _), h5.trans (bias_all _), hk⟩

end Cert.Reference2Ideal.Hand

namespace Cert.Kernel2Ideal.Hand

open Cert.Kernel2Ideal Cert.Kernel2Ideal.Gen

/-- What the kernel leaves in its results, and that its arguments stay. -/
theorem run_final (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v97_0) = (dats m 0 c).arrAt 11 cfg0.N
      ∧ r.2.mem ((c.tc : Thread nD τ).loc main_v97_1) = (dats m 0 c).arrAt 12 cfg0.N
      ∧ r.2.mem ((c.tc : Thread nD τ).loc main_v97_2) = (dats m 0 c).arrAt 13 cfg0.N
      ∧ r.2.mem ((c.tc : Thread nD τ).loc main_v97_3) = (dats m 0 c).arrAt 14 cfg0.N
      ∧ r.2.mem ((c.tc : Thread nD τ).loc main_v97_4) = (dats m 0 c).arrAt 15 cfg0.N
      ∧ r.2.mem ((c.tc : Thread nD τ).loc main_v97_5) = (dats m 0 c).arrAt 16 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine θ_run_mono (θ_run_and (run_main m ρ) (unchanged m ρ)) fun r hr c => ?_
  exact ⟨(hr.1 c).1 11, (hr.1 c).1 12, (hr.1 c).1 13, (hr.1 c).1 14, (hr.1 c).1 15, (hr.1 c).1 16, hr.2 c⟩

end Cert.Kernel2Ideal.Hand

namespace Cert.Proof

theorem algebraic2 [hP : Cert.Pre_pooling_finite.Facts] : Cert.algebraic_Kernel2Ideal_Reference2Ideal_pre_pooling_finite := by
  pair_intro
  · exact Cert.Kernel2Ideal.Hand.run_final m g
  · have hD : ∀ c, Cert.Reference2Ideal.Hand.Fin_ (Cert.Reference2Ideal.Hand.aD (StableHlo.launchContents m' c)) := fun c j => by
      have e : Cert.Reference2Ideal.Hand.aD (StableHlo.launchContents m' c) = m ((c.tc : Thread _ _).loc Cert.Kernel2Ideal.main_arg0) := (hagree c).1
      rw [e]
      exact Cert.Finite.real_of_test _ (congrFun (hpre c).1 j)
    have hM : ∀ c, Cert.Reference2Ideal.Hand.Fin_ (Cert.Reference2Ideal.Hand.aMap (StableHlo.launchContents m' c)) := fun c =>
      Cert.Reference2Ideal.Hand.finite_map _ fun j => by
        have e : ((StableHlo.launchContents m' c) (Proc.devRef .tc Cert.Reference2Ideal.main_arg2) : FVec Ideal Cert.Reference2Ideal.S1x4x256x256 .f32) = m ((c.tc : Thread _ _).loc Cert.Kernel2Ideal.main_arg2) := (hagree c).2.2.1
        rw [e]
        exact Cert.Finite.real_of_test _ (congrFun (hpre c).2.1 j)
    have hS : ∀ c, Cert.Reference2Ideal.Hand.Fin_ (Cert.Reference2Ideal.Hand.aSC (StableHlo.launchContents m' c)) := fun c j => by
      have e : Cert.Reference2Ideal.Hand.aSC (StableHlo.launchContents m' c) = m ((c.tc : Thread _ _).loc Cert.Kernel2Ideal.main_arg3) := (hagree c).2.2.2.1
      rw [e]
      exact Cert.Finite.real_of_test _ (congrFun (hpre c).2.2 j)
    refine (θ_run _ _ _).mono (fun r h c => ?_) (Cert.Reference2Ideal.Hand.run_final m' g' hD hM hS)
    obtain ⟨h0, h1, h2, h3, h4, h5, hk⟩ := h c
    obtain ⟨e0, e1, e2, e3, e4, e5, e6⟩ := hagree c
    have p0 : Cert.Reference2Ideal.Hand.aD (StableHlo.launchContents m' c) = m ((c.tc : Thread _ _).loc Cert.Kernel2Ideal.main_arg0) := e0
    have p1 : Cert.Reference2Ideal.Hand.aP (StableHlo.launchContents m' c) = m ((c.tc : Thread _ _).loc Cert.Kernel2Ideal.main_arg1) := e1
    have p3 : Cert.Reference2Ideal.Hand.aSC (StableHlo.launchContents m' c) = m ((c.tc : Thread _ _).loc Cert.Kernel2Ideal.main_arg3) := e3
    have p4 : Cert.Reference2Ideal.Hand.aG (StableHlo.launchContents m' c) = m ((c.tc : Thread _ _).loc Cert.Kernel2Ideal.main_arg4) := e4
    have pW := Cert.Kernel2Ideal.Hand.host_weights m c (StableHlo.launchContents m' c) e5
    have pM := Cert.Kernel2Ideal.Hand.host_map m c (StableHlo.launchContents m' c) e2
    have pB := Cert.Kernel2Ideal.Hand.host_bias m c (StableHlo.launchContents m' c) e6
    have pV := Cert.Kernel2Ideal.Hand.host_gate m c (StableHlo.launchContents m' c) e1 e4
    have pP := Cert.Kernel2Ideal.Hand.host_pool m c (StableHlo.launchContents m' c) e1
    have f0 := Cert.Kernel2Ideal.Hand.final_proj m c
    have f1 := Cert.Kernel2Ideal.Hand.final_map m c
    have f2 := Cert.Kernel2Ideal.Hand.final_scale m c
    have f3 := Cert.Kernel2Ideal.Hand.final_gain m c
    have f4 := Cert.Kernel2Ideal.Hand.final_space m c
    have f5 := Cert.Kernel2Ideal.Hand.final_bias m c
    rw [p0, p1, p3, p4, ← pW, ← pM, ← pB, ← pV] at h0
    rw [p0, p3, ← pP] at h1
    rw [p0, ← pP, ← pM] at h2
    rw [p0, p1, ← pW] at h3
    rw [p0, p1, ← pV] at h4
    rw [p0, p1] at h5
    exact ⟨h0.trans f0.symm, h1.trans f1.symm, h2.trans f2.symm, h3.trans f3.symm, h4.trans f4.symm, h5.trans f5.symm, hk⟩

end Cert.Proof
-- ==== Proof.AttnStep.lean ====
module

public import proofs.«01_k».proof.Proof.Gen.Kernel3Ideal.Value
public import proofs.«01_k».proof.Proof.Tiles

/-! What one grid point of the attention's backward call computes. -/

@[expose] public section

set_option maxRecDepth 16384

noncomputable section

open Idealize.ShloMosaic Idealize.ShloMosaic.TcCoe Idealize.SL.Sem
open Idealize.ShloMosaic.Pipeline (Dat)

namespace Cert.Kernel3Ideal.Hand

open Cert.Kernel3Ideal Cert.Kernel3Ideal.Gen Cert.Tiles

/-- A query row's scaled score against one memory row, in one head. -/
def score (q : Fin 512 → EReal) (K : Fin 256 → Fin 512 → EReal) (x : Fin 256) : EReal :=
  (∑ d : Fin 512, q d * K x d) * Ideal.ofBits .f32 0x3D3504F3#32

/-- The softmax of the scores. -/
def weight (q : Fin 512 → EReal) (K : Fin 256 → Fin 512 → EReal) (x : Fin 256) : EReal :=
  Ideal.div (Ideal.exp (score q K x - Finset.fold max (Ideal.ofBits .f32 0xFF800000#32) (score q K) Finset.univ))
    (∑ y : Fin 256, Ideal.exp (score q K y - Finset.fold max (Ideal.ofBits .f32 0xFF800000#32) (score q K) Finset.univ))

/-- The weights' cotangent. -/
def weightCot (o : Fin 512 → EReal) (V : Fin 256 → Fin 512 → EReal) (x : Fin 256) : EReal :=
  ∑ d : Fin 512, o d * V x d

/-- The scores' cotangent. -/
def scoreCot (q o : Fin 512 → EReal) (K V : Fin 256 → Fin 512 → EReal) (x : Fin 256) : EReal :=
  weight q K x * (weightCot o V x - ∑ y : Fin 256, weightCot o V y * weight q K y) * Ideal.ofBits .f32 0x3D3504F3#32

/-- The lane of an entry of a head. -/
def lane (h : Fin 4) (d : Fin 512) : Fin 2048 := ⟨h.val * 512 + d.val, by have := h.isLt; have := d.isLt; omega⟩

/-- A head's entries, row by row. -/
def head {n : Nat} (X : (⟨2, ![n, 2048]⟩ : Shape).Idx → EReal) (h : Fin 4) (a : Fin n) (d : Fin 512) : EReal := X (ix2 a (lane h d))

section Payloads

variable (Q D : FVec Ideal S1024x512 .bf16) (K V : FVec Ideal S256x512 .bf16) (A : FVec Ideal S256x512 .f32)

theorem weight_at (a : Fin 1024) (x : Fin 256) :
    k0_pay8 (F := Ideal) Q K (ix2 a x) = weight (fun d => Q (ix2 a d)) (fun y d => K (ix2 y d)) x := by
  pointwise [k0_pay8, weight, score]

theorem cot_at (a : Fin 1024) (x : Fin 256) :
    k0_pay9 (F := Ideal) Q K D V (ix2 a x)
      = scoreCot (fun d => Q (ix2 a d)) (fun d => D (ix2 a d)) (fun y d => K (ix2 y d)) (fun y d => V (ix2 y d)) x := by
  pointwise [k0_pay9, weight_at, scoreCot, weightCot]

theorem dq_at (a : Fin 1024) (d : Fin 512) : k0_pay10 (F := Ideal) Q K D V (ix2 a d)
    = ∑ x : Fin 256, scoreCot (fun d => Q (ix2 a d)) (fun d => D (ix2 a d)) (fun y d => K (ix2 y d)) (fun y d => V (ix2 y d)) x * K (ix2 x d) := by
  pointwise [k0_pay10, cot_at]

theorem dk_at (y : Fin 256) (d : Fin 512) :
    k0_pay12 (F := Ideal) Q (k0_pay9 (F := Ideal) Q K D V) (k0_pay11 (F := Ideal) A)
      (broadcast S256x512 (Scalar.ofBits (F := Ideal) .f32 0#32)) (ix2 y d)
    = A (ix2 y d) + ∑ a : Fin 1024, scoreCot (fun d => Q (ix2 a d)) (fun d => D (ix2 a d)) (fun y d => K (ix2 y d)) (fun y d => V (ix2 y d)) y * Q (ix2 a d) := by
  pointwise [k0_pay12, k0_pay11, cot_at]

theorem dv_at (y : Fin 256) (d : Fin 512) : k0_pay13 (F := Ideal) D (k0_pay8 (F := Ideal) Q K) A (ix2 y d)
    = A (ix2 y d) + ∑ a : Fin 1024, weight (fun d => Q (ix2 a d)) (fun y d => K (ix2 y d)) y * D (ix2 a d) := by
  pointwise [k0_pay13, weight_at]

end Payloads

/-- The query's gradient, in a block of rows. -/
def queryAt {n : Nat} (X0 : (⟨2, ![n, 2048]⟩ : Shape).Idx → EReal) (X1 X2 : FVec Ideal S256x2048 .bf16) (X3 : (⟨2, ![n, 2048]⟩ : Shape).Idx → EReal)
    (h : Fin 4) (a : Fin n) (d : Fin 512) : EReal :=
  ∑ x : Fin 256, scoreCot (head X0 h a) (head X3 h a) (head X1 h) (head X2 h) x * head X1 h x d

/-- What a block of rows adds to the key's gradient. -/
def keyAt {n : Nat} (X0 : (⟨2, ![n, 2048]⟩ : Shape).Idx → EReal) (X1 X2 : FVec Ideal S256x2048 .bf16) (X3 : (⟨2, ![n, 2048]⟩ : Shape).Idx → EReal)
    (h : Fin 4) (y : Fin 256) (d : Fin 512) : EReal :=
  ∑ a : Fin n, scoreCot (head X0 h a) (head X3 h a) (head X1 h) (head X2 h) y * head X0 h a d

/-- What a block of rows adds to the value's gradient. -/
def valueAt {n : Nat} (X0 : (⟨2, ![n, 2048]⟩ : Shape).Idx → EReal) (X1 : FVec Ideal S256x2048 .bf16) (X3 : (⟨2, ![n, 2048]⟩ : Shape).Idx → EReal)
    (h : Fin 4) (y : Fin 256) (d : Fin 512) : EReal :=
  ∑ a : Fin n, weight (head X0 h a) (head X1 h) y * head X3 h a d

/-- The head a lane belongs to, and its place in the head. -/
def headOf (l : Fin 2048) : Fin 4 := ⟨l.val / 512, by have := l.isLt; omega⟩
def placeOf (l : Fin 2048) : Fin 512 := ⟨l.val % 512, Nat.mod_lt _ (by decide)⟩

theorem headOf_eq (h : Fin 4) (d : Fin 512) (l : Fin 2048) (e : l.val = h.val * 512 + d.val) : headOf l = h :=
  Fin.ext (show l.val / 512 = h.val by have := d.isLt; omega)
theorem placeOf_eq (h : Fin 4) (d : Fin 512) (l : Fin 2048) (e : l.val = h.val * 512 + d.val) : placeOf l = d :=
  Fin.ext (show l.val % 512 = d.val by have := d.isLt; omega)

section Heads

variable (X0 X3 : FVec Ideal S1024x2048 .bf16) (X1 X2 : FVec Ideal S256x2048 .bf16) (A : FVec Ideal S256x2048 .f32) (h : Fin 4) (o : Nat) (ho : o = h.val * 512)
  (inb : ∀ a, (![0, o] : Fin 2 → Nat) a + (![1024, 512] : Fin 2 → Nat) a ≤ S1024x2048.size a)
  (inb' : ∀ a, (![0, o] : Fin 2 → Nat) a + (![256, 512] : Fin 2 → Nat) a ≤ S256x2048.size a)

include ho

theorem ld_rows (a : Fin 1024) (d : Fin 512) :
    View.ld (Val := Elt Ideal) (e' := .bf16) X0 (Rect.unit (s := S1024x2048) ![0, o] ![1024, 512] inb) (ix2 a d) = head X0 h a d := by
  subst ho
  refine congrArg X0 (funext (Fin.forall_fin_two.mpr ⟨Fin.ext ?_, Fin.ext ?_⟩))
  · exact (Rect.idx_unit_val (s := S1024x2048) ![0, h.val * 512] ![1024, 512] inb (ix2 a d) 0).trans (Nat.zero_add _)
  · exact Rect.idx_unit_val (s := S1024x2048) ![0, h.val * 512] ![1024, 512] inb (ix2 a d) 1

theorem ld_mem (a : Fin 256) (d : Fin 512) :
    View.ld (Val := Elt Ideal) (e' := .bf16) X1 (Rect.unit (s := S256x2048) ![0, o] ![256, 512] inb') (ix2 a d) = head X1 h a d := by
  subst ho
  refine congrArg X1 (funext (Fin.forall_fin_two.mpr ⟨Fin.ext ?_, Fin.ext ?_⟩))
  · exact (Rect.idx_unit_val (s := S256x2048) ![0, h.val * 512] ![256, 512] inb' (ix2 a d) 0).trans (Nat.zero_add _)
  · exact Rect.idx_unit_val (s := S256x2048) ![0, h.val * 512] ![256, 512] inb' (ix2 a d) 1

theorem rows_eq : View.ld (Val := Elt Ideal) (e' := .bf16) X0 (Rect.unit (s := S1024x2048) ![0, o] ![1024, 512] inb) =
    fun x => head X0 h (x 0) (x 1) :=
  funext fun x => (congrArg _ (eq_ix2 x)).trans (ld_rows X0 h o ho inb (x 0) (x 1))

theorem mem_eq : View.ld (Val := Elt Ideal) (e' := .bf16) X1 (Rect.unit (s := S256x2048) ![0, o] ![256, 512] inb') =
    fun x => head X1 h (x 0) (x 1) :=
  funext fun x => (congrArg _ (eq_ix2 x)).trans (ld_mem X1 h o ho inb' (x 0) (x 1))

omit ho in
theorem acc_at (A : FVec Ideal S256x2048 .f32) (x : S256x512.Idx) (y : S256x2048.Idx) (h0 : (y 0).val = (x 0).val) (h1 : (y 1).val = o + (x 1).val) :
    View.ld (Val := Elt Ideal) (e' := .f32) A (Rect.unit (s := S256x2048) ![0, o] ![256, 512] inb') x = A y := by
  refine congrArg A (funext (Fin.forall_fin_two.mpr ⟨Fin.ext ?_, Fin.ext ?_⟩))
  · exact (Rect.idx_unit_val ..).trans ((Nat.zero_add _).trans h0.symm)
  · exact (Rect.idx_unit_val ..).trans h1.symm

theorem query_head (x : S1024x512.Idx) (y : S1024x2048.Idx) (h0 : (y 0).val = (x 0).val) (h1 : (y 1).val = o + (x 1).val) :
    k0_pay10 (F := Ideal) (View.ld (Val := Elt Ideal) (e' := .bf16) X0 (Rect.unit (s := S1024x2048) ![0, o] ![1024, 512] inb))
      (View.ld (Val := Elt Ideal) (e' := .bf16) X1 (Rect.unit (s := S256x2048) ![0, o] ![256, 512] inb'))
      (View.ld (Val := Elt Ideal) (e' := .bf16) X3 (Rect.unit (s := S1024x2048) ![0, o] ![1024, 512] inb))
      (View.ld (Val := Elt Ideal) (e' := .bf16) X2 (Rect.unit (s := S256x2048) ![0, o] ![256, 512] inb')) x
      = queryAt X0 X1 X2 X3 (headOf (y 1)) (y 0) (placeOf (y 1)) := by
  rw [show y 0 = x 0 from Fin.ext h0, headOf_eq h (x 1) (y 1) (by omega), placeOf_eq h (x 1) (y 1) (by omega), eq_ix2 x,
    rows_eq X0 h o ho, rows_eq X3 h o ho, mem_eq X1 h o ho, mem_eq X2 h o ho]
  exact dq_at _ _ _ _ _ _

theorem key_head (x : S256x512.Idx) (y : S256x2048.Idx) (h0 : (y 0).val = (x 0).val) (h1 : (y 1).val = o + (x 1).val) :
    k0_pay12 (F := Ideal) (View.ld (Val := Elt Ideal) (e' := .bf16) X0 (Rect.unit (s := S1024x2048) ![0, o] ![1024, 512] inb))
      (k0_pay9 (F := Ideal) (View.ld (Val := Elt Ideal) (e' := .bf16) X0 (Rect.unit (s := S1024x2048) ![0, o] ![1024, 512] inb))
      (View.ld (Val := Elt Ideal) (e' := .bf16) X1 (Rect.unit (s := S256x2048) ![0, o] ![256, 512] inb'))
      (View.ld (Val := Elt Ideal) (e' := .bf16) X3 (Rect.unit (s := S1024x2048) ![0, o] ![1024, 512] inb))
      (View.ld (Val := Elt Ideal) (e' := .bf16) X2 (Rect.unit (s := S256x2048) ![0, o] ![256, 512] inb')))
      (k0_pay11 (F := Ideal) (View.ld (Val := Elt Ideal) (e' := .f32) A (Rect.unit (s := S256x2048) ![0, o] ![256, 512] inb')))
      (broadcast S256x512 (Scalar.ofBits (F := Ideal) .f32 0#32)) x
      = A y + keyAt X0 X1 X2 X3 (headOf (y 1)) (y 0) (placeOf (y 1)) := by
  rw [show y 0 = x 0 from Fin.ext h0, headOf_eq h (x 1) (y 1) (by omega), placeOf_eq h (x 1) (y 1) (by omega),
    ← acc_at o inb' A x y h0 h1, eq_ix2 x, rows_eq X0 h o ho, rows_eq X3 h o ho, mem_eq X1 h o ho, mem_eq X2 h o ho]
  exact dk_at _ _ _ _ _ _ _

theorem value_head (x : S256x512.Idx) (y : S256x2048.Idx) (h0 : (y 0).val = (x 0).val) (h1 : (y 1).val = o + (x 1).val) :
    k0_pay13 (F := Ideal) (View.ld (Val := Elt Ideal) (e' := .bf16) X3 (Rect.unit (s := S1024x2048) ![0, o] ![1024, 512] inb))
      (k0_pay8 (F := Ideal) (View.ld (Val := Elt Ideal) (e' := .bf16) X0 (Rect.unit (s := S1024x2048) ![0, o] ![1024, 512] inb))
      (View.ld (Val := Elt Ideal) (e' := .bf16) X1 (Rect.unit (s := S256x2048) ![0, o] ![256, 512] inb')))
      (View.ld (Val := Elt Ideal) (e' := .f32) A (Rect.unit (s := S256x2048) ![0, o] ![256, 512] inb')) x
      = A y + valueAt X0 X1 X3 (headOf (y 1)) (y 0) (placeOf (y 1)) := by
  rw [show y 0 = x 0 from Fin.ext h0, headOf_eq h (x 1) (y 1) (by omega), placeOf_eq h (x 1) (y 1) (by omega),
    ← acc_at o inb' A x y h0 h1, eq_ix2 x, rows_eq X0 h o ho, rows_eq X3 h o ho, mem_eq X1 h o ho]
  exact dv_at _ _ _ _ _ _

end Heads

section Same

variable (Q D : FVec Ideal S1024x512 .bf16) (K V : FVec Ideal S256x512 .bf16) (C : FVec Ideal S256x512 .f32)

/-- The four heads' payloads compute the same. -/
theorem key_three : k0_pay4 (F := Ideal) Q D (k0_pay26 (F := Ideal) Q K) V C
    = k0_pay12 (F := Ideal) Q (k0_pay9 (F := Ideal) Q K D V) (k0_pay11 (F := Ideal) C) (broadcast S256x512 (Scalar.ofBits (F := Ideal) .f32 0#32)) := rfl
theorem key_two : k0_pay24 (F := Ideal) Q (k0_pay19 (F := Ideal) Q K) (k0_pay20 (F := Ideal) D V) (k0_pay21 (F := Ideal) Q K D V) C
    = k0_pay12 (F := Ideal) Q (k0_pay9 (F := Ideal) Q K D V) (k0_pay11 (F := Ideal) C) (broadcast S256x512 (Scalar.ofBits (F := Ideal) .f32 0#32)) := rfl
theorem key_one : k0_pay17 (F := Ideal) Q (k0_pay15 (F := Ideal) Q K D V) C
    = k0_pay12 (F := Ideal) Q (k0_pay9 (F := Ideal) Q K D V) (k0_pay11 (F := Ideal) C) (broadcast S256x512 (Scalar.ofBits (F := Ideal) .f32 0#32)) := rfl
theorem value_three : k0_pay5 (F := Ideal) D (k0_pay26 (F := Ideal) Q K) C = k0_pay13 (F := Ideal) D (k0_pay8 (F := Ideal) Q K) C := rfl
theorem value_two : k0_pay25 (F := Ideal) D (k0_pay19 (F := Ideal) Q K) C = k0_pay13 (F := Ideal) D (k0_pay8 (F := Ideal) Q K) C := rfl
theorem value_one : k0_pay18 (F := Ideal) D (k0_pay14 (F := Ideal) Q K) C = k0_pay13 (F := Ideal) D (k0_pay8 (F := Ideal) Q K) C := rfl

end Same

variable (m : (ℓ : Loc nD τ sig) → Buf (Elt Ideal) ℓ)

def stepQuery (X0 : FVec Ideal S1024x2048 .bf16) (X1 X2 : FVec Ideal S256x2048 .bf16) (X3 : FVec Ideal S1024x2048 .bf16) :
    FVec Ideal S1024x2048 .bf16 := fun j => queryAt X0 X1 X2 X3 (headOf (j 1)) (j 0) (placeOf (j 1))

def stepKey (X0 : FVec Ideal S1024x2048 .bf16) (X1 X2 : FVec Ideal S256x2048 .bf16) (X3 : FVec Ideal S1024x2048 .bf16)
    (A : FVec Ideal S256x2048 .f32) : FVec Ideal S256x2048 .f32 := fun j => A j + keyAt X0 X1 X2 X3 (headOf (j 1)) (j 0) (placeOf (j 1))

def stepValue (X0 : FVec Ideal S1024x2048 .bf16) (X1 : FVec Ideal S256x2048 .bf16) (X3 : FVec Ideal S1024x2048 .bf16)
    (A : FVec Ideal S256x2048 .f32) : FVec Ideal S256x2048 .f32 := fun j => A j + valueAt X0 X1 X3 (headOf (j 1)) (j 0) (placeOf (j 1))

set_option maxHeartbeats 2000000 in
theorem step_query (c : Dev nD) (t : Fin cfg0.N) :
    (outsAt0 m c t.val t.isLt).1 = stepQuery (iblk m c 0 t) (iblk m c 1 t) (iblk m c 2 t) (iblk m c 3 t) := by
  by_cases h0 : t.val % 4 = 0
  on_goal 1 => rw [outsAt0_A m c t h0]
  on_goal 2 => rw [outsAt0_B m c t h0]
  all_goals
    frame_out
    try simp only [read_unread_whole]
    clear h0
    generalize iblk m c 0 t = X0
    generalize iblk m c 1 t = X1
    generalize iblk m c 2 t = X2
    generalize iblk m c 3 t = X3
    funext y
    canon_tiles x h
    · exact query_head X0 X3 X1 X2 3 1536 rfl _ _ x y h0 h1
    · exact query_head X0 X3 X1 X2 2 1024 rfl _ _ x y h0 h1
    · exact query_head X0 X3 X1 X2 1 512 rfl _ _ x y h0 h1
    · exact query_head X0 X3 X1 X2 0 0 rfl _ _ x y h0 (h1.trans (Nat.zero_add _).symm)

set_option maxHeartbeats 2000000 in
theorem step_key (c : Dev nD) (t : Fin cfg0.N) (A : FVec Ideal S256x2048 .f32) (hz : t.val % 4 = 0 → A = k0_pay6 (F := Ideal))
    (hp : ¬t.val % 4 = 0 → A = (outsAt0 m c (t.val - 1) (Nat.lt_of_le_of_lt (Nat.sub_le ..) t.isLt)).2.1) :
    (outsAt0 m c t.val t.isLt).2.1 = stepKey (iblk m c 0 t) (iblk m c 1 t) (iblk m c 2 t) (iblk m c 3 t) A := by
  by_cases h0 : t.val % 4 = 0
  on_goal 1 => rw [hz h0, outsAt0_A m c t h0]
  on_goal 2 => rw [hp h0, outsAt0_B m c t h0]
  all_goals
    frame_open
    simp (disch := decide) only [↓ View.readCov_skip, ↓ View.readCov_cons_toLoadRect, ↓ View.readCov_fill]
    frame_out
    try simp only [read_unread_whole]
    clear hz hp h0 A
    generalize iblk m c 0 t = X0
    generalize iblk m c 1 t = X1
    try generalize iblk m c 2 t = X2
    generalize iblk m c 3 t = X3
    try generalize (outsAt0 m c (t.val - 1) _).2.1 = P
    funext y
    refine (canon_take 4 ![256, 512] _ (by rfl) y).trans ?_
    simp only [List.take_succ_cons, List.take_zero]
    canon_tiles x h
    · exact (congrFun (key_three ..) x).trans (key_head X0 X3 X1 X2 _ 3 1536 rfl _ _ x y h0 h1)
    · exact (congrFun (key_two ..) x).trans (key_head X0 X3 X1 X2 _ 2 1024 rfl _ _ x y h0 h1)
    · exact (congrFun (key_one ..) x).trans (key_head X0 X3 X1 X2 _ 1 512 rfl _ _ x y h0 h1)
    · exact key_head X0 X3 X1 X2 _ 0 0 rfl _ _ x y h0 (h1.trans (Nat.zero_add _).symm)

set_option maxHeartbeats 2000000 in
theorem step_value (c : Dev nD) (t : Fin cfg0.N) (A : FVec Ideal S256x2048 .f32) (hz : t.val % 4 = 0 → A = k0_pay7 (F := Ideal))
    (hp : ¬t.val % 4 = 0 → A = (outsAt0 m c (t.val - 1) (Nat.lt_of_le_of_lt (Nat.sub_le ..) t.isLt)).2.2) :
    (outsAt0 m c t.val t.isLt).2.2 = stepValue (iblk m c 0 t) (iblk m c 1 t) (iblk m c 3 t) A := by
  by_cases h0 : t.val % 4 = 0
  on_goal 1 => rw [hz h0, outsAt0_A m c t h0]
  on_goal 2 => rw [hp h0, outsAt0_B m c t h0]
  all_goals
    frame_open
    simp (disch := decide) only [↓ View.readCov_skip, ↓ View.readCov_cons_toLoadRect, ↓ View.readCov_fill]
    frame_out
    try simp only [read_unread_whole]
    clear hz hp h0 A
    generalize iblk m c 0 t = X0
    generalize iblk m c 1 t = X1
    try generalize iblk m c 2 t = X2
    generalize iblk m c 3 t = X3
    try generalize (outsAt0 m c (t.val - 1) _).2.2 = P
    funext y
    refine (canon_take 4 ![256, 512] _ (by rfl) y).trans ?_
    simp only [List.take_succ_cons, List.take_zero]
    canon_tiles x h
    · exact (congrFun (value_three ..) x).trans (value_head X0 X3 X1 _ 3 1536 rfl _ _ x y h0 h1)
    · exact (congrFun (value_two ..) x).trans (value_head X0 X3 X1 _ 2 1024 rfl _ _ x y h0 h1)
    · exact (congrFun (value_one ..) x).trans (value_head X0 X3 X1 _ 1 512 rfl _ _ x y h0 h1)
    · exact value_head X0 X3 X1 _ 0 0 rfl _ _ x y h0 (h1.trans (Nat.zero_add _).symm)

end Cert.Kernel3Ideal.Hand
-- ==== Proof.Sums.lean ====
module

public import proofs.«01_k».proof.Proof.NormGrad

/-! Sums that a grid carries from point to point. -/

@[expose] public section

noncomputable section

open Idealize.ShloMosaic

namespace Cert.Sums

/-- What a scratch array holds after a point, when point 0 starts it at zero and every point adds its share. -/
theorem carried {S : Shape} (L M : Nat) (hM : M ≤ L) (F g : (n : Nat) → n < M → S.Idx → EReal)
    (h : ∀ (n : Nat) (hn : n < M) (A : S.Idx → EReal), (n % L = 0 → A = fun _ => 0)
      → (¬n % L = 0 → A = F (n - 1) (Nat.lt_of_le_of_lt (Nat.sub_le ..) hn)) → F n hn = fun j => A j + g n hn j)
    (n : Nat) : ∀ (hn : n < M) (j : S.Idx), F n hn j = ∑ s : Fin (n + 1), g s.val (Nat.lt_of_lt_of_le s.isLt hn) j := by
  induction n with
  | zero =>
    intro hn j
    rw [h 0 hn (fun _ => 0) (fun _ => rfl) (fun h => absurd (Nat.zero_mod L) h)]
    simp
  | succ n ih =>
    intro hn j
    have hl : (n + 1) % L = n + 1 := Nat.mod_eq_of_lt (by omega)
    rw [h (n + 1) hn (F n (by omega)) (fun h => absurd (hl.symm.trans h) (by omega)) (fun _ => rfl), Fin.sum_univ_castSucc]
    simp only [ih]
    rfl

end Cert.Sums

end
-- ==== Proof.AttnFinal.lean ====
module

public import proofs.«01_k».proof.Proof.AttnStep
public import proofs.«01_k».proof.Proof.Sums

/-! What the result arrays of the attention's backward call hold after its last grid point. -/

@[expose] public section

set_option maxRecDepth 16384

noncomputable section

open Idealize.ShloMosaic Idealize.ShloMosaic.TcCoe Idealize.SL.Sem
open Idealize.ShloMosaic.Pipeline (Dat)

namespace Cert.Kernel3Ideal.Hand

open Cert.Kernel3Ideal Cert.Kernel3Ideal.Gen

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The rows of an array that a grid point works on. -/
def rows (t : Fin 4) (X : FVec Ideal S4096x2048 .bf16) : FVec Ideal S1024x2048 .bf16 := fun j =>
  X (ix2 (⟨t.val * 1024 + (j 0).val, by have h : (j 0).val < 1024 := (j 0).isLt; omega⟩ : Fin 4096) (j 1 : Fin 2048))

theorem block0 (c : Dev nD) (t : Fin cfg0.N) : iblk m c 0 t = rows t (m ((c : Thread nD τ).loc main_arg0)) := by
  funext j
  rw [eq_ix2 j]
  show _ = m ((c : Thread nD τ).loc main_arg0) _
  blk_ext! [iblk, V, idx t]

theorem block1 (c : Dev nD) (t : Fin cfg0.N) : iblk m c 1 t = m ((c : Thread nD τ).loc main_arg1) := by
  blk_ext! [iblk, V, idx t]

theorem block2 (c : Dev nD) (t : Fin cfg0.N) : iblk m c 2 t = m ((c : Thread nD τ).loc main_arg2) := by
  blk_ext! [iblk, V, idx t]

theorem block3 (c : Dev nD) (t : Fin cfg0.N) : iblk m c 3 t = rows t (m ((c : Thread nD τ).loc main_arg3)) := by
  funext j
  rw [eq_ix2 j]
  show _ = m ((c : Thread nD τ).loc main_arg3) _
  blk_ext! [iblk, V, idx t]

theorem final_query (c : Dev nD) : (dats m 0 c).arrAt 4 (cfgs 0).N
    = fun j => queryAt (n := 4096) (m ((c : Thread nD τ).loc main_arg0)) (m ((c : Thread nD τ).loc main_arg1))
      (m ((c : Thread nD τ).loc main_arg2)) (m ((c : Thread nD τ).loc main_arg3)) (headOf (j 1)) (j 0) (placeOf (j 1)) := by
  refine (dats m 0 c).arrAt_eq_of_covers 4 _ (by decide +kernel) fun t hf y => ?_
  blk_simp
  rw [after0_4, step_query, block0, block1, block2, block3]
  generalize m ((c : Thread nD τ).loc main_arg0) = X0
  generalize m ((c : Thread nD τ).loc main_arg1) = X1
  generalize m ((c : Thread nD τ).loc main_arg2) = X2
  generalize m ((c : Thread nD τ).loc main_arg3) = X3
  have hi := (idx t).2.2.2.2
  refine (rfl : _ = (fun j : S4096x2048.Idx => queryAt (n := 4096) X0 X1 X2 X3 (headOf (j 1)) (j 0) (placeOf (j 1)))
    (ix2 (⟨t.val * 1024 + (y 0).val, by have h : (y 0).val < 1024 := (y 0).isLt; have h' : t.val < 4 := t.isLt; omega⟩ : Fin 4096) (y 1 : Fin 2048))).trans ?_
  refine congrArg (fun j : S4096x2048.Idx => queryAt (n := 4096) X0 X1 X2 X3 (headOf (j 1)) (j 0) (placeOf (j 1)))
    (a₂ := (win0_4.blk t).view.emb y) (funext fun a => Fin.ext ?_)
  match a with
  | ⟨0, _⟩ => show _ = win0_4.index t 0 * 1024 + 1 * (y 0).val; rw [hi]; show t.val * 1024 + _ = t.val * 1024 + 1 * _; rw [one_mul]
  | ⟨1, _⟩ => show _ = win0_4.index t 1 * 2048 + 1 * (y 1).val; rw [hi]; show (y 1).val = 0 * 2048 + 1 * (y 1).val; rw [Nat.zero_mul, Nat.zero_add, Nat.one_mul]

theorem zero6 : k0_pay6 (F := Ideal) = fun _ => (0 : EReal) := by
  funext j
  pointwise [k0_pay6]

theorem zero7 : k0_pay7 (F := Ideal) = fun _ => (0 : EReal) := by
  funext j
  pointwise [k0_pay7]

theorem final_key (c : Dev nD) : (dats m 0 c).arrAt 5 (cfgs 0).N
    = fun j => keyAt (n := 4096) (m ((c : Thread nD τ).loc main_arg0)) (m ((c : Thread nD τ).loc main_arg1))
      (m ((c : Thread nD τ).loc main_arg2)) (m ((c : Thread nD τ).loc main_arg3)) (headOf (j 1)) (j 0) (placeOf (j 1)) := by
  refine (dats m 0 c).arrAt_eq_of_after_last 5 t0_3 (by decide +kernel) _ fun j => ?_
  blk_simp
  rw [after0_5]
  refine (Sums.carried 4 4 le_rfl (fun n hn => (outsAt0 m c n hn).2.1)
    (fun n hn j => keyAt (rows ⟨n, hn⟩ (m ((c : Thread nD τ).loc main_arg0))) (m ((c : Thread nD τ).loc main_arg1))
      (m ((c : Thread nD τ).loc main_arg2)) (rows ⟨n, hn⟩ (m ((c : Thread nD τ).loc main_arg3))) (headOf (j 1)) (j 0) (placeOf (j 1)))
    (fun n hn A hz hp => ?_) 3 (by decide) _).trans ?_
  · refine (step_key m c ⟨n, hn⟩ A (fun h => (hz h).trans zero6.symm) hp).trans ?_
    rw [block0, block1, block2, block3]
    rfl
  · unfold keyAt
    exact Fin.sum_mul_add_congr fun s a hl => rfl

theorem final_value (c : Dev nD) : (dats m 0 c).arrAt 6 (cfgs 0).N
    = fun j => valueAt (n := 4096) (m ((c : Thread nD τ).loc main_arg0)) (m ((c : Thread nD τ).loc main_arg1))
      (m ((c : Thread nD τ).loc main_arg3)) (headOf (j 1)) (j 0) (placeOf (j 1)) := by
  refine (dats m 0 c).arrAt_eq_of_after_last 6 t0_3 (by decide +kernel) _ fun j => ?_
  blk_simp
  rw [after0_6]
  refine (Sums.carried 4 4 le_rfl (fun n hn => (outsAt0 m c n hn).2.2)
    (fun n hn j => valueAt (rows ⟨n, hn⟩ (m ((c : Thread nD τ).loc main_arg0))) (m ((c : Thread nD τ).loc main_arg1))
      (rows ⟨n, hn⟩ (m ((c : Thread nD τ).loc main_arg3))) (headOf (j 1)) (j 0) (placeOf (j 1)))
    (fun n hn A hz hp => ?_) 3 (by decide) _).trans ?_
  · refine (step_value m c ⟨n, hn⟩ A (fun h => (hz h).trans zero7.symm) hp).trans ?_
    rw [block0, block1, block3]
    rfl
  · unfold valueAt
    exact Fin.sum_mul_add_congr fun s a hl => rfl

end Cert.Kernel3Ideal.Hand

end
-- ==== Proof.AttnGrad.lean ====
module

public import proofs.«01_k».proof.Proof.NormGrad

/-! The softmax's gradient: the two ways to write it agree on positive weights. -/

@[expose] public section

noncomputable section

open Idealize.ShloMosaic

namespace Cert.Softmax

variable {n : Nat}

/-- A positive number goes through a sum, whatever the summands. -/
theorem mul_sum_of_pos (r : ℝ) (hr : 0 < r) (f : Fin n → EReal) (s : Finset (Fin n)) : (r : EReal) * ∑ i ∈ s, f i = ∑ i ∈ s, (r : EReal) * f i := by
  induction s using Finset.cons_induction with
  | empty => simp
  | cons a s h ih => rw [Finset.sum_cons, Finset.sum_cons, EReal.left_distrib_of_nonneg_of_ne_top (EReal.coe_nonneg.mpr hr.le) (EReal.coe_ne_top r), ih]

theorem grad_eq (e : Fin n → ℝ) (S : ℝ) (hS : 0 < S) (w : Fin n → EReal) (x : Fin n) (t : EReal) :
    (Ideal.div (w x) S + -(∑ y : Fin n, w y * Ideal.div 1 ((S : EReal) * S) * e y)) * e x * t
      = Ideal.div (e x) S * (w x - ∑ y : Fin n, w y * Ideal.div (e y) S) * t := by
  have hS' : S ≠ 0 := hS.ne'
  have d1 : ∀ z : EReal, Ideal.div z S = z * ((S⁻¹ : ℝ) : EReal) := fun z => by
    unfold Ideal.div
    rw [if_neg (by exact_mod_cast hS'), EReal.coe_inv]
  have d2 : Ideal.div 1 ((S : EReal) * S) = ((S⁻¹ * S⁻¹ : ℝ) : EReal) := by
    rw [← EReal.coe_mul]
    unfold Ideal.div
    rw [if_neg (by exact_mod_cast (mul_ne_zero hS' hS')), one_mul, ← EReal.coe_inv, mul_inv]
  simp only [d1, d2]
  have hr : 0 < S⁻¹ := inv_pos.mpr hS
  generalize S⁻¹ = r at hr ⊢
  have hs : ∑ y : Fin n, w y * ((r * r : ℝ) : EReal) * e y = r * ∑ y : Fin n, w y * (e y * r) := by
    rw [mul_sum_of_pos r hr]
    refine Finset.sum_congr rfl fun y _ => ?_
    rw [EReal.coe_mul]
    ac_rfl
  have hn : ∀ T : EReal, -((r : EReal) * T) = r * -T := fun T => by rw [mul_comm, ← EReal.neg_mul, mul_comm]
  rw [hs, hn, mul_comm (w x) (r : EReal), ← EReal.left_distrib_of_nonneg_of_ne_top (EReal.coe_nonneg.mpr hr.le) (EReal.coe_ne_top r), ← sub_eq_add_neg]
  ac_rfl

/-- The largest of finitely many numbers is one. -/
theorem fold_max_real (f : Fin (n + 1) → ℝ) : ∃ M : ℝ, Finset.fold max (⊥ : EReal) (fun i => (f i : EReal)) Finset.univ = M := by
  have hl : Finset.fold max (⊥ : EReal) (fun i => (f i : EReal)) Finset.univ < ⊤ :=
    (Finset.fold_max_lt _).mpr ⟨bot_lt_top, fun i _ => EReal.coe_lt_top _⟩
  have hg : (f 0 : EReal) ≤ Finset.fold max (⊥ : EReal) (fun i => (f i : EReal)) Finset.univ :=
    (Finset.le_fold_max _).mpr (Or.inr ⟨0, Finset.mem_univ _, le_rfl⟩)
  generalize Finset.fold max (⊥ : EReal) (fun i => (f i : EReal)) Finset.univ = M at hl hg
  induction M with
  | bot => exact absurd hg (not_le.mpr (EReal.bot_lt_coe _))
  | top => exact absurd hl (lt_irrefl _)
  | coe M => exact ⟨M, rfl⟩

theorem ofBits_bot : Ideal.ofBits .f32 0xFF800000#32 = ⊥ := by simp [Ideal.ofBits, Ideal.ieee]

/-- The weights before the division, and their sum, are positive. -/
theorem exp_real (f : Fin (n + 1) → ℝ) : ∃ (e : Fin (n + 1) → ℝ) (S : ℝ), 0 < S
    ∧ (∀ x, Ideal.exp ((f x : EReal) - Finset.fold max (Ideal.ofBits .f32 0xFF800000#32) (fun i => (f i : EReal)) Finset.univ) = e x)
    ∧ ∑ x, Ideal.exp ((f x : EReal) - Finset.fold max (Ideal.ofBits .f32 0xFF800000#32) (fun i => (f i : EReal)) Finset.univ) = S := by
  obtain ⟨M, hM⟩ := fold_max_real f
  rw [ofBits_bot, hM]
  have he : ∀ x, Ideal.exp ((f x : EReal) - (M : EReal)) = ((Real.exp (f x - M) : ℝ) : EReal) := fun x => by
    rw [← EReal.coe_sub]
    rfl
  refine ⟨fun x => Real.exp (f x - M), ∑ x, Real.exp (f x - M), Finset.sum_pos (fun x _ => Real.exp_pos _) Finset.univ_nonempty, he, ?_⟩
  simp only [he]
  exact (map_sum (⟨⟨((↑) : ℝ → EReal), rfl⟩, EReal.coe_add⟩ : ℝ →+ EReal) _ Finset.univ).symm

end Cert.Softmax

end
-- ==== Proof.AttnRef.lean ====
module

public import proofs.«01_k».proof.Proof.AttnFinal
public import proofs.«01_k».proof.Proof.AttnGrad
public import proofs.«01_k».proof.Proof.Gen.Reference3Ideal.Run

/-! The attention's reference gradients, read at an index. -/

@[expose] public section

set_option maxRecDepth 16384

noncomputable section

open Idealize.ShloMosaic Idealize.ShloMosaic.TcCoe Idealize.SL.Sem

namespace Cert.Reference3Ideal.Hand

open Cert.Reference3Ideal Cert.Reference3Ideal.Value Cert.Reference3Ideal.Gen
open Cert.Kernel3Ideal.Hand (score weight weightCot scoreCot lane head queryAt keyAt valueAt headOf placeOf)

variable (Q D : FVec Ideal S4096x2048 .bf16) (K V : FVec Ideal S256x2048 .bf16)

/-- The arguments by head. -/
def rowHeads : FVec Ideal S4096x4x512 .f32 := shapeCast _ (extf .f32 Q bitsLt_bf16_f32) shapeCasts_S4096x2048_S4096x4x512
def memHeads : FVec Ideal S256x4x512 .f32 := shapeCast _ (extf .f32 K bitsLt_bf16_f32) shapeCasts_S256x2048_S256x4x512

/-- The scaled scores. -/
def scores : FVec Ideal S4x4096x256 .f32 :=
  mulf (Host.dotGeneral dot_S4096x4x512_S256x4x512_S4x4096x256_2_2_0_0_1_1 none (rowHeads Q) (memHeads K)) (broadcastInDim S4x4096x256 ![] bcast_S_S4x4096x256 (constant S_ .f32 0x3D3504F3#32))

/-- Each row's largest entry. -/
def maxOf (X : FVec Ideal S4x4096x256 .f32) : FVec Ideal S4x4096 .f32 :=
  maximumf (broadcastInDim S4x4096 ![] bcast_S_S4x4096 (constant S_ .f32 0xFF800000#32)) (Host.reduce FloatOps.maximumf X (constant S_ .f32 0xFF800000#32) reducesTo_S4x4096x256_S4x4096_d2 h_S_)

/-- The weights before the division, and their sums. -/
def exps : FVec Ideal S4x4096x256 .f32 :=
  Host.exp (subf (scores Q K) (broadcastInDim S4x4096x256 ![0, 1, 2] bcast_S4x4096x1_S4x4096x256_0_1_2 (broadcastInDim S4x4096x1 ![0, 1] bcast_S4x4096_S4x4096x1_0_1 (maxOf (scores Q K)))))
def sums : FVec Ideal S4x4096 .f32 := Host.reduceAdd (exps Q K) (constant S_ .f32 0x00000000#32) reducesTo_S4x4096x256_S4x4096_d2 h_S_

/-- The weights' cotangents. -/
def cots : FVec Ideal S4x4096x256 .f32 :=
  Host.dotGeneral dot_S4x512x4096_S256x4x512_S4x4096x256_1_2_2_0_0_1 none (transpose S4x512x4096 [1, 2, 0] (rowHeads D) transposes_S4096x4x512_S4x512x4096_1_2_0) (memHeads V)

/-- The scores' cotangents. -/
def scoreCots : FVec Ideal S4x4096x256 .f32 :=
  mulf (mulf (addf (Host.divf (cots D V) (broadcastInDim S4x4096x256 ![0, 1, 2] bcast_S4x4096x1_S4x4096x256_0_1_2 (broadcastInDim S4x4096x1 ![0, 1] bcast_S4x4096_S4x4096x1_0_1 (sums Q K)))) (broadcastInDim S4x4096x256 ![0, 1] bcast_S4x4096_S4x4096x256_0_1 (Host.reduceAdd (Host.negf (shapeCast _ (Host.reduceAdd (mulf (mulf (cots D V) (broadcastInDim S4x4096x256 ![0, 1, 2] bcast_S4x4096x1_S4x4096x256_0_1_2 (Host.divf (broadcastInDim S4x4096x1 ![] bcast_S_S4x4096x1 (constant S_ .f32 0x3F800000#32)) (mulf (broadcastInDim S4x4096x1 ![0, 1] bcast_S4x4096_S4x4096x1_0_1 (sums Q K)) (broadcastInDim S4x4096x1 ![0, 1] bcast_S4x4096_S4x4096x1_0_1 (sums Q K)))))) (exps Q K)) (constant S_ .f32 0x00000000#32) reducesTo_S4x4096x256_S4x4096_d2 h_S_) shapeCasts_S4x4096_S4x4096x1)) (constant S_ .f32 0x00000000#32) reducesTo_S4x4096x1_S4x4096_d2 h_S_))) (exps Q K)) (broadcastInDim S4x4096x256 ![] bcast_S_S4x4096x256 (constant S_ .f32 0x3D3504F3#32))

theorem row_at (s : Fin 4096) (h : Fin 4) (d : Fin 512) : rowHeads Q (ix3 s h d) = head Q h s d := by
  pointwise [rowHeads, head, lane]

theorem mem_at (s : Fin 256) (h : Fin 4) (d : Fin 512) : memHeads K (ix3 s h d) = head K h s d := by
  pointwise [memHeads, head, lane]

theorem scores_at (h : Fin 4) (s : Fin 4096) (x : Fin 256) : scores Q K (ix3 h s x) = score (head Q h s) (head K h) x := by
  pointwise [scores, score, row_at, mem_at]

/-- A weight before the division, and their sum, at one query row of one head. -/
def expAt (q : Fin 512 → EReal) (K : Fin 256 → Fin 512 → EReal) (x : Fin 256) : EReal :=
  Ideal.exp (score q K x - Finset.fold max (Ideal.ofBits .f32 0xFF800000#32) (score q K) Finset.univ)

theorem max_at (X : FVec Ideal S4x4096x256 .f32) (h : Fin 4) (s : Fin 4096) :
    Host.reduce (FloatOps.maximumf (F := Ideal) (φ := .f32)) X (constant S_ .f32 0xFF800000#32) reducesTo_S4x4096x256_S4x4096_d2 h_S_ (ix2 h s)
    = Finset.fold max (Ideal.ofBits .f32 0xFF800000#32) (fun x => X (ix3 h s x)) Finset.univ := by
  pointwise []

theorem least_at (h : Fin 4) (s : Fin 4096) :
    broadcastInDim S4x4096 ![] bcast_S_S4x4096 (constant (F := Ideal) S_ .f32 0xFF800000#32) (ix2 h s) = Ideal.ofBits .f32 0xFF800000#32 := by
  pointwise []

theorem maximum_at (A B : FVec Ideal S4x4096 .f32) (j : S4x4096.Idx) : maximumf A B j = max (A j) (B j) := rfl

theorem maxOf_at (X : FVec Ideal S4x4096x256 .f32) (h : Fin 4) (s : Fin 4096) : maxOf X (ix2 h s)
    = max (Ideal.ofBits .f32 0xFF800000#32) (Finset.fold max (Ideal.ofBits .f32 0xFF800000#32) (fun x => X (ix3 h s x)) Finset.univ) := by
  unfold maxOf
  rw [maximum_at, least_at, max_at]

theorem max_fold {n : Nat} (b : EReal) (f g : Fin n → EReal) (e : ∀ x, f x = g x) :
    max b (Finset.fold max b f Finset.univ) = Finset.fold max b g Finset.univ := by
  rw [funext e]
  exact max_eq_right ((Finset.le_fold_max _).mpr (Or.inl le_rfl))

theorem maxes_at (h : Fin 4) (s : Fin 4096) : maxOf (scores Q K) (ix2 h s)
    = Finset.fold max (Ideal.ofBits .f32 0xFF800000#32) (score (head Q h s) (head K h)) Finset.univ :=
  (maxOf_at (scores Q K) h s).trans (max_fold _ _ _ fun x => scores_at Q K h s x)

theorem exps_at (h : Fin 4) (s : Fin 4096) (x : Fin 256) : exps Q K (ix3 h s x) = expAt (head Q h s) (head K h) x := by
  pointwise [exps, expAt, scores_at, maxes_at]

theorem sums_at (h : Fin 4) (s : Fin 4096) : sums Q K (ix2 h s) = ∑ y : Fin 256, expAt (head Q h s) (head K h) y := by
  pointwise [sums, exps_at]

theorem cots_at (h : Fin 4) (s : Fin 4096) (x : Fin 256) : cots D V (ix3 h s x) = weightCot (head D h s) (head V h) x := by
  pointwise [cots, weightCot, row_at, mem_at]

theorem scoreCots_at (h : Fin 4) (s : Fin 4096) (x : Fin 256) : scoreCots Q D K V (ix3 h s x) =
    (Ideal.div (weightCot (head D h s) (head V h) x) (∑ y : Fin 256, expAt (head Q h s) (head K h) y)
      + -(∑ y : Fin 256, weightCot (head D h s) (head V h) y
        * Ideal.div 1 ((∑ y : Fin 256, expAt (head Q h s) (head K h) y) * ∑ y : Fin 256, expAt (head Q h s) (head K h) y)
        * expAt (head Q h s) (head K h) y)) * expAt (head Q h s) (head K h) x * Ideal.ofBits .f32 0x3D3504F3#32 := by
  pointwise [scoreCots, cots_at, sums_at, exps_at]
  refine congrArg (fun z : EReal => (Ideal.div (weightCot (head D h s) (head V h) x) (∑ y : Fin 256, expAt (head Q h s) (head K h) y) + z)
    * expAt (head Q h s) (head K h) x * Ideal.ofBits .f32 0x3D3504F3#32) ?_
  exact (Finset.sum_congr (Finset.univ_unique (α := Fin 1)) fun _ _ => rfl).trans (Finset.sum_singleton _ _)

/-- The softmax itself. -/
def weights : FVec Ideal S4x4096x256 .f32 :=
  Host.divf (exps Q K) (broadcastInDim S4x4096x256 ![0, 1, 2] bcast_S4x4096x1_S4x4096x256_0_1_2 (broadcastInDim S4x4096x1 ![0, 1] bcast_S4x4096_S4x4096x1_0_1 (sums Q K)))

theorem weights_at (h : Fin 4) (s : Fin 4096) (x : Fin 256) : weights Q K (ix3 h s x) = weight (head Q h s) (head K h) x := by
  refine Eq.trans (b := Ideal.div (expAt (head Q h s) (head K h) x) (∑ y : Fin 256, expAt (head Q h s) (head K h) y)) ?_ rfl
  pointwise [weights, sums_at, exps_at]

theorem score_real (q : Fin 512 → EReal) (k : Fin 256 → Fin 512 → EReal) (hq : ∀ d, ∃ r : ℝ, q d = r) (hk : ∀ x d, ∃ r : ℝ, k x d = r) :
    ∃ f : Fin 256 → ℝ, score q k = fun x => (f x : EReal) := by
  choose a ha using hq
  choose b hb using hk
  have hc : ∃ r : ℝ, Ideal.ofBits .f32 0x3D3504F3#32 = r := by
    refine ⟨11863283 / 268435456, ?_⟩
    simp [Ideal.ofBits, Ideal.ieee, -EReal.coe_mul]
    norm_num
  obtain ⟨r, hr⟩ := hc
  refine ⟨fun x => (∑ d, a d * b x d) * r, funext fun x => ?_⟩
  unfold score
  simp only [ha, hb, hr, ← EReal.coe_mul]
  exact congrArg (· * (r : EReal)) (map_sum (⟨⟨((↑) : ℝ → EReal), rfl⟩, EReal.coe_add⟩ : ℝ →+ EReal) _ Finset.univ).symm

theorem cot_eq (q o : Fin 512 → EReal) (k v : Fin 256 → Fin 512 → EReal) (hq : ∀ d, ∃ r : ℝ, q d = r) (hk : ∀ x d, ∃ r : ℝ, k x d = r) (x : Fin 256) :
    (Ideal.div (weightCot o v x) (∑ y : Fin 256, expAt q k y)
      + -(∑ y : Fin 256, weightCot o v y * Ideal.div 1 ((∑ y : Fin 256, expAt q k y) * ∑ y : Fin 256, expAt q k y) * expAt q k y))
        * expAt q k x * Ideal.ofBits .f32 0x3D3504F3#32 = scoreCot q o k v x := by
  obtain ⟨f, hf⟩ := score_real q k hq hk
  obtain ⟨e, S, hS, he, hs⟩ := Softmax.exp_real f
  have h1 : ∀ y, expAt q k y = e y := fun y => by
    unfold expAt
    rw [hf]
    exact he y
  have h2 : ∑ y : Fin 256, expAt q k y = S := by
    unfold expAt
    rw [hf]
    exact hs
  have h3 : ∀ y, weight q k y = Ideal.div (e y) S := fun y => by
    rw [← h1, ← h2]
    rfl
  unfold scoreCot
  simp only [h1, h3]
  rw [show ∑ y : Fin 256, (e y : EReal) = S from (Finset.sum_congr rfl fun y _ => (h1 y).symm).trans h2]
  exact Softmax.grad_eq e S hS _ x _

section Results

variable (hq : ∀ j, ∃ r : ℝ, Q j = r) (hk : ∀ j, ∃ r : ℝ, K j = r)

include hq hk

theorem scoreCots_eq (h : Fin 4) (s : Fin 4096) (x : Fin 256) : scoreCots Q D K V (ix3 h s x) =
    scoreCot (head Q h s) (head D h s) (head K h) (head V h) x :=
  (scoreCots_at Q D K V h s x).trans (cot_eq _ _ _ _ (fun _ => hq _) (fun _ _ => hk _) x)

theorem query_at (s : Fin 4096) (l : Fin 2048) :
    truncf .bf16 (shapeCast S4096x2048 (transpose S4096x4x512 [1, 0, 2] (Host.dotGeneral dot_S4x4096x256_S256x4x512_S4x4096x512_2_0_1_2_0_1 none (scoreCots Q D K V) (memHeads K)) transposes_S4x4096x512_S4096x4x512_1_0_2) shapeCasts_S4096x4x512_S4096x2048) bitsLt_bf16_f32 (ix2 s l)
      = queryAt Q K V D (headOf l) s (placeOf l) := by
  pointwise [mem_at, scoreCots_eq Q D K V hq hk]
  rfl

theorem key_at (y : Fin 256) (l : Fin 2048) :
    shapeCast S256x2048 (transpose S256x4x512 [1, 0, 2] (Host.dotGeneral dot_S4x4096x256_S4096x4x512_S4x256x512_1_0_2_2_0_1 none (scoreCots Q D K V) (rowHeads Q)) transposes_S4x256x512_S256x4x512_1_0_2) shapeCasts_S256x4x512_S256x2048 (ix2 y l)
      = keyAt Q K V D (headOf l) y (placeOf l) := by
  pointwise [row_at, scoreCots_eq Q D K V hq hk]
  rfl

omit hq hk in
theorem value_at (y : Fin 256) (l : Fin 2048) :
    shapeCast S256x2048 (transpose S256x4x512 [2, 0, 1] (Host.dotGeneral dot_S4x512x4096_S4x4096x256_S4x512x256_2_1_1_2_0_0 none (transpose S4x512x4096 [1, 2, 0] (rowHeads D) transposes_S4096x4x512_S4x512x4096_1_2_0) (weights Q K)) transposes_S4x512x256_S256x4x512_2_0_1) shapeCasts_S256x4x512_S256x2048 (ix2 y l)
      = valueAt Q K D (headOf l) y (placeOf l) := by
  pointwise [row_at, weights_at]
  exact Fin.sum_fin_congr fun a => mul_comm _ _

end Results

end Cert.Reference3Ideal.Hand

end
-- ==== Proof.Attn.lean ====
module

public import proofs.«01_k».proof.Proof.AttnRef
public import proofs.«01_k».proof.Proof.Finite
public import proofs.«01_k».proof.Defs

/-! The attention's backward call: its results are the reference's gradients. -/

@[expose] public section

set_option maxRecDepth 16384

noncomputable section

open Idealize.ShloMosaic Idealize.ShloMosaic.TcCoe Idealize.SL.Sem

namespace Cert.Reference3Ideal.Hand

open Cert.Reference3Ideal Cert.Reference3Ideal.Value Cert.Reference3Ideal.Gen
open Cert.Kernel3Ideal.Hand (queryAt keyAt valueAt headOf placeOf)

/-- What the reference leaves in its results. -/
theorem run_final (m : (ℓ : Loc nD τ sig) → Buf (Elt Ideal) ℓ) (ρ : Dev nD → PrngReg)
    (hq : ∀ (c : Dev nD) (j : S4096x2048.Idx), ∃ r : ℝ, (m ((c.tc : Thread nD τ).loc main_arg0) : FVec Ideal S4096x2048 .bf16) j = (r : EReal))
    (hk : ∀ (c : Dev nD) (j : S256x2048.Idx), ∃ r : ℝ, (m ((c.tc : Thread nD τ).loc main_arg1) : FVec Ideal S256x2048 .bf16) j = (r : EReal)) :
    θ_run defs (onTc (τ := τ) (main (F := Ideal))) ⟨m, fun _ => 0, ρ⟩ fun r => ∀ c : Dev nD,
      (r.2.mem ((c.tc : Thread nD τ).loc main_v67) : FVec Ideal S4096x2048 .bf16) = (fun j => queryAt (n := 4096)
        (m ((c.tc : Thread nD τ).loc main_arg0)) (m ((c.tc : Thread nD τ).loc main_arg1)) (m ((c.tc : Thread nD τ).loc main_arg2)) (m ((c.tc : Thread nD τ).loc main_arg3)) (headOf (j 1)) (j 0) (placeOf (j 1)))
      ∧ (r.2.mem ((c.tc : Thread nD τ).loc main_v65) : FVec Ideal S256x2048 .f32) = (fun j => keyAt (n := 4096)
        (m ((c.tc : Thread nD τ).loc main_arg0)) (m ((c.tc : Thread nD τ).loc main_arg1)) (m ((c.tc : Thread nD τ).loc main_arg2)) (m ((c.tc : Thread nD τ).loc main_arg3)) (headOf (j 1)) (j 0) (placeOf (j 1)))
      ∧ (r.2.mem ((c.tc : Thread nD τ).loc main_v64) : FVec Ideal S256x2048 .f32) = (fun j => valueAt (n := 4096)
        (m ((c.tc : Thread nD τ).loc main_arg0)) (m ((c.tc : Thread nD τ).loc main_arg1)) (m ((c.tc : Thread nD τ).loc main_arg3)) (headOf (j 1)) (j 0) (placeOf (j 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ?_) (Cert.Reference3Ideal.Value.run m ρ)
  obtain ⟨h0, h1, h2, h3⟩ := h c
  refine ⟨h0.trans (funext fun j => ?_), h1.trans (funext fun j => ?_), h2.trans (funext fun j => ?_), h3⟩
  · rw [eq_ix2 j]
    exact query_at _ _ _ _ (hq c) (hk c) (j 0) (j 1)
  · rw [eq_ix2 j]
    exact key_at _ _ _ _ (hq c) (hk c) (j 0) (j 1)
  · rw [eq_ix2 j]
    exact value_at _ _ _ (j 0) (j 1)

end Cert.Reference3Ideal.Hand

namespace Cert.Proof

theorem algebraic3 [hP : Cert.Pre_attention_finite.Facts] : Cert.algebraic_Kernel3Ideal_Reference3Ideal_pre_attention_finite := by
  pair_intro
  · exact Cert.Kernel3Ideal.Value.run_blocks m g
  · have hq : ∀ (c : Dev Cert.Reference3Ideal.nD) (j : Cert.Reference3Ideal.S4096x2048.Idx), ∃ r : ℝ, (m' ((c.tc : Thread _ _).loc Cert.Reference3Ideal.main_arg0) : FVec Ideal Cert.Reference3Ideal.S4096x2048 .bf16) j = (r : EReal) := fun c j => by
      rw [(hagree c).1]
      exact Cert.Finite.real_of_test _ (congrFun (hpre c).1 j)
    have hk : ∀ (c : Dev Cert.Reference3Ideal.nD) (j : Cert.Reference3Ideal.S256x2048.Idx), ∃ r : ℝ, (m' ((c.tc : Thread _ _).loc Cert.Reference3Ideal.main_arg1) : FVec Ideal Cert.Reference3Ideal.S256x2048 .bf16) j = (r : EReal) := fun c j => by
      rw [(hagree c).2.1]
      exact Cert.Finite.real_of_test _ (congrFun (hpre c).2 j)
    refine (θ_run _ _ _).mono (fun r h c => ?_) (Cert.Reference3Ideal.Hand.run_final m' g' hq hk)
    obtain ⟨h0, h1, h2, h3⟩ := h c
    obtain ⟨e0, e1, e2, e3⟩ := hagree c
    rw [e0, e1, e2, e3] at h0 h1
    rw [e0, e1, e3] at h2
    exact ⟨h0.trans (Cert.Kernel3Ideal.Hand.final_query m c).symm, h1.trans (Cert.Kernel3Ideal.Hand.final_key m c).symm, h2.trans (Cert.Kernel3Ideal.Hand.final_value m c).symm, h3⟩

end Cert.Proof
-- ==== Proof.RowNorm.lean ====
module

public import proofs.«01_k».proof.Proof.NormGrad
public import proofs.«01_k».proof.Proof.Sums
public import Idealize.ShloMosaic.Lib.Pipeline.ValueKit

/-! The gradient of a norm over rows of 2048 entries, row by row. -/

@[expose] public section

noncomputable section

open Idealize.ShloMosaic

namespace Cert.RowNorm

variable {n : Nat}

/-- The mean of a row's squares, with the small constant. -/
def meanSq (X : (⟨2, ![n, 2048]⟩ : Shape).Idx → EReal) (a : Fin n) : EReal :=
  Ideal.div (∑ l : Fin 2048, X (ix2 a l) * X (ix2 a l)) (Ideal.ofBits .f32 0x45000000#32) + Ideal.ofBits .f32 0x358637BD#32

/-- The input's gradient: what flows around the norm, and what flows through it. -/
def inputAt (D X R : (⟨2, ![n, 2048]⟩ : Shape).Idx → EReal) (G : (⟨2, ![1, 2048]⟩ : Shape).Idx → EReal) (a : Fin n) (l : Fin 2048) : EReal :=
  R (ix2 a l) + Ideal.rsqrt (meanSq X a) * (D (ix2 a l) * G (ix2 (0 : Fin 1) l)
    - X (ix2 a l) * Ideal.rsqrt (meanSq X a)
      * Ideal.div (∑ k : Fin 2048, D (ix2 a k) * G (ix2 (0 : Fin 1) k) * (X (ix2 a k) * Ideal.rsqrt (meanSq X a))) (Ideal.ofBits .f32 0x45000000#32))

/-- A row's part of the gain's gradient. -/
def gainRow (D X : (⟨2, ![n, 2048]⟩ : Shape).Idx → EReal) (a : Fin n) (l : Fin 2048) : EReal :=
  D (ix2 a l) * (X (ix2 a l) * Ideal.rsqrt (meanSq X a))

def gainAt (D X : (⟨2, ![n, 2048]⟩ : Shape).Idx → EReal) (l : Fin 2048) : EReal := ∑ a : Fin n, gainRow D X a l

/-- The factor of the row in the derivative of the mean. -/
def pull (D X : (⟨2, ![n, 2048]⟩ : Shape).Idx → EReal) (G : (⟨2, ![1, 2048]⟩ : Shape).Idx → EReal) (a : Fin n) : EReal :=
  Ideal.div ((∑ k : Fin 2048, X (ix2 a k) * (D (ix2 a k) * G (ix2 (0 : Fin 1) k))) * (Ideal.ofBits .f32 0xBF000000#32
    * Ideal.div (Ideal.rsqrt (meanSq X a)) (meanSq X a))) (Ideal.ofBits .f32 0x45000000#32)

/-- The derivative's own form of the input's gradient. -/
theorem input_eq (D X R : (⟨2, ![n, 2048]⟩ : Shape).Idx → EReal) (G : (⟨2, ![1, 2048]⟩ : Shape).Idx → EReal) (a : Fin n) (l : Fin 2048) :
    R (ix2 a l) + D (ix2 a l) * G (ix2 (0 : Fin 1) l) * Ideal.rsqrt (meanSq X a) + X (ix2 a l) * pull D X G a + pull D X G a * X (ix2 a l)
      = inputAt D X R G a l := by
  have hq : meanSq X a = Ideal.div (∑ x : Fin 2048, X (ix2 a x) * X (ix2 a x)) ((2048 : ℝ) : EReal) + (((8796093 : ℝ) * 2 ^ (-43 : ℤ) : ℝ) : EReal) := by
    rw [meanSq, Norm.ofBits_2048, Norm.ofBits_eps]
  have hg := Norm.grad_eq (n := 2048) (fun x => X (ix2 a x)) (fun x => D (ix2 a x) * G (ix2 (0 : Fin 1) x))
    (N := 2048) (by norm_num) (by positivity) (meanSq X a) (Ideal.rsqrt (meanSq X a)) hq rfl l
  unfold inputAt pull
  rw [Norm.ofBits_2048, Norm.ofBits_neg_half, hg, add_assoc, add_assoc, ← add_assoc (D _ * _ * _)]

/-- Sums of rows that are first taken in eights within `T` blocks of `8 Q` rows. -/
theorem sum_eighths (T Q : Nat) (f : Fin (T * (Q * 8)) → EReal) (h : Fin 8 → Fin T → EReal)
    (hb : ∀ (t : Fin T) (q : Fin Q) (r : Fin 8), t.val * (Q * 8) + (q.val * 8 + r.val) < T * (Q * 8))
    (hh : ∀ (r : Fin 8) (t : Fin T), h r t = ∑ q : Fin Q, f ⟨t.val * (Q * 8) + (q.val * 8 + r.val), hb t q r⟩) :
    ∑ r : Fin 8, ∑ t : Fin T, h r t = ∑ s, f s := by
  rw [Finset.sum_comm]
  have hb' : ∀ (t : Fin T) (a : Fin (Q * 8)), t.val * (Q * 8) + a.val < T * (Q * 8) := fun t a => by
    have := hb t ⟨a.val / 8, by have := a.isLt; omega⟩ ⟨a.val % 8, Nat.mod_lt _ (by decide)⟩
    have e : a.val / 8 * 8 + a.val % 8 = a.val := by omega
    simpa only [e] using this
  have e : ∀ t : Fin T, ∑ r : Fin 8, h r t = ∑ a : Fin (Q * 8), f ⟨t.val * (Q * 8) + a.val, hb' t a⟩ := fun t => by
    simp only [hh]
    rw [Finset.sum_comm]
    exact Fin.sum_mul_add_congr fun s k hl => rfl
  simp only [e]
  exact Fin.sum_mul_add_congr fun s k hl => rfl

end Cert.RowNorm

end
-- ==== Proof.RowSlab.lean ====
module

public import proofs.«01_k».proof.Proof.RowNorm

/-! The same over runs of 128 rows. -/

@[expose] public section

noncomputable section

open Idealize.ShloMosaic

namespace Cert.RowNorm

variable {n : Nat}

/-- 128 rows of an array. -/
def slab (o : Nat) (h : o + 128 ≤ n) (X : (⟨2, ![n, 2048]⟩ : Shape).Idx → EReal) : (⟨2, ![128, 2048]⟩ : Shape).Idx → EReal := fun j =>
  X (ix2 (⟨o + (j 0).val, by have h' : (j 0).val < 128 := (j 0).isLt; omega⟩ : Fin n) (j 1 : Fin 2048))

theorem slab_input (o : Nat) (h : o + 128 ≤ n) (D X R : (⟨2, ![n, 2048]⟩ : Shape).Idx → EReal) (G : (⟨2, ![1, 2048]⟩ : Shape).Idx → EReal)
    (a : Fin 128) (l : Fin 2048) (s : Fin n) (k : Fin 2048) (hs : s.val = o + a.val) (hk : k.val = l.val) :
    inputAt (slab o h D) (slab o h X) (slab o h R) G a l = inputAt D X R G s k := by
  have e : s = ⟨o + a.val, by have := a.isLt; omega⟩ := Fin.ext hs
  rw [e, Fin.ext hk]
  rfl

/-- What two runs of 128 rows and four of them add to the gain's eight partial sums. -/
theorem two_slabs (f : Fin 256 → EReal) (r : Fin 8) :
    (∑ q : Fin 16, f ⟨0 + (q.val * 8 + r.val), by omega⟩) + (∑ q : Fin 16, f ⟨128 + (q.val * 8 + r.val), by omega⟩)
      = ∑ q : Fin 32, f ⟨q.val * 8 + r.val, by omega⟩ := by
  rw [Fin.sum_univ_add (a := 16) (b := 16)]
  refine congrArg₂ (· + ·) (Finset.sum_congr rfl fun q _ => congrArg f (Fin.ext ?_)) (Finset.sum_congr rfl fun q _ => congrArg f (Fin.ext ?_))
  · show 0 + (q.val * 8 + r.val) = q.val * 8 + r.val
    omega
  · show 128 + (q.val * 8 + r.val) = (16 + q.val) * 8 + r.val
    omega

theorem four_slabs (f : Fin 512 → EReal) (r : Fin 8) :
    (∑ q : Fin 16, f ⟨0 + (q.val * 8 + r.val), by omega⟩) + (∑ q : Fin 16, f ⟨128 + (q.val * 8 + r.val), by omega⟩)
      + (∑ q : Fin 16, f ⟨256 + (q.val * 8 + r.val), by omega⟩) + (∑ q : Fin 16, f ⟨384 + (q.val * 8 + r.val), by omega⟩)
      = ∑ q : Fin 64, f ⟨q.val * 8 + r.val, by omega⟩ := by
  rw [Fin.sum_univ_add (a := 48) (b := 16), Fin.sum_univ_add (a := 32) (b := 16), Fin.sum_univ_add (a := 16) (b := 16)]
  refine congrArg₂ (· + ·) (congrArg₂ (· + ·) (congrArg₂ (· + ·) ?_ ?_) ?_) ?_ <;>
    refine Finset.sum_congr rfl fun q _ => congrArg f (Fin.ext ?_)
  · show 0 + (q.val * 8 + r.val) = q.val * 8 + r.val
    omega
  · show 128 + (q.val * 8 + r.val) = (16 + q.val) * 8 + r.val
    omega
  · show 256 + (q.val * 8 + r.val) = (32 + q.val) * 8 + r.val
    omega
  · show 384 + (q.val * 8 + r.val) = (48 + q.val) * 8 + r.val
    omega

end Cert.RowNorm

end
-- ==== Proof.Residual.lean ====
module

public import proofs.«01_k».proof.Proof.RowSlab

/-! The squared difference of a normed array from a target, and its gradient. -/

@[expose] public section

noncomputable section

open Idealize.ShloMosaic

namespace Cert.Residual

open Cert.RowNorm (meanSq slab inputAt gainRow)

variable {n : Nat} (X T : (⟨2, ![n, 2048]⟩ : Shape).Idx → EReal) (G : (⟨2, ![1, 2048]⟩ : Shape).Idx → EReal)

/-- The difference from the target. -/
def diff (a : Fin n) (l : Fin 2048) : EReal := X (ix2 a l) * Ideal.rsqrt (meanSq X a) * G (ix2 (0 : Fin 1) l) - T (ix2 a l)

/-- The gradient at the normed array. -/
def cot : (⟨2, ![n, 2048]⟩ : Shape).Idx → EReal := fun j => diff X T G (j 0) (j 1) * Ideal.ofBits .f32 0x3A000000#32

/-- An entry's part of the loss. -/
def part (a : Fin n) (l : Fin 2048) : EReal := diff X T G a l * diff X T G a l * Ideal.ofBits .f32 0x39800000#32

/-- The gradient at the array before the norm. -/
def gradAt (a : Fin n) (l : Fin 2048) : EReal := inputAt (cot X T G) X (fun _ => 0) G a l

theorem slab_grad (o : Nat) (h : o + 128 ≤ n) (a : Fin 128) (l : Fin 2048) (s : Fin n) (k : Fin 2048) (hs : s.val = o + a.val) (hk : k.val = l.val) :
    gradAt (slab o h X) (slab o h T) G a l = gradAt X T G s k :=
  RowNorm.slab_input o h (cot X T G) X (fun _ => 0) G a l s k hs hk

theorem ofBits_third : Ideal.ofBits .f32 0x39800000#32 = ((1 / 4096 : ℝ) : EReal) := by
  simp [Ideal.ofBits, Ideal.ieee, -EReal.coe_mul]
  norm_num

theorem ofBits_slope : Ideal.ofBits .f32 0x3A000000#32 = ((1 / 2048 : ℝ) : EReal) := by
  simp [Ideal.ofBits, Ideal.ieee, -EReal.coe_mul]
  norm_num

theorem ofBits_half : Ideal.ofBits .f32 0x3F000000#32 = ((1 / 2 : ℝ) : EReal) := by
  simp [Ideal.ofBits, Ideal.ieee, -EReal.coe_mul]
  norm_num

theorem ofBits_two : Ideal.ofBits .f32 0x40000000#32 = ((2 : ℝ) : EReal) := by
  simp [Ideal.ofBits, Ideal.ieee, -EReal.coe_mul]
  norm_num

theorem ofBits_one : Ideal.ofBits .f32 0x3F800000#32 = ((1 : ℝ) : EReal) := by
  simp [Ideal.ofBits, Ideal.ieee, -EReal.coe_mul]
  norm_num

/-- Half the square's derivative over the row's length. -/
theorem slope_eq (e : EReal) :
    Ideal.div (Ideal.ofBits .f32 0x3F000000#32 * Ideal.ofBits .f32 0x3F800000#32) (Ideal.ofBits .f32 0x45000000#32) * (Ideal.ofBits .f32 0x40000000#32 * e)
      = e * Ideal.ofBits .f32 0x3A000000#32 := by
  rw [Norm.ofBits_2048, Norm.div_coe _ (by norm_num), ofBits_half, ofBits_one, ofBits_two, ofBits_slope, ← mul_assoc, ← EReal.coe_mul, ← EReal.coe_mul, ← EReal.coe_mul, mul_comm]
  norm_num

/-- Half the sum of the rows' means is the sum of all parts. -/
theorem loss_eq : Ideal.ofBits .f32 0x3F000000#32 * ∑ s : Fin n, Ideal.div (∑ l : Fin 2048, diff X T G s l * diff X T G s l) (Ideal.ofBits .f32 0x45000000#32)
    = ∑ l : Fin 2048, ∑ s : Fin n, part X T G s l := by
  rw [Finset.sum_comm, mul_comm, ofBits_half, Norm.sum_mul_coe _ _ (by norm_num)]
  refine Finset.sum_congr rfl fun s _ => ?_
  simp only [part]
  rw [Norm.ofBits_2048, Norm.div_coe _ (by norm_num), mul_assoc, ← EReal.coe_mul, ofBits_third, ← Norm.sum_mul_coe _ _ (by norm_num)]
  norm_num

end Cert.Residual

end
-- ==== Proof.NormLossStep.lean ====
module

public import proofs.«01_k».proof.Defs
public import proofs.«01_k».proof.Proof.Gen.Kernel4Ideal.Value
public import proofs.«01_k».proof.Proof.Residual
public import proofs.«01_k».proof.Proof.Tiles
public import Idealize.ShloMosaic.Lib.Pipeline.ReadBack
public import Idealize.ShloMosaic.Lib.Claim

/-! The down projection, the last norm, the loss and their gradient in one call: what a grid point computes from 256 rows. -/

@[expose] public section

set_option maxRecDepth 16384

noncomputable section

open Idealize.ShloMosaic Idealize.ShloMosaic.TcCoe Idealize.SL.Sem
open Idealize.ShloMosaic.Pipeline (Dat)

namespace Cert.Kernel4Ideal.Hand

open Cert.Kernel4Ideal Cert.Kernel4Ideal.Gen Cert.Tiles
open Cert.RowNorm (meanSq inputAt gainRow slab)
open Cert.Residual (diff cot part gradAt slab_grad)

variable (m : (ℓ : Loc nD τ sig) → Buf (Elt Ideal) ℓ)

/-- The product's rows. -/
theorem product_at (Q : FVec Ideal S256x5632 .bf16) (W : FVec Ideal S5632x2048 .bf16) (a : Fin 256) (l : Fin 2048) :
    k0_pay10 (F := Ideal) Q W (ix2 a l) = ∑ k : Fin 5632, Q (ix2 a k) * W (ix2 k l) := by
  pointwise [k0_pay10]

theorem load_slab (o : Nat) (h : o + 128 ≤ 256) (X : FVec Ideal S256x2048 .f32) (inb) :
    View.ld (Val := Elt Ideal) (e' := .f32) X (Rect.unit (s := S256x2048) ![o, 0] S128x2048.size inb) = slab o h X := by
  funext j
  refine congrArg X (funext fun a => Fin.ext ?_)
  rw [Rect.idx_unit_val]
  match a with
  | ⟨0, _⟩ => rfl
  | ⟨1, _⟩ => exact Nat.zero_add _

theorem slice_slab (o : Nat) (h : o + 128 ≤ 256) (D : FVec Ideal S256x2048 .f32) (hs : S256x2048.Slices ![o, 0] S128x2048) :
    extractStridedSlice S128x2048 ![o, 0] D hs = slab o h D := by
  funext j
  rw [eq_ix2 j]
  refine congrArg D (funext fun a => Fin.ext ?_)
  match a with
  | ⟨0, _⟩ => rfl
  | ⟨1, _⟩ => exact Nat.zero_add _

/-- The array before the norm. -/
def before (Q : FVec Ideal S256x5632 .bf16) (W : FVec Ideal S5632x2048 .bf16) (X : FVec Ideal S256x2048 .f32) : FVec Ideal S256x2048 .f32 :=
  fun j => X j + k0_pay10 (F := Ideal) Q W j

theorem before_first (Q : FVec Ideal S256x5632 .bf16) (W : FVec Ideal S5632x2048 .bf16) (X : FVec Ideal S256x2048 .f32) (inb) :
    k0_pay12 (F := Ideal) Q W (View.ld (Val := Elt Ideal) (e' := .f32) X (Rect.unit (s := S256x2048) ![0, 0] S128x2048.size inb)) = slab 0 (by decide) (before Q W X) := by
  unfold k0_pay12
  rw [load_slab 0 (by decide), slice_slab 0 (by decide)]
  rfl

theorem before_second (Q : FVec Ideal S256x5632 .bf16) (W : FVec Ideal S5632x2048 .bf16) (X : FVec Ideal S256x2048 .f32) (inb) :
    k0_pay21 (F := Ideal) (k0_pay10 (F := Ideal) Q W) (View.ld (Val := Elt Ideal) (e' := .f32) X (Rect.unit (s := S256x2048) ![128, 0] S128x2048.size inb)) = slab 128 (by decide) (before Q W X) := by
  unfold k0_pay21
  rw [load_slab 128 (by decide), slice_slab 128 (by decide)]
  rfl

section

variable (Q : FVec Ideal S256x5632 .bf16) (W : FVec Ideal S5632x2048 .bf16) (P : FVec Ideal S256x2048 .f32) (G : FVec Ideal S1x2048 .f32)
  (B T X : FVec Ideal S128x2048 .f32)

theorem gain_keep : k0_pay11 (F := Ideal) G = G := by
  funext j
  rw [eq_ix2 j]
  pointwise [k0_pay11]

theorem scale_first (h : k0_pay12 (F := Ideal) Q W B = X) (a : Fin 128) (o : Fin 1) : k0_pay13 (F := Ideal) Q W B (ix2 a o) = Ideal.rsqrt (meanSq X a) := by
  unfold k0_pay13
  rw [h]
  pointwise [meanSq]

theorem scale_second (h : k0_pay21 (F := Ideal) P B = X) (a : Fin 128) (o : Fin 1) : k0_pay22 (F := Ideal) P B (ix2 a o) = Ideal.rsqrt (meanSq X a) := by
  unfold k0_pay22
  rw [h]
  pointwise [meanSq]

theorem normed_first (h : k0_pay12 (F := Ideal) Q W B = X) (a : Fin 128) (l : Fin 2048) :
    k0_pay14 (F := Ideal) Q W B (ix2 a l) = X (ix2 a l) * Ideal.rsqrt (meanSq X a) := by
  rw [← scale_first Q W B X h a 0]
  unfold k0_pay14
  rw [h]
  generalize k0_pay13 (F := Ideal) Q W B = S
  pointwise []

theorem normed_second (h : k0_pay21 (F := Ideal) P B = X) (a : Fin 128) (l : Fin 2048) :
    k0_pay23 (F := Ideal) P B (ix2 a l) = X (ix2 a l) * Ideal.rsqrt (meanSq X a) := by
  rw [← scale_second P B X h a 0]
  unfold k0_pay23
  rw [h]
  generalize k0_pay22 (F := Ideal) P B = S
  pointwise []

theorem diff_first (h : k0_pay12 (F := Ideal) Q W B = X) (a : Fin 128) (l : Fin 2048) :
    k0_pay15 (F := Ideal) Q W G B T (ix2 a l) = diff X T G a l := by
  unfold diff
  rw [← normed_first Q W B X h]
  unfold k0_pay15
  rw [gain_keep]
  generalize k0_pay14 (F := Ideal) Q W B = S
  pointwise []

theorem diff_second (h : k0_pay21 (F := Ideal) P B = X) (a : Fin 128) (l : Fin 2048) :
    k0_pay24 (F := Ideal) P G B T (ix2 a l) = diff X T G a l := by
  unfold diff
  rw [← normed_second P B X h]
  unfold k0_pay24
  generalize k0_pay23 (F := Ideal) P B = S
  pointwise []

theorem cot_first (h : k0_pay12 (F := Ideal) Q W B = X) : k0_pay16 (F := Ideal) Q W G B T = cot X T G := by
  funext j
  obtain ⟨a, l, rfl⟩ : ∃ (a : Fin 128) (l : Fin 2048), j = ix2 a l := ⟨j 0, j 1, eq_ix2 j⟩
  show _ = diff X T G a l * _
  rw [← diff_first Q W G B T X h]
  unfold k0_pay16
  generalize k0_pay15 (F := Ideal) Q W G B T = S
  pointwise []

theorem cot_second (h : k0_pay21 (F := Ideal) P B = X) : k0_pay25 (F := Ideal) P G B T = cot X T G := by
  funext j
  obtain ⟨a, l, rfl⟩ : ∃ (a : Fin 128) (l : Fin 2048), j = ix2 a l := ⟨j 0, j 1, eq_ix2 j⟩
  show _ = diff X T G a l * _
  rw [← diff_second P G B T X h]
  unfold k0_pay25
  generalize k0_pay24 (F := Ideal) P G B T = S
  pointwise []

theorem grad_first (h : k0_pay12 (F := Ideal) Q W B = X) (a : Fin 128) (l : Fin 2048) :
    k0_pay17 (F := Ideal) Q W G B T (ix2 a l) = gradAt X T G a l := by
  unfold gradAt inputAt
  rw [zero_add]
  simp only [← normed_first Q W B X h]
  rw [← scale_first Q W B X h a 0, ← cot_first Q W G B T X h]
  unfold k0_pay17
  rw [gain_keep]
  generalize k0_pay16 (F := Ideal) Q W G B T = D
  generalize k0_pay14 (F := Ideal) Q W B = N
  generalize k0_pay13 (F := Ideal) Q W B = S
  pointwise []

theorem grad_second (h : k0_pay21 (F := Ideal) P B = X) (a : Fin 128) (l : Fin 2048) :
    k0_pay26 (F := Ideal) P G B T (ix2 a l) = gradAt X T G a l := by
  unfold gradAt inputAt
  rw [zero_add]
  simp only [← normed_second P B X h]
  rw [← scale_second P B X h a 0, ← cot_second P G B T X h]
  unfold k0_pay26
  generalize k0_pay25 (F := Ideal) P G B T = D
  generalize k0_pay23 (F := Ideal) P B = N
  generalize k0_pay22 (F := Ideal) P B = S
  pointwise []

theorem row_lt (q : Fin 16) (r : Fin 8) : q.val * 8 + r.val < 128 := by omega

theorem gain_first (h : k0_pay12 (F := Ideal) Q W B = X) (r : Fin 8) (l : Fin 2048) :
    k0_pay18 (F := Ideal) Q W G B T (ix2 r l) = ∑ q : Fin 16, gainRow (cot X T G) X ⟨q.val * 8 + r.val, row_lt q r⟩ l := by
  unfold gainRow
  simp only [← normed_first Q W B X h]
  rw [← cot_first Q W G B T X h]
  unfold k0_pay18
  generalize k0_pay16 (F := Ideal) Q W G B T = D
  generalize k0_pay14 (F := Ideal) Q W B = N
  pointwise []

theorem gain_second (h : k0_pay21 (F := Ideal) P B = X) (A : FVec Ideal S8x2048 .f32) (r : Fin 8) (l : Fin 2048) :
    k0_pay2 (F := Ideal) A (k0_pay27 (F := Ideal) P G B T) (ix2 r l) = A (ix2 r l) + ∑ q : Fin 16, gainRow (cot X T G) X ⟨q.val * 8 + r.val, row_lt q r⟩ l := by
  unfold gainRow
  simp only [← normed_second P B X h]
  rw [← cot_second P G B T X h]
  unfold k0_pay27
  generalize k0_pay25 (F := Ideal) P G B T = D
  generalize k0_pay23 (F := Ideal) P B = N
  pointwise [k0_pay2]

theorem loss_first (h : k0_pay12 (F := Ideal) Q W B = X) (r : Fin 8) (l : Fin 2048) :
    k0_pay19 (F := Ideal) (k0_pay15 (F := Ideal) Q W G B T) (ix2 r l) = ∑ q : Fin 16, part X T G ⟨q.val * 8 + r.val, row_lt q r⟩ l := by
  unfold part
  simp only [← diff_first Q W G B T X h]
  generalize k0_pay15 (F := Ideal) Q W G B T = D
  rw [Residual.ofBits_third, ← Norm.sum_mul_coe _ _ (by norm_num), ← Residual.ofBits_third]
  pointwise [k0_pay19]

theorem loss_second (h : k0_pay21 (F := Ideal) P B = X) (A : FVec Ideal S8x2048 .f32) (r : Fin 8) (l : Fin 2048) :
    k0_pay3 (F := Ideal) A (k0_pay24 (F := Ideal) P G B T) (ix2 r l) = A (ix2 r l) + ∑ q : Fin 16, part X T G ⟨q.val * 8 + r.val, row_lt q r⟩ l := by
  unfold part
  simp only [← diff_second P G B T X h]
  generalize k0_pay24 (F := Ideal) P G B T = D
  rw [Residual.ofBits_third, ← Norm.sum_mul_coe _ _ (by norm_num), ← Residual.ofBits_third]
  pointwise [k0_pay3]

end

section

variable (Q : FVec Ideal S256x5632 .bf16) (W : FVec Ideal S5632x2048 .bf16) (X T : FVec Ideal S256x2048 .f32) (G : FVec Ideal S1x2048 .f32)

theorem piece_first (ix) (it) (x : S128x2048.Idx) (y : S256x2048.Idx) (h0 : (y 0).val = (x 0).val) (h1 : (y 1).val = (x 1).val) :
    k0_pay17 (F := Ideal) Q W G (View.ld (Val := Elt Ideal) (e' := .f32) X (Rect.unit (s := S256x2048) ![0, 0] S128x2048.size ix))
      (View.ld (Val := Elt Ideal) (e' := .f32) T (Rect.unit (s := S256x2048) ![0, 0] S128x2048.size it)) x
      = gradAt (before Q W X) T G (y 0) (y 1) := by
  rw [load_slab 0 (by decide) T]
  exact ((congrArg _ (eq_ix2 x)).trans (grad_first Q W G _ _ _ (before_first Q W X ix) (x 0) (x 1))).trans
    (slab_grad _ _ _ 0 (by decide) _ _ _ _ (h0.trans (Nat.zero_add _).symm) h1)

theorem piece_second (ix) (it) (x : S128x2048.Idx) (y : S256x2048.Idx) (h0 : (y 0).val = 128 + (x 0).val) (h1 : (y 1).val = (x 1).val) :
    k0_pay26 (F := Ideal) (k0_pay10 (F := Ideal) Q W) (k0_pay11 (F := Ideal) G) (View.ld (Val := Elt Ideal) (e' := .f32) X (Rect.unit (s := S256x2048) ![128, 0] S128x2048.size ix))
      (View.ld (Val := Elt Ideal) (e' := .f32) T (Rect.unit (s := S256x2048) ![128, 0] S128x2048.size it)) x
      = gradAt (before Q W X) T G (y 0) (y 1) := by
  rw [load_slab 128 (by decide) T, gain_keep]
  exact ((congrArg _ (eq_ix2 x)).trans (grad_second _ G _ _ _ (before_second Q W X ix) (x 0) (x 1))).trans
    (slab_grad _ _ _ 128 (by decide) _ _ _ _ h0 h1)

/-- A grid point's shares of the eight partial sums, of the gain's gradient and of the loss. -/
def gainPart (X T : FVec Ideal S256x2048 .f32) (G : FVec Ideal S1x2048 .f32) : FVec Ideal S8x2048 .f32 := fun j =>
  ∑ q : Fin 32, gainRow (n := 256) (cot X T G) X (⟨q.val * 8 + (j 0).val, by have h : (j 0).val < 8 := (j 0).isLt; omega⟩ : Fin 256) (j 1)

def lossPart (X T : FVec Ideal S256x2048 .f32) (G : FVec Ideal S1x2048 .f32) : FVec Ideal S8x2048 .f32 := fun j =>
  ∑ q : Fin 32, part (n := 256) X T G (⟨q.val * 8 + (j 0).val, by have h : (j 0).val < 8 := (j 0).isLt; omega⟩ : Fin 256) (j 1)

theorem gain_two (i0) (i1) (i2) (i3) :
    k0_pay2 (F := Ideal) (k0_pay18 (F := Ideal) Q W G (View.ld (Val := Elt Ideal) (e' := .f32) X (Rect.unit (s := S256x2048) ![0, 0] S128x2048.size i0))
        (View.ld (Val := Elt Ideal) (e' := .f32) T (Rect.unit (s := S256x2048) ![0, 0] S128x2048.size i1)))
      (k0_pay27 (F := Ideal) (k0_pay10 (F := Ideal) Q W) (k0_pay11 (F := Ideal) G) (View.ld (Val := Elt Ideal) (e' := .f32) X (Rect.unit (s := S256x2048) ![128, 0] S128x2048.size i2))
        (View.ld (Val := Elt Ideal) (e' := .f32) T (Rect.unit (s := S256x2048) ![128, 0] S128x2048.size i3)))
      = gainPart (before Q W X) T G := by
  funext j
  obtain ⟨r, l, rfl⟩ : ∃ (r : Fin 8) (l : Fin 2048), j = ix2 r l := ⟨j 0, j 1, eq_ix2 j⟩
  rw [load_slab 0 (by decide) T, load_slab 128 (by decide) T, gain_keep, gain_second _ G _ _ _ (before_second Q W X i2), gain_first Q W G _ _ _ (before_first Q W X i0)]
  exact RowNorm.two_slabs (fun s => gainRow (n := 256) (cot (before Q W X) T G) (before Q W X) s l) r

theorem loss_two (i0) (i1) (i2) (i3) :
    k0_pay3 (F := Ideal) (k0_pay19 (F := Ideal) (k0_pay15 (F := Ideal) Q W G (View.ld (Val := Elt Ideal) (e' := .f32) X (Rect.unit (s := S256x2048) ![0, 0] S128x2048.size i0))
        (View.ld (Val := Elt Ideal) (e' := .f32) T (Rect.unit (s := S256x2048) ![0, 0] S128x2048.size i1))))
      (k0_pay24 (F := Ideal) (k0_pay10 (F := Ideal) Q W) (k0_pay11 (F := Ideal) G) (View.ld (Val := Elt Ideal) (e' := .f32) X (Rect.unit (s := S256x2048) ![128, 0] S128x2048.size i2))
        (View.ld (Val := Elt Ideal) (e' := .f32) T (Rect.unit (s := S256x2048) ![128, 0] S128x2048.size i3)))
      = lossPart (before Q W X) T G := by
  funext j
  obtain ⟨r, l, rfl⟩ : ∃ (r : Fin 8) (l : Fin 2048), j = ix2 r l := ⟨j 0, j 1, eq_ix2 j⟩
  rw [load_slab 0 (by decide) T, load_slab 128 (by decide) T, gain_keep, loss_second _ G _ _ _ (before_second Q W X i2), loss_first Q W G _ _ _ (before_first Q W X i0)]
  exact RowNorm.two_slabs (fun s => part (n := 256) (before Q W X) T G s l) r

end

/-- What a grid point stores of the gradient. -/
theorem step_grad (c : Dev nD) (t : Fin cfg0.N) : (outsAt0 m c t.val t.isLt).1
    = fun y => gradAt (before (iblk m c 0 t) (iblk m c 1 t) (iblk m c 2 t)) (iblk m c 3 t) (iblk m c 4 t) (y 0) (y 1) := by
  have hN : t.val < 16 := t.isLt
  by_cases h0 : t.val % 16 = 0 <;> by_cases h2 : t.val % 16 = 15
  on_goal 1 => omega
  on_goal 1 => rw [outsAt0_A m c t h0 (by omega) h2]
  on_goal 2 => rw [outsAt0_C m c t h0 (by omega) h2]
  on_goal 3 => rw [outsAt0_B m c t h0 (by omega) h2]
  all_goals
    frame_open
    frame_out
    clear h0 h2 hN
    generalize iblk m c 0 t = X0
    generalize iblk m c 1 t = X1
    generalize iblk m c 2 t = X2
    generalize iblk m c 3 t = X3
    generalize iblk m c 4 t = X4
    funext y
    refine (canon_take 2 ![128, 2048] _ (by rfl) y).trans ?_
    simp only [List.take_succ_cons, List.take_zero]
    canon_tiles x h
    · exact piece_second X0 X1 X2 X3 X4 _ _ x y h0 h1
    · exact piece_first X0 X1 X2 X3 X4 _ _ x y h0 h1

theorem step_half (c : Dev nD) (t : Fin cfg0.N) : (outsAt0 m c t.val t.isLt).2.1
    = fun y => gradAt (before (iblk m c 0 t) (iblk m c 1 t) (iblk m c 2 t)) (iblk m c 3 t) (iblk m c 4 t) (y 0) (y 1) := by
  have hN : t.val < 16 := t.isLt
  by_cases h0 : t.val % 16 = 0 <;> by_cases h2 : t.val % 16 = 15
  on_goal 1 => omega
  on_goal 1 => rw [outsAt0_A m c t h0 (by omega) h2]
  on_goal 2 => rw [outsAt0_C m c t h0 (by omega) h2]
  on_goal 3 => rw [outsAt0_B m c t h0 (by omega) h2]
  all_goals
    frame_open
    frame_out
    clear h0 h2 hN
    generalize iblk m c 0 t = X0
    generalize iblk m c 1 t = X1
    generalize iblk m c 2 t = X2
    generalize iblk m c 3 t = X3
    generalize iblk m c 4 t = X4
    funext y
    refine (canon_take 2 ![128, 2048] _ (by rfl) y).trans ?_
    simp only [List.take_succ_cons, List.take_zero]
    canon_tiles x h
    · exact piece_second X0 X1 X2 X3 X4 _ _ x y h0 h1
    · exact piece_first X0 X1 X2 X3 X4 _ _ x y h0 h1

/-- The gain's running sums after a grid point. -/
theorem step_gain (c : Dev nD) (t : Fin cfg0.N) (A : FVec Ideal S8x2048 .f32) (hz : t.val % 16 = 0 → A = fun _ => (0 : EReal))
    (hp : ¬t.val % 16 = 0 → A = (outsAt0 m c (t.val - 1) (Nat.lt_of_le_of_lt (Nat.sub_le ..) t.isLt)).2.2.2.2.1) :
    (outsAt0 m c t.val t.isLt).2.2.2.2.1 = fun j => A j + gainPart (before (iblk m c 0 t) (iblk m c 1 t) (iblk m c 2 t)) (iblk m c 3 t) (iblk m c 4 t) j := by
  have hN : t.val < 16 := t.isLt
  have hg := gain_two (iblk m c 0 t) (iblk m c 1 t) (iblk m c 2 t) (iblk m c 3 t) (iblk m c 4 t) inb_S256x2048_S128x2048_0_0 inb_S256x2048_S128x2048_0_0
    inb_S256x2048_S128x2048_128_0 inb_S256x2048_S128x2048_128_0
  by_cases h0 : t.val % 16 = 0
  · rw [hz h0, outsAt0_A m c t h0 (by omega) (by omega)]
    frame_out
    funext j
    rw [zero_add, eq_ix2 j]
    refine Eq.trans ?_ (congrFun hg _)
    pointwise [k0_pay4]
  · rw [hp h0]
    by_cases h2 : t.val % 16 = 15
    on_goal 1 => rw [outsAt0_C m c t h0 (by omega) h2]
    on_goal 2 => rw [outsAt0_B m c t h0 (by omega) h2]
    all_goals
      frame_out
      simp only [read_unread_whole]
      generalize (outsAt0 m c (t.val - 1) _).2.2.2.2.1 = A
      funext j
      rw [eq_ix2 j]
      refine Eq.trans ?_ (congrArg (fun z : EReal => A _ + z) (congrFun hg _))
      pointwise [k0_pay6]

/-- The loss's running sums after a grid point. -/
theorem step_loss (c : Dev nD) (t : Fin cfg0.N) (A : FVec Ideal S8x2048 .f32) (hz : t.val % 16 = 0 → A = fun _ => (0 : EReal))
    (hp : ¬t.val % 16 = 0 → A = (outsAt0 m c (t.val - 1) (Nat.lt_of_le_of_lt (Nat.sub_le ..) t.isLt)).2.2.2.2.2) :
    (outsAt0 m c t.val t.isLt).2.2.2.2.2 = fun j => A j + lossPart (before (iblk m c 0 t) (iblk m c 1 t) (iblk m c 2 t)) (iblk m c 3 t) (iblk m c 4 t) j := by
  have hN : t.val < 16 := t.isLt
  have hg := loss_two (iblk m c 0 t) (iblk m c 1 t) (iblk m c 2 t) (iblk m c 3 t) (iblk m c 4 t) inb_S256x2048_S128x2048_0_0 inb_S256x2048_S128x2048_0_0
    inb_S256x2048_S128x2048_128_0 inb_S256x2048_S128x2048_128_0
  by_cases h0 : t.val % 16 = 0
  · rw [hz h0, outsAt0_A m c t h0 (by omega) (by omega)]
    frame_out
    funext j
    rw [zero_add, eq_ix2 j]
    refine Eq.trans ?_ (congrFun hg _)
    pointwise [k0_pay5]
  · rw [hp h0]
    by_cases h2 : t.val % 16 = 15
    on_goal 1 => rw [outsAt0_C m c t h0 (by omega) h2]
    on_goal 2 => rw [outsAt0_B m c t h0 (by omega) h2]
    all_goals
      frame_out
      simp only [read_unread_whole]
      generalize (outsAt0 m c (t.val - 1) _).2.2.2.2.2 = A
      funext j
      rw [eq_ix2 j]
      refine Eq.trans ?_ (congrArg (fun z : EReal => A _ + z) (congrFun hg _))
      pointwise [k0_pay7]

/-- The last grid point adds the eight running sums. -/
theorem out_gain (c : Dev nD) (t : Fin cfg0.N) (h : t.val % 16 = 15) : (outsAt0 m c t.val t.isLt).2.2.1
    = k0_pay8 (F := Ideal) (outsAt0 m c t.val t.isLt).2.2.2.2.1 := by
  have hN : t.val < 16 := t.isLt
  rw [outsAt0_C m c t (by omega) (by omega) h]
  frame_open
  simp (disch := decide) only [↓ View.readCov_skip, ↓ View.readCov_cons_toLoadRect, ↓ View.readCov_fill]
  frame_out

theorem out_loss (c : Dev nD) (t : Fin cfg0.N) (h : t.val % 16 = 15) : (outsAt0 m c t.val t.isLt).2.2.2.1
    = k0_pay9 (F := Ideal) (outsAt0 m c t.val t.isLt).2.2.2.2.2 := by
  have hN : t.val < 16 := t.isLt
  rw [outsAt0_C m c t (by omega) (by omega) h]
  frame_open
  simp (disch := decide) only [↓ View.readCov_skip, ↓ View.readCov_cons_toLoadRect, ↓ View.readCov_fill]
  frame_out

end Cert.Kernel4Ideal.Hand

end
-- ==== Proof.NormRef.lean ====
module

public import proofs.«01_k».proof.Proof.Gen.Reference6Ideal.Run
public import proofs.«01_k».proof.Proof.RowNorm
public import Idealize.ShloMosaic.Lib.Pointwise

/-! The derivative of the norm as the reference has it, over 4096 rows of 2048 entries. -/

@[expose] public section

set_option maxRecDepth 16384

noncomputable section

open Idealize.ShloMosaic Idealize.ShloMosaic.TcCoe Idealize.SL.Sem

namespace Cert.Reference6Ideal.Hand

open Cert.Reference6Ideal Cert.Reference6Ideal.Gen
open Cert.RowNorm (meanSq inputAt gainAt gainRow pull)

variable (D X R : FVec Ideal S4096x2048 .f32) (G : FVec Ideal S1x2048 .f32)

/-- A constant in every row. -/
def every (w : BitVec 32) : FVec Ideal S4096x1 .f32 := broadcastInDim S4096x1 ![] bcast_S_S4096x1 (constant S_ .f32 w)

/-- A row's sum. -/
def rowSum : FVec Ideal S4096 .f32 := Host.reduceAdd X (constant S_ .f32 0x00000000#32) reducesTo_S4096x2048_S4096_d1 h_S_

def hostMean : FVec Ideal S4096x1 .f32 :=
  addf (Host.divf (broadcastInDim S4096x1 ![0] bcast_S4096_S4096x1_0 (rowSum (mulf X X))) (every 0x45000000#32)) (every 0x358637BD#32)

/-- The cotangent times the gain. -/
def hostCot : FVec Ideal S4096x2048 .f32 :=
  mulf D (broadcastInDim S4096x2048 ![0, 1] bcast_S1x2048_S4096x2048_0_1 (broadcastInDim S1x2048 ![1] bcast_S2048_S1x2048_1 (shapeCast _ G shapeCasts_S1x2048_S2048)))

def hostPull : FVec Ideal S4096x2048 .f32 :=
  broadcastInDim S4096x2048 ![0] bcast_S4096_S4096x2048_0 (Host.reduceAdd (Host.divf (mulf (shapeCast _ (rowSum (mulf X (hostCot D G))) shapeCasts_S4096_S4096x1)
    (mulf (every 0xBF000000#32) (Host.divf (Host.rsqrt (hostMean X)) (hostMean X)))) (every 0x45000000#32)) (constant S_ .f32 0x00000000#32) reducesTo_S4096x1_S4096_d1 h_S_)

def hostScale : FVec Ideal S4096x2048 .f32 := broadcastInDim S4096x2048 ![0, 1] bcast_S4096x1_S4096x2048_0_1 (Host.rsqrt (hostMean X))

/-- The input's gradient. -/
def hostInput : FVec Ideal S4096x2048 .f32 :=
  addf (addf (addf R (mulf (hostCot D G) (hostScale X))) (mulf X (hostPull D X G))) (mulf (hostPull D X G) X)

/-- The gain's gradient. -/
def hostGain : FVec Ideal S1x2048 .f32 :=
  broadcastInDim S1x2048 ![1] bcast_S2048_S1x2048_1 (Host.reduceAdd (shapeCast _ (Host.reduceAdd (mulf (mulf X (hostScale X)) D)
    (constant S_ .f32 0x00000000#32) reducesTo_S4096x2048_S2048_d0 h_S_) shapeCasts_S2048_S1x2048) (constant S_ .f32 0x00000000#32) reducesTo_S1x2048_S2048_d0 h_S_)

theorem rowSum_at (s : Fin 4096) : rowSum X (ix1 s) = ∑ l : Fin 2048, X (ix2 s l) := by pointwise [rowSum]

theorem every_at (w : BitVec 32) (s : Fin 4096) (o : Fin 1) : every w (ix2 s o) = Ideal.ofBits .f32 w := by pointwise [every]

theorem hostMean_at (s : Fin 4096) (o : Fin 1) : hostMean X (ix2 s o) = meanSq X s := by
  pointwise [hostMean, every, rowSum, meanSq]

theorem hostCot_at (s : Fin 4096) (l : Fin 2048) : hostCot D G (ix2 s l) = D (ix2 s l) * G (ix2 (0 : Fin 1) l) := by
  pointwise [hostCot]

theorem hostScale_at (s : Fin 4096) (l : Fin 2048) : hostScale X (ix2 s l) = Ideal.rsqrt (meanSq X s) := by
  pointwise [hostScale]
  rw [hostMean_at]

theorem hostPull_at (s : Fin 4096) (l : Fin 2048) : hostPull D X G (ix2 s l) = pull D X G s := by
  pointwise [hostPull]
  refine (Fin.sum_univ_one _).trans ?_
  simp only [rowSum_at, every_at, hostMean_at, pull]
  pointwise []
  simp only [hostCot_at]

theorem hostInput_at (s : Fin 4096) (l : Fin 2048) : hostInput D X R G (ix2 s l) = inputAt D X R G s l := by
  rw [← RowNorm.input_eq]
  show R (ix2 s l) + hostCot D G (ix2 s l) * hostScale X (ix2 s l) + X (ix2 s l) * hostPull D X G (ix2 s l) + hostPull D X G (ix2 s l) * X (ix2 s l) = _
  rw [hostCot_at, hostScale_at, hostPull_at]

theorem hostGain_at (o : Fin 1) (l : Fin 2048) : hostGain D X (ix2 o l) = gainAt D X l := by
  pointwise [hostGain]
  refine (Fin.sum_univ_one _).trans ?_
  refine Finset.sum_congr rfl fun s _ => ?_
  rw [hostScale_at, gainRow, mul_comm]

end Cert.Reference6Ideal.Hand

end
-- ==== Proof.NormLoss.lean ====
module

public import proofs.«01_k».proof.Proof.NormLossStep
public import proofs.«01_k».proof.Proof.Gen.Reference4Ideal.Run
public import proofs.«01_k».proof.Proof.NormRef
public import Idealize.ShloMosaic.Lib.Pipeline.ReadBack
public import Idealize.ShloMosaic.Lib.Claim

/-! The down projection, the last norm, the loss and their gradient: the arrays after all grid points, and the reference's. -/

@[expose] public section

set_option maxRecDepth 16384

noncomputable section

open Idealize.ShloMosaic Idealize.ShloMosaic.TcCoe Idealize.SL.Sem
open Idealize.ShloMosaic.Pipeline (Dat)

namespace Cert.Kernel4Ideal.Hand

open Cert.Kernel4Ideal Cert.Kernel4Ideal.Gen Cert.Tiles
open Cert.RowNorm (meanSq gainAt gainRow)
open Cert.Residual (cot part gradAt)

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0] :=
  (by decide +kernel : ∀ t : Fin grid0.N, _)

/-- The rows of an array that a grid point works on. -/
def rows {φ : FTy} {w : Nat} (t : Fin 16) (X : FVec Ideal ⟨2, ![4096, w]⟩ φ) : FVec Ideal ⟨2, ![256, w]⟩ φ := fun j =>
  X (ix2 (⟨t.val * 256 + (j 0).val, by have h : (j 0).val < 256 := (j 0).isLt; omega⟩ : Fin 4096) (j 1 : Fin w))

/-- The weights and the gain as the call takes them. -/
def weights (c : Dev nD) : FVec Ideal S5632x2048 .f32 := shapeCast S5632x2048 (m ((c : Thread nD τ).loc main_arg1)) shapeCasts_S1x5632x2048_S5632x2048

def gain (c : Dev nD) : FVec Ideal S1x2048 .f32 := shapeCast S1x2048 (m ((c : Thread nD τ).loc main_arg4)) shapeCasts_S2048_S1x2048

/-- The down projection's result added to the residual. -/
def hidden (Q : FVec Ideal S4096x5632 .bf16) (W : FVec Ideal S5632x2048 .f32) (X : FVec Ideal S4096x2048 .f32) : FVec Ideal S4096x2048 .f32 := fun j =>
  X j + ∑ k : Fin 5632, Q (ix2 (j 0) k) * W (ix2 k (j 1))

/-- The same of the call's arguments. -/
def whole (c : Dev nD) : FVec Ideal S4096x2048 .f32 :=
  hidden (m ((c : Thread nD τ).loc main_arg0)) (weights m c) (m ((c : Thread nD τ).loc main_arg2))

theorem block0 (c : Dev nD) (t : Fin cfg0.N) : iblk m c 0 t = rows (φ := .bf16) (w := 5632) t (m ((c : Thread nD τ).loc main_arg0)) := by
  funext j
  rw [eq_ix2 j]
  show _ = m ((c : Thread nD τ).loc main_arg0) _
  blk_ext! [iblk, V, idx t]

theorem block1 (c : Dev nD) (t : Fin cfg0.N) : iblk m c 1 t = weights m c := by
  have h : iblk m c 1 t = V m c main_v1 := by blk_ext! [iblk, idx t]
  rw [h]
  entry_read
  rfl

theorem block2 (c : Dev nD) (t : Fin cfg0.N) : iblk m c 2 t = rows (φ := .f32) (w := 2048) t (m ((c : Thread nD τ).loc main_arg2)) := by
  funext j
  rw [eq_ix2 j]
  show _ = m ((c : Thread nD τ).loc main_arg2) _
  blk_ext! [iblk, V, idx t]

theorem block3 (c : Dev nD) (t : Fin cfg0.N) : iblk m c 3 t = rows (φ := .f32) (w := 2048) t (m ((c : Thread nD τ).loc main_arg3)) := by
  funext j
  rw [eq_ix2 j]
  show _ = m ((c : Thread nD τ).loc main_arg3) _
  blk_ext! [iblk, V, idx t]

theorem block4 (c : Dev nD) (t : Fin cfg0.N) : iblk m c 4 t = gain m c := by
  have h : iblk m c 4 t = V m c main_v2 := by blk_ext! [iblk, idx t]
  rw [h]
  entry_read
  rfl

/-- A grid point's rows of the array before the norm. -/
theorem tile (c : Dev nD) (t : Fin cfg0.N) : before (iblk m c 0 t) (iblk m c 1 t) (iblk m c 2 t) = rows (φ := .f32) (w := 2048) t (whole m c) := by
  rw [block0, block1, block2]
  funext j
  obtain ⟨a, l, rfl⟩ : ∃ (a : Fin 256) (l : Fin 2048), j = ix2 a l := ⟨j 0, j 1, eq_ix2 j⟩
  exact congrArg (fun z : EReal => _ + z) (product_at _ _ a l)

theorem rows_lt (t : Fin 16) (y : Fin 256) : t.val * 256 + y.val < 4096 := by omega

theorem final_grad (c : Dev nD) : (dats m 0 c).arrAt 5 (cfgs 0).N
    = fun j => gradAt (n := 4096) (whole m c) (m ((c : Thread nD τ).loc main_arg3)) (gain m c) (j 0) (j 1) := by
  refine (dats m 0 c).arrAt_eq_of_covers 5 _ (by decide +kernel) fun t hf y => ?_
  blk_simp
  rw [after0_5, step_grad, tile, block3, block4]
  generalize whole m c = X
  generalize m ((c : Thread nD τ).loc main_arg3) = T
  generalize gain m c = G
  have hi := (idx t).2.2.2.2.2.1
  refine (rfl : _ = (fun j : S4096x2048.Idx => gradAt (n := 4096) X T G (j 0) (j 1)) (ix2 (⟨t.val * 256 + (y 0).val, rows_lt t (y 0)⟩ : Fin 4096) (y 1 : Fin 2048))).trans ?_
  refine congrArg (fun j : S4096x2048.Idx => gradAt (n := 4096) X T G (j 0) (j 1)) (a₂ := (win0_5.blk t).view.emb y) (funext fun a => Fin.ext ?_)
  match a with
  | ⟨0, _⟩ => show _ = win0_5.index t 0 * 256 + 1 * (y 0).val; rw [hi]; show t.val * 256 + _ = t.val * 256 + 1 * _; rw [one_mul]
  | ⟨1, _⟩ => show _ = win0_5.index t 1 * 2048 + 1 * (y 1).val; rw [hi]; show (y 1).val = 0 * 2048 + 1 * (y 1).val; rw [Nat.zero_mul, Nat.zero_add, Nat.one_mul]

theorem final_half (c : Dev nD) : (dats m 0 c).arrAt 6 (cfgs 0).N
    = fun j => gradAt (n := 4096) (whole m c) (m ((c : Thread nD τ).loc main_arg3)) (gain m c) (j 0) (j 1) := by
  refine (dats m 0 c).arrAt_eq_of_covers 6 _ (by decide +kernel) fun t hf y => ?_
  blk_simp
  rw [after0_6, step_half, tile, block3, block4]
  generalize whole m c = X
  generalize m ((c : Thread nD τ).loc main_arg3) = T
  generalize gain m c = G
  have hi := (idx t).2.2.2.2.2.2
  refine (rfl : _ = (fun j : S4096x2048.Idx => gradAt (n := 4096) X T G (j 0) (j 1)) (ix2 (⟨t.val * 256 + (y 0).val, rows_lt t (y 0)⟩ : Fin 4096) (y 1 : Fin 2048))).trans ?_
  refine congrArg (fun j : S4096x2048.Idx => gradAt (n := 4096) X T G (j 0) (j 1)) (a₂ := (win0_6.blk t).view.emb y) (funext fun a => Fin.ext ?_)
  match a with
  | ⟨0, _⟩ => show _ = win0_6.index t 0 * 256 + 1 * (y 0).val; rw [hi]; show t.val * 256 + _ = t.val * 256 + 1 * _; rw [one_mul]
  | ⟨1, _⟩ => show _ = win0_6.index t 1 * 2048 + 1 * (y 1).val; rw [hi]; show (y 1).val = 0 * 2048 + 1 * (y 1).val; rw [Nat.zero_mul, Nat.zero_add, Nat.one_mul]

theorem total_gain (c : Dev nD) (j : S8x2048.Idx) : (outsAt0 m c 15 (by decide)).2.2.2.2.1 j
    = ∑ t : Fin 16, gainPart (rows (φ := .f32) (w := 2048) t (whole m c)) (rows (φ := .f32) (w := 2048) t (m ((c : Thread nD τ).loc main_arg3))) (gain m c) j := by
  refine Sums.carried 16 16 le_rfl (fun n hn => (outsAt0 m c n hn).2.2.2.2.1)
    (fun n hn j => gainPart (rows (φ := .f32) (w := 2048) ⟨n, hn⟩ (whole m c)) (rows (φ := .f32) (w := 2048) ⟨n, hn⟩ (m ((c : Thread nD τ).loc main_arg3))) (gain m c) j)
    (fun n hn A hz hp => ?_) 15 (by decide) j
  refine (step_gain m c ⟨n, hn⟩ A hz hp).trans ?_
  rw [tile, block3, block4]
  rfl

theorem total_loss (c : Dev nD) (j : S8x2048.Idx) : (outsAt0 m c 15 (by decide)).2.2.2.2.2 j
    = ∑ t : Fin 16, lossPart (rows (φ := .f32) (w := 2048) t (whole m c)) (rows (φ := .f32) (w := 2048) t (m ((c : Thread nD τ).loc main_arg3))) (gain m c) j := by
  refine Sums.carried 16 16 le_rfl (fun n hn => (outsAt0 m c n hn).2.2.2.2.2)
    (fun n hn j => lossPart (rows (φ := .f32) (w := 2048) ⟨n, hn⟩ (whole m c)) (rows (φ := .f32) (w := 2048) ⟨n, hn⟩ (m ((c : Thread nD τ).loc main_arg3))) (gain m c) j)
    (fun n hn A hz hp => ?_) 15 (by decide) j
  refine (step_loss m c ⟨n, hn⟩ A hz hp).trans ?_
  rw [tile, block3, block4]
  rfl

theorem final_gain (c : Dev nD) : (dats m 0 c).arrAt 7 (cfgs 0).N
    = fun j => gainAt (n := 4096) (cot (whole m c) (m ((c : Thread nD τ).loc main_arg3)) (gain m c)) (whole m c) (j 1) := by
  refine (dats m 0 c).arrAt_eq_of_after_last 7 t0_15 (by decide +kernel) _ fun j => ?_
  blk_simp
  rw [after0_7, out_gain m c t0_15 rfl]
  refine (congrArg (fun A => k0_pay8 (F := Ideal) A j) (funext (total_gain m c))).trans ?_
  rw [eq_ix2 j]
  pointwise [k0_pay8]
  exact RowNorm.sum_eighths 16 32 (fun s : Fin 4096 => gainRow (n := 4096) (cot (whole m c) (m ((c : Thread nD τ).loc main_arg3)) (gain m c)) (whole m c) s (j 1)) _
    (fun t q r => by omega) fun r t => rfl

theorem final_loss (c : Dev nD) : (dats m 0 c).arrAt 8 (cfgs 0).N
    = fun j => ∑ l : Fin 2048, ∑ s : Fin 4096, part (whole m c) (m ((c : Thread nD τ).loc main_arg3)) (gain m c) s l := by
  refine (dats m 0 c).arrAt_eq_of_after_last 8 t0_15 (by decide +kernel) _ fun j => ?_
  blk_simp
  rw [after0_8, out_loss m c t0_15 rfl]
  refine (congrArg (fun A => k0_pay9 (F := Ideal) A j) (funext (total_loss m c))).trans ?_
  rw [eq_ix2 j]
  pointwise [k0_pay9]
  refine Finset.sum_congr rfl fun l _ => ?_
  exact RowNorm.sum_eighths 16 32 (fun s : Fin 4096 => part (n := 4096) (whole m c) (m ((c : Thread nD τ).loc main_arg3)) (gain m c) s l) _
    (fun t q r => by omega) fun r t => rfl

end Cert.Kernel4Ideal.Hand

end
-- ==== Proof.NormLossRef.lean ====
module

public import proofs.«01_k».proof.Proof.NormLoss

/-! The derivative of the loss of the normed array, entry by entry, and the equation with the kernel. -/

@[expose] public section

set_option maxRecDepth 16384

noncomputable section

open Idealize.ShloMosaic Idealize.ShloMosaic.TcCoe Idealize.SL.Sem

namespace Cert.Reference4Ideal.Hand

open Cert.Reference4Ideal Cert.Reference4Ideal.Gen
open Cert.RowNorm (meanSq inputAt gainAt gainRow)
open Cert.Residual (diff cot part gradAt)
open Cert.Reference6Ideal.Hand (hostScale hostScale_at hostCot hostCot_at hostPull hostPull_at)

variable (X T : FVec Ideal S4096x2048 .f32) (G : FVec Ideal S1x2048 .f32)

/-- The difference from the target. -/
def hostDiff : FVec Ideal S4096x2048 .f32 := subf (hostCot (mulf X (hostScale X)) G) T

theorem hostDiff_at (s : Fin 4096) (l : Fin 2048) : hostDiff X T G (ix2 s l) = diff X T G s l := by
  show hostCot (mulf X (hostScale X)) G (ix2 s l) - T (ix2 s l) = _
  rw [hostCot_at]
  show X (ix2 s l) * hostScale X (ix2 s l) * _ - _ = _
  rw [hostScale_at]
  rfl

/-- The gradient at the normed array. -/
def hostSlope : FVec Ideal S4096x2048 .f32 :=
  mulf (broadcastInDim S4096x2048 ![0] bcast_S4096_S4096x2048_0 (Host.divf (broadcastInDim S4096 ![] bcast_S_S4096 (mulf (constant S_ .f32 0x3F000000#32) (constant S_ .f32 0x3F800000#32))) (broadcastInDim S4096 ![] bcast_S_S4096 (constant S_ .f32 0x45000000#32))))
    (mulf (broadcastInDim S4096x2048 ![] bcast_S_S4096x2048 (constant S_ .f32 0x40000000#32)) (hostDiff X T G))

theorem hostSlope_eq : hostSlope X T G = cot X T G := by
  funext j
  obtain ⟨s, l, rfl⟩ : ∃ (s : Fin 4096) (l : Fin 2048), j = ix2 s l := ⟨j 0, j 1, eq_ix2 j⟩
  show _ = diff X T G s l * _
  rw [← hostDiff_at, ← Residual.slope_eq]
  unfold hostSlope
  generalize hostDiff X T G = D
  pointwise []

/-- The gradient at the array before the norm. -/
def hostGrad : FVec Ideal S4096x2048 .f32 :=
  addf (addf (mulf (hostCot (hostSlope X T G) G) (hostScale X)) (mulf X (hostPull (hostSlope X T G) X G))) (mulf (hostPull (hostSlope X T G) X G) X)

theorem hostGrad_at (s : Fin 4096) (l : Fin 2048) : hostGrad X T G (ix2 s l) = gradAt X T G s l := by
  unfold gradAt
  rw [← RowNorm.input_eq, zero_add, ← hostSlope_eq]
  show hostCot (hostSlope X T G) G (ix2 s l) * hostScale X (ix2 s l) + X (ix2 s l) * hostPull (hostSlope X T G) X G (ix2 s l) + hostPull (hostSlope X T G) X G (ix2 s l) * X (ix2 s l) = _
  rw [hostCot_at, hostScale_at, hostPull_at]

/-- The gain's gradient. -/
def hostGain : FVec Ideal S1x2048 .f32 :=
  shapeCast _ (Host.reduceAdd (shapeCast _ (Host.reduceAdd (mulf (mulf X (hostScale X)) (hostSlope X T G))
    (constant S_ .f32 0x00000000#32) reducesTo_S4096x2048_S2048_d0 h_S_) shapeCasts_S2048_S1x2048) (constant S_ .f32 0x00000000#32) reducesTo_S1x2048_S2048_d0 h_S_) shapeCasts_S2048_S1x2048

theorem hostGain_at (o : Fin 1) (l : Fin 2048) : hostGain X T G (ix2 o l) = gainAt (cot X T G) X l := by
  rw [← hostSlope_eq]
  unfold hostGain
  generalize hostSlope X T G = D
  pointwise []
  refine (Fin.sum_univ_one _).trans ?_
  refine Finset.sum_congr rfl fun s _ => ?_
  rw [hostScale_at, gainRow, mul_comm]

/-- The loss. -/
def hostLoss : FVec Ideal S1x1 .f32 :=
  shapeCast _ (mulf (constant S_ .f32 0x3F000000#32) (Host.reduceAdd (Host.divf (Host.reduceAdd (mulf (hostDiff X T G) (hostDiff X T G))
    (constant S_ .f32 0x00000000#32) reducesTo_S4096x2048_S4096_d1 h_S_) (broadcastInDim S4096 ![] bcast_S_S4096 (constant S_ .f32 0x45000000#32)))
    (constant S_ .f32 0x00000000#32) reducesTo_S4096_S_d0 h_S_)) shapeCasts_S_S1x1

theorem hostLoss_at (j : S1x1.Idx) : hostLoss X T G j = ∑ l : Fin 2048, ∑ s : Fin 4096, part X T G s l := by
  rw [← Residual.loss_eq]
  simp only [← hostDiff_at]
  unfold hostLoss
  generalize hostDiff X T G = D
  rw [eq_ix2 j]
  pointwise []

theorem hidden_eq (Q : FVec Ideal S4096x5632 .bf16) (W : FVec Ideal S5632x2048 .f32) :
    addf X (Host.dotGeneral dot_S4096x5632_S5632x2048_S4096x2048_1_0_0_1_n_n none (extf .f32 Q bitsLt_bf16_f32) W) = Cert.Kernel4Ideal.Hand.hidden Q W X := by
  funext j
  rw [eq_ix2 j]
  pointwise [Cert.Kernel4Ideal.Hand.hidden]

theorem gain_cast (g : FVec Ideal S2048 .f32) : g = shapeCast S2048 (shapeCast S1x2048 g shapeCasts_S2048_S1x2048) Cert.Reference6Ideal.Gen.shapeCasts_S1x2048_S2048 := by
  funext j
  rw [eq_ix1 j]
  pointwise []

end Cert.Reference4Ideal.Hand

namespace Cert.Proof

theorem algebraic4 : Cert.algebraic_Kernel4Ideal_Reference4Ideal := by
  pair_intro
  · exact Cert.Kernel4Ideal.Value.run_blocks m g
  · refine (θ_run _ _ _).mono (fun r h c => ?_) (Cert.Reference4Ideal.Value.run m' g')
    obtain ⟨h0, h1, h2, h3, h4⟩ := h c
    obtain ⟨e0, e1, e2, e3, e4⟩ := hagree c
    have hg := Cert.Reference4Ideal.Hand.gain_cast (m ((c.tc : Thread _ _).loc Cert.Kernel4Ideal.main_arg4))
    have hx := Cert.Reference4Ideal.Hand.hidden_eq (m ((c.tc : Thread _ _).loc Cert.Kernel4Ideal.main_arg2)) (m ((c.tc : Thread _ _).loc Cert.Kernel4Ideal.main_arg0)) (Cert.Kernel4Ideal.Hand.weights m c)
    unfold Cert.Reference4Ideal.Value.res_main_v54 at h0
    unfold Cert.Reference4Ideal.Value.res_main_v55 at h1
    rw [e0, e1, e2, e3, e4, hg] at h0 h1 h2 h3
    refine ⟨?_, ?_, ?_, ?_, h4⟩
    · rw [Cert.Kernel4Ideal.Hand.final_grad m c, Cert.Kernel4Ideal.Hand.whole, ← hx]
      exact h0.trans (funext fun j => (congrArg _ (eq_ix2 j)).trans (Cert.Reference4Ideal.Hand.hostGrad_at _ _ _ (j 0) (j 1)))
    · rw [Cert.Kernel4Ideal.Hand.final_half m c, Cert.Kernel4Ideal.Hand.whole, ← hx]
      exact h1.trans (funext fun j => (congrArg _ (eq_ix2 j)).trans (Cert.Reference4Ideal.Hand.hostGrad_at _ _ _ (j 0) (j 1)))
    · rw [Cert.Kernel4Ideal.Hand.final_gain m c, Cert.Kernel4Ideal.Hand.whole, ← hx]
      exact h2.trans (funext fun j => (congrArg _ (eq_ix2 j)).trans (Cert.Reference4Ideal.Hand.hostGain_at _ _ _ (j 0) (j 1)))
    · rw [Cert.Kernel4Ideal.Hand.final_loss m c, Cert.Kernel4Ideal.Hand.whole, ← hx]
      exact h3.trans (funext fun j => Cert.Reference4Ideal.Hand.hostLoss_at _ _ _ j)

end Cert.Proof

end
-- ==== Proof.SiLU.lean ====
module

public import proofs.«01_k».proof.Proof.Finite

/-! The gated activation's gradient, number by number. -/

@[expose] public section

noncomputable section

open Idealize.ShloMosaic

namespace Cert.SiLU

/-- The logistic function. -/
def sigma (g : EReal) : EReal := Ideal.div (Ideal.ofBits .f32 0x3F800000#32) (Ideal.ofBits .f32 0x3F800000#32 + Ideal.exp (-g))

theorem ofBits_one : Ideal.ofBits .f32 0x3F800000#32 = ((1 : ℝ) : EReal) := by
  simp [Ideal.ofBits, Ideal.ieee, -EReal.coe_mul]
  norm_num

theorem sigma_top : sigma ⊤ = ((1 : ℝ) : EReal) := by
  have h : Ideal.exp (-⊤) = ((0 : ℝ) : EReal) := by rw [EReal.neg_top]; rfl
  rw [sigma, h, ofBits_one, ← EReal.coe_add, Norm.div_coe _ (by norm_num), ← EReal.coe_mul]
  norm_num

theorem sigma_bot : sigma ⊥ = ((0 : ℝ) : EReal) := by
  have h : Ideal.exp (-⊥) = ⊤ := by rw [EReal.neg_bot]; rfl
  rw [sigma, h, ofBits_one, EReal.coe_add_top, Ideal.div, if_neg EReal.top_ne_zero, EReal.inv_top, mul_zero, EReal.coe_zero]

theorem sigma_coe (g : ℝ) : ∃ s : ℝ, sigma (g : EReal) = (s : EReal) := by
  have h : Ideal.exp (-(g : EReal)) = ((Real.exp (-g) : ℝ) : EReal) := by rw [← EReal.coe_neg]; rfl
  refine ⟨1 * (1 + Real.exp (-g))⁻¹, ?_⟩
  rw [sigma, h, ofBits_one, ← EReal.coe_add, Norm.div_coe _ (by positivity), EReal.coe_mul]

/-- The gate's gradient as the derivative of a product writes it, and with the logistic function taken out. -/
theorem gate_eq (z : ℝ) (g : EReal) :
    (z : EReal) * sigma g + g * z * (sigma g * (Ideal.ofBits .f32 0x3F800000#32 - sigma g))
      = z * (sigma g * (Ideal.ofBits .f32 0x3F800000#32 + g * (Ideal.ofBits .f32 0x3F800000#32 - sigma g))) := by
  rw [ofBits_one]
  induction g with
  | top =>
    rw [sigma_top, ← EReal.coe_sub, sub_self, EReal.coe_zero]
    simp
  | bot =>
    rw [sigma_bot]
    simp
  | coe g =>
    obtain ⟨s, hs⟩ := sigma_coe g
    rw [hs]
    norm_cast
    ring

end Cert.SiLU

end
-- ==== Proof.Loads.lean ====
module

public import proofs.«01_k».proof.Proof.Tiles
public import proofs.«01_k».proof.Proof.RowSlab

/-! Whole arrays and runs of rows, read. -/

@[expose] public section

noncomputable section

open Idealize.ShloMosaic Idealize.ShloMosaic.TcCoe Idealize.SL.Sem

namespace Cert.Tiles

/-- A load of everything. -/
theorem load_whole {S : Shape} {e : EltTy} (X : S.Idx → Elt Ideal e) {off : Fin S.rank → Nat} (inb : ∀ a, off a + S.size a ≤ S.size a)
    (ho : ∀ a, off a = 0) : View.ld (Val := Elt Ideal) (e' := e) X (Rect.unit (s := S) off S.size inb) = X :=
  funext fun j => congrArg X (funext fun a => Fin.ext ((Rect.idx_unit_val off S.size inb j a).trans (by rw [ho a]; exact Nat.zero_add _)))

open Cert.RowNorm (slab)

theorem load_slab {n : Nat} (o : Nat) (h : o + 128 ≤ n) (X : FVec Ideal ⟨2, ![n, 2048]⟩ .f32) (inb) :
    View.ld (Val := Elt Ideal) (e' := .f32) X (Rect.unit (s := ⟨2, ![n, 2048]⟩) ![o, 0] ![128, 2048] inb) = slab o h X := by
  funext j
  refine congrArg X (funext fun a => Fin.ext ?_)
  rw [Rect.idx_unit_val]
  match a with
  | ⟨0, _⟩ => rfl
  | ⟨1, _⟩ => exact Nat.zero_add _

theorem slice_slab {n : Nat} (o : Nat) (h : o + 128 ≤ n) (D : FVec Ideal ⟨2, ![n, 2048]⟩ .f32) (hs) :
    extractStridedSlice ⟨2, ![128, 2048]⟩ ![o, 0] D hs = slab o h D := by
  funext j
  refine congrArg D (funext fun a => Fin.ext ?_)
  match a with
  | ⟨0, _⟩ => rfl
  | ⟨1, _⟩ => exact Nat.zero_add _

end Cert.Tiles

end
-- ==== Proof.Gate.lean ====
module

public import proofs.«01_k».proof.Defs
public import proofs.«01_k».proof.Proof.Gen.Kernel5Ideal.Value
public import proofs.«01_k».proof.Proof.Gen.Reference5Ideal.Run
public import proofs.«01_k».proof.Proof.SiLU
public import proofs.«01_k».proof.Proof.Loads
public import Idealize.ShloMosaic.Lib.Pipeline.ReadBack
public import Idealize.ShloMosaic.Lib.Claim

/-! The down projection's data gradient and the gate's gradient in one call: sixteen grid points, each a tile of 1024 rows and 1408 columns. -/

@[expose] public section

set_option maxRecDepth 16384

noncomputable section

open Idealize.ShloMosaic Idealize.ShloMosaic.TcCoe Idealize.SL.Sem
open Idealize.ShloMosaic.Pipeline (Dat)

namespace Cert.Kernel5Ideal.Hand

open Cert.Kernel5Ideal Cert.Kernel5Ideal.Gen
open Cert.SiLU (sigma)
open Cert.Tiles (load_whole)

variable (m : (ℓ : Loc nD τ sig) → Buf (Elt Ideal) ℓ)

/-- An entry of the product of the cotangent with the weights. -/
def entry {n k : Nat} (D : FVec Ideal ⟨2, ![n, 2048]⟩ .bf16) (W : FVec Ideal ⟨2, ![k, 2048]⟩ .bf16) (a : Fin n) (b : Fin k) : EReal :=
  ∑ l : Fin 2048, D (ix2 a l) * W (ix2 b l)

/-- The gradient at the gate of one entry. -/
def gateAt (d g u : EReal) : EReal :=
  d * u * (sigma g * (Ideal.ofBits .f32 0x3F800000#32 + g * (Ideal.ofBits .f32 0x3F800000#32 - sigma g)))

/-- The gradient at the other factor of one entry. -/
def upAt (d g : EReal) : EReal := d * (g * sigma g)

theorem zero_minus (g : EReal) : Ideal.ofBits .f32 0x00000000#32 - g = -g := by
  rw [show Ideal.ofBits .f32 0x00000000#32 = 0 by simp [Ideal.ofBits, Ideal.ieee], zero_sub]

theorem entry_pay (A : FVec Ideal S1024x2048 .bf16) (B : FVec Ideal S1408x2048 .bf16) (a : Fin 1024) (b : Fin 1408) :
    k0_pay1 (F := Ideal) A B (ix2 a b) = entry A B a b := by
  pointwise [k0_pay1, entry]

theorem sigma_pay (G : FVec Ideal S1024x1408 .bf16) (a : Fin 1024) (b : Fin 1408) :
    k0_pay3 (F := Ideal) G (ix2 a b) = sigma (G (ix2 a b)) := by
  unfold sigma
  rw [← zero_minus]
  pointwise [k0_pay3, k0_pay2]

theorem gate_pay (A : FVec Ideal S1024x2048 .bf16) (B : FVec Ideal S1408x2048 .bf16) (G U : FVec Ideal S1024x1408 .bf16) (a : Fin 1024) (b : Fin 1408) :
    k0_pay4 (F := Ideal) A B G U (ix2 a b) = gateAt (entry A B a b) (G (ix2 a b)) (U (ix2 a b)) := by
  rw [← entry_pay, gateAt, ← sigma_pay]
  generalize h1 : k0_pay1 (F := Ideal) A B = E
  generalize h3 : k0_pay3 (F := Ideal) G = S
  pointwise [k0_pay4, k0_pay2, h1, h3]

theorem up_pay (A : FVec Ideal S1024x2048 .bf16) (B : FVec Ideal S1408x2048 .bf16) (G : FVec Ideal S1024x1408 .bf16) (a : Fin 1024) (b : Fin 1408) :
    k0_pay5 (F := Ideal) A B G (ix2 a b) = upAt (entry A B a b) (G (ix2 a b)) := by
  rw [← entry_pay, upAt, ← sigma_pay]
  generalize h1 : k0_pay1 (F := Ideal) A B = E
  generalize h3 : k0_pay3 (F := Ideal) G = S
  pointwise [k0_pay5, k0_pay2, h1, h3]

theorem load_cot (A : FVec Ideal S1024x2048 .bf16) : View.ld (Val := Elt Ideal) (e' := .bf16) A r0_0 = A :=
  load_whole (S := S1024x2048) (e := .bf16) A (off := ![0, 0]) inb_S1024x2048_S1024x2048_0_0 (Fin.forall_fin_two.mpr ⟨rfl, rfl⟩)

theorem load_weights (B : FVec Ideal S1408x2048 .bf16) : View.ld (Val := Elt Ideal) (e' := .bf16) B r0_1 = B :=
  load_whole (S := S1408x2048) (e := .bf16) B (off := ![0, 0]) inb_S1408x2048_S1408x2048_0_0 (Fin.forall_fin_two.mpr ⟨rfl, rfl⟩)

theorem load_tile (G : FVec Ideal S1024x1408 .bf16) : View.ld (Val := Elt Ideal) (e' := .bf16) G r0_2 = G :=
  load_whole (S := S1024x1408) (e := .bf16) G (off := ![0, 0]) inb_S1024x1408_S1024x1408_0_0 (Fin.forall_fin_two.mpr ⟨rfl, rfl⟩)

/-- A tile of the gate's gradient. -/
theorem out_gate (A : FVec Ideal S1024x2048 .bf16) (B : FVec Ideal S1408x2048 .bf16) (G U : FVec Ideal S1024x1408 .bf16) (y : S1024x1408.Idx) :
    out0_4 (F := Ideal) A B G U y = gateAt (entry A B (y 0) (y 1)) (G y) (U y) := by
  unfold out0_4
  canon_tiles x h
  obtain rfl : y = x := funext (Fin.forall_fin_two.mpr ⟨Fin.ext h0, Fin.ext h1⟩)
  rw [load_cot, load_weights, load_tile, load_tile, eq_ix2 y]
  exact gate_pay A B G U (y 0) (y 1)

theorem out_up (A : FVec Ideal S1024x2048 .bf16) (B : FVec Ideal S1408x2048 .bf16) (G U : FVec Ideal S1024x1408 .bf16) (y : S1024x1408.Idx) :
    out0_5 (F := Ideal) A B G U y = upAt (entry A B (y 0) (y 1)) (G y) := by
  unfold out0_5
  canon_tiles x h
  obtain rfl : y = x := funext (Fin.forall_fin_two.mpr ⟨Fin.ext h0, Fin.ext h1⟩)
  rw [load_cot, load_weights, load_tile, eq_ix2 y]
  exact up_pay A B G (y 0) (y 1)

/-- The weights as the call takes them. -/
def weights (c : Dev nD) : FVec Ideal S5632x2048 .bf16 := V (F := Ideal) m c main_v1

theorem idx : ∀ t : Fin cfg0.N, win0_0.index t = ![t.val / 4, 0] ∧ win0_1.index t = ![t.val % 4, 0] ∧ win0_2.index t = ![t.val / 4, t.val % 4]
    ∧ win0_3.index t = ![t.val / 4, t.val % 4] ∧ win0_4.index t = ![t.val / 4, t.val % 4] ∧ win0_5.index t = ![t.val / 4, t.val % 4] :=
  (by decide +kernel : ∀ t : Fin grid0.N, _)

theorem row_lt (t : Fin cfg0.N) (a : Fin 1024) : t.val / 4 * 1024 + a.val < 4096 := by
  have := t.isLt; have h : cfg0.N = 16 := by decide
  omega

theorem col_lt (t : Fin cfg0.N) (b : Fin 1408) : t.val % 4 * 1408 + b.val < 5632 := by omega

theorem block0 (c : Dev nD) (t : Fin cfg0.N) (a : Fin 1024) (l : Fin 2048) : iblk m c 0 t (ix2 a l)
    = (m ((c : Thread nD τ).loc main_arg0) : FVec Ideal S4096x2048 .bf16) (ix2 ⟨t.val / 4 * 1024 + a.val, row_lt t a⟩ l) := by
  show _ = m (_) _
  blk_ext! [iblk, V, idx t]

theorem block1 (c : Dev nD) (t : Fin cfg0.N) (b : Fin 1408) (l : Fin 2048) : iblk m c 1 t (ix2 b l)
    = weights m c (ix2 ⟨t.val % 4 * 1408 + b.val, col_lt t b⟩ l) := by
  unfold weights
  blk_ext! [iblk, idx t]

theorem block2 (c : Dev nD) (t : Fin cfg0.N) (a : Fin 1024) (b : Fin 1408) : iblk m c 2 t (ix2 a b)
    = (m ((c : Thread nD τ).loc main_arg2) : FVec Ideal S4096x5632 .bf16) (ix2 ⟨t.val / 4 * 1024 + a.val, row_lt t a⟩ ⟨t.val % 4 * 1408 + b.val, col_lt t b⟩) := by
  show _ = m (_) _
  blk_ext! [iblk, V, idx t]

theorem block3 (c : Dev nD) (t : Fin cfg0.N) (a : Fin 1024) (b : Fin 1408) : iblk m c 3 t (ix2 a b)
    = (m ((c : Thread nD τ).loc main_arg3) : FVec Ideal S4096x5632 .bf16) (ix2 ⟨t.val / 4 * 1024 + a.val, row_lt t a⟩ ⟨t.val % 4 * 1408 + b.val, col_lt t b⟩) := by
  show _ = m (_) _
  blk_ext! [iblk, V, idx t]

/-- A tile of the product. -/
theorem entry_tile (c : Dev nD) (t : Fin cfg0.N) (a : Fin 1024) (b : Fin 1408) :
    entry (iblk m c 0 t) (iblk m c 1 t) a b
      = entry (n := 4096) (k := 5632) (m ((c : Thread nD τ).loc main_arg0)) (weights m c) ⟨t.val / 4 * 1024 + a.val, row_lt t a⟩ ⟨t.val % 4 * 1408 + b.val, col_lt t b⟩ :=
  Finset.sum_congr rfl fun l _ => congr (congrArg HMul.hMul (block0 m c t a l)) (block1 m c t b l)

theorem final_gate (c : Dev nD) : (dats m 0 c).arrAt 4 (cfgs 0).N
    = fun j => gateAt (entry (n := 4096) (k := 5632) (m ((c : Thread nD τ).loc main_arg0)) (weights m c) (j 0) (j 1))
      ((m ((c : Thread nD τ).loc main_arg2) : FVec Ideal S4096x5632 .bf16) j) ((m ((c : Thread nD τ).loc main_arg3) : FVec Ideal S4096x5632 .bf16) j) := by
  refine (dats m 0 c).arrAt_eq_of_covers 4 _ (by decide +kernel) fun t hf y => ?_
  blk_simp
  rw [after0_4]
  obtain ⟨a, b, rfl⟩ : ∃ (a : Fin 1024) (b : Fin 1408), y = ix2 a b := ⟨y 0, y 1, eq_ix2 y⟩
  refine (out_gate _ _ _ _ (ix2 a b)).trans ?_
  rw [block2, block3]
  refine (congrArg (fun d => gateAt d _ _) (entry_tile m c t a b)).trans ?_
  generalize weights m c = W
  have hi := (idx t).2.2.2.2.1
  refine congrArg (fun j : S4096x5632.Idx => gateAt (entry (n := 4096) (k := 5632) (m ((c : Thread nD τ).loc main_arg0)) W (j 0) (j 1))
      ((m ((c : Thread nD τ).loc main_arg2) : FVec Ideal S4096x5632 .bf16) j) ((m ((c : Thread nD τ).loc main_arg3) : FVec Ideal S4096x5632 .bf16) j))
    (a₁ := ix2 ⟨t.val / 4 * 1024 + a.val, row_lt t a⟩ ⟨t.val % 4 * 1408 + b.val, col_lt t b⟩) (a₂ := (win0_4.blk t).view.emb (ix2 a b)) (funext fun i => Fin.ext ?_)
  match i with
  | ⟨0, _⟩ => show _ = win0_4.index t 0 * 1024 + 1 * a.val; rw [hi]; show t.val / 4 * 1024 + _ = t.val / 4 * 1024 + 1 * _; rw [one_mul]
  | ⟨1, _⟩ => show _ = win0_4.index t 1 * 1408 + 1 * b.val; rw [hi]; show t.val % 4 * 1408 + _ = t.val % 4 * 1408 + 1 * _; rw [one_mul]

theorem final_up (c : Dev nD) : (dats m 0 c).arrAt 5 (cfgs 0).N
    = fun j => upAt (entry (n := 4096) (k := 5632) (m ((c : Thread nD τ).loc main_arg0)) (weights m c) (j 0) (j 1))
      ((m ((c : Thread nD τ).loc main_arg2) : FVec Ideal S4096x5632 .bf16) j) := by
  refine (dats m 0 c).arrAt_eq_of_covers 5 _ (by decide +kernel) fun t hf y => ?_
  blk_simp
  rw [after0_5]
  obtain ⟨a, b, rfl⟩ : ∃ (a : Fin 1024) (b : Fin 1408), y = ix2 a b := ⟨y 0, y 1, eq_ix2 y⟩
  refine (out_up _ _ _ (iblk m c 3 t) (ix2 a b)).trans ?_
  rw [block2]
  refine (congrArg (fun d => upAt d _) (entry_tile m c t a b)).trans ?_
  generalize weights m c = W
  have hi := (idx t).2.2.2.2.2
  refine congrArg (fun j : S4096x5632.Idx => upAt (entry (n := 4096) (k := 5632) (m ((c : Thread nD τ).loc main_arg0)) W (j 0) (j 1))
      ((m ((c : Thread nD τ).loc main_arg2) : FVec Ideal S4096x5632 .bf16) j))
    (a₁ := ix2 ⟨t.val / 4 * 1024 + a.val, row_lt t a⟩ ⟨t.val % 4 * 1408 + b.val, col_lt t b⟩) (a₂ := (win0_5.blk t).view.emb (ix2 a b)) (funext fun i => Fin.ext ?_)
  match i with
  | ⟨0, _⟩ => show _ = win0_5.index t 0 * 1024 + 1 * a.val; rw [hi]; show t.val / 4 * 1024 + _ = t.val / 4 * 1024 + 1 * _; rw [one_mul]
  | ⟨1, _⟩ => show _ = win0_5.index t 1 * 1408 + 1 * b.val; rw [hi]; show t.val % 4 * 1408 + _ = t.val % 4 * 1408 + 1 * _; rw [one_mul]

/-- The weights are the third dimension's only slice. -/
theorem weights_eq (c : Dev nD) : weights m c = shapeCast S5632x2048 (m ((c : Thread nD τ).loc main_arg1) : FVec Ideal S1x5632x2048 .f32) shapeCasts_S1x5632x2048_S5632x2048 := by
  unfold weights
  entry_read
  rfl

end Cert.Kernel5Ideal.Hand

namespace Cert.Reference5Ideal.Hand

open Cert.Reference5Ideal Cert.Reference5Ideal.Gen
open Cert.Kernel5Ideal.Hand (entry gateAt upAt)
open Cert.SiLU (sigma)

/-- The cotangent of the gated activation. -/
def cot (Q : FVec Ideal S4096x2048 .bf16) (W : FVec Ideal S1x5632x2048 .f32) : FVec Ideal S4096x5632 .f32 :=
  Host.dotGeneral dot_S4096x2048_S5632x2048_S4096x5632_1_1_0_0_n_n none (extf .f32 Q bitsLt_bf16_f32) (shapeCast _ W shapeCasts_S1x5632x2048_S5632x2048)

theorem cot_at (Q : FVec Ideal S4096x2048 .bf16) (W : FVec Ideal S1x5632x2048 .f32) (a : Fin 4096) (b : Fin 5632) :
    cot Q W (ix2 a b) = entry Q (shapeCast S5632x2048 W shapeCasts_S1x5632x2048_S5632x2048) a b := by
  unfold entry
  generalize h : shapeCast S5632x2048 W shapeCasts_S1x5632x2048_S5632x2048 = W'
  pointwise [cot, h]

/-- The logistic function of every entry. -/
def sig (G : FVec Ideal S4096x5632 .bf16) : FVec Ideal S4096x5632 .f32 :=
  Host.divf (broadcastInDim S4096x5632 ![] bcast_S_S4096x5632 (constant S_ .f32 0x3F800000#32)) (addf (broadcastInDim S4096x5632 ![] bcast_S_S4096x5632 (constant S_ .f32 0x3F800000#32)) (Host.exp (Host.negf (extf .f32 G bitsLt_bf16_f32))))

theorem sig_at (G : FVec Ideal S4096x5632 .bf16) (j : S4096x5632.Idx) : sig G j = sigma (G j) := by
  rw [eq_ix2 j]
  pointwise [sig, sigma]

/-- The gate's gradient. -/
def gate (D : FVec Ideal S4096x5632 .f32) (G U : FVec Ideal S4096x5632 .bf16) : FVec Ideal S4096x5632 .bf16 :=
  truncf .bf16 (addf (mulf (mulf D (extf .f32 U bitsLt_bf16_f32)) (sig G)) (mulf (mulf (extf .f32 G bitsLt_bf16_f32) (mulf D (extf .f32 U bitsLt_bf16_f32)))
    (mulf (sig G) (subf (broadcastInDim S4096x5632 ![] bcast_S_S4096x5632 (constant S_ .f32 0x3F800000#32)) (sig G))))) bitsLt_bf16_f32

theorem gate_at (D : FVec Ideal S4096x5632 .f32) (G U : FVec Ideal S4096x5632 .bf16) (j : S4096x5632.Idx)
    (hd : ∃ d : ℝ, D j = d) (hu : ∃ u : ℝ, U j = u) : gate D G U j = gateAt (D j) (G j) (U j) := by
  obtain ⟨d, hd⟩ := hd
  obtain ⟨u, hu⟩ := hu
  have h := SiLU.gate_eq (d * u) (G j)
  rw [EReal.coe_mul, ← hd, ← hu, ← sig_at] at h
  unfold gateAt
  rw [← sig_at, ← h]
  generalize hS : sig G = S
  rw [eq_ix2 j]
  pointwise [gate, hS]

/-- The other factor's gradient. -/
def up (D : FVec Ideal S4096x5632 .f32) (G : FVec Ideal S4096x5632 .bf16) : FVec Ideal S4096x5632 .bf16 :=
  truncf .bf16 (mulf (mulf (extf .f32 G bitsLt_bf16_f32) (sig G)) D) bitsLt_bf16_f32

theorem up_at (D : FVec Ideal S4096x5632 .f32) (G : FVec Ideal S4096x5632 .bf16) (j : S4096x5632.Idx) :
    up D G j = upAt (D j) (G j) := by
  unfold upAt
  rw [← sig_at, mul_comm]
  generalize hS : sig G = S
  rw [eq_ix2 j]
  pointwise [up, hS]

/-- A sum of products of finite numbers is finite. -/
theorem entry_real {n k : Nat} (D : FVec Ideal ⟨2, ![n, 2048]⟩ .bf16) (W : FVec Ideal ⟨2, ![k, 2048]⟩ .bf16)
    (hD : ∀ j, ∃ r : ℝ, D j = r) (hW : ∀ j, ∃ r : ℝ, W j = r) (a : Fin n) (b : Fin k) : ∃ r : ℝ, entry D W a b = r := by
  choose f hf using hD
  choose w hw using hW
  refine ⟨∑ l : Fin 2048, f (ix2 a l) * w (ix2 b l), ?_⟩
  refine (Finset.sum_congr rfl fun l _ => ?_).trans (map_sum (⟨⟨((↑) : ℝ → EReal), rfl⟩, EReal.coe_add⟩ : ℝ →+ EReal) (fun l => f (ix2 a l) * w (ix2 b l)) Finset.univ).symm
  rw [hf, hw]
  exact (EReal.coe_mul _ _).symm

theorem cot_real (Q : FVec Ideal S4096x2048 .bf16) (W : FVec Ideal S1x5632x2048 .f32)
    (hQ : ∀ j, ∃ r : ℝ, Q j = r) (hW : ∀ j, ∃ r : ℝ, W j = r) (j : S4096x5632.Idx) : ∃ r : ℝ, cot Q W j = r := by
  obtain ⟨a, b, rfl⟩ : ∃ (a : Fin 4096) (b : Fin 5632), j = ix2 a b := ⟨j 0, j 1, eq_ix2 j⟩
  rw [cot_at]
  exact entry_real _ _ hQ (fun i => hW _) a b

end Cert.Reference5Ideal.Hand

namespace Cert.Proof

theorem algebraic5 [hP : Cert.Pre_silu_finite.Facts] : Cert.algebraic_Kernel5Ideal_Reference5Ideal_pre_silu_finite := by
  pair_intro
  · exact Cert.Kernel5Ideal.Value.run_blocks m g
  · refine (θ_run _ _ _).mono (fun r h c => ?_) (Cert.Reference5Ideal.Value.run m' g')
    have hD := fun j => Cert.Finite.real_of_test _ (congrFun (hpre c).1 j)
    have hW := fun j => Cert.Finite.real_of_test _ (congrFun (hpre c).2.1 j)
    have hU := fun j => Cert.Finite.real_of_test _ (congrFun (hpre c).2.2 j)
    obtain ⟨h0, h1, h3⟩ := h c
    obtain ⟨e0, e1, e2, e3⟩ := hagree c
    rw [e0, e1, e2, e3] at h0
    rw [e0, e1, e2] at h1
    refine ⟨?_, ?_, h3⟩
    · rw [Cert.Kernel5Ideal.Hand.final_gate m c, Cert.Kernel5Ideal.Hand.weights_eq]
      refine h0.trans (funext fun j => ?_)
      refine (Cert.Reference5Ideal.Hand.gate_at (Cert.Reference5Ideal.Hand.cot _ _) _ _ j (Cert.Reference5Ideal.Hand.cot_real _ _ hD hW j) (hU j)).trans ?_
      refine congrArg (fun d => Cert.Kernel5Ideal.Hand.gateAt d _ _) ?_
      exact (congrArg _ (eq_ix2 j)).trans (Cert.Reference5Ideal.Hand.cot_at _ _ (j 0) (j 1))
    · rw [Cert.Kernel5Ideal.Hand.final_up m c, Cert.Kernel5Ideal.Hand.weights_eq]
      refine h1.trans (funext fun j => ?_)
      refine (Cert.Reference5Ideal.Hand.up_at (Cert.Reference5Ideal.Hand.cot _ _) _ j).trans ?_
      refine congrArg (fun d => Cert.Kernel5Ideal.Hand.upAt d _) ?_
      exact (congrArg _ (eq_ix2 j)).trans (Cert.Reference5Ideal.Hand.cot_at _ _ (j 0) (j 1))

end Cert.Proof

end
-- ==== Proof.NormFfn.lean ====
module

public import proofs.«01_k».proof.Defs
public import proofs.«01_k».proof.Proof.Gen.Kernel6Ideal.Value
public import proofs.«01_k».proof.Proof.NormRef
public import proofs.«01_k».proof.Proof.Tiles
public import Idealize.ShloMosaic.Lib.Pipeline.ReadBack
public import Idealize.ShloMosaic.Lib.Claim

/-! The gradient of the norm before the feed-forward block: eight grid points, each over 512 rows. -/

@[expose] public section

set_option maxRecDepth 16384

noncomputable section

open Idealize.ShloMosaic Idealize.ShloMosaic.TcCoe Idealize.SL.Sem
open Idealize.ShloMosaic.Pipeline (Dat)

namespace Cert.Kernel6Ideal.Hand

open Cert.Kernel6Ideal Cert.Kernel6Ideal.Gen Cert.Tiles
open Cert.RowNorm (meanSq inputAt gainAt gainRow)

variable (m : (ℓ : Loc nD τ sig) → Buf (Elt Ideal) ℓ)

theorem input_pay (X D R : FVec Ideal S512x2048 .f32) (G : FVec Ideal S1x2048 .f32) (a : Fin 512) (l : Fin 2048) :
    k0_pay1 (F := Ideal) (k0_pay3 (F := Ideal) X) R (k0_pay9 (F := Ideal) X D G) (ix2 a l) = inputAt D X R G a l := by
  pointwise [k0_pay1, k0_pay9, k0_pay4, k0_pay3, inputAt, meanSq]

theorem gain_pay (X D : FVec Ideal S512x2048 .f32) (r : Fin 8) (l : Fin 2048) :
    k0_pay5 (F := Ideal) X D (ix2 r l)
      = ∑ q : Fin 64, gainRow D X (⟨q.val * 8 + r.val, by have := q.isLt; have := r.isLt; omega⟩ : Fin 512) l := by
  pointwise [k0_pay5, k0_pay4, k0_pay3, gainRow, meanSq]

/-- What a grid point stores of the input's gradient. -/
theorem step_input (c : Dev nD) (t : Fin cfg0.N) : (outsAt0 m c t.val t.isLt).1
    = k0_pay1 (F := Ideal) (k0_pay3 (F := Ideal) (iblk m c 1 t)) (iblk m c 3 t) (k0_pay9 (F := Ideal) (iblk m c 1 t) (iblk m c 0 t) (iblk m c 2 t)) := by
  have hN : t.val < 8 := t.isLt
  by_cases h0 : t.val % 8 = 0
  · rw [outsAt0_A m c t h0 (by omega) (by omega)]
    frame_out
  · by_cases h2 : t.val % 8 = 7
    · rw [outsAt0_C m c t h0 (by omega) h2]
      frame_out
    · rw [outsAt0_B m c t h0 (by omega) h2]
      frame_out

theorem step_input16 (c : Dev nD) (t : Fin cfg0.N) : (outsAt0 m c t.val t.isLt).2.1
    = k0_pay2 (F := Ideal) (k0_pay3 (F := Ideal) (iblk m c 1 t)) (iblk m c 3 t) (k0_pay9 (F := Ideal) (iblk m c 1 t) (iblk m c 0 t) (iblk m c 2 t)) := by
  have hN : t.val < 8 := t.isLt
  by_cases h0 : t.val % 8 = 0
  · rw [outsAt0_A m c t h0 (by omega) (by omega)]
    frame_out
  · by_cases h2 : t.val % 8 = 7
    · rw [outsAt0_C m c t h0 (by omega) h2]
      frame_out
    · rw [outsAt0_B m c t h0 (by omega) h2]
      frame_out

/-- The gain's running sums after a grid point. -/
theorem step_gain (c : Dev nD) (t : Fin cfg0.N) (A : FVec Ideal S8x2048 .f32) (hz : t.val % 8 = 0 → A = fun _ => (0 : EReal))
    (hp : ¬t.val % 8 = 0 → A = (outsAt0 m c (t.val - 1) (Nat.lt_of_le_of_lt (Nat.sub_le ..) t.isLt)).2.2.2) :
    (outsAt0 m c t.val t.isLt).2.2.2 = fun j => A j + k0_pay5 (F := Ideal) (iblk m c 1 t) (iblk m c 0 t) j := by
  have hN : t.val < 8 := t.isLt
  by_cases h0 : t.val % 8 = 0
  · rw [hz h0, outsAt0_A m c t h0 (by omega) (by omega)]
    frame_out
    funext j
    rw [eq_ix2 j, zero_add]
    pointwise [k0_pay6]
  · rw [hp h0]
    by_cases h2 : t.val % 8 = 7
    · rw [outsAt0_C m c t h0 (by omega) h2]
      frame_out
      simp only [read_unread_whole]
      generalize (outsAt0 m c (t.val - 1) _).2.2.2 = A
      funext j
      rw [eq_ix2 j]
      pointwise [k0_pay7]
    · rw [outsAt0_B m c t h0 (by omega) h2]
      frame_out
      simp only [read_unread_whole]
      generalize (outsAt0 m c (t.val - 1) _).2.2.2 = A
      funext j
      rw [eq_ix2 j]
      pointwise [k0_pay7]

/-- The last grid point adds the eight running sums. -/
theorem out_gain (c : Dev nD) (t : Fin cfg0.N) (h : t.val % 8 = 7) : (outsAt0 m c t.val t.isLt).2.2.1
    = k0_pay8 (F := Ideal) (outsAt0 m c t.val t.isLt).2.2.2 := by
  have hN : t.val < 8 := t.isLt
  rw [outsAt0_C m c t (by omega) (by omega) h]
  frame_open
  simp (disch := decide) only [↓ View.readCov_skip, ↓ View.readCov_cons_toLoadRect, ↓ View.readCov_fill]
  frame_out

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] :=
  (by decide +kernel : ∀ t : Fin grid0.N, _)

/-- The rows of an array that a grid point works on. -/
def rows (t : Fin 8) (X : FVec Ideal S4096x2048 .f32) : FVec Ideal S512x2048 .f32 := fun j =>
  X (ix2 (⟨t.val * 512 + (j 0).val, by have h : (j 0).val < 512 := (j 0).isLt; omega⟩ : Fin 4096) (j 1 : Fin 2048))

theorem block0 (c : Dev nD) (t : Fin cfg0.N) : iblk m c 0 t = rows t (m ((c : Thread nD τ).loc main_arg0)) := by
  funext j
  rw [eq_ix2 j]
  show _ = m ((c : Thread nD τ).loc main_arg0) _
  blk_ext! [iblk, V, idx t]

theorem block1 (c : Dev nD) (t : Fin cfg0.N) : iblk m c 1 t = rows t (m ((c : Thread nD τ).loc main_arg1)) := by
  funext j
  rw [eq_ix2 j]
  show _ = m ((c : Thread nD τ).loc main_arg1) _
  blk_ext! [iblk, V, idx t]

theorem block2 (c : Dev nD) (t : Fin cfg0.N) : iblk m c 2 t = m ((c : Thread nD τ).loc main_arg2) := by
  blk_ext! [iblk, V, idx t]

theorem block3 (c : Dev nD) (t : Fin cfg0.N) : iblk m c 3 t = rows t (m ((c : Thread nD τ).loc main_arg3)) := by
  funext j
  rw [eq_ix2 j]
  show _ = m ((c : Thread nD τ).loc main_arg3) _
  blk_ext! [iblk, V, idx t]

theorem rows_lt (t : Fin 8) (y : Fin 512) : t.val * 512 + y.val < 4096 := by omega

theorem final_input (c : Dev nD) : (dats m 0 c).arrAt 4 (cfgs 0).N
    = fun j => inputAt (n := 4096) (m ((c : Thread nD τ).loc main_arg0)) (m ((c : Thread nD τ).loc main_arg1))
      (m ((c : Thread nD τ).loc main_arg3)) (m ((c : Thread nD τ).loc main_arg2)) (j 0) (j 1) := by
  refine (dats m 0 c).arrAt_eq_of_covers 4 _ (by decide +kernel) fun t hf y => ?_
  blk_simp
  rw [after0_4, step_input, block0, block1, block2, block3]
  generalize m ((c : Thread nD τ).loc main_arg0) = X0
  generalize m ((c : Thread nD τ).loc main_arg1) = X1
  generalize m ((c : Thread nD τ).loc main_arg2) = X2
  generalize m ((c : Thread nD τ).loc main_arg3) = X3
  have hi := (idx t).2.2.2.2.1
  refine ((congrArg _ (eq_ix2 y)).trans (input_pay _ _ _ _ (y 0) (y 1))).trans ?_
  refine (rfl : _ = (fun j : S4096x2048.Idx => inputAt (n := 4096) X0 X1 X3 X2 (j 0) (j 1)) (ix2 (⟨t.val * 512 + (y 0).val, rows_lt t (y 0)⟩ : Fin 4096) (y 1 : Fin 2048))).trans ?_
  refine congrArg (fun j : S4096x2048.Idx => inputAt (n := 4096) X0 X1 X3 X2 (j 0) (j 1)) (a₂ := (win0_4.blk t).view.emb y) (funext fun a => Fin.ext ?_)
  match a with
  | ⟨0, _⟩ => show _ = win0_4.index t 0 * 512 + 1 * (y 0).val; rw [hi]; show t.val * 512 + _ = t.val * 512 + 1 * _; rw [one_mul]
  | ⟨1, _⟩ => show _ = win0_4.index t 1 * 2048 + 1 * (y 1).val; rw [hi]; show (y 1).val = 0 * 2048 + 1 * (y 1).val; rw [Nat.zero_mul, Nat.zero_add, Nat.one_mul]

theorem final_input16 (c : Dev nD) : (dats m 0 c).arrAt 5 (cfgs 0).N
    = fun j => inputAt (n := 4096) (m ((c : Thread nD τ).loc main_arg0)) (m ((c : Thread nD τ).loc main_arg1))
      (m ((c : Thread nD τ).loc main_arg3)) (m ((c : Thread nD τ).loc main_arg2)) (j 0) (j 1) := by
  refine (dats m 0 c).arrAt_eq_of_covers 5 _ (by decide +kernel) fun t hf y => ?_
  blk_simp
  rw [after0_5, step_input16, block0, block1, block2, block3]
  generalize m ((c : Thread nD τ).loc main_arg0) = X0
  generalize m ((c : Thread nD τ).loc main_arg1) = X1
  generalize m ((c : Thread nD τ).loc main_arg2) = X2
  generalize m ((c : Thread nD τ).loc main_arg3) = X3
  have hi := (idx t).2.2.2.2.2
  refine ((congrArg (k0_pay1 (F := Ideal) (k0_pay3 (F := Ideal) (rows t X1)) (rows t X3) (k0_pay9 (F := Ideal) (rows t X1) (rows t X0) X2)) (eq_ix2 y)).trans (input_pay _ _ _ _ (y 0) (y 1))).trans ?_
  refine (rfl : _ = (fun j : S4096x2048.Idx => inputAt (n := 4096) X0 X1 X3 X2 (j 0) (j 1)) (ix2 (⟨t.val * 512 + (y 0).val, rows_lt t (y 0)⟩ : Fin 4096) (y 1 : Fin 2048))).trans ?_
  refine congrArg (fun j : S4096x2048.Idx => inputAt (n := 4096) X0 X1 X3 X2 (j 0) (j 1)) (a₂ := (win0_5.blk t).view.emb y) (funext fun a => Fin.ext ?_)
  match a with
  | ⟨0, _⟩ => show _ = win0_5.index t 0 * 512 + 1 * (y 0).val; rw [hi]; show t.val * 512 + _ = t.val * 512 + 1 * _; rw [one_mul]
  | ⟨1, _⟩ => show _ = win0_5.index t 1 * 2048 + 1 * (y 1).val; rw [hi]; show (y 1).val = 0 * 2048 + 1 * (y 1).val; rw [Nat.zero_mul, Nat.zero_add, Nat.one_mul]

theorem total_gain (c : Dev nD) (j : S8x2048.Idx) : (outsAt0 m c 7 (by decide)).2.2.2 j
    = ∑ t : Fin 8, k0_pay5 (F := Ideal) (rows t (m ((c : Thread nD τ).loc main_arg1))) (rows t (m ((c : Thread nD τ).loc main_arg0))) j := by
  refine Sums.carried 8 8 le_rfl (fun n hn => (outsAt0 m c n hn).2.2.2)
    (fun n hn j => k0_pay5 (F := Ideal) (rows ⟨n, hn⟩ (m ((c : Thread nD τ).loc main_arg1))) (rows ⟨n, hn⟩ (m ((c : Thread nD τ).loc main_arg0))) j)
    (fun n hn A hz hp => ?_) 7 (by decide) j
  refine (step_gain m c ⟨n, hn⟩ A hz hp).trans ?_
  rw [block0, block1]
  rfl

theorem final_gain (c : Dev nD) : (dats m 0 c).arrAt 6 (cfgs 0).N
    = fun j => gainAt (n := 4096) (m ((c : Thread nD τ).loc main_arg0)) (m ((c : Thread nD τ).loc main_arg1)) (j 1) := by
  refine (dats m 0 c).arrAt_eq_of_after_last 6 t0_7 (by decide +kernel) _ fun j => ?_
  blk_simp
  rw [after0_6, out_gain m c t0_7 rfl]
  refine (congrArg (fun A => k0_pay8 (F := Ideal) A j) (funext (total_gain m c))).trans ?_
  rw [eq_ix2 j]
  pointwise [k0_pay8]
  refine RowNorm.sum_eighths 8 64 (fun s : Fin 4096 => gainRow (n := 4096) (m ((c : Thread nD τ).loc main_arg0)) (m ((c : Thread nD τ).loc main_arg1)) s (j 1)) _
    (fun t q r => by omega) fun r t => ?_
  exact gain_pay _ _ r (j 1)

end Cert.Kernel6Ideal.Hand

namespace Cert.Proof

open Cert.RowNorm (inputAt gainAt)

theorem algebraic6 : Cert.algebraic_Kernel6Ideal_Reference6Ideal := by
  pair_intro
  · exact Cert.Kernel6Ideal.Value.run_blocks m g
  · refine (θ_run _ _ _).mono (fun r h c => ?_) (Cert.Reference6Ideal.Value.run m' g')
    obtain ⟨h0, h1, h2, h3⟩ := h c
    obtain ⟨e0, e1, e2, e3⟩ := hagree c
    refine ⟨?_, ?_, ?_, h3⟩
    · rw [Cert.Kernel6Ideal.Hand.final_input m c, ← e0, ← e1, ← e2, ← e3]
      exact h0.trans (funext fun j => (congrArg _ (eq_ix2 j)).trans (Cert.Reference6Ideal.Hand.hostInput_at _ _ _ _ (j 0) (j 1)))
    · rw [Cert.Kernel6Ideal.Hand.final_input16 m c, ← e0, ← e1, ← e2, ← e3]
      exact h1.trans (funext fun j => (congrArg _ (eq_ix2 j)).trans (Cert.Reference6Ideal.Hand.hostInput_at _ _ _ _ (j 0) (j 1)))
    · rw [Cert.Kernel6Ideal.Hand.final_gain m c, ← e0, ← e1]
      exact h2.trans (funext fun j => (congrArg _ (eq_ix2 j)).trans (Cert.Reference6Ideal.Hand.hostGain_at _ _ (j 0) (j 1)))

end Cert.Proof

end
-- ==== Proof.NormQuery.lean ====
module

public import proofs.«01_k».proof.Defs
public import proofs.«01_k».proof.Proof.Gen.Kernel7Ideal.Value
public import proofs.«01_k».proof.Proof.Gen.Reference7Ideal.Run
public import proofs.«01_k».proof.Proof.NormRef
public import proofs.«01_k».proof.Proof.RowSlab
public import proofs.«01_k».proof.Proof.Tiles
public import Idealize.ShloMosaic.Lib.Pipeline.ReadBack
public import Idealize.ShloMosaic.Lib.Claim

/-! The query projection's data gradient and the norm's gradient in one call: eight grid points, each over 512 rows. -/

@[expose] public section

set_option maxRecDepth 16384

noncomputable section

open Idealize.ShloMosaic Idealize.ShloMosaic.TcCoe Idealize.SL.Sem
open Idealize.ShloMosaic.Pipeline (Dat)

namespace Cert.Kernel7Ideal.Hand

open Cert.Kernel7Ideal Cert.Kernel7Ideal.Gen Cert.Tiles
open Cert.RowNorm (meanSq inputAt gainAt gainRow slab slab_input)

variable (m : (ℓ : Loc nD τ sig) → Buf (Elt Ideal) ℓ)

/-- The product's rows. -/
theorem product_at (Q : FVec Ideal S512x2048 .bf16) (W : FVec Ideal S2048x2048 .bf16) (a : Fin 512) (l : Fin 2048) :
    k0_pay7 (F := Ideal) Q W (ix2 a l) = ∑ k : Fin 2048, Q (ix2 a k) * W (ix2 l k) := by
  pointwise [k0_pay7]

theorem input_pay (D X R : FVec Ideal S128x2048 .f32) (G : FVec Ideal S1x2048 .f32) (a : Fin 128) (l : Fin 2048) :
    k0_pay1 (F := Ideal) G D R (k0_pay28 (F := Ideal) X) (k0_pay29 (F := Ideal) X) (ix2 a l) = inputAt D X R G a l := by
  pointwise [k0_pay1, k0_pay29, k0_pay28, inputAt, meanSq]

theorem gain_pay (A : FVec Ideal S8x2048 .f32) (D X : FVec Ideal S128x2048 .f32) (r : Fin 8) (l : Fin 2048) :
    k0_pay3 (F := Ideal) A D (k0_pay29 (F := Ideal) X) (ix2 r l)
      = A (ix2 r l) + ∑ q : Fin 16, gainRow D X (⟨q.val * 8 + r.val, by have := q.isLt; have := r.isLt; omega⟩ : Fin 128) l := by
  pointwise [k0_pay3, k0_pay29, k0_pay28, gainRow, meanSq]

theorem load_slab (o : Nat) (h : o + 128 ≤ 512) (X : FVec Ideal S512x2048 .f32) (inb) :
    View.ld (Val := Elt Ideal) (e' := .f32) X (Rect.unit (s := S512x2048) ![o, 0] S128x2048.size inb) = slab o h X := by
  funext j
  refine congrArg X (funext fun a => Fin.ext ?_)
  rw [Rect.idx_unit_val]
  match a with
  | ⟨0, _⟩ => rfl
  | ⟨1, _⟩ => exact Nat.zero_add _

theorem slice_slab (o : Nat) (h : o + 128 ≤ 512) (D : FVec Ideal S512x2048 .f32) (hs : S512x2048.Slices ![o, 0] S128x2048) :
    extractStridedSlice S128x2048 ![o, 0] D hs = slab o h D := by
  funext j
  rw [eq_ix2 j]
  refine congrArg D (funext fun a => Fin.ext ?_)
  match a with
  | ⟨0, _⟩ => rfl
  | ⟨1, _⟩ => exact Nat.zero_add _

theorem piece (o : Nat) (h : o + 128 ≤ 512) (D X R : FVec Ideal S512x2048 .f32) (G : FVec Ideal S1x2048 .f32) (hs) (ix) (ir)
    (x : S128x2048.Idx) (y : S512x2048.Idx) (h0 : (y 0).val = o + (x 0).val) (h1 : (y 1).val = (x 1).val) :
    k0_pay1 (F := Ideal) G (extractStridedSlice S128x2048 ![o, 0] D hs) (View.ld (Val := Elt Ideal) (e' := .f32) R (Rect.unit (s := S512x2048) ![o, 0] S128x2048.size ir))
      (k0_pay28 (F := Ideal) (View.ld (Val := Elt Ideal) (e' := .f32) X (Rect.unit (s := S512x2048) ![o, 0] S128x2048.size ix)))
      (k0_pay29 (F := Ideal) (View.ld (Val := Elt Ideal) (e' := .f32) X (Rect.unit (s := S512x2048) ![o, 0] S128x2048.size ix))) x
      = inputAt D X R G (y 0) (y 1) := by
  rw [load_slab o h, load_slab o h, slice_slab o h]
  exact ((congrArg _ (eq_ix2 x)).trans (input_pay _ _ _ _ (x 0) (x 1))).trans (slab_input o h D X R G _ _ _ _ h0 h1)

/-- What a grid point stores of the input's gradient. -/
theorem step_input (c : Dev nD) (t : Fin cfg0.N) : (outsAt0 m c t.val t.isLt).1
    = fun y => inputAt (k0_pay7 (F := Ideal) (iblk m c 0 t) (iblk m c 1 t)) (iblk m c 2 t) (iblk m c 3 t) (iblk m c 4 t) (y 0) (y 1) := by
  have hN : t.val < 8 := t.isLt
  by_cases h0 : t.val % 8 = 0 <;> by_cases h2 : t.val % 8 = 7
  on_goal 1 => omega
  on_goal 1 => rw [outsAt0_A m c t h0 (by omega) h2]
  on_goal 2 => rw [outsAt0_C m c t h0 (by omega) h2]
  on_goal 3 => rw [outsAt0_B m c t h0 (by omega) h2]
  all_goals
    frame_open
    frame_out
    clear h0 h2 hN
    generalize iblk m c 0 t = X0
    generalize iblk m c 1 t = X1
    generalize iblk m c 2 t = X2
    generalize iblk m c 3 t = X3
    generalize iblk m c 4 t = X4
    funext y
    refine (canon_take 4 ![128, 2048] _ (by rfl) y).trans ?_
    simp only [List.take_succ_cons, List.take_zero]
    canon_tiles x h
    · exact piece 384 (by decide) (k0_pay7 (F := Ideal) X0 X1) X2 X3 X4 slices_S512x2048_o384_0_S128x2048 _ _ x y h0 h1
    · exact piece 256 (by decide) (k0_pay7 (F := Ideal) X0 X1) X2 X3 X4 slices_S512x2048_o256_0_S128x2048 _ _ x y h0 h1
    · exact piece 128 (by decide) (k0_pay7 (F := Ideal) X0 X1) X2 X3 X4 slices_S512x2048_o128_0_S128x2048 _ _ x y h0 h1
    · exact piece 0 (by decide) (k0_pay7 (F := Ideal) X0 X1) X2 X3 X4 slices_S512x2048_o0_0_S128x2048 _ _ x y (h0.trans (Nat.zero_add _).symm) h1

theorem step_input16 (c : Dev nD) (t : Fin cfg0.N) : (outsAt0 m c t.val t.isLt).2.1
    = fun y => inputAt (k0_pay7 (F := Ideal) (iblk m c 0 t) (iblk m c 1 t)) (iblk m c 2 t) (iblk m c 3 t) (iblk m c 4 t) (y 0) (y 1) := by
  have hN : t.val < 8 := t.isLt
  by_cases h0 : t.val % 8 = 0 <;> by_cases h2 : t.val % 8 = 7
  on_goal 1 => omega
  on_goal 1 => rw [outsAt0_A m c t h0 (by omega) h2]
  on_goal 2 => rw [outsAt0_C m c t h0 (by omega) h2]
  on_goal 3 => rw [outsAt0_B m c t h0 (by omega) h2]
  all_goals
    frame_open
    frame_out
    clear h0 h2 hN
    generalize iblk m c 0 t = X0
    generalize iblk m c 1 t = X1
    generalize iblk m c 2 t = X2
    generalize iblk m c 3 t = X3
    generalize iblk m c 4 t = X4
    funext y
    refine (canon_take 4 ![128, 2048] _ (by rfl) y).trans ?_
    simp only [List.take_succ_cons, List.take_zero]
    canon_tiles x h
    · exact piece 384 (by decide) (k0_pay7 (F := Ideal) X0 X1) X2 X3 X4 slices_S512x2048_o384_0_S128x2048 _ _ x y h0 h1
    · exact piece 256 (by decide) (k0_pay7 (F := Ideal) X0 X1) X2 X3 X4 slices_S512x2048_o256_0_S128x2048 _ _ x y h0 h1
    · exact piece 128 (by decide) (k0_pay7 (F := Ideal) X0 X1) X2 X3 X4 slices_S512x2048_o128_0_S128x2048 _ _ x y h0 h1
    · exact piece 0 (by decide) (k0_pay7 (F := Ideal) X0 X1) X2 X3 X4 slices_S512x2048_o0_0_S128x2048 _ _ x y (h0.trans (Nat.zero_add _).symm) h1

/-- A grid point's share of the gain's eight partial sums. -/
def gainPart (D X : FVec Ideal S512x2048 .f32) : FVec Ideal S8x2048 .f32 := fun j =>
  ∑ q : Fin 64, gainRow (n := 512) D X (⟨q.val * 8 + (j 0).val, by have h : (j 0).val < 8 := (j 0).isLt; omega⟩ : Fin 512) (j 1)

theorem gain_first (Q : FVec Ideal S512x2048 .bf16) (W : FVec Ideal S2048x2048 .bf16) (X : FVec Ideal S128x2048 .f32) :
    k0_pay12 (F := Ideal) Q W X = k0_pay3 (F := Ideal) (fun _ => (0 : EReal)) (k0_pay8 (F := Ideal) Q W) (k0_pay29 (F := Ideal) X) := by
  funext j
  exact (zero_add _).symm

theorem gain_four (Q : FVec Ideal S512x2048 .bf16) (W : FVec Ideal S2048x2048 .bf16) (X : FVec Ideal S512x2048 .f32) (i0) (i1) (i2) (i3) :
    k0_pay3 (F := Ideal) (k0_pay26 (F := Ideal) (k0_pay19 (F := Ideal) (k0_pay7 (F := Ideal) Q W)
        (k0_pay12 (F := Ideal) Q W (View.ld (Val := Elt Ideal) (e' := .f32) X (Rect.unit (s := S512x2048) ![0, 0] S128x2048.size i0)))
        (View.ld (Val := Elt Ideal) (e' := .f32) X (Rect.unit (s := S512x2048) ![128, 0] S128x2048.size i1)))
        (k0_pay20 (F := Ideal) (k0_pay7 (F := Ideal) Q W)) (View.ld (Val := Elt Ideal) (e' := .f32) X (Rect.unit (s := S512x2048) ![256, 0] S128x2048.size i2))
        (k0_pay21 (F := Ideal) (View.ld (Val := Elt Ideal) (e' := .f32) X (Rect.unit (s := S512x2048) ![256, 0] S128x2048.size i2))))
      (k0_pay27 (F := Ideal) (k0_pay7 (F := Ideal) Q W)) (k0_pay29 (F := Ideal) (View.ld (Val := Elt Ideal) (e' := .f32) X (Rect.unit (s := S512x2048) ![384, 0] S128x2048.size i3)))
      = gainPart (k0_pay7 (F := Ideal) Q W) X := by
  rw [gain_first]
  show k0_pay3 (F := Ideal) (k0_pay3 (F := Ideal) (k0_pay3 (F := Ideal) (k0_pay3 (F := Ideal) _ (extractStridedSlice S128x2048 ![0, 0] (k0_pay7 (F := Ideal) Q W) slices_S512x2048_o0_0_S128x2048) (k0_pay29 (F := Ideal) _))
    (extractStridedSlice S128x2048 ![128, 0] (k0_pay7 (F := Ideal) Q W) slices_S512x2048_o128_0_S128x2048) (k0_pay29 (F := Ideal) _))
    (extractStridedSlice S128x2048 ![256, 0] (k0_pay7 (F := Ideal) Q W) slices_S512x2048_o256_0_S128x2048) (k0_pay29 (F := Ideal) _))
    (extractStridedSlice S128x2048 ![384, 0] (k0_pay7 (F := Ideal) Q W) slices_S512x2048_o384_0_S128x2048) (k0_pay29 (F := Ideal) _) = _
  rw [load_slab 0 (by decide), load_slab 128 (by decide), load_slab 256 (by decide), load_slab 384 (by decide),
    slice_slab 0 (by decide), slice_slab 128 (by decide), slice_slab 256 (by decide), slice_slab 384 (by decide)]
  generalize k0_pay7 (F := Ideal) Q W = D
  funext j
  obtain ⟨r, l, rfl⟩ : ∃ (r : Fin 8) (l : Fin 2048), j = ix2 r l := ⟨j 0, j 1, eq_ix2 j⟩
  rw [gain_pay, gain_pay, gain_pay, gain_pay, zero_add]
  exact RowNorm.four_slabs (fun s => gainRow (n := 512) D X s l) r

/-- The gain's running sums after a grid point. -/
theorem step_gain (c : Dev nD) (t : Fin cfg0.N) (A : FVec Ideal S8x2048 .f32) (hz : t.val % 8 = 0 → A = fun _ => (0 : EReal))
    (hp : ¬t.val % 8 = 0 → A = (outsAt0 m c (t.val - 1) (Nat.lt_of_le_of_lt (Nat.sub_le ..) t.isLt)).2.2.2) :
    (outsAt0 m c t.val t.isLt).2.2.2 = fun j => A j + gainPart (k0_pay7 (F := Ideal) (iblk m c 0 t) (iblk m c 1 t)) (iblk m c 2 t) j := by
  have hN : t.val < 8 := t.isLt
  by_cases h0 : t.val % 8 = 0
  · rw [hz h0, outsAt0_A m c t h0 (by omega) (by omega)]
    frame_out
    funext j
    rw [zero_add, eq_ix2 j]
    refine Eq.trans ?_ (congrFun (gain_four (iblk m c 0 t) (iblk m c 1 t) (iblk m c 2 t) inb_S512x2048_S128x2048_0_0 inb_S512x2048_S128x2048_128_0 inb_S512x2048_S128x2048_256_0 inb_S512x2048_S128x2048_384_0) _)
    pointwise [k0_pay4]
  · rw [hp h0]
    by_cases h2 : t.val % 8 = 7
    on_goal 1 => rw [outsAt0_C m c t h0 (by omega) h2]
    on_goal 2 => rw [outsAt0_B m c t h0 (by omega) h2]
    all_goals
      frame_out
      simp only [read_unread_whole]
      generalize (outsAt0 m c (t.val - 1) _).2.2.2 = A
      funext j
      rw [eq_ix2 j]
      refine Eq.trans ?_ (congrArg (fun z : EReal => A _ + z) (congrFun (gain_four (iblk m c 0 t) (iblk m c 1 t) (iblk m c 2 t) inb_S512x2048_S128x2048_0_0 inb_S512x2048_S128x2048_128_0 inb_S512x2048_S128x2048_256_0 inb_S512x2048_S128x2048_384_0) _))
      pointwise [k0_pay5]

/-- The last grid point adds the eight running sums. -/
theorem out_gain (c : Dev nD) (t : Fin cfg0.N) (h : t.val % 8 = 7) : (outsAt0 m c t.val t.isLt).2.2.1
    = k0_pay6 (F := Ideal) (outsAt0 m c t.val t.isLt).2.2.2 := by
  have hN : t.val < 8 := t.isLt
  rw [outsAt0_C m c t (by omega) (by omega) h]
  frame_open
  simp (disch := decide) only [↓ View.readCov_skip, ↓ View.readCov_cons_toLoadRect, ↓ View.readCov_fill]
  frame_out

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0] :=
  (by decide +kernel : ∀ t : Fin grid0.N, _)

/-- The rows of an array that a grid point works on. -/
def rows {φ : FTy} (t : Fin 8) (X : FVec Ideal S4096x2048 φ) : FVec Ideal S512x2048 φ := fun j =>
  X (ix2 (⟨t.val * 512 + (j 0).val, by have h : (j 0).val < 512 := (j 0).isLt; omega⟩ : Fin 4096) (j 1 : Fin 2048))

/-- The weights as the call takes them. -/
def weights (c : Dev nD) : FVec Ideal S2048x2048 .f32 := shapeCast S2048x2048 (m ((c : Thread nD τ).loc main_arg1)) shapeCasts_S1x2048x2048_S2048x2048

/-- The data gradient of the projection. -/
def product (Q : FVec Ideal S4096x2048 .bf16) (W : FVec Ideal S2048x2048 .f32) : FVec Ideal S4096x2048 .f32 := fun j =>
  ∑ k : Fin 2048, Q (ix2 (j 0) k) * W (ix2 (j 1) k)

theorem product_rows (t : Fin 8) (Q : FVec Ideal S4096x2048 .bf16) (W : FVec Ideal S2048x2048 .f32) :
    k0_pay7 (F := Ideal) (rows t Q) W = rows t (product Q W) := by
  funext j
  rw [eq_ix2 j]
  exact product_at _ _ (j 0) (j 1)

theorem block0 (c : Dev nD) (t : Fin cfg0.N) : iblk m c 0 t = rows (φ := .bf16) t (m ((c : Thread nD τ).loc main_arg0)) := by
  funext j
  rw [eq_ix2 j]
  show _ = m ((c : Thread nD τ).loc main_arg0) _
  blk_ext! [iblk, V, idx t]

theorem block1 (c : Dev nD) (t : Fin cfg0.N) : iblk m c 1 t = weights m c := by
  have h : iblk m c 1 t = V m c main_v1 := by blk_ext! [iblk, idx t]
  rw [h]
  entry_read
  rfl

theorem block2 (c : Dev nD) (t : Fin cfg0.N) : iblk m c 2 t = rows (φ := .f32) t (m ((c : Thread nD τ).loc main_arg2)) := by
  funext j
  rw [eq_ix2 j]
  show _ = m ((c : Thread nD τ).loc main_arg2) _
  blk_ext! [iblk, V, idx t]

theorem block3 (c : Dev nD) (t : Fin cfg0.N) : iblk m c 3 t = rows (φ := .f32) t (m ((c : Thread nD τ).loc main_arg3)) := by
  funext j
  rw [eq_ix2 j]
  show _ = m ((c : Thread nD τ).loc main_arg3) _
  blk_ext! [iblk, V, idx t]

theorem block4 (c : Dev nD) (t : Fin cfg0.N) : iblk m c 4 t = m ((c : Thread nD τ).loc main_arg4) := by
  blk_ext! [iblk, V, idx t]

theorem tile (c : Dev nD) (t : Fin cfg0.N) : k0_pay7 (F := Ideal) (iblk m c 0 t) (iblk m c 1 t)
    = rows t (product (m ((c : Thread nD τ).loc main_arg0)) (weights m c)) := by
  rw [block0, block1]
  exact product_rows t _ _

theorem rows_lt (t : Fin 8) (y : Fin 512) : t.val * 512 + y.val < 4096 := by omega

theorem final_input (c : Dev nD) : (dats m 0 c).arrAt 5 (cfgs 0).N
    = fun j => inputAt (n := 4096) (product (m ((c : Thread nD τ).loc main_arg0)) (weights m c)) (m ((c : Thread nD τ).loc main_arg2))
      (m ((c : Thread nD τ).loc main_arg3)) (m ((c : Thread nD τ).loc main_arg4)) (j 0) (j 1) := by
  refine (dats m 0 c).arrAt_eq_of_covers 5 _ (by decide +kernel) fun t hf y => ?_
  blk_simp
  rw [after0_5, step_input, tile, block2, block3, block4]
  generalize product (m ((c : Thread nD τ).loc main_arg0)) (weights m c) = X0
  generalize m ((c : Thread nD τ).loc main_arg2) = X1
  generalize m ((c : Thread nD τ).loc main_arg4) = X2
  generalize m ((c : Thread nD τ).loc main_arg3) = X3
  have hi := (idx t).2.2.2.2.2.1
  refine (rfl : _ = (fun j : S4096x2048.Idx => inputAt (n := 4096) X0 X1 X3 X2 (j 0) (j 1)) (ix2 (⟨t.val * 512 + (y 0).val, rows_lt t (y 0)⟩ : Fin 4096) (y 1 : Fin 2048))).trans ?_
  refine congrArg (fun j : S4096x2048.Idx => inputAt (n := 4096) X0 X1 X3 X2 (j 0) (j 1)) (a₂ := (win0_5.blk t).view.emb y) (funext fun a => Fin.ext ?_)
  match a with
  | ⟨0, _⟩ => show _ = win0_5.index t 0 * 512 + 1 * (y 0).val; rw [hi]; show t.val * 512 + _ = t.val * 512 + 1 * _; rw [one_mul]
  | ⟨1, _⟩ => show _ = win0_5.index t 1 * 2048 + 1 * (y 1).val; rw [hi]; show (y 1).val = 0 * 2048 + 1 * (y 1).val; rw [Nat.zero_mul, Nat.zero_add, Nat.one_mul]

theorem final_input16 (c : Dev nD) : (dats m 0 c).arrAt 6 (cfgs 0).N
    = fun j => inputAt (n := 4096) (product (m ((c : Thread nD τ).loc main_arg0)) (weights m c)) (m ((c : Thread nD τ).loc main_arg2))
      (m ((c : Thread nD τ).loc main_arg3)) (m ((c : Thread nD τ).loc main_arg4)) (j 0) (j 1) := by
  refine (dats m 0 c).arrAt_eq_of_covers 6 _ (by decide +kernel) fun t hf y => ?_
  blk_simp
  rw [after0_6, step_input16, tile, block2, block3, block4]
  generalize product (m ((c : Thread nD τ).loc main_arg0)) (weights m c) = X0
  generalize m ((c : Thread nD τ).loc main_arg2) = X1
  generalize m ((c : Thread nD τ).loc main_arg4) = X2
  generalize m ((c : Thread nD τ).loc main_arg3) = X3
  have hi := (idx t).2.2.2.2.2.2
  refine (rfl : _ = (fun j : S4096x2048.Idx => inputAt (n := 4096) X0 X1 X3 X2 (j 0) (j 1)) (ix2 (⟨t.val * 512 + (y 0).val, rows_lt t (y 0)⟩ : Fin 4096) (y 1 : Fin 2048))).trans ?_
  refine congrArg (fun j : S4096x2048.Idx => inputAt (n := 4096) X0 X1 X3 X2 (j 0) (j 1)) (a₂ := (win0_6.blk t).view.emb y) (funext fun a => Fin.ext ?_)
  match a with
  | ⟨0, _⟩ => show _ = win0_6.index t 0 * 512 + 1 * (y 0).val; rw [hi]; show t.val * 512 + _ = t.val * 512 + 1 * _; rw [one_mul]
  | ⟨1, _⟩ => show _ = win0_6.index t 1 * 2048 + 1 * (y 1).val; rw [hi]; show (y 1).val = 0 * 2048 + 1 * (y 1).val; rw [Nat.zero_mul, Nat.zero_add, Nat.one_mul]

theorem total_gain (c : Dev nD) (j : S8x2048.Idx) : (outsAt0 m c 7 (by decide)).2.2.2 j
    = ∑ t : Fin 8, gainPart (rows t (product (m ((c : Thread nD τ).loc main_arg0)) (weights m c))) (rows (φ := .f32) t (m ((c : Thread nD τ).loc main_arg2))) j := by
  refine Sums.carried 8 8 le_rfl (fun n hn => (outsAt0 m c n hn).2.2.2)
    (fun n hn j => gainPart (rows ⟨n, hn⟩ (product (m ((c : Thread nD τ).loc main_arg0)) (weights m c))) (rows (φ := .f32) ⟨n, hn⟩ (m ((c : Thread nD τ).loc main_arg2))) j)
    (fun n hn A hz hp => ?_) 7 (by decide) j
  refine (step_gain m c ⟨n, hn⟩ A hz hp).trans ?_
  rw [tile, block2]
  rfl

theorem final_gain (c : Dev nD) : (dats m 0 c).arrAt 7 (cfgs 0).N
    = fun j => gainAt (n := 4096) (product (m ((c : Thread nD τ).loc main_arg0)) (weights m c)) (m ((c : Thread nD τ).loc main_arg2)) (j 1) := by
  refine (dats m 0 c).arrAt_eq_of_after_last 7 t0_7 (by decide +kernel) _ fun j => ?_
  blk_simp
  rw [after0_7, out_gain m c t0_7 rfl]
  refine (congrArg (fun A => k0_pay6 (F := Ideal) A j) (funext (total_gain m c))).trans ?_
  rw [eq_ix2 j]
  pointwise [k0_pay6]
  exact RowNorm.sum_eighths 8 64 (fun s : Fin 4096 => gainRow (n := 4096) (product (m ((c : Thread nD τ).loc main_arg0)) (weights m c)) (m ((c : Thread nD τ).loc main_arg2)) s (j 1)) _
    (fun t q r => by omega) fun r t => rfl

end Cert.Kernel7Ideal.Hand

namespace Cert.Reference7Ideal.Hand

open Cert.Reference7Ideal Cert.Reference7Ideal.Gen
open Cert.Kernel7Ideal.Hand (product)

theorem product_eq (Q : FVec Ideal S4096x2048 .bf16) (W : FVec Ideal S1x2048x2048 .f32) :
    Host.dotGeneral dot_S4096x2048_S2048x2048_S4096x2048_1_1_0_0_n_n none (extf .f32 Q bitsLt_bf16_f32) (shapeCast S2048x2048 W shapeCasts_S1x2048x2048_S2048x2048)
      = product Q (shapeCast _ W Cert.Kernel7Ideal.Gen.shapeCasts_S1x2048x2048_S2048x2048) := by
  funext j
  rw [eq_ix2 j]
  pointwise [product]

end Cert.Reference7Ideal.Hand

namespace Cert.Proof

open Cert.RowNorm (inputAt gainAt)

theorem algebraic7 : Cert.algebraic_Kernel7Ideal_Reference7Ideal := by
  pair_intro
  · exact Cert.Kernel7Ideal.Value.run_blocks m g
  · refine (θ_run _ _ _).mono (fun r h c => ?_) (Cert.Reference7Ideal.Value.run m' g')
    obtain ⟨h0, h1, h2, h3⟩ := h c
    obtain ⟨e0, e1, e2, e3, e4⟩ := hagree c
    refine ⟨?_, ?_, ?_, h3⟩
    · rw [Cert.Kernel7Ideal.Hand.final_input m c, Cert.Kernel7Ideal.Hand.weights, ← e0, ← e1, ← e2, ← e3, ← e4, ← Cert.Reference7Ideal.Hand.product_eq]
      exact h0.trans (funext fun j => (congrArg _ (eq_ix2 j)).trans (Cert.Reference6Ideal.Hand.hostInput_at _ _ _ _ (j 0) (j 1)))
    · rw [Cert.Kernel7Ideal.Hand.final_input16 m c, Cert.Kernel7Ideal.Hand.weights, ← e0, ← e1, ← e2, ← e3, ← e4, ← Cert.Reference7Ideal.Hand.product_eq]
      exact h1.trans (funext fun j => (congrArg _ (eq_ix2 j)).trans (Cert.Reference6Ideal.Hand.hostInput_at _ _ _ _ (j 0) (j 1)))
    · rw [Cert.Kernel7Ideal.Hand.final_gain m c, Cert.Kernel7Ideal.Hand.weights, ← e0, ← e1, ← e2, ← Cert.Reference7Ideal.Hand.product_eq]
      exact h2.trans (funext fun j => (congrArg _ (eq_ix2 j)).trans (Cert.Reference6Ideal.Hand.hostGain_at _ _ (j 0) (j 1)))

end Cert.Proof

end
-- ==== Proof.NormIn.lean ====
module

public import proofs.«01_k».proof.Defs
public import proofs.«01_k».proof.Proof.Gen.Kernel8Ideal.Value
public import proofs.«01_k».proof.Proof.Gen.Reference8Ideal.Run
public import proofs.«01_k».proof.Proof.NormRef
public import proofs.«01_k».proof.Proof.RowSlab
public import proofs.«01_k».proof.Proof.Tiles
public import Idealize.ShloMosaic.Lib.Pipeline.ReadBack
public import Idealize.ShloMosaic.Lib.Claim

/-! The input projection's data gradient and the norm's gradient in one call: sixteen grid points, each over 256 rows. -/

@[expose] public section

set_option maxRecDepth 16384

noncomputable section

open Idealize.ShloMosaic Idealize.ShloMosaic.TcCoe Idealize.SL.Sem
open Idealize.ShloMosaic.Pipeline (Dat)

namespace Cert.Kernel8Ideal.Hand

open Cert.Kernel8Ideal Cert.Kernel8Ideal.Gen Cert.Tiles
open Cert.RowNorm (meanSq inputAt gainAt gainRow slab slab_input)

variable (m : (ℓ : Loc nD τ sig) → Buf (Elt Ideal) ℓ)

/-- The product's rows. -/
theorem product_at (Q : FVec Ideal S256x3072 .bf16) (W : FVec Ideal S3072x2048 .bf16) (a : Fin 256) (l : Fin 2048) :
    k0_pay2 (F := Ideal) Q W (ix2 a l) = ∑ k : Fin 3072, Q (ix2 a k) * W (ix2 k l) := by
  pointwise [k0_pay2]

theorem input_pay (D X R : FVec Ideal S128x2048 .f32) (G : FVec Ideal S1x2048 .f32) (a : Fin 128) (l : Fin 2048) :
    k0_pay13 (F := Ideal) G D X R (ix2 a l) = inputAt D X R G a l := by
  pointwise [k0_pay13, k0_pay12, k0_pay11, k0_pay10, inputAt, meanSq]

theorem gain_pay (A : FVec Ideal S8x2048 .f32) (D X : FVec Ideal S128x2048 .f32) (r : Fin 8) (l : Fin 2048) :
    k0_pay14 (F := Ideal) A D X (ix2 r l)
      = A (ix2 r l) + ∑ q : Fin 16, gainRow D X (⟨q.val * 8 + r.val, by have := q.isLt; have := r.isLt; omega⟩ : Fin 128) l := by
  pointwise [k0_pay14, k0_pay12, k0_pay11, k0_pay10, gainRow, meanSq]

theorem load_slab (o : Nat) (h : o + 128 ≤ 256) (X : FVec Ideal S256x2048 .f32) (inb) :
    View.ld (Val := Elt Ideal) (e' := .f32) X (Rect.unit (s := S256x2048) ![o, 0] S128x2048.size inb) = slab o h X := by
  funext j
  refine congrArg X (funext fun a => Fin.ext ?_)
  rw [Rect.idx_unit_val]
  match a with
  | ⟨0, _⟩ => rfl
  | ⟨1, _⟩ => exact Nat.zero_add _

theorem slice_slab (o : Nat) (h : o + 128 ≤ 256) (D : FVec Ideal S256x2048 .f32) (hs : S256x2048.Slices ![o, 0] S128x2048) :
    extractStridedSlice S128x2048 ![o, 0] D hs = slab o h D := by
  funext j
  rw [eq_ix2 j]
  refine congrArg D (funext fun a => Fin.ext ?_)
  match a with
  | ⟨0, _⟩ => rfl
  | ⟨1, _⟩ => exact Nat.zero_add _

theorem piece (o : Nat) (h : o + 128 ≤ 256) (D X R : FVec Ideal S256x2048 .f32) (G : FVec Ideal S1x2048 .f32) (hs) (ix) (ir)
    (x : S128x2048.Idx) (y : S256x2048.Idx) (h0 : (y 0).val = o + (x 0).val) (h1 : (y 1).val = (x 1).val) :
    k0_pay13 (F := Ideal) G (extractStridedSlice S128x2048 ![o, 0] D hs) (View.ld (Val := Elt Ideal) (e' := .f32) X (Rect.unit (s := S256x2048) ![o, 0] S128x2048.size ix))
      (View.ld (Val := Elt Ideal) (e' := .f32) R (Rect.unit (s := S256x2048) ![o, 0] S128x2048.size ir)) x
      = inputAt D X R G (y 0) (y 1) := by
  rw [load_slab o h, load_slab o h, slice_slab o h]
  exact ((congrArg _ (eq_ix2 x)).trans (input_pay _ _ _ _ (x 0) (x 1))).trans (slab_input o h D X R G _ _ _ _ h0 h1)

/-- What a grid point stores of the input's gradient. -/
theorem step_input (c : Dev nD) (t : Fin cfg0.N) : (outsAt0 m c t.val t.isLt).1
    = fun y => inputAt (k0_pay2 (F := Ideal) (iblk m c 0 t) (iblk m c 1 t)) (iblk m c 2 t) (iblk m c 3 t) (iblk m c 4 t) (y 0) (y 1) := by
  have hN : t.val < 16 := t.isLt
  by_cases h0 : t.val % 16 = 0 <;> by_cases h2 : t.val % 16 = 15
  on_goal 1 => omega
  on_goal 1 => rw [outsAt0_A m c t h0 (by omega) h2]
  on_goal 2 => rw [outsAt0_C m c t h0 (by omega) h2]
  on_goal 3 => rw [outsAt0_B m c t h0 (by omega) h2]
  all_goals
    frame_open
    frame_out
    clear h0 h2 hN
    generalize iblk m c 0 t = X0
    generalize iblk m c 1 t = X1
    generalize iblk m c 2 t = X2
    generalize iblk m c 3 t = X3
    generalize iblk m c 4 t = X4
    funext y
    refine (canon_take 2 ![128, 2048] _ (by rfl) y).trans ?_
    simp only [List.take_succ_cons, List.take_zero]
    canon_tiles x h
    · exact piece 128 (by decide) (k0_pay2 (F := Ideal) X0 X1) X2 X3 X4 slices_S256x2048_o128_0_S128x2048 _ _ x y h0 h1
    · exact piece 0 (by decide) (k0_pay2 (F := Ideal) X0 X1) X2 X3 X4 slices_S256x2048_o0_0_S128x2048 _ _ x y (h0.trans (Nat.zero_add _).symm) h1

/-- A grid point's share of the gain's eight partial sums. -/
def gainPart (D X : FVec Ideal S256x2048 .f32) : FVec Ideal S8x2048 .f32 := fun j =>
  ∑ q : Fin 32, gainRow (n := 256) D X (⟨q.val * 8 + (j 0).val, by have h : (j 0).val < 8 := (j 0).isLt; omega⟩ : Fin 256) (j 1)

theorem gain_first (Q : FVec Ideal S256x3072 .bf16) (W : FVec Ideal S3072x2048 .bf16) (X : FVec Ideal S128x2048 .f32) :
    k0_pay8 (F := Ideal) Q W X = k0_pay14 (F := Ideal) (fun _ => (0 : EReal)) (k0_pay3 (F := Ideal) Q W) X := by
  funext j
  exact (zero_add _).symm

theorem gain_two (Q : FVec Ideal S256x3072 .bf16) (W : FVec Ideal S3072x2048 .bf16) (X : FVec Ideal S256x2048 .f32) (i0) (i1) :
    k0_pay14 (F := Ideal) (k0_pay8 (F := Ideal) Q W (View.ld (Val := Elt Ideal) (e' := .f32) X (Rect.unit (s := S256x2048) ![0, 0] S128x2048.size i0)))
      (k0_pay9 (F := Ideal) Q W) (View.ld (Val := Elt Ideal) (e' := .f32) X (Rect.unit (s := S256x2048) ![128, 0] S128x2048.size i1))
      = gainPart (k0_pay2 (F := Ideal) Q W) X := by
  rw [gain_first]
  show k0_pay14 (F := Ideal) (k0_pay14 (F := Ideal) _ (extractStridedSlice S128x2048 ![0, 0] (k0_pay2 (F := Ideal) Q W) slices_S256x2048_o0_0_S128x2048) _)
    (extractStridedSlice S128x2048 ![128, 0] (k0_pay2 (F := Ideal) Q W) slices_S256x2048_o128_0_S128x2048) _ = _
  rw [load_slab 0 (by decide), load_slab 128 (by decide), slice_slab 0 (by decide), slice_slab 128 (by decide)]
  generalize k0_pay2 (F := Ideal) Q W = D
  funext j
  obtain ⟨r, l, rfl⟩ : ∃ (r : Fin 8) (l : Fin 2048), j = ix2 r l := ⟨j 0, j 1, eq_ix2 j⟩
  rw [gain_pay, gain_pay, zero_add]
  exact RowNorm.two_slabs (fun s => gainRow (n := 256) D X s l) r

/-- The gain's running sums after a grid point. -/
theorem step_gain (c : Dev nD) (t : Fin cfg0.N) (A : FVec Ideal S8x2048 .f32) (hz : t.val % 16 = 0 → A = fun _ => (0 : EReal))
    (hp : ¬t.val % 16 = 0 → A = (outsAt0 m c (t.val - 1) (Nat.lt_of_le_of_lt (Nat.sub_le ..) t.isLt)).2.2) :
    (outsAt0 m c t.val t.isLt).2.2 = fun j => A j + gainPart (k0_pay2 (F := Ideal) (iblk m c 0 t) (iblk m c 1 t)) (iblk m c 2 t) j := by
  have hN : t.val < 16 := t.isLt
  by_cases h0 : t.val % 16 = 0
  · rw [hz h0, outsAt0_A m c t h0 (by omega) (by omega)]
    frame_out
    funext j
    rw [zero_add, eq_ix2 j]
    refine Eq.trans ?_ (congrFun (gain_two (iblk m c 0 t) (iblk m c 1 t) (iblk m c 2 t) inb_S256x2048_S128x2048_0_0 inb_S256x2048_S128x2048_128_0) _)
    pointwise [k0_pay15]
  · rw [hp h0]
    by_cases h2 : t.val % 16 = 15
    on_goal 1 => rw [outsAt0_C m c t h0 (by omega) h2]
    on_goal 2 => rw [outsAt0_B m c t h0 (by omega) h2]
    all_goals
      frame_out
      simp only [read_unread_whole]
      generalize (outsAt0 m c (t.val - 1) _).2.2 = A
      funext j
      rw [eq_ix2 j]
      refine Eq.trans ?_ (congrArg (fun z : EReal => A _ + z) (congrFun (gain_two (iblk m c 0 t) (iblk m c 1 t) (iblk m c 2 t) inb_S256x2048_S128x2048_0_0 inb_S256x2048_S128x2048_128_0) _))
      pointwise [k0_pay16]

/-- The last grid point adds the eight running sums. -/
theorem out_gain (c : Dev nD) (t : Fin cfg0.N) (h : t.val % 16 = 15) : (outsAt0 m c t.val t.isLt).2.1
    = k0_pay1 (F := Ideal) (outsAt0 m c t.val t.isLt).2.2 := by
  have hN : t.val < 16 := t.isLt
  rw [outsAt0_C m c t (by omega) (by omega) h]
  frame_open
  simp (disch := decide) only [↓ View.readCov_skip, ↓ View.readCov_cons_toLoadRect, ↓ View.readCov_fill]
  frame_out

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] :=
  (by decide +kernel : ∀ t : Fin grid0.N, _)

/-- The rows of an array that a grid point works on. -/
def rows {φ : FTy} {w : Nat} (t : Fin 16) (X : FVec Ideal ⟨2, ![4096, w]⟩ φ) : FVec Ideal ⟨2, ![256, w]⟩ φ := fun j =>
  X (ix2 (⟨t.val * 256 + (j 0).val, by have h : (j 0).val < 256 := (j 0).isLt; omega⟩ : Fin 4096) (j 1 : Fin w))

/-- The weights and the activations as the call takes them. -/
def weights (c : Dev nD) : FVec Ideal S2048x3072 .f32 := shapeCast S2048x3072 (m ((c : Thread nD τ).loc main_arg1)) shapeCasts_S1x2048x3072_S2048x3072

def acts (c : Dev nD) : FVec Ideal S4096x2048 .f32 := shapeCast S4096x2048 (m ((c : Thread nD τ).loc main_arg2)) shapeCasts_S1x4096x2048_S4096x2048

/-- The data gradient of the projection. -/
def product (Q : FVec Ideal S4096x3072 .bf16) (W : FVec Ideal S2048x3072 .f32) : FVec Ideal S4096x2048 .f32 := fun j =>
  ∑ k : Fin 3072, Q (ix2 (j 0) k) * W (ix2 (j 1) k)

theorem block0 (c : Dev nD) (t : Fin cfg0.N) : iblk m c 0 t = rows (φ := .bf16) (w := 3072) t (m ((c : Thread nD τ).loc main_arg0)) := by
  funext j
  rw [eq_ix2 j]
  show _ = m ((c : Thread nD τ).loc main_arg0) _
  blk_ext! [iblk, V, idx t]

theorem block1 (c : Dev nD) (t : Fin cfg0.N) : iblk m c 1 t = transpose S3072x2048 [1, 0] (weights m c) transposes_S2048x3072_S3072x2048_1_0 := by
  have h : iblk m c 1 t = V m c main_v2 := by blk_ext! [iblk, idx t]
  rw [h]
  entry_read
  rfl

theorem block2 (c : Dev nD) (t : Fin cfg0.N) : iblk m c 2 t = rows (φ := .f32) (w := 2048) t (acts m c) := by
  have h : V m c main_v3 = acts m c := by
    entry_read
    rfl
  rw [← h]
  funext j
  rw [eq_ix2 j]
  show _ = V m c main_v3 _
  blk_ext! [iblk, idx t]

theorem block3 (c : Dev nD) (t : Fin cfg0.N) : iblk m c 3 t = rows (φ := .f32) (w := 2048) t (m ((c : Thread nD τ).loc main_arg3)) := by
  funext j
  rw [eq_ix2 j]
  show _ = m ((c : Thread nD τ).loc main_arg3) _
  blk_ext! [iblk, V, idx t]

theorem block4 (c : Dev nD) (t : Fin cfg0.N) : iblk m c 4 t = m ((c : Thread nD τ).loc main_arg4) := by
  blk_ext! [iblk, V, idx t]

theorem product_rows (t : Fin 16) (Q : FVec Ideal S4096x3072 .bf16) (W : FVec Ideal S2048x3072 .f32) :
    k0_pay2 (F := Ideal) (rows t Q) (transpose S3072x2048 [1, 0] W transposes_S2048x3072_S3072x2048_1_0) = rows t (product Q W) := by
  funext j
  rw [eq_ix2 j]
  refine (product_at _ _ (j 0) (j 1)).trans ?_
  pointwise [rows, product]

theorem tile (c : Dev nD) (t : Fin cfg0.N) : k0_pay2 (F := Ideal) (iblk m c 0 t) (iblk m c 1 t)
    = rows (φ := .f32) (w := 2048) t (product (m ((c : Thread nD τ).loc main_arg0)) (weights m c)) := by
  rw [block0, block1]
  exact product_rows t _ _

theorem rows_lt (t : Fin 16) (y : Fin 256) : t.val * 256 + y.val < 4096 := by omega

theorem final_input (c : Dev nD) : (dats m 0 c).arrAt 5 (cfgs 0).N
    = fun j => inputAt (n := 4096) (product (m ((c : Thread nD τ).loc main_arg0)) (weights m c)) (acts m c)
      (m ((c : Thread nD τ).loc main_arg3)) (m ((c : Thread nD τ).loc main_arg4)) (j 0) (j 1) := by
  refine (dats m 0 c).arrAt_eq_of_covers 5 _ (by decide +kernel) fun t hf y => ?_
  blk_simp
  rw [after0_5, step_input, tile, block2, block3, block4]
  generalize product (m ((c : Thread nD τ).loc main_arg0)) (weights m c) = X0
  generalize acts m c = X1
  generalize m ((c : Thread nD τ).loc main_arg4) = X2
  generalize m ((c : Thread nD τ).loc main_arg3) = X3
  have hi := (idx t).2.2.2.2.2
  refine (rfl : _ = (fun j : S4096x2048.Idx => inputAt (n := 4096) X0 X1 X3 X2 (j 0) (j 1)) (ix2 (⟨t.val * 256 + (y 0).val, rows_lt t (y 0)⟩ : Fin 4096) (y 1 : Fin 2048))).trans ?_
  refine congrArg (fun j : S4096x2048.Idx => inputAt (n := 4096) X0 X1 X3 X2 (j 0) (j 1)) (a₂ := (win0_5.blk t).view.emb y) (funext fun a => Fin.ext ?_)
  match a with
  | ⟨0, _⟩ => show _ = win0_5.index t 0 * 256 + 1 * (y 0).val; rw [hi]; show t.val * 256 + _ = t.val * 256 + 1 * _; rw [one_mul]
  | ⟨1, _⟩ => show _ = win0_5.index t 1 * 2048 + 1 * (y 1).val; rw [hi]; show (y 1).val = 0 * 2048 + 1 * (y 1).val; rw [Nat.zero_mul, Nat.zero_add, Nat.one_mul]

theorem total_gain (c : Dev nD) (j : S8x2048.Idx) : (outsAt0 m c 15 (by decide)).2.2 j
    = ∑ t : Fin 16, gainPart (rows (φ := .f32) (w := 2048) t (product (m ((c : Thread nD τ).loc main_arg0)) (weights m c))) (rows (φ := .f32) (w := 2048) t (acts m c)) j := by
  refine Sums.carried 16 16 le_rfl (fun n hn => (outsAt0 m c n hn).2.2)
    (fun n hn j => gainPart (rows (φ := .f32) (w := 2048) ⟨n, hn⟩ (product (m ((c : Thread nD τ).loc main_arg0)) (weights m c))) (rows (φ := .f32) (w := 2048) ⟨n, hn⟩ (acts m c)) j)
    (fun n hn A hz hp => ?_) 15 (by decide) j
  refine (step_gain m c ⟨n, hn⟩ A hz hp).trans ?_
  rw [tile, block2]
  rfl

theorem final_gain (c : Dev nD) : (dats m 0 c).arrAt 6 (cfgs 0).N
    = fun j => gainAt (n := 4096) (product (m ((c : Thread nD τ).loc main_arg0)) (weights m c)) (acts m c) (j 1) := by
  refine (dats m 0 c).arrAt_eq_of_after_last 6 t0_15 (by decide +kernel) _ fun j => ?_
  blk_simp
  rw [after0_6, out_gain m c t0_15 rfl]
  refine (congrArg (fun A => k0_pay1 (F := Ideal) A j) (funext (total_gain m c))).trans ?_
  rw [eq_ix2 j]
  pointwise [k0_pay1]
  exact RowNorm.sum_eighths 16 32 (fun s : Fin 4096 => gainRow (n := 4096) (product (m ((c : Thread nD τ).loc main_arg0)) (weights m c)) (acts m c) s (j 1)) _
    (fun t q r => by omega) fun r t => rfl

end Cert.Kernel8Ideal.Hand

namespace Cert.Reference8Ideal.Hand

open Cert.Reference8Ideal Cert.Reference8Ideal.Gen
open Cert.Kernel8Ideal.Hand (product)

theorem product_eq (Q : FVec Ideal S4096x3072 .bf16) (W : FVec Ideal S1x2048x3072 .f32) :
    Host.dotGeneral dot_S4096x3072_S2048x3072_S4096x2048_1_1_0_0_n_n none (extf .f32 Q bitsLt_bf16_f32) (shapeCast S2048x3072 W shapeCasts_S1x2048x3072_S2048x3072)
      = product Q (shapeCast _ W Cert.Kernel8Ideal.Gen.shapeCasts_S1x2048x3072_S2048x3072) := by
  funext j
  rw [eq_ix2 j]
  pointwise [product]

end Cert.Reference8Ideal.Hand

namespace Cert.Proof

open Cert.RowNorm (inputAt gainAt)

theorem algebraic8 : Cert.algebraic_Kernel8Ideal_Reference8Ideal := by
  pair_intro
  · exact Cert.Kernel8Ideal.Value.run_blocks m g
  · refine (θ_run _ _ _).mono (fun r h c => ?_) (Cert.Reference8Ideal.Value.run m' g')
    obtain ⟨h0, h1, h3⟩ := h c
    obtain ⟨e0, e1, e2, e3, e4⟩ := hagree c
    refine ⟨?_, ?_, h3⟩
    · rw [Cert.Kernel8Ideal.Hand.final_input m c, Cert.Kernel8Ideal.Hand.weights, Cert.Kernel8Ideal.Hand.acts, ← e0, ← e1, ← e2, ← e3, ← e4, ← Cert.Reference8Ideal.Hand.product_eq]
      exact h0.trans (funext fun j => (congrArg _ (eq_ix2 j)).trans (Cert.Reference6Ideal.Hand.hostInput_at _ _ _ _ (j 0) (j 1)))
    · rw [Cert.Kernel8Ideal.Hand.final_gain m c, Cert.Kernel8Ideal.Hand.weights, Cert.Kernel8Ideal.Hand.acts, ← e0, ← e1, ← e2, ← Cert.Reference8Ideal.Hand.product_eq]
      exact h1.trans (funext fun j => (congrArg _ (eq_ix2 j)).trans (Cert.Reference6Ideal.Hand.hostGain_at _ _ (j 0) (j 1)))

end Cert.Proof

end
-- ==== Proof.AttnForward.lean ====
module

public import proofs.«01_k».proof.Defs
public import proofs.«01_k».proof.Proof.Gen.Kernel9Ideal.Value
public import proofs.«01_k».proof.Proof.Gen.Reference9Ideal.Run
public import proofs.«01_k».proof.Proof.AttnRef
public import Idealize.ShloMosaic.Lib.Pipeline.ReadBack
public import Idealize.ShloMosaic.Lib.Claim

/-! The attention's forward call: four grid points, each over 1024 query rows, all heads. -/

@[expose] public section

set_option maxRecDepth 16384

noncomputable section

open Idealize.ShloMosaic Idealize.ShloMosaic.TcCoe Idealize.SL.Sem
open Idealize.ShloMosaic.Pipeline (Dat)

namespace Cert.Kernel9Ideal.Hand

open Cert.Kernel9Ideal Cert.Kernel9Ideal.Gen
open Cert.Kernel3Ideal.Hand (score weight lane head headOf placeOf headOf_eq placeOf_eq rows_eq mem_eq)

variable (m : (ℓ : Loc nD τ sig) → Buf (Elt Ideal) ℓ)

/-- The values under the weights of one query row, in a block of rows. -/
def outAt {n : Nat} (Q : (⟨2, ![n, 2048]⟩ : Shape).Idx → EReal) (K V : FVec Ideal S256x2048 .bf16) (h : Fin 4) (a : Fin n) (d : Fin 512) : EReal :=
  ∑ x : Fin 256, weight (head Q h a) (head K h) x * head V h x d

theorem weight_pay (Q : FVec Ideal S1024x512 .bf16) (K : FVec Ideal S256x512 .bf16) (a : Fin 1024) (x : Fin 256) :
    k0_pay3 (F := Ideal) Q K (ix2 a x) = weight (fun d => Q (ix2 a d)) (fun y d => K (ix2 y d)) x := by
  pointwise [k0_pay3, weight, score]

theorem value_pay (Q : FVec Ideal S1024x512 .bf16) (K V : FVec Ideal S256x512 .bf16) (a : Fin 1024) (d : Fin 512) :
    k0_pay4 (F := Ideal) (k0_pay3 (F := Ideal) Q K) V (ix2 a d)
      = ∑ x : Fin 256, weight (fun d => Q (ix2 a d)) (fun y d => K (ix2 y d)) x * V (ix2 x d) := by
  pointwise [k0_pay4, weight_pay]

theorem head_0 (Q : FVec Ideal S1024x512 .bf16) (K V : FVec Ideal S256x512 .bf16) :
    k0_pay2 (F := Ideal) Q K V = k0_pay4 (F := Ideal) (k0_pay3 (F := Ideal) Q K) V := rfl
theorem head_2 (Q : FVec Ideal S1024x512 .bf16) (K V : FVec Ideal S256x512 .bf16) :
    k0_pay5 (F := Ideal) Q K V = k0_pay4 (F := Ideal) (k0_pay3 (F := Ideal) Q K) V := rfl
theorem head_3 (Q : FVec Ideal S1024x512 .bf16) (K V : FVec Ideal S256x512 .bf16) :
    k0_pay1 (F := Ideal) (k0_pay6 (F := Ideal) Q K) (k0_pay7 (F := Ideal) Q K) V = k0_pay4 (F := Ideal) (k0_pay3 (F := Ideal) Q K) V := rfl

section Heads

variable (Q : FVec Ideal S1024x2048 .bf16) (K V : FVec Ideal S256x2048 .bf16)

theorem piece (h : Fin 4) (o : Nat) (ho : o = h.val * 512) (inb) (inb') (x : S1024x512.Idx) (y : S1024x2048.Idx)
    (h0 : (y 0).val = (x 0).val) (h1 : (y 1).val = o + (x 1).val) :
    k0_pay4 (F := Ideal) (k0_pay3 (F := Ideal) (View.ld (Val := Elt Ideal) (e' := .bf16) Q (Rect.unit (s := S1024x2048) ![0, o] ![1024, 512] inb))
      (View.ld (Val := Elt Ideal) (e' := .bf16) K (Rect.unit (s := S256x2048) ![0, o] ![256, 512] inb')))
      (View.ld (Val := Elt Ideal) (e' := .bf16) V (Rect.unit (s := S256x2048) ![0, o] ![256, 512] inb')) x
      = outAt Q K V (headOf (y 1)) (y 0) (placeOf (y 1)) := by
  rw [show y 0 = x 0 from Fin.ext h0, headOf_eq h (x 1) (y 1) (by omega), placeOf_eq h (x 1) (y 1) (by omega), eq_ix2 x,
    rows_eq Q h o ho, mem_eq K h o ho, mem_eq V h o ho]
  exact value_pay _ _ _ _ _

/-- What a grid point stores. -/
theorem out_heads (y : S1024x2048.Idx) : out0_3 (F := Ideal) Q K V y = outAt Q K V (headOf (y 1)) (y 0) (placeOf (y 1)) := by
  unfold out0_3
  rw [head_0, head_2, head_3]
  canon_tiles x h
  · exact piece Q K V 3 1536 rfl _ _ x y h0 h1
  · exact piece Q K V 2 1024 rfl _ _ x y h0 h1
  · exact piece Q K V 1 512 rfl _ _ x y h0 h1
  · exact piece Q K V 0 0 rfl _ _ x y h0 (h1.trans (Nat.zero_add _).symm)

end Heads

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The rows of an array that a grid point works on. -/
def rows (t : Fin 4) (X : FVec Ideal S4096x2048 .bf16) : FVec Ideal S1024x2048 .bf16 := fun j =>
  X (ix2 (⟨t.val * 1024 + (j 0).val, by have h : (j 0).val < 1024 := (j 0).isLt; omega⟩ : Fin 4096) (j 1 : Fin 2048))

theorem block0 (c : Dev nD) (t : Fin cfg0.N) : iblk m c 0 t = rows t (m ((c : Thread nD τ).loc main_arg0)) := by
  funext j
  rw [eq_ix2 j]
  show _ = m ((c : Thread nD τ).loc main_arg0) _
  blk_ext! [iblk, V, idx t]

theorem block1 (c : Dev nD) (t : Fin cfg0.N) : iblk m c 1 t = m ((c : Thread nD τ).loc main_arg1) := by
  blk_ext! [iblk, V, idx t]

theorem block2 (c : Dev nD) (t : Fin cfg0.N) : iblk m c 2 t = m ((c : Thread nD τ).loc main_arg2) := by
  blk_ext! [iblk, V, idx t]

theorem rows_lt (t : Fin 4) (y : Fin 1024) : t.val * 1024 + y.val < 4096 := by omega

theorem final_out (c : Dev nD) : (dats m 0 c).arrAt 3 (cfgs 0).N
    = fun j => outAt (n := 4096) (m ((c : Thread nD τ).loc main_arg0)) (m ((c : Thread nD τ).loc main_arg1))
      (m ((c : Thread nD τ).loc main_arg2)) (headOf (j 1)) (j 0) (placeOf (j 1)) := by
  refine (dats m 0 c).arrAt_eq_of_covers 3 _ (by decide +kernel) fun t hf y => ?_
  blk_simp
  rw [after0_3, block0, block1, block2]
  generalize m ((c : Thread nD τ).loc main_arg0) = Q
  generalize m ((c : Thread nD τ).loc main_arg1) = K
  generalize m ((c : Thread nD τ).loc main_arg2) = V
  have hi := (idx t).2.2.2
  refine (out_heads _ _ _ y).trans ?_
  refine (rfl : _ = (fun j : S4096x2048.Idx => outAt (n := 4096) Q K V (headOf (j 1)) (j 0) (placeOf (j 1))) (ix2 (⟨t.val * 1024 + (y 0).val, rows_lt t (y 0)⟩ : Fin 4096) (y 1 : Fin 2048))).trans ?_
  refine congrArg (fun j : S4096x2048.Idx => outAt (n := 4096) Q K V (headOf (j 1)) (j 0) (placeOf (j 1))) (a₂ := (win0_3.blk t).view.emb y) (funext fun a => Fin.ext ?_)
  match a with
  | ⟨0, _⟩ => show _ = win0_3.index t 0 * 1024 + 1 * (y 0).val; rw [hi]; show t.val * 1024 + _ = t.val * 1024 + 1 * _; rw [one_mul]
  | ⟨1, _⟩ => show _ = win0_3.index t 1 * 2048 + 1 * (y 1).val; rw [hi]; show (y 1).val = 0 * 2048 + 1 * (y 1).val; rw [Nat.zero_mul, Nat.zero_add, Nat.one_mul]

end Cert.Kernel9Ideal.Hand

namespace Cert.Reference9Ideal.Hand

open Cert.Reference9Ideal Cert.Reference9Ideal.Gen
open Cert.Kernel9Ideal.Hand (outAt)
open Cert.Kernel3Ideal.Hand (headOf placeOf)
open Cert.Reference3Ideal.Hand (weights memHeads weights_at mem_at)

theorem out_at (Q : FVec Ideal S4096x2048 .bf16) (K V : FVec Ideal S256x2048 .bf16) (s : Fin 4096) (l : Fin 2048) :
    truncf .bf16 (shapeCast S4096x2048 (transpose S4096x4x512 [2, 0, 1] (Host.dotGeneral dot_S256x4x512_S4x4096x256_S4x512x4096_0_2_2_1_1_0 none (memHeads V) (weights Q K)) transposes_S4x512x4096_S4096x4x512_2_0_1) shapeCasts_S4096x4x512_S4096x2048) bitsLt_bf16_f32 (ix2 s l)
      = outAt (n := 4096) Q K V (headOf l) s (placeOf l) := by
  pointwise [mem_at, weights_at]
  exact Fin.sum_fin_congr fun a => mul_comm _ _

end Cert.Reference9Ideal.Hand

namespace Cert.Proof

theorem algebraic9 : Cert.algebraic_Kernel9Ideal_Reference9Ideal := by
  pair_intro
  · exact Cert.Kernel9Ideal.Value.run_blocks m g
  · refine (θ_run _ _ _).mono (fun r h c => ?_) (Cert.Reference9Ideal.Value.run m' g')
    obtain ⟨h0, h1⟩ := h c
    obtain ⟨e0, e1, e2⟩ := hagree c
    rw [e0, e1, e2] at h0
    refine ⟨?_, h1⟩
    rw [Cert.Kernel9Ideal.Hand.final_out m c]
    exact h0.trans (funext fun j => (congrArg _ (eq_ix2 j)).trans (Cert.Reference9Ideal.Hand.out_at _ _ _ (j 0) (j 1)))

end Cert.Proof

end
-- ==== Proof.MixTile.lean ====
module

public import proofs.«01_k».proof.Proof.Gen.Kernel10Ideal.Value
public import proofs.«01_k».proof.Proof.MixerProj

/-! What one grid point of the mixer's forward call leaves in its blocks: the pooled activations, the normalised gate
and the two halves of the mixer's output. -/

@[expose] public section

set_option maxRecDepth 16384

noncomputable section

open Idealize.ShloMosaic Idealize.ShloMosaic.TcCoe Idealize.SL.Sem
open Idealize.ShloMosaic.Pipeline (Dat)

namespace Cert.Kernel10Ideal.Hand

open Cert.Kernel10Ideal Cert.Kernel10Ideal.Gen Cert.Tiles
open Cert.Kernel2Ideal.Hand (place place_eq own_place emb_unit_eq)

variable (m : (ℓ : Loc nD τ sig) → Buf (Elt Ideal) ℓ)

/-! ## The pooling groups: trailing means over windows of four lengths -/

/-- The length of a group's window, and the same as a number of the kernel. -/
def win (g : Fin 4) : Nat := ([2, 4, 8, 16] : List Nat).get g
def winBits (g : Fin 4) : BitVec 32 := ([0x40000000#32, 0x40800000#32, 0x41000000#32, 0x41800000#32] : List (BitVec 32)).get g

def poolLane (g : Fin 4) (k : Fin 256) : Fin 1024 := ⟨g.val * 256 + k.val, by have := g.isLt; have := k.isLt; omega⟩

/-- The pooled columns of a block, behind the sixteen rows before it. -/
def extAt (i : Nat) (X0 : FVec Ideal S512x3072 .f32) (X1 : FVec Ideal S16x1024 .f32) (n : Nat) (l : Fin 1024) : EReal :=
  if h : n < 16 then if 0 < i then X1 (ix2 ⟨n, h⟩ l) else 0
  else if h' : n < 528 then X0 (ix2 (⟨n - 16, by omega⟩ : Fin 512) (⟨l.val, by have := l.isLt; omega⟩ : Fin 3072)) else 0

/-- A trailing mean, less the entry itself. -/
def meanAt (i : Nat) (f : Nat → Fin 1024 → EReal) (g : Fin 4) (a : Fin 512) (k : Fin 256) : EReal :=
  Ideal.div (∑ j ∈ Finset.range (win g), f (a.val + 16 - j) (poolLane g k)) (min (place (i * 512 + a.val)) (Ideal.ofBits .f32 (winBits g)))
    - f (a.val + 16) (poolLane g k)

/-- The extended columns of one group, read from row `j` on. -/
def shifted (f : Nat → Fin 1024 → EReal) (c : Nat) (hc : c + 256 ≤ 1024) (j : Nat) : FVec Ideal S512x256 .f32 := fun x =>
  f ((x 0).val + j) ⟨c + (x 1).val, by have h : (x 1).val < 256 := (x 1).isLt; omega⟩

theorem ext_load {sig : RefSig} {κ : Kind} {sp : Space} (v : View sig κ sp S528x1024 .f32) (c j : Nat)
    (P1 : FVec Ideal S16x1024 .f32) (P0 : FVec Ideal S512x1024 .f32)
    (inb1 : ∀ a, (![0, 0] : Fin 2 → Nat) a + (![16, 1024] : Fin 2 → Nat) a ≤ S528x1024.size a)
    (inb0 : ∀ a, (![16, 0] : Fin 2 → Nat) a + (![512, 1024] : Fin 2 → Nat) a ≤ S528x1024.size a)
    (inbj : ∀ a, (![j, c] : Fin 2 → Nat) a + (![512, 256] : Fin 2 → Nat) a ≤ S528x1024.size a)
    (f : Nat → Fin 1024 → EReal) (h0 : ∀ (a : Fin 512) k, P0 (ix2 a k) = f (16 + a.val) k) (h1 : ∀ (a : Fin 16) k, P1 (ix2 a k) = f a.val k) :
    v.readCov (Val := Elt Ideal) [⟨Rect.unit (s := S528x1024) ![16, 0] ![512, 1024] inb0, P0⟩, ⟨Rect.unit (s := S528x1024) ![0, 0] ![16, 1024] inb1, P1⟩]
      (Rect.unit (s := S528x1024) ![j, c] ![512, 256] inbj).toLoadRect = (shifted f c (inbj 1) j : S512x256.Idx → Elt Ideal .f32) := by
  rw [View.readCov_eq_canon']
  funext x
  show View.canon _ ((Rect.unit (s := S528x1024) ![j, c] ![512, 256] inbj).idx x) = _
  have hj : j + 512 ≤ 528 := inbj 0
  have hc : c + 256 ≤ 1024 := inbj 1
  have hx : (x 0).val < 512 := (x 0).isLt
  have hx1 : (x 1).val < 256 := (x 1).isLt
  have e := Rect.idx_unit_val (s := S528x1024) ![j, c] ![512, 256] inbj x
  have e0 : ((Rect.unit (s := S528x1024) ![j, c] ![512, 256] inbj).idx x 0 : Nat) = j + (x 0).val := e 0
  have e1 : ((Rect.unit (s := S528x1024) ![j, c] ![512, 256] inbj).idx x 1 : Nat) = c + (x 1).val := e 1
  generalize (Rect.unit (s := S528x1024) ![j, c] ![512, 256] inbj).idx x = i at e0 e1 ⊢
  clear e
  unfold shifted
  by_cases hlt : (x 0).val + j < 16
  · rw [View.canon_cons_of_not_mem]
    · rw [emb_unit_eq (S := S528x1024) ![0, 0] ![16, 1024] inb1 (ix2 (⟨(x 0).val + j, hlt⟩ : Fin 16) (⟨c + (x 1).val, by omega⟩ : Fin 1024)) i
        (Fin.forall_fin_two.mpr ⟨show (i 0).val = 0 + ((x 0).val + j) by omega, show (i 1).val = 0 + (c + (x 1).val) by omega⟩), View.canon_cons_emb]
      exact h1 _ _
    · intro hm
      obtain ⟨y, rfl⟩ := (Rect.unit (s := S528x1024) ![16, 0] ![512, 1024] inb0).exists_idx_of_mem hm
      have h' := Rect.idx_unit_val (s := S528x1024) ![16, 0] ![512, 1024] inb0 y 0
      have h'' : ((Rect.unit (s := S528x1024) ![16, 0] ![512, 1024] inb0).idx y 0 : Nat) = 16 + (y 0).val := h'
      omega
  · rw [emb_unit_eq (S := S528x1024) ![16, 0] ![512, 1024] inb0 (ix2 (⟨(x 0).val + j - 16, by omega⟩ : Fin 512) (⟨c + (x 1).val, by omega⟩ : Fin 1024)) i
        (Fin.forall_fin_two.mpr ⟨show (i 0).val = 16 + ((x 0).val + j - 16) by omega, show (i 1).val = 0 + (c + (x 1).val) by omega⟩), View.canon_cons_emb]
    refine (h0 _ _).trans (congrArg (fun n => f n _) ?_)
    show 16 + ((x 0).val + j - 16) = _
    omega

theorem read_one {S : Shape} {e : EltTy} {sig : RefSig} {κ : Kind} {sp : Space} (v : View sig κ sp S e) (X : S.Idx → Elt Ideal e)
    {off : Fin S.rank → Nat} (inb : ∀ a, off a + S.size a ≤ S.size a) (ho : ∀ a, off a = 0) (r : Rect S) :
    v.readCov [⟨Rect.unit (s := S) off S.size inb, X⟩] r.toLoadRect = View.ld (Val := Elt Ideal) (e' := e) X r := by
  rw [View.readCov_eq_canon']
  funext x
  show View.canon _ (r.idx x) = X (r.idx x)
  rw [emb_unit_eq (S := S) off S.size inb (r.idx x) (r.idx x) fun a => by rw [ho a]; exact (Nat.zero_add _).symm, View.canon_cons_emb]
  exact congrArg X (emb_unit_eq (S := S) off S.size inb (r.idx x) (r.idx x) fun a => by rw [ho a]; exact (Nat.zero_add _).symm)

section means
variable (i : grid0.Coords) (f : Nat → Fin 1024 → EReal) (D : FVec Ideal S512x1024 .f32) (hD : ∀ (a : Fin 512) l, D (ix2 a l) = f (16 + a.val) l)

def meanBlk (g : Fin 4) : FVec Ideal S512x256 .bf16 := fun x => meanAt (i 0).val f g (x 0) (x 1)

theorem count_at (hi : (i 0).val < 8) (a : Fin 512) : k0_pay3 (F := Ideal) i (ix2 a (0 : Fin 1)) = place ((i 0).val * 512 + a.val) := by
  pointwise [k0_pay3]
  exact place_eq _ (by have := a.isLt; omega) _ (own_place hi a.isLt)

include hD

theorem own_at (g : Fin 4) (a : Fin 512) (k : Fin 256) (l : Fin 1024) (hl : l.val = g.val * 256 + k.val) : D (ix2 a l) = f (a.val + 16) (poolLane g k) := by
  rw [hD, Nat.add_comm]
  exact congrArg (f _) (Fin.ext hl)

omit hD in
theorem mean_of (hi : (i 0).val < 8) (g : Fin 4) (n : Nat) (w : BitVec 32) (hn : win g = n) (hw : winBits g = w) (s : EReal) (a : Fin 512) (k : Fin 256)
    (hs : s = ∑ j ∈ Finset.range n, f (a.val + 16 - j) (poolLane g k)) :
    Ideal.div s (min (k0_pay3 (F := Ideal) i (ix2 a (0 : Fin 1))) (Ideal.ofBits .f32 w)) - f (a.val + 16) (poolLane g k) = meanAt (i 0).val f g a k := by
  rw [hs, count_at i hi, meanAt, hn, hw]

theorem mean_two_at (hi : (i 0).val < 8) (L : Nat → FVec Ideal S512x256 .f32) (hL : L = shifted f 0 (by decide)) (a : Fin 512) (k : Fin 256) :
    k0_pay4 (F := Ideal) i D (L 15) (ix2 a k) = meanAt (i 0).val f 0 a k := by
  pointwise [k0_pay4]
  rw [own_at f D hD 0 a k ⟨k.val, by omega⟩ (by show k.val = 0 * 256 + k.val; omega)]
  refine mean_of i f hi 0 2 _ rfl rfl _ a k ?_
  simp only [Finset.sum_range_succ, Finset.sum_range_zero, zero_add, hL]
  rfl

theorem mean_four_at (hi : (i 0).val < 8) (L : Nat → FVec Ideal S512x256 .f32) (hL : L = shifted f 256 (by decide)) (a : Fin 512) (k : Fin 256) :
    k0_pay7 (F := Ideal) D (k0_pay3 i) (L 15) (L 14) (L 13) (ix2 a k) = meanAt (i 0).val f 1 a k := by
  pointwise [k0_pay7]
  rw [own_at f D hD 1 a k ⟨256 + k.val, by omega⟩ (by show 256 + k.val = 1 * 256 + k.val; omega)]
  refine mean_of i f hi 1 4 _ rfl rfl _ a k ?_
  simp only [Finset.sum_range_succ, Finset.sum_range_zero, zero_add, hL]
  rfl

theorem mean_eight_at (hi : (i 0).val < 8) (L : Nat → FVec Ideal S512x256 .f32) (hL : L = shifted f 512 (by decide)) (a : Fin 512) (k : Fin 256) :
    k0_pay10 (F := Ideal) D (k0_pay3 i) (k0_pay9 D (L 15) (L 14)) (L 13) (L 12) (L 11) (L 10) (L 9) (ix2 a k) = meanAt (i 0).val f 2 a k := by
  pointwise [k0_pay10, k0_pay9]
  rw [own_at f D hD 2 a k ⟨512 + k.val, by omega⟩ (by show 512 + k.val = 2 * 256 + k.val; omega)]
  refine mean_of i f hi 2 8 _ rfl rfl _ a k ?_
  simp only [Finset.sum_range_succ, Finset.sum_range_zero, zero_add, hL]
  rfl

theorem mean_sixteen_at (hi : (i 0).val < 8) (L : Nat → FVec Ideal S512x256 .f32) (hL : L = shifted f 768 (by decide)) (a : Fin 512) (k : Fin 256) :
    k0_pay13 (F := Ideal) D (k0_pay3 i) (k0_pay12 D (L 15) (L 14) (L 13)) (L 12) (L 11) (L 10) (L 9) (L 8) (L 7) (L 6) (L 5) (L 4) (L 3) (L 2) (L 1) (ix2 a k) = meanAt (i 0).val f 3 a k := by
  pointwise [k0_pay13, k0_pay12]
  rw [own_at f D hD 3 a k ⟨768 + k.val, by omega⟩ (by show 768 + k.val = 3 * 256 + k.val; omega)]
  refine mean_of i f hi 3 16 _ rfl rfl _ a k ?_
  simp only [Finset.sum_range_succ, Finset.sum_range_zero, zero_add, hL]
  rfl

end means

/-! ## The blocks -/

/-- A pooled group through its map and its scale. -/
def mapAt (i : Nat) (f : Nat → Fin 1024 → EReal) (X2 : FVec Ideal S4x256x256 .bf16) (X3 : FVec Ideal S1x1024 .f32) (g : Fin 4)
    (a : Fin 512) (k : Fin 256) : EReal :=
  (∑ x : Fin 256, meanAt i f g a x * X2 (ix3 g x k)) * X3 (ix2 (0 : Fin 1) (poolLane g k))

/-- The normalised gate. -/
def gateAt (X0 : FVec Ideal S512x3072 .f32) (X4 : FVec Ideal S1x1024 .f32) : FVec Ideal S512x1024 .bf16 := fun j =>
  have hj : (j 1).val < 1024 := (j 1).isLt
  X0 (ix2 (j 0 : Fin 512) (⟨2048 + (j 1).val, by omega⟩ : Fin 3072))
    * Ideal.rsqrt (Ideal.div (∑ x : Fin 1024, X0 (ix2 (j 0 : Fin 512) (⟨2048 + x.val, by have := x.isLt; omega⟩ : Fin 3072))
        * X0 (ix2 (j 0 : Fin 512) (⟨2048 + x.val, by have := x.isLt; omega⟩ : Fin 3072))) (Ideal.ofBits .f32 0x44800000#32) + Ideal.ofBits .f32 0x358637BD#32)
    * X4 (ix2 (0 : Fin 1) (j 1 : Fin 1024))

/-- The gated half: the gate mixed over the tokens of its block of 128, times the other branch. -/
def gatedAt (X0 : FVec Ideal S512x3072 .f32) (VN : FVec Ideal S512x1024 .bf16) (X5 : FVec Ideal S8x128x128 .bf16)
    (X6 : FVec Ideal S128x1024 .f32) (a : Fin 512) (l : Fin 1024) : EReal :=
  have ha := a.isLt
  have hl := l.isLt
  X0 (ix2 a (⟨1024 + l.val, by omega⟩ : Fin 3072))
    * ((∑ s : Fin 128, X5 (ix3 (⟨l.val / 128, by omega⟩ : Fin 8) (⟨a.val % 128, by omega⟩ : Fin 128) s)
        * VN (ix2 (⟨a.val / 128 * 128 + s.val, by have := s.isLt; omega⟩ : Fin 512) l))
      + X6 (ix2 (⟨a.val % 128, by omega⟩ : Fin 128) l))

/-- A place among the groups' lanes, by its group. -/
def byGroup {n : Nat} (p : Fin 4 → Fin n → Fin 256 → EReal) (a : Fin n) (l : Nat) (hl : l < 1024) : EReal :=
  p ⟨l / 256, by omega⟩ a ⟨l % 256, by omega⟩

theorem byGroup_eq {n : Nat} (p : Fin 4 → Fin n → Fin 256 → EReal) (g : Fin 4) (a b : Fin n) (hab : b.val = a.val) (k : Fin 256) (l : Nat) (hl : l < 1024)
    (h : l = g.val * 256 + k.val) : p g a k = byGroup p b l hl := by
  have hk := k.isLt
  obtain rfl : b = a := Fin.ext hab
  have e1 : (⟨l / 256, by omega⟩ : Fin 4) = g := Fin.ext (show l / 256 = g.val by omega)
  have e2 : (⟨l % 256, by omega⟩ : Fin 256) = k := Fin.ext (show l % 256 = k.val by omega)
  rw [byGroup, e1, e2]

/-- The mixer's output, at one place of the block. -/
def mixAt {n : Nat} (p : Fin 4 → Fin n → Fin 256 → EReal) (q : Fin n → Fin 1024 → EReal) (a : Fin n) (l : Fin 2048) : EReal :=
  have hl := l.isLt
  if h : l.val < 1024 then byGroup p a l.val h else q a ⟨l.val - 1024, by omega⟩

theorem select_later {i : Nat} (hi : i < 8) (A : EReal) :
    Scalar.select (Scalar.cmpi .sgt (BitVec.ofNat 32 i) 0#32) A (0 : EReal) = if 0 < i then A else 0 := by
  interval_cases i <;> rfl

theorem halo_rows (i : grid0.Coords) (hi : (i 0).val < 8) (X0 : FVec Ideal S512x3072 .f32) (X1 : FVec Ideal S16x1024 .f32) (a : Fin 16) (l : Fin 1024) :
    k0_pay1 (F := Ideal) i X1 (ix2 a l) = extAt (i 0).val X0 X1 a.val l := by
  rw [extAt, dif_pos a.isLt]
  pointwise [k0_pay1]
  exact select_later hi (X1 (ix2 a l))

theorem own_rows (i : Nat) (X0 : FVec Ideal S512x3072 .f32) (X1 : FVec Ideal S16x1024 .f32) (inb) (a : Fin 512) (l : Fin 1024) :
    View.ld (Val := Elt Ideal) (e' := .f32) X0 (Rect.unit (s := S512x3072) ![0, 0] ![512, 1024] inb) (ix2 a l) = extAt i X0 X1 (16 + a.val) l := by
  rw [extAt, dif_neg (by omega), dif_pos (by have := a.isLt; omega)]
  refine congrArg X0 (funext fun q => Fin.ext ?_)
  rw [Rect.idx_unit_val]
  match q with
  | ⟨0, _⟩ => exact (show 0 + a.val = 16 + a.val - 16 by omega)
  | ⟨1, _⟩ => exact Nat.zero_add _

theorem same_rows (D : FVec Ideal S512x1024 .f32) (f : Nat → Fin 1024 → EReal) (hD : ∀ (a : Fin 512) l, D (ix2 a l) = f (16 + a.val) l) (a : Fin 512) (l : Fin 1024) :
    k0_pay2 (F := Ideal) D (ix2 a l) = f (16 + a.val) l := by
  pointwise [k0_pay2]
  exact hD a l

theorem map_tile (i : Nat) (f : Nat → Fin 1024 → EReal) (X2 : FVec Ideal S4x256x256 .bf16) (X3 : FVec Ideal S1x1024 .f32)
    (A : FVec Ideal S512x256 .bf16) (g : Fin 4) (hA : ∀ a k, A (ix2 a k) = meanAt i f g a k) (q o : Nat) (hq : q = g.val) (ho : o = g.val * 256)
    (inb2) (inb3) (a : Fin 512) (k : Fin 256) :
    k0_pay14 (F := Ideal) A (View.ld (Val := Elt Ideal) (e' := .bf16) X2 (Rect.unit (s := S4x256x256) ![q, 0, 0] ![1, 256, 256] inb2))
      (View.ld (Val := Elt Ideal) (e' := .f32) X3 (Rect.unit (s := S1x1024) ![0, o] ![1, 256] inb3)) (ix2 a k) = mapAt i f X2 X3 g a k := by
  subst ho hq
  pointwise [k0_pay14, mapAt, hA]
  blk_point
  rfl

theorem norm_block (X0 : FVec Ideal S512x3072 .f32) (X4 : FVec Ideal S1x1024 .f32) (inb) :
    k0_pay15 (F := Ideal) (View.ld (Val := Elt Ideal) (e' := .f32) X0 (Rect.unit (s := S512x3072) ![0, 2048] ![512, 1024] inb)) X4 = gateAt X0 X4 := by
  funext x
  rw [eq_ix2 x]
  generalize x 0 = a
  generalize x 1 = l
  pointwise [k0_pay15, gateAt]

theorem pool_tile (c : Dev nD) (t : Fin cfg0.N) (a : Fin 512) (l : Fin 1024) :
    (outsAt0 m c t).2.1 (ix2 a l) = byGroup (meanAt (grid0.coords t 0).val (extAt (grid0.coords t 0).val (iblk m c 0 t) (iblk m c 1 t))) a l.val l.isLt := by
  generalize hy : (ix2 a l : S512x1024.Idx) = y
  have ha : a.val = (y 0).val := by rw [← hy]; rfl
  have hl : l.val = (y 1).val := by rw [← hy]; rfl
  unfold outsAt0
  dsimp only
  frame_out
  try simp only [read_unread_whole]
  generalize iblk m c 0 t = X0
  generalize iblk m c 1 t = X1
  have hi : (grid0.coords t 0).val < 8 := (grid0.coords t 0).isLt
  have hX := halo_rows (grid0.coords t) hi X0 X1
  have hD := own_rows (grid0.coords t 0).val X0 X1 inb_S512x3072_S512x1024_0_0
  generalize extAt (grid0.coords t 0).val X0 X1 = f at hD hX ⊢
  generalize View.ld (Val := Elt Ideal) (e' := .f32) X0 (Rect.unit (s := S512x3072) ![0, 0] ![512, 1024] inb_S512x3072_S512x1024_0_0) = D at hD ⊢
  have hE := same_rows D f hD
  simp only [ext_load _ _ _ _ _ _ _ _ f hE hX]
  canon_tiles x h
  · exact (congrArg _ (eq_ix2 x)).trans ((mean_sixteen_at _ f D hD hi (shifted f 768 (by decide)) rfl (x 0) (x 1)).trans
      (byGroup_eq _ 3 (x 0) a (by omega) (x 1) _ _ (show l.val = 3 * 256 + (x 1).val by omega)))
  · exact (congrArg _ (eq_ix2 x)).trans ((mean_eight_at _ f D hD hi (shifted f 512 (by decide)) rfl (x 0) (x 1)).trans
      (byGroup_eq _ 2 (x 0) a (by omega) (x 1) _ _ (show l.val = 2 * 256 + (x 1).val by omega)))
  · exact (congrArg _ (eq_ix2 x)).trans ((mean_four_at _ f D hD hi (shifted f 256 (by decide)) rfl (x 0) (x 1)).trans
      (byGroup_eq _ 1 (x 0) a (by omega) (x 1) _ _ (show l.val = 1 * 256 + (x 1).val by omega)))
  · exact (congrArg _ (eq_ix2 x)).trans ((mean_two_at _ f D hD hi (shifted f 0 (by decide)) rfl (x 0) (x 1)).trans
      (byGroup_eq _ 0 (x 0) a (by omega) (x 1) _ _ (show l.val = 0 * 256 + (x 1).val by omega)))

theorem gate_tile (c : Dev nD) (t : Fin cfg0.N) : (outsAt0 m c t).2.2 = gateAt (iblk m c 0 t) (iblk m c 4 t) := by
  funext y
  unfold outsAt0
  dsimp only
  frame_out
  try simp only [read_unread_whole]
  generalize iblk m c 0 t = X0
  generalize iblk m c 4 t = X4
  exact congrFun (norm_block X0 X4 _) _

theorem mix_left (p : Fin 4 → Fin 512 → Fin 256 → EReal) (q : Fin 512 → Fin 1024 → EReal) (g : Fin 4) (a b : Fin 512) (hab : b.val = a.val) (k : Fin 256)
    (l : Fin 2048) (h : l.val = g.val * 256 + k.val) : p g a k = mixAt p q b l := by
  have hk := k.isLt
  have hg := g.isLt
  rw [mixAt, dif_pos (by omega)]
  exact byGroup_eq p g a b hab k _ _ h

theorem mix_right (p : Fin 4 → Fin 512 → Fin 256 → EReal) (q : Fin 512 → Fin 1024 → EReal) (a : Fin 512) (l : Fin 2048) (hl : 1024 ≤ l.val) :
    q a ⟨l.val - 1024, by have := l.isLt; omega⟩ = mixAt p q a l := by
  rw [mixAt, dif_neg (by omega)]

set_option maxHeartbeats 4000000 in
theorem mix_tile (c : Dev nD) (t : Fin cfg0.N) (a : Fin 512) (l : Fin 2048) :
    (outsAt0 m c t).1 (ix2 a l) = mixAt (mapAt (grid0.coords t 0).val (extAt (grid0.coords t 0).val (iblk m c 0 t) (iblk m c 1 t)) (iblk m c 2 t) (iblk m c 3 t))
      (gatedAt (iblk m c 0 t) (gateAt (iblk m c 0 t) (iblk m c 4 t)) (iblk m c 5 t) (iblk m c 6 t)) a l := by
  generalize hy : (ix2 a l : S512x2048.Idx) = y
  have ha : a.val = (y 0).val := by rw [← hy]; rfl
  have hl : l.val = (y 1).val := by rw [← hy]; rfl
  unfold outsAt0
  dsimp only
  frame_out
  try simp only [read_unread_whole]
  generalize iblk m c 0 t = X0
  generalize iblk m c 1 t = X1
  generalize iblk m c 2 t = X2
  generalize iblk m c 3 t = X3
  generalize iblk m c 4 t = X4
  generalize iblk m c 5 t = X5
  generalize iblk m c 6 t = X6
  have hi : (grid0.coords t 0).val < 8 := (grid0.coords t 0).isLt
  have hX := halo_rows (grid0.coords t) hi X0 X1
  have hD := own_rows (grid0.coords t 0).val X0 X1 inb_S512x3072_S512x1024_0_0
  rw [norm_block X0 X4]
  generalize gateAt X0 X4 = VN
  simp only [read_one (S := S512x1024) (e := .bf16) (off := ![0, 0]) _ VN inb_S512x1024_S512x1024_0_0 (Fin.forall_fin_two.mpr ⟨rfl, rfl⟩)]
  generalize extAt (grid0.coords t 0).val X0 X1 = f at hD hX ⊢
  generalize View.ld (Val := Elt Ideal) (e' := .f32) X0 (Rect.unit (s := S512x3072) ![0, 0] ![512, 1024] inb_S512x3072_S512x1024_0_0) = D at hD ⊢
  have hE := same_rows D f hD
  simp only [ext_load _ _ _ _ _ _ _ _ f hE hX]
  canon_tiles x h using View.cover_of_tiledBy _ ![128, 128] (by sl_kernel_rfl) y
  on_goal 33 =>
    refine Eq.trans ?_ ((map_tile _ f X2 X3 _ 3 (mean_sixteen_at (grid0.coords t) f D hD hi (shifted f 768 (by decide)) rfl) 3 768 rfl rfl
      inb_S4x256x256_S1x256x256_3_0_0 inb_S1x1024_S1x256_0_768 (x 0) (x 1)).trans
      (mix_left _ _ 3 (x 0) a (by omega) (x 1) l (show l.val = 3 * 256 + (x 1).val by omega)))
    exact congrArg _ (eq_ix2 x)
  on_goal 33 =>
    refine Eq.trans ?_ ((map_tile _ f X2 X3 _ 2 (mean_eight_at (grid0.coords t) f D hD hi (shifted f 512 (by decide)) rfl) 2 512 rfl rfl
      inb_S4x256x256_S1x256x256_2_0_0 inb_S1x1024_S1x256_0_512 (x 0) (x 1)).trans
      (mix_left _ _ 2 (x 0) a (by omega) (x 1) l (show l.val = 2 * 256 + (x 1).val by omega)))
    exact congrArg _ (eq_ix2 x)
  on_goal 33 =>
    refine Eq.trans ?_ ((map_tile _ f X2 X3 _ 1 (mean_four_at (grid0.coords t) f D hD hi (shifted f 256 (by decide)) rfl) 1 256 rfl rfl
      inb_S4x256x256_S1x256x256_1_0_0 inb_S1x1024_S1x256_0_256 (x 0) (x 1)).trans
      (mix_left _ _ 1 (x 0) a (by omega) (x 1) l (show l.val = 1 * 256 + (x 1).val by omega)))
    exact congrArg _ (eq_ix2 x)
  on_goal 33 =>
    refine Eq.trans ?_ ((map_tile _ f X2 X3 _ 0 (mean_two_at (grid0.coords t) f D hD hi (shifted f 0 (by decide)) rfl) 0 0 rfl rfl
      inb_S4x256x256_S1x256x256_0_0_0 inb_S1x1024_S1x256_0_0 (x 0) (x 1)).trans
      (mix_left _ _ 0 (x 0) a (by omega) (x 1) l (show l.val = 0 * 256 + (x 1).val by omega)))
    exact congrArg _ (eq_ix2 x)
  all_goals
    refine Eq.trans ?_ (mix_right _ _ a l (by omega))
    obtain rfl : a = y 0 := Fin.ext ha
    open_payloads
    pointwise [gatedAt]
    blk_point

end Cert.Kernel10Ideal.Hand
-- ==== Proof.MixRows.lean ====
module

public import proofs.«01_k».proof.Proof.MixTile
public import proofs.«01_k».proof.Proof.MixerRows

/-! The blocks of the mixer's forward call as rows of their arrays, and what its three result arrays hold. -/

@[expose] public section

set_option maxRecDepth 16384

noncomputable section

open Idealize.ShloMosaic Idealize.ShloMosaic.TcCoe Idealize.SL.Sem
open Idealize.ShloMosaic.Pipeline (Dat)

namespace Cert.Kernel10Ideal.Hand

open Cert.Kernel10Ideal Cert.Kernel10Ideal.Gen
open Cert.Kernel2Ideal.Hand (place rows)

variable (m : (ℓ : Loc nD τ sig) → Buf (Elt Ideal) ℓ)

theorem idx : ∀ t : Fin cfg0.N, win0_0.index t = ![t.val, 0] ∧ win0_1.index t = ![t.val * 32 - 1, 0]
    ∧ win0_2.index t = ![0, 0, 0] ∧ win0_3.index t = ![0, 0] ∧ win0_4.index t = ![0, 0] ∧ win0_5.index t = ![0, 0, 0]
    ∧ win0_6.index t = ![0, 0] ∧ win0_7.index t = ![t.val, 0] ∧ win0_8.index t = ![t.val, 0] ∧ win0_9.index t = ![t.val, 0]
    ∧ (grid0.coords t 0).val = t.val :=
  (by decide +kernel : ∀ t : Fin grid0.N, _)

theorem block0 (c : Dev nD) (t : Fin cfg0.N) :
    iblk m c 0 t = rows (N := 3072) (n := 3072) t 0 (by decide) (m ((c : Thread nD τ).loc main_arg0)) := by
  funext j
  rw [eq_ix2 j]
  show _ = m ((c : Thread nD τ).loc main_arg0) _
  blk_ext! [iblk, V, idx t]

theorem block1 (c : Dev nD) (t : Fin cfg0.N) (ht : 0 < t.val) (a : Fin 16) (k : Fin 1024) : iblk m c 1 t (ix2 a k)
    = m ((c : Thread nD τ).loc main_arg0) (ix2 (⟨t.val * 512 + a.val - 16, by have := a.isLt; have h : t.val < 8 := t.isLt; omega⟩ : Fin 4096) (⟨k.val, by have := k.isLt; omega⟩ : Fin 3072)) := by
  blk_ext! [iblk, V, idx t]

theorem block2 (c : Dev nD) (t : Fin cfg0.N) : iblk m c 2 t = V m c main_v17 := by
  blk_ext! [iblk, idx t]

theorem block3 (c : Dev nD) (t : Fin cfg0.N) : iblk m c 3 t = m ((c : Thread nD τ).loc main_arg2) := by
  blk_ext! [iblk, V, idx t]

theorem block4 (c : Dev nD) (t : Fin cfg0.N) : iblk m c 4 t = m ((c : Thread nD τ).loc main_arg3) := by
  blk_ext! [iblk, V, idx t]

theorem block5 (c : Dev nD) (t : Fin cfg0.N) : iblk m c 5 t = V m c main_v11 := by
  blk_ext! [iblk, idx t]

theorem block6 (c : Dev nD) (t : Fin cfg0.N) : iblk m c 6 t = V m c main_v15 := by
  blk_ext! [iblk, idx t]

variable (P : FVec Ideal S4096x3072 .f32) (W : FVec Ideal S4x256x256 .bf16) (SC G : FVec Ideal S1x1024 .f32)
  (VN : FVec Ideal S4096x1024 .bf16) (WM : FVec Ideal S8x128x128 .bf16) (BF : FVec Ideal S128x1024 .f32)

/-- The pooled columns with sixteen rows of zeros before them. -/
def extG (q : Nat) (l : Fin 1024) : EReal :=
  if h : 16 ≤ q ∧ q < 4112 then P (ix2 (⟨q - 16, by omega⟩ : Fin 4096) (⟨l.val, by have := l.isLt; omega⟩ : Fin 3072)) else 0

/-- A trailing mean less the entry, over the whole array. -/
def meanG (g : Fin 4) (s : Fin 4096) (k : Fin 256) : EReal :=
  Ideal.div (∑ j ∈ Finset.range (win g), extG P (s.val + 16 - j) (poolLane g k)) (min (place s.val) (Ideal.ofBits .f32 (winBits g)))
    - extG P (s.val + 16) (poolLane g k)

/-- The pooled map, and the normalised gate, and the gated half. -/
def mapG (g : Fin 4) (s : Fin 4096) (k : Fin 256) : EReal :=
  (∑ x : Fin 256, meanG P g s x * W (ix3 g x k)) * SC (ix2 (0 : Fin 1) (poolLane g k))

def gateG : FVec Ideal S4096x1024 .bf16 := fun j =>
  Cert.Kernel2Ideal.Hand.vG P (j 0) (j 1) * Ideal.rsqrt (Cert.Kernel2Ideal.Hand.meanG P (j 0)) * G (ix2 (0 : Fin 1) (j 1))

def gatedG (s : Fin 4096) (l : Fin 1024) : EReal :=
  P (ix2 s (⟨1024 + l.val, by have := l.isLt; omega⟩ : Fin 3072))
    * ((∑ x : Fin 128, WM (ix3 (⟨l.val / 128, by have := l.isLt; omega⟩ : Fin 8) (⟨s.val % 128, by omega⟩ : Fin 128) x)
        * VN (ix2 (⟨s.val / 128 * 128 + x.val, by have := s.isLt; have := x.isLt; omega⟩ : Fin 4096) l))
      + BF (ix2 (⟨s.val % 128, by omega⟩ : Fin 128) l))

def row (t : Fin 8) (a : Fin 512) : Fin 4096 := ⟨t.val * 512 + a.val, by have := a.isLt; have := t.isLt; omega⟩

theorem ext_rows (t : Fin 8) (X1 : FVec Ideal S16x1024 .f32)
    (h1 : ∀ (ht : 0 < t.val) (a : Fin 16) (k : Fin 1024), X1 (ix2 a k)
      = P (ix2 (⟨t.val * 512 + a.val - 16, by have := a.isLt; have h : t.val < 8 := t.isLt; omega⟩ : Fin 4096) (⟨k.val, by have := k.isLt; omega⟩ : Fin 3072)))
    (n : Nat) (hn : n < 528) (l : Fin 1024) :
    extAt t.val (rows (N := 3072) (n := 3072) (e := .f32) t 0 (by decide) P) X1 n l = extG P (t.val * 512 + n) l := by
  have ht := t.isLt
  unfold extAt extG
  by_cases h : n < 16
  · rw [dif_pos h]
    by_cases h0 : 0 < t.val
    · rw [if_pos h0, dif_pos (by omega), h1 h0]
    · rw [if_neg h0, dif_neg (by omega)]
  · rw [dif_neg h, dif_pos hn, dif_pos (by omega)]
    refine congrArg P (congrArg₂ ix2 (Fin.ext ?_) (Fin.ext ?_))
    · show t.val * 512 + (n - 16) = t.val * 512 + n - 16
      omega
    · show 0 + l.val = l.val
      omega

theorem mean_rows (t : Fin 8) (f : Nat → Fin 1024 → EReal) (hf : ∀ n, n < 528 → ∀ l, f n l = extG P (t.val * 512 + n) l)
    (g : Fin 4) (a : Fin 512) (k : Fin 256) : meanAt t.val f g a k = meanG P g (row t a) k := by
  have ha := a.isLt
  have hw : win g ≤ 16 := by revert g; decide
  unfold meanAt meanG row
  rw [hf _ (by omega)]
  refine congrArg₂ (fun x y => Ideal.div x _ - extG P y _) (Finset.sum_congr rfl fun j hj => ?_) (Nat.add_assoc _ _ _).symm
  have := Finset.mem_range.mp hj
  rw [hf _ (by omega)]
  exact congrArg (extG P · _) (show t.val * 512 + (a.val + 16 - j) = t.val * 512 + a.val + 16 - j by omega)

theorem map_rows (t : Fin 8) (f : Nat → Fin 1024 → EReal) (hf : ∀ n, n < 528 → ∀ l, f n l = extG P (t.val * 512 + n) l)
    (g : Fin 4) (a : Fin 512) (k : Fin 256) : mapAt t.val f W SC g a k = mapG P W SC g (row t a) k := by
  unfold mapAt mapG
  simp only [mean_rows P t f hf]

theorem gate_rows (t : Fin 8) (a : Fin 512) (l : Fin 1024) :
    gateAt (rows (N := 3072) (n := 3072) (e := .f32) t 0 (by decide) P) G (ix2 a l) = gateG P G (ix2 (row t a) l) := by
  unfold gateAt gateG rows row
  pointwise [Cert.Kernel2Ideal.Hand.vG, Cert.Kernel2Ideal.Hand.meanG]

theorem gated_rows (t : Fin 8) (X : FVec Ideal S512x1024 .bf16) (hX : ∀ a l, X (ix2 a l) = VN (ix2 (row t a) l)) (a : Fin 512) (l : Fin 1024) :
    gatedAt (rows (N := 3072) (n := 3072) (e := .f32) t 0 (by decide) P) X WM BF a l = gatedG P VN WM BF (row t a) l := by
  have ha := a.isLt
  have ht := t.isLt
  have e : a.val % 128 = (row t a).val % 128 := by show _ = (t.val * 512 + a.val) % 128; omega
  unfold gatedAt gatedG
  simp only [hX]
  refine congrArg₂ HMul.hMul ?_ (congrArg₂ HAdd.hAdd (Fin.sum_fin_congr fun x => congrArg₂ HMul.hMul ?_ ?_) ?_)
  · exact congrArg P (congrArg₂ ix2 (Fin.ext rfl) (Fin.ext (show 0 + (1024 + l.val) = 1024 + l.val by omega)))
  · exact congrArg (fun y => WM (ix3 _ y x)) (Fin.ext e)
  · refine congrArg (fun y => VN (ix2 y l)) (Fin.ext ?_)
    show t.val * 512 + (a.val / 128 * 128 + x.val) = (t.val * 512 + a.val) / 128 * 128 + x.val
    omega
  · exact congrArg (fun y => BF (ix2 y l)) (Fin.ext e)

/-- What the pooled array and the mixer's output hold. -/
def poolG : FVec Ideal S4096x1024 .bf16 := fun j => byGroup (meanG P) (j 0) (j 1).val (j 1).isLt
def mixG : FVec Ideal S4096x2048 .bf16 := fun j => mixAt (mapG P W SC) (gatedG P VN WM BF) (j 0) (j 1)

theorem byGroup_congr {n n' : Nat} (p : Fin 4 → Fin n → Fin 256 → EReal) (p' : Fin 4 → Fin n' → Fin 256 → EReal) (a : Fin n) (a' : Fin n')
    (h : ∀ g k, p g a k = p' g a' k) (l : Nat) (hl : l < 1024) : byGroup p a l hl = byGroup p' a' l hl := h _ _

theorem pool_rows (c : Dev nD) (t : Fin cfg0.N) (a : Fin 512) (l : Fin 1024) :
    (outsAt0 m c t).2.1 (ix2 a l) = poolG (m ((c : Thread nD τ).loc main_arg0)) (ix2 (row t a) l) := by
  rw [pool_tile, (idx t).2.2.2.2.2.2.2.2.2.2, block0]
  exact byGroup_congr _ _ _ _ (fun g k => mean_rows _ t _ (ext_rows _ t _ fun ht a k => block1 m c t ht a k) g a k) _ _

theorem vn_rows (c : Dev nD) (t : Fin cfg0.N) (a : Fin 512) (l : Fin 1024) :
    (outsAt0 m c t).2.2 (ix2 a l) = gateG (m ((c : Thread nD τ).loc main_arg0)) (m ((c : Thread nD τ).loc main_arg3)) (ix2 (row t a) l) := by
  rw [gate_tile, block0, block4]
  exact gate_rows _ _ t a l

theorem mix_rows (c : Dev nD) (t : Fin cfg0.N) (a : Fin 512) (l : Fin 2048) :
    (outsAt0 m c t).1 (ix2 a l) = mixG (m ((c : Thread nD τ).loc main_arg0)) (V m c main_v17) (m ((c : Thread nD τ).loc main_arg2))
      (gateG (m ((c : Thread nD τ).loc main_arg0)) (m ((c : Thread nD τ).loc main_arg3))) (V m c main_v11) (V m c main_v15) (ix2 (row t a) l) := by
  rw [mix_tile, (idx t).2.2.2.2.2.2.2.2.2.2, block0, block2, block3, block4, block5, block6]
  unfold mixG mixAt
  by_cases h : l.val < 1024
  · refine (dif_pos h).trans (Eq.trans ?_ (dif_pos h).symm)
    exact byGroup_congr _ _ _ _ (fun g k => map_rows _ _ _ t _ (ext_rows _ t _ fun ht a k => block1 m c t ht a k) g a k) _ _
  · refine (dif_neg h).trans (Eq.trans ?_ (dif_neg h).symm)
    exact gated_rows _ _ _ _ t _ (fun a l => gate_rows _ _ t a l) a _

theorem final_mix (c : Dev nD) : (dats m 0 c).arrAt 7 (cfgs 0).N
    = mixG (m ((c : Thread nD τ).loc main_arg0)) (V m c main_v17) (m ((c : Thread nD τ).loc main_arg2))
      (gateG (m ((c : Thread nD τ).loc main_arg0)) (m ((c : Thread nD τ).loc main_arg3))) (V m c main_v11) (V m c main_v15) := by
  refine (dats m 0 c).arrAt_eq_of_covers 7 _ (by decide +kernel) fun t hf y => ?_
  blk_simp
  rw [after0_7, eq_ix2 y]
  refine (mix_rows m c t _ _).trans ?_
  generalize mixG _ _ _ _ _ _ = X
  have hi := (idx t).2.2.2.2.2.2.2.1
  refine congrArg X (funext fun a => Fin.ext ?_)
  match a with
  | ⟨0, _⟩ => show t.val * 512 + (y 0).val = win0_7.index t 0 * 512 + 1 * (y 0).val; rw [hi]; show _ = t.val * 512 + 1 * _; rw [one_mul]
  | ⟨1, _⟩ => show (y 1).val = win0_7.index t 1 * 2048 + 1 * (y 1).val; rw [hi]; show (y 1).val = 0 * 2048 + 1 * (y 1).val; rw [Nat.zero_mul, Nat.zero_add, Nat.one_mul]

theorem final_pool (c : Dev nD) : (dats m 0 c).arrAt 8 (cfgs 0).N = poolG (m ((c : Thread nD τ).loc main_arg0)) := by
  refine (dats m 0 c).arrAt_eq_of_covers 8 _ (by decide +kernel) fun t hf y => ?_
  blk_simp
  rw [after0_8, eq_ix2 y]
  refine (pool_rows m c t _ _).trans ?_
  generalize poolG _ = X
  have hi := (idx t).2.2.2.2.2.2.2.2.1
  refine congrArg X (funext fun a => Fin.ext ?_)
  match a with
  | ⟨0, _⟩ => show t.val * 512 + (y 0).val = win0_8.index t 0 * 512 + 1 * (y 0).val; rw [hi]; show _ = t.val * 512 + 1 * _; rw [one_mul]
  | ⟨1, _⟩ => show (y 1).val = win0_8.index t 1 * 1024 + 1 * (y 1).val; rw [hi]; show (y 1).val = 0 * 1024 + 1 * (y 1).val; rw [Nat.zero_mul, Nat.zero_add, Nat.one_mul]

theorem final_gate (c : Dev nD) : (dats m 0 c).arrAt 9 (cfgs 0).N
    = gateG (m ((c : Thread nD τ).loc main_arg0)) (m ((c : Thread nD τ).loc main_arg3)) := by
  refine (dats m 0 c).arrAt_eq_of_covers 9 _ (by decide +kernel) fun t hf y => ?_
  blk_simp
  rw [after0_9, eq_ix2 y]
  refine (vn_rows m c t _ _).trans ?_
  generalize gateG _ _ = X
  have hi := (idx t).2.2.2.2.2.2.2.2.2.1
  refine congrArg X (funext fun a => Fin.ext ?_)
  match a with
  | ⟨0, _⟩ => show t.val * 512 + (y 0).val = win0_9.index t 0 * 512 + 1 * (y 0).val; rw [hi]; show _ = t.val * 512 + 1 * _; rw [one_mul]
  | ⟨1, _⟩ => show (y 1).val = win0_9.index t 1 * 1024 + 1 * (y 1).val; rw [hi]; show (y 1).val = 0 * 1024 + 1 * (y 1).val; rw [Nat.zero_mul, Nat.zero_add, Nat.one_mul]

end Cert.Kernel10Ideal.Hand
-- ==== Proof.MixRef.lean ====
module

public import proofs.«01_k».proof.Proof.MixRows
public import proofs.«01_k».proof.Proof.Suffix
public import proofs.«01_k».proof.Proof.Gen.Reference10Ideal.Run

/-! The mixer's reference outputs, read at an index. -/

@[expose] public section

set_option maxRecDepth 16384

noncomputable section

open Idealize.ShloMosaic Idealize.ShloMosaic.TcCoe Idealize.SL.Sem

namespace Cert.Reference10Ideal.Hand

open Cert.Reference10Ideal Cert.Reference10Ideal.Value Cert.Reference10Ideal.Gen
open Cert.Kernel2Ideal.Hand (place place_eq)
open Cert.Kernel10Ideal.Hand (win winBits poolLane extG meanG mapG gateG gatedG mixG poolG byGroup mixAt)

variable (V0 : Valuation τ sig (Elt Ideal))

/-- The arguments, three of them in the shape the products take. -/
def aP : FVec Ideal S4096x3072 .f32 := V0 (Proc.devRef .tc main_arg0)
def aMap : FVec Ideal S4x256x256 .bf16 := fun j => (V0 (Proc.devRef .tc main_arg1) : FVec Ideal S1x4x256x256 .f32) (ix4 (0 : Fin 1) (j 0) (j 1) (j 2))
def aSC : FVec Ideal S1x1024 .f32 := V0 (Proc.devRef .tc main_arg2)
def aG : FVec Ideal S1x1024 .f32 := V0 (Proc.devRef .tc main_arg3)
def aBF : FVec Ideal ⟨2, ![128, 1024]⟩ .f32 := fun j =>
  (V0 (Proc.devRef .tc main_arg5) : FVec Ideal S1x8x128 .f32) (ix3 (0 : Fin 1) (⟨(j 1).val / 128, by have h : (j 1).val < 1024 := (j 1).isLt; omega⟩ : Fin 8) (j 0))
def aWM : FVec Ideal S8x128x128 .f32 := (select (broadcastInDim S8x128x128 ![0, 1, 2] bcast_S1x128x128_S8x128x128_0_1_2 (broadcastInDim S1x128x128 ![1, 2] bcast_S128x128_S1x128x128_1_2 (cmpi .sle (broadcastInDim S128x128 ![0, 1] bcast_S1x128_S128x128_0_1 (select (andi (cmpi .ne (signi (res_main_v89 V0)) (broadcastInDim S1x128 ![] bcast_S_S1x128 (signi (res_main_call1_v0 V0)))) (cmpi .ne (Host.remsi (res_main_v89 V0) (broadcastInDim S1x128 ![] bcast_S_S1x128 (res_main_call1_v0 V0))) (broadcastInDim S1x128 ![] bcast_S_S1x128 (constantI S_ 32 0#32)))) (subi (res_main_call1_v2 V0) (broadcastInDim S1x128 ![] bcast_S_S1x128 (constantI S_ 32 1#32))) (res_main_call1_v2 V0))) (broadcastInDim S128x128 ![0, 1] bcast_S128x1_S128x128_0_1 (select (andi (cmpi .ne (signi (res_main_v91 V0)) (broadcastInDim S128x1 ![] bcast_S_S128x1 (signi (res_main_call2_v0 V0)))) (cmpi .ne (Host.remsi (res_main_v91 V0) (broadcastInDim S128x1 ![] bcast_S_S128x1 (res_main_call2_v0 V0))) (broadcastInDim S128x1 ![] bcast_S_S128x1 (constantI S_ 32 0#32)))) (subi (res_main_call2_v2 V0) (broadcastInDim S128x1 ![] bcast_S_S128x1 (constantI S_ 32 1#32))) (res_main_call2_v2 V0)))))) (shapeCast _ (V0 (Proc.devRef .tc main_arg4)) shapeCasts_S1x8x128x128_S8x128x128) (broadcastInDim S8x128x128 ![] bcast_S_S8x128x128 (id (constant S_ .f32 0x00000000#32))))

/-! ## The pooled means -/

/-- The four groups of windowed means, from the groups of the running sums. -/
def cat (A0 A1 A2 A3 : FVec Ideal S1x4096x256 .f32) (Q : FVec Ideal S1x4096x1 .f32) (Y : FVec Ideal S1x4096x1024 .f32) : FVec Ideal S1x4096x4x256 .f32 :=
  (concatenate S1x4096x4x256 2 [⟨S1x4096x1x256, ((broadcastInDim S1x4096x1x256 ![0, 1, 3] bcast_S1x4096x256_S1x4096x1x256_0_1_3 (subf (Host.divf (subf A0 (concatenate S1x4096x256 1 [⟨S1x2x256, (broadcastInDim S1x2x256 ![] bcast_S_S1x2x256 (constant S_ .f32 0x00000000#32))⟩, ⟨S1x4094x256, (extractStridedSlice S1x4094x256 ![0, 0, 0] A0 slices_S1x4096x256_S1x4094x256_0_0_0)⟩] concatenates_S1x2x256_S1x4094x256_S1x4096x256_d1)) (broadcastInDim S1x4096x256 ![0, 1, 2] bcast_S1x4096x1_S1x4096x256_0_1_2 (minimumf Q (broadcastInDim S1x4096x1 ![] bcast_S_S1x4096x1 (constant S_ .f32 0x40000000#32))))) (extractStridedSlice S1x4096x256 ![0, 0, 0] Y slices_S1x4096x1024_S1x4096x256_0_0_0))) : (⟨S1x4096x1x256, .f32⟩ : BufTy).Contents (Elt Ideal))⟩, ⟨S1x4096x1x256, ((broadcastInDim S1x4096x1x256 ![0, 1, 3] bcast_S1x4096x256_S1x4096x1x256_0_1_3 (subf (Host.divf (subf A1 (concatenate S1x4096x256 1 [⟨S1x4x256, (broadcastInDim S1x4x256 ![] bcast_S_S1x4x256 (constant S_ .f32 0x00000000#32))⟩, ⟨S1x4092x256, (extractStridedSlice S1x4092x256 ![0, 0, 0] A1 slices_S1x4096x256_S1x4092x256_0_0_0)⟩] concatenates_S1x4x256_S1x4092x256_S1x4096x256_d1)) (broadcastInDim S1x4096x256 ![0, 1, 2] bcast_S1x4096x1_S1x4096x256_0_1_2 (minimumf Q (broadcastInDim S1x4096x1 ![] bcast_S_S1x4096x1 (constant S_ .f32 0x40800000#32))))) (extractStridedSlice S1x4096x256 ![0, 0, 256] Y slices_S1x4096x1024_S1x4096x256_0_0_256))) : (⟨S1x4096x1x256, .f32⟩ : BufTy).Contents (Elt Ideal))⟩, ⟨S1x4096x1x256, ((broadcastInDim S1x4096x1x256 ![0, 1, 3] bcast_S1x4096x256_S1x4096x1x256_0_1_3 (subf (Host.divf (subf A2 (concatenate S1x4096x256 1 [⟨S1x8x256, (broadcastInDim S1x8x256 ![] bcast_S_S1x8x256 (constant S_ .f32 0x00000000#32))⟩, ⟨S1x4088x256, (extractStridedSlice S1x4088x256 ![0, 0, 0] A2 slices_S1x4096x256_S1x4088x256_0_0_0)⟩] concatenates_S1x8x256_S1x4088x256_S1x4096x256_d1)) (broadcastInDim S1x4096x256 ![0, 1, 2] bcast_S1x4096x1_S1x4096x256_0_1_2 (minimumf Q (broadcastInDim S1x4096x1 ![] bcast_S_S1x4096x1 (constant S_ .f32 0x41000000#32))))) (extractStridedSlice S1x4096x256 ![0, 0, 512] Y slices_S1x4096x1024_S1x4096x256_0_0_512))) : (⟨S1x4096x1x256, .f32⟩ : BufTy).Contents (Elt Ideal))⟩, ⟨S1x4096x1x256, ((broadcastInDim S1x4096x1x256 ![0, 1, 3] bcast_S1x4096x256_S1x4096x1x256_0_1_3 (subf (Host.divf (subf A3 (concatenate S1x4096x256 1 [⟨S1x16x256, (broadcastInDim S1x16x256 ![] bcast_S_S1x16x256 (constant S_ .f32 0x00000000#32))⟩, ⟨S1x4080x256, (extractStridedSlice S1x4080x256 ![0, 0, 0] A3 slices_S1x4096x256_S1x4080x256_0_0_0)⟩] concatenates_S1x16x256_S1x4080x256_S1x4096x256_d1)) (broadcastInDim S1x4096x256 ![0, 1, 2] bcast_S1x4096x1_S1x4096x256_0_1_2 (minimumf Q (broadcastInDim S1x4096x1 ![] bcast_S_S1x4096x1 (constant S_ .f32 0x41800000#32))))) (extractStridedSlice S1x4096x256 ![0, 0, 768] Y slices_S1x4096x1024_S1x4096x256_0_0_768))) : (⟨S1x4096x1x256, .f32⟩ : BufTy).Contents (Elt Ideal))⟩] concatenates_S1x4096x1x256_S1x4096x1x256_S1x4096x1x256_S1x4096x1x256_S1x4096x4x256_d2 : (⟨S1x4096x4x256, .f32⟩ : BufTy).Contents (Elt Ideal))

theorem place_at (s : Fin 4096) : res_main_v8 V0 (ix3 (0 : Fin 1) s (0 : Fin 1)) = place s.val := by
  pointwise [res_main_v8]
  show (1 : EReal) + (((BitVec.ofNat 32 s.val).toInt : ℝ) : EReal) = (((s.val + 1 : Nat) : ℝ) : EReal)
  have hs := s.isLt
  rw [BitVec.toInt_ofNat', Int.bmod_eq_of_le (by omega) (by omega), add_comm]
  norm_cast

theorem own_at (s : Fin 4096) (l : Fin 1024) : res_main_v1 V0 (ix3 (0 : Fin 1) s l) = extG (aP V0) (s.val + 16) l := by
  have hs := s.isLt
  unfold extG
  rw [dif_pos ⟨by omega, by omega⟩]
  pointwise [res_main_v1, res_main_v0, aP]
  exact congrArg (fun r => V0 (Proc.devRef .tc main_arg0) (ix2 r _)) (Fin.ext (show s.val = s.val + 16 - 16 by omega))

theorem sums_at (s : Fin 4096) (l : Fin 1024) :
    res_main_v4 V0 (ix3 (0 : Fin 1) s l) = ∑ n ∈ Finset.range (s.val + 1), extG (aP V0) (n + 16) l := by
  unfold res_main_v4
  refine (Cert.Suffix.reduceWindowAdd_pad 4095 0 (res_main_v1 V0) _ _ _ (by pointwise []) s l).trans ?_
  refine (Cert.Suffix.prefix_sum (fun n => res_main_v1 V0 (ix3 (0 : Fin 1) n l)) s).trans (Finset.sum_congr rfl fun n hn => ?_)
  have := Finset.mem_range.mp hn
  rw [dif_pos (by omega)]
  exact own_at V0 _ l

/-- Rows moved down by `w`, zeros before them. -/
theorem down_at (w : Nat) (hw : w ≤ 4096) (X : FVec Ideal S1x4096x256 .f32) (Z : FVec Ideal ⟨3, ![1, w, 256]⟩ .f32) (hZ : ∀ j, Z j = 0)
    (D : FVec Ideal ⟨3, ![1, 4096 - w, 256]⟩ .f32) (hD : ∀ (n : Fin (4096 - w)) (k : Fin 256), D (ix3 (0 : Fin 1) n k) = X (ix3 (0 : Fin 1) ⟨n.val, by omega⟩ k))
    (hc) (s : Fin 4096) (k : Fin 256) :
    concatenate S1x4096x256 1 [⟨⟨3, ![1, w, 256]⟩, Z⟩, ⟨⟨3, ![1, 4096 - w, 256]⟩, D⟩] hc (ix3 (0 : Fin 1) s k)
      = if h : w ≤ s.val then X (ix3 (0 : Fin 1) ⟨s.val - w, by omega⟩ k) else 0 := by
  have hs := s.isLt
  by_cases h : w ≤ s.val
  · rw [dif_pos h]
    refine (concatenate_pair_apply_right (t := S1x4096x256) 1 Z D hc _ rfl rfl (ix3 (0 : Fin 1) (⟨s.val - w, by omega⟩ : Fin (4096 - w)) k) (fun b hb => ?_) ?_).trans (hD _ k)
    · match b with
      | ⟨0, _⟩ => rfl
      | ⟨1, _⟩ => exact absurd rfl hb
      | ⟨2, _⟩ => rfl
    · show s.val - w + w = s.val
      omega
  · rw [dif_neg h]
    refine (concatenate_pair_apply_left (t := S1x4096x256) 1 Z D hc _ rfl (ix3 (0 : Fin 1) (⟨s.val, by omega⟩ : Fin w) k) (fun b => ?_)).trans (hZ _)
    match b with
    | ⟨0, _⟩ => rfl
    | ⟨1, _⟩ => rfl
    | ⟨2, _⟩ => rfl

/-- Finite pooled entries make the extended columns finite. -/
theorem ext_finite (P : FVec Ideal S4096x3072 .f32) (h : ∀ (s : Fin 4096) (l : Fin 1024), ∃ v : ℝ, P (ix2 s (⟨l.val, by have := l.isLt; omega⟩ : Fin 3072)) = (v : EReal))
    (q : Nat) (l : Fin 1024) : ∃ v : ℝ, extG P q l = (v : EReal) := by
  unfold extG
  by_cases hq : 16 ≤ q ∧ q < 4112
  · rw [dif_pos hq]; exact h _ l
  · rw [dif_neg hq]; exact ⟨0, rfl⟩

/-- One group of windowed means. -/
theorem group_at (P : FVec Ideal S4096x3072 .f32) (hP : ∀ q l, ∃ v : ℝ, extG P q l = (v : EReal)) (g : Fin 4) (w : Nat) (b : BitVec 32)
    (hg : win g = w) (hb : winBits g = b) (hw : 0 < w) (hw' : w ≤ 16) (A Y : FVec Ideal S1x4096x256 .f32) (Q : FVec Ideal S1x4096x1 .f32)
    (hA : ∀ (s : Fin 4096) k, A (ix3 (0 : Fin 1) s k) = ∑ n ∈ Finset.range (s.val + 1), extG P (n + 16) (poolLane g k))
    (hY : ∀ (s : Fin 4096) k, Y (ix3 (0 : Fin 1) s k) = extG P (s.val + 16) (poolLane g k))
    (hQ : ∀ s : Fin 4096, Q (ix3 (0 : Fin 1) s (0 : Fin 1)) = place s.val)
    (Z : FVec Ideal ⟨3, ![1, w, 256]⟩ .f32) (hZ : ∀ j, Z j = 0)
    (D : FVec Ideal ⟨3, ![1, 4096 - w, 256]⟩ .f32) (hD : ∀ (n : Fin (4096 - w)) (k : Fin 256), D (ix3 (0 : Fin 1) n k) = A (ix3 (0 : Fin 1) ⟨n.val, by omega⟩ k))
    (hc) (b1) (b2) (b3) (s : Fin 4096) (k : Fin 256) :
    broadcastInDim S1x4096x1x256 ![0, 1, 3] b1 (subf (Host.divf (subf A (concatenate S1x4096x256 1 [⟨⟨3, ![1, w, 256]⟩, Z⟩, ⟨⟨3, ![1, 4096 - w, 256]⟩, D⟩] hc))
      (broadcastInDim S1x4096x256 ![0, 1, 2] b2 (minimumf Q (broadcastInDim S1x4096x1 ![] b3 (constant S_ .f32 b))))) Y) (ix4 (0 : Fin 1) s (0 : Fin 1) k)
      = meanG P g s k := by
  have hd := down_at w (by omega) A Z hZ D hD hc s k
  generalize concatenate S1x4096x256 1 [⟨⟨3, ![1, w, 256]⟩, Z⟩, ⟨⟨3, ![1, 4096 - w, 256]⟩, D⟩] hc = C at hd
  pointwise []
  rw [hd, hA, hY, hQ]
  unfold meanG
  rw [hg, hb]
  have e := Cert.Suffix.prefix_window w hw (fun n => extG P (n + 16) (poolLane g k)) (fun n => hP _ _) s.val
  refine congrArg (fun x => Ideal.div x _ - _) (Eq.trans (congrArg (_ - ·) ?_) (e.trans (Finset.sum_congr rfl fun j hj => ?_)))
  · by_cases h : w ≤ s.val
    · rw [dif_pos h, if_pos h, hA]
    · rw [dif_neg h, if_neg h]
  · have := Finset.mem_range.mp hj
    by_cases h : j ≤ s.val
    · rw [if_pos h]
      exact congrArg (extG P · _) (by omega)
    · rw [if_neg h, extG, dif_neg (by omega)]

theorem four_at (A B C D : FVec Ideal S1x4096x1x256 .f32) (hc) (s : Fin 4096) (g : Fin 4) (k : Fin 256) :
    concatenate S1x4096x4x256 2 [⟨S1x4096x1x256, A⟩, ⟨S1x4096x1x256, B⟩, ⟨S1x4096x1x256, C⟩, ⟨S1x4096x1x256, D⟩] hc (ix4 (0 : Fin 1) s g k)
      = (![A, B, C, D] : Fin 4 → FVec Ideal S1x4096x1x256 .f32) g (ix4 (0 : Fin 1) s (0 : Fin 1) k) := by
  match g with
  | 0 => pointwise []
  | 1 => pointwise []
  | 2 => pointwise []
  | 3 => pointwise []

theorem cat_at (hP : ∀ q l, ∃ v : ℝ, extG (aP V0) q l = (v : EReal)) (s : Fin 4096) (g : Fin 4) (k : Fin 256) :
    cat (res_main_v9 V0) (res_main_v21 V0) (res_main_v33 V0) (res_main_v45 V0) (res_main_v8 V0) (res_main_v1 V0) (ix4 (0 : Fin 1) s g k)
      = meanG (aP V0) g s k := by
  unfold cat
  refine (four_at _ _ _ _ _ s g k).trans ?_
  match g with
  | 0 =>
    refine group_at (aP V0) hP 0 2 _ rfl rfl (by decide) (by decide) (res_main_v9 V0) _ _ (fun s k => ?_) (fun s k => ?_) (place_at V0) _ (fun j => ?_) _ (fun n k => ?_) _ bcast_S1x4096x256_S1x4096x1x256_0_1_3 bcast_S1x4096x1_S1x4096x256_0_1_2 bcast_S_S1x4096x1 s k
    · rw [← sums_at]; pointwise [res_main_v9, poolLane]
    · rw [← own_at]; pointwise [poolLane]
    · pointwise []
    · pointwise []
  | 1 =>
    refine group_at (aP V0) hP 1 4 _ rfl rfl (by decide) (by decide) (res_main_v21 V0) _ _ (fun s k => ?_) (fun s k => ?_) (place_at V0) _ (fun j => ?_) _ (fun n k => ?_) _ bcast_S1x4096x256_S1x4096x1x256_0_1_3 bcast_S1x4096x1_S1x4096x256_0_1_2 bcast_S_S1x4096x1 s k
    · rw [← sums_at]; pointwise [res_main_v21, poolLane]
    · rw [← own_at]; pointwise [poolLane]
    · pointwise []
    · pointwise []
  | 2 =>
    refine group_at (aP V0) hP 2 8 _ rfl rfl (by decide) (by decide) (res_main_v33 V0) _ _ (fun s k => ?_) (fun s k => ?_) (place_at V0) _ (fun j => ?_) _ (fun n k => ?_) _ bcast_S1x4096x256_S1x4096x1x256_0_1_3 bcast_S1x4096x1_S1x4096x256_0_1_2 bcast_S_S1x4096x1 s k
    · rw [← sums_at]; pointwise [res_main_v33, poolLane]
    · rw [← own_at]; pointwise [poolLane]
    · pointwise []
    · pointwise []
  | 3 =>
    refine group_at (aP V0) hP 3 16 _ rfl rfl (by decide) (by decide) (res_main_v45 V0) _ _ (fun s k => ?_) (fun s k => ?_) (place_at V0) _ (fun j => ?_) _ (fun n k => ?_) _ bcast_S1x4096x256_S1x4096x1x256_0_1_3 bcast_S1x4096x1_S1x4096x256_0_1_2 bcast_S_S1x4096x1 s k
    · rw [← sums_at]; pointwise [res_main_v45, poolLane]
    · rw [← own_at]; pointwise [poolLane]
    · pointwise []
    · pointwise []

theorem cat_again : cat (res_main_v115 V0) (res_main_v127 V0) (res_main_v139 V0) (res_main_v151 V0) (res_main_v114 V0) (res_main_v109 V0)
    = cat (res_main_v9 V0) (res_main_v21 V0) (res_main_v33 V0) (res_main_v45 V0) (res_main_v8 V0) (res_main_v1 V0) := by
  have h1 : res_main_v109 V0 = res_main_v1 V0 := by
    funext i
    rw [eq_ix3 i]
    generalize i 0 = a
    generalize i 1 = s
    generalize i 2 = l
    pointwise [res_main_v109, res_main_v1, res_main_v0]
  have h4 : res_main_v110 V0 = res_main_v4 V0 := by unfold res_main_v110 res_main_v4; rw [h1]
  have h8 : res_main_v114 V0 = res_main_v8 V0 := rfl
  rw [h1, h8]
  unfold res_main_v115 res_main_v127 res_main_v139 res_main_v151 res_main_v9 res_main_v21 res_main_v33 res_main_v45
  rw [h4]

/-- The pooled result. -/
theorem pool_all (hP : ∀ q l, ∃ v : ℝ, extG (aP V0) q l = (v : EReal)) :
    (truncf .bf16 (shapeCast _ (shapeCast _ (cat (res_main_v115 V0) (res_main_v127 V0) (res_main_v139 V0) (res_main_v151 V0) (res_main_v114 V0) (res_main_v109 V0)) shapeCasts_S1x4096x4x256_S4096x4x256) shapeCasts_S4096x4x256_S4096x1024) bitsLt_bf16_f32 : FVec Ideal S4096x1024 .bf16)
      = poolG (aP V0) := by
  rw [cat_again]
  have h := cat_at V0 hP
  generalize cat _ _ _ _ _ _ = C at h ⊢
  funext j
  rw [eq_ix2 j]
  generalize j 0 = s
  generalize j 1 = l
  refine Eq.trans ?_ (h s ⟨l.val / 256, _⟩ ⟨l.val % 256, _⟩)
  pointwise []

/-! ## The normalised gate and the gated half -/

theorem gate_all : (truncf .bf16 (mulf (mulf (res_main_v170 V0) (broadcastInDim S4096x1024 ![0, 1] bcast_S4096x1_S4096x1024_0_1 (Host.rsqrt (addf (Host.divf (broadcastInDim S4096x1 ![0] bcast_S4096_S4096x1_0 (Host.reduceAdd (mulf (res_main_v170 V0) (res_main_v170 V0)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (shapeCast _ (V0 (Proc.devRef .tc main_arg3)) shapeCasts_S1x1024_S1024)))) bitsLt_bf16_f32 : FVec Ideal S4096x1024 .bf16) = gateG (aP V0) (aG V0) := by
  funext j
  rw [eq_ix2 j]
  generalize j 0 = s
  generalize j 1 = l
  unfold gateG
  pointwise [res_main_v170, aP, aG, Cert.Kernel2Ideal.Hand.vG, Cert.Kernel2Ideal.Hand.meanG]

def gate3 : FVec Ideal S1x4096x1024 .f32 := (mulf (mulf (res_main_v73 V0) (broadcastInDim S1x4096x1024 ![0, 1, 2] bcast_S1x4096x1_S1x4096x1024_0_1_2 (Host.rsqrt (addf (Host.divf (broadcastInDim S1x4096x1 ![0, 1] bcast_S1x4096_S1x4096x1_0_1 (Host.reduceAdd (mulf (res_main_v73 V0) (res_main_v73 V0)) (constant S_ .f32 0x00000000#32) reducesTo_S1x4096x1024_S1x4096_d2 h_S_)) (broadcastInDim S1x4096x1 ![] bcast_S_S1x4096x1 (constant S_ .f32 0x44800000#32))) (broadcastInDim S1x4096x1 ![] bcast_S_S1x4096x1 (constant S_ .f32 0x358637BD#32)))))) (broadcastInDim S1x4096x1024 ![0, 1, 2] bcast_S1x1x1024_S1x4096x1024_0_1_2 (broadcastInDim S1x1x1024 ![2] bcast_S1024_S1x1x1024_2 (shapeCast _ (V0 (Proc.devRef .tc main_arg3)) shapeCasts_S1x1024_S1024))))

theorem own_gate_at (s : Fin 4096) (l : Fin 1024) : res_main_v73 V0 (ix3 (0 : Fin 1) s l) = Cert.Kernel2Ideal.Hand.vG (aP V0) s l := by
  pointwise [res_main_v73, res_main_v68, res_main_v0, aP, Cert.Kernel2Ideal.Hand.vG]
  exact congrArg (fun k => V0 (Proc.devRef .tc main_arg0) (ix2 s k)) (Fin.ext (show 1024 + (1024 + l.val) = 2048 + l.val by omega))

theorem gate3_at (s : Fin 4096) (l : Fin 1024) : gate3 V0 (ix3 (0 : Fin 1) s l) = gateG (aP V0) (aG V0) (ix2 s l) := by
  unfold gateG
  pointwise [gate3, own_gate_at, aG, Cert.Kernel2Ideal.Hand.meanG]

/-- The two halves of the mixer's output. -/
def leftT : FVec Ideal S1x4096x1024 .f32 := (mulf (shapeCast _ (transpose S1x4096x4x256 [2, 3, 0, 1] (Host.dotGeneral (F := Ideal) (φ₁ := .f32) (φ₂ := .f32) dot_S4x256x256_S1x4096x4x256_S4x256x1x4096_1_3_2_01_0_2 none (shapeCast _ (V0 (Proc.devRef .tc main_arg1)) shapeCasts_S1x4x256x256_S4x256x256) (cat (res_main_v9 V0) (res_main_v21 V0) (res_main_v33 V0) (res_main_v45 V0) (res_main_v8 V0) (res_main_v1 V0))) transposes_S4x256x1x4096_S1x4096x4x256_2_3_0_1) shapeCasts_S1x4096x4x256_S1x4096x1024) (broadcastInDim S1x4096x1024 ![0, 1, 2] bcast_S1x1x1024_S1x4096x1024_0_1_2 (broadcastInDim S1x1x1024 ![2] bcast_S1024_S1x1x1024_2 (shapeCast _ (V0 (Proc.devRef .tc main_arg2)) shapeCasts_S1x1024_S1024))))
def rightT : FVec Ideal S1x4096x1024 .f32 := (mulf (extractStridedSlice S1x4096x1024 ![0, 0, 0] (res_main_v68 V0) slices_S1x4096x2048_S1x4096x1024_0_0_0) (shapeCast _ (addf (transpose S1x32x128x8x128 [1, 2, 4, 0, 3] (Host.dotGeneral (F := Ideal) (φ₁ := .f32) (φ₂ := .f32) dot_S1x32x128x8x128_S8x128x128_S8x1x32x128x128_2_2_014_1_3_0 none (shapeCast _ (gate3 V0) shapeCasts_S1x4096x1024_S1x32x128x8x128) (aWM V0)) transposes_S8x1x32x128x128_S1x32x128x8x128_1_2_4_0_3) (broadcastInDim S1x32x128x8x128 ![0, 1, 2, 3, 4] bcast_S1x1x128x8x1_S1x32x128x8x128_0_1_2_3_4 (broadcastInDim S1x1x128x8x1 ![2, 3] bcast_S128x8_S1x1x128x8x1_2_3 (transpose S128x8 [1, 0] (shapeCast _ (V0 (Proc.devRef .tc main_arg5)) shapeCasts_S1x8x128_S8x128) transposes_S8x128_S128x8_1_0)))) shapeCasts_S1x32x128x8x128_S1x4096x1024))

theorem halves : res_main_v106 V0 = concatenate S1x4096x2048 2 [⟨S1x4096x1024, leftT V0⟩, ⟨S1x4096x1024, rightT V0⟩] concatenates_S1x4096x1024_S1x4096x1024_S1x4096x2048_d2 := rfl

theorem left_at (hP : ∀ q l, ∃ v : ℝ, extG (aP V0) q l = (v : EReal)) (s : Fin 4096) (l : Fin 1024) :
    leftT V0 (ix3 (0 : Fin 1) s l) = byGroup (mapG (aP V0) (aMap V0) (aSC V0)) s l.val l.isLt := by
  unfold leftT
  have h := cat_at V0 hP
  generalize cat _ _ _ _ _ _ = C at h ⊢
  pointwise [byGroup, mapG, aMap, aSC, h]
  refine congrArg₂ HMul.hMul (Fin.sum_fin_congr fun x => mul_comm _ _) (congrArg (fun k => V0 (Proc.devRef .tc main_arg2) (ix2 _ k)) (Fin.ext ?_))
  show l.val = l.val / 256 * 256 + l.val % 256
  omega

theorem right_at (s : Fin 4096) (l : Fin 1024) :
    rightT V0 (ix3 (0 : Fin 1) s l) = gatedG (aP V0) (gateG (aP V0) (aG V0)) (aWM V0) (aBF V0) s l := by
  unfold rightT
  generalize aWM V0 = WM
  have h := gate3_at V0
  generalize gate3 V0 = X at h ⊢
  pointwise [gatedG, res_main_v68, res_main_v0, aP, aBF, h]
  exact congrArg (HMul.hMul _) (congrArg (· + _) (Fin.sum_fin_congr fun x => mul_comm _ _))

theorem mix_all (hP : ∀ q l, ∃ v : ℝ, extG (aP V0) q l = (v : EReal)) :
    (truncf .bf16 (shapeCast _ (res_main_v106 V0) shapeCasts_S1x4096x2048_S4096x2048) bitsLt_bf16_f32 : FVec Ideal S4096x2048 .bf16)
      = mixG (aP V0) (aMap V0) (aSC V0) (gateG (aP V0) (aG V0)) (aWM V0) (aBF V0) := by
  rw [halves]
  have hl := left_at V0 hP
  have hr := right_at V0
  generalize leftT V0 = L at hl ⊢
  generalize rightT V0 = R at hr ⊢
  funext j
  rw [eq_ix2 j]
  generalize j 0 = s
  generalize j 1 = l
  unfold mixG mixAt
  have hl' : l.val < 2048 := l.isLt
  by_cases h : l.val < 1024
  · refine Eq.trans ?_ (dif_pos h).symm
    refine Eq.trans ?_ (hl s ⟨l.val, h⟩)
    pointwise []
    exact dif_pos h
  · refine Eq.trans ?_ (dif_neg h).symm
    refine Eq.trans ?_ (hr s ⟨l.val - 1024, by omega⟩)
    pointwise []
    exact dif_neg h

end Cert.Reference10Ideal.Hand
-- ==== Proof.MixForward.lean ====
module

public import proofs.«01_k».proof.Proof.MixRef
public import proofs.«01_k».proof.Proof.Finite
public import proofs.«01_k».proof.Defs

/-! The mixer's forward call against the reference. -/

@[expose] public section

set_option maxRecDepth 16384

noncomputable section

open Idealize.ShloMosaic Idealize.ShloMosaic.TcCoe Idealize.SL.Sem

namespace Cert.Kernel10Ideal.Hand

open Cert.Kernel10Ideal Cert.Kernel10Ideal.Gen

variable (m : (ℓ : Loc nD τ sig) → Buf (Elt Ideal) ℓ) (c : Dev nD)
variable (V0 : Valuation Cert.Reference10Ideal.τ Cert.Reference10Ideal.sig (Elt Ideal))

theorem host_weights (h : (V0 (Proc.devRef .tc Cert.Reference10Ideal.main_arg4) : FVec Ideal S1x8x128x128 .f32) = m ((c : Thread nD τ).loc main_arg4)) :
    (V m c main_v11 : FVec Ideal S8x128x128 .bf16) = Cert.Reference10Ideal.Hand.aWM V0 := by
  unfold V
  simp only [List.flatten_cons, List.flatten_nil, StableHlo.after_append, List.append_nil]
  simp only [hostOps0, hostOps0_1, hostOps0_2, hostOps0_3, hostOps0_4, hostOps0_5, hostOps0_6]
  after_results
  unfold Cert.Reference10Ideal.Hand.aWM
  rw [h]
  rfl

theorem host_map (h : (V0 (Proc.devRef .tc Cert.Reference10Ideal.main_arg1) : FVec Ideal S1x4x256x256 .f32) = m ((c : Thread nD τ).loc main_arg1)) :
    (V m c main_v17 : FVec Ideal S4x256x256 .bf16) = Cert.Reference10Ideal.Hand.aMap V0 := by
  unfold V
  simp only [List.flatten_cons, List.flatten_nil, StableHlo.after_append, List.append_nil]
  simp only [hostOps0, hostOps0_1, hostOps0_2, hostOps0_3, hostOps0_4, hostOps0_5, hostOps0_6]
  after_results
  funext j
  rw [eq_ix3 j]
  generalize j 0 = g
  generalize j 1 = x
  generalize j 2 = k
  unfold Cert.Reference10Ideal.Hand.aMap
  rw [h]
  pointwise []

theorem host_bias (h : (V0 (Proc.devRef .tc Cert.Reference10Ideal.main_arg5) : FVec Ideal S1x8x128 .f32) = m ((c : Thread nD τ).loc main_arg5)) :
    (V m c main_v15 : FVec Ideal S128x1024 .f32) = Cert.Reference10Ideal.Hand.aBF V0 := by
  unfold V
  simp only [List.flatten_cons, List.flatten_nil, StableHlo.after_append, List.append_nil]
  simp only [hostOps0, hostOps0_1, hostOps0_2, hostOps0_3, hostOps0_4, hostOps0_5, hostOps0_6]
  after_results
  funext j
  rw [eq_ix2 j]
  generalize j 0 = s
  generalize j 1 = l
  unfold Cert.Reference10Ideal.Hand.aBF
  rw [h]
  pointwise []

end Cert.Kernel10Ideal.Hand

namespace Cert.Proof

theorem algebraic10 [hP : Cert.Pre_windows_finite.Facts] : Cert.algebraic_Kernel10Ideal_Reference10Ideal_pre_windows_finite := by
  pair_intro
  · exact Cert.Kernel10Ideal.Value.run_blocks m g
  · refine (θ_run _ _ _).mono (fun r h c => ?_) (Cert.Reference10Ideal.Value.run m' g')
    obtain ⟨h0, h1, h2, hk⟩ := h c
    obtain ⟨e0, e1, e2, e3, e4, e5⟩ := hagree c
    have p0 : Cert.Reference10Ideal.Hand.aP (StableHlo.launchContents m' c) = m ((c.tc : Thread _ _).loc Cert.Kernel10Ideal.main_arg0) := e0
    have p2 : Cert.Reference10Ideal.Hand.aSC (StableHlo.launchContents m' c) = m ((c.tc : Thread _ _).loc Cert.Kernel10Ideal.main_arg2) := e2
    have p3 : Cert.Reference10Ideal.Hand.aG (StableHlo.launchContents m' c) = m ((c.tc : Thread _ _).loc Cert.Kernel10Ideal.main_arg3) := e3
    have pW := Cert.Kernel10Ideal.Hand.host_weights m c (StableHlo.launchContents m' c) e4
    have pM := Cert.Kernel10Ideal.Hand.host_map m c (StableHlo.launchContents m' c) e1
    have pB := Cert.Kernel10Ideal.Hand.host_bias m c (StableHlo.launchContents m' c) e5
    have hF : ∀ q l, ∃ v : ℝ, Cert.Kernel10Ideal.Hand.extG (Cert.Reference10Ideal.Hand.aP (StableHlo.launchContents m' c)) q l = (v : EReal) := by
      rw [p0]
      refine Cert.Reference10Ideal.Hand.ext_finite _ fun s l => ?_
      obtain ⟨v, hv⟩ := Cert.Finite.real_of_test _ (congrFun (hpre c) (ix2 s l))
      refine ⟨v, Eq.trans ?_ hv⟩
      generalize m ((c.tc : Thread _ _).loc Cert.Kernel10Ideal.main_arg0) = X
      pointwise []
    have f0 := h0.trans (Cert.Reference10Ideal.Hand.mix_all _ hF)
    have f1 := h1.trans (Cert.Reference10Ideal.Hand.pool_all _ hF)
    have f2 := h2.trans (Cert.Reference10Ideal.Hand.gate_all _)
    rw [p0, p2, p3, ← pW, ← pM, ← pB, ← Cert.Kernel10Ideal.Hand.final_mix] at f0
    rw [p0, ← Cert.Kernel10Ideal.Hand.final_pool] at f1
    rw [p0, p3, ← Cert.Kernel10Ideal.Hand.final_gate] at f2
    exact ⟨f0, f1, f2, hk⟩

end Cert.Proof
-- ==== Proof.GateForward.lean ====
module

public import proofs.«01_k».proof.Defs
public import proofs.«01_k».proof.Proof.Gen.Kernel11Ideal.Value
public import proofs.«01_k».proof.Proof.Gen.Reference11Ideal.Run
public import proofs.«01_k».proof.Proof.SiLU
public import proofs.«01_k».proof.Proof.Loads
public import Idealize.ShloMosaic.Lib.Pipeline.ReadBack
public import Idealize.ShloMosaic.Lib.Claim

/-! The up projection and the gated activation in one call: sixteen grid points, each a tile of 1024 rows and 1408 columns. -/

@[expose] public section

set_option maxRecDepth 16384

noncomputable section

open Idealize.ShloMosaic Idealize.ShloMosaic.TcCoe Idealize.SL.Sem
open Idealize.ShloMosaic.Pipeline (Dat)

namespace Cert.Kernel11Ideal.Hand

open Cert.Kernel11Ideal Cert.Kernel11Ideal.Gen
open Cert.SiLU (sigma)
open Cert.Tiles (load_whole)

variable (m : (ℓ : Loc nD τ sig) → Buf (Elt Ideal) ℓ)

/-- An entry of the product with the weights. -/
def entry {n k : Nat} (H : FVec Ideal ⟨2, ![n, 2048]⟩ .bf16) (W : FVec Ideal ⟨2, ![k, 2048]⟩ .bf16) (a : Fin n) (b : Fin k) : EReal :=
  ∑ l : Fin 2048, H (ix2 a l) * W (ix2 b l)

/-- An entry of the gated activation. -/
def actAt (g u : EReal) : EReal := g * sigma g * u

theorem zero_minus (g : EReal) : Ideal.ofBits .f32 0x00000000#32 - g = -g := by
  rw [show Ideal.ofBits .f32 0x00000000#32 = 0 by simp [Ideal.ofBits, Ideal.ieee], zero_sub]

theorem entry_pay (A : FVec Ideal S1024x2048 .bf16) (B : FVec Ideal S1408x2048 .bf16) (a : Fin 1024) (b : Fin 1408) :
    k0_pay1 (F := Ideal) A B (ix2 a b) = entry A B a b := by
  pointwise [k0_pay1, entry]

theorem up_pay (A : FVec Ideal S1024x2048 .bf16) (B : FVec Ideal S1408x2048 .bf16) (a : Fin 1024) (b : Fin 1408) :
    k0_pay3 (F := Ideal) A B (ix2 a b) = entry A B a b := by
  rw [← entry_pay]
  generalize h1 : k0_pay1 (F := Ideal) A B = E
  pointwise [k0_pay3, h1]

theorem act_pay (A : FVec Ideal S1024x2048 .bf16) (B : FVec Ideal S1408x2048 .bf16) (G : FVec Ideal S1024x1408 .f32) (a : Fin 1024) (b : Fin 1408) :
    k0_pay4 (F := Ideal) A B G (ix2 a b) = actAt (G (ix2 a b)) (entry A B a b) := by
  rw [← entry_pay, actAt, sigma, ← zero_minus]
  generalize h1 : k0_pay1 (F := Ideal) A B = E
  pointwise [k0_pay4, h1]

theorem load_rows (A : FVec Ideal S1024x2048 .bf16) : View.ld (Val := Elt Ideal) (e' := .bf16) A r0_0 = A :=
  load_whole (S := S1024x2048) (e := .bf16) A (off := ![0, 0]) inb_S1024x2048_S1024x2048_0_0 (Fin.forall_fin_two.mpr ⟨rfl, rfl⟩)

theorem load_weights (B : FVec Ideal S1408x2048 .bf16) : View.ld (Val := Elt Ideal) (e' := .bf16) B r0_1 = B :=
  load_whole (S := S1408x2048) (e := .bf16) B (off := ![0, 0]) inb_S1408x2048_S1408x2048_0_0 (Fin.forall_fin_two.mpr ⟨rfl, rfl⟩)

theorem load_tile (G : FVec Ideal S1024x1408 .f32) : View.ld (Val := Elt Ideal) (e' := .f32) G r0_2 = G :=
  load_whole (S := S1024x1408) (e := .f32) G (off := ![0, 0]) inb_S1024x1408_S1024x1408_0_0 (Fin.forall_fin_two.mpr ⟨rfl, rfl⟩)

/-- A tile of the gate, of the other factor and of their activation. -/
theorem out_gate (A : FVec Ideal S1024x2048 .bf16) (B : FVec Ideal S1408x2048 .bf16) (G : FVec Ideal S1024x1408 .f32) (y : S1024x1408.Idx) :
    out0_3 (F := Ideal) A B G y = G y := by
  unfold out0_3
  canon_tiles x h
  obtain rfl : y = x := funext (Fin.forall_fin_two.mpr ⟨Fin.ext h0, Fin.ext h1⟩)
  rw [load_tile, eq_ix2 y]
  pointwise [k0_pay2]

theorem out_up (A : FVec Ideal S1024x2048 .bf16) (B : FVec Ideal S1408x2048 .bf16) (G : FVec Ideal S1024x1408 .f32) (y : S1024x1408.Idx) :
    out0_4 (F := Ideal) A B G y = entry A B (y 0) (y 1) := by
  unfold out0_4
  canon_tiles x h
  obtain rfl : y = x := funext (Fin.forall_fin_two.mpr ⟨Fin.ext h0, Fin.ext h1⟩)
  rw [load_rows, load_weights, eq_ix2 y]
  exact up_pay A B (y 0) (y 1)

theorem out_act (A : FVec Ideal S1024x2048 .bf16) (B : FVec Ideal S1408x2048 .bf16) (G : FVec Ideal S1024x1408 .f32) (y : S1024x1408.Idx) :
    out0_5 (F := Ideal) A B G y = actAt (G y) (entry A B (y 0) (y 1)) := by
  unfold out0_5
  canon_tiles x h
  obtain rfl : y = x := funext (Fin.forall_fin_two.mpr ⟨Fin.ext h0, Fin.ext h1⟩)
  rw [load_rows, load_weights, load_tile, eq_ix2 y]
  exact act_pay A B G (y 0) (y 1)

/-- The weights as the call takes them. -/
def weights (c : Dev nD) : FVec Ideal S5632x2048 .bf16 := V (F := Ideal) m c main_v2

theorem idx : ∀ t : Fin cfg0.N, win0_0.index t = ![t.val / 4, 0] ∧ win0_1.index t = ![t.val % 4, 0] ∧ win0_2.index t = ![t.val / 4, t.val % 4]
    ∧ win0_3.index t = ![t.val / 4, t.val % 4] ∧ win0_4.index t = ![t.val / 4, t.val % 4] ∧ win0_5.index t = ![t.val / 4, t.val % 4] :=
  (by decide +kernel : ∀ t : Fin grid0.N, _)

theorem row_lt (t : Fin cfg0.N) (a : Fin 1024) : t.val / 4 * 1024 + a.val < 4096 := by
  have := t.isLt; have h : cfg0.N = 16 := by decide
  omega

theorem col_lt (t : Fin cfg0.N) (b : Fin 1408) : t.val % 4 * 1408 + b.val < 5632 := by omega

/-- Where a tile's entry stands in the array. -/
def spot (t : Fin cfg0.N) (a : Fin 1024) (b : Fin 1408) : S4096x5632.Idx := ix2 ⟨t.val / 4 * 1024 + a.val, row_lt t a⟩ ⟨t.val % 4 * 1408 + b.val, col_lt t b⟩

theorem block0 (c : Dev nD) (t : Fin cfg0.N) (a : Fin 1024) (l : Fin 2048) : iblk m c 0 t (ix2 a l)
    = (m ((c : Thread nD τ).loc main_arg0) : FVec Ideal S4096x2048 .bf16) (ix2 ⟨t.val / 4 * 1024 + a.val, row_lt t a⟩ l) := by
  show _ = m (_) _
  blk_ext! [iblk, V, idx t]

theorem block1 (c : Dev nD) (t : Fin cfg0.N) (b : Fin 1408) (l : Fin 2048) : iblk m c 1 t (ix2 b l)
    = weights m c (ix2 ⟨t.val % 4 * 1408 + b.val, col_lt t b⟩ l) := by
  unfold weights
  blk_ext! [iblk, idx t]

theorem block2 (c : Dev nD) (t : Fin cfg0.N) (a : Fin 1024) (b : Fin 1408) : iblk m c 2 t (ix2 a b)
    = (m ((c : Thread nD τ).loc main_arg2) : FVec Ideal S4096x5632 .f32) (spot t a b) := by
  unfold spot
  show _ = m (_) _
  blk_ext! [iblk, V, idx t]

/-- A tile of the product. -/
theorem entry_tile (c : Dev nD) (t : Fin cfg0.N) (a : Fin 1024) (b : Fin 1408) :
    entry (iblk m c 0 t) (iblk m c 1 t) a b
      = entry (n := 4096) (k := 5632) (m ((c : Thread nD τ).loc main_arg0)) (weights m c) (spot t a b 0) (spot t a b 1) :=
  Finset.sum_congr rfl fun l _ => congr (congrArg HMul.hMul (block0 m c t a l)) (block1 m c t b l)

theorem spot3 (t : Fin cfg0.N) (a : Fin 1024) (b : Fin 1408) : spot t a b = (win0_3.blk t).view.emb (ix2 a b) := by
  have hi := (idx t).2.2.2.1
  refine funext fun i => Fin.ext ?_
  match i with
  | ⟨0, _⟩ => show _ = win0_3.index t 0 * 1024 + 1 * a.val; rw [hi]; show t.val / 4 * 1024 + _ = t.val / 4 * 1024 + 1 * _; rw [one_mul]
  | ⟨1, _⟩ => show _ = win0_3.index t 1 * 1408 + 1 * b.val; rw [hi]; show t.val % 4 * 1408 + _ = t.val % 4 * 1408 + 1 * _; rw [one_mul]

theorem spot4 (t : Fin cfg0.N) (a : Fin 1024) (b : Fin 1408) : spot t a b = (win0_4.blk t).view.emb (ix2 a b) := by
  have hi := (idx t).2.2.2.2.1
  refine funext fun i => Fin.ext ?_
  match i with
  | ⟨0, _⟩ => show _ = win0_4.index t 0 * 1024 + 1 * a.val; rw [hi]; show t.val / 4 * 1024 + _ = t.val / 4 * 1024 + 1 * _; rw [one_mul]
  | ⟨1, _⟩ => show _ = win0_4.index t 1 * 1408 + 1 * b.val; rw [hi]; show t.val % 4 * 1408 + _ = t.val % 4 * 1408 + 1 * _; rw [one_mul]

theorem spot5 (t : Fin cfg0.N) (a : Fin 1024) (b : Fin 1408) : spot t a b = (win0_5.blk t).view.emb (ix2 a b) := by
  have hi := (idx t).2.2.2.2.2
  refine funext fun i => Fin.ext ?_
  match i with
  | ⟨0, _⟩ => show _ = win0_5.index t 0 * 1024 + 1 * a.val; rw [hi]; show t.val / 4 * 1024 + _ = t.val / 4 * 1024 + 1 * _; rw [one_mul]
  | ⟨1, _⟩ => show _ = win0_5.index t 1 * 1408 + 1 * b.val; rw [hi]; show t.val % 4 * 1408 + _ = t.val % 4 * 1408 + 1 * _; rw [one_mul]

theorem final_gate (c : Dev nD) : (dats m 0 c).arrAt 3 (cfgs 0).N
    = fun j => (m ((c : Thread nD τ).loc main_arg2) : FVec Ideal S4096x5632 .f32) j := by
  refine (dats m 0 c).arrAt_eq_of_covers 3 _ (by decide +kernel) fun t hf y => ?_
  blk_simp
  rw [after0_3]
  obtain ⟨a, b, rfl⟩ : ∃ (a : Fin 1024) (b : Fin 1408), y = ix2 a b := ⟨y 0, y 1, eq_ix2 y⟩
  refine (out_gate (iblk m c 0 t) (iblk m c 1 t) _ (ix2 a b)).trans ?_
  rw [block2]
  exact congrArg (fun j : S4096x5632.Idx => (m ((c : Thread nD τ).loc main_arg2) : FVec Ideal S4096x5632 .f32) j) (spot3 t a b)

theorem final_up (c : Dev nD) : (dats m 0 c).arrAt 4 (cfgs 0).N
    = fun j => entry (n := 4096) (k := 5632) (m ((c : Thread nD τ).loc main_arg0)) (weights m c) (j 0) (j 1) := by
  refine (dats m 0 c).arrAt_eq_of_covers 4 _ (by decide +kernel) fun t hf y => ?_
  blk_simp
  rw [after0_4]
  obtain ⟨a, b, rfl⟩ : ∃ (a : Fin 1024) (b : Fin 1408), y = ix2 a b := ⟨y 0, y 1, eq_ix2 y⟩
  refine (out_up _ _ (iblk m c 2 t) (ix2 a b)).trans ((entry_tile m c t a b).trans ?_)
  generalize weights m c = W
  exact congrArg (fun j : S4096x5632.Idx => entry (n := 4096) (k := 5632) (m ((c : Thread nD τ).loc main_arg0)) W (j 0) (j 1)) (spot4 t a b)

theorem final_act (c : Dev nD) : (dats m 0 c).arrAt 5 (cfgs 0).N
    = fun j => actAt ((m ((c : Thread nD τ).loc main_arg2) : FVec Ideal S4096x5632 .f32) j)
      (entry (n := 4096) (k := 5632) (m ((c : Thread nD τ).loc main_arg0)) (weights m c) (j 0) (j 1)) := by
  refine (dats m 0 c).arrAt_eq_of_covers 5 _ (by decide +kernel) fun t hf y => ?_
  blk_simp
  rw [after0_5]
  obtain ⟨a, b, rfl⟩ : ∃ (a : Fin 1024) (b : Fin 1408), y = ix2 a b := ⟨y 0, y 1, eq_ix2 y⟩
  refine (out_act _ _ _ (ix2 a b)).trans ?_
  rw [block2]
  refine (congrArg (actAt _) (entry_tile m c t a b)).trans ?_
  generalize weights m c = W
  exact congrArg (fun j : S4096x5632.Idx => actAt ((m ((c : Thread nD τ).loc main_arg2) : FVec Ideal S4096x5632 .f32) j)
      (entry (n := 4096) (k := 5632) (m ((c : Thread nD τ).loc main_arg0)) W (j 0) (j 1))) (spot5 t a b)

/-- The weights are the third dimension's only slice, transposed. -/
theorem weights_at (c : Dev nD) (b : Fin 5632) (l : Fin 2048) : weights m c (ix2 b l)
    = shapeCast S2048x5632 (m ((c : Thread nD τ).loc main_arg1) : FVec Ideal S1x2048x5632 .f32) shapeCasts_S1x2048x5632_S2048x5632 (ix2 l b) := by
  have h : weights m c = truncf .bf16 (transpose S5632x2048 [1, 0] (shapeCast S2048x5632 (m ((c : Thread nD τ).loc main_arg1) : FVec Ideal S1x2048x5632 .f32)
      shapeCasts_S1x2048x5632_S2048x5632) transposes_S2048x5632_S5632x2048_1_0) bitsLt_bf16_f32 := by
    unfold weights
    entry_read
    rfl
  rw [h]
  generalize shapeCast S2048x5632 (m ((c : Thread nD τ).loc main_arg1) : FVec Ideal S1x2048x5632 .f32) shapeCasts_S1x2048x5632_S2048x5632 = W
  pointwise []

end Cert.Kernel11Ideal.Hand

namespace Cert.Reference11Ideal.Hand

open Cert.Reference11Ideal Cert.Reference11Ideal.Gen
open Cert.Kernel11Ideal.Hand (entry actAt)
open Cert.SiLU (sigma)

/-- The product with the weights. -/
def prod (Q : FVec Ideal S4096x2048 .bf16) (W : FVec Ideal S1x2048x5632 .f32) : FVec Ideal S4096x5632 .f32 :=
  Host.dotGeneral dot_S4096x2048_S2048x5632_S4096x5632_1_0_0_1_n_n none (extf .f32 Q bitsLt_bf16_f32) (shapeCast _ W shapeCasts_S1x2048x5632_S2048x5632)

theorem prod_at (Q : FVec Ideal S4096x2048 .bf16) (W : FVec Ideal S1x2048x5632 .f32) (B : FVec Ideal ⟨2, ![5632, 2048]⟩ .bf16)
    (hB : ∀ (b : Fin 5632) (l : Fin 2048), B (ix2 b l) = shapeCast S2048x5632 W shapeCasts_S1x2048x5632_S2048x5632 (ix2 l b)) (j : S4096x5632.Idx) :
    prod Q W j = entry (n := 4096) (k := 5632) Q B (j 0) (j 1) := by
  obtain ⟨a, b, rfl⟩ : ∃ (a : Fin 4096) (b : Fin 5632), j = ix2 a b := ⟨j 0, j 1, eq_ix2 j⟩
  refine Eq.trans ?_ (Finset.sum_congr rfl fun l _ => congrArg (Q (ix2 a l) * ·) (hB b l)).symm
  unfold prod
  generalize shapeCast S2048x5632 W shapeCasts_S1x2048x5632_S2048x5632 = W'
  pointwise []

/-- The gated activation. -/
def act (U G : FVec Ideal S4096x5632 .f32) : FVec Ideal S4096x5632 .bf16 :=
  truncf .bf16 (mulf (mulf G (Host.divf (broadcastInDim S4096x5632 ![] bcast_S_S4096x5632 (constant S_ .f32 0x3F800000#32)) (addf (broadcastInDim S4096x5632 ![] bcast_S_S4096x5632 (constant S_ .f32 0x3F800000#32)) (Host.exp (Host.negf G))))) U) bitsLt_bf16_f32

theorem act_at (U G : FVec Ideal S4096x5632 .f32) (j : S4096x5632.Idx) : act U G j = actAt (G j) (U j) := by
  rw [eq_ix2 j]
  pointwise [act, actAt, sigma]

end Cert.Reference11Ideal.Hand

namespace Cert.Proof

theorem algebraic11 : Cert.algebraic_Kernel11Ideal_Reference11Ideal := by
  pair_intro
  · exact Cert.Kernel11Ideal.Value.run_blocks m g
  · refine (θ_run _ _ _).mono (fun r h c => ?_) (Cert.Reference11Ideal.Value.run m' g')
    obtain ⟨h0, h1, h2, h3⟩ := h c
    obtain ⟨e0, e1, e2⟩ := hagree c
    rw [e2] at h0
    rw [e0, e1] at h1
    rw [e0, e1, e2] at h2
    refine ⟨?_, ?_, ?_, h3⟩
    · rw [Cert.Kernel11Ideal.Hand.final_gate m c]
      exact h0
    · rw [Cert.Kernel11Ideal.Hand.final_up m c]
      exact h1.trans (funext fun j => Cert.Reference11Ideal.Hand.prod_at _ _ _ (Cert.Kernel11Ideal.Hand.weights_at m c) j)
    · rw [Cert.Kernel11Ideal.Hand.final_act m c]
      refine h2.trans (funext fun j => ?_)
      refine (Cert.Reference11Ideal.Hand.act_at (Cert.Reference11Ideal.Hand.prod _ _) _ j).trans ?_
      exact congrArg (Cert.Kernel11Ideal.Hand.actAt _) (Cert.Reference11Ideal.Hand.prod_at _ _ _ (Cert.Kernel11Ideal.Hand.weights_at m c) j)

end Cert.Proof

end
-- ==== Proof.NormHost.lean ====
module

public import proofs.«01_k».proof.Proof.NormRef

/-! The root-mean-square norm itself: one entry, and the whole array on the host. -/

@[expose] public section

set_option maxRecDepth 16384

noncomputable section

open Idealize.ShloMosaic Idealize.ShloMosaic.TcCoe Idealize.SL.Sem
open Idealize.ShloMosaic.Pipeline (Dat)

namespace Cert.RowNorm

/-- An entry of a row divided by the root of its mean square, times the gain. -/
def normAt {n : Nat} (X : (⟨2, ![n, 2048]⟩ : Shape).Idx → EReal) (G : (⟨2, ![1, 2048]⟩ : Shape).Idx → EReal) (a : Fin n) (l : Fin 2048) : EReal :=
  X (ix2 a l) * Ideal.rsqrt (meanSq X a) * G (ix2 (0 : Fin 1) l)

end Cert.RowNorm

namespace Cert.Reference6Ideal.Hand

open Cert.Reference6Ideal Cert.Reference6Ideal.Gen
open Cert.RowNorm (normAt)

def hostNorm (X : FVec Ideal S4096x2048 .f32) (G : FVec Ideal S1x2048 .f32) : FVec Ideal S4096x2048 .bf16 :=
  truncf .bf16 (mulf (mulf X (hostScale X)) (broadcastInDim S4096x2048 ![0, 1] bcast_S1x2048_S4096x2048_0_1
    (broadcastInDim S1x2048 ![1] bcast_S2048_S1x2048_1 (shapeCast _ G shapeCasts_S1x2048_S2048)))) bitsLt_bf16_f32

theorem hostNorm_at (X : FVec Ideal S4096x2048 .f32) (G : FVec Ideal S1x2048 .f32) (s : Fin 4096) (l : Fin 2048) :
    hostNorm X G (ix2 s l) = normAt X G s l := by
  unfold normAt
  rw [← hostScale_at X s l]
  generalize h : hostScale X = Y
  pointwise [hostNorm, h]

end Cert.Reference6Ideal.Hand

end
-- ==== Proof.ResidualNorm.lean ====
module

public import proofs.«01_k».proof.Defs
public import proofs.«01_k».proof.Proof.Gen.Kernel12Ideal.Value
public import proofs.«01_k».proof.Proof.Gen.Reference12Ideal.Run
public import proofs.«01_k».proof.Proof.NormHost
public import proofs.«01_k».proof.Proof.Loads
public import Idealize.ShloMosaic.Lib.Pipeline.ReadBack
public import Idealize.ShloMosaic.Lib.Claim

/-! A projection added to the residual and the norm after it: eight grid points, each over 512 rows. -/

@[expose] public section

set_option maxRecDepth 16384

noncomputable section

open Idealize.ShloMosaic Idealize.ShloMosaic.TcCoe Idealize.SL.Sem
open Idealize.ShloMosaic.Pipeline (Dat)

namespace Cert.Kernel12Ideal.Hand

open Cert.Kernel12Ideal Cert.Kernel12Ideal.Gen
open Cert.Tiles (load_whole load_slab slice_slab)
open Cert.RowNorm (meanSq normAt slab)

variable (m : (ℓ : Loc nD τ sig) → Buf (Elt Ideal) ℓ)

/-- An entry of the residual with the projection. -/
def sumAt {n : Nat} (Q : FVec Ideal ⟨2, ![n, 2048]⟩ .bf16) (W : FVec Ideal S2048x2048 .bf16) (X : FVec Ideal ⟨2, ![n, 2048]⟩ .f32) (a : Fin n) (l : Fin 2048) : EReal :=
  X (ix2 a l) + ∑ k : Fin 2048, Q (ix2 a k) * W (ix2 k l)

def sums {n : Nat} (Q : FVec Ideal ⟨2, ![n, 2048]⟩ .bf16) (W : FVec Ideal S2048x2048 .bf16) (X : FVec Ideal ⟨2, ![n, 2048]⟩ .f32) : FVec Ideal ⟨2, ![n, 2048]⟩ .f32 :=
  fun j => sumAt Q W X (j 0) (j 1)

theorem product_at (Q : FVec Ideal S512x2048 .bf16) (W : FVec Ideal S2048x2048 .bf16) (a : Fin 512) (l : Fin 2048) :
    k0_pay2 (F := Ideal) Q W (ix2 a l) = ∑ k : Fin 2048, Q (ix2 a k) * W (ix2 k l) := by
  pointwise [k0_pay2]

/-- 128 rows of the sum. -/
theorem add_slab (o : Nat) (h : o + 128 ≤ 512) (Q : FVec Ideal S512x2048 .bf16) (W : FVec Ideal S2048x2048 .bf16) (X : FVec Ideal S512x2048 .f32)
    (Y : FVec Ideal S128x2048 .f32) (hY : Y = slab o h X) (hs) (hc) :
    addf (shapeCast S128x2048 Y hc) (extractStridedSlice S128x2048 ![o, 0] (k0_pay2 (F := Ideal) Q W) hs) = slab o h (sums Q W X) := by
  rw [show extractStridedSlice S128x2048 ![o, 0] (k0_pay2 (F := Ideal) Q W) hs = slab o h (k0_pay2 (F := Ideal) Q W) from slice_slab o h _ hs]
  funext j
  obtain ⟨a, l, rfl⟩ : ∃ (a : Fin 128) (l : Fin 2048), j = ix2 a l := ⟨j 0, j 1, eq_ix2 j⟩
  refine Eq.trans (b := Y (ix2 a l) + k0_pay2 (F := Ideal) Q W (ix2 (⟨o + a.val, by omega⟩ : Fin 512) l)) ?_ ?_
  · refine congrArg (· + _) ?_
    pointwise []
  · rw [product_at, hY]
    rfl

theorem slab_norm (o : Nat) (h : o + 128 ≤ 512) (Y : FVec Ideal S512x2048 .f32) (G : FVec Ideal S1x2048 .f32) (x : S128x2048.Idx) (y : S512x2048.Idx)
    (h0 : (y 0).val = o + (x 0).val) (h1 : (y 1).val = (x 1).val) : normAt (slab o h Y) G (x 0) (x 1) = normAt Y G (y 0) (y 1) := by
  rw [show y 0 = (⟨o + (x 0).val, h0 ▸ (y 0).isLt⟩ : Fin 512) from Fin.ext h0, show y 1 = x 1 from Fin.ext h1]
  rfl

theorem slab_sum (o : Nat) (h : o + 128 ≤ 512) (Y : FVec Ideal S512x2048 .f32) (x : S128x2048.Idx) (y : S512x2048.Idx)
    (h0 : (y 0).val = o + (x 0).val) (h1 : (y 1).val = (x 1).val) : slab o h Y x = Y y :=
  congrArg Y (funext (Fin.forall_fin_two.mpr ⟨Fin.ext h0.symm, Fin.ext h1.symm⟩))

section Norms

variable (A : FVec Ideal S512x2048 .bf16) (B : FVec Ideal S2048x2048 .bf16) (D : FVec Ideal S512x2048 .f32) (G : FVec Ideal S1x2048 .f32) (X : FVec Ideal S128x2048 .f32)

theorem norm_0 (a : Fin 128) (l : Fin 2048) : k0_pay4 (F := Ideal) A B G X (ix2 a l) = normAt (k0_pay3 (F := Ideal) A B X) G a l := by
  generalize h : k0_pay3 (F := Ideal) A B X = Y
  pointwise [k0_pay4, h, normAt, meanSq]

theorem norm_128 (a : Fin 128) (l : Fin 2048) : k0_pay7 (F := Ideal) G (k0_pay5 (F := Ideal) A B X) (k0_pay6 (F := Ideal) A B X) (ix2 a l) = normAt (k0_pay5 (F := Ideal) A B X) G a l := by
  generalize h : k0_pay5 (F := Ideal) A B X = Y
  pointwise [k0_pay7, k0_pay6, h, normAt, meanSq]

theorem norm_256 (a : Fin 128) (l : Fin 2048) : k0_pay9 (F := Ideal) D G X (ix2 a l) = normAt (k0_pay8 (F := Ideal) D X) G a l := by
  generalize h : k0_pay8 (F := Ideal) D X = Y
  pointwise [k0_pay9, h, normAt, meanSq]

theorem norm_384 (a : Fin 128) (l : Fin 2048) : k0_pay1 (F := Ideal) G (k0_pay10 (F := Ideal) D X) (k0_pay11 (F := Ideal) D X) (ix2 a l) = normAt (k0_pay10 (F := Ideal) D X) G a l := by
  generalize h : k0_pay10 (F := Ideal) D X = Y
  pointwise [k0_pay1, k0_pay11, h, normAt, meanSq]

end Norms

section Outs

variable (Q : FVec Ideal S512x2048 .bf16) (W : FVec Ideal S2048x2048 .bf16) (X : FVec Ideal S512x2048 .f32) (G : FVec Ideal S1x2048 .f32)

theorem load_rows : View.ld (Val := Elt Ideal) (e' := .bf16) Q r0_0 = Q :=
  load_whole (S := S512x2048) (e := .bf16) Q (off := ![0, 0]) inb_S512x2048_S512x2048_0_0 (Fin.forall_fin_two.mpr ⟨rfl, rfl⟩)

theorem load_weights : View.ld (Val := Elt Ideal) (e' := .bf16) W r0_1 = W :=
  load_whole (S := S2048x2048) (e := .bf16) W (off := ![0, 0]) inb_S2048x2048_S2048x2048_0_0 (Fin.forall_fin_two.mpr ⟨rfl, rfl⟩)

theorem load_gain : View.ld (Val := Elt Ideal) (e' := .f32) G r0_2 = G :=
  load_whole (S := S1x2048) (e := .f32) G (off := ![0, 0]) inb_S1x2048_S1x2048_0_0 (Fin.forall_fin_two.mpr ⟨rfl, rfl⟩)

theorem sum_0 : k0_pay3 (F := Ideal) Q W (View.ld (Val := Elt Ideal) (e' := .f32) X r0_3) = slab 0 (by decide) (sums Q W X) := add_slab 0 (by decide) Q W X _ (load_slab 0 (by decide) X _) _ _
theorem sum_128 : k0_pay5 (F := Ideal) Q W (View.ld (Val := Elt Ideal) (e' := .f32) X r0_4) = slab 128 (by decide) (sums Q W X) := add_slab 128 (by decide) Q W X _ (load_slab 128 (by decide) X _) _ _
theorem sum_256 : k0_pay8 (F := Ideal) (k0_pay2 (F := Ideal) Q W) (View.ld (Val := Elt Ideal) (e' := .f32) X r0_5) = slab 256 (by decide) (sums Q W X) := add_slab 256 (by decide) Q W X _ (load_slab 256 (by decide) X _) _ _
theorem sum_384 : k0_pay10 (F := Ideal) (k0_pay2 (F := Ideal) Q W) (View.ld (Val := Elt Ideal) (e' := .f32) X r0_6) = slab 384 (by decide) (sums Q W X) := add_slab 384 (by decide) Q W X _ (load_slab 384 (by decide) X _) _ _

/-- What a grid point stores of the sum. -/
theorem out_sum (y : S512x2048.Idx) : out0_4 (F := Ideal) Q W X G y = sums Q W X y := by
  unfold out0_4 k0_pay14 k0_pay13 k0_pay12
  rw [load_rows, load_weights, sum_0, sum_128, sum_256, sum_384]
  canon_tiles x h
  · exact slab_sum 384 (by decide) _ x y h0 h1
  · exact slab_sum 256 (by decide) _ x y h0 h1
  · exact slab_sum 128 (by decide) _ x y h0 h1
  · exact slab_sum 0 (by decide) _ x y (h0.trans (Nat.zero_add _).symm) h1

/-- What a grid point stores of the norm. -/
theorem out_norm (y : S512x2048.Idx) : out0_5 (F := Ideal) Q W X G y = normAt (sums Q W X) G (y 0) (y 1) := by
  unfold out0_5 k0_pay14 k0_pay13 k0_pay12
  rw [load_rows, load_weights, load_gain]
  canon_tiles x h
  · refine ((congrArg _ (eq_ix2 x)).trans (norm_384 _ G _ (x 0) (x 1))).trans ?_
    rw [sum_384]
    exact slab_norm 384 (by decide) _ G x y h0 h1
  · refine ((congrArg _ (eq_ix2 x)).trans (norm_256 _ G _ (x 0) (x 1))).trans ?_
    rw [sum_256]
    exact slab_norm 256 (by decide) _ G x y h0 h1
  · refine ((congrArg _ (eq_ix2 x)).trans (norm_128 Q W G _ (x 0) (x 1))).trans ?_
    rw [sum_128]
    exact slab_norm 128 (by decide) _ G x y h0 h1
  · refine ((congrArg _ (eq_ix2 x)).trans (norm_0 Q W G _ (x 0) (x 1))).trans ?_
    rw [sum_0]
    exact slab_norm 0 (by decide) _ G x y (h0.trans (Nat.zero_add _).symm) h1

end Outs

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The weights and the residual as the call takes them. -/
def weights (c : Dev nD) : FVec Ideal S2048x2048 .bf16 := V (F := Ideal) m c main_v1
def resid (c : Dev nD) : FVec Ideal S4096x2048 .f32 := V (F := Ideal) m c main_v2

/-- The rows of an array that a grid point works on. -/
def rows {φ : FTy} (t : Fin 8) (X : FVec Ideal S4096x2048 φ) : FVec Ideal S512x2048 φ := fun j =>
  X (ix2 (⟨t.val * 512 + (j 0).val, by have h : (j 0).val < 512 := (j 0).isLt; omega⟩ : Fin 4096) (j 1 : Fin 2048))

theorem block0 (c : Dev nD) (t : Fin cfg0.N) : iblk m c 0 t = rows (φ := .bf16) t (m ((c : Thread nD τ).loc main_arg0)) := by
  funext j
  rw [eq_ix2 j]
  show _ = m ((c : Thread nD τ).loc main_arg0) _
  blk_ext! [iblk, V, idx t]

theorem block1 (c : Dev nD) (t : Fin cfg0.N) : iblk m c 1 t = weights m c := by
  unfold weights
  blk_ext! [iblk, idx t]

theorem block2 (c : Dev nD) (t : Fin cfg0.N) : iblk m c 2 t = rows (φ := .f32) t (resid m c) := by
  funext j
  rw [eq_ix2 j]
  unfold resid
  blk_ext! [iblk, idx t]

theorem block3 (c : Dev nD) (t : Fin cfg0.N) : iblk m c 3 t = m ((c : Thread nD τ).loc main_arg3) := by
  blk_ext! [iblk, V, idx t]

theorem rows_lt (t : Fin 8) (y : Fin 512) : t.val * 512 + y.val < 4096 := by omega

/-- Where a grid point's entry stands in the array. -/
def spot (t : Fin cfg0.N) (y : S512x2048.Idx) : S4096x2048.Idx := ix2 (⟨t.val * 512 + (y 0).val, rows_lt t (y 0)⟩ : Fin 4096) (y 1 : Fin 2048)

theorem spot4 (t : Fin cfg0.N) (y : S512x2048.Idx) : spot t y = (win0_4.blk t).view.emb y := by
  have hi := (idx t).2.2.2.2.1
  refine funext fun a => Fin.ext ?_
  match a with
  | ⟨0, _⟩ => show _ = win0_4.index t 0 * 512 + 1 * (y 0).val; rw [hi]; show t.val * 512 + _ = t.val * 512 + 1 * _; rw [one_mul]
  | ⟨1, _⟩ => show _ = win0_4.index t 1 * 2048 + 1 * (y 1).val; rw [hi]; show (y 1).val = 0 * 2048 + 1 * (y 1).val; rw [Nat.zero_mul, Nat.zero_add, Nat.one_mul]

theorem spot5 (t : Fin cfg0.N) (y : S512x2048.Idx) : spot t y = (win0_5.blk t).view.emb y := by
  have hi := (idx t).2.2.2.2.2
  refine funext fun a => Fin.ext ?_
  match a with
  | ⟨0, _⟩ => show _ = win0_5.index t 0 * 512 + 1 * (y 0).val; rw [hi]; show t.val * 512 + _ = t.val * 512 + 1 * _; rw [one_mul]
  | ⟨1, _⟩ => show _ = win0_5.index t 1 * 2048 + 1 * (y 1).val; rw [hi]; show (y 1).val = 0 * 2048 + 1 * (y 1).val; rw [Nat.zero_mul, Nat.zero_add, Nat.one_mul]

theorem final_sum (c : Dev nD) : (dats m 0 c).arrAt 4 (cfgs 0).N
    = sums (n := 4096) (m ((c : Thread nD τ).loc main_arg0)) (weights m c) (resid m c) := by
  refine (dats m 0 c).arrAt_eq_of_covers 4 _ (by decide +kernel) fun t hf y => ?_
  blk_simp
  rw [after0_4, block0, block1, block2]
  generalize m ((c : Thread nD τ).loc main_arg0) = Q
  generalize weights m c = W
  generalize resid m c = X
  exact (out_sum _ _ _ (iblk m c 3 t) y).trans (congrArg (sums (n := 4096) Q W X) (spot4 t y))

theorem final_norm (c : Dev nD) : (dats m 0 c).arrAt 5 (cfgs 0).N
    = fun j => normAt (n := 4096) (sums (n := 4096) (m ((c : Thread nD τ).loc main_arg0)) (weights m c) (resid m c)) (m ((c : Thread nD τ).loc main_arg3)) (j 0) (j 1) := by
  refine (dats m 0 c).arrAt_eq_of_covers 5 _ (by decide +kernel) fun t hf y => ?_
  blk_simp
  rw [after0_5, block0, block1, block2, block3]
  generalize m ((c : Thread nD τ).loc main_arg0) = Q
  generalize weights m c = W
  generalize resid m c = X
  generalize m ((c : Thread nD τ).loc main_arg3) = G
  exact (out_norm _ _ _ _ y).trans (congrArg (fun j : S4096x2048.Idx => normAt (n := 4096) (sums (n := 4096) Q W X) G (j 0) (j 1)) (spot5 t y))

theorem weights_eq (c : Dev nD) : weights m c = shapeCast S2048x2048 (m ((c : Thread nD τ).loc main_arg1) : FVec Ideal S1x2048x2048 .f32) shapeCasts_S1x2048x2048_S2048x2048 := by
  unfold weights
  entry_read
  rfl

theorem resid_eq (c : Dev nD) : resid m c = shapeCast S4096x2048 (m ((c : Thread nD τ).loc main_arg2) : FVec Ideal S1x4096x2048 .f32) shapeCasts_S1x4096x2048_S4096x2048 := by
  unfold resid
  entry_read
  rfl

end Cert.Kernel12Ideal.Hand

namespace Cert.Reference12Ideal.Hand

open Cert.Reference12Ideal Cert.Reference12Ideal.Gen
open Cert.Kernel12Ideal.Hand (sums sumAt)

/-- The residual with the projection. -/
def total (Q : FVec Ideal S4096x2048 .bf16) (W : FVec Ideal S1x2048x2048 .f32) (X : FVec Ideal S1x4096x2048 .f32) : FVec Ideal S4096x2048 .f32 :=
  addf (shapeCast _ X shapeCasts_S1x4096x2048_S4096x2048) (Host.dotGeneral dot_S4096x2048_S2048x2048_S4096x2048_1_0_0_1_n_n none (extf .f32 Q bitsLt_bf16_f32) (shapeCast _ W shapeCasts_S1x2048x2048_S2048x2048))

theorem total_eq (Q : FVec Ideal S4096x2048 .bf16) (W : FVec Ideal S1x2048x2048 .f32) (X : FVec Ideal S1x4096x2048 .f32) :
    total Q W X = sums (n := 4096) Q (shapeCast S2048x2048 W shapeCasts_S1x2048x2048_S2048x2048) (shapeCast S4096x2048 X shapeCasts_S1x4096x2048_S4096x2048) := by
  unfold total
  generalize shapeCast S2048x2048 W shapeCasts_S1x2048x2048_S2048x2048 = W'
  generalize shapeCast S4096x2048 X shapeCasts_S1x4096x2048_S4096x2048 = X'
  funext j
  rw [eq_ix2 j]
  pointwise [sums, sumAt]

end Cert.Reference12Ideal.Hand

namespace Cert.Proof

theorem algebraic12 : Cert.algebraic_Kernel12Ideal_Reference12Ideal := by
  pair_intro
  · exact Cert.Kernel12Ideal.Value.run_blocks m g
  · refine (θ_run _ _ _).mono (fun r h c => ?_) (Cert.Reference12Ideal.Value.run m' g')
    obtain ⟨h0, h1, h2⟩ := h c
    obtain ⟨e0, e1, e2, e3⟩ := hagree c
    rw [e0, e1, e2] at h0
    rw [e0, e1, e2, e3] at h1
    refine ⟨?_, ?_, h2⟩
    · rw [Cert.Kernel12Ideal.Hand.final_sum m c, Cert.Kernel12Ideal.Hand.weights_eq, Cert.Kernel12Ideal.Hand.resid_eq]
      exact h0.trans (Cert.Reference12Ideal.Hand.total_eq _ _ _)
    · rw [Cert.Kernel12Ideal.Hand.final_norm m c, Cert.Kernel12Ideal.Hand.weights_eq, Cert.Kernel12Ideal.Hand.resid_eq]
      refine h1.trans (funext fun j => ?_)
      refine ((congrArg _ (eq_ix2 j)).trans (Cert.Reference6Ideal.Hand.hostNorm_at (Cert.Reference12Ideal.Hand.total _ _ _) _ (j 0) (j 1))).trans ?_
      rw [Cert.Reference12Ideal.Hand.total_eq]

end Cert.Proof

end
-- ==== Proof.NormMix.lean ====
module

public import proofs.«01_k».proof.Defs
public import proofs.«01_k».proof.Proof.Gen.Kernel13Ideal.Value
public import proofs.«01_k».proof.Proof.Gen.Reference13Ideal.Run
public import proofs.«01_k».proof.Proof.NormHost
public import proofs.«01_k».proof.Proof.Loads
public import Idealize.ShloMosaic.Lib.Pipeline.ReadBack
public import Idealize.ShloMosaic.Lib.Claim

/-! The norm before the mixer: eight grid points, each over 512 rows. -/

@[expose] public section

set_option maxRecDepth 16384

noncomputable section

open Idealize.ShloMosaic Idealize.ShloMosaic.TcCoe Idealize.SL.Sem
open Idealize.ShloMosaic.Pipeline (Dat)

namespace Cert.Kernel13Ideal.Hand

open Cert.Kernel13Ideal Cert.Kernel13Ideal.Gen
open Cert.Tiles (load_whole)
open Cert.RowNorm (meanSq normAt)

variable (m : (ℓ : Loc nD τ sig) → Buf (Elt Ideal) ℓ)

theorem norm_pay (X : FVec Ideal S512x2048 .f32) (G : FVec Ideal S1x2048 .f32) (a : Fin 512) (l : Fin 2048) :
    k0_pay1 (F := Ideal) X G (ix2 a l) = normAt X G a l := by
  pointwise [k0_pay1, normAt, meanSq]

/-- What a grid point stores. -/
theorem out_norm (X : FVec Ideal S512x2048 .f32) (G : FVec Ideal S1x2048 .f32) (y : S512x2048.Idx) :
    out0_2 (F := Ideal) X G y = normAt X G (y 0) (y 1) := by
  have hx : View.ld (Val := Elt Ideal) (e' := .f32) X r0_0 = X :=
    load_whole (S := S512x2048) (e := .f32) X (off := ![0, 0]) inb_S512x2048_S512x2048_0_0 (Fin.forall_fin_two.mpr ⟨rfl, rfl⟩)
  have hg : View.ld (Val := Elt Ideal) (e' := .f32) G r0_1 = G :=
    load_whole (S := S1x2048) (e := .f32) G (off := ![0, 0]) inb_S1x2048_S1x2048_0_0 (Fin.forall_fin_two.mpr ⟨rfl, rfl⟩)
  unfold out0_2
  canon_tiles x h
  obtain rfl : y = x := funext (Fin.forall_fin_two.mpr ⟨Fin.ext h0, Fin.ext h1⟩)
  rw [hx, hg, eq_ix2 y]
  exact norm_pay X G (y 0) (y 1)

theorem idx : ∀ t : Fin cfg0.N, win0_0.index t = ![t.val, 0] ∧ win0_1.index t = ![0, 0] ∧ win0_2.index t = ![t.val, 0] :=
  (by decide +kernel : ∀ t : Fin grid0.N, _)

/-- The input as the call takes it. -/
def input (c : Dev nD) : FVec Ideal S4096x2048 .f32 := V (F := Ideal) m c main_v0

/-- The rows of an array that a grid point works on. -/
def rows (t : Fin 8) (X : FVec Ideal S4096x2048 .f32) : FVec Ideal S512x2048 .f32 := fun j =>
  X (ix2 (⟨t.val * 512 + (j 0).val, by have h : (j 0).val < 512 := (j 0).isLt; omega⟩ : Fin 4096) (j 1 : Fin 2048))

theorem block0 (c : Dev nD) (t : Fin cfg0.N) : iblk m c 0 t = rows t (input m c) := by
  funext j
  rw [eq_ix2 j]
  unfold input
  blk_ext! [iblk, idx t]

theorem block1 (c : Dev nD) (t : Fin cfg0.N) : iblk m c 1 t = m ((c : Thread nD τ).loc main_arg1) := by
  blk_ext! [iblk, V, idx t]

theorem rows_lt (t : Fin 8) (y : Fin 512) : t.val * 512 + y.val < 4096 := by omega

theorem final_norm (c : Dev nD) : (dats m 0 c).arrAt 2 (cfgs 0).N
    = fun j => normAt (n := 4096) (input m c) (m ((c : Thread nD τ).loc main_arg1)) (j 0) (j 1) := by
  refine (dats m 0 c).arrAt_eq_of_covers 2 _ (by decide +kernel) fun t hf y => ?_
  blk_simp
  rw [after0_2, block0, block1]
  generalize input m c = X
  generalize m ((c : Thread nD τ).loc main_arg1) = G
  have hi := (idx t).2.2
  refine (out_norm _ _ y).trans ?_
  refine (rfl : _ = (fun j : S4096x2048.Idx => normAt (n := 4096) X G (j 0) (j 1)) (ix2 (⟨t.val * 512 + (y 0).val, rows_lt t (y 0)⟩ : Fin 4096) (y 1 : Fin 2048))).trans ?_
  refine congrArg (fun j : S4096x2048.Idx => normAt (n := 4096) X G (j 0) (j 1)) (a₂ := (win0_2.blk t).view.emb y) (funext fun a => Fin.ext ?_)
  match a with
  | ⟨0, _⟩ => show _ = win0_2.index t 0 * 512 + 1 * (y 0).val; rw [hi]; show t.val * 512 + _ = t.val * 512 + 1 * _; rw [one_mul]
  | ⟨1, _⟩ => show _ = win0_2.index t 1 * 2048 + 1 * (y 1).val; rw [hi]; show (y 1).val = 0 * 2048 + 1 * (y 1).val; rw [Nat.zero_mul, Nat.zero_add, Nat.one_mul]

/-- The input is the batch's only element. -/
theorem input_eq (c : Dev nD) : input m c = shapeCast S4096x2048 (m ((c : Thread nD τ).loc main_arg0) : FVec Ideal S1x4096x2048 .f32) shapeCasts_S1x4096x2048_S4096x2048 := by
  unfold input
  entry_read
  rfl

end Cert.Kernel13Ideal.Hand

namespace Cert.Proof

theorem algebraic13 : Cert.algebraic_Kernel13Ideal_Reference13Ideal := by
  pair_intro
  · exact Cert.Kernel13Ideal.Value.run_blocks m g
  · refine (θ_run _ _ _).mono (fun r h c => ?_) (Cert.Reference13Ideal.Value.run m' g')
    obtain ⟨h0, h1⟩ := h c
    obtain ⟨e0, e1⟩ := hagree c
    rw [e0, e1] at h0
    refine ⟨?_, h1⟩
    rw [Cert.Kernel13Ideal.Hand.final_norm m c, Cert.Kernel13Ideal.Hand.input_eq]
    exact h0.trans (funext fun j => (congrArg _ (eq_ix2 j)).trans (Cert.Reference6Ideal.Hand.hostNorm_at _ _ (j 0) (j 1)))

end Cert.Proof

end
-- ==== Proof.GateBackward.lean ====
module

public import proofs.«01_k».proof.Defs
public import proofs.«01_k».proof.Proof.Gen.Kernel14Ideal.Value
public import proofs.«01_k».proof.Proof.Gen.Reference14Ideal.Run
public import proofs.«01_k».proof.Proof.Loads
public import Idealize.ShloMosaic.Lib.Pipeline.ReadBack
public import Idealize.ShloMosaic.Lib.Claim

/-! The sum of the two products that carry the gated layer's gradients back to its input: tiles of 512 by 512. -/

@[expose] public section

set_option maxRecDepth 16384

noncomputable section

open Idealize.ShloMosaic Idealize.ShloMosaic.TcCoe Idealize.SL.Sem
open Idealize.ShloMosaic.Pipeline (Dat)

namespace Cert.Kernel14Ideal.Hand

open Cert.Kernel14Ideal Cert.Kernel14Ideal.Gen
open Cert.Tiles (load_whole)

variable (m : (ℓ : Loc nD τ sig) → Buf (Elt Ideal) ℓ)

/-- An entry of the sum of the two products. -/
def entry {n k : Nat} (D E : FVec Ideal ⟨2, ![n, 5632]⟩ .bf16) (G U : FVec Ideal ⟨2, ![5632, k]⟩ .bf16) (a : Fin n) (b : Fin k) : EReal :=
  (∑ l : Fin 5632, D (ix2 a l) * G (ix2 l b)) + ∑ l : Fin 5632, E (ix2 a l) * U (ix2 l b)

/-- It depends on a row of each gradient and a column of each weight only. -/
theorem entry_congr {n k n' k' : Nat} {D E : FVec Ideal ⟨2, ![n, 5632]⟩ .bf16} {G U : FVec Ideal ⟨2, ![5632, k]⟩ .bf16}
    {D' E' : FVec Ideal ⟨2, ![n', 5632]⟩ .bf16} {G' U' : FVec Ideal ⟨2, ![5632, k']⟩ .bf16} {a : Fin n} {b : Fin k} {a' : Fin n'} {b' : Fin k'}
    (hD : ∀ l : Fin 5632, D (ix2 a l) = D' (ix2 a' l)) (hE : ∀ l : Fin 5632, E (ix2 a l) = E' (ix2 a' l))
    (hG : ∀ l : Fin 5632, G (ix2 l b) = G' (ix2 l b')) (hU : ∀ l : Fin 5632, U (ix2 l b) = U' (ix2 l b')) : entry D E G U a b = entry D' E' G' U' a' b' :=
  congr (congrArg HAdd.hAdd (Finset.sum_congr rfl fun l _ => congr (congrArg HMul.hMul (hD l)) (hG l)))
    (Finset.sum_congr rfl fun l _ => congr (congrArg HMul.hMul (hE l)) (hU l))

theorem entry_pay (D E : FVec Ideal S512x5632 .bf16) (G U : FVec Ideal S5632x512 .bf16) (a b : Fin 512) :
    k0_pay1 (F := Ideal) D G E U (ix2 a b) = entry D E G U a b := by
  pointwise [k0_pay1, entry]

/-- What a grid point stores. -/
theorem out_entry (D E : FVec Ideal S512x5632 .bf16) (G U : FVec Ideal S5632x512 .bf16) (y : S512x512.Idx) :
    out0_4 (F := Ideal) D E G U y = entry D E G U (y 0) (y 1) := by
  have hr (X : FVec Ideal S512x5632 .bf16) : View.ld (Val := Elt Ideal) (e' := .bf16) X r0_0 = X :=
    load_whole (S := S512x5632) (e := .bf16) X (off := ![0, 0]) inb_S512x5632_S512x5632_0_0 (Fin.forall_fin_two.mpr ⟨rfl, rfl⟩)
  have hc (X : FVec Ideal S5632x512 .bf16) : View.ld (Val := Elt Ideal) (e' := .bf16) X r0_1 = X :=
    load_whole (S := S5632x512) (e := .bf16) X (off := ![0, 0]) inb_S5632x512_S5632x512_0_0 (Fin.forall_fin_two.mpr ⟨rfl, rfl⟩)
  unfold out0_4
  canon_tiles x h
  obtain rfl : y = x := funext (Fin.forall_fin_two.mpr ⟨Fin.ext h0, Fin.ext h1⟩)
  rw [hr, hr, hc, hc, eq_ix2 y]
  exact entry_pay D E G U (y 0) (y 1)

theorem idx : ∀ t : Fin cfg0.N, win0_0.index t = ![t.val / 4, 0] ∧ win0_1.index t = ![t.val / 4, 0] ∧ win0_2.index t = ![0, t.val % 4]
    ∧ win0_3.index t = ![0, t.val % 4] ∧ win0_4.index t = ![t.val / 4, t.val % 4] :=
  (by decide +kernel : ∀ t : Fin grid0.N, _)

/-- The two weights as the call takes them. -/
def gates (c : Dev nD) : FVec Ideal S5632x2048 .bf16 := V (F := Ideal) m c main_v2
def ups (c : Dev nD) : FVec Ideal S5632x2048 .bf16 := V (F := Ideal) m c main_v5

section
variable (c : Dev nD) (t : Fin cfg0.N) (a b : Fin 512)

theorem row_lt : t.val / 4 * 512 + a.val < 4096 := by
  have := t.isLt; have h : cfg0.N = 32 := by decide
  omega

theorem col_lt : t.val % 4 * 512 + b.val < 2048 := by omega

/-- Where a tile's entry stands in the array. -/
def spot : S4096x2048.Idx := ix2 ⟨t.val / 4 * 512 + a.val, row_lt t a⟩ ⟨t.val % 4 * 512 + b.val, col_lt t b⟩

theorem block0 (l : Fin 5632) : iblk m c 0 t (ix2 a l)
    = (m ((c : Thread nD τ).loc main_arg0) : FVec Ideal S4096x5632 .bf16) (ix2 ⟨t.val / 4 * 512 + a.val, row_lt t a⟩ l) := by
  show _ = m (_) _
  blk_ext! [iblk, V, idx t]

theorem block1 (l : Fin 5632) : iblk m c 1 t (ix2 a l)
    = (m ((c : Thread nD τ).loc main_arg1) : FVec Ideal S4096x5632 .bf16) (ix2 ⟨t.val / 4 * 512 + a.val, row_lt t a⟩ l) := by
  show _ = m (_) _
  blk_ext! [iblk, V, idx t]

theorem block2 (l : Fin 5632) : iblk m c 2 t (ix2 l b) = gates m c (ix2 l ⟨t.val % 4 * 512 + b.val, col_lt t b⟩) := by
  unfold gates
  blk_ext! [iblk, idx t]

theorem block3 (l : Fin 5632) : iblk m c 3 t (ix2 l b) = ups m c (ix2 l ⟨t.val % 4 * 512 + b.val, col_lt t b⟩) := by
  unfold ups
  blk_ext! [iblk, idx t]

/-- A tile of the sum. -/
theorem entry_tile : entry (iblk m c 0 t) (iblk m c 1 t) (iblk m c 2 t) (iblk m c 3 t) a b
    = entry (n := 4096) (k := 2048) (m ((c : Thread nD τ).loc main_arg0)) (m ((c : Thread nD τ).loc main_arg1)) (gates m c) (ups m c) (spot t a b 0) (spot t a b 1) :=
  entry_congr (block0 m c t a) (block1 m c t a) (block2 m c t b) (block3 m c t b)

theorem spot4 : spot t a b = (win0_4.blk t).view.emb (ix2 a b) := by
  have hi := (idx t).2.2.2.2
  refine funext fun i => Fin.ext ?_
  match i with
  | ⟨0, _⟩ => show _ = win0_4.index t 0 * 512 + 1 * a.val; rw [hi]; show t.val / 4 * 512 + _ = t.val / 4 * 512 + 1 * _; rw [one_mul]
  | ⟨1, _⟩ => show _ = win0_4.index t 1 * 512 + 1 * b.val; rw [hi]; show t.val % 4 * 512 + _ = t.val % 4 * 512 + 1 * _; rw [one_mul]

end

theorem final (c : Dev nD) : (dats m 0 c).arrAt 4 (cfgs 0).N
    = fun j => entry (n := 4096) (k := 2048) (m ((c : Thread nD τ).loc main_arg0)) (m ((c : Thread nD τ).loc main_arg1)) (gates m c) (ups m c) (j 0) (j 1) := by
  refine (dats m 0 c).arrAt_eq_of_covers 4 _ (by decide +kernel) fun t hf y => ?_
  blk_simp
  rw [after0_4]
  obtain ⟨a, b, rfl⟩ : ∃ (a b : Fin 512), y = ix2 a b := ⟨y 0, y 1, eq_ix2 y⟩
  refine (out_entry _ _ _ _ (ix2 a b)).trans ((entry_tile m c t a b).trans ?_)
  generalize gates m c = G
  generalize ups m c = U
  exact congrArg (fun j : S4096x2048.Idx => entry (n := 4096) (k := 2048) (m ((c : Thread nD τ).loc main_arg0)) (m ((c : Thread nD τ).loc main_arg1)) G U (j 0) (j 1)) (spot4 t a b)

/-- A weight's only slice, transposed. -/
def turned (W : FVec Ideal S1x2048x5632 .f32) : FVec Ideal S5632x2048 .bf16 :=
  truncf .bf16 (transpose S5632x2048 [1, 0] (shapeCast S2048x5632 W shapeCasts_S1x2048x5632_S2048x5632) transposes_S2048x5632_S5632x2048_1_0) bitsLt_bf16_f32

theorem gates_eq (c : Dev nD) : gates m c = turned (m ((c : Thread nD τ).loc main_arg2)) := by
  unfold gates turned
  entry_read
  rfl

theorem ups_eq (c : Dev nD) : ups m c = turned (m ((c : Thread nD τ).loc main_arg3)) := by
  unfold ups turned
  entry_read
  rfl

end Cert.Kernel14Ideal.Hand

namespace Cert.Reference14Ideal.Hand

open Cert.Reference14Ideal Cert.Reference14Ideal.Gen
open Cert.Kernel14Ideal.Hand (entry turned)

/-- The reference's result. -/
def total (D E : FVec Ideal S4096x5632 .bf16) (G U : FVec Ideal S1x2048x5632 .f32) : FVec Ideal S4096x2048 .f32 :=
  addf (Host.dotGeneral dot_S4096x5632_S5632x2048_S4096x2048_1_0_0_1_n_n none (extf .f32 D bitsLt_bf16_f32)
      (transpose S5632x2048 [1, 0] (shapeCast _ G shapeCasts_S1x2048x5632_S2048x5632) transposes_S2048x5632_S5632x2048_1_0))
    (Host.dotGeneral dot_S4096x5632_S5632x2048_S4096x2048_1_0_0_1_n_n none (extf .f32 E bitsLt_bf16_f32)
      (transpose S5632x2048 [1, 0] (shapeCast _ U shapeCasts_S1x2048x5632_S2048x5632) transposes_S2048x5632_S5632x2048_1_0))

theorem total_at (D E : FVec Ideal S4096x5632 .bf16) (G U : FVec Ideal S1x2048x5632 .f32) (j : S4096x2048.Idx) :
    total D E G U j = entry (n := 4096) (k := 2048) D E (turned G) (turned U) (j 0) (j 1) := by
  obtain ⟨a, b, rfl⟩ : ∃ (a : Fin 4096) (b : Fin 2048), j = ix2 a b := ⟨j 0, j 1, eq_ix2 j⟩
  unfold total turned
  generalize shapeCast _ G shapeCasts_S1x2048x5632_S2048x5632 = G'
  generalize shapeCast _ U shapeCasts_S1x2048x5632_S2048x5632 = U'
  pointwise [entry]

end Cert.Reference14Ideal.Hand

namespace Cert.Proof

theorem algebraic14 : Cert.algebraic_Kernel14Ideal_Reference14Ideal := by
  pair_intro
  · exact Cert.Kernel14Ideal.Value.run_blocks m g
  · refine (θ_run _ _ _).mono (fun r h c => ?_) (Cert.Reference14Ideal.Value.run m' g')
    obtain ⟨h0, h1⟩ := h c
    obtain ⟨e0, e1, e2, e3⟩ := hagree c
    rw [e0, e1, e2, e3] at h0
    refine ⟨?_, h1⟩
    rw [Cert.Kernel14Ideal.Hand.final m c, Cert.Kernel14Ideal.Hand.gates_eq, Cert.Kernel14Ideal.Hand.ups_eq]
    exact h0.trans (funext fun j => Cert.Reference14Ideal.Hand.total_at _ _ _ _ j)

end Cert.Proof

end
-- ==== Proof.PairTable.lean ====
module

public import proofs.«01_k».proof.Defs
public import proofs.«01_k».proof.Proof.Gen.Kernel15.Frame
public import proofs.«01_k».proof.Proof.Gen.Kernel15Ideal.Frame
public import Idealize.ShloMosaic.Lib.Pipeline.ValueKit
public import Idealize.ShloMosaic.Lib.Pipeline.ReadBack
public import Idealize.ShloMosaic.Lib.Claim

/-! The word that names a core's row of the pair, as the host writes it: the table of zeros, and the blocks it names lie inside the array. -/

@[expose] public section

noncomputable section

open Idealize.ShloMosaic Idealize.ShloMosaic.TcCoe

namespace Cert.Kernel15.Hand

open Cert.Kernel15 Cert.Kernel15.Gen

/-- The table of zeros. -/
def zeros : pre0.Contents (Elt Bits) := fun | 0 => fun _ => (0#32 : BitVec 32) | ⟨_ + 1, h⟩ => absurd h (Nat.not_lt.2 (Nat.le_add_left _ _))

theorem table (m : (ℓ : Loc nD τ sig) → Buf (Elt Bits) ℓ) : tbl m = zeros := by
  funext j
  obtain rfl : j = 0 := Subsingleton.elim _ _
  rfl

theorem ok (m : (ℓ : Loc nD τ sig) → Buf (Elt Bits) ℓ) : Ok m := by
  unfold Ok
  rw [table]
  decide +kernel

end Cert.Kernel15.Hand

namespace Cert.Kernel15Ideal.Hand

open Cert.Kernel15Ideal Cert.Kernel15Ideal.Gen

variable {F : FTy → Type} [FloatOps F]

/-- The table of zeros. -/
def zeros : pre0.Contents (Elt F) := fun | 0 => fun _ => (0#32 : BitVec 32) | ⟨_ + 1, h⟩ => absurd h (Nat.not_lt.2 (Nat.le_add_left _ _))

theorem ok_zeros : ok0 (F := F) zeros := of_decide_eq_true (by sl_kernel_rfl)

theorem table (m : (ℓ : Loc nD τ sig) → Buf (Elt F) ℓ) : tbl m = zeros := by
  funext j
  obtain rfl : j = 0 := Subsingleton.elim _ _
  rfl

theorem ok (m : (ℓ : Loc nD τ sig) → Buf (Elt F) ℓ) : Ok m := by
  unfold Ok
  rw [table]
  exact ok_zeros

/-- The pipeline at the table of zeros. -/
def atZeros : (pcfg0 (F := F)).Adm := ⟨zeros, ok_zeros⟩

theorem adm_eq (m : (ℓ : Loc nD τ sig) → Buf (Elt F) ℓ) : adm m (ok m) = atZeros := Subtype.ext (table m)

theorem covers (m : (ℓ : Loc nD τ sig) → Buf (Elt F) ℓ) : ((cfgM m (ok m)).win 2).Covers := by
  show ((cfg0 (adm m (ok m))).win 2).Covers
  rw [adm_eq m]
  exact of_decide_eq_true (by sl_kernel_rfl)

/-- The block indices of the three arrays at the table of zeros. -/
def at0 : Fin 4 → Fin 4 → Nat := fun t => ((cfg0 (atZeros (F := F))).win 0).index t
def at1 : Fin 4 → Fin 3 → Nat := fun t => ((cfg0 (atZeros (F := F))).win 1).index t
def at2 : Fin 4 → Fin 3 → Nat := fun t => ((cfg0 (atZeros (F := F))).win 2).index t

theorem at0_eq : ∀ t i : Fin 4, at0 (F := F) t i = (![t.val, 0, 0, 0] : Fin 4 → Nat) i := of_decide_eq_true (by sl_kernel_rfl)
theorem at1_eq : ∀ (t : Fin 4) (i : Fin 3), at1 (F := F) t i = (![t.val, 0, 0] : Fin 3 → Nat) i := of_decide_eq_true (by sl_kernel_rfl)
theorem at2_eq : ∀ (t : Fin 4) (i : Fin 3), at2 (F := F) t i = (![t.val, 0, 0] : Fin 3 → Nat) i := of_decide_eq_true (by sl_kernel_rfl)

theorem idx (m : (ℓ : Loc nD τ sig) → Buf (Elt F) ℓ) : ∀ t : Fin (cfgM m (ok m)).N, ((cfgM m (ok m)).win 0).index t = ![t.val, 0, 0, 0]
    ∧ ((cfgM m (ok m)).win 1).index t = ![t.val, 0, 0] ∧ ((cfgM m (ok m)).win 2).index t = ![t.val, 0, 0] := by
  show ∀ t : Fin (cfg0 (adm m (ok m))).N, ((cfg0 (adm m (ok m))).win 0).index t = ![t.val, 0, 0, 0]
    ∧ ((cfg0 (adm m (ok m))).win 1).index t = ![t.val, 0, 0] ∧ ((cfg0 (adm m (ok m))).win 2).index t = ![t.val, 0, 0]
  rw [adm_eq m]
  exact fun t => ⟨funext (at0_eq (F := F) t), funext (at1_eq (F := F) t), funext (at2_eq (F := F) t)⟩

end Cert.Kernel15Ideal.Hand

end
-- ==== Proof.PairSum.lean ====
module

public import proofs.«01_k».proof.Proof.PairTable
public import proofs.«01_k».proof.Proof.Gen.Reference15Ideal.Run
public import proofs.«01_k».proof.Proof.Gen.Reference15.Run
public import proofs.«01_k».proof.Proof.Loads

/-! The sum of a core's own half of a pair's gradients with the half that came from the other core. -/

@[expose] public section

set_option maxRecDepth 16384

noncomputable section

open Idealize.ShloMosaic Idealize.ShloMosaic.TcCoe Idealize.SL.Sem
open Idealize.ShloMosaic.Pipeline (Dat)

namespace Cert.Kernel15Ideal.Hand

open Cert.Kernel15Ideal Cert.Kernel15Ideal.Gen

variable {F : FTy → Type} [FloatOps F] (m : (ℓ : Loc nD τ sig) → Buf (Elt F) ℓ)

/-- Two halves added as 32-bit floats, and the sum rounded. -/
def added (x y : F .bf16) : F .bf16 := FloatOps.truncf .bf16 bitsLt_bf16_f32 (FloatOps.addf (FloatOps.extf .f32 bitsLt_bf16_f32 x) (FloatOps.extf .f32 bitsLt_bf16_f32 y))

/-- The first of each group's two halves, and the other core's contribution. -/
def joined (X : FVec F S4x2x704x2048 .bf16) (Y : FVec F S4x704x2048 .bf16) : FVec F S4x704x2048 .bf16 := fun j =>
  added (X (ix4 (j 0 : Fin 4) (0 : Fin 2) (j 1 : Fin 704) (j 2 : Fin 2048))) (Y j)

/-- A block of the one and a block of the other, added. -/
def both (X : FVec F S1x1x704x2048 .bf16) (Y : FVec F S1x704x2048 .bf16) (a : Fin 704) (b : Fin 2048) : F .bf16 :=
  added (X (ix4 (0 : Fin 1) (0 : Fin 1) a b)) (Y (ix3 (0 : Fin 1) a b))

theorem both_eq {X : FVec F S1x1x704x2048 .bf16} {Y : FVec F S1x704x2048 .bf16} {a : Fin 704} {b : Fin 2048} {x y : F .bf16}
    (hX : X (ix4 (0 : Fin 1) (0 : Fin 1) a b) = x) (hY : Y (ix3 (0 : Fin 1) a b) = y) : both X Y a b = added x y :=
  congr (congrArg added hX) hY

theorem out_A (c : Dev nD) (i : grid0.Coords) (arg3 : Memref sig .tc .vmem S1x1x704x2048 .bf16) (harg3 : arg3.IsWhole) (arg4 : Memref sig .tc .vmem S1x704x2048 .bf16)
    (harg4 : arg4.IsWhole) (arg5 : Memref sig .tc .vmem S1x704x2048 .bf16) (harg5 : arg5.IsWhole) (X : FVec F S1x1x704x2048 .bf16) (Y : FVec F S1x704x2048 .bf16)
    (T : TbBuf0 (F := F) c tbM0_0) (a : Fin 704) (b : Fin 2048) :
    out0_A_2 c i arg3 harg3 arg4 harg4 arg5 harg5 X Y T (ix3 (0 : Fin 1) a b) = both X Y a b := by
  frame_out
  pointwise [k0_pay1, both, added]

theorem out_entry (c : Dev nD) (t : Fin (cfgM m (ok m)).N) (a : Fin 704) (b : Fin 2048) :
    outsAt0 m (ok m) c t (ix3 (0 : Fin 1) a b) = both (iblk m (ok m) c 0 t) (iblk m (ok m) c 1 t) a b :=
  out_A c _ _ _ _ _ _ _ _ _ _ a b

theorem block0 (c : Dev nD) (t : Fin (cfgM m (ok m)).N) (a : Fin 704) (b : Fin 2048) :
    (iblk m (ok m) c 0 t : FVec F S1x1x704x2048 .bf16) (ix4 (0 : Fin 1) (0 : Fin 1) a b)
      = (m ((c : Thread nD τ).loc main_arg0) : FVec F S4x2x704x2048 .bf16) (ix4 (⟨t.val, t.isLt⟩ : Fin 4) (0 : Fin 2) a b) := by
  show _ = m (_) _
  blk_ext! [iblk, V, idx m t]

theorem block1 (c : Dev nD) (t : Fin (cfgM m (ok m)).N) (a : Fin 704) (b : Fin 2048) :
    (iblk m (ok m) c 1 t : FVec F S1x704x2048 .bf16) (ix3 (0 : Fin 1) a b)
      = (m ((c : Thread nD τ).loc main_arg1) : FVec F S4x704x2048 .bf16) (ix3 (⟨t.val, t.isLt⟩ : Fin 4) a b) := by
  show _ = m (_) _
  blk_ext! [iblk, V, idx m t]

theorem spot2 (c : Dev nD) (t : Fin (cfgM m (ok m)).N) (a : Fin 704) (b : Fin 2048) (G : FVec F S4x704x2048 .bf16) :
    G (ix3 (⟨t.val, t.isLt⟩ : Fin 4) a b) = G ((((cfgM m (ok m)).win 2).blk t).view.emb (ix3 (0 : Fin 1) a b : S1x704x2048.Idx)) := by
  blk_ext! [idx m t]

theorem final (c : Dev nD) : (dats m (ok m) 0 c).arrAt 2 (cfgM m (ok m)).N
    = joined (m ((c : Thread nD τ).loc main_arg0)) (m ((c : Thread nD τ).loc main_arg1)) := by
  refine (dats m (ok m) 0 c).arrAt_eq_of_covers 2 _ (covers m) fun t hf y => ?_
  blk_simp
  rw [after0_2]
  obtain ⟨z, a, b, rfl⟩ : ∃ (z : Fin 1) (a : Fin 704) (b : Fin 2048), y = (ix3 z a b : S1x704x2048.Idx) :=
    ⟨(show S1x704x2048.Idx from y) 0, (show S1x704x2048.Idx from y) 1, (show S1x704x2048.Idx from y) 2, eq_ix3 (show S1x704x2048.Idx from y)⟩
  obtain rfl : z = 0 := Subsingleton.elim _ _
  refine Eq.trans ?_ (spot2 m c t a b _)
  refine (out_entry m c t a b).trans ?_
  exact both_eq (block0 m c t a b) (block1 m c t a b)

/-- The run of the call, with its result. -/
theorem run (ρ : Dev nD → PrngReg) :
    θ_run defs (onTc (τ := τ) (main (F := F))) ⟨m, fun _ => 0, ρ⟩ (fun r => ∀ c : Dev nD,
      r.2.mem ((c.tc : Thread nD τ).loc main_v1) = joined (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (final m c), h.2 c⟩)
    (θ_run_and (run_main m ρ (ok m)) (unchanged m ρ (ok m)))

end Cert.Kernel15Ideal.Hand

namespace Cert.Reference15.Hand

open Cert.Reference15 Cert.Reference15.Gen

/-- The reference's result. -/
theorem joined_at {F : FTy → Type} [FloatOps F] (X : FVec F S4x2x704x2048 .bf16) (Y : FVec F S4x704x2048 .bf16) :
    truncf .bf16 (addf (extf .f32 (shapeCast S4x704x2048 (extractStridedSlice S4x1x704x2048 ![0, 0, 0, 0] X slices_S4x2x704x2048_S4x1x704x2048_0_0_0_0) shapeCasts_S4x1x704x2048_S4x704x2048) bitsLt_bf16_f32)
      (extf .f32 Y bitsLt_bf16_f32)) bitsLt_bf16_f32 = Cert.Kernel15Ideal.Hand.joined X Y := by
  funext j
  obtain ⟨k, a, b, rfl⟩ : ∃ (k : Fin 4) (a : Fin 704) (b : Fin 2048), j = ix3 k a b := ⟨j 0, j 1, j 2, eq_ix3 j⟩
  pointwise [Cert.Kernel15Ideal.Hand.joined, Cert.Kernel15Ideal.Hand.added]

end Cert.Reference15.Hand

namespace Cert.Proof

theorem algebraic15 : Cert.algebraic_Kernel15Ideal_Reference15Ideal := by
  pair_intro
  · exact Cert.Kernel15Ideal.Hand.run m g
  · refine (θ_run _ _ _).mono (fun r h c => ?_) (Cert.Reference15Ideal.Value.run m' g')
    obtain ⟨h0, h1⟩ := h c
    obtain ⟨e0, e1⟩ := hagree c
    rw [e0, e1] at h0
    exact ⟨h0.trans (Cert.Reference15.Hand.joined_at _ _), h1⟩

/-- The same over the floats' words. -/
theorem bitexact15 : Cert.bitexact_Kernel15_Reference15 := by
  intro m g m' g' _ hagree
  refine ⟨fun c => Cert.Kernel15Ideal.Hand.joined (F := Bits) (m ((c.tc : Thread Cert.Kernel15.nD Cert.Kernel15.τ).loc Cert.Kernel15.main_arg0))
    (m ((c.tc : Thread Cert.Kernel15.nD Cert.Kernel15.τ).loc Cert.Kernel15.main_arg1)), ?_, ?_⟩
  · exact Eq.mp (by sl_kernel_rfl) (Cert.Kernel15Ideal.Hand.run (F := Bits) m g)
  · refine (θ_run _ _ _).mono (fun r h c => ?_) (Cert.Reference15.Value.run m' g')
    obtain ⟨h0, h1⟩ := h c
    obtain ⟨e0, e1⟩ := hagree c
    rw [e0, e1] at h0
    exact ⟨h0.trans (Cert.Reference15.Hand.joined_at _ _), h1⟩

end Cert.Proof

end
-- ==== Proof.SumLeading.lean ====
module

public import proofs.«01_k».proof.Defs
public import proofs.«01_k».proof.Proof.Gen.Kernel16Ideal.Value
public import proofs.«01_k».proof.Proof.Gen.Reference16Ideal.Run
public import proofs.«01_k».proof.Proof.Loads
public import Idealize.ShloMosaic.Lib.Pipeline.ReadBack
public import Idealize.ShloMosaic.Lib.Claim

/-! The sum of the eight devices' small gradients: three grid points, each over 512 rows of all eight. -/

@[expose] public section

set_option maxRecDepth 16384

noncomputable section

open Idealize.ShloMosaic Idealize.ShloMosaic.TcCoe Idealize.SL.Sem
open Idealize.ShloMosaic.Pipeline (Dat)

namespace Cert.Kernel16Ideal.Hand

open Cert.Kernel16Ideal Cert.Kernel16Ideal.Gen

variable (m : (ℓ : Loc nD τ sig) → Buf (Elt Ideal) ℓ)

/-- The eight devices' entries at one place, summed. -/
def over {n : Nat} (X : FVec Ideal ⟨3, ![8, n, 128]⟩ .f32) (a : Fin n) (b : Fin 128) : EReal := ∑ d : Fin 8, X (ix3 d a b)

theorem over_congr {n n' : Nat} {X : FVec Ideal ⟨3, ![8, n, 128]⟩ .f32} {X' : FVec Ideal ⟨3, ![8, n', 128]⟩ .f32} {a : Fin n} {a' : Fin n'} {b : Fin 128}
    (h : ∀ d : Fin 8, X (ix3 d a b) = X' (ix3 d a' b)) : over X a b = over X' a' b := Finset.sum_congr rfl fun d _ => h d

/-- What a grid point stores. -/
theorem out_sum (X : FVec Ideal S8x512x128 .f32) (y : S512x128.Idx) :
    out0_1 (F := Ideal) X y = over X (y 0) (y 1) := by
  unfold out0_1 over
  refine (Value.canon1_eq _ _ _ _ _ _ _ _ y).trans ?_
  rw [Fin.sum_univ_eight]
  have h (k : Nat) (inb) (z : S1x512x128.Idx) (h1 : (z 1).val = (y 0).val) (h2 : (z 2).val = (y 1).val) (hk : k < 8) :
      View.ld (Val := Elt Ideal) (e' := .f32) X (Rect.unit (s := S8x512x128) ![k, 0, 0] S1x512x128.size inb) z = X (ix3 (⟨k, hk⟩ : Fin 8) (y 0) (y 1)) := by
    refine congrArg X (funext fun a => Fin.ext ?_)
    rw [Rect.idx_unit_val]
    have h0 : (z 0).val < 1 := (z 0).isLt
    match a with
    | ⟨0, _⟩ => show k + (z 0).val = k; omega
    | ⟨1, _⟩ => show 0 + (z 1).val = (y 0).val; omega
    | ⟨2, _⟩ => show 0 + (z 2).val = (y 1).val; omega
  exact congr (congrArg HAdd.hAdd (congr (congrArg HAdd.hAdd (congr (congrArg HAdd.hAdd (congr (congrArg HAdd.hAdd (congr (congrArg HAdd.hAdd
    (congr (congrArg HAdd.hAdd (congr (congrArg HAdd.hAdd (h 0 _ _ rfl rfl (by decide))) (h 1 _ _ rfl rfl (by decide)))) (h 2 _ _ rfl rfl (by decide))))
    (h 3 _ _ rfl rfl (by decide)))) (h 4 _ _ rfl rfl (by decide)))) (h 5 _ _ rfl rfl (by decide)))) (h 6 _ _ rfl rfl (by decide)))) (h 7 _ _ rfl rfl (by decide))

theorem idx : ∀ t : Fin cfg0.N, win0_0.index t = ![0, t.val, 0] ∧ win0_1.index t = ![t.val, 0] :=
  (by decide +kernel : ∀ t : Fin grid0.N, _)

theorem row_lt (t : Fin 3) (a : Fin 512) : t.val * 512 + a.val < 1536 := by omega

theorem block0 (c : Dev nD) (t : Fin cfg0.N) (d : Fin 8) (a : Fin 512) (b : Fin 128) : iblk m c 0 t (ix3 d a b)
    = (m ((c : Thread nD τ).loc main_arg0) : FVec Ideal S8x1536x128 .f32) (ix3 d (⟨t.val * 512 + a.val, row_lt t a⟩ : Fin 1536) b) := by
  show _ = m (_) _
  blk_ext! [iblk, V, idx t]

theorem final (c : Dev nD) : (dats m 0 c).arrAt 1 (cfgs 0).N
    = fun j => over (n := 1536) (m ((c : Thread nD τ).loc main_arg0)) (j 0) (j 1) := by
  refine (dats m 0 c).arrAt_eq_of_covers 1 _ (by decide +kernel) fun t hf y => ?_
  blk_simp
  rw [after0_1]
  obtain ⟨a, b, rfl⟩ : ∃ (a : Fin 512) (b : Fin 128), y = ix2 a b := ⟨y 0, y 1, eq_ix2 y⟩
  have hi := (idx t).2
  refine (out_sum _ (ix2 a b)).trans ((over_congr fun d => block0 m c t d a b).trans ?_)
  refine congrArg (fun j : S1536x128.Idx => over (n := 1536) (m ((c : Thread nD τ).loc main_arg0)) (j 0) (j 1))
    (a₁ := ix2 (⟨t.val * 512 + a.val, row_lt t a⟩ : Fin 1536) b) (a₂ := (win0_1.blk t).view.emb (ix2 a b)) (funext fun i => Fin.ext ?_)
  match i with
  | ⟨0, _⟩ => show _ = win0_1.index t 0 * 512 + 1 * a.val; rw [hi]; show t.val * 512 + _ = t.val * 512 + 1 * _; rw [one_mul]
  | ⟨1, _⟩ => show _ = win0_1.index t 1 * 128 + 1 * b.val; rw [hi]; show b.val = 0 * 128 + 1 * b.val; rw [Nat.zero_mul, Nat.zero_add, Nat.one_mul]

end Cert.Kernel16Ideal.Hand

namespace Cert.Reference16Ideal.Hand

open Cert.Reference16Ideal Cert.Reference16Ideal.Gen

/-- The reference's sum. -/
theorem total_at (X : FVec Ideal S8x1536x128 .f32) (j : S1536x128.Idx) :
    Host.reduceAdd (F := Ideal) X (constant S_ .f32 0x00000000#32) reducesTo_S8x1536x128_S1536x128_d0 h_S_ j
      = Cert.Kernel16Ideal.Hand.over (n := 1536) X (j 0) (j 1) := by
  unfold Cert.Kernel16Ideal.Hand.over
  obtain ⟨a, b, rfl⟩ : ∃ (a : Fin 1536) (b : Fin 128), j = ix2 a b := ⟨j 0, j 1, eq_ix2 j⟩
  pointwise []

end Cert.Reference16Ideal.Hand

namespace Cert.Proof

theorem algebraic16 : Cert.algebraic_Kernel16Ideal_Reference16Ideal := by
  pair_intro
  · exact Cert.Kernel16Ideal.Value.run_blocks m g
  · refine (θ_run _ _ _).mono (fun r h c => ?_) (Cert.Reference16Ideal.Value.run m' g')
    obtain ⟨h0, h1⟩ := h c
    rw [hagree c] at h0
    refine ⟨?_, h1⟩
    rw [Cert.Kernel16Ideal.Hand.final m c]
    exact h0.trans (funext fun j => Cert.Reference16Ideal.Hand.total_at _ j)

end Cert.Proof

end
-- ==== Proof.AdamStep.lean ====
module

public import proofs.«01_k».proof.Proof.Tiles

/-! The optimiser's step on one parameter. -/

@[expose] public section

noncomputable section

open Idealize.ShloMosaic

namespace Cert.Adam

/-- A constant of the step, by its float word. -/
abbrev word (b : BitVec 32) : EReal := Scalar.ofBits (F := Ideal) .f32 b

/-- The gradient's running mean. -/
def mean (g m : EReal) : EReal := (word 0x3F666666#32) * m + (word 0x3DCCCCCD#32) * g

/-- The running mean of the gradient's square. -/
def square (g v : EReal) : EReal := (word 0x3F7FBE77#32) * v + (word 0x3A83126F#32) * (g * g)

/-- The change of the parameter: both means with their bias corrected, the ratio, and the decay. -/
def delta (w g m v : EReal) : EReal :=
  (word 0xBA83126F#32) * (Ideal.div (Ideal.div (mean g m) (word 0x3F26BD02#32)) (Ideal.sqrt (Ideal.div (square g v) (word 0x3C231ACC#32)) + (word 0x322BCC77#32))
    + (word 0x3C23D70A#32) * w)

end Cert.Adam

end
-- ==== Proof.Adam.lean ====
module

public import proofs.«01_k».proof.Defs
public import proofs.«01_k».proof.Proof.Gen.Kernel17Ideal.Value
public import proofs.«01_k».proof.Proof.Gen.Reference17Ideal.Run
public import proofs.«01_k».proof.Proof.AdamStep
public import proofs.«01_k».proof.Proof.Loads
public import Idealize.ShloMosaic.Lib.Pipeline.ReadBack
public import Idealize.ShloMosaic.Lib.Claim

/-! The optimiser's step on the small parameters: three grid points, each over 512 rows. -/

@[expose] public section

set_option maxRecDepth 16384

noncomputable section

open Idealize.ShloMosaic Idealize.ShloMosaic.TcCoe Idealize.SL.Sem
open Idealize.ShloMosaic.Pipeline (Dat)

namespace Cert.Kernel17Ideal.Hand

open Cert.Kernel17Ideal Cert.Kernel17Ideal.Gen
open Cert.Tiles (load_whole)
open Cert.Adam (mean square delta)

variable (m : (ℓ : Loc nD τ sig) → Buf (Elt Ideal) ℓ)

section
variable (W G M S : FVec Ideal S512x128 .f32) (y : S512x128.Idx)

theorem load (X : FVec Ideal S512x128 .f32) : View.ld (Val := Elt Ideal) (e' := .f32) X r0_0 = X :=
  load_whole (S := S512x128) (e := .f32) X (off := ![0, 0]) inb_S512x128_S512x128_0_0 (Fin.forall_fin_two.mpr ⟨rfl, rfl⟩)

theorem out_delta : out0_4 (F := Ideal) W G M S y = delta (W y) (G y) (M y) (S y) := by
  unfold out0_4
  canon_tiles x h
  obtain rfl : y = x := funext (Fin.forall_fin_two.mpr ⟨Fin.ext h0, Fin.ext h1⟩)
  simp only [load]
  pointwise [k0_pay3, k0_pay2, k0_pay1, delta, mean, square]

theorem out_mean : out0_5 (F := Ideal) W G M S y = mean (G y) (M y) := by
  unfold out0_5
  canon_tiles x h
  obtain rfl : y = x := funext (Fin.forall_fin_two.mpr ⟨Fin.ext h0, Fin.ext h1⟩)
  simp only [load]
  pointwise [k0_pay1, mean]

theorem out_square : out0_6 (F := Ideal) W G M S y = square (G y) (S y) := by
  unfold out0_6
  canon_tiles x h
  obtain rfl : y = x := funext (Fin.forall_fin_two.mpr ⟨Fin.ext h0, Fin.ext h1⟩)
  simp only [load]
  pointwise [k0_pay2, square]

end

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

/-- Where a block's index lies in the whole array. -/
def spot (t : Fin 3) (y : S512x128.Idx) : S1536x128.Idx :=
  ix2 (⟨t.val * 512 + (y 0).val, by have h : (y 0).val < 512 := (y 0).isLt; omega⟩ : Fin 1536) (y 1 : Fin 128)

/-- The rows of an array that a grid point works on. -/
def rows (t : Fin 3) (X : FVec Ideal S1536x128 .f32) : FVec Ideal S512x128 .f32 := fun y => X (spot t y)

section
variable (c : Dev nD) (t : Fin cfg0.N)

theorem block0 : iblk m c 0 t = rows t (m ((c : Thread nD τ).loc main_arg0)) := by
  funext j
  rw [eq_ix2 j]
  blk_ext! [iblk, V, idx t] <;> rfl

theorem block1 : iblk m c 1 t = rows t (m ((c : Thread nD τ).loc main_arg1)) := by
  funext j
  rw [eq_ix2 j]
  blk_ext! [iblk, V, idx t] <;> rfl

theorem block2 : iblk m c 2 t = rows t (m ((c : Thread nD τ).loc main_arg2)) := by
  funext j
  rw [eq_ix2 j]
  blk_ext! [iblk, V, idx t] <;> rfl

theorem block3 : iblk m c 3 t = rows t (m ((c : Thread nD τ).loc main_arg3)) := by
  funext j
  rw [eq_ix2 j]
  blk_ext! [iblk, V, idx t] <;> rfl

end

theorem spot_eq (t : Fin 3) (y : S512x128.Idx) (z : S1536x128.Idx) (h0 : (z 0).val = t.val * 512 + 1 * (y 0).val) (h1 : (z 1).val = 0 * 128 + 1 * (y 1).val) :
    spot t y = z := by
  refine funext (Fin.forall_fin_two.mpr ⟨Fin.ext ?_, Fin.ext ?_⟩)
  · show t.val * 512 + (y 0).val = _
    rw [h0, one_mul]
  · show (y 1).val = _
    rw [h1, Nat.zero_mul, Nat.zero_add, Nat.one_mul]

theorem spot4 (t : Fin cfg0.N) (y : S512x128.Idx) : spot t y = (win0_4.blk t).view.emb y :=
  spot_eq t y _ (by show win0_4.index t 0 * 512 + 1 * (y 0).val = _; rw [(idx t).2.2.2.2.1]; rfl)
    (by show win0_4.index t 1 * 128 + 1 * (y 1).val = _; rw [(idx t).2.2.2.2.1]; rfl)

theorem spot5 (t : Fin cfg0.N) (y : S512x128.Idx) : spot t y = (win0_5.blk t).view.emb y :=
  spot_eq t y _ (by show win0_5.index t 0 * 512 + 1 * (y 0).val = _; rw [(idx t).2.2.2.2.2.1]; rfl)
    (by show win0_5.index t 1 * 128 + 1 * (y 1).val = _; rw [(idx t).2.2.2.2.2.1]; rfl)

theorem spot6 (t : Fin cfg0.N) (y : S512x128.Idx) : spot t y = (win0_6.blk t).view.emb y :=
  spot_eq t y _ (by show win0_6.index t 0 * 512 + 1 * (y 0).val = _; rw [(idx t).2.2.2.2.2.2]; rfl)
    (by show win0_6.index t 1 * 128 + 1 * (y 1).val = _; rw [(idx t).2.2.2.2.2.2]; rfl)

section
variable (c : Dev nD)

/-- An argument as the call takes it. -/
abbrev arg (b : Ref sig .tc) : Buf (Elt Ideal) ((c : Thread nD τ).loc b) := m ((c : Thread nD τ).loc b)

theorem final_delta : (dats m 0 c).arrAt 4 (cfgs 0).N
    = fun j => delta (arg m c main_arg0 j) (arg m c main_arg1 j) (arg m c main_arg2 j) (arg m c main_arg3 j) := by
  refine (dats m 0 c).arrAt_eq_of_covers 4 _ (by decide +kernel) fun t hf y => ?_
  blk_simp
  rw [after0_4, block0, block1, block2, block3]
  refine (out_delta _ _ _ _ y).trans ?_
  exact congrArg (fun j : S1536x128.Idx => delta (arg m c main_arg0 j) (arg m c main_arg1 j) (arg m c main_arg2 j) (arg m c main_arg3 j)) (spot4 t y)

theorem final_mean : (dats m 0 c).arrAt 5 (cfgs 0).N = fun j => mean (arg m c main_arg1 j) (arg m c main_arg2 j) := by
  refine (dats m 0 c).arrAt_eq_of_covers 5 _ (by decide +kernel) fun t hf y => ?_
  blk_simp
  rw [after0_5, block0, block1, block2, block3]
  refine (out_mean _ _ _ _ y).trans ?_
  exact congrArg (fun j : S1536x128.Idx => mean (arg m c main_arg1 j) (arg m c main_arg2 j)) (spot5 t y)

theorem final_square : (dats m 0 c).arrAt 6 (cfgs 0).N = fun j => square (arg m c main_arg1 j) (arg m c main_arg3 j) := by
  refine (dats m 0 c).arrAt_eq_of_covers 6 _ (by decide +kernel) fun t hf y => ?_
  blk_simp
  rw [after0_6, block0, block1, block2, block3]
  refine (out_square _ _ _ _ y).trans ?_
  exact congrArg (fun j : S1536x128.Idx => square (arg m c main_arg1 j) (arg m c main_arg3 j)) (spot6 t y)

end

end Cert.Kernel17Ideal.Hand

namespace Cert.Proof

theorem algebraic17 : Cert.algebraic_Kernel17Ideal_Reference17Ideal := by
  pair_intro
  · exact Cert.Kernel17Ideal.Value.run_blocks m g
  · refine (θ_run _ _ _).mono (fun r h c => ?_) (Cert.Reference17Ideal.Value.run m' g')
    obtain ⟨h0, h1, h2, h3⟩ := h c
    obtain ⟨e0, e1, e2, e3⟩ := hagree c
    rw [e0, e1, e2, e3] at h0
    rw [e1, e2] at h1
    rw [e1, e3] at h2
    refine ⟨h0.trans ?_, h1.trans ?_, h2.trans ?_, h3⟩
    · rw [Cert.Kernel17Ideal.Hand.final_delta m c]
      funext j
      pointwise [Cert.Adam.delta, Cert.Adam.mean, Cert.Adam.square]
    · rw [Cert.Kernel17Ideal.Hand.final_mean m c]
      funext j
      pointwise [Cert.Adam.mean]
    · rw [Cert.Kernel17Ideal.Hand.final_square m c]
      funext j
      pointwise [Cert.Adam.square]

end Cert.Proof

end
-- ==== Proof.WeightGrad.lean ====
module

public import proofs.«01_k».proof.Defs
public import proofs.«01_k».proof.Proof.Gen.Kernel18Ideal.Value
public import proofs.«01_k».proof.Proof.Gen.Reference18Ideal.Run
public import proofs.«01_k».proof.Proof.Loads
public import Idealize.ShloMosaic.Lib.Pipeline.ReadBack
public import Idealize.ShloMosaic.Lib.Claim

/-! A weight's gradient: the activations' transpose times the gradient, tile by tile, each in two steps over the rows. -/

@[expose] public section

set_option maxRecDepth 16384

noncomputable section

open Idealize.ShloMosaic Idealize.ShloMosaic.TcCoe Idealize.SL.Sem
open Idealize.ShloMosaic.Pipeline (Dat)

namespace Cert.Kernel18Ideal.Hand

open Cert.Kernel18Ideal Cert.Kernel18Ideal.Gen

variable (m : (ℓ : Loc nD τ sig) → Buf (Elt Ideal) ℓ)

/-- An entry of the product, its sum over the rows. -/
def entry {r n k : Nat} (X : FVec Ideal ⟨2, ![r, n]⟩ .bf16) (Y : FVec Ideal ⟨2, ![r, k]⟩ .bf16) (a : Fin n) (b : Fin k) : EReal :=
  ∑ l : Fin r, X (ix2 l a) * Y (ix2 l b)

/-- The rows come in two halves. -/
theorem entry_halves {n k n' k' : Nat} {X : FVec Ideal ⟨2, ![4096, n]⟩ .bf16} {Y : FVec Ideal ⟨2, ![4096, k]⟩ .bf16} {X₀ X₁ : FVec Ideal ⟨2, ![2048, n']⟩ .bf16}
    {Y₀ Y₁ : FVec Ideal ⟨2, ![2048, k']⟩ .bf16} {a : Fin n} {b : Fin k} {a' : Fin n'} {b' : Fin k'}
    (hX₀ : ∀ l : Fin 2048, X₀ (ix2 l a') = X (ix2 ⟨l.val, by omega⟩ a)) (hY₀ : ∀ l : Fin 2048, Y₀ (ix2 l b') = Y (ix2 ⟨l.val, by omega⟩ b))
    (hX₁ : ∀ l : Fin 2048, X₁ (ix2 l a') = X (ix2 ⟨2048 + l.val, by omega⟩ a)) (hY₁ : ∀ l : Fin 2048, Y₁ (ix2 l b') = Y (ix2 ⟨2048 + l.val, by omega⟩ b)) :
    entry X₀ Y₀ a' b' + entry X₁ Y₁ a' b' = entry X Y a b :=
  (congr (congrArg HAdd.hAdd (Finset.sum_congr rfl fun l _ => congr (congrArg HMul.hMul (hX₀ l)) (hY₀ l)))
    (Finset.sum_congr rfl fun l _ => congr (congrArg HMul.hMul (hX₁ l)) (hY₁ l))).trans
    (Fin.sum_univ_add (a := 2048) (b := 2048) fun l : Fin (2048 + 2048) => X (ix2 (l : Fin 4096) a) * Y (ix2 (l : Fin 4096) b)).symm

theorem entry_pay (X : FVec Ideal S2048x1408 .bf16) (Y : FVec Ideal S2048x1024 .bf16) (a : Fin 1408) (b : Fin 1024) :
    k0_pay1 (F := Ideal) X Y (ix2 a b) = entry X Y a b := by
  pointwise [k0_pay1, entry]

theorem first (c : Dev nD) (t : Fin cfg0.N) (h : t.val % 2 = 0) (a : Fin 1408) (b : Fin 1024) :
    (outsAt0 m c t.val t.isLt).2 (ix2 a b) = entry (iblk m c 0 t) (iblk m c 1 t) a b := by
  rw [outsAt0_A m c t h (by omega) (by omega)]
  dsimp only
  frame_out
  generalize iblk m c 0 t = X
  generalize iblk m c 1 t = Y
  refine Eq.trans ?_ (entry_pay X Y a b)
  pointwise [k0_pay2]

theorem second (c : Dev nD) (t : Fin cfg0.N) (h : t.val % 2 = 1) (a : Fin 1408) (b : Fin 1024) :
    (outsAt0 m c t.val t.isLt).1 (ix2 a b) = (outsAt0 m c (t.val - 1) (Nat.lt_of_le_of_lt (Nat.sub_le _ _) t.isLt)).2 (ix2 a b)
      + entry (iblk m c 0 t) (iblk m c 1 t) a b := by
  rw [outsAt0_B m c t (by omega) h h]
  dsimp only
  generalize (outsAt0 m c (t.val - 1) (Nat.lt_of_le_of_lt (Nat.sub_le _ _) t.isLt)).2 = A
  frame_out
  generalize iblk m c 0 t = X
  generalize iblk m c 1 t = Y
  try simp only [read_unread_whole]
  refine Eq.trans ?_ (congrArg (HAdd.hAdd (A (ix2 a b))) (entry_pay X Y a b))
  pointwise [k0_pay4, k0_pay3]

theorem idx : ∀ t : Fin cfg0.N, win0_0.index t = ![t.val % 2, t.val / 4] ∧ win0_1.index t = ![t.val % 2, t.val / 2 % 2] ∧ win0_2.index t = ![t.val / 4, t.val / 2 % 2]
    ∧ ((cfg0.win 2).flush t = true → t.val % 2 = 1) :=
  (by decide +kernel : ∀ t : Fin grid0.N, _)

section
variable (c : Dev nD) (t : Fin cfg0.N) (a : Fin 1408) (b : Fin 1024)

theorem place_lt (t : Fin cfg0.N) (a : Fin 1408) : t.val / 4 * 1408 + a.val < 5632 := by
  have := t.isLt; have h : cfg0.N = 16 := by decide
  omega

theorem lane_lt (t : Fin cfg0.N) (b : Fin 1024) : t.val / 2 % 2 * 1024 + b.val < 2048 := by omega

theorem row_lt (t : Fin cfg0.N) (l : Fin 2048) : t.val % 2 * 2048 + l.val < 4096 := by omega

theorem block0 (l : Fin 2048) : iblk m c 0 t (ix2 l a)
    = (m ((c : Thread nD τ).loc main_arg0) : FVec Ideal S4096x5632 .bf16) (ix2 ⟨t.val % 2 * 2048 + l.val, row_lt t l⟩ ⟨t.val / 4 * 1408 + a.val, place_lt t a⟩) := by
  show _ = m (_) _
  blk_ext! [iblk, V, idx t]

theorem block1 (l : Fin 2048) : iblk m c 1 t (ix2 l b)
    = (m ((c : Thread nD τ).loc main_arg1) : FVec Ideal S4096x2048 .bf16) (ix2 ⟨t.val % 2 * 2048 + l.val, row_lt t l⟩ ⟨t.val / 2 % 2 * 1024 + b.val, lane_lt t b⟩) := by
  show _ = m (_) _
  blk_ext! [iblk, V, idx t]

/-- Where a tile's entry stands in the array. -/
def spot : S5632x2048.Idx := ix2 ⟨t.val / 4 * 1408 + a.val, place_lt t a⟩ ⟨t.val / 2 % 2 * 1024 + b.val, lane_lt t b⟩

theorem spot2 : spot t a b = (win0_2.blk t).view.emb (ix2 a b) := by
  have hi := (idx t).2.2.1
  refine funext fun i => Fin.ext ?_
  match i with
  | ⟨0, _⟩ => show _ = win0_2.index t 0 * 1408 + 1 * a.val; rw [hi]; show t.val / 4 * 1408 + _ = t.val / 4 * 1408 + 1 * _; rw [one_mul]
  | ⟨1, _⟩ => show _ = win0_2.index t 1 * 1024 + 1 * b.val; rw [hi]; show t.val / 2 % 2 * 1024 + _ = t.val / 2 % 2 * 1024 + 1 * _; rw [one_mul]

theorem tile (h : t.val % 2 = 1) : (outsAt0 m c t.val t.isLt).1 (ix2 a b)
    = entry (r := 4096) (n := 5632) (k := 2048) (m ((c : Thread nD τ).loc main_arg0)) (m ((c : Thread nD τ).loc main_arg1)) (spot t a b 0) (spot t a b 1) := by
  have hs : t.val - 1 < cfg0.N := Nat.lt_of_le_of_lt (Nat.sub_le _ _) t.isLt
  refine (second m c t h a b).trans ?_
  rw [first m c ⟨t.val - 1, hs⟩ (show (t.val - 1) % 2 = 0 by omega) a b]
  have ea : (⟨(t.val - 1) / 4 * 1408 + a.val, place_lt ⟨t.val - 1, hs⟩ a⟩ : Fin 5632) = ⟨t.val / 4 * 1408 + a.val, place_lt t a⟩ := Fin.ext (by show (t.val - 1) / 4 * 1408 + a.val = t.val / 4 * 1408 + a.val; omega)
  have eb : (⟨(t.val - 1) / 2 % 2 * 1024 + b.val, lane_lt ⟨t.val - 1, hs⟩ b⟩ : Fin 2048) = ⟨t.val / 2 % 2 * 1024 + b.val, lane_lt t b⟩ :=
    Fin.ext (by show (t.val - 1) / 2 % 2 * 1024 + b.val = t.val / 2 % 2 * 1024 + b.val; omega)
  refine entry_halves (fun l => (block0 m c ⟨t.val - 1, hs⟩ a l).trans ?_) (fun l => (block1 m c ⟨t.val - 1, hs⟩ b l).trans ?_)
    (fun l => (block0 m c t a l).trans ?_) (fun l => (block1 m c t b l).trans ?_)
  · exact congrArg _ (congr (congrArg ix2 (Fin.ext (by show (t.val - 1) % 2 * 2048 + l.val = l.val; omega))) ea)
  · exact congrArg _ (congr (congrArg ix2 (Fin.ext (by show (t.val - 1) % 2 * 2048 + l.val = l.val; omega))) eb)
  · exact congrArg _ (congr (congrArg ix2 (Fin.ext (by show t.val % 2 * 2048 + l.val = 2048 + l.val; omega))) rfl)
  · exact congrArg _ (congr (congrArg ix2 (Fin.ext (by show t.val % 2 * 2048 + l.val = 2048 + l.val; omega))) rfl)

end

theorem final (c : Dev nD) : (dats m 0 c).arrAt 2 (cfgs 0).N
    = fun j => entry (r := 4096) (n := 5632) (k := 2048) (m ((c : Thread nD τ).loc main_arg0)) (m ((c : Thread nD τ).loc main_arg1)) (j 0) (j 1) := by
  refine (dats m 0 c).arrAt_eq_of_covers 2 _ (by decide +kernel) fun t hf y => ?_
  blk_simp
  rw [after0_2]
  obtain ⟨a, b, rfl⟩ : ∃ (a : Fin 1408) (b : Fin 1024), y = ix2 a b := ⟨y 0, y 1, eq_ix2 y⟩
  refine (tile m c t a b ((idx t).2.2.2 hf)).trans ?_
  exact congrArg (fun j : S5632x2048.Idx => entry (r := 4096) (n := 5632) (k := 2048) (m ((c : Thread nD τ).loc main_arg0)) (m ((c : Thread nD τ).loc main_arg1)) (j 0) (j 1)) (spot2 t a b)

end Cert.Kernel18Ideal.Hand

namespace Cert.Reference18Ideal.Hand

open Cert.Reference18Ideal Cert.Reference18Ideal.Gen
open Cert.Kernel18Ideal.Hand (entry)

/-- The reference's product. -/
theorem prod_at (X : FVec Ideal S4096x5632 .bf16) (Y : FVec Ideal S4096x2048 .bf16) :
    truncf (F := Ideal) .bf16 (Host.dotGeneral (F := Ideal) (φ₁ := .f32) (φ₂ := .f32) dot_S5632x4096_S4096x2048_S5632x2048_1_0_0_1_n_n none
      (transpose S5632x4096 [1, 0] (extf .f32 X bitsLt_bf16_f32) transposes_S4096x5632_S5632x4096_1_0) (extf .f32 Y bitsLt_bf16_f32)) bitsLt_bf16_f32
      = fun j => entry (r := 4096) (n := 5632) (k := 2048) X Y (j 0) (j 1) := by
  funext j
  obtain ⟨a, b, rfl⟩ : ∃ (a : Fin 5632) (b : Fin 2048), j = ix2 a b := ⟨j 0, j 1, eq_ix2 j⟩
  pointwise [entry]

end Cert.Reference18Ideal.Hand

namespace Cert.Proof

theorem algebraic18 : Cert.algebraic_Kernel18Ideal_Reference18Ideal := by
  pair_intro
  · exact Cert.Kernel18Ideal.Value.run_blocks m g
  · refine (θ_run _ _ _).mono (fun r h c => ?_) (Cert.Reference18Ideal.Value.run m' g')
    obtain ⟨h0, h1⟩ := h c
    obtain ⟨e0, e1⟩ := hagree c
    rw [e0, e1] at h0
    refine ⟨?_, h1⟩
    rw [Cert.Kernel18Ideal.Hand.final m c]
    exact h0.trans (Cert.Reference18Ideal.Hand.prod_at _ _)

end Cert.Proof

end
-- ==== Proof.NormMemForward.lean ====
module

public import proofs.«01_k».proof.Defs
public import proofs.«01_k».proof.Proof.Gen.Kernel19Ideal.Value
public import proofs.«01_k».proof.Proof.Gen.Reference19Ideal.Run
public import proofs.«01_k».proof.Proof.NormHost
public import proofs.«01_k».proof.Proof.Loads
public import Idealize.ShloMosaic.Lib.Pipeline.ReadBack
public import Idealize.ShloMosaic.Lib.Claim

/-! The norm of the memory's rows, in one grid point. -/

@[expose] public section

set_option maxRecDepth 16384

noncomputable section

open Idealize.ShloMosaic Idealize.ShloMosaic.TcCoe Idealize.SL.Sem
open Idealize.ShloMosaic.Pipeline (Dat)

namespace Cert.Kernel19Ideal.Hand

open Cert.Kernel19Ideal Cert.Kernel19Ideal.Gen
open Cert.Tiles (load_whole)
open Cert.RowNorm (meanSq normAt)

variable (m : (ℓ : Loc nD τ sig) → Buf (Elt Ideal) ℓ)

/-- What the grid point stores. -/
theorem out_norm (X : FVec Ideal S256x2048 .f32) (G : FVec Ideal S1x2048 .f32) (y : S256x2048.Idx) :
    out0_2 (F := Ideal) X G y = normAt X G (y 0) (y 1) := by
  have hx : View.ld (Val := Elt Ideal) (e' := .f32) X r0_0 = X :=
    load_whole (S := S256x2048) (e := .f32) X (off := ![0, 0]) inb_S256x2048_S256x2048_0_0 (Fin.forall_fin_two.mpr ⟨rfl, rfl⟩)
  have hg : View.ld (Val := Elt Ideal) (e' := .f32) G r0_1 = G :=
    load_whole (S := S1x2048) (e := .f32) G (off := ![0, 0]) inb_S1x2048_S1x2048_0_0 (Fin.forall_fin_two.mpr ⟨rfl, rfl⟩)
  unfold out0_2
  canon_tiles x h
  obtain rfl : y = x := funext (Fin.forall_fin_two.mpr ⟨Fin.ext h0, Fin.ext h1⟩)
  rw [hx, hg, eq_ix2 y]
  pointwise [k0_pay1, normAt, meanSq]

theorem idx : ∀ t : Fin cfg0.N, win0_0.index t = ![0, 0] ∧ win0_1.index t = ![0, 0] ∧ win0_2.index t = ![0, 0] :=
  (by decide +kernel : ∀ t : Fin grid0.N, _)

section
variable (c : Dev nD)

/-- The memory is the batch's only element. -/
abbrev memory : FVec Ideal S256x2048 .f32 := shapeCast S256x2048 (m ((c : Thread nD τ).loc main_arg0) : FVec Ideal S1x256x2048 .f32) shapeCasts_S1x256x2048_S256x2048

theorem block0 (t : Fin cfg0.N) : iblk m c 0 t = memory m c := by
  have h : iblk m c 0 t = V m c main_v0 := by blk_ext! [iblk, idx t]
  rw [h]
  entry_read
  rfl

theorem block1 (t : Fin cfg0.N) : iblk m c 1 t = m ((c : Thread nD τ).loc main_arg1) := by
  blk_ext! [iblk, V, idx t]

theorem final : (dats m 0 c).arrAt 2 (cfgs 0).N = fun j => normAt (memory m c) (m ((c : Thread nD τ).loc main_arg1)) (j 0) (j 1) := by
  refine (dats m 0 c).arrAt_eq_of_after_last 2 t0_0 (by decide +kernel) _ fun j => ?_
  blk_simp
  rw [after0_2, block0, block1]
  exact out_norm _ _ j

end

end Cert.Kernel19Ideal.Hand

namespace Cert.Reference19Ideal.Hand

open Cert.Reference19Ideal Cert.Reference19Ideal.Gen
open Cert.RowNorm (meanSq normAt)

/-- The reference's norm. -/
theorem norm_at (X : FVec Ideal S1x256x2048 .f32) (G : FVec Ideal S1x2048 .f32) :
    truncf (F := Ideal) .bf16 (mulf (mulf (shapeCast S256x2048 X shapeCasts_S1x256x2048_S256x2048) (broadcastInDim S256x2048 ![0, 1] bcast_S256x1_S256x2048_0_1
      (Host.rsqrt (F := Ideal) (φ := .f32) (addf (Host.divf (F := Ideal) (φ := .f32) (broadcastInDim S256x1 ![0] bcast_S256_S256x1_0 (Host.reduceAdd (F := Ideal) (φ := .f32) (mulf (shapeCast S256x2048 X shapeCasts_S1x256x2048_S256x2048)
        (shapeCast S256x2048 X shapeCasts_S1x256x2048_S256x2048)) (constant S_ .f32 0x00000000#32) reducesTo_S256x2048_S256_d1 h_S_))
        (broadcastInDim S256x1 ![] bcast_S_S256x1 (constant S_ .f32 0x45000000#32))) (broadcastInDim S256x1 ![] bcast_S_S256x1 (constant S_ .f32 0x358637BD#32))))))
      (broadcastInDim S256x2048 ![0, 1] bcast_S1x2048_S256x2048_0_1 (broadcastInDim S1x2048 ![1] bcast_S2048_S1x2048_1 (shapeCast S2048 G shapeCasts_S1x2048_S2048)))) bitsLt_bf16_f32
      = fun j => normAt (shapeCast S256x2048 X shapeCasts_S1x256x2048_S256x2048) G (j 0) (j 1) := by
  generalize shapeCast S256x2048 X shapeCasts_S1x256x2048_S256x2048 = Y
  funext j
  obtain ⟨a, b, rfl⟩ : ∃ (a : Fin 256) (b : Fin 2048), j = ix2 a b := ⟨j 0, j 1, eq_ix2 j⟩
  pointwise [normAt, meanSq]

end Cert.Reference19Ideal.Hand

namespace Cert.Proof

theorem algebraic19 : Cert.algebraic_Kernel19Ideal_Reference19Ideal := by
  pair_intro
  · exact Cert.Kernel19Ideal.Value.run_blocks m g
  · refine (θ_run _ _ _).mono (fun r h c => ?_) (Cert.Reference19Ideal.Value.run m' g')
    obtain ⟨h0, h1⟩ := h c
    obtain ⟨e0, e1⟩ := hagree c
    rw [e0, e1] at h0
    refine ⟨?_, h1⟩
    rw [Cert.Kernel19Ideal.Hand.final m c]
    exact h0.trans (Cert.Reference19Ideal.Hand.norm_at _ _)

end Cert.Proof

end
-- ==== Proof.ChipSum.lean ====
module

public import proofs.«01_k».proof.Defs
public import proofs.«01_k».proof.Proof.Gen.Kernel20
public import proofs.«01_k».proof.Proof.Gen.Kernel20Ideal.Frame.RunC
public import Idealize.ShloMosaic.Lib.Pipeline.ValueKit
public import Idealize.ShloMosaic.Lib.Pipeline.ReadBack
public import Idealize.ShloMosaic.Lib.VecWindow
public import Idealize.ShloMosaic.Lib.Claim

/-! The sum over a chip's contributions with the optimiser's step at its end: the word of zeros, and what each of the three kinds of grid points stores. -/

@[expose] public section

set_option maxRecDepth 16384

noncomputable section

open Idealize.ShloMosaic Idealize.ShloMosaic.TcCoe

namespace Cert.Kernel20Ideal.Hand

open Cert.Kernel20Ideal Cert.Kernel20Ideal.Gen

variable {F : FTy → Type} [FloatOps F]

/-- The table of zeros. -/
def zeros : pre0.Contents (Elt F) := fun | 0 => fun _ => (0#32 : BitVec 32) | ⟨_ + 1, h⟩ => absurd h (Nat.not_lt.2 (Nat.le_add_left _ _))

theorem ok_zeros : ok0 (F := F) zeros := of_decide_eq_true (by sl_kernel_rfl)

theorem table (m : (ℓ : Loc nD τ sig) → Buf (Elt F) ℓ) : tbl m = zeros := by
  funext j
  obtain rfl : j = 0 := Subsingleton.elim _ _
  rfl

theorem ok (m : (ℓ : Loc nD τ sig) → Buf (Elt F) ℓ) : Ok m := by
  unfold Ok
  rw [table]
  exact ok_zeros

/-- The pipeline at the table of zeros. -/
def atZeros : (pcfg0 (F := F)).Adm := ⟨zeros, ok_zeros⟩

theorem adm_eq (m : (ℓ : Loc nD τ sig) → Buf (Elt F) ℓ) : adm m (ok m) = atZeros := Subtype.ext (table m)

theorem covers5 : ((cfg0 (atZeros (F := F))).win 5).Covers := of_decide_eq_true (by sl_kernel_rfl)
theorem covers6 : ((cfg0 (atZeros (F := F))).win 6).Covers := of_decide_eq_true (by sl_kernel_rfl)
theorem covers7 : ((cfg0 (atZeros (F := F))).win 7).Covers := of_decide_eq_true (by sl_kernel_rfl)
theorem covers8 : ((cfg0 (atZeros (F := F))).win 8).Covers := of_decide_eq_true (by sl_kernel_rfl)

def at0 : Fin 4 → Fin 3 → Nat := fun t => ((cfg0 (atZeros (F := F))).win 0).index t
def at1 : Fin 4 → Fin 3 → Nat := fun t => ((cfg0 (atZeros (F := F))).win 1).index t

theorem at0_eq : ∀ t : Fin 4, ∀ i : Fin 3, at0 (F := F) t i = (![0, 0, 0] : Fin 3 → Nat) i := of_decide_eq_true (by sl_kernel_rfl)
theorem at1_eq : ∀ t : Fin 4, ∀ i : Fin 3, at1 (F := F) t i = (![if t.val = 0 then 1 else t.val, 0, 0] : Fin 3 → Nat) i := of_decide_eq_true (by sl_kernel_rfl)

def at2 : Fin 4 → Fin 2 → Nat := fun t => ((cfg0 (atZeros (F := F))).win 2).index t
def at3 : Fin 4 → Fin 2 → Nat := fun t => ((cfg0 (atZeros (F := F))).win 3).index t
def at4 : Fin 4 → Fin 2 → Nat := fun t => ((cfg0 (atZeros (F := F))).win 4).index t
def at5 : Fin 4 → Fin 2 → Nat := fun t => ((cfg0 (atZeros (F := F))).win 5).index t
def at6 : Fin 4 → Fin 2 → Nat := fun t => ((cfg0 (atZeros (F := F))).win 6).index t
def at7 : Fin 4 → Fin 2 → Nat := fun t => ((cfg0 (atZeros (F := F))).win 7).index t
def at8 : Fin 4 → Fin 2 → Nat := fun t => ((cfg0 (atZeros (F := F))).win 8).index t
theorem at2_eq : ∀ t : Fin 4, ∀ i : Fin 2, at2 (F := F) t i = (![0, 0] : Fin 2 → Nat) i := of_decide_eq_true (by sl_kernel_rfl)
theorem at3_eq : ∀ t : Fin 4, ∀ i : Fin 2, at3 (F := F) t i = (![0, 0] : Fin 2 → Nat) i := of_decide_eq_true (by sl_kernel_rfl)
theorem at4_eq : ∀ t : Fin 4, ∀ i : Fin 2, at4 (F := F) t i = (![0, 0] : Fin 2 → Nat) i := of_decide_eq_true (by sl_kernel_rfl)
theorem at5_eq : ∀ t : Fin 4, ∀ i : Fin 2, at5 (F := F) t i = (![0, 0] : Fin 2 → Nat) i := of_decide_eq_true (by sl_kernel_rfl)
theorem at6_eq : ∀ t : Fin 4, ∀ i : Fin 2, at6 (F := F) t i = (![0, 0] : Fin 2 → Nat) i := of_decide_eq_true (by sl_kernel_rfl)
theorem at7_eq : ∀ t : Fin 4, ∀ i : Fin 2, at7 (F := F) t i = (![0, 0] : Fin 2 → Nat) i := of_decide_eq_true (by sl_kernel_rfl)
theorem at8_eq : ∀ t : Fin 4, ∀ i : Fin 2, at8 (F := F) t i = (![0, 0] : Fin 2 → Nat) i := of_decide_eq_true (by sl_kernel_rfl)

section
variable (c : Dev nD) (i : grid0.Coords) (a3 a4 : Memref sig .tc .vmem S1x128x256 .bf16) (h3 : a3.IsWhole) (h4 : a4.IsWhole)
  (a5 a6 a7 a8 a9 a10 a11 a12 : Memref sig .tc .vmem S128x256 .f32) (h5 : a5.IsWhole) (h6 : a6.IsWhole) (h7 : a7.IsWhole) (h8 : a8.IsWhole)
  (h9 : a9.IsWhole) (h10 : a10.IsWhole) (h11 : a11.IsWhole) (h12 : a12.IsWhole)
  (X Y : Vec F S1x128x256 .bf16) (W M S Z : Vec F S128x256 .f32)
  (V : View sig .tc .vmem S128x256 .f32) (f : V.ty.Contents (Elt F))

theorem first (c0 : cond0_0 i) (c1 : ¬cond0_1 i) (c2 : ¬cond0_2 i) :
    V.read (Elt F) (V.writes (Elt F) f (kernelRun0_A c i a3 h3 a4 h4 a5 h5 a6 h6 a7 h7 a8 h8 a9 h9 a10 h10 a11 h11 a12 h12 c0 c1 c2 X Y W M S (zeros 0)).2.2.2.2.1)
      = k0_pay2 i (0#32 : BitVec 32) X Y := by
  frame_open
  refine (View.read_writes_full V f _ _ _).trans ?_
  simp (disch := decide) only [View.ld_unit_lit', View.readAt_eq_ld, Memref.IsWhole.read_unread]
  rfl

theorem more (c0 : ¬cond0_0 i) (c1 : cond0_1 i) (c2 : ¬cond0_2 i) :
    V.read (Elt F) (V.writes (Elt F) f (kernelRun0_B c i a3 h3 a4 h4 a5 h5 a6 h6 a7 h7 a8 h8 a9 h9 a10 h10 a11 h11 a12 h12 c0 c1 c2 X Y W M S (zeros 0) Z).2.2.2.2.1)
      = k0_pay3 i (0#32 : BitVec 32) X Y Z := by
  frame_open
  refine (View.read_writes_full V f _ _ _).trans ?_
  simp (disch := decide) only [View.ld_unit_lit', View.readAt_eq_ld, Memref.IsWhole.read_unread]
  rfl

theorem last_scratch (c0 : ¬cond0_0 i) (c1 : cond0_1 i) (c2 : cond0_2 i) :
    V.read (Elt F) (V.writes (Elt F) f (kernelRun0_C c i a3 h3 a4 h4 a5 h5 a6 h6 a7 h7 a8 h8 a9 h9 a10 h10 a11 h11 a12 h12 c0 c1 c2 X Y W M S (zeros 0) Z).2.2.2.2.1)
      = k0_pay3 i (0#32 : BitVec 32) X Y Z := by
  frame_open
  refine (View.read_writes_full V f _ _ _).trans ?_
  simp (disch := decide) only [View.ld_unit_lit', View.readAt_eq_ld, Memref.IsWhole.read_unread, View.readCov_unit_lit', View.readCov_cons_unit_lit']
  rfl

theorem last_sum (c0 : ¬cond0_0 i) (c1 : cond0_1 i) (c2 : cond0_2 i) :
    V.read (Elt F) (V.writes (Elt F) f (kernelRun0_C c i a3 h3 a4 h4 a5 h5 a6 h6 a7 h7 a8 h8 a9 h9 a10 h10 a11 h11 a12 h12 c0 c1 c2 X Y W M S (zeros 0) Z).1)
      = k0_pay3 i (0#32 : BitVec 32) X Y Z := by
  frame_open
  refine (View.read_writes_full V f _ _ _).trans ?_
  simp (disch := decide) only [View.ld_unit_lit', View.readAt_eq_ld, Memref.IsWhole.read_unread, View.readCov_unit_lit', View.readCov_cons_unit_lit']
  rfl

theorem last_delta (c0 : ¬cond0_0 i) (c1 : cond0_1 i) (c2 : cond0_2 i) :
    V.read (Elt F) (V.writes (Elt F) f (kernelRun0_C c i a3 h3 a4 h4 a5 h5 a6 h6 a7 h7 a8 h8 a9 h9 a10 h10 a11 h11 a12 h12 c0 c1 c2 X Y W M S (zeros 0) Z).2.1)
      = k0_pay6 (k0_pay3 i (0#32 : BitVec 32) X Y Z) W M S := by
  frame_open
  refine (View.read_writes_full V f _ _ _).trans ?_
  simp (disch := decide) only [View.ld_unit_lit', View.readAt_eq_ld, Memref.IsWhole.read_unread, View.readCov_unit_lit', View.readCov_cons_unit_lit']
  rfl

theorem last_mean (c0 : ¬cond0_0 i) (c1 : cond0_1 i) (c2 : cond0_2 i) :
    V.read (Elt F) (V.writes (Elt F) f (kernelRun0_C c i a3 h3 a4 h4 a5 h5 a6 h6 a7 h7 a8 h8 a9 h9 a10 h10 a11 h11 a12 h12 c0 c1 c2 X Y W M S (zeros 0) Z).2.2.1)
      = k0_pay4 (k0_pay3 i (0#32 : BitVec 32) X Y Z) M := by
  frame_open
  refine (View.read_writes_full V f _ _ _).trans ?_
  simp (disch := decide) only [View.ld_unit_lit', View.readAt_eq_ld, Memref.IsWhole.read_unread, View.readCov_unit_lit', View.readCov_cons_unit_lit']
  rfl

theorem last_square (c0 : ¬cond0_0 i) (c1 : cond0_1 i) (c2 : cond0_2 i) :
    V.read (Elt F) (V.writes (Elt F) f (kernelRun0_C c i a3 h3 a4 h4 a5 h5 a6 h6 a7 h7 a8 h8 a9 h9 a10 h10 a11 h11 a12 h12 c0 c1 c2 X Y W M S (zeros 0) Z).2.2.2.1)
      = k0_pay5 (k0_pay3 i (0#32 : BitVec 32) X Y Z) S := by
  frame_open
  refine (View.read_writes_full V f _ _ _).trans ?_
  simp (disch := decide) only [View.ld_unit_lit', View.readAt_eq_ld, Memref.IsWhole.read_unread, View.readCov_unit_lit', View.readCov_cons_unit_lit']
  rfl

end

end Cert.Kernel20Ideal.Hand

end
-- ==== Proof.ChipRun.lean ====
module

public import proofs.«01_k».proof.Proof.ChipSum

/-! The run of the chip's sum with the optimiser's step: the scratch carries the sum so far from point to point, and the last point leaves the four results. -/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel20Ideal.Hand

open Cert.Kernel20Ideal Cert.Kernel20Ideal.Gen

variable {F : FTy → Type} [FloatOps F] (m : (ℓ : Loc nD τ sig) → Buf (Elt F) ℓ) (ρ : Dev nD → PrngReg)

/-- The grid points of the call. -/
abbrev Pt : Type := Fin (cfgM m (ok m)).N

theorem pt_lt (t : Pt m) : t.val < 4 := lt_of_lt_of_eq t.isLt (show (cfgM m (ok m)).N = 4 from N_0)

/-- The sum of the contributions met up to a point. -/
def sums (c : Dev nD) : (n : ℕ) → n < (cfgM m (ok m)).N → Vec F S128x256 .f32
  | 0, h => k0_pay2 (grid0.coords ⟨0, h⟩) (0#32 : BitVec 32) (iblk m (ok m) c 0 ⟨0, h⟩) (iblk m (ok m) c 1 ⟨0, h⟩)
  | n + 1, h => k0_pay3 (grid0.coords ⟨n + 1, h⟩) (0#32 : BitVec 32) (iblk m (ok m) c 0 ⟨n + 1, h⟩) (iblk m (ok m) c 1 ⟨n + 1, h⟩) (sums c n (Nat.lt_of_succ_lt h))

theorem sums_first (c : Dev nD) (t : Pt m) (h : t.val = 0) :
    sums m c t.val t.isLt = k0_pay2 (grid0.coords t) (0#32 : BitVec 32) (iblk m (ok m) c 0 t) (iblk m (ok m) c 1 t) := by
  obtain ⟨_ | n, hn⟩ := t
  · rfl
  · exact absurd h (Nat.succ_ne_zero n)

theorem sums_more (c : Dev nD) (t : Pt m) (h : t.val ≠ 0) :
    sums m c t.val t.isLt = k0_pay3 (grid0.coords t) (0#32 : BitVec 32) (iblk m (ok m) c 0 t) (iblk m (ok m) c 1 t)
      (sums m c (t.val - 1) (Nat.lt_of_le_of_lt (Nat.sub_le _ _) t.isLt)) := by
  obtain ⟨_ | n, hn⟩ := t
  · exact absurd rfl h
  · rfl

/-- The table as the body holds it. -/
abbrev half (c : Dev nD) : sProp (MT nD τ sig Unit (Elt F) ℕ (UR sig nD τ) ℕ) := tbPt0 c tbM0_0 (zeros 0)

theorem half_eq (c : Dev nD) : Pipeline.ΦT pre0 (tbl m) c = half (F := F) c := (PhiT0_eq m c).trans (by rw [table])

/-- What is held between two points: the scratch at the sum so far, the generator's state and the table. -/
def held (c : Dev nD) : (n : ℕ) → n ≤ (cfgM m (ok m)).N → sProp (MT nD τ sig Unit (Elt F) ℕ (UR sig nD τ) ℕ)
  | 0, _ => iprop(Pipeline.ΦA spec0 c ∗ half c)
  | n + 1, h => iprop((owns (c : Thread nD τ) scM0_0 fullShare (sums m c n h) ∗ ∃ r, prngReg c r) ∗ half c)

theorem held_first (c : Dev nD) (t : Pt m) (h : t.val = 0) :
    held m c t.val (le_of_lt t.isLt) = iprop((iprop(∃ d, owns (c : Thread nD τ) scM0_0 fullShare d) ∗ ∃ r, prngReg c r) ∗ half c) := by
  obtain ⟨_ | n, hn⟩ := t
  · show iprop(Pipeline.ΦA spec0 c ∗ half c) = _
    rw [PhiA0_eq]
  · exact absurd h (Nat.succ_ne_zero n)

theorem held_more (c : Dev nD) (t : Pt m) (h : t.val ≠ 0) :
    held m c t.val (le_of_lt t.isLt)
      = iprop((owns (c : Thread nD τ) scM0_0 fullShare (sums m c (t.val - 1) (Nat.lt_of_le_of_lt (Nat.sub_le _ _) t.isLt)) ∗ ∃ r, prngReg c r) ∗ half c) := by
  obtain ⟨_ | n, hn⟩ := t
  · exact absurd rfl h
  · rfl

/-- The call's contents, point by point. -/
def data (_ : Fin 1) (c : Dev nD) : Dat τ (Elt F) Unit ℕ (UR sig nD τ) ℕ (cfgM m (ok m)) c where
  A w := V m c (Pipeline.arrRef spec0 w)
  after w t := match w with
    | ⟨0, _⟩ => iblk m (ok m) c 0 t
    | ⟨1, _⟩ => iblk m (ok m) c 1 t
    | ⟨2, _⟩ => iblk m (ok m) c 2 t
    | ⟨3, _⟩ => iblk m (ok m) c 3 t
    | ⟨4, _⟩ => iblk m (ok m) c 4 t
    | ⟨5, _⟩ => sums m c t.val t.isLt
    | ⟨6, _⟩ => k0_pay6 (sums m c t.val t.isLt) (iblk m (ok m) c 2 t) (iblk m (ok m) c 3 t) (iblk m (ok m) c 4 t)
    | ⟨7, _⟩ => k0_pay4 (sums m c t.val t.isLt) (iblk m (ok m) c 3 t)
    | ⟨8, _⟩ => k0_pay5 (sums m c t.val t.isLt) (iblk m (ok m) c 4 t)
  Φ t := held m c t.val (Nat.le_of_lt_succ t.isLt)
  q _ := fullShare
  owed _ := 0

theorem start (c : Dev nD) (w : Fin (cfgM m (ok m)).W) : (data m 0 c).A w = V m c (Pipeline.arrRef spec0 w) := by dsimp only [data]

section
variable (c : Dev nD) (t : Pt m)

theorem left0 : (data m 0 c).after 0 t = iblk m (ok m) c 0 t := by dsimp only [data]; try rfl
theorem left1 : (data m 0 c).after 1 t = iblk m (ok m) c 1 t := by dsimp only [data]; try rfl
theorem left2 : (data m 0 c).after 2 t = iblk m (ok m) c 2 t := by dsimp only [data]; try rfl
theorem left3 : (data m 0 c).after 3 t = iblk m (ok m) c 3 t := by dsimp only [data]; try rfl
theorem left4 : (data m 0 c).after 4 t = iblk m (ok m) c 4 t := by dsimp only [data]; try rfl
theorem left5 : (data m 0 c).after 5 t = sums m c t.val t.isLt := by dsimp only [data]; try rfl
theorem left6 : (data m 0 c).after 6 t = k0_pay6 (sums m c t.val t.isLt) (iblk m (ok m) c 2 t) (iblk m (ok m) c 3 t) (iblk m (ok m) c 4 t) := by dsimp only [data]; try rfl
theorem left7 : (data m 0 c).after 7 t = k0_pay4 (sums m c t.val t.isLt) (iblk m (ok m) c 3 t) := by dsimp only [data]; try rfl
theorem left8 : (data m 0 c).after 8 t = k0_pay5 (sums m c t.val t.isLt) (iblk m (ok m) c 4 t) := by dsimp only [data]; try rfl
theorem found0 (d) : (data m 0 c).before 0 t d = iblk m (ok m) c 0 t := before0_0_of m (ok m) (data m 0 c) (start m c 0) (left0 m c) t d
theorem found1 (d) : (data m 0 c).before 1 t d = iblk m (ok m) c 1 t := before0_1_of m (ok m) (data m 0 c) (start m c 1) (left1 m c) t d
theorem found2 (d) : (data m 0 c).before 2 t d = iblk m (ok m) c 2 t := before0_2_of m (ok m) (data m 0 c) (start m c 2) (left2 m c) t d
theorem found3 (d) : (data m 0 c).before 3 t d = iblk m (ok m) c 3 t := before0_3_of m (ok m) (data m 0 c) (start m c 3) (left3 m c) t d
theorem found4 (d) : (data m 0 c).before 4 t d = iblk m (ok m) c 4 t := before0_4_of m (ok m) (data m 0 c) (start m c 4) (left4 m c) t d
theorem kept0 : (data m 0 c).leavesExact 0 t = owns (c : Thread nD τ) (ms0_0 m (ok m) t) fullShare (iblk m (ok m) c 0 t) := by
  unfold Dat.leavesExact
  rw [liveAt0_0 m (ok m) t, left0]
  try rfl
theorem kept1 : (data m 0 c).leavesExact 1 t = owns (c : Thread nD τ) (ms0_1 m (ok m) t) fullShare (iblk m (ok m) c 1 t) := by
  unfold Dat.leavesExact
  rw [liveAt0_1 m (ok m) t, left1]
  try rfl
theorem kept2 : (data m 0 c).leavesExact 2 t = owns (c : Thread nD τ) (ms0_2 m (ok m) t) fullShare (iblk m (ok m) c 2 t) := by
  unfold Dat.leavesExact
  rw [liveAt0_2 m (ok m) t, left2]
  try rfl
theorem kept3 : (data m 0 c).leavesExact 3 t = owns (c : Thread nD τ) (ms0_3 m (ok m) t) fullShare (iblk m (ok m) c 3 t) := by
  unfold Dat.leavesExact
  rw [liveAt0_3 m (ok m) t, left3]
  try rfl
theorem kept4 : (data m 0 c).leavesExact 4 t = owns (c : Thread nD τ) (ms0_4 m (ok m) t) fullShare (iblk m (ok m) c 4 t) := by
  unfold Dat.leavesExact
  rw [liveAt0_4 m (ok m) t, left4]
  try rfl
theorem written5 (c0 : ¬cond0_0 (grid0.coords t)) (c1 : cond0_1 (grid0.coords t)) (c2 : cond0_2 (grid0.coords t)) :
    (data m 0 c).leavesExact 5 t = owns (c : Thread nD τ) (ms0_5 m (ok m) t) fullShare (sums m c t.val t.isLt) := by
  unfold Dat.leavesExact
  rw [liveAt0_5_C m (ok m) t c0 c1 c2, left5]
  try rfl
theorem written6 (c0 : ¬cond0_0 (grid0.coords t)) (c1 : cond0_1 (grid0.coords t)) (c2 : cond0_2 (grid0.coords t)) :
    (data m 0 c).leavesExact 6 t = owns (c : Thread nD τ) (ms0_6 m (ok m) t) fullShare (k0_pay6 (sums m c t.val t.isLt) (iblk m (ok m) c 2 t) (iblk m (ok m) c 3 t) (iblk m (ok m) c 4 t)) := by
  unfold Dat.leavesExact
  rw [liveAt0_6_C m (ok m) t c0 c1 c2, left6]
  try rfl
theorem written7 (c0 : ¬cond0_0 (grid0.coords t)) (c1 : cond0_1 (grid0.coords t)) (c2 : cond0_2 (grid0.coords t)) :
    (data m 0 c).leavesExact 7 t = owns (c : Thread nD τ) (ms0_7 m (ok m) t) fullShare (k0_pay4 (sums m c t.val t.isLt) (iblk m (ok m) c 3 t)) := by
  unfold Dat.leavesExact
  rw [liveAt0_7_C m (ok m) t c0 c1 c2, left7]
  try rfl
theorem written8 (c0 : ¬cond0_0 (grid0.coords t)) (c1 : cond0_1 (grid0.coords t)) (c2 : cond0_2 (grid0.coords t)) :
    (data m 0 c).leavesExact 8 t = owns (c : Thread nD τ) (ms0_8 m (ok m) t) fullShare (k0_pay5 (sums m c t.val t.isLt) (iblk m (ok m) c 4 t)) := by
  unfold Dat.leavesExact
  rw [liveAt0_8_C m (ok m) t c0 c1 c2, left8]
  try rfl

/-- What the body is handed, -/
def given : sProp (MT nD τ sig Unit (Elt F) ℕ (UR sig nD τ) ℕ) :=
  iprop((data m 0 c).Φ t.castSucc ∗ (data m 0 c).owesAt () t.castSucc
    ∗ (∃ d, owns (c : Thread nD τ) (ms0_0 m (ok m) t) fullShare ((data m 0 c).before 0 t d))
    ∗ (∃ d, owns (c : Thread nD τ) (ms0_1 m (ok m) t) fullShare ((data m 0 c).before 1 t d))
    ∗ (∃ d, owns (c : Thread nD τ) (ms0_2 m (ok m) t) fullShare ((data m 0 c).before 2 t d))
    ∗ (∃ d, owns (c : Thread nD τ) (ms0_3 m (ok m) t) fullShare ((data m 0 c).before 3 t d))
    ∗ (∃ d, owns (c : Thread nD τ) (ms0_4 m (ok m) t) fullShare ((data m 0 c).before 4 t d))
    ∗ (∃ d, owns (c : Thread nD τ) (ms0_5 m (ok m) t) fullShare ((data m 0 c).before 5 t d))
    ∗ (∃ d, owns (c : Thread nD τ) (ms0_6 m (ok m) t) fullShare ((data m 0 c).before 6 t d))
    ∗ (∃ d, owns (c : Thread nD τ) (ms0_7 m (ok m) t) fullShare ((data m 0 c).before 7 t d))
    ∗ (∃ d, owns (c : Thread nD τ) (ms0_8 m (ok m) t) fullShare ((data m 0 c).before 8 t d)))

/-- and what it hands back. -/
def returned : sProp (MT nD τ sig Unit (Elt F) ℕ (UR sig nD τ) ℕ) :=
  iprop((data m 0 c).Φ t.succ ∗ (data m 0 c).owesAt () t.succ
    ∗ (data m 0 c).leavesExact 0 t
    ∗ (data m 0 c).leavesExact 1 t
    ∗ (data m 0 c).leavesExact 2 t
    ∗ (data m 0 c).leavesExact 3 t
    ∗ (data m 0 c).leavesExact 4 t
    ∗ (data m 0 c).leavesExact 5 t
    ∗ (data m 0 c).leavesExact 6 t
    ∗ (data m 0 c).leavesExact 7 t
    ∗ (data m 0 c).leavesExact 8 t)

set_option maxHeartbeats 2000000 in
theorem body_first (h : t.val = 0) :
    given m c t ⊢ wp frame (wpE (defs₀ (F := F)) Variants.none c none) Set.univ (bodyAt0 (adm m (ok m)) t) (fun _ => returned m c t) := by
  have hN := pt_lt m t
  have c0 : cond0_0 (grid0.coords t) := (hcond0_0 t).mpr (by omega)
  have c1 : ¬cond0_1 (grid0.coords t) := fun q => by have := (hcond0_1 t).mp q; omega
  have c2 : ¬cond0_2 (grid0.coords t) := fun q => by have := (hcond0_2 t).mp q; omega
  unfold given returned bodyAt0
  simp only [found0, found1, found2, found3, found4]
  rw [show (data m 0 c).owesAt () t.succ = (data m 0 c).owesAt () t.castSucc from rfl,
    show (data m 0 c).Φ t.castSucc = held m c t.val (le_of_lt t.isLt) from rfl,
    show (data m 0 c).Φ t.succ = iprop((owns (c : Thread nD τ) scM0_0 fullShare (sums m c t.val t.isLt) ∗ ∃ r, prngReg c r) ∗ half c) from rfl,
    kept0, kept1, kept2, kept3, kept4]
  rw [Dat.leavesExact_idle (data m 0 c) 5 t (idleAt0_5_A m (ok m) t c0 c1 c2) (noFlush0_5_A m (ok m) t c0 c1 c2), Dat.leavesExact_idle (data m 0 c) 6 t (idleAt0_6_A m (ok m) t c0 c1 c2) (noFlush0_6_A m (ok m) t c0 c1 c2), Dat.leavesExact_idle (data m 0 c) 7 t (idleAt0_7_A m (ok m) t c0 c1 c2) (noFlush0_7_A m (ok m) t c0 c1 c2), Dat.leavesExact_idle (data m 0 c) 8 t (idleAt0_8_A m (ok m) t c0 c1 c2) (noFlush0_8_A m (ok m) t c0 c1 c2)]
  rw [held_first m c t h, sums_first m c t h]
  iintro ⟨⟨⟨HS, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ c0 c1 c2 (iblk m (ok m) c 0 t) (iblk m (ok m) c 1 t) (iblk m (ok m) c 2 t)
    (iblk m (ok m) c 3 t) (iblk m (ok m) c 4 t) (zeros 0)).2.2.2.2.2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  isplitl [HT]; · iexact HT
  iintro ⟨H0, H1, H2, H3, H4, H5, H6, H7, H8, ⟨%e, HS⟩, HT⟩
  isplitl [HS Hg HT]
  · isplitl [HS Hg]
    · isplitl [HS]
      · unfold owns; iexists _; isplitr
        swap; · iexact HS
        ipureintro; exact first c (grid0.coords t) _ _ _ _ _ _ _ _ _ _ _ _ _ _ _ _ _ _ _ _ _ _ _ _ _ _ _ c0 c1 c2
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iexists _; iexact H8

set_option maxHeartbeats 2000000 in
theorem body_more (h : t.val ≠ 0) (h' : t.val ≠ 3) :
    given m c t ⊢ wp frame (wpE (defs₀ (F := F)) Variants.none c none) Set.univ (bodyAt0 (adm m (ok m)) t) (fun _ => returned m c t) := by
  have hN := pt_lt m t
  have c0 : ¬cond0_0 (grid0.coords t) := fun q => by have := (hcond0_0 t).mp q; omega
  have c1 : cond0_1 (grid0.coords t) := (hcond0_1 t).mpr (by omega)
  have c2 : ¬cond0_2 (grid0.coords t) := fun q => by have := (hcond0_2 t).mp q; omega
  unfold given returned bodyAt0
  simp only [found0, found1, found2, found3, found4]
  rw [show (data m 0 c).owesAt () t.succ = (data m 0 c).owesAt () t.castSucc from rfl,
    show (data m 0 c).Φ t.castSucc = held m c t.val (le_of_lt t.isLt) from rfl,
    show (data m 0 c).Φ t.succ = iprop((owns (c : Thread nD τ) scM0_0 fullShare (sums m c t.val t.isLt) ∗ ∃ r, prngReg c r) ∗ half c) from rfl,
    kept0, kept1, kept2, kept3, kept4]
  rw [Dat.leavesExact_idle (data m 0 c) 5 t (idleAt0_5_B m (ok m) t c0 c1 c2) (noFlush0_5_B m (ok m) t c0 c1 c2), Dat.leavesExact_idle (data m 0 c) 6 t (idleAt0_6_B m (ok m) t c0 c1 c2) (noFlush0_6_B m (ok m) t c0 c1 c2), Dat.leavesExact_idle (data m 0 c) 7 t (idleAt0_7_B m (ok m) t c0 c1 c2) (noFlush0_7_B m (ok m) t c0 c1 c2), Dat.leavesExact_idle (data m 0 c) 8 t (idleAt0_8_B m (ok m) t c0 c1 c2) (noFlush0_8_B m (ok m) t c0 c1 c2)]
  rw [held_more m c t h, sums_more m c t h]
  iintro ⟨⟨⟨HS, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_B c (grid0.coords t) _ _ _ _ _ _ _ _ _ _ _ _ _ _ _ _ _ _ _ _ c0 c1 c2 (iblk m (ok m) c 0 t) (iblk m (ok m) c 1 t) (iblk m (ok m) c 2 t)
    (iblk m (ok m) c 3 t) (iblk m (ok m) c 4 t) (zeros 0) (sums m c (t.val - 1) (Nat.lt_of_le_of_lt (Nat.sub_le _ _) t.isLt))).2.2.2.2.2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  isplitl [HT]; · iexact HT
  iintro ⟨H0, H1, H2, H3, H4, H5, H6, H7, H8, ⟨%e, HS⟩, HT⟩
  isplitl [HS Hg HT]
  · isplitl [HS Hg]
    · isplitl [HS]
      · unfold owns; iexists _; isplitr
        swap; · iexact HS
        ipureintro; exact more c (grid0.coords t) _ _ _ _ _ _ _ _ _ _ _ _ _ _ _ _ _ _ _ _ _ _ _ _ _ _ _ _ c0 c1 c2
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iexists _; iexact H8

set_option maxHeartbeats 2000000 in
theorem body_last (h : t.val ≠ 0) (h' : t.val = 3) :
    given m c t ⊢ wp frame (wpE (defs₀ (F := F)) Variants.none c none) Set.univ (bodyAt0 (adm m (ok m)) t) (fun _ => returned m c t) := by
  have hN := pt_lt m t
  have c0 : ¬cond0_0 (grid0.coords t) := fun q => by have := (hcond0_0 t).mp q; omega
  have c1 : cond0_1 (grid0.coords t) := (hcond0_1 t).mpr (by omega)
  have c2 : cond0_2 (grid0.coords t) := (hcond0_2 t).mpr (by omega)
  unfold given returned bodyAt0
  simp only [found0, found1, found2, found3, found4]
  rw [show (data m 0 c).owesAt () t.succ = (data m 0 c).owesAt () t.castSucc from rfl,
    show (data m 0 c).Φ t.castSucc = held m c t.val (le_of_lt t.isLt) from rfl,
    show (data m 0 c).Φ t.succ = iprop((owns (c : Thread nD τ) scM0_0 fullShare (sums m c t.val t.isLt) ∗ ∃ r, prngReg c r) ∗ half c) from rfl,
    kept0, kept1, kept2, kept3, kept4]
  rw [written5 m c t c0 c1 c2, written6 m c t c0 c1 c2, written7 m c t c0 c1 c2, written8 m c t c0 c1 c2]
  rw [held_more m c t h, sums_more m c t h]
  iintro ⟨⟨⟨HS, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_C c (grid0.coords t) _ _ _ _ _ _ _ _ _ _ _ _ _ _ _ _ _ _ _ _ c0 c1 c2 (iblk m (ok m) c 0 t) (iblk m (ok m) c 1 t) (iblk m (ok m) c 2 t)
    (iblk m (ok m) c 3 t) (iblk m (ok m) c 4 t) (zeros 0) (sums m c (t.val - 1) (Nat.lt_of_le_of_lt (Nat.sub_le _ _) t.isLt))).2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HS]; · iexact HS
  isplitl [HT]; · iexact HT
  iintro ⟨H0, H1, H2, H3, H4, ⟨%e5, H5⟩, ⟨%e6, H6⟩, ⟨%e7, H7⟩, ⟨%e8, H8⟩, ⟨%e, HS⟩, HT⟩
  isplitl [HS Hg HT]
  · isplitl [HS Hg]
    · isplitl [HS]
      · unfold owns; iexists _; isplitr
        swap; · iexact HS
        ipureintro; exact last_scratch c (grid0.coords t) _ _ _ _ _ _ _ _ _ _ _ _ _ _ _ _ _ _ _ _ _ _ _ _ _ _ _ _ c0 c1 c2
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact last_sum c (grid0.coords t) _ _ _ _ _ _ _ _ _ _ _ _ _ _ _ _ _ _ _ _ _ _ _ _ _ _ _ _ c0 c1 c2
  isplitl [H6]
  · unfold owns; iexists _; isplitr
    swap; · iexact H6
    ipureintro; exact last_delta c (grid0.coords t) _ _ _ _ _ _ _ _ _ _ _ _ _ _ _ _ _ _ _ _ _ _ _ _ _ _ _ _ c0 c1 c2
  isplitl [H7]
  · unfold owns; iexists _; isplitr
    swap; · iexact H7
    ipureintro; exact last_mean c (grid0.coords t) _ _ _ _ _ _ _ _ _ _ _ _ _ _ _ _ _ _ _ _ _ _ _ _ _ _ _ _ c0 c1 c2
  unfold owns; iexists _; isplitr
  swap; · iexact H8
  ipureintro; exact last_square c (grid0.coords t) _ _ _ _ _ _ _ _ _ _ _ _ _ _ _ _ _ _ _ _ _ _ _ _ _ _ _ _ c0 c1 c2

theorem body : given m c t ⊢ wp frame (wpE (defs₀ (F := F)) Variants.none c none) Set.univ (bodyAt0 (adm m (ok m)) t) (fun _ => returned m c t) := by
  by_cases h : t.val = 0
  · exact body_first m c t h
  by_cases h' : t.val = 3
  · exact body_last m c t h h'
  · exact body_more m c t h h'

end

theorem bodies (c : Dev nD) : BodyObligation (data (F := F) m 0 c) (defs₀ (F := F)) Variants.none () Set.univ := fun t => by
  have row : defs₀ (F := F) .tc (cfgM m (ok m)).body ((cfgM m (ok m)).bodyArgs t ((cfgM m (ok m)).slots t)) = bodyAt0 (adm m (ok m)) t := by
    unfold defs₀
    rw [Defs.onTc_tc]
  rw [bigSep_W0, bigSep_W0, row]
  exact triple_restated (body m c t) rfl .rfl fun _ => .rfl

theorem enter (c : Dev nD) : iprop(Pipeline.ΦA spec0 c ∗ Pipeline.ΦT pre0 (tbl m) c) ⊢ (data m 0 c).Φ 0 := by
  rw [half_eq]
  exact Idealize.SL.BI.Entails.refl _

theorem leave (c : Dev nD) : (data m 0 c).Φ (Fin.last (cfgM m (ok m)).N) ⊢ Pipeline.ΦA spec0 c := by
  have e : (data m 0 c).Φ (Fin.last (cfgM m (ok m)).N)
      = iprop((owns (c : Thread nD τ) scM0_0 fullShare (sums m c 3 (by have h : (cfgM m (ok m)).N = 4 := N_0; omega)) ∗ ∃ r, prngReg c r) ∗ half c) := rfl
  rw [e, PhiA0_eq]
  iintro ⟨⟨HS, Hg⟩, -⟩
  isplitl [HS]
  · iexists _; iexact HS
  iexact Hg

set_option backward.isDefEq.respectTransparency.types false in
theorem ends : θ_run defs (onTc (τ := τ) (main (F := F))) (s₀ m ρ)
    (fun r => (Pipeline.FramePost (Pipeline.pin pcfgs fun _ => adm m (ok m)) (data m) 0 (V m)) r ∧ r.2.sem = fun _ => 0) :=
  Pipeline.θ_run_frameP_track (Q' := _) pcfgs (fun _ => adm m (ok m)) (data m) (0 : Fin 1) launch0 defs₀ Variants.none m ρ main
    (hbody := fun c => (bodies m c).loose) (hshare := fun c => (data m 0 c).share_full fun _ => rfl)
    (howed := fun _ _ => rfl) (V := V m) (hmain := hmain m Variants.none) (hA := start m) (hpf := V_pre m)
    (hin := enter m) (hout := leave m)

/-- The arguments end as they began. -/
theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (ok m) (data m) (start m) ((θ_run defs _ _).mono (fun _ h => h.1) (ends m ρ))

/-- The same, and every semaphore ends at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (kept m ρ) ((θ_run defs _ _).mono (fun _ h => h.2) (ends m ρ))

end Cert.Kernel20Ideal.Hand

namespace Cert.Kernel20.Hand

open Cert.Kernel20

/-- The kernel over the floats' words runs as the same program does over any floats. -/
theorem quiet (m : (ℓ : Loc nD τ sig) → Buf (Elt Bits) ℓ) (ρ : Dev nD → PrngReg) :
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Eq.mp (by sl_kernel_rfl) (Cert.Kernel20Ideal.Hand.quiet (F := Bits) m ρ)

end Cert.Kernel20.Hand

end
-- ==== Proof.ChipAdam.lean ====
module

public import proofs.«01_k».proof.Proof.ChipRun
public import proofs.«01_k».proof.Proof.AdamStep
public import proofs.«01_k».proof.Proof.Loads
public import proofs.«01_k».proof.Proof.Gen.Reference20Ideal.Run

/-! A chip's contributions summed and the optimiser's step over the sum: the four results over the extended reals. -/

@[expose] public section

set_option maxRecDepth 16384

noncomputable section

open Idealize.ShloMosaic Idealize.ShloMosaic.TcCoe Idealize.SL.Sem
open Idealize.ShloMosaic.Pipeline (Dat)

namespace Cert.Kernel20Ideal.Hand

open Cert.Kernel20Ideal Cert.Kernel20Ideal.Gen
open Cert.Adam (mean square delta)

/-- The chip's own contribution and the three that came from the other chips. -/
def total (P L : FVec Ideal S4x128x256 .bf16) (a : Fin 128) (b : Fin 256) : EReal :=
  P (ix3 (0 : Fin 4) a b) + (L (ix3 (1 : Fin 4) a b) + L (ix3 (2 : Fin 4) a b) + L (ix3 (3 : Fin 4) a b))

/-- A parameter's rows as one table. -/
def table2 (W : FVec Ideal S4x32x256 .f32) : FVec Ideal S128x256 .f32 := shapeCast S128x256 W shapeCasts_S4x32x256_S128x256

section
variable (i : grid0.Coords) (X Y : FVec Ideal S1x128x256 .bf16) (a : Fin 128) (b : Fin 256)

theorem own (h : (i 1).val = 0) : k0_pay1 (F := Ideal) i (0#32 : BitVec 32) X Y (ix2 a b) = X (ix3 (0 : Fin 1) a b) := by
  have e : Scalar.cmpi .eq (BitVec.ofNat 32 (i 1).val) 0#32 = 1#1 := by rw [h]; rfl
  unfold k0_pay1
  dsimp only
  rw [e]
  show extf .f32 (shapeCast S128x256 X shapeCasts_S1x128x256_S128x256) bitsLt_bf16_f32 (ix2 a b) = _
  pointwise []

theorem other (h : (i 1).val ≠ 0) : k0_pay1 (F := Ideal) i (0#32 : BitVec 32) X Y (ix2 a b) = Y (ix3 (0 : Fin 1) a b) := by
  have e : Scalar.cmpi .eq (BitVec.ofNat 32 (i 1).val) 0#32 = 0#1 := by
    have h4 : (i 1).val < 4 := (i 1).isLt
    generalize (i 1).val = k at h h4
    interval_cases k <;> first | exact absurd rfl h | rfl
  unfold k0_pay1
  dsimp only
  rw [e]
  show extf .f32 (shapeCast S128x256 Y shapeCasts_S1x128x256_S128x256) bitsLt_bf16_f32 (ix2 a b) = _
  pointwise []

theorem store_first (h : (i 1).val = 0) : k0_pay2 (F := Ideal) i (0#32 : BitVec 32) X Y (ix2 a b) = X (ix3 (0 : Fin 1) a b) := by
  refine Eq.trans ?_ (own i X Y a b h)
  unfold k0_pay2
  pointwise []

theorem store_more (Z : FVec Ideal S128x256 .f32) (h : (i 1).val ≠ 0) :
    k0_pay3 (F := Ideal) i (0#32 : BitVec 32) X Y Z (ix2 a b) = Z (ix2 a b) + Y (ix3 (0 : Fin 1) a b) := by
  rw [← other i X Y a b h]
  unfold k0_pay3
  pointwise []

end

section
variable (G W M S : FVec Ideal S128x256 .f32) (y : S128x256.Idx)

theorem step_delta : k0_pay6 (F := Ideal) G W M S y = delta (W y) (G y) (M y) (S y) := by
  obtain ⟨a, b, rfl⟩ : ∃ (a : Fin 128) (b : Fin 256), y = ix2 a b := ⟨y 0, y 1, eq_ix2 y⟩
  pointwise [k0_pay6, k0_pay5, k0_pay4, delta, mean, square]

theorem step_mean : k0_pay4 (F := Ideal) G M y = mean (G y) (M y) := by
  obtain ⟨a, b, rfl⟩ : ∃ (a : Fin 128) (b : Fin 256), y = ix2 a b := ⟨y 0, y 1, eq_ix2 y⟩
  pointwise [k0_pay4, mean]

theorem step_square : k0_pay5 (F := Ideal) G S y = square (G y) (S y) := by
  obtain ⟨a, b, rfl⟩ : ∃ (a : Fin 128) (b : Fin 256), y = ix2 a b := ⟨y 0, y 1, eq_ix2 y⟩
  pointwise [k0_pay5, square]

end

variable (m : (ℓ : Loc nD τ sig) → Buf (Elt Ideal) ℓ) (c : Dev nD)

theorem idx0 (t : Pt m) : ((cfgM m (ok m)).win 0).index t = ![0, 0, 0] := by
  show ((cfg0 (adm m (ok m))).win 0).index t = _
  revert t
  show ∀ t : Fin (cfg0 (adm m (ok m))).N, ((cfg0 (adm m (ok m))).win 0).index t = _
  rw [adm_eq m]
  exact fun t => funext (at0_eq (F := Ideal) t)

theorem idx1 : ∀ t : Pt m, ((cfgM m (ok m)).win 1).index t = ![if t.val = 0 then 1 else t.val, 0, 0] := by
  show ∀ t : Fin (cfg0 (adm m (ok m))).N, ((cfg0 (adm m (ok m))).win 1).index t = _
  rw [adm_eq m]
  exact fun t => funext (at1_eq (F := Ideal) t)

theorem idx2 : ∀ t : Pt m, ((cfgM m (ok m)).win 2).index t = ![0, 0] := by
  show ∀ t : Fin (cfg0 (adm m (ok m))).N, ((cfg0 (adm m (ok m))).win 2).index t = _
  rw [adm_eq m]
  exact fun t => funext (at2_eq (F := Ideal) t)

theorem idx3 : ∀ t : Pt m, ((cfgM m (ok m)).win 3).index t = ![0, 0] := by
  show ∀ t : Fin (cfg0 (adm m (ok m))).N, ((cfg0 (adm m (ok m))).win 3).index t = _
  rw [adm_eq m]
  exact fun t => funext (at3_eq (F := Ideal) t)

theorem idx4 : ∀ t : Pt m, ((cfgM m (ok m)).win 4).index t = ![0, 0] := by
  show ∀ t : Fin (cfg0 (adm m (ok m))).N, ((cfg0 (adm m (ok m))).win 4).index t = _
  rw [adm_eq m]
  exact fun t => funext (at4_eq (F := Ideal) t)

theorem idx5 : ∀ t : Pt m, ((cfgM m (ok m)).win 5).index t = ![0, 0] := by
  show ∀ t : Fin (cfg0 (adm m (ok m))).N, ((cfg0 (adm m (ok m))).win 5).index t = _
  rw [adm_eq m]
  exact fun t => funext (at5_eq (F := Ideal) t)

theorem idx6 : ∀ t : Pt m, ((cfgM m (ok m)).win 6).index t = ![0, 0] := by
  show ∀ t : Fin (cfg0 (adm m (ok m))).N, ((cfg0 (adm m (ok m))).win 6).index t = _
  rw [adm_eq m]
  exact fun t => funext (at6_eq (F := Ideal) t)

theorem idx7 : ∀ t : Pt m, ((cfgM m (ok m)).win 7).index t = ![0, 0] := by
  show ∀ t : Fin (cfg0 (adm m (ok m))).N, ((cfg0 (adm m (ok m))).win 7).index t = _
  rw [adm_eq m]
  exact fun t => funext (at7_eq (F := Ideal) t)

theorem idx8 : ∀ t : Pt m, ((cfgM m (ok m)).win 8).index t = ![0, 0] := by
  show ∀ t : Fin (cfg0 (adm m (ok m))).N, ((cfg0 (adm m (ok m))).win 8).index t = _
  rw [adm_eq m]
  exact fun t => funext (at8_eq (F := Ideal) t)

theorem block0 (t : Pt m) (a : Fin 128) (b : Fin 256) : (iblk m (ok m) c 0 t : FVec Ideal S1x128x256 .bf16) (ix3 (0 : Fin 1) a b)
    = (m ((c : Thread nD τ).loc main_arg0) : FVec Ideal S4x128x256 .bf16) (ix3 (0 : Fin 4) a b) := by
  refine Eq.trans ?_ (congrFun (V_main_arg0 m c) _)
  show V m c main_arg0 _ = _
  refine congrArg (V m c main_arg0) ?_
  blk_ext! [idx0 m t]

theorem block1 (t : Pt m) (k : Fin 4) (h : t.val = k.val) (h0 : k.val ≠ 0) (a : Fin 128) (b : Fin 256) :
    (iblk m (ok m) c 1 t : FVec Ideal S1x128x256 .bf16) (ix3 (0 : Fin 1) a b)
      = (m ((c : Thread nD τ).loc main_arg1) : FVec Ideal S4x128x256 .bf16) (ix3 k a b) := by
  have e : ((cfgM m (ok m)).win 1).index t = ![k.val, 0, 0] := by rw [idx1 m t, h, if_neg h0]
  refine Eq.trans ?_ (congrFun (V_main_arg1 m c) _)
  show V m c main_arg1 _ = _
  refine congrArg (V m c main_arg1) ?_
  blk_ext! [e]

theorem V_v1 : V m c main_v1 = table2 (m ((c : Thread nD τ).loc main_arg2)) := rfl
theorem V_v2 : V m c main_v2 = table2 (m ((c : Thread nD τ).loc main_arg3)) := rfl
theorem V_v3 : V m c main_v3 = table2 (m ((c : Thread nD τ).loc main_arg4)) := rfl

theorem sums_at (n : ℕ) (hn : n < (cfgM m (ok m)).N) : (grid0.coords ⟨n, hn⟩ 1).val = n := by
  have h4 : n < 4 := lt_of_lt_of_eq hn (show (cfgM m (ok m)).N = 4 from N_0)
  have e : (grid0.coords ⟨n, hn⟩ 1).val = n / 1 % 4 := Pipeline.Grid.coords_val _ 1 (by decide) rfl
  rw [e]
  omega

/-- An argument as the call takes it. -/
abbrev arg (b : Ref sig .tc) : Buf (Elt Ideal) ((c : Thread nD τ).loc b) := m ((c : Thread nD τ).loc b)

theorem sums_total (hn : 3 < (cfgM m (ok m)).N) (a : Fin 128) (b : Fin 256) :
    sums m c 3 hn (ix2 a b) = total (arg m c main_arg0) (arg m c main_arg1) a b := by
  have s0 : sums m c 0 (by omega) (ix2 a b) = (arg m c main_arg0 : FVec Ideal S4x128x256 .bf16) (ix3 (0 : Fin 4) a b) :=
    (store_first _ _ _ a b (sums_at m 0 _)).trans (block0 m c _ a b)
  have step (n : ℕ) (h : n + 1 < (cfgM m (ok m)).N) (k : Fin 4) (hk : n + 1 = k.val) :
      sums m c (n + 1) h (ix2 a b) = sums m c n (Nat.lt_of_succ_lt h) (ix2 a b) + (arg m c main_arg1 : FVec Ideal S4x128x256 .bf16) (ix3 k a b) :=
    (store_more _ _ _ a b _ (by rw [sums_at m (n + 1) h]; omega)).trans
      (congrArg (fun z : EReal => sums m c n (Nat.lt_of_succ_lt h) (ix2 a b) + z) (block1 m c ⟨n + 1, h⟩ k hk (by omega) a b))
  rw [step 2 hn 3 rfl, step 1 _ 2 rfl, step 0 _ 1 rfl, s0]
  unfold total
  rw [← add_assoc, ← add_assoc]

theorem sums_last (t : Pt m) (h : t.val = 3) (y : S128x256.Idx) :
    sums m c t.val t.isLt y = total (arg m c main_arg0) (arg m c main_arg1) (y 0) (y 1) := by
  obtain ⟨a, b, rfl⟩ : ∃ (a : Fin 128) (b : Fin 256), y = ix2 a b := ⟨y 0, y 1, eq_ix2 y⟩
  obtain ⟨n, hn⟩ := t
  obtain rfl : n = 3 := h
  exact sums_total m c hn a b

theorem block2 (t : Pt m) : iblk m (ok m) c 2 t = table2 (arg m c main_arg2) := by
  refine Eq.trans (funext fun j => ?_) (V_v1 m c)
  show V m c main_v1 _ = V m c main_v1 _
  refine congrArg (V m c main_v1) ?_
  obtain ⟨a, b, rfl⟩ : ∃ (a : Fin 128) (b : Fin 256), j = (ix2 a b : S128x256.Idx) := ⟨(show S128x256.Idx from j) 0, (show S128x256.Idx from j) 1, eq_ix2 (show S128x256.Idx from j)⟩
  blk_ext! [idx2 m t]

theorem block3 (t : Pt m) : iblk m (ok m) c 3 t = table2 (arg m c main_arg3) := by
  refine Eq.trans (funext fun j => ?_) (V_v2 m c)
  show V m c main_v2 _ = V m c main_v2 _
  refine congrArg (V m c main_v2) ?_
  obtain ⟨a, b, rfl⟩ : ∃ (a : Fin 128) (b : Fin 256), j = (ix2 a b : S128x256.Idx) := ⟨(show S128x256.Idx from j) 0, (show S128x256.Idx from j) 1, eq_ix2 (show S128x256.Idx from j)⟩
  blk_ext! [idx3 m t]

theorem block4 (t : Pt m) : iblk m (ok m) c 4 t = table2 (arg m c main_arg4) := by
  refine Eq.trans (funext fun j => ?_) (V_v3 m c)
  show V m c main_v3 _ = V m c main_v3 _
  refine congrArg (V m c main_v3) ?_
  obtain ⟨a, b, rfl⟩ : ∃ (a : Fin 128) (b : Fin 256), j = (ix2 a b : S128x256.Idx) := ⟨(show S128x256.Idx from j) 0, (show S128x256.Idx from j) 1, eq_ix2 (show S128x256.Idx from j)⟩
  blk_ext! [idx4 m t]

theorem spot5 (t : Pt m) (y : S128x256.Idx) (G : FVec Ideal S128x256 .f32) : G y = G ((((cfgM m (ok m)).win 5).blk t).view.emb y) := by
  obtain ⟨a, b, rfl⟩ : ∃ (a : Fin 128) (b : Fin 256), y = ix2 a b := ⟨y 0, y 1, eq_ix2 y⟩
  blk_ext! [idx5 m t]

theorem only5 (t : Pt m) (h : ((cfgM m (ok m)).win 5).flush t = true) : t.val = 3 := by
  have hN := pt_lt m t
  by_contra h3
  have c2 : ¬cond0_2 (grid0.coords t) := fun q => by have := (hcond0_2 t).mp q; omega
  by_cases h0 : t.val = 0
  · rw [noFlush0_5_A m (ok m) t ((hcond0_0 t).mpr (by omega)) (fun q => by have := (hcond0_1 t).mp q; omega) c2] at h
    exact absurd h (by decide)
  · rw [noFlush0_5_B m (ok m) t (fun q => by have := (hcond0_0 t).mp q; omega) ((hcond0_1 t).mpr (by omega)) c2] at h
    exact absurd h (by decide)

theorem spot6 (t : Pt m) (y : S128x256.Idx) (G : FVec Ideal S128x256 .f32) : G y = G ((((cfgM m (ok m)).win 6).blk t).view.emb y) := by
  obtain ⟨a, b, rfl⟩ : ∃ (a : Fin 128) (b : Fin 256), y = ix2 a b := ⟨y 0, y 1, eq_ix2 y⟩
  blk_ext! [idx6 m t]

theorem only6 (t : Pt m) (h : ((cfgM m (ok m)).win 6).flush t = true) : t.val = 3 := by
  have hN := pt_lt m t
  by_contra h3
  have c2 : ¬cond0_2 (grid0.coords t) := fun q => by have := (hcond0_2 t).mp q; omega
  by_cases h0 : t.val = 0
  · rw [noFlush0_6_A m (ok m) t ((hcond0_0 t).mpr (by omega)) (fun q => by have := (hcond0_1 t).mp q; omega) c2] at h
    exact absurd h (by decide)
  · rw [noFlush0_6_B m (ok m) t (fun q => by have := (hcond0_0 t).mp q; omega) ((hcond0_1 t).mpr (by omega)) c2] at h
    exact absurd h (by decide)

theorem spot7 (t : Pt m) (y : S128x256.Idx) (G : FVec Ideal S128x256 .f32) : G y = G ((((cfgM m (ok m)).win 7).blk t).view.emb y) := by
  obtain ⟨a, b, rfl⟩ : ∃ (a : Fin 128) (b : Fin 256), y = ix2 a b := ⟨y 0, y 1, eq_ix2 y⟩
  blk_ext! [idx7 m t]

theorem only7 (t : Pt m) (h : ((cfgM m (ok m)).win 7).flush t = true) : t.val = 3 := by
  have hN := pt_lt m t
  by_contra h3
  have c2 : ¬cond0_2 (grid0.coords t) := fun q => by have := (hcond0_2 t).mp q; omega
  by_cases h0 : t.val = 0
  · rw [noFlush0_7_A m (ok m) t ((hcond0_0 t).mpr (by omega)) (fun q => by have := (hcond0_1 t).mp q; omega) c2] at h
    exact absurd h (by decide)
  · rw [noFlush0_7_B m (ok m) t (fun q => by have := (hcond0_0 t).mp q; omega) ((hcond0_1 t).mpr (by omega)) c2] at h
    exact absurd h (by decide)

theorem spot8 (t : Pt m) (y : S128x256.Idx) (G : FVec Ideal S128x256 .f32) : G y = G ((((cfgM m (ok m)).win 8).blk t).view.emb y) := by
  obtain ⟨a, b, rfl⟩ : ∃ (a : Fin 128) (b : Fin 256), y = ix2 a b := ⟨y 0, y 1, eq_ix2 y⟩
  blk_ext! [idx8 m t]

theorem only8 (t : Pt m) (h : ((cfgM m (ok m)).win 8).flush t = true) : t.val = 3 := by
  have hN := pt_lt m t
  by_contra h3
  have c2 : ¬cond0_2 (grid0.coords t) := fun q => by have := (hcond0_2 t).mp q; omega
  by_cases h0 : t.val = 0
  · rw [noFlush0_8_A m (ok m) t ((hcond0_0 t).mpr (by omega)) (fun q => by have := (hcond0_1 t).mp q; omega) c2] at h
    exact absurd h (by decide)
  · rw [noFlush0_8_B m (ok m) t (fun q => by have := (hcond0_0 t).mp q; omega) ((hcond0_1 t).mpr (by omega)) c2] at h
    exact absurd h (by decide)

/-- The gradient's sum, as a table. -/
def gradient : FVec Ideal S128x256 .f32 := fun j => total (arg m c main_arg0) (arg m c main_arg1) (j 0) (j 1)

theorem covers5_of : ((cfgM m (ok m)).win 5).Covers := by
  show ((cfg0 (adm m (ok m))).win 5).Covers
  rw [adm_eq m]
  exact covers5

theorem final_sum : (data m 0 c).arrAt 5 (cfgM m (ok m)).N = gradient m c := by
  refine (data m 0 c).arrAt_eq_of_covers 5 _ (covers5_of m) fun t hf y => ?_
  have h3 := only5 m t hf
  blk_simp
  rw [left5]
  refine (sums_last m c t h3 y).trans ?_
  exact spot5 m t y (gradient m c)

theorem covers6_of : ((cfgM m (ok m)).win 6).Covers := by
  show ((cfg0 (adm m (ok m))).win 6).Covers
  rw [adm_eq m]
  exact covers6

theorem final_delta : (data m 0 c).arrAt 6 (cfgM m (ok m)).N = fun j => delta (table2 (arg m c main_arg2) j) (gradient m c j) (table2 (arg m c main_arg3) j) (table2 (arg m c main_arg4) j) := by
  refine (data m 0 c).arrAt_eq_of_covers 6 _ (covers6_of m) fun t hf y => ?_
  have h3 := only6 m t hf
  blk_simp
  rw [left6]
  rw [block2, block3, block4]
  refine (step_delta _ _ _ _ y).trans ?_
  rw [sums_last m c t h3 y]
  exact spot6 m t y (fun j => delta (table2 (arg m c main_arg2) j) (gradient m c j) (table2 (arg m c main_arg3) j) (table2 (arg m c main_arg4) j))

theorem covers7_of : ((cfgM m (ok m)).win 7).Covers := by
  show ((cfg0 (adm m (ok m))).win 7).Covers
  rw [adm_eq m]
  exact covers7

theorem final_mean : (data m 0 c).arrAt 7 (cfgM m (ok m)).N = fun j => mean (gradient m c j) (table2 (arg m c main_arg3) j) := by
  refine (data m 0 c).arrAt_eq_of_covers 7 _ (covers7_of m) fun t hf y => ?_
  have h3 := only7 m t hf
  blk_simp
  rw [left7]
  rw [block3]
  refine (step_mean _ _ y).trans ?_
  rw [sums_last m c t h3 y]
  exact spot7 m t y (fun j => mean (gradient m c j) (table2 (arg m c main_arg3) j))

theorem covers8_of : ((cfgM m (ok m)).win 8).Covers := by
  show ((cfg0 (adm m (ok m))).win 8).Covers
  rw [adm_eq m]
  exact covers8

theorem final_square : (data m 0 c).arrAt 8 (cfgM m (ok m)).N = fun j => square (gradient m c j) (table2 (arg m c main_arg4) j) := by
  refine (data m 0 c).arrAt_eq_of_covers 8 _ (covers8_of m) fun t hf y => ?_
  have h3 := only8 m t hf
  blk_simp
  rw [left8]
  rw [block4]
  refine (step_square _ _ y).trans ?_
  rw [sums_last m c t h3 y]
  exact spot8 m t y (fun j => square (gradient m c j) (table2 (arg m c main_arg4) j))

/-- The run of the call, with its four results. -/
theorem run (ρ : Dev nD → PrngReg) :
    θ_run defs (onTc (τ := τ) (main (F := Ideal))) ⟨m, fun _ => 0, ρ⟩ (fun r => ∀ c : Dev nD,
      r.2.mem ((c.tc : Thread nD τ).loc main_v4_0) = (data m 0 c).arrAt 5 (cfgM m (ok m)).N
      ∧ r.2.mem ((c.tc : Thread nD τ).loc main_v4_1) = (data m 0 c).arrAt 6 (cfgM m (ok m)).N
      ∧ r.2.mem ((c.tc : Thread nD τ).loc main_v4_2) = (data m 0 c).arrAt 7 (cfgM m (ok m)).N
      ∧ r.2.mem ((c.tc : Thread nD τ).loc main_v4_3) = (data m 0 c).arrAt 8 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1.1 c).1 5, (h.1.1 c).1 6, (h.1.1 c).1 7, (h.1.1 c).1 8, h.2 c⟩)
    (θ_run_and (ends m ρ) (kept m ρ))

end Cert.Kernel20Ideal.Hand

namespace Cert.Reference20Ideal.Hand

open Cert.Reference20Ideal Cert.Reference20Ideal.Gen

/-- The reference's sum. -/
theorem sum_at (P L : FVec Ideal S4x128x256 .bf16) :
    addf (extf .f32 (shapeCast _ (extractStridedSlice S1x128x256 ![0, 0, 0] P slices_S4x128x256_S1x128x256_0_0_0) shapeCasts_S1x128x256_S128x256) bitsLt_bf16_f32)
      (Host.reduceAdd (F := Ideal) (extf .f32 (extractStridedSlice S3x128x256 ![1, 0, 0] L slices_S4x128x256_S3x128x256_1_0_0) bitsLt_bf16_f32)
        (constant S_ .f32 0x00000000#32) reducesTo_S3x128x256_S128x256_d0 h_S_)
      = fun j => Cert.Kernel20Ideal.Hand.total P L (j 0) (j 1) := by
  funext j
  obtain ⟨a, b, rfl⟩ : ∃ (a : Fin 128) (b : Fin 256), j = ix2 a b := ⟨j 0, j 1, eq_ix2 j⟩
  show _ = Cert.Kernel20Ideal.Hand.total P L a b
  unfold Cert.Kernel20Ideal.Hand.total
  pointwise [Fin.sum_univ_three]

section
variable (W G M S : FVec Ideal S128x256 .f32)

theorem mean_at : addf (mulf (broadcastInDim S128x256 ![] bcast_S_S128x256 (constant (F := Ideal) S_ .f32 0x3F666666#32)) M) (mulf (broadcastInDim S128x256 ![] bcast_S_S128x256 (constant (F := Ideal) S_ .f32 0x3DCCCCCD#32)) G)
    = fun j => Cert.Adam.mean (G j) (M j) := by
  funext j
  obtain ⟨a, b, rfl⟩ : ∃ (a : Fin 128) (b : Fin 256), j = ix2 a b := ⟨j 0, j 1, eq_ix2 j⟩
  pointwise [Cert.Adam.mean]

theorem square_at : addf (mulf (broadcastInDim S128x256 ![] bcast_S_S128x256 (constant (F := Ideal) S_ .f32 0x3F7FBE77#32)) S) (mulf (broadcastInDim S128x256 ![] bcast_S_S128x256 (constant (F := Ideal) S_ .f32 0x3A83126F#32)) (mulf G G))
    = fun j => Cert.Adam.square (G j) (S j) := by
  funext j
  obtain ⟨a, b, rfl⟩ : ∃ (a : Fin 128) (b : Fin 256), j = ix2 a b := ⟨j 0, j 1, eq_ix2 j⟩
  pointwise [Cert.Adam.square]

theorem delta_at : mulf (broadcastInDim S128x256 ![] bcast_S_S128x256 (constant (F := Ideal) S_ .f32 0xBA83126F#32)) (addf (Host.divf (Host.divf (addf (mulf (broadcastInDim S128x256 ![] bcast_S_S128x256 (constant (F := Ideal) S_ .f32 0x3F666666#32)) M) (mulf (broadcastInDim S128x256 ![] bcast_S_S128x256 (constant (F := Ideal) S_ .f32 0x3DCCCCCD#32)) G)) (broadcastInDim S128x256 ![] bcast_S_S128x256 (constant (F := Ideal) S_ .f32 0x3F26BD02#32))) (addf (Host.sqrt (Host.divf (addf (mulf (broadcastInDim S128x256 ![] bcast_S_S128x256 (constant (F := Ideal) S_ .f32 0x3F7FBE77#32)) S) (mulf (broadcastInDim S128x256 ![] bcast_S_S128x256 (constant (F := Ideal) S_ .f32 0x3A83126F#32)) (mulf G G))) (broadcastInDim S128x256 ![] bcast_S_S128x256 (constant (F := Ideal) S_ .f32 0x3C231ACC#32)))) (broadcastInDim S128x256 ![] bcast_S_S128x256 (constant (F := Ideal) S_ .f32 0x322BCC77#32)))) (mulf (broadcastInDim S128x256 ![] bcast_S_S128x256 (constant (F := Ideal) S_ .f32 0x3C23D70A#32)) W))
    = fun j => Cert.Adam.delta (W j) (G j) (M j) (S j) := by
  funext j
  obtain ⟨a, b, rfl⟩ : ∃ (a : Fin 128) (b : Fin 256), j = ix2 a b := ⟨j 0, j 1, eq_ix2 j⟩
  pointwise [Cert.Adam.delta, Cert.Adam.mean, Cert.Adam.square]

end

end Cert.Reference20Ideal.Hand

namespace Cert.Proof

theorem algebraic20 : Cert.algebraic_Kernel20Ideal_Reference20Ideal := by
  pair_intro
  · exact Cert.Kernel20Ideal.Hand.run m g
  · refine (θ_run _ _ _).mono (fun r h c => ?_) (Cert.Reference20Ideal.Value.run m' g')
    obtain ⟨h0, h1, h2, h3, h4⟩ := h c
    obtain ⟨e0, e1, e2, e3, e4⟩ := hagree c
    rw [Cert.Reference20Ideal.Hand.sum_at] at h0 h1 h2 h3
    rw [e0, e1] at h0 h1 h2 h3
    rw [e2, e3, e4] at h1
    rw [e3] at h2
    rw [e4] at h3
    refine ⟨h0.trans ?_, h1.trans ?_, h2.trans ?_, h3.trans ?_, h4⟩
    · rw [Cert.Kernel20Ideal.Hand.final_sum m c]
      rfl
    · rw [Cert.Kernel20Ideal.Hand.final_delta m c]
      exact Cert.Reference20Ideal.Hand.delta_at _ _ _ _
    · rw [Cert.Kernel20Ideal.Hand.final_mean m c]
      exact Cert.Reference20Ideal.Hand.mean_at _ _
    · rw [Cert.Kernel20Ideal.Hand.final_square m c]
      exact Cert.Reference20Ideal.Hand.square_at _ _

end Cert.Proof

end
-- ==== Proof.lean ====
/- Every claim of the certificate, put together: the kernels' frames, the references' runs, and the equations the
   modules beside this one prove. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Reference15
public import proofs.«01_k».proof.Proof.Gen.Reference15.Run
public import proofs.«01_k».proof.Proof.Gen.Kernel16.Frame
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Kernel20
public import proofs.«01_k».proof.Proof.Gen.Kernel20Ideal
public import proofs.«01_k».proof.Proof.Gen.Reference20Ideal
public import proofs.«01_k».proof.Proof.Gen.Reference20Ideal.Run
public import proofs.«01_k».proof.Proof.NormMem
public import proofs.«01_k».proof.Proof.Mixer
public import proofs.«01_k».proof.Proof.Attn
public import proofs.«01_k».proof.Proof.NormLossRef
public import proofs.«01_k».proof.Proof.Gate
public import proofs.«01_k».proof.Proof.NormFfn
public import proofs.«01_k».proof.Proof.NormQuery
public import proofs.«01_k».proof.Proof.NormIn
public import proofs.«01_k».proof.Proof.AttnForward
public import proofs.«01_k».proof.Proof.MixForward
public import proofs.«01_k».proof.Proof.GateForward
public import proofs.«01_k».proof.Proof.ResidualNorm
public import proofs.«01_k».proof.Proof.NormMix
public import proofs.«01_k».proof.Proof.GateBackward
public import proofs.«01_k».proof.Proof.PairSum
public import proofs.«01_k».proof.Proof.SumLeading
public import proofs.«01_k».proof.Proof.Adam
public import proofs.«01_k».proof.Proof.WeightGrad
public import proofs.«01_k».proof.Proof.NormMemForward
public import proofs.«01_k».proof.Proof.ChipAdam
public import Idealize.ShloMosaic.Adequacy
public import Idealize.ShloMosaic.Init

@[expose] public section

noncomputable section

namespace Cert.Proof

open Idealize.ShloMosaic Idealize.SL.Sem Cert.Kernel

instance test2 : Cert.Pre_pooling_finite.Facts := ⟨by decide, by decide, by decide⟩

instance test3 : Cert.Pre_attention_finite.Facts := ⟨by decide, by decide, by decide⟩

instance test5 : Cert.Pre_silu_finite.Facts := ⟨by decide, by decide, by decide, by decide⟩

instance test10 : Cert.Pre_windows_finite.Facts := ⟨by decide, by decide⟩

theorem reference : Cert.quiescent_ReferenceIdeal := fun m g _ =>
  (θ_run _ _ _).mono (fun r h => ⟨fun c => (h c).2, sem_eq_zero_of_no_sems (by decide) r.2⟩)
    (Cert.ReferenceIdeal.Value.run m g)

theorem reference2 : Cert.quiescent_Reference2Ideal := fun m g _ =>
  (θ_run _ _ _).mono (fun r h => ⟨fun c => (h c).2.2.2.2.2.2, sem_eq_zero_of_no_sems (by decide) r.2⟩)
    (Cert.Reference2Ideal.Value.run m g)

theorem reference3 : Cert.quiescent_Reference3Ideal := fun m g _ =>
  (θ_run _ _ _).mono (fun r h => ⟨fun c => (h c).2.2.2, sem_eq_zero_of_no_sems (by decide) r.2⟩)
    (Cert.Reference3Ideal.Value.run m g)

theorem reference4 : Cert.quiescent_Reference4Ideal := fun m g _ =>
  (θ_run _ _ _).mono (fun r h => ⟨fun c => (h c).2.2.2.2, sem_eq_zero_of_no_sems (by decide) r.2⟩)
    (Cert.Reference4Ideal.Value.run m g)

theorem reference5 : Cert.quiescent_Reference5Ideal := fun m g _ =>
  (θ_run _ _ _).mono (fun r h => ⟨fun c => (h c).2.2, sem_eq_zero_of_no_sems (by decide) r.2⟩)
    (Cert.Reference5Ideal.Value.run m g)

theorem reference6 : Cert.quiescent_Reference6Ideal := fun m g _ =>
  (θ_run _ _ _).mono (fun r h => ⟨fun c => (h c).2.2.2, sem_eq_zero_of_no_sems (by decide) r.2⟩)
    (Cert.Reference6Ideal.Value.run m g)

theorem reference7 : Cert.quiescent_Reference7Ideal := fun m g _ =>
  (θ_run _ _ _).mono (fun r h => ⟨fun c => (h c).2.2.2, sem_eq_zero_of_no_sems (by decide) r.2⟩)
    (Cert.Reference7Ideal.Value.run m g)

theorem reference8 : Cert.quiescent_Reference8Ideal := fun m g _ =>
  (θ_run _ _ _).mono (fun r h => ⟨fun c => (h c).2.2, sem_eq_zero_of_no_sems (by decide) r.2⟩)
    (Cert.Reference8Ideal.Value.run m g)

theorem reference9 : Cert.quiescent_Reference9Ideal := fun m g _ =>
  (θ_run _ _ _).mono (fun r h => ⟨fun c => (h c).2, sem_eq_zero_of_no_sems (by decide) r.2⟩)
    (Cert.Reference9Ideal.Value.run m g)

theorem reference10 : Cert.quiescent_Reference10Ideal := fun m g _ =>
  (θ_run _ _ _).mono (fun r h => ⟨fun c => (h c).2.2.2, sem_eq_zero_of_no_sems (by decide) r.2⟩)
    (Cert.Reference10Ideal.Value.run m g)

theorem reference11 : Cert.quiescent_Reference11Ideal := fun m g _ =>
  (θ_run _ _ _).mono (fun r h => ⟨fun c => (h c).2.2.2, sem_eq_zero_of_no_sems (by decide) r.2⟩)
    (Cert.Reference11Ideal.Value.run m g)

theorem reference12 : Cert.quiescent_Reference12Ideal := fun m g _ =>
  (θ_run _ _ _).mono (fun r h => ⟨fun c => (h c).2.2, sem_eq_zero_of_no_sems (by decide) r.2⟩)
    (Cert.Reference12Ideal.Value.run m g)

theorem reference13 : Cert.quiescent_Reference13Ideal := fun m g _ =>
  (θ_run _ _ _).mono (fun r h => ⟨fun c => (h c).2, sem_eq_zero_of_no_sems (by decide) r.2⟩)
    (Cert.Reference13Ideal.Value.run m g)

theorem reference14 : Cert.quiescent_Reference14Ideal := fun m g _ =>
  (θ_run _ _ _).mono (fun r h => ⟨fun c => (h c).2, sem_eq_zero_of_no_sems (by decide) r.2⟩)
    (Cert.Reference14Ideal.Value.run m g)

theorem reference15 : Cert.quiescent_Reference15Ideal := fun m g _ =>
  (θ_run _ _ _).mono (fun r h => ⟨fun c => (h c).2, sem_eq_zero_of_no_sems (by decide) r.2⟩)
    (Cert.Reference15Ideal.Value.run m g)

theorem reference16 : Cert.quiescent_Reference16Ideal := fun m g _ =>
  (θ_run _ _ _).mono (fun r h => ⟨fun c => (h c).2, sem_eq_zero_of_no_sems (by decide) r.2⟩)
    (Cert.Reference16Ideal.Value.run m g)

theorem reference17 : Cert.quiescent_Reference17Ideal := fun m g _ =>
  (θ_run _ _ _).mono (fun r h => ⟨fun c => (h c).2.2.2, sem_eq_zero_of_no_sems (by decide) r.2⟩)
    (Cert.Reference17Ideal.Value.run m g)

theorem reference18 : Cert.quiescent_Reference18Ideal := fun m g _ =>
  (θ_run _ _ _).mono (fun r h => ⟨fun c => (h c).2, sem_eq_zero_of_no_sems (by decide) r.2⟩)
    (Cert.Reference18Ideal.Value.run m g)

theorem reference19 : Cert.quiescent_Reference19Ideal := fun m g _ =>
  (θ_run _ _ _).mono (fun r h => ⟨fun c => (h c).2, sem_eq_zero_of_no_sems (by decide) r.2⟩)
    (Cert.Reference19Ideal.Value.run m g)

theorem reference20 : Cert.quiescent_Reference20Ideal := fun m g _ =>
  (θ_run _ _ _).mono (fun r h => ⟨fun c => (h c).2.2.2.2, sem_eq_zero_of_no_sems (by decide) r.2⟩)
    (Cert.Reference20Ideal.Value.run m g)

theorem bits15 : Cert.quiescent_Reference15 := fun m g _ =>
  (θ_run _ _ _).mono (fun r h => ⟨fun c => (h c).2, sem_eq_zero_of_no_sems (by decide) r.2⟩)
    (Cert.Reference15.Value.run m g)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Reference15.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, test2, test3, test5, test10,
  fun m ρ _ => Cert.Kernel.Gen.frame m ρ,
  fun m ρ _ => Cert.KernelIdeal.Gen.frame m ρ,
  reference,
  fun m ρ _ => Cert.Kernel2.Gen.frame m ρ,
  fun m ρ _ => Cert.Kernel2Ideal.Gen.frame m ρ,
  fun m ρ _ => Cert.Kernel2Ideal.Gen.frame m ρ,
  reference2,
  fun m ρ _ => reference2 m ρ trivial,
  fun m ρ _ => Cert.Kernel3.Gen.frame m ρ,
  fun m ρ _ => Cert.Kernel3Ideal.Gen.frame m ρ,
  fun m ρ _ => Cert.Kernel3Ideal.Gen.frame m ρ,
  reference3,
  fun m ρ _ => reference3 m ρ trivial,
  fun m ρ _ => Cert.Kernel4.Gen.frame m ρ,
  fun m ρ _ => Cert.Kernel4Ideal.Gen.frame m ρ,
  reference4,
  fun m ρ _ => Cert.Kernel5.Gen.frame m ρ,
  fun m ρ _ => Cert.Kernel5Ideal.Gen.frame m ρ,
  fun m ρ _ => Cert.Kernel5Ideal.Gen.frame m ρ,
  reference5,
  fun m ρ _ => reference5 m ρ trivial,
  fun m ρ _ => Cert.Kernel6.Gen.frame m ρ,
  fun m ρ _ => Cert.Kernel6Ideal.Gen.frame m ρ,
  reference6,
  fun m ρ _ => Cert.Kernel7.Gen.frame m ρ,
  fun m ρ _ => Cert.Kernel7Ideal.Gen.frame m ρ,
  reference7,
  fun m ρ _ => Cert.Kernel8.Gen.frame m ρ,
  fun m ρ _ => Cert.Kernel8Ideal.Gen.frame m ρ,
  reference8,
  fun m ρ _ => Cert.Kernel9.Gen.frame m ρ,
  fun m ρ _ => Cert.Kernel9Ideal.Gen.frame m ρ,
  reference9,
  fun m ρ _ => Cert.Kernel10.Gen.frame m ρ,
  fun m ρ _ => Cert.Kernel10Ideal.Gen.frame m ρ,
  fun m ρ _ => Cert.Kernel10Ideal.Gen.frame m ρ,
  reference10,
  fun m ρ _ => reference10 m ρ trivial,
  fun m ρ _ => Cert.Kernel11.Gen.frame m ρ,
  fun m ρ _ => Cert.Kernel11Ideal.Gen.frame m ρ,
  reference11,
  fun m ρ _ => Cert.Kernel12.Gen.frame m ρ,
  fun m ρ _ => Cert.Kernel12Ideal.Gen.frame m ρ,
  reference12,
  fun m ρ _ => Cert.Kernel13.Gen.frame m ρ,
  fun m ρ _ => Cert.Kernel13Ideal.Gen.frame m ρ,
  reference13,
  fun m ρ _ => Cert.Kernel14.Gen.frame m ρ,
  fun m ρ _ => Cert.Kernel14Ideal.Gen.frame m ρ,
  reference14,
  fun m ρ _ => Cert.Kernel15.Gen.frame m ρ (Cert.Kernel15.Hand.ok m),
  fun m ρ _ => Cert.Kernel15Ideal.Gen.frame m ρ (Cert.Kernel15Ideal.Hand.ok m),
  reference15,
  bits15,
  fun m ρ _ => Cert.Kernel16.Gen.frame m ρ,
  fun m ρ _ => Cert.Kernel16Ideal.Gen.frame m ρ,
  reference16,
  fun m ρ _ => Cert.Kernel17.Gen.frame m ρ,
  fun m ρ _ => Cert.Kernel17Ideal.Gen.frame m ρ,
  reference17,
  fun m ρ _ => Cert.Kernel18.Gen.frame m ρ,
  fun m ρ _ => Cert.Kernel18Ideal.Gen.frame m ρ,
  reference18,
  fun m ρ _ => Cert.Kernel19.Gen.frame m ρ,
  fun m ρ _ => Cert.Kernel19Ideal.Gen.frame m ρ,
  reference19,
  fun m ρ _ => Cert.Kernel20.Hand.quiet m ρ,
  fun m ρ _ => Cert.Kernel20Ideal.Hand.quiet m ρ,
  reference20,
  trivial, algebraic1, trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14, trivial, bitexact15, algebraic15, trivial, algebraic16, trivial, algebraic17, trivial, algebraic18, trivial, algebraic19, trivial, algebraic20⟩

end Cert.Proof

end
